-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_finite [hPre_attn_finite : Cert.Pre_attn_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2.1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2.2.1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_ln_finite [hPre_ln_finite : Cert.Pre_ln_finite.Facts] (m : (ℓ : Loc Cert.NormIdeal.nD Cert.NormIdeal.τ Cert.NormIdeal.sig) → Buf (Elt Ideal) ℓ) : Prop :=
  ∀ c : Dev Cert.NormIdeal.nD,
    (Cert.Pre_ln_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).1 = (fun _ => 1#1)
    ∧ (Cert.Pre_ln_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).2.1 = (fun _ => 1#1)
    ∧ (Cert.Pre_ln_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).2.2.1 = (fun _ => 1#1)
    ∧ (Cert.Pre_ln_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).2.2.2.1 = (fun _ => 1#1)
    ∧ (Cert.Pre_ln_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).2.2.2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_ln_finite [hPre_ln_finite : Cert.Pre_ln_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_ln_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).1 = (fun _ => 1#1)
    ∧ (Cert.Pre_ln_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.1 = (fun _ => 1#1)
    ∧ (Cert.Pre_ln_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.2.1 = (fun _ => 1#1)
    ∧ (Cert.Pre_ln_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.2.2.1 = (fun _ => 1#1)
    ∧ (Cert.Pre_ln_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.2.2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_fwd_finite [hPre_fwd_finite : Cert.Pre_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 = (fun _ => 1#1)
    ∧ (Cert.Pre_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2.1 = (fun _ => 1#1)
    ∧ (Cert.Pre_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_fwd_finite [hPre_fwd_finite : Cert.Pre_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).1 = (fun _ => 1#1)
    ∧ (Cert.Pre_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2.1 = (fun _ => 1#1)
    ∧ (Cert.Pre_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2.2 = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_prep_finite [hPre_prep_finite : Cert.Pre_prep_finite.Facts] (m : (ℓ : Loc Cert.PrepIdeal.nD Cert.PrepIdeal.τ Cert.PrepIdeal.sig) → Buf (Elt Ideal) ℓ) : Prop :=
  ∀ c : Dev Cert.PrepIdeal.nD,
    (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).1 = (fun _ => 1#1)
    ∧ (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.1 = (fun _ => 1#1)
    ∧ (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.2.1 = (fun _ => 1#1)
    ∧ (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.2.2.1 = (fun _ => 1#1)
    ∧ (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.2.2.2 = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_prep_finite [hPre_prep_finite : Cert.Pre_prep_finite.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))).1 = (fun _ => 1#1)
    ∧ (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))).2.1 = (fun _ => 1#1)
    ∧ (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))).2.2.1 = (fun _ => 1#1)
    ∧ (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))).2.2.2.1 = (fun _ => 1#1)
    ∧ (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))).2.2.2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def Pre_DeltaRefIdeal (m : (ℓ : Loc Cert.DeltaRefIdeal.nD Cert.DeltaRefIdeal.τ Cert.DeltaRefIdeal.sig) → Buf (Elt Ideal) ℓ) : Prop :=
  True

def Pre_Dims (m : (ℓ : Loc Cert.Dims.nD Cert.Dims.τ Cert.Dims.sig) → Buf (Elt Bits) ℓ) : Prop :=
  True

def Pre_DimsIdeal (m : (ℓ : Loc Cert.DimsIdeal.nD Cert.DimsIdeal.τ Cert.DimsIdeal.sig) → Buf (Elt Ideal) ℓ) : Prop :=
  True

def Pre_DimsRefIdeal (m : (ℓ : Loc Cert.DimsRefIdeal.nD Cert.DimsRefIdeal.τ Cert.DimsRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_attn_finite [hAttnBwdRefIdeal : Cert.AttnBwdRefIdeal.Facts] [hPre_attn_finite : Cert.Pre_attn_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormIdeal_pre_ln_finite [hNormIdeal : Cert.NormIdeal.Facts] [hPre_ln_finite : Cert.Pre_ln_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_ln_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_NormRefIdeal_pre_ln_finite [hNormRefIdeal : Cert.NormRefIdeal.Facts] [hPre_ln_finite : Cert.Pre_ln_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_ln_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_fwd_finite [hAttnFwdIdeal : Cert.AttnFwdIdeal.Facts] [hPre_fwd_finite : Cert.Pre_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_fwd_finite [hAttnFwdRefIdeal : Cert.AttnFwdRefIdeal.Facts] [hPre_fwd_finite : Cert.Pre_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ r.2.sem = fun _ => 0)

def quiescent_PrepIdeal_pre_prep_finite [hPrepIdeal : Cert.PrepIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_prep_finite m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9))
      ∧ r.2.sem = fun _ => 0)

def quiescent_PrepRefIdeal_pre_prep_finite [hPrepRefIdeal : Cert.PrepRefIdeal.Facts] [hPre_prep_finite : Cert.Pre_prep_finite.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_prep_finite m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6)
      ∧ r.2.mem ((c.tc : Thread Cert.Gate.nD Cert.Gate.τ).loc Cert.Gate.main_arg7) = m ((c.tc : Thread Cert.Gate.nD Cert.Gate.τ).loc Cert.Gate.main_arg7))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
      ∧ r.2.mem ((c.tc : Thread Cert.GateIdeal.nD Cert.GateIdeal.τ).loc Cert.GateIdeal.main_arg7) = m ((c.tc : Thread Cert.GateIdeal.nD Cert.GateIdeal.τ).loc Cert.GateIdeal.main_arg7))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6)
      ∧ r.2.mem ((c.tc : Thread Cert.GateRefIdeal.nD Cert.GateRefIdeal.τ).loc Cert.GateRefIdeal.main_arg7) = m ((c.tc : Thread Cert.GateRefIdeal.nD Cert.GateRefIdeal.τ).loc Cert.GateRefIdeal.main_arg7))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1))
      ∧ r.2.sem = fun _ => 0)

def quiescent_DeltaRefIdeal [hDeltaRefIdeal : Cert.DeltaRefIdeal.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1))
      ∧ r.2.sem = fun _ => 0)

def quiescent_Dims [hDims : Cert.Dims.Facts] : Prop :=
  ∀ (m : (ℓ : Loc Cert.Dims.nD Cert.Dims.τ Cert.Dims.sig) → Buf (Elt Bits) ℓ) (g : Dev Cert.Dims.nD → PrngReg), Pre_Dims m →
    θ_run (Cert.Dims.defs (F := Bits)) (onTc (τ := Cert.Dims.τ) (Cert.Dims.main (F := Bits))) ⟨m, fun _ => 0, g⟩ (fun r => (∀ c : Dev Cert.Dims.nD,
      r.2.mem ((c.tc : Thread Cert.Dims.nD Cert.Dims.τ).loc Cert.Dims.main_arg0) = m ((c.tc : Thread Cert.Dims.nD Cert.Dims.τ).loc Cert.Dims.main_arg0)
      ∧ r.2.mem ((c.tc : Thread Cert.Dims.nD Cert.Dims.τ).loc Cert.Dims.main_arg1) = m ((c.tc : Thread Cert.Dims.nD Cert.Dims.τ).loc Cert.Dims.main_arg1))
      ∧ r.2.sem = fun _ => 0)

def quiescent_DimsIdeal [hDimsIdeal : Cert.DimsIdeal.Facts] : Prop :=
  ∀ (m : (ℓ : Loc Cert.DimsIdeal.nD Cert.DimsIdeal.τ Cert.DimsIdeal.sig) → Buf (Elt Ideal) ℓ) (g : Dev Cert.DimsIdeal.nD → PrngReg), Pre_DimsIdeal m →
    θ_run (Cert.DimsIdeal.defs (F := Ideal)) (onTc (τ := Cert.DimsIdeal.τ) (Cert.DimsIdeal.main (F := Ideal))) ⟨m, fun _ => 0, g⟩ (fun r => (∀ c : Dev Cert.DimsIdeal.nD,
      r.2.mem ((c.tc : Thread Cert.DimsIdeal.nD Cert.DimsIdeal.τ).loc Cert.DimsIdeal.main_arg0) = m ((c.tc : Thread Cert.DimsIdeal.nD Cert.DimsIdeal.τ).loc Cert.DimsIdeal.main_arg0)
      ∧ r.2.mem ((c.tc : Thread Cert.DimsIdeal.nD Cert.DimsIdeal.τ).loc Cert.DimsIdeal.main_arg1) = m ((c.tc : Thread Cert.DimsIdeal.nD Cert.DimsIdeal.τ).loc Cert.DimsIdeal.main_arg1))
      ∧ r.2.sem = fun _ => 0)

def quiescent_DimsRefIdeal [hDimsRefIdeal : Cert.DimsRefIdeal.Facts] : Prop :=
  ∀ (m : (ℓ : Loc Cert.DimsRefIdeal.nD Cert.DimsRefIdeal.τ Cert.DimsRefIdeal.sig) → Buf (Elt Ideal) ℓ) (g : Dev Cert.DimsRefIdeal.nD → PrngReg), Pre_DimsRefIdeal m →
    θ_run (Cert.DimsRefIdeal.defs (F := Ideal)) (onTc (τ := Cert.DimsRefIdeal.τ) (Cert.DimsRefIdeal.main (F := Ideal))) ⟨m, fun _ => 0, g⟩ (fun r => (∀ c : Dev Cert.DimsRefIdeal.nD,
      r.2.mem ((c.tc : Thread Cert.DimsRefIdeal.nD Cert.DimsRefIdeal.τ).loc Cert.DimsRefIdeal.main_arg0) = m ((c.tc : Thread Cert.DimsRefIdeal.nD Cert.DimsRefIdeal.τ).loc Cert.DimsRefIdeal.main_arg0)
      ∧ r.2.mem ((c.tc : Thread Cert.DimsRefIdeal.nD Cert.DimsRefIdeal.τ).loc Cert.DimsRefIdeal.main_arg1) = m ((c.tc : Thread Cert.DimsRefIdeal.nD Cert.DimsRefIdeal.τ).loc Cert.DimsRefIdeal.main_arg1))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v2)) (v1 : (c : Dev Cert.LossIdeal.nD) → Buf (Elt Ideal) ((c.tc : Thread Cert.LossIdeal.nD Cert.LossIdeal.τ).loc Cert.LossIdeal.main_v0_0)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2) = v0 c
          ∧ r.2.mem ((c.tc : Thread Cert.LossIdeal.nD Cert.LossIdeal.τ).loc Cert.LossIdeal.main_v0_0) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v8) = v0 c
          ∧ r.2.mem ((c.tc : Thread Cert.LossRefIdeal.nD Cert.LossRefIdeal.τ).loc Cert.LossRefIdeal.main_v14) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_AttnBwd_AttnBwdIdeal : Prop :=
  True

def algebraic_AttnBwdIdeal_AttnBwdRefIdeal_pre_attn_finite [hAttnBwdIdeal : Cert.AttnBwdIdeal.Facts] [hAttnBwdRefIdeal : Cert.AttnBwdRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v40)) (v1 : (c : Dev Cert.AttnBwdIdeal.nD) → Buf (Elt Ideal) ((c.tc : Thread Cert.AttnBwdIdeal.nD Cert.AttnBwdIdeal.τ).loc Cert.AttnBwdIdeal.main_v46)) (v2 : (c : Dev Cert.AttnBwdIdeal.nD) → Buf (Elt Ideal) ((c.tc : Thread Cert.AttnBwdIdeal.nD Cert.AttnBwdIdeal.τ).loc Cert.AttnBwdIdeal.main_v52)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v40) = v0 c
          ∧ r.2.mem ((c.tc : Thread Cert.AttnBwdIdeal.nD Cert.AttnBwdIdeal.τ).loc Cert.AttnBwdIdeal.main_v46) = v1 c
          ∧ r.2.mem ((c.tc : Thread Cert.AttnBwdIdeal.nD Cert.AttnBwdIdeal.τ).loc Cert.AttnBwdIdeal.main_v52) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v61) = v0 c
          ∧ r.2.mem ((c.tc : Thread Cert.AttnBwdRefIdeal.nD Cert.AttnBwdRefIdeal.τ).loc Cert.AttnBwdRefIdeal.main_v62) = v1 c
          ∧ r.2.mem ((c.tc : Thread Cert.AttnBwdRefIdeal.nD Cert.AttnBwdRefIdeal.τ).loc Cert.AttnBwdRefIdeal.main_v63) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v6_0)) (v1 : (c : Dev Cert.MergeIdeal.nD) → Buf (Elt Ideal) ((c.tc : Thread Cert.MergeIdeal.nD Cert.MergeIdeal.τ).loc Cert.MergeIdeal.main_v6_1)) (v2 : (c : Dev Cert.MergeIdeal.nD) → Buf (Elt Ideal) ((c.tc : Thread Cert.MergeIdeal.nD Cert.MergeIdeal.τ).loc Cert.MergeIdeal.main_v6_2)) (v3 : (c : Dev Cert.MergeIdeal.nD) → Buf (Elt Ideal) ((c.tc : Thread Cert.MergeIdeal.nD Cert.MergeIdeal.τ).loc Cert.MergeIdeal.main_v6_3)) (v4 : (c : Dev Cert.MergeIdeal.nD) → Buf (Elt Ideal) ((c.tc : Thread Cert.MergeIdeal.nD Cert.MergeIdeal.τ).loc Cert.MergeIdeal.main_v6_4)) (v5 : (c : Dev Cert.MergeIdeal.nD) → Buf (Elt Ideal) ((c.tc : Thread Cert.MergeIdeal.nD Cert.MergeIdeal.τ).loc Cert.MergeIdeal.main_v6_5)) (v6 : (c : Dev Cert.MergeIdeal.nD) → Buf (Elt Ideal) ((c.tc : Thread Cert.MergeIdeal.nD Cert.MergeIdeal.τ).loc Cert.MergeIdeal.main_v6_6)) (v7 : (c : Dev Cert.MergeIdeal.nD) → Buf (Elt Ideal) ((c.tc : Thread Cert.MergeIdeal.nD Cert.MergeIdeal.τ).loc Cert.MergeIdeal.main_v6_7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6_0) = v0 c
          ∧ r.2.mem ((c.tc : Thread Cert.MergeIdeal.nD Cert.MergeIdeal.τ).loc Cert.MergeIdeal.main_v6_1) = v1 c
          ∧ r.2.mem ((c.tc : Thread Cert.MergeIdeal.nD Cert.MergeIdeal.τ).loc Cert.MergeIdeal.main_v6_2) = v2 c
          ∧ r.2.mem ((c.tc : Thread Cert.MergeIdeal.nD Cert.MergeIdeal.τ).loc Cert.MergeIdeal.main_v6_3) = v3 c
          ∧ r.2.mem ((c.tc : Thread Cert.MergeIdeal.nD Cert.MergeIdeal.τ).loc Cert.MergeIdeal.main_v6_4) = v4 c
          ∧ r.2.mem ((c.tc : Thread Cert.MergeIdeal.nD Cert.MergeIdeal.τ).loc Cert.MergeIdeal.main_v6_5) = v5 c
          ∧ r.2.mem ((c.tc : Thread Cert.MergeIdeal.nD Cert.MergeIdeal.τ).loc Cert.MergeIdeal.main_v6_6) = v6 c
          ∧ r.2.mem ((c.tc : Thread Cert.MergeIdeal.nD Cert.MergeIdeal.τ).loc Cert.MergeIdeal.main_v6_7) = v7 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v49) = v0 c
          ∧ r.2.mem ((c.tc : Thread Cert.MergeRefIdeal.nD Cert.MergeRefIdeal.τ).loc Cert.MergeRefIdeal.main_v50) = v1 c
          ∧ r.2.mem ((c.tc : Thread Cert.MergeRefIdeal.nD Cert.MergeRefIdeal.τ).loc Cert.MergeRefIdeal.main_v51) = v2 c
          ∧ r.2.mem ((c.tc : Thread Cert.MergeRefIdeal.nD Cert.MergeRefIdeal.τ).loc Cert.MergeRefIdeal.main_v52) = v3 c
          ∧ r.2.mem ((c.tc : Thread Cert.MergeRefIdeal.nD Cert.MergeRefIdeal.τ).loc Cert.MergeRefIdeal.main_v53) = v4 c
          ∧ r.2.mem ((c.tc : Thread Cert.MergeRefIdeal.nD Cert.MergeRefIdeal.τ).loc Cert.MergeRefIdeal.main_v54) = v5 c
          ∧ r.2.mem ((c.tc : Thread Cert.MergeRefIdeal.nD Cert.MergeRefIdeal.τ).loc Cert.MergeRefIdeal.main_v55) = v6 c
          ∧ r.2.mem ((c.tc : Thread Cert.MergeRefIdeal.nD Cert.MergeRefIdeal.τ).loc Cert.MergeRefIdeal.main_v45) = v7 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v2_0)) (v1 : (c : Dev Cert.ActIdeal.nD) → Buf (Elt Ideal) ((c.tc : Thread Cert.ActIdeal.nD Cert.ActIdeal.τ).loc Cert.ActIdeal.main_v5)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v2_0) = v0 c
          ∧ r.2.mem ((c.tc : Thread Cert.ActIdeal.nD Cert.ActIdeal.τ).loc Cert.ActIdeal.main_v5) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v16) = v0 c
          ∧ r.2.mem ((c.tc : Thread Cert.ActRefIdeal.nD Cert.ActRefIdeal.τ).loc Cert.ActRefIdeal.main_v17) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_Norm_NormIdeal : Prop :=
  True

def algebraic_NormIdeal_NormRefIdeal_pre_ln_finite [hNormIdeal : Cert.NormIdeal.Facts] [hNormRefIdeal : Cert.NormRefIdeal.Facts] [hPre_ln_finite : Cert.Pre_ln_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_ln_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)) (v2 : (c : Dev Cert.NormIdeal.nD) → Buf (Elt Ideal) ((c.tc : Thread Cert.NormIdeal.nD Cert.NormIdeal.τ).loc Cert.NormIdeal.main_v3_0)) (v3 : (c : Dev Cert.NormIdeal.nD) → Buf (Elt Ideal) ((c.tc : Thread Cert.NormIdeal.nD Cert.NormIdeal.τ).loc Cert.NormIdeal.main_v3_1)) (v4 : (c : Dev Cert.NormIdeal.nD) → Buf (Elt Ideal) ((c.tc : Thread Cert.NormIdeal.nD Cert.NormIdeal.τ).loc Cert.NormIdeal.main_v3_2)) (v5 : (c : Dev Cert.NormIdeal.nD) → Buf (Elt Ideal) ((c.tc : Thread Cert.NormIdeal.nD Cert.NormIdeal.τ).loc Cert.NormIdeal.main_v3_3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_v3_0) = v2 c
          ∧ r.2.mem ((c.tc : Thread Cert.NormIdeal.nD Cert.NormIdeal.τ).loc Cert.NormIdeal.main_v3_1) = v3 c
          ∧ r.2.mem ((c.tc : Thread Cert.NormIdeal.nD Cert.NormIdeal.τ).loc Cert.NormIdeal.main_v3_2) = v4 c
          ∧ r.2.mem ((c.tc : Thread Cert.NormIdeal.nD Cert.NormIdeal.τ).loc Cert.NormIdeal.main_v3_3) = v5 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v30) = v0 c
          ∧ r.2.mem ((c.tc : Thread Cert.NormRefIdeal.nD Cert.NormRefIdeal.τ).loc Cert.NormRefIdeal.main_v63) = v1 c
          ∧ r.2.mem ((c.tc : Thread Cert.NormRefIdeal.nD Cert.NormRefIdeal.τ).loc Cert.NormRefIdeal.main_v62) = v2 c
          ∧ r.2.mem ((c.tc : Thread Cert.NormRefIdeal.nD Cert.NormRefIdeal.τ).loc Cert.NormRefIdeal.main_v64) = v3 c
          ∧ r.2.mem ((c.tc : Thread Cert.NormRefIdeal.nD Cert.NormRefIdeal.τ).loc Cert.NormRefIdeal.main_v36) = v4 c
          ∧ r.2.mem ((c.tc : Thread Cert.NormRefIdeal.nD Cert.NormRefIdeal.τ).loc Cert.NormRefIdeal.main_v33) = v5 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5))

def preserves_AttnFwd_AttnFwdIdeal : Prop :=
  True

def algebraic_AttnFwdIdeal_AttnFwdRefIdeal_pre_fwd_finite [hAttnFwdIdeal : Cert.AttnFwdIdeal.Facts] [hAttnFwdRefIdeal : Cert.AttnFwdRefIdeal.Facts] [hPre_fwd_finite : Cert.Pre_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v13)) (v1 : (c : Dev Cert.AttnFwdIdeal.nD) → Buf (Elt Ideal) ((c.tc : Thread Cert.AttnFwdIdeal.nD Cert.AttnFwdIdeal.τ).loc Cert.AttnFwdIdeal.main_v11_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v13) = v0 c
          ∧ r.2.mem ((c.tc : Thread Cert.AttnFwdIdeal.nD Cert.AttnFwdIdeal.τ).loc Cert.AttnFwdIdeal.main_v11_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v32) = v0 c
          ∧ r.2.mem ((c.tc : Thread Cert.AttnFwdRefIdeal.nD Cert.AttnFwdRefIdeal.τ).loc Cert.AttnFwdRefIdeal.main_v33) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_Prep_PrepIdeal : Prop :=
  True

def algebraic_PrepIdeal_PrepRefIdeal_pre_prep_finite [hPrepIdeal : Cert.PrepIdeal.Facts] [hPrepRefIdeal : Cert.PrepRefIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_prep_finite m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)) →
    ∃ (v0 : (c : Dev Cert.PrepIdeal.nD) → Buf (Elt Ideal) ((c.tc : Thread Cert.PrepIdeal.nD Cert.PrepIdeal.τ).loc Cert.PrepIdeal.main_v91_0)) (v1 : (c : Dev Cert.PrepIdeal.nD) → Buf (Elt Ideal) ((c.tc : Thread Cert.PrepIdeal.nD Cert.PrepIdeal.τ).loc Cert.PrepIdeal.main_v93)) (v2 : (c : Dev Cert.PrepIdeal.nD) → Buf (Elt Ideal) ((c.tc : Thread Cert.PrepIdeal.nD Cert.PrepIdeal.τ).loc Cert.PrepIdeal.main_v95)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v91_0) = v0 c
          ∧ r.2.mem ((c.tc : Thread Cert.PrepIdeal.nD Cert.PrepIdeal.τ).loc Cert.PrepIdeal.main_v93) = v1 c
          ∧ r.2.mem ((c.tc : Thread Cert.PrepIdeal.nD Cert.PrepIdeal.τ).loc Cert.PrepIdeal.main_v95) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v420) = v0 c
          ∧ r.2.mem ((c.tc : Thread Cert.PrepRefIdeal.nD Cert.PrepRefIdeal.τ).loc Cert.PrepRefIdeal.main_v357) = v1 c
          ∧ r.2.mem ((c.tc : Thread Cert.PrepRefIdeal.nD Cert.PrepRefIdeal.τ).loc Cert.PrepRefIdeal.main_v298) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)
      ∧ m' ((c.tc : Thread Cert.GateRefIdeal.nD Cert.GateRefIdeal.τ).loc Cert.GateRefIdeal.main_arg6) = m ((c.tc : Thread Cert.GateIdeal.nD Cert.GateIdeal.τ).loc Cert.GateIdeal.main_arg6)
      ∧ m' ((c.tc : Thread Cert.GateRefIdeal.nD Cert.GateRefIdeal.τ).loc Cert.GateRefIdeal.main_arg7) = m ((c.tc : Thread Cert.GateIdeal.nD Cert.GateIdeal.τ).loc Cert.GateIdeal.main_arg7)) →
    ∃ (v0 : (c : Dev Cert.GateIdeal.nD) → Buf (Elt Ideal) ((c.tc : Thread Cert.GateIdeal.nD Cert.GateIdeal.τ).loc Cert.GateIdeal.main_v6)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v6) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
          ∧ r.2.mem ((c.tc : Thread Cert.GateIdeal.nD Cert.GateIdeal.τ).loc Cert.GateIdeal.main_arg7) = m ((c.tc : Thread Cert.GateIdeal.nD Cert.GateIdeal.τ).loc Cert.GateIdeal.main_arg7))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v23) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5)
          ∧ r.2.mem ((c.tc : Thread Cert.GateRefIdeal.nD Cert.GateRefIdeal.τ).loc Cert.GateRefIdeal.main_arg6) = m' ((c.tc : Thread Cert.GateRefIdeal.nD Cert.GateRefIdeal.τ).loc Cert.GateRefIdeal.main_arg6)
          ∧ r.2.mem ((c.tc : Thread Cert.GateRefIdeal.nD Cert.GateRefIdeal.τ).loc Cert.GateRefIdeal.main_arg7) = m' ((c.tc : Thread Cert.GateRefIdeal.nD Cert.GateRefIdeal.τ).loc Cert.GateRefIdeal.main_arg7))

def preserves_Delta_DeltaIdeal : Prop :=
  True

def algebraic_DeltaIdeal_DeltaRefIdeal [hDeltaIdeal : Cert.DeltaIdeal.Facts] [hDeltaRefIdeal : Cert.DeltaRefIdeal.Facts] : Prop :=
  ∀ (m : (ℓ : Loc Cert.DeltaIdeal.nD Cert.DeltaIdeal.τ Cert.DeltaIdeal.sig) → Buf (Elt Ideal) ℓ) (g : Dev Cert.DeltaIdeal.nD → PrngReg)
    (m' : (ℓ : Loc Cert.DeltaRefIdeal.nD Cert.DeltaRefIdeal.τ Cert.DeltaRefIdeal.sig) → Buf (Elt Ideal) ℓ) (g' : Dev Cert.DeltaRefIdeal.nD → PrngReg), Pre_DeltaIdeal m →
    (∀ c : Dev Cert.DeltaIdeal.nD,
      m' ((c.tc : Thread Cert.DeltaRefIdeal.nD Cert.DeltaRefIdeal.τ).loc Cert.DeltaRefIdeal.main_arg0) = m ((c.tc : Thread Cert.DeltaIdeal.nD Cert.DeltaIdeal.τ).loc Cert.DeltaIdeal.main_arg0)
      ∧ m' ((c.tc : Thread Cert.DeltaRefIdeal.nD Cert.DeltaRefIdeal.τ).loc Cert.DeltaRefIdeal.main_arg1) = m ((c.tc : Thread Cert.DeltaIdeal.nD Cert.DeltaIdeal.τ).loc Cert.DeltaIdeal.main_arg1)) →
    ∃ (v0 : (c : Dev Cert.DeltaIdeal.nD) → Buf (Elt Ideal) ((c.tc : Thread Cert.DeltaIdeal.nD Cert.DeltaIdeal.τ).loc Cert.DeltaIdeal.main_v6)),
      θ_run (Cert.DeltaIdeal.defs (F := Ideal)) (onTc (τ := Cert.DeltaIdeal.τ) (Cert.DeltaIdeal.main (F := Ideal))) ⟨m, fun _ => 0, g⟩ (fun r => ∀ c : Dev Cert.DeltaIdeal.nD,
          r.2.mem ((c.tc : Thread Cert.DeltaIdeal.nD Cert.DeltaIdeal.τ).loc Cert.DeltaIdeal.main_v6) = v0 c
          ∧ r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
          ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1))
      ∧ θ_run (Cert.DeltaRefIdeal.defs (F := Ideal)) (onTc (τ := Cert.DeltaRefIdeal.τ) (Cert.DeltaRefIdeal.main (F := Ideal))) ⟨m', fun _ => 0, g'⟩ (fun r => ∀ c : Dev Cert.DeltaRefIdeal.nD,
          r.2.mem ((c.tc : Thread Cert.DeltaRefIdeal.nD Cert.DeltaRefIdeal.τ).loc Cert.DeltaRefIdeal.main_v4) = v0 c
          ∧ r.2.mem ((c.tc : Thread Cert.DeltaRefIdeal.nD Cert.DeltaRefIdeal.τ).loc Cert.DeltaRefIdeal.main_arg0) = m' ((c.tc : Thread Cert.DeltaRefIdeal.nD Cert.DeltaRefIdeal.τ).loc Cert.DeltaRefIdeal.main_arg0)
          ∧ r.2.mem ((c.tc : Thread Cert.DeltaRefIdeal.nD Cert.DeltaRefIdeal.τ).loc Cert.DeltaRefIdeal.main_arg1) = m' ((c.tc : Thread Cert.DeltaRefIdeal.nD Cert.DeltaRefIdeal.τ).loc Cert.DeltaRefIdeal.main_arg1))

def preserves_Dims_DimsIdeal : Prop :=
  True

def algebraic_DimsIdeal_DimsRefIdeal [hDimsIdeal : Cert.DimsIdeal.Facts] [hDimsRefIdeal : Cert.DimsRefIdeal.Facts] : Prop :=
  ∀ (m : (ℓ : Loc Cert.DimsIdeal.nD Cert.DimsIdeal.τ Cert.DimsIdeal.sig) → Buf (Elt Ideal) ℓ) (g : Dev Cert.DimsIdeal.nD → PrngReg)
    (m' : (ℓ : Loc Cert.DimsRefIdeal.nD Cert.DimsRefIdeal.τ Cert.DimsRefIdeal.sig) → Buf (Elt Ideal) ℓ) (g' : Dev Cert.DimsRefIdeal.nD → PrngReg), Pre_DimsIdeal m →
    (∀ c : Dev Cert.DimsIdeal.nD,
      m' ((c.tc : Thread Cert.DimsRefIdeal.nD Cert.DimsRefIdeal.τ).loc Cert.DimsRefIdeal.main_arg0) = m ((c.tc : Thread Cert.DimsIdeal.nD Cert.DimsIdeal.τ).loc Cert.DimsIdeal.main_arg0)
      ∧ m' ((c.tc : Thread Cert.DimsRefIdeal.nD Cert.DimsRefIdeal.τ).loc Cert.DimsRefIdeal.main_arg1) = m ((c.tc : Thread Cert.DimsIdeal.nD Cert.DimsIdeal.τ).loc Cert.DimsIdeal.main_arg1)) →
    ∃ (v0 : (c : Dev Cert.DimsIdeal.nD) → Buf (Elt Ideal) ((c.tc : Thread Cert.DimsIdeal.nD Cert.DimsIdeal.τ).loc Cert.DimsIdeal.main_v6)),
      θ_run (Cert.DimsIdeal.defs (F := Ideal)) (onTc (τ := Cert.DimsIdeal.τ) (Cert.DimsIdeal.main (F := Ideal))) ⟨m, fun _ => 0, g⟩ (fun r => ∀ c : Dev Cert.DimsIdeal.nD,
          r.2.mem ((c.tc : Thread Cert.DimsIdeal.nD Cert.DimsIdeal.τ).loc Cert.DimsIdeal.main_v6) = v0 c
          ∧ r.2.mem ((c.tc : Thread Cert.DimsIdeal.nD Cert.DimsIdeal.τ).loc Cert.DimsIdeal.main_arg0) = m ((c.tc : Thread Cert.DimsIdeal.nD Cert.DimsIdeal.τ).loc Cert.DimsIdeal.main_arg0)
          ∧ r.2.mem ((c.tc : Thread Cert.DimsIdeal.nD Cert.DimsIdeal.τ).loc Cert.DimsIdeal.main_arg1) = m ((c.tc : Thread Cert.DimsIdeal.nD Cert.DimsIdeal.τ).loc Cert.DimsIdeal.main_arg1))
      ∧ θ_run (Cert.DimsRefIdeal.defs (F := Ideal)) (onTc (τ := Cert.DimsRefIdeal.τ) (Cert.DimsRefIdeal.main (F := Ideal))) ⟨m', fun _ => 0, g'⟩ (fun r => ∀ c : Dev Cert.DimsRefIdeal.nD,
          r.2.mem ((c.tc : Thread Cert.DimsRefIdeal.nD Cert.DimsRefIdeal.τ).loc Cert.DimsRefIdeal.main_v4) = v0 c
          ∧ r.2.mem ((c.tc : Thread Cert.DimsRefIdeal.nD Cert.DimsRefIdeal.τ).loc Cert.DimsRefIdeal.main_arg0) = m' ((c.tc : Thread Cert.DimsRefIdeal.nD Cert.DimsRefIdeal.τ).loc Cert.DimsRefIdeal.main_arg0)
          ∧ r.2.mem ((c.tc : Thread Cert.DimsRefIdeal.nD Cert.DimsRefIdeal.τ).loc Cert.DimsRefIdeal.main_arg1) = m' ((c.tc : Thread Cert.DimsRefIdeal.nD Cert.DimsRefIdeal.τ).loc Cert.DimsRefIdeal.main_arg1))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)) →
    ∃ (v0 : (c : Dev Cert.StepIdeal.nD) → Buf (Elt Ideal) ((c.tc : Thread Cert.StepIdeal.nD Cert.StepIdeal.τ).loc Cert.StepIdeal.main_v0_0)) (v1 : (c : Dev Cert.StepIdeal.nD) → Buf (Elt Ideal) ((c.tc : Thread Cert.StepIdeal.nD Cert.StepIdeal.τ).loc Cert.StepIdeal.main_v0_1)) (v2 : (c : Dev Cert.StepIdeal.nD) → Buf (Elt Ideal) ((c.tc : Thread Cert.StepIdeal.nD Cert.StepIdeal.τ).loc Cert.StepIdeal.main_v0_2)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v0_0) = v0 c
          ∧ r.2.mem ((c.tc : Thread Cert.StepIdeal.nD Cert.StepIdeal.τ).loc Cert.StepIdeal.main_v0_1) = v1 c
          ∧ r.2.mem ((c.tc : Thread Cert.StepIdeal.nD Cert.StepIdeal.τ).loc Cert.StepIdeal.main_v0_2) = v2 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v23) = v0 c
          ∧ r.2.mem ((c.tc : Thread Cert.StepRefIdeal.nD Cert.StepRefIdeal.τ).loc Cert.StepRefIdeal.main_v4) = v1 c
          ∧ r.2.mem ((c.tc : Thread Cert.StepRefIdeal.nD Cert.StepRefIdeal.τ).loc Cert.StepRefIdeal.main_v10) = v2 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)) (v2 : (c : Dev Cert.SmallIdeal.nD) → Buf (Elt Ideal) ((c.tc : Thread Cert.SmallIdeal.nD Cert.SmallIdeal.τ).loc Cert.SmallIdeal.main_v0_2)) (v3 : (c : Dev Cert.SmallIdeal.nD) → Buf (Elt Ideal) ((c.tc : Thread Cert.SmallIdeal.nD Cert.SmallIdeal.τ).loc Cert.SmallIdeal.main_v0_3)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_v0_2) = v2 c
          ∧ r.2.mem ((c.tc : Thread Cert.SmallIdeal.nD Cert.SmallIdeal.τ).loc Cert.SmallIdeal.main_v0_3) = v3 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v0) = v0 c
          ∧ r.2.mem ((c.tc : Thread Cert.SmallRefIdeal.nD Cert.SmallRefIdeal.τ).loc Cert.SmallRefIdeal.main_v24) = v1 c
          ∧ r.2.mem ((c.tc : Thread Cert.SmallRefIdeal.nD Cert.SmallRefIdeal.τ).loc Cert.SmallRefIdeal.main_v5) = v2 c
          ∧ r.2.mem ((c.tc : Thread Cert.SmallRefIdeal.nD Cert.SmallRefIdeal.τ).loc Cert.SmallRefIdeal.main_v11) = v3 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v2)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v2) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v3) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def Claim : Prop :=
  ∃ (hLoss : Cert.Loss.Facts) (hLossIdeal : Cert.LossIdeal.Facts) (hLossRefIdeal : Cert.LossRefIdeal.Facts) (hAttnBwd : Cert.AttnBwd.Facts) (hAttnBwdIdeal : Cert.AttnBwdIdeal.Facts) (hAttnBwdRefIdeal : Cert.AttnBwdRefIdeal.Facts) (hMerge : Cert.Merge.Facts) (hMergeIdeal : Cert.MergeIdeal.Facts) (hMergeRefIdeal : Cert.MergeRefIdeal.Facts) (hAct : Cert.Act.Facts) (hActIdeal : Cert.ActIdeal.Facts) (hActRefIdeal : Cert.ActRefIdeal.Facts) (hNorm : Cert.Norm.Facts) (hNormIdeal : Cert.NormIdeal.Facts) (hNormRefIdeal : Cert.NormRefIdeal.Facts) (hAttnFwd : Cert.AttnFwd.Facts) (hAttnFwdIdeal : Cert.AttnFwdIdeal.Facts) (hAttnFwdRefIdeal : Cert.AttnFwdRefIdeal.Facts) (hPrep : Cert.Prep.Facts) (hPrepIdeal : Cert.PrepIdeal.Facts) (hPrepRefIdeal : Cert.PrepRefIdeal.Facts) (hGate : Cert.Gate.Facts) (hGateIdeal : Cert.GateIdeal.Facts) (hGateRefIdeal : Cert.GateRefIdeal.Facts) (hDelta : Cert.Delta.Facts) (hDeltaIdeal : Cert.DeltaIdeal.Facts) (hDeltaRefIdeal : Cert.DeltaRefIdeal.Facts) (hDims : Cert.Dims.Facts) (hDimsIdeal : Cert.DimsIdeal.Facts) (hDimsRefIdeal : Cert.DimsRefIdeal.Facts) (hStep : Cert.Step.Facts) (hStepIdeal : Cert.StepIdeal.Facts) (hStepRefIdeal : Cert.StepRefIdeal.Facts) (hSmall : Cert.Small.Facts) (hSmallIdeal : Cert.SmallIdeal.Facts) (hSmallRefIdeal : Cert.SmallRefIdeal.Facts) (hDw : Cert.Dw.Facts) (hDwIdeal : Cert.DwIdeal.Facts) (hDwRefIdeal : Cert.DwRefIdeal.Facts) (hPre_attn_finite : Cert.Pre_attn_finite.Facts) (hPre_ln_finite : Cert.Pre_ln_finite.Facts) (hPre_fwd_finite : Cert.Pre_fwd_finite.Facts) (hPre_prep_finite : Cert.Pre_prep_finite.Facts),
    quiescent_Loss (hLoss := hLoss)
    ∧ quiescent_LossIdeal (hLossIdeal := hLossIdeal)
    ∧ quiescent_LossRefIdeal (hLossRefIdeal := hLossRefIdeal)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnBwdRefIdeal (hAttnBwdRefIdeal := hAttnBwdRefIdeal)
    ∧ quiescent_AttnBwdRefIdeal_pre_attn_finite (hAttnBwdRefIdeal := hAttnBwdRefIdeal) (hPre_attn_finite := hPre_attn_finite)
    ∧ quiescent_Merge (hMerge := hMerge)
    ∧ quiescent_MergeIdeal (hMergeIdeal := hMergeIdeal)
    ∧ quiescent_MergeRefIdeal (hMergeRefIdeal := hMergeRefIdeal)
    ∧ quiescent_Act (hAct := hAct)
    ∧ quiescent_ActIdeal (hActIdeal := hActIdeal)
    ∧ quiescent_ActRefIdeal (hActRefIdeal := hActRefIdeal)
    ∧ quiescent_Norm (hNorm := hNorm)
    ∧ quiescent_NormIdeal (hNormIdeal := hNormIdeal)
    ∧ quiescent_NormIdeal_pre_ln_finite (hNormIdeal := hNormIdeal) (hPre_ln_finite := hPre_ln_finite)
    ∧ quiescent_NormRefIdeal (hNormRefIdeal := hNormRefIdeal)
    ∧ quiescent_NormRefIdeal_pre_ln_finite (hNormRefIdeal := hNormRefIdeal) (hPre_ln_finite := hPre_ln_finite)
    ∧ quiescent_AttnFwd (hAttnFwd := hAttnFwd)
    ∧ quiescent_AttnFwdIdeal (hAttnFwdIdeal := hAttnFwdIdeal)
    ∧ quiescent_AttnFwdIdeal_pre_fwd_finite (hAttnFwdIdeal := hAttnFwdIdeal) (hPre_fwd_finite := hPre_fwd_finite)
    ∧ quiescent_AttnFwdRefIdeal (hAttnFwdRefIdeal := hAttnFwdRefIdeal)
    ∧ quiescent_AttnFwdRefIdeal_pre_fwd_finite (hAttnFwdRefIdeal := hAttnFwdRefIdeal) (hPre_fwd_finite := hPre_fwd_finite)
    ∧ quiescent_Prep (hPrep := hPrep)
    ∧ quiescent_PrepIdeal (hPrepIdeal := hPrepIdeal)
    ∧ quiescent_PrepIdeal_pre_prep_finite (hPrepIdeal := hPrepIdeal) (hPre_prep_finite := hPre_prep_finite)
    ∧ quiescent_PrepRefIdeal (hPrepRefIdeal := hPrepRefIdeal)
    ∧ quiescent_PrepRefIdeal_pre_prep_finite (hPrepRefIdeal := hPrepRefIdeal) (hPre_prep_finite := hPre_prep_finite)
    ∧ quiescent_Gate (hGate := hGate)
    ∧ quiescent_GateIdeal (hGateIdeal := hGateIdeal)
    ∧ quiescent_GateRefIdeal (hGateRefIdeal := hGateRefIdeal)
    ∧ quiescent_Delta (hDelta := hDelta)
    ∧ quiescent_DeltaIdeal (hDeltaIdeal := hDeltaIdeal)
    ∧ quiescent_DeltaRefIdeal (hDeltaRefIdeal := hDeltaRefIdeal)
    ∧ quiescent_Dims (hDims := hDims)
    ∧ quiescent_DimsIdeal (hDimsIdeal := hDimsIdeal)
    ∧ quiescent_DimsRefIdeal (hDimsRefIdeal := hDimsRefIdeal)
    ∧ quiescent_Step (hStep := hStep)
    ∧ quiescent_StepIdeal (hStepIdeal := hStepIdeal)
    ∧ quiescent_StepRefIdeal (hStepRefIdeal := hStepRefIdeal)
    ∧ quiescent_Small (hSmall := hSmall)
    ∧ quiescent_SmallIdeal (hSmallIdeal := hSmallIdeal)
    ∧ quiescent_SmallRefIdeal (hSmallRefIdeal := hSmallRefIdeal)
    ∧ quiescent_Dw (hDw := hDw)
    ∧ quiescent_DwIdeal (hDwIdeal := hDwIdeal)
    ∧ quiescent_DwRefIdeal (hDwRefIdeal := hDwRefIdeal)
    ∧ preserves_Loss_LossIdeal
    ∧ algebraic_LossIdeal_LossRefIdeal (hLossIdeal := hLossIdeal) (hLossRefIdeal := hLossRefIdeal)
    ∧ preserves_AttnBwd_AttnBwdIdeal
    ∧ algebraic_AttnBwdIdeal_AttnBwdRefIdeal_pre_attn_finite (hAttnBwdIdeal := hAttnBwdIdeal) (hAttnBwdRefIdeal := hAttnBwdRefIdeal) (hPre_attn_finite := hPre_attn_finite)
    ∧ preserves_Merge_MergeIdeal
    ∧ algebraic_MergeIdeal_MergeRefIdeal (hMergeIdeal := hMergeIdeal) (hMergeRefIdeal := hMergeRefIdeal)
    ∧ preserves_Act_ActIdeal
    ∧ algebraic_ActIdeal_ActRefIdeal (hActIdeal := hActIdeal) (hActRefIdeal := hActRefIdeal)
    ∧ preserves_Norm_NormIdeal
    ∧ algebraic_NormIdeal_NormRefIdeal_pre_ln_finite (hNormIdeal := hNormIdeal) (hNormRefIdeal := hNormRefIdeal) (hPre_ln_finite := hPre_ln_finite)
    ∧ preserves_AttnFwd_AttnFwdIdeal
    ∧ algebraic_AttnFwdIdeal_AttnFwdRefIdeal_pre_fwd_finite (hAttnFwdIdeal := hAttnFwdIdeal) (hAttnFwdRefIdeal := hAttnFwdRefIdeal) (hPre_fwd_finite := hPre_fwd_finite)
    ∧ preserves_Prep_PrepIdeal
    ∧ algebraic_PrepIdeal_PrepRefIdeal_pre_prep_finite (hPrepIdeal := hPrepIdeal) (hPrepRefIdeal := hPrepRefIdeal) (hPre_prep_finite := hPre_prep_finite)
    ∧ preserves_Gate_GateIdeal
    ∧ algebraic_GateIdeal_GateRefIdeal (hGateIdeal := hGateIdeal) (hGateRefIdeal := hGateRefIdeal)
    ∧ preserves_Delta_DeltaIdeal
    ∧ algebraic_DeltaIdeal_DeltaRefIdeal (hDeltaIdeal := hDeltaIdeal) (hDeltaRefIdeal := hDeltaRefIdeal)
    ∧ preserves_Dims_DimsIdeal
    ∧ algebraic_DimsIdeal_DimsRefIdeal (hDimsIdeal := hDimsIdeal) (hDimsRefIdeal := hDimsRefIdeal)
    ∧ preserves_Step_StepIdeal
    ∧ algebraic_StepIdeal_StepRefIdeal (hStepIdeal := hStepIdeal) (hStepRefIdeal := hStepRefIdeal)
    ∧ preserves_Small_SmallIdeal
    ∧ algebraic_SmallIdeal_SmallRefIdeal (hSmallIdeal := hSmallIdeal) (hSmallRefIdeal := hSmallRefIdeal)
    ∧ preserves_Dw_DwIdeal
    ∧ algebraic_DwIdeal_DwRefIdeal (hDwIdeal := hDwIdeal) (hDwRefIdeal := hDwRefIdeal)
-- ==== Pre_attn_finite.lean ====
abbrev S8192x512 : Shape := ⟨2, ![8192, 512]⟩
abbrev S8192x128 : Shape := ⟨2, ![8192, 128]⟩
abbrev S_ : Shape := ⟨0, ![]⟩

class Facts : Prop where
  bcast_S_S8192x512 : S_.BroadcastsInDim S8192x512 (![] : Fin 0 → Fin S8192x512.rank)
  bcast_S_S8192x128 : S_.BroadcastsInDim S8192x128 (![] : Fin 0 → Fin S8192x128.rank)

variable [Facts]

def fn {F : FTy → Type} [FloatOps F] (main_arg0 : FVec F S8192x512 .f32) (main_arg1 : FVec F S8192x128 .f32) (main_arg2 : FVec F S8192x128 .f32) (main_arg3 : FVec F S8192x512 .f32) : IVec S8192x512 1 × IVec S8192x128 1 × IVec S8192x128 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x128 .f32 := Host.absf main_arg1
  let main_cst_0 : FVec F S_ .f32 := constant S_ .f32 0x7F800000#32
  let main_v4 : FVec F S8192x128 .f32 := broadcastInDim S8192x128 ![] bcast_S_S8192x128 main_cst_0
  let main_v5 : IVec S8192x128 1 := cmpf .olt main_v3 main_v4
  let main_v6 : FVec F S8192x128 .f32 := Host.absf main_arg2
  let main_cst_1 : FVec F S_ .f32 := constant S_ .f32 0x7F800000#32
  let main_v7 : FVec F S8192x128 .f32 := broadcastInDim S8192x128 ![] bcast_S_S8192x128 main_cst_1
  let main_v8 : IVec S8192x128 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  (main_v2, main_v5, main_v8, main_v11)
-- ==== Pre_fwd_finite.lean ====
abbrev S8192x512 : Shape := ⟨2, ![8192, 512]⟩
abbrev S8192x128 : Shape := ⟨2, ![8192, 128]⟩
abbrev S_ : Shape := ⟨0, ![]⟩

class Facts : Prop where
  bcast_S_S8192x512 : S_.BroadcastsInDim S8192x512 (![] : Fin 0 → Fin S8192x512.rank)
  bcast_S_S8192x128 : S_.BroadcastsInDim S8192x128 (![] : Fin 0 → Fin S8192x128.rank)

variable [Facts]

def fn {F : FTy → Type} [FloatOps F] (main_arg0 : FVec F S8192x512 .f32) (main_arg1 : FVec F S8192x128 .f32) (main_arg2 : FVec F S8192x128 .f32) : IVec S8192x512 1 × IVec S8192x128 1 × IVec S8192x128 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x128 .f32 := Host.absf main_arg1
  let main_cst_0 : FVec F S_ .f32 := constant S_ .f32 0x7F800000#32
  let main_v4 : FVec F S8192x128 .f32 := broadcastInDim S8192x128 ![] bcast_S_S8192x128 main_cst_0
  let main_v5 : IVec S8192x128 1 := cmpf .olt main_v3 main_v4
  let main_v6 : FVec F S8192x128 .f32 := Host.absf main_arg2
  let main_cst_1 : FVec F S_ .f32 := constant S_ .f32 0x7F800000#32
  let main_v7 : FVec F S8192x128 .f32 := broadcastInDim S8192x128 ![] bcast_S_S8192x128 main_cst_1
  let main_v8 : IVec S8192x128 1 := cmpf .olt main_v6 main_v7
  (main_v2, main_v5, main_v8)
-- ==== Pre_ln_finite.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S1024x1024 .f32) (main_arg2 : FVec F S8192x1024 .f32) (main_arg3 : FVec F S1x1024 .f32) (main_arg4 : FVec F S1x1024 .f32) (main_arg5 : FVec F S8192x1024 .f32) : IVec S8192x1024 1 × IVec S1024x1024 1 × IVec S8192x1024 1 × IVec S1x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S8192x1024 .f32 := Host.absf main_arg5
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_prep_finite.lean ====
abbrev S8192x2304 : Shape := ⟨2, ![8192, 2304]⟩
abbrev S8192x768 : Shape := ⟨2, ![8192, 768]⟩
abbrev S8192x512 : Shape := ⟨2, ![8192, 512]⟩
abbrev S8192x128 : Shape := ⟨2, ![8192, 128]⟩
abbrev S8192x256 : Shape := ⟨2, ![8192, 256]⟩
abbrev S64 : Shape := ⟨1, ![64]⟩
abbrev S_ : Shape := ⟨0, ![]⟩

class Facts : Prop where
  bcast_S_S8192x2304 : S_.BroadcastsInDim S8192x2304 (![] : Fin 0 → Fin S8192x2304.rank)
  bcast_S_S8192x512 : S_.BroadcastsInDim S8192x512 (![] : Fin 0 → Fin S8192x512.rank)
  bcast_S_S8192x128 : S_.BroadcastsInDim S8192x128 (![] : Fin 0 → Fin S8192x128.rank)
  bcast_S_S64 : S_.BroadcastsInDim S64 (![] : Fin 0 → Fin S64.rank)

variable [Facts]

def fn {F : FTy → Type} [FloatOps F] (main_arg0 : FVec F S8192x2304 .f32) (main_arg1 : FVec F S8192x768 .f32) (main_arg2 : FVec F S8192x512 .f32) (main_arg3 : FVec F S8192x128 .f32) (main_arg4 : FVec F S8192x128 .f32) (main_arg5 : FVec F S8192x256 .f32) (main_arg6 : FVec F S8192x256 .f32) (main_arg7 : FVec F S8192x256 .f32) (main_arg8 : FVec F S64 .f32) (main_arg9 : FVec F S64 .f32) : IVec S8192x2304 1 × IVec S8192x512 1 × IVec S8192x128 1 × IVec S64 1 × IVec S64 1 :=
  let main_v0 : FVec F S8192x2304 .f32 := Host.absf main_arg0
  let main_cst : FVec F S_ .f32 := constant S_ .f32 0x7F800000#32
  let main_v1 : FVec F S8192x2304 .f32 := broadcastInDim S8192x2304 ![] bcast_S_S8192x2304 main_cst
  let main_v2 : IVec S8192x2304 1 := cmpf .olt main_v0 main_v1
  let main_v3 : FVec F S8192x512 .f32 := Host.absf main_arg2
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x128 .f32 := Host.absf main_arg3
  let main_cst_1 : FVec F S_ .f32 := constant S_ .f32 0x7F800000#32
  let main_v7 : FVec F S8192x128 .f32 := broadcastInDim S8192x128 ![] bcast_S_S8192x128 main_cst_1
  let main_v8 : IVec S8192x128 1 := cmpf .olt main_v6 main_v7
  let main_v9 : FVec F S64 .f32 := Host.absf main_arg8
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg9
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  (main_v2, main_v5, main_v8, main_v11, main_v14)
-- ==== Loss.lean ====
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S8192x1024 : Shape := ⟨2, ![8192, 1024]⟩
abbrev S_ : Shape := ⟨0, ![]⟩
abbrev S8192 : Shape := ⟨1, ![8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== AttnBwd.lean ====
abbrev S8192x512 : Shape := ⟨2, ![8192, 512]⟩
abbrev S8192x128 : Shape := ⟨2, ![8192, 128]⟩
abbrev S8192x2x4x64 : Shape := ⟨4, ![8192, 2, 4, 64]⟩
abbrev S8192x2x64 : Shape := ⟨3, ![8192, 2, 64]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S8x16x1x512 : Shape := ⟨4, ![8, 16, 1, 512]⟩
abbrev S8192x8x64 : Shape := ⟨3, ![8192, 8, 64]⟩
abbrev S8192x8 : Shape := ⟨2, ![8192, 8]⟩
abbrev S8x8192 : Shape := ⟨2, ![8, 8192]⟩
abbrev S16x512x8x64 : Shape := ⟨4, ![16, 512, 8, 64]⟩
abbrev S8x16x64x512 : Shape := ⟨4, ![8, 16, 64, 512]⟩
abbrev S2x8192x64 : Shape := ⟨3, ![2, 8192, 64]⟩
abbrev S2x64x8192 : Shape := ⟨3, ![2, 64, 8192]⟩
abbrev S8x8192x64 : Shape := ⟨3, ![8, 8192, 64]⟩
abbrev S1x16x64x512 : Shape := ⟨4, ![1, 16, 64, 512]⟩
abbrev S1x16x1x512 : Shape := ⟨4, ![1, 16, 1, 512]⟩
abbrev S1x512x64 : Shape := ⟨3, ![1, 512, 64]⟩
abbrev S1x64x512 : Shape := ⟨3, ![1, 64, 512]⟩
abbrev S16x64x512 : Shape := ⟨3, ![16, 64, 512]⟩
abbrev S512x64 : Shape := ⟨2, ![512, 64]⟩
abbrev S64x512 : Shape := ⟨2, ![64, 512]⟩
abbrev S1x1x64x512 : Shape := ⟨4, ![1, 1, 64, 512]⟩
abbrev S512x512 : Shape := ⟨2, ![512, 512]⟩
abbrev S1x1x1x512 : Shape := ⟨4, ![1, 1, 1, 512]⟩
abbrev S1x512 : Shape := ⟨2, ![1, 512]⟩
abbrev S2x4x8192x64 : Shape := ⟨4, ![2, 4, 8192, 64]⟩

abbrev nBuf : Space → Nat
  | .hbm => 64
  | .vmem => 23
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8192x512, .f32⟩
  | .hbm, ⟨4, _⟩ => ⟨S8192x2x4x64, .f32⟩
  | .hbm, ⟨5, _⟩ => ⟨S8192x2x64, .f32⟩
  | .hbm, ⟨6, _⟩ => ⟨S2x8192x8192x4, .f32⟩
  | .hbm, ⟨7, _⟩ => ⟨S2x4x8192x8192, .f32⟩
  | .hbm, ⟨8, _⟩ => ⟨S_, .f32⟩
  | .hbm, ⟨9, _⟩ => ⟨S2x4x8192, .f32⟩
  | .hbm, ⟨10, _⟩ => ⟨S2x4x8192x1, .f32⟩
  | .hbm, ⟨11, _⟩ => ⟨S2x4x8192x8192, .f32⟩
  | .hbm, ⟨12, _⟩ => ⟨S2x4x8192x8192, .f32⟩
  | .hbm, ⟨13, _⟩ => ⟨S2x4x8192x8192, .f32⟩
  | .hbm, ⟨14, _⟩ => ⟨S_, .f32⟩
  | .hbm, ⟨15, _⟩ => ⟨S2x4x8192, .f32⟩
  | .hbm, ⟨16, _⟩ => ⟨S2x4x8192x1, .f32⟩
  | .hbm, ⟨17, _⟩ => ⟨S2x4x8192x8192, .f32⟩
  | .hbm, ⟨18, _⟩ => ⟨S2x4x8192x8192, .f32⟩
  | .hbm, ⟨19, _⟩ => ⟨S8192x2x64, .f32⟩
  | .hbm, ⟨20, _⟩ => ⟨S2x64x4x8192, .f32⟩
  | .hbm, ⟨21, _⟩ => ⟨S8192x2x4x64, .f32⟩
  | .hbm, ⟨22, _⟩ => ⟨S8192x512, .f32⟩
  | .hbm, ⟨23, _⟩ => ⟨S2x4x8192x1, .f32⟩
  | .hbm, ⟨24, _⟩ => ⟨S2x4x8192x1, .f32⟩
  | .hbm, ⟨25, _⟩ => ⟨S8x16x1x512, .f32⟩
  | .hbm, ⟨26, _⟩ => ⟨S8192x512, .f32⟩
  | .hbm, ⟨27, _⟩ => ⟨S8192x8x64, .f32⟩
  | .hbm, ⟨28, _⟩ => ⟨S_, .f32⟩
  | .hbm, ⟨29, _⟩ => ⟨S8192x8, .f32⟩
  | .hbm, ⟨30, _⟩ => ⟨S8x8192, .f32⟩
  | .hbm, ⟨31, _⟩ => ⟨S8x16x1x512, .f32⟩
  | .hbm, ⟨32, _⟩ => ⟨S8192x512, .bf16⟩
  | .hbm, ⟨33, _⟩ => ⟨S8192x128, .bf16⟩
  | .hbm, ⟨34, _⟩ => ⟨S8192x128, .bf16⟩
  | .hbm, ⟨35, _⟩ => ⟨S8192x512, .bf16⟩
  | .hbm, ⟨36, _⟩ => ⟨S16x512x8x64, .bf16⟩
  | .hbm, ⟨37, _⟩ => ⟨S8x16x64x512, .bf16⟩
  | .hbm, ⟨38, _⟩ => ⟨S8192x2x64, .bf16⟩
  | .hbm, ⟨39, _⟩ => ⟨S2x8192x64, .bf16⟩
  | .hbm, ⟨40, _⟩ => ⟨S16x512x8x64, .bf16⟩
  | .hbm, ⟨41, _⟩ => ⟨S8x16x64x512, .bf16⟩
  | .hbm, ⟨42, _⟩ => ⟨S2x64x8192, .bf16⟩
  | .hbm, ⟨43, _⟩ => ⟨S8192x2x64, .bf16⟩
  | .hbm, ⟨44, _⟩ => ⟨S2x8192x64, .bf16⟩
  | .hbm, ⟨45, _⟩ => ⟨S8x16x64x512, .bf16⟩
  | .hbm, ⟨46, _⟩ => ⟨S8x8192x64, .bf16⟩
  | .hbm, ⟨47, _⟩ => ⟨S8x8192x64, .bf16⟩
  | .hbm, ⟨48, _⟩ => ⟨S16x512x8x64, .bf16⟩
  | .hbm, ⟨49, _⟩ => ⟨S8192x512, .bf16⟩
  | .hbm, ⟨50, _⟩ => ⟨S2x4x8192x64, .bf16⟩
  | .hbm, ⟨51, _⟩ => ⟨S2x4x8192x64, .f32⟩
  | .hbm, ⟨52, _⟩ => ⟨S_, .f32⟩
  | .hbm, ⟨53, _⟩ => ⟨S2x8192x64, .f32⟩
  | .hbm, ⟨54, _⟩ => ⟨S2x8192x64, .bf16⟩
  | .hbm, ⟨55, _⟩ => ⟨S8192x2x64, .bf16⟩
  | .hbm, ⟨56, _⟩ => ⟨S8192x128, .bf16⟩
  | .hbm, ⟨57, _⟩ => ⟨S2x4x8192x64, .bf16⟩
  | .hbm, ⟨58, _⟩ => ⟨S2x4x8192x64, .f32⟩
  | .hbm, ⟨59, _⟩ => ⟨S_, .f32⟩
  | .hbm, ⟨60, _⟩ => ⟨S2x8192x64, .f32⟩
  | .hbm, ⟨61, _⟩ => ⟨S2x8192x64, .bf16⟩
  | .hbm, ⟨62, _⟩ => ⟨S8192x2x64, .bf16⟩
  | .hbm, ⟨63, _⟩ => ⟨S8192x128, .bf16⟩
  | .local _ .vmem, ⟨0, _⟩ => ⟨S1x16x64x512, .bf16⟩
  | .local _ .vmem, ⟨1, _⟩ => ⟨S1x16x64x512, .bf16⟩
  | .local _ .vmem, ⟨2, _⟩ => ⟨S1x16x64x512, .bf16⟩
  | .local _ .vmem, ⟨3, _⟩ => ⟨S1x16x64x512, .bf16⟩
  | .local _ .vmem, ⟨4, _⟩ => ⟨S1x16x1x512, .f32⟩
  | .local _ .vmem, ⟨5, _⟩ => ⟨S1x16x1x512, .f32⟩
  | .local _ .vmem, ⟨6, _⟩ => ⟨S1x16x1x512, .f32⟩
  | .local _ .vmem, ⟨7, _⟩ => ⟨S1x16x1x512, .f32⟩
  | .local _ .vmem, ⟨8, _⟩ => ⟨S1x512x64, .bf16⟩
  | .local _ .vmem, ⟨9, _⟩ => ⟨S1x512x64, .bf16⟩
  | .local _ .vmem, ⟨10, _⟩ => ⟨S1x64x512, .bf16⟩
  | .local _ .vmem, ⟨11, _⟩ => ⟨S1x64x512, .bf16⟩
  | .local _ .vmem, ⟨12, _⟩ => ⟨S1x512x64, .bf16⟩
  | .local _ .vmem, ⟨13, _⟩ => ⟨S1x512x64, .bf16⟩
  | .local _ .vmem, ⟨14, _⟩ => ⟨S1x16x64x512, .bf16⟩
  | .local _ .vmem, ⟨15, _⟩ => ⟨S1x16x64x512, .bf16⟩
  | .local _ .vmem, ⟨16, _⟩ => ⟨S1x512x64, .bf16⟩
  | .local _ .vmem, ⟨17, _⟩ => ⟨S1x512x64, .bf16⟩
  | .local _ .vmem, ⟨18, _⟩ => ⟨S1x512x64, .bf16⟩
  | .local _ .vmem, ⟨19, _⟩ => ⟨S1x512x64, .bf16⟩
  | .local _ .vmem, ⟨20, _⟩ => ⟨S16x64x512, .f32⟩
  | .local _ .vmem, ⟨21, _⟩ => ⟨S512x64, .f32⟩
  | .local _ .vmem, ⟨22, _⟩ => ⟨S512x64, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38_0 : Ref sig .tc := ⟨.hbm, 45, rfl⟩
abbrev main_v38_1 : Ref sig .tc := ⟨.hbm, 46, rfl⟩
abbrev main_v38_2 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_2 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_3 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32_14 : BitVec 32 := 0#32
  let c16_i32 : BitVec 32 := 16#32
  let v17 : BitVec 32 := Scalar.addi c0_i32_14 c16_i32
  let c1_i32 : BitVec 32 := 1#32
  ⟨c0_i32_14, v17, c1_i32⟩
def k0_off1 (k0_t1 : Fin k0_t1_loop.trips) : Fin 4 → Nat :=
  let c0_27 : Index := 0#32
  let c0_i32_14 : BitVec 32 := 0#32
  let c1_i32 : BitVec 32 := 1#32
  let arg15 : BitVec 32 := Scf.iv c0_i32_14 c1_i32 k0_t1
  let v31 : Index := Scalar.indexCast arg15
  let c0_28 : Index := 0#32
  let c0_29 : Index := 0#32
  ![0, v31.toNat, 0, 0]
def k0_off2 (k0_t1 : Fin k0_t1_loop.trips) : Fin 4 → Nat :=
  let c0_34 : Index := 0#32
  let c0_i32_14 : BitVec 32 := 0#32
  let c1_i32 : BitVec 32 := 1#32
  let arg15 : BitVec 32 := Scf.iv c0_i32_14 c1_i32 k0_t1
  let v38 : Index := Scalar.indexCast arg15
  let c0_35 : Index := 0#32
  let c0_36 : Index := 0#32
  ![0, v38.toNat, 0, 0]
def k0_off3 (k0_t1 : Fin k0_t1_loop.trips) : Fin 3 → Nat :=
  let c0_i32_14 : BitVec 32 := 0#32
  let c1_i32 : BitVec 32 := 1#32
  let arg15 : BitVec 32 := Scf.iv c0_i32_14 c1_i32 k0_t1
  let v65 : Index := Scalar.indexCast arg15
  let c0_51 : Index := 0#32
  let c0_52 : Index := 0#32
  ![v65.toNat, 0, 0]
def k0_cond2 (i : grid0.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_26 : BitVec 32 := 0#32
  let v30 : BitVec 1 := Scalar.cmpi .ne v29 c0_i32_26
  v30

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnBwdRefIdeal.lean ====
abbrev S8192x512 : Shape := ⟨2, ![8192, 512]⟩
abbrev S8192x128 : Shape := ⟨2, ![8192, 128]⟩
abbrev S8192x2x4x64 : Shape := ⟨4, ![8192, 2, 4, 64]⟩
abbrev S8192x2x64 : Shape := ⟨3, ![8192, 2, 64]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S2x64x8192 : Shape := ⟨3, ![2, 64, 8192]⟩
abbrev S2x8192x4x64 : Shape := ⟨4, ![2, 8192, 4, 64]⟩
abbrev S2x8192x64 : Shape := ⟨3, ![2, 8192, 64]⟩

abbrev nBuf : Space → Nat
  | .hbm => 80
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8192x512, .f32⟩
  | .hbm, ⟨4, _⟩ => ⟨S8192x2x4x64, .f32⟩
  | .hbm, ⟨5, _⟩ => ⟨S8192x2x64, .f32⟩
  | .hbm, ⟨6, _⟩ => ⟨S8192x2x64, .f32⟩
  | .hbm, ⟨7, _⟩ => ⟨S2x8192x8192x4, .f32⟩
  | .hbm, ⟨8, _⟩ => ⟨S2x4x8192x8192, .f32⟩
  | .hbm, ⟨9, _⟩ => ⟨S_, .f32⟩
  | .hbm, ⟨10, _⟩ => ⟨S2x4x8192, .f32⟩
  | .hbm, ⟨11, _⟩ => ⟨S2x4x8192x1, .f32⟩
  | .hbm, ⟨12, _⟩ => ⟨S2x4x8192x8192, .f32⟩
  | .hbm, ⟨13, _⟩ => ⟨S2x4x8192x8192, .i1⟩
  | .hbm, ⟨14, _⟩ => ⟨S2x4x8192x8192, .f32⟩
  | .hbm, ⟨15, _⟩ => ⟨S_, .f32⟩
  | .hbm, ⟨16, _⟩ => ⟨S2x4x8192, .f32⟩
  | .hbm, ⟨17, _⟩ => ⟨S_, .f32⟩
  | .hbm, ⟨18, _⟩ => ⟨S2x4x8192, .f32⟩
  | .hbm, ⟨19, _⟩ => ⟨S2x4x8192, .f32⟩
  | .hbm, ⟨20, _⟩ => ⟨S_, .f32⟩
  | .hbm, ⟨21, _⟩ => ⟨S2x4x8192, .f32⟩
  | .hbm, ⟨22, _⟩ => ⟨S2x4x8192, .i1⟩
  | .hbm, ⟨23, _⟩ => ⟨S_, .f32⟩
  | .hbm, ⟨24, _⟩ => ⟨S2x4x8192, .f32⟩
  | .hbm, ⟨25, _⟩ => ⟨S2x4x8192, .i1⟩
  | .hbm, ⟨26, _⟩ => ⟨S_, .f32⟩
  | .hbm, ⟨27, _⟩ => ⟨S2x4x8192, .f32⟩
  | .hbm, ⟨28, _⟩ => ⟨S_, .f32⟩
  | .hbm, ⟨29, _⟩ => ⟨S2x4x8192, .f32⟩
  | .hbm, ⟨30, _⟩ => ⟨S_, .f32⟩
  | .hbm, ⟨31, _⟩ => ⟨S2x4x8192, .f32⟩
  | .hbm, ⟨32, _⟩ => ⟨S2x4x8192, .f32⟩
  | .hbm, ⟨33, _⟩ => ⟨S2x4x8192, .f32⟩
  | .hbm, ⟨34, _⟩ => ⟨S2x4x8192x1, .f32⟩
  | .hbm, ⟨35, _⟩ => ⟨S2x4x8192x8192, .f32⟩
  | .hbm, ⟨36, _⟩ => ⟨S2x4x8192x8192, .f32⟩
  | .hbm, ⟨37, _⟩ => ⟨S2x4x8192x8192, .f32⟩
  | .hbm, ⟨38, _⟩ => ⟨S_, .f32⟩
  | .hbm, ⟨39, _⟩ => ⟨S2x4x8192, .f32⟩
  | .hbm, ⟨40, _⟩ => ⟨S2x4x8192x1, .f32⟩
  | .hbm, ⟨41, _⟩ => ⟨S2x4x8192x8192, .f32⟩
  | .hbm, ⟨42, _⟩ => ⟨S2x4x8192x8192, .f32⟩
  | .hbm, ⟨43, _⟩ => ⟨S2x4x8192x1, .f32⟩
  | .hbm, ⟨44, _⟩ => ⟨S_, .f32⟩
  | .hbm, ⟨45, _⟩ => ⟨S2x4x8192x1, .f32⟩
  | .hbm, ⟨46, _⟩ => ⟨S2x4x8192x1, .f32⟩
  | .hbm, ⟨47, _⟩ => ⟨S2x64x4x8192, .f32⟩
  | .hbm, ⟨48, _⟩ => ⟨S8192x2x4x64, .f32⟩
  | .hbm, ⟨49, _⟩ => ⟨S8192x512, .f32⟩
  | .hbm, ⟨50, _⟩ => ⟨S8192x2x4x64, .f32⟩
  | .hbm, ⟨51, _⟩ => ⟨S2x64x4x8192, .f32⟩
  | .hbm, ⟨52, _⟩ => ⟨S2x4x8192x8192, .f32⟩
  | .hbm, ⟨53, _⟩ => ⟨S2x64x8192, .f32⟩
  | .hbm, ⟨54, _⟩ => ⟨S8192x2x64, .f32⟩
  | .hbm, ⟨55, _⟩ => ⟨S2x4x8192x8192, .f32⟩
  | .hbm, ⟨56, _⟩ => ⟨S2x4x8192x8192, .f32⟩
  | .hbm, ⟨57, _⟩ => ⟨S2x4x8192x8192, .f32⟩
  | .hbm, ⟨58, _⟩ => ⟨S_, .f32⟩
  | .hbm, ⟨59, _⟩ => ⟨S2x4x8192, .f32⟩
  | .hbm, ⟨60, _⟩ => ⟨S2x4x8192x1, .f32⟩
  | .hbm, ⟨61, _⟩ => ⟨S2x4x8192x1, .f32⟩
  | .hbm, ⟨62, _⟩ => ⟨S2x4x8192x8192, .f32⟩
  | .hbm, ⟨63, _⟩ => ⟨S2x4x8192x8192, .f32⟩
  | .hbm, ⟨64, _⟩ => ⟨S_, .f32⟩
  | .hbm, ⟨65, _⟩ => ⟨S2x4x8192, .f32⟩
  | .hbm, ⟨66, _⟩ => ⟨S2x4x8192x8192, .f32⟩
  | .hbm, ⟨67, _⟩ => ⟨S2x4x8192x8192, .f32⟩
  | .hbm, ⟨68, _⟩ => ⟨S2x4x8192x8192, .f32⟩
  | .hbm, ⟨69, _⟩ => ⟨S2x8192x8192x4, .f32⟩
  | .hbm, ⟨70, _⟩ => ⟨S2x8192x4x64, .f32⟩
  | .hbm, ⟨71, _⟩ => ⟨S8192x2x4x64, .f32⟩
  | .hbm, ⟨72, _⟩ => ⟨S2x8192x64, .f32⟩
  | .hbm, ⟨73, _⟩ => ⟨S8192x2x64, .f32⟩
  | .hbm, ⟨74, _⟩ => ⟨S8192x128, .f32⟩
  | .hbm, ⟨75, _⟩ => ⟨S8192x128, .f32⟩
  | .hbm, ⟨76, _⟩ => ⟨S8192x512, .f32⟩
  | .hbm, ⟨77, _⟩ => ⟨S8192x512, .bf16⟩
  | .hbm, ⟨78, _⟩ => ⟨S8192x128, .bf16⟩
  | .hbm, ⟨79, _⟩ => ⟨S8192x128, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Merge.lean ====
abbrev S8192x1024 : Shape := ⟨2, ![8192, 1024]⟩
abbrev S8192x256 : Shape := ⟨2, ![8192, 256]⟩
abbrev S8192x512 : Shape := ⟨2, ![8192, 512]⟩
abbrev S8192x3072 : Shape := ⟨2, ![8192, 3072]⟩
abbrev S1x3072 : Shape := ⟨2, ![1, 3072]⟩
abbrev S256x1024 : Shape := ⟨2, ![256, 1024]⟩
abbrev S512x1024 : Shape := ⟨2, ![512, 1024]⟩
abbrev S256x256 : Shape := ⟨2, ![256, 256]⟩
abbrev S256x512 : Shape := ⟨2, ![256, 512]⟩
abbrev S256x3072 : Shape := ⟨2, ![256, 3072]⟩
abbrev S1x1024 : Shape := ⟨2, ![1, 1024]⟩
abbrev S1024 : Shape := ⟨1, ![1024]⟩

abbrev nBuf : Space → Nat
  | .hbm => 23
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S8192x3072, .f32⟩
  | .hbm, ⟨5, _⟩ => ⟨S1x3072, .f32⟩
  | .hbm, ⟨6, _⟩ => ⟨S256x1024, .f32⟩
  | .hbm, ⟨7, _⟩ => ⟨S512x1024, .f32⟩
  | .hbm, ⟨8, _⟩ => ⟨S256x1024, .f32⟩
  | .hbm, ⟨9, _⟩ => ⟨S8192x256, .bf16⟩
  | .hbm, ⟨10, _⟩ => ⟨S8192x512, .bf16⟩
  | .hbm, ⟨11, _⟩ => ⟨S8192x256, .bf16⟩
  | .hbm, ⟨12, _⟩ => ⟨S256x1024, .bf16⟩
  | .hbm, ⟨13, _⟩ => ⟨S512x1024, .bf16⟩
  | .hbm, ⟨14, _⟩ => ⟨S256x1024, .bf16⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S8192x256, .bf16⟩
  | .hbm, ⟨19, _⟩ => ⟨S8192x512, .bf16⟩
  | .hbm, ⟨20, _⟩ => ⟨S8192x256, .bf16⟩
  | .hbm, ⟨21, _⟩ => ⟨S8192x3072, .bf16⟩
  | .hbm, ⟨22, _⟩ => ⟨S1x3072, .f32⟩
  | .local _ .vmem, ⟨0, _⟩ => ⟨S256x1024, .f32⟩
  | .local _ .vmem, ⟨1, _⟩ => ⟨S256x1024, .f32⟩
  | .local _ .vmem, ⟨2, _⟩ => ⟨S256x256, .bf16⟩
  | .local _ .vmem, ⟨3, _⟩ => ⟨S256x256, .bf16⟩
  | .local _ .vmem, ⟨4, _⟩ => ⟨S256x512, .bf16⟩
  | .local _ .vmem, ⟨5, _⟩ => ⟨S256x512, .bf16⟩
  | .local _ .vmem, ⟨6, _⟩ => ⟨S256x256, .bf16⟩
  | .local _ .vmem, ⟨7, _⟩ => ⟨S256x256, .bf16⟩
  | .local _ .vmem, ⟨8, _⟩ => ⟨S256x3072, .f32⟩
  | .local _ .vmem, ⟨9, _⟩ => ⟨S256x3072, .f32⟩
  | .local _ .vmem, ⟨10, _⟩ => ⟨S1x3072, .f32⟩
  | .local _ .vmem, ⟨11, _⟩ => ⟨S256x1024, .bf16⟩
  | .local _ .vmem, ⟨12, _⟩ => ⟨S512x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x256, .bf16⟩
  | .local _ .vmem, ⟨21, _⟩ => ⟨S256x256, .bf16⟩
  | .local _ .vmem, ⟨22, _⟩ => ⟨S256x512, .bf16⟩
  | .local _ .vmem, ⟨23, _⟩ => ⟨S256x512, .bf16⟩
  | .local _ .vmem, ⟨24, _⟩ => ⟨S256x256, .bf16⟩
  | .local _ .vmem, ⟨25, _⟩ => ⟨S256x256, .bf16⟩
  | .local _ .vmem, ⟨26, _⟩ => ⟨S256x3072, .bf16⟩
  | .local _ .vmem, ⟨27, _⟩ => ⟨S256x3072, .bf16⟩
  | .local _ .vmem, ⟨28, _⟩ => ⟨S1x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev main_v6_6 : Ref sig .tc := ⟨.hbm, 21, rfl⟩
abbrev main_v6_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MergeRefIdeal.lean ====
abbrev S8192x1024 : Shape := ⟨2, ![8192, 1024]⟩
abbrev S8192x256 : Shape := ⟨2, ![8192, 256]⟩
abbrev S8192x512 : Shape := ⟨2, ![8192, 512]⟩
abbrev S8192x3072 : Shape := ⟨2, ![8192, 3072]⟩
abbrev S1x3072 : Shape := ⟨2, ![1, 3072]⟩
abbrev S256x1024 : Shape := ⟨2, ![256, 1024]⟩
abbrev S512x1024 : Shape := ⟨2, ![512, 1024]⟩
abbrev S_ : Shape := ⟨0, ![]⟩
abbrev S8192x3x1024 : Shape := ⟨3, ![8192, 3, 1024]⟩
abbrev S8192x1x1024 : Shape := ⟨3, ![8192, 1, 1024]⟩
abbrev S3072 : Shape := ⟨1, ![3072]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S8192x3072, .f32⟩
  | .hbm, ⟨5, _⟩ => ⟨S1x3072, .f32⟩
  | .hbm, ⟨6, _⟩ => ⟨S256x1024, .f32⟩
  | .hbm, ⟨7, _⟩ => ⟨S512x1024, .f32⟩
  | .hbm, ⟨8, _⟩ => ⟨S256x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x3072, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S_, .f32⟩
  | .hbm, ⟨17, _⟩ => ⟨S8192x3072, .f32⟩
  | .hbm, ⟨18, _⟩ => ⟨S8192x3072, .f32⟩
  | .hbm, ⟨19, _⟩ => ⟨S_, .f32⟩
  | .hbm, ⟨20, _⟩ => ⟨S8192x3072, .f32⟩
  | .hbm, ⟨21, _⟩ => ⟨S8192x3072, .f32⟩
  | .hbm, ⟨22, _⟩ => ⟨S_, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S8192x3x1024, .f32⟩
  | .hbm, ⟨27, _⟩ => ⟨S8192x1x1024, .f32⟩
  | .hbm, ⟨28, _⟩ => ⟨S8192x1024, .f32⟩
  | .hbm, ⟨29, _⟩ => ⟨S8192x1024, .f32⟩
  | .hbm, ⟨30, _⟩ => ⟨S8192x1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1x1024, .f32⟩
  | .hbm, ⟨43, _⟩ => ⟨S_, .f32⟩
  | .hbm, ⟨44, _⟩ => ⟨S8192x3x1024, .f32⟩
  | .hbm, ⟨45, _⟩ => ⟨S8192x1024, .f32⟩
  | .hbm, ⟨46, _⟩ => ⟨S8192x1024, .f32⟩
  | .hbm, ⟨47, _⟩ => ⟨S8192x1x1024, .f32⟩
  | .hbm, ⟨48, _⟩ => ⟨S_, .f32⟩
  | .hbm, ⟨49, _⟩ => ⟨S8192x3x1024, .f32⟩
  | .hbm, ⟨50, _⟩ => ⟨S8192x3x1024, .f32⟩
  | .hbm, ⟨51, _⟩ => ⟨S8192x1024, .f32⟩
  | .hbm, ⟨52, _⟩ => ⟨S8192x1024, .f32⟩
  | .hbm, ⟨53, _⟩ => ⟨S8192x1x1024, .f32⟩
  | .hbm, ⟨54, _⟩ => ⟨S_, .f32⟩
  | .hbm, ⟨55, _⟩ => ⟨S8192x3x1024, .f32⟩
  | .hbm, ⟨56, _⟩ => ⟨S8192x3x1024, .f32⟩
  | .hbm, ⟨57, _⟩ => ⟨S8192x3072, .f32⟩
  | .hbm, ⟨58, _⟩ => ⟨S8192x3072, .f32⟩
  | .hbm, ⟨59, _⟩ => ⟨S_, .f32⟩
  | .hbm, ⟨60, _⟩ => ⟨S3072, .f32⟩
  | .hbm, ⟨61, _⟩ => ⟨S1x3072, .f32⟩
  | .hbm, ⟨62, _⟩ => ⟨S8192x256, .f32⟩
  | .hbm, ⟨63, _⟩ => ⟨S8192x512, .f32⟩
  | .hbm, ⟨64, _⟩ => ⟨S8192x256, .f32⟩
  | .hbm, ⟨65, _⟩ => ⟨S8192x1024, .bf16⟩
  | .hbm, ⟨66, _⟩ => ⟨S8192x1024, .bf16⟩
  | .hbm, ⟨67, _⟩ => ⟨S8192x1024, .bf16⟩
  | .hbm, ⟨68, _⟩ => ⟨S8192x256, .bf16⟩
  | .hbm, ⟨69, _⟩ => ⟨S8192x512, .bf16⟩
  | .hbm, ⟨70, _⟩ => ⟨S8192x256, .bf16⟩
  | .hbm, ⟨71, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== Act.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x1024, .bf16⟩
  | .hbm, ⟨5, _⟩ => ⟨S1024x4096, .bf16⟩
  | .hbm, ⟨6, _⟩ => ⟨S8192x4096, .bf16⟩
  | .hbm, ⟨7, _⟩ => ⟨S8192x4096, .bf16⟩
  | .hbm, ⟨8, _⟩ => ⟨S8192x1024, .bf16⟩
  | .hbm, ⟨9, _⟩ => ⟨S4096x1024, .bf16⟩
  | .hbm, ⟨10, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== ActRefIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .i1⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x1024, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S8192x4096, .bf16⟩
  | .hbm, ⟨29, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call1_cst : Ref sig .tc := ⟨.hbm, 10, rfl⟩
abbrev main_call1_v0 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== Norm.lean ====
abbrev S8192x1024 : Shape := ⟨2, ![8192, 1024]⟩
abbrev S1024x1024 : Shape := ⟨2, ![1024, 1024]⟩
abbrev S1x1024 : Shape := ⟨2, ![1, 1024]⟩
abbrev S8192x1 : Shape := ⟨2, ![8192, 1]⟩
abbrev S256x1024 : Shape := ⟨2, ![256, 1024]⟩
abbrev S256x1 : Shape := ⟨2, ![256, 1]⟩
abbrev S256 : Shape := ⟨1, ![256]⟩
abbrev S512x1024 : Shape := ⟨2, ![512, 1024]⟩
abbrev S512x1 : Shape := ⟨2, ![512, 1]⟩
abbrev S1024 : Shape := ⟨1, ![1024]⟩
abbrev S512 : Shape := ⟨1, ![512]⟩

abbrev nBuf : Space → Nat
  | .hbm => 16
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1024x1024, .bf16⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S8192x1, .f32⟩
  | .hbm, ⟨12, _⟩ => ⟨S8192x1024, .f32⟩
  | .hbm, ⟨13, _⟩ => ⟨S8192x1024, .bf16⟩
  | .hbm, ⟨14, _⟩ => ⟨S1x1024, .f32⟩
  | .hbm, ⟨15, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S256x1, .f32⟩
  | .local _ .vmem, ⟨14, _⟩ => ⟨S256x1, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1, .f32⟩
  | .local _ .vmem, ⟨20, _⟩ => ⟨S512x1, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S1x1024, .f32⟩
  | .local _ .vmem, ⟨27, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg7_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem7_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== NormRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x1024, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .bf16⟩
  | .hbm, ⟨87, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩
abbrev main_cst_15 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩

abbrev nD : Nat := 1
abbrev τ : Topo := Topo.v7x

variable {F : FTy → Type} [FloatOps F]
-- ==== AttnFwd.lean ====
abbrev S8192x512 : Shape := ⟨2, ![8192, 512]⟩
abbrev S8192x128 : Shape := ⟨2, ![8192, 128]⟩
abbrev S16x512x8x64 : Shape := ⟨4, ![16, 512, 8, 64]⟩
abbrev S8x16x64x512 : Shape := ⟨4, ![8, 16, 64, 512]⟩
abbrev S8192x2x64 : Shape := ⟨3, ![8192, 2, 64]⟩
abbrev S2x8192x64 : Shape := ⟨3, ![2, 8192, 64]⟩
abbrev S16x512x2x64 : Shape := ⟨4, ![16, 512, 2, 64]⟩
abbrev S2x16x64x512 : Shape := ⟨4, ![2, 16, 64, 512]⟩
abbrev S_ : Shape := ⟨0, ![]⟩
abbrev S2x16x8x512 : Shape := ⟨4, ![2, 16, 8, 512]⟩
abbrev S2x16x72x512 : Shape := ⟨4, ![2, 16, 72, 512]⟩
abbrev S8x16x1x512 : Shape := ⟨4, ![8, 16, 1, 512]⟩
abbrev S1x1x64x512 : Shape := ⟨4, ![1, 1, 64, 512]⟩
abbrev S1x8192x64 : Shape := ⟨3, ![1, 8192, 64]⟩
abbrev S1x16x72x512 : Shape := ⟨4, ![1, 16, 72, 512]⟩
abbrev S1x1x1x512 : Shape := ⟨4, ![1, 1, 1, 512]⟩
abbrev S72x512 : Shape := ⟨2, ![72, 512]⟩
abbrev S1x512 : Shape := ⟨2, ![1, 512]⟩
abbrev S1x512x64 : Shape := ⟨3, ![1, 512, 64]⟩
abbrev S512x64 : Shape := ⟨2, ![512, 64]⟩
abbrev S64x512 : Shape := ⟨2, ![64, 512]⟩
abbrev S512x512 : Shape := ⟨2, ![512, 512]⟩
abbrev S512 : Shape := ⟨1, ![512]⟩
abbrev S1x1x72x512 : Shape := ⟨4, ![1, 1, 72, 512]⟩

abbrev nBuf : Space → Nat
  | .hbm => 19
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8192x512, .bf16⟩
  | .hbm, ⟨4, _⟩ => ⟨S8192x128, .bf16⟩
  | .hbm, ⟨5, _⟩ => ⟨S8192x128, .bf16⟩
  | .hbm, ⟨6, _⟩ => ⟨S16x512x8x64, .bf16⟩
  | .hbm, ⟨7, _⟩ => ⟨S8x16x64x512, .bf16⟩
  | .hbm, ⟨8, _⟩ => ⟨S8192x2x64, .bf16⟩
  | .hbm, ⟨9, _⟩ => ⟨S2x8192x64, .bf16⟩
  | .hbm, ⟨10, _⟩ => ⟨S16x512x2x64, .bf16⟩
  | .hbm, ⟨11, _⟩ => ⟨S2x16x64x512, .bf16⟩
  | .hbm, ⟨12, _⟩ => ⟨S_, .bf16⟩
  | .hbm, ⟨13, _⟩ => ⟨S2x16x8x512, .bf16⟩
  | .hbm, ⟨14, _⟩ => ⟨S2x16x72x512, .bf16⟩
  | .hbm, ⟨15, _⟩ => ⟨S8x16x64x512, .bf16⟩
  | .hbm, ⟨16, _⟩ => ⟨S8x16x1x512, .f32⟩
  | .hbm, ⟨17, _⟩ => ⟨S16x512x8x64, .bf16⟩
  | .hbm, ⟨18, _⟩ => ⟨S8192x512, .bf16⟩
  | .local _ .vmem, ⟨0, _⟩ => ⟨S1x1x64x512, .bf16⟩
  | .local _ .vmem, ⟨1, _⟩ => ⟨S1x1x64x512, .bf16⟩
  | .local _ .vmem, ⟨2, _⟩ => ⟨S1x8192x64, .bf16⟩
  | .local _ .vmem, ⟨3, _⟩ => ⟨S1x8192x64, .bf16⟩
  | .local _ .vmem, ⟨4, _⟩ => ⟨S1x16x72x512, .bf16⟩
  | .local _ .vmem, ⟨5, _⟩ => ⟨S1x16x72x512, .bf16⟩
  | .local _ .vmem, ⟨6, _⟩ => ⟨S1x1x64x512, .bf16⟩
  | .local _ .vmem, ⟨7, _⟩ => ⟨S1x1x64x512, .bf16⟩
  | .local _ .vmem, ⟨8, _⟩ => ⟨S1x1x1x512, .f32⟩
  | .local _ .vmem, ⟨9, _⟩ => ⟨S1x1x1x512, .f32⟩
  | .local _ .vmem, ⟨10, _⟩ => ⟨S72x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_mult1 : BitVec 32 :=
  let c0_i32 : BitVec 32 := 0#32
  c0_i32
@[reducible] def k0_t1_loop : Scf.Loop 32 :=
  let c0_i32_10 : BitVec 32 := 0#32
  let c16_i32 : BitVec 32 := 16#32
  let v14 : BitVec 32 := Scalar.addi c0_i32_10 c16_i32
  let c1_i32 : BitVec 32 := 1#32
  ⟨c0_i32_10, v14, c1_i32⟩
def k0_mult2 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c1_i32_23 : BitVec 32 := 1#32
  let v29 : BitVec 32 := Scalar.addi arg8 c1_i32_23
  let c15_i32 : BitVec 32 := 15#32
  let v30 : BitVec 32 := Scalar.minsi v29 c15_i32
  let c512_i32 : BitVec 32 := 512#32
  let v31 : BitVec 32 := Scalar.muli v30 c512_i32
  v31
def k0_off1 (k0_t1 : Fin k0_t1_loop.trips) : Fin 3 → Nat :=
  let c0_24 : Index := 0#32
  let c0_i32_10 : BitVec 32 := 0#32
  let c1_i32 : BitVec 32 := 1#32
  let arg8 : BitVec 32 := Scf.iv c0_i32_10 c1_i32 k0_t1
  let c1_i32_23 : BitVec 32 := 1#32
  let v29 : BitVec 32 := Scalar.addi arg8 c1_i32_23
  let c15_i32 : BitVec 32 := 15#32
  let v30 : BitVec 32 := Scalar.minsi v29 c15_i32
  let c512_i32 : BitVec 32 := 512#32
  let v31 : BitVec 32 := Scalar.muli v30 c512_i32
  let v32 : BitVec 32 := v31
  let v33 : Index := Scalar.indexCast v32
  let c0_25 : Index := 0#32
  ![0, v33.toNat, 0]
def k0_off2 (k0_t1 : Fin k0_t1_loop.trips) : Fin 4 → Nat :=
  let c0_34 : Index := 0#32
  let c0_i32_10 : BitVec 32 := 0#32
  let c1_i32 : BitVec 32 := 1#32
  let arg8 : BitVec 32 := Scf.iv c0_i32_10 c1_i32 k0_t1
  let v51 : Index := Scalar.indexCast arg8
  let c0_35 : Index := 0#32
  let c0_36 : Index := 0#32
  ![0, v51.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let c0_i32_6 : BitVec 32 := 0#32
  let c0_i32_7 : BitVec 32 := 0#32
  let c0_i32_8 : BitVec 32 := 0#32
  ![v17.toNat, c0_i32_5.toNat, c0_i32_6.toNat, c0_i32_7.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x72x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdRefIdeal.lean ====
abbrev S8192x512 : Shape := ⟨2, ![8192, 512]⟩
abbrev S8192x128 : Shape := ⟨2, ![8192, 128]⟩
abbrev S8192x2x4x64 : Shape := ⟨4, ![8192, 2, 4, 64]⟩
abbrev S8192x2x64 : Shape := ⟨3, ![8192, 2, 64]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S8x16x1x512 : Shape := ⟨4, ![8, 16, 1, 512]⟩

abbrev nBuf : Space → Nat
  | .hbm => 42
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8192x2x4x64, .f32⟩
  | .hbm, ⟨4, _⟩ => ⟨S8192x2x64, .f32⟩
  | .hbm, ⟨5, _⟩ => ⟨S2x8192x8192x4, .f32⟩
  | .hbm, ⟨6, _⟩ => ⟨S2x4x8192x8192, .f32⟩
  | .hbm, ⟨7, _⟩ => ⟨S_, .f32⟩
  | .hbm, ⟨8, _⟩ => ⟨S2x4x8192, .f32⟩
  | .hbm, ⟨9, _⟩ => ⟨S2x4x8192x1, .f32⟩
  | .hbm, ⟨10, _⟩ => ⟨S2x4x8192x8192, .f32⟩
  | .hbm, ⟨11, _⟩ => ⟨S2x4x8192x8192, .f32⟩
  | .hbm, ⟨12, _⟩ => ⟨S2x4x8192x8192, .f32⟩
  | .hbm, ⟨13, _⟩ => ⟨S_, .f32⟩
  | .hbm, ⟨14, _⟩ => ⟨S2x4x8192, .f32⟩
  | .hbm, ⟨15, _⟩ => ⟨S2x4x8192x1, .f32⟩
  | .hbm, ⟨16, _⟩ => ⟨S2x4x8192x1, .f32⟩
  | .hbm, ⟨17, _⟩ => ⟨S2x4x8192x1, .f32⟩
  | .hbm, ⟨18, _⟩ => ⟨S8192x2x4x64, .f32⟩
  | .hbm, ⟨19, _⟩ => ⟨S8192x2x64, .f32⟩
  | .hbm, ⟨20, _⟩ => ⟨S8192x2x64, .f32⟩
  | .hbm, ⟨21, _⟩ => ⟨S2x8192x8192x4, .f32⟩
  | .hbm, ⟨22, _⟩ => ⟨S2x4x8192x8192, .f32⟩
  | .hbm, ⟨23, _⟩ => ⟨S_, .f32⟩
  | .hbm, ⟨24, _⟩ => ⟨S2x4x8192, .f32⟩
  | .hbm, ⟨25, _⟩ => ⟨S_, .f32⟩
  | .hbm, ⟨26, _⟩ => ⟨S2x4x8192, .f32⟩
  | .hbm, ⟨27, _⟩ => ⟨S2x4x8192, .f32⟩
  | .hbm, ⟨28, _⟩ => ⟨S2x4x8192x1, .f32⟩
  | .hbm, ⟨29, _⟩ => ⟨S2x4x8192x8192, .f32⟩
  | .hbm, ⟨30, _⟩ => ⟨S2x4x8192x8192, .f32⟩
  | .hbm, ⟨31, _⟩ => ⟨S2x4x8192x8192, .f32⟩
  | .hbm, ⟨32, _⟩ => ⟨S_, .f32⟩
  | .hbm, ⟨33, _⟩ => ⟨S2x4x8192, .f32⟩
  | .hbm, ⟨34, _⟩ => ⟨S2x4x8192x1, .f32⟩
  | .hbm, ⟨35, _⟩ => ⟨S2x4x8192x8192, .f32⟩
  | .hbm, ⟨36, _⟩ => ⟨S2x4x8192x8192, .f32⟩
  | .hbm, ⟨37, _⟩ => ⟨S2x64x4x8192, .f32⟩
  | .hbm, ⟨38, _⟩ => ⟨S8192x2x4x64, .f32⟩
  | .hbm, ⟨39, _⟩ => ⟨S8192x512, .f32⟩
  | .hbm, ⟨40, _⟩ => ⟨S8192x512, .bf16⟩
  | .hbm, ⟨41, _⟩ => ⟨S8x16x1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Prep.lean ====
abbrev S8192x2304 : Shape := ⟨2, ![8192, 2304]⟩
abbrev S8192x768 : Shape := ⟨2, ![8192, 768]⟩
abbrev S8192x512 : Shape := ⟨2, ![8192, 512]⟩
abbrev S8192x128 : Shape := ⟨2, ![8192, 128]⟩
abbrev S8192x256 : Shape := ⟨2, ![8192, 256]⟩
abbrev S64 : Shape := ⟨1, ![64]⟩
abbrev S128x128 : Shape := ⟨2, ![128, 128]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S16 : Shape := ⟨1, ![16]⟩
abbrev S1x16 : Shape := ⟨2, ![1, 16]⟩
abbrev S8192x16 : Shape := ⟨2, ![8192, 16]⟩
abbrev S1x8192x1x64 : Shape := ⟨4, ![1, 8192, 1, 64]⟩
abbrev S1x8192x2x64 : Shape := ⟨4, ![1, 8192, 2, 64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x512 : Shape := ⟨2, ![1, 512]⟩
abbrev S256x2304 : Shape := ⟨2, ![256, 2304]⟩
abbrev S256x256 : Shape := ⟨2, ![256, 256]⟩
abbrev S256x512 : Shape := ⟨2, ![256, 512]⟩
abbrev S256x128 : Shape := ⟨2, ![256, 128]⟩
abbrev S8x64 : Shape := ⟨2, ![8, 64]⟩

abbrev nBuf : Space → Nat
  | .hbm => 159
  | .vmem => 39
  | .smem => 0
  | _ => 0

abbrev hbmTy0_0 (i : Nat) : BufTy := match i % 128 with
  | 0 => ⟨S8192x2304, .f32⟩
  | 1 => ⟨S8192x768, .f32⟩
  | 2 => ⟨S8192x512, .f32⟩
  | 3 => ⟨S8192x128, .f32⟩
  | 4 => ⟨S8192x128, .f32⟩
  | 5 => ⟨S8192x256, .f32⟩
  | 6 => ⟨S8192x256, .f32⟩
  | 7 => ⟨S8192x256, .f32⟩
  | 8 => ⟨S64, .f32⟩
  | 9 => ⟨S64, .f32⟩
  | 10 => ⟨S128x128, .f32⟩
  | 11 => ⟨S8192, .i32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S8192, .f32⟩
  | 21 => ⟨S8192x1, .f32⟩
  | 22 => ⟨S1x8, .f32⟩
  | 23 => ⟨S8192x8, .f32⟩
  | 24 => ⟨S8192x8, .f32⟩
  | 25 => ⟨S8192x8, .f32⟩
  | 26 => ⟨S8192x8, .f32⟩
  | 27 => ⟨S8192x8, .f32⟩
  | 28 => ⟨S_, .f32⟩
  | 29 => ⟨S8192x48, .f32⟩
  | 30 => ⟨S_, .f32⟩
  | 31 => ⟨S8192x48, .f32⟩
  | 32 => ⟨S_, .f32⟩
  | 33 => ⟨S8192x8, .f32⟩
  | 34 => ⟨S8192x8, .f32⟩
  | 35 => ⟨S8192x64, .f32⟩
  | 36 => ⟨S8192x64, .f32⟩
  | 37 => ⟨S8192x64, .f32⟩
  | 38 => ⟨S_, .i32⟩
  | 39 => ⟨S_, .i32⟩
  | 40 => ⟨S8192, .i32⟩
  | 41 => ⟨S8192, .i32⟩
  | 42 => ⟨S8192, .i32⟩
  | 43 => ⟨S_, .i32⟩
  | 44 => ⟨S8192, .i32⟩
  | 45 => ⟨S8192, .i1⟩
  | 46 => ⟨S8192, .i32⟩
  | 47 => ⟨S8192, .i32⟩
  | 48 => ⟨S_, .i32⟩
  | 49 => ⟨S8192, .i32⟩
  | 50 => ⟨S8192, .i1⟩
  | 51 => ⟨S8192, .i1⟩
  | 52 => ⟨S_, .i32⟩
  | 53 => ⟨S8192, .i32⟩
  | 54 => ⟨S8192, .i32⟩
  | 55 => ⟨S8192, .i32⟩
  | 56 => ⟨S16, .f32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S8192, .f32⟩
  | 65 => ⟨S8192x1, .f32⟩
  | 66 => ⟨S1x16, .f32⟩
  | 67 => ⟨S8192x16, .f32⟩
  | 68 => ⟨S8192x16, .f32⟩
  | 69 => ⟨S8192x16, .f32⟩
  | 70 => ⟨S8192x16, .f32⟩
  | 71 => ⟨S8192x16, .f32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S8192, .i32⟩
  | 79 => ⟨S8192, .i32⟩
  | 80 => ⟨S_, .i32⟩
  | 81 => ⟨S8192, .i32⟩
  | 82 => ⟨S8192, .i1⟩
  | 83 => ⟨S_, .i32⟩
  | 84 => ⟨S8192, .i32⟩
  | 85 => ⟨S8192, .i1⟩
  | 86 => ⟨S_, .i32⟩
  | 87 => ⟨S_, .i1⟩
  | 88 => ⟨S8192, .i1⟩
  | 89 => ⟨S8192, .i1⟩
  | 90 => ⟨S8192, .i1⟩
  | 91 => ⟨S8192, .i32⟩
  | 92 => ⟨S8192, .i32⟩
  | 93 => ⟨S8192, .i32⟩
  | 94 => ⟨S16, .f32⟩
  | 95 => ⟨S16, .f32⟩
  | 96 => ⟨S_, .f32⟩
  | 97 => ⟨S16, .f32⟩
  | 98 => ⟨S16, .f32⟩
  | 99 => ⟨S_, .f32⟩
  | 100 => ⟨S16, .f32⟩
  | 101 => ⟨S16, .f32⟩
  | 102 => ⟨S8192, .f32⟩
  | 103 => ⟨S8192x1, .f32⟩
  | 104 => ⟨S1x16, .f32⟩
  | 105 => ⟨S8192x16, .f32⟩
  | 106 => ⟨S8192x16, .f32⟩
  | 107 => ⟨S8192x16, .f32⟩
  | 108 => ⟨S8192x16, .f32⟩
  | 109 => ⟨S8192x16, .f32⟩
  | 110 => ⟨S_, .f32⟩
  | 111 => ⟨S8192x16, .f32⟩
  | 112 => ⟨S8192x16, .f32⟩
  | 113 => ⟨S8192x16, .f32⟩
  | 114 => ⟨S8192x64, .f32⟩
  | 115 => ⟨S8192x64, .f32⟩
  | 116 => ⟨S8192x64, .f32⟩
  | 117 => ⟨S1x8192x1x64, .f32⟩
  | 118 => ⟨S1x8192x2x64, .f32⟩
  | 119 => ⟨S8192x128, .f32⟩
  | 120 => ⟨S1x8192x1x64, .f32⟩
  | 121 => ⟨S1x8192x2x64, .f32⟩
  | 122 => ⟨S8192x128, .f32⟩
  | 123 => ⟨S1x8192x1x64, .f32⟩
  | 124 => ⟨S1x8192x2x64, .f32⟩
  | 125 => ⟨S8192x128, .f32⟩
  | 126 => ⟨S1x8192x1x64, .f32⟩
  | 127 => ⟨S1x8192x2x64, .f32⟩
  | _ => ⟨S8192x2304, .f32⟩

abbrev hbmTy0_1 (i : Nat) : BufTy := match i % 128 with
  | 0 => ⟨S8192x128, .f32⟩
  | 1 => ⟨S1x8192x1x64, .f32⟩
  | 2 => ⟨S1x8192x2x64, .f32⟩
  | 3 => ⟨S8192x128, .f32⟩
  | 4 => ⟨S1x8192x1x64, .f32⟩
  | 5 => ⟨S1x8192x2x64, .f32⟩
  | 6 => ⟨S8192x128, .f32⟩
  | 7 => ⟨S1x64, .f32⟩
  | 8 => ⟨S2x64, .f32⟩
  | 9 => ⟨S128, .f32⟩
  | 10 => ⟨S1x128, .f32⟩
  | 11 => ⟨S1x64, .f32⟩
  | 12 => ⟨S2x64, .f32⟩
  | 13 => ⟨S128, .f32⟩
  | 14 => ⟨S1x128, .f32⟩
  | 15 => ⟨S8192x768, .bf16⟩
  | 16 => ⟨S8192x512, .bf16⟩
  | 17 => ⟨S8192x128, .bf16⟩
  | 18 => ⟨S8192x128, .bf16⟩
  | 19 => ⟨S8192x256, .bf16⟩
  | 20 => ⟨S8192x256, .bf16⟩
  | 21 => ⟨S8192x256, .bf16⟩
  | 22 => ⟨S8192x2304, .bf16⟩
  | 23 => ⟨S1x512, .f32⟩
  | 24 => ⟨S1x128, .f32⟩
  | 25 => ⟨S8x64, .f32⟩
  | 26 => ⟨S_, .f32⟩
  | 27 => ⟨S64, .f32⟩
  | 28 => ⟨S2x64, .f32⟩
  | 29 => ⟨S_, .f32⟩
  | 30 => ⟨S64, .f32⟩
  | _ => ⟨S8192x2304, .f32⟩

abbrev hbmTy (i : Nat) : BufTy := match i / 128 with
  | 0 => hbmTy0_0 i
  | 1 => hbmTy0_1 i
  | _ => ⟨S8192x2304, .f32⟩

abbrev bufTy : (tb : Table) → Fin (tcTables nBuf tb) → BufTy
  | .hbm, ⟨i, _⟩ => hbmTy i
  | .local _ .vmem, ⟨0, _⟩ => ⟨S256x2304, .f32⟩
  | .local _ .vmem, ⟨1, _⟩ => ⟨S256x2304, .f32⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x512, .bf16⟩
  | .local _ .vmem, ⟨9, _⟩ => ⟨S256x512, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S256x256, .bf16⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | .local _ .vmem, ⟨18, _⟩ => ⟨S256x256, .bf16⟩
  | .local _ .vmem, ⟨19, _⟩ => ⟨S256x256, .bf16⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | .local _ .vmem, ⟨30, _⟩ => ⟨S256x128, .f32⟩
  | .local _ .vmem, ⟨31, _⟩ => ⟨S256x128, .f32⟩
  | .local _ .vmem, ⟨32, _⟩ => ⟨S1x128, .f32⟩
  | .local _ .vmem, ⟨33, _⟩ => ⟨S1x128, .f32⟩
  | .local _ .vmem, ⟨34, _⟩ => ⟨S128x128, .f32⟩
  | .local _ .vmem, ⟨35, _⟩ => ⟨S256x2304, .bf16⟩
  | .local _ .vmem, ⟨36, _⟩ => ⟨S256x2304, .bf16⟩
  | .local _ .vmem, ⟨37, _⟩ => ⟨S1x512, .f32⟩
  | .local _ .vmem, ⟨38, _⟩ => ⟨S1x128, .f32⟩
  | _, _ => ⟨S8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_5 : Ref sig .tc := ⟨.hbm, 58, rfl⟩
abbrev main_v25 : Ref sig .tc := ⟨.hbm, 59, rfl⟩
abbrev main_v26 : Ref sig .tc := ⟨.hbm, 60, rfl⟩
abbrev main_cst_6 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_c_7 : Ref sig .tc := ⟨.hbm, 72, rfl⟩
abbrev main_call1_v0 : Ref sig .tc := ⟨.hbm, 73, rfl⟩
abbrev main_call1_c : Ref sig .tc := ⟨.hbm, 74, rfl⟩
abbrev main_call1_v1 : Ref sig .tc := ⟨.hbm, 75, rfl⟩
abbrev main_call1_c_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_c_1 : Ref sig .tc := ⟨.hbm, 80, rfl⟩
abbrev main_call1_v5 : Ref sig .tc := ⟨.hbm, 81, rfl⟩
abbrev main_call1_v6 : Ref sig .tc := ⟨.hbm, 82, rfl⟩
abbrev main_call1_c_2 : Ref sig .tc := ⟨.hbm, 83, rfl⟩
abbrev main_call1_v7 : Ref sig .tc := ⟨.hbm, 84, rfl⟩
abbrev main_call1_v8 : Ref sig .tc := ⟨.hbm, 85, rfl⟩
abbrev main_call1_c_3 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_v12 : Ref sig .tc := ⟨.hbm, 90, rfl⟩
abbrev main_call1_v13 : Ref sig .tc := ⟨.hbm, 91, rfl⟩
abbrev main_call1_v14 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_cst_8 : Ref sig .tc := ⟨.hbm, 96, rfl⟩
abbrev main_v40 : Ref sig .tc := ⟨.hbm, 97, rfl⟩
abbrev main_v41 : Ref sig .tc := ⟨.hbm, 98, rfl⟩
abbrev main_cst_9 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_cst_10 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91_0 : Ref sig .tc := ⟨.hbm, 150, rfl⟩
abbrev main_v91_1 : Ref sig .tc := ⟨.hbm, 151, rfl⟩
abbrev main_v91_2 : Ref sig .tc := ⟨.hbm, 152, rfl⟩
abbrev main_v92 : Ref sig .tc := ⟨.hbm, 153, rfl⟩
abbrev main_cst_11 : Ref sig .tc := ⟨.hbm, 154, rfl⟩
abbrev main_v93 : Ref sig .tc := ⟨.hbm, 155, rfl⟩
abbrev main_v94 : Ref sig .tc := ⟨.hbm, 156, rfl⟩
abbrev main_cst_12 : Ref sig .tc := ⟨.hbm, 157, rfl⟩
abbrev main_v95 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg21_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem19_0 : DmaSem sig := 35
abbrev cc0_sem19_1 : DmaSem sig := 36
abbrev cc0_sem20_0 : DmaSem sig := 37
abbrev cc0_sem21_0 : DmaSem sig := 38

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x2304 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== PrepRefIdeal.lean ====
abbrev S8192x2304 : Shape := ⟨2, ![8192, 2304]⟩
abbrev S8192x768 : Shape := ⟨2, ![8192, 768]⟩
abbrev S8192x512 : Shape := ⟨2, ![8192, 512]⟩
abbrev S8192x128 : Shape := ⟨2, ![8192, 128]⟩
abbrev S8192x256 : Shape := ⟨2, ![8192, 256]⟩
abbrev S64 : Shape := ⟨1, ![64]⟩
abbrev S8192 : Shape := ⟨1, ![8192]⟩
abbrev S8192x4x64 : Shape := ⟨3, ![8192, 4, 64]⟩
abbrev S8192x4x16 : Shape := ⟨3, ![8192, 4, 16]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S8192x4x8 : Shape := ⟨3, ![8192, 4, 8]⟩
abbrev S8192x4x48 : Shape := ⟨3, ![8192, 4, 48]⟩
abbrev S8192x8x64 : Shape := ⟨3, ![8192, 8, 64]⟩
abbrev S8192x8x1 : Shape := ⟨3, ![8192, 8, 1]⟩
abbrev S1x1x64 : Shape := ⟨3, ![1, 1, 64]⟩
abbrev S8192x8x32 : Shape := ⟨3, ![8192, 8, 32]⟩
abbrev S16 : Shape := ⟨1, ![16]⟩
abbrev S1x16 : Shape := ⟨2, ![1, 16]⟩
abbrev S8192x16 : Shape := ⟨2, ![8192, 16]⟩
abbrev S8192x1x16 : Shape := ⟨3, ![8192, 1, 16]⟩
abbrev S8192x8x16 : Shape := ⟨3, ![8192, 8, 16]⟩
abbrev S8192x2x64 : Shape := ⟨3, ![8192, 2, 64]⟩
abbrev S8192x2 : Shape := ⟨2, ![8192, 2]⟩
abbrev S8192x2x1 : Shape := ⟨3, ![8192, 2, 1]⟩
abbrev S8192x2x32 : Shape := ⟨3, ![8192, 2, 32]⟩
abbrev S8192x2x16 : Shape := ⟨3, ![8192, 2, 16]⟩

abbrev nBuf : Space → Nat
  | .hbm => 565
  | .vmem => 0
  | .smem => 0
  | _ => 0

abbrev hbmTy0_0 (i : Nat) : BufTy := match i % 128 with
  | 0 => ⟨S8192x2304, .f32⟩
  | 1 => ⟨S8192x768, .f32⟩
  | 2 => ⟨S8192x512, .f32⟩
  | 3 => ⟨S8192x128, .f32⟩
  | 4 => ⟨S8192x128, .f32⟩
  | 5 => ⟨S8192x256, .f32⟩
  | 6 => ⟨S8192x256, .f32⟩
  | 7 => ⟨S8192x256, .f32⟩
  | 8 => ⟨S64, .f32⟩
  | 9 => ⟨S64, .f32⟩
  | 10 => ⟨S8192, .i32⟩
  | 11 => ⟨S8192x256, .f32⟩
  | 12 => ⟨S8192x256, .f32⟩
  | 13 => ⟨S8192x256, .f32⟩
  | 14 => ⟨S8192x256, .f32⟩
  | 15 => ⟨S8192x256, .f32⟩
  | 16 => ⟨S8192x256, .f32⟩
  | 17 => ⟨S8192x512, .f32⟩
  | 18 => ⟨S8192x128, .f32⟩
  | 19 => ⟨S8192x128, .f32⟩
  | 20 => ⟨S8192x256, .f32⟩
  | 21 => ⟨S8192x256, .f32⟩
  | 22 => ⟨S8192x256, .f32⟩
  | 23 => ⟨S8192x4x64, .f32⟩
  | 24 => ⟨S8192x4x16, .f32⟩
  | 25 => ⟨S8, .f32⟩
  | 26 => ⟨S8, .f32⟩
  | 27 => ⟨S_, .f32⟩
  | 28 => ⟨S8, .f32⟩
  | 29 => ⟨S8, .f32⟩
  | 30 => ⟨S_, .f32⟩
  | 31 => ⟨S8, .f32⟩
  | 32 => ⟨S8, .f32⟩
  | 33 => ⟨S8192, .f32⟩
  | 34 => ⟨S8192x1, .f32⟩
  | 35 => ⟨S1x8, .f32⟩
  | 36 => ⟨S8192x8, .f32⟩
  | 37 => ⟨S8192x8, .f32⟩
  | 38 => ⟨S8192x8, .f32⟩
  | 39 => ⟨S8192x8, .f32⟩
  | 40 => ⟨S8192x1x8, .f32⟩
  | 41 => ⟨S8192x8, .f32⟩
  | 42 => ⟨S8192x1x8, .f32⟩
  | 43 => ⟨S8192x4x8, .f32⟩
  | 44 => ⟨S8192x4x8, .f32⟩
  | 45 => ⟨S8192x4x8, .f32⟩
  | 46 => ⟨S8192x4x8, .f32⟩
  | 47 => ⟨S8192x4x8, .f32⟩
  | 48 => ⟨S8192x4x8, .f32⟩
  | 49 => ⟨S8192x4x8, .f32⟩
  | 50 => ⟨S8192x4x8, .f32⟩
  | 51 => ⟨S8192x4x8, .f32⟩
  | 52 => ⟨S8192x4x8, .f32⟩
  | 53 => ⟨S8192x4x8, .f32⟩
  | 54 => ⟨S8192x4x8, .f32⟩
  | 55 => ⟨S8192x4x16, .f32⟩
  | 56 => ⟨S8192x4x48, .f32⟩
  | 57 => ⟨S8192x4x64, .f32⟩
  | 58 => ⟨S_, .f32⟩
  | 59 => ⟨S8192x4x64, .f32⟩
  | 60 => ⟨S8192x4x64, .f32⟩
  | 61 => ⟨S8192x256, .f32⟩
  | 62 => ⟨S8192x4x64, .f32⟩
  | 63 => ⟨S8192x4x16, .f32⟩
  | 64 => ⟨S8, .f32⟩
  | 65 => ⟨S8, .f32⟩
  | 66 => ⟨S_, .f32⟩
  | 67 => ⟨S8, .f32⟩
  | 68 => ⟨S8, .f32⟩
  | 69 => ⟨S_, .f32⟩
  | 70 => ⟨S8, .f32⟩
  | 71 => ⟨S8, .f32⟩
  | 72 => ⟨S8192, .f32⟩
  | 73 => ⟨S8192x1, .f32⟩
  | 74 => ⟨S1x8, .f32⟩
  | 75 => ⟨S8192x8, .f32⟩
  | 76 => ⟨S8192x8, .f32⟩
  | 77 => ⟨S8192x8, .f32⟩
  | 78 => ⟨S8192x8, .f32⟩
  | 79 => ⟨S8192x1x8, .f32⟩
  | 80 => ⟨S8192x8, .f32⟩
  | 81 => ⟨S8192x1x8, .f32⟩
  | 82 => ⟨S8192x4x8, .f32⟩
  | 83 => ⟨S8192x4x8, .f32⟩
  | 84 => ⟨S8192x4x8, .f32⟩
  | 85 => ⟨S8192x4x8, .f32⟩
  | 86 => ⟨S8192x4x8, .f32⟩
  | 87 => ⟨S8192x4x8, .f32⟩
  | 88 => ⟨S8192x4x8, .f32⟩
  | 89 => ⟨S8192x4x8, .f32⟩
  | 90 => ⟨S8192x4x8, .f32⟩
  | 91 => ⟨S8192x4x8, .f32⟩
  | 92 => ⟨S8192x4x8, .f32⟩
  | 93 => ⟨S8192x4x8, .f32⟩
  | 94 => ⟨S8192x4x16, .f32⟩
  | 95 => ⟨S8192x4x48, .f32⟩
  | 96 => ⟨S8192x4x64, .f32⟩
  | 97 => ⟨S8192x256, .f32⟩
  | 98 => ⟨S8192x8x64, .f32⟩
  | 99 => ⟨S8192x8x64, .f32⟩
  | 100 => ⟨S_, .f32⟩
  | 101 => ⟨S8192x8x64, .f32⟩
  | 102 => ⟨S8192x8x64, .f32⟩
  | 103 => ⟨S_, .f32⟩
  | 104 => ⟨S8192x8, .f32⟩
  | 105 => ⟨S8192x8x1, .f32⟩
  | 106 => ⟨S_, .f32⟩
  | 107 => ⟨S8192x8x1, .f32⟩
  | 108 => ⟨S8192x8x1, .f32⟩
  | 109 => ⟨S_, .f32⟩
  | 110 => ⟨S8192x8x1, .f32⟩
  | 111 => ⟨S8192x8x1, .f32⟩
  | 112 => ⟨S8192x8x1, .f32⟩
  | 113 => ⟨S8192x8x1, .f32⟩
  | 114 => ⟨S_, .f32⟩
  | 115 => ⟨S8192x8x1, .f32⟩
  | 116 => ⟨S8192x8x1, .f32⟩
  | 117 => ⟨S8192x8x64, .f32⟩
  | 118 => ⟨S8192x8x64, .f32⟩
  | 119 => ⟨S1x1x64, .f32⟩
  | 120 => ⟨S8192x8x64, .f32⟩
  | 121 => ⟨S8192x8x64, .f32⟩
  | 122 => ⟨S8192x8x32, .f32⟩
  | 123 => ⟨S_, .i32⟩
  | 124 => ⟨S_, .i32⟩
  | 125 => ⟨S8192, .i32⟩
  | 126 => ⟨S8192, .i32⟩
  | 127 => ⟨S8192, .i32⟩
  | _ => ⟨S8192x2304, .f32⟩

abbrev hbmTy0_1 (i : Nat) : BufTy := match i % 128 with
  | 0 => ⟨S_, .i32⟩
  | 1 => ⟨S8192, .i32⟩
  | 2 => ⟨S8192, .i1⟩
  | 3 => ⟨S8192, .i32⟩
  | 4 => ⟨S8192, .i32⟩
  | 5 => ⟨S_, .i32⟩
  | 6 => ⟨S8192, .i32⟩
  | 7 => ⟨S8192, .i1⟩
  | 8 => ⟨S8192, .i1⟩
  | 9 => ⟨S_, .i32⟩
  | 10 => ⟨S8192, .i32⟩
  | 11 => ⟨S8192, .i32⟩
  | 12 => ⟨S8192, .i32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S8192, .f32⟩
  | 22 => ⟨S8192x1, .f32⟩
  | 23 => ⟨S1x16, .f32⟩
  | 24 => ⟨S8192x16, .f32⟩
  | 25 => ⟨S8192x16, .f32⟩
  | 26 => ⟨S8192x16, .f32⟩
  | 27 => ⟨S8192x16, .f32⟩
  | 28 => ⟨S8192x1x16, .f32⟩
  | 29 => ⟨S8192x16, .f32⟩
  | 30 => ⟨S8192x1x16, .f32⟩
  | 31 => ⟨S8192x8x16, .f32⟩
  | 32 => ⟨S8192x8x16, .f32⟩
  | 33 => ⟨S8192x8x16, .f32⟩
  | 34 => ⟨S8192x8x16, .f32⟩
  | 35 => ⟨S8192x8x16, .f32⟩
  | 36 => ⟨S8192x8x16, .f32⟩
  | 37 => ⟨S8192x8x16, .f32⟩
  | 38 => ⟨S8192x8x16, .f32⟩
  | 39 => ⟨S8192x8x16, .f32⟩
  | 40 => ⟨S8192x8x16, .f32⟩
  | 41 => ⟨S8192x8x16, .f32⟩
  | 42 => ⟨S8192x8x16, .f32⟩
  | 43 => ⟨S8192x8x32, .f32⟩
  | 44 => ⟨S8192x8x32, .f32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S8192, .i32⟩
  | 52 => ⟨S8192, .i32⟩
  | 53 => ⟨S_, .i32⟩
  | 54 => ⟨S8192, .i32⟩
  | 55 => ⟨S8192, .i1⟩
  | 56 => ⟨S_, .i32⟩
  | 57 => ⟨S8192, .i32⟩
  | 58 => ⟨S8192, .i1⟩
  | 59 => ⟨S_, .i32⟩
  | 60 => ⟨S_, .i1⟩
  | 61 => ⟨S8192, .i1⟩
  | 62 => ⟨S8192, .i1⟩
  | 63 => ⟨S8192, .i1⟩
  | 64 => ⟨S8192, .i32⟩
  | 65 => ⟨S8192, .i32⟩
  | 66 => ⟨S8192, .i32⟩
  | 67 => ⟨S16, .f32⟩
  | 68 => ⟨S16, .f32⟩
  | 69 => ⟨S_, .f32⟩
  | 70 => ⟨S16, .f32⟩
  | 71 => ⟨S16, .f32⟩
  | 72 => ⟨S_, .f32⟩
  | 73 => ⟨S16, .f32⟩
  | 74 => ⟨S16, .f32⟩
  | 75 => ⟨S8192, .f32⟩
  | 76 => ⟨S8192x1, .f32⟩
  | 77 => ⟨S1x16, .f32⟩
  | 78 => ⟨S8192x16, .f32⟩
  | 79 => ⟨S8192x16, .f32⟩
  | 80 => ⟨S8192x16, .f32⟩
  | 81 => ⟨S8192x16, .f32⟩
  | 82 => ⟨S8192x1x16, .f32⟩
  | 83 => ⟨S8192x16, .f32⟩
  | 84 => ⟨S8192x1x16, .f32⟩
  | 85 => ⟨S8192x8x16, .f32⟩
  | 86 => ⟨S8192x8x16, .f32⟩
  | 87 => ⟨S8192x8x16, .f32⟩
  | 88 => ⟨S8192x8x16, .f32⟩
  | 89 => ⟨S8192x8x16, .f32⟩
  | 90 => ⟨S8192x8x16, .f32⟩
  | 91 => ⟨S8192x8x16, .f32⟩
  | 92 => ⟨S8192x8x16, .f32⟩
  | 93 => ⟨S8192x8x16, .f32⟩
  | 94 => ⟨S8192x8x16, .f32⟩
  | 95 => ⟨S8192x8x16, .f32⟩
  | 96 => ⟨S8192x8x16, .f32⟩
  | 97 => ⟨S8192x8x32, .f32⟩
  | 98 => ⟨S8192x8x64, .f32⟩
  | 99 => ⟨S_, .f32⟩
  | 100 => ⟨S8192x8x64, .f32⟩
  | 101 => ⟨S8192x8x64, .f32⟩
  | 102 => ⟨S8192x512, .f32⟩
  | 103 => ⟨S8192x2x64, .f32⟩
  | 104 => ⟨S8192x2x64, .f32⟩
  | 105 => ⟨S_, .f32⟩
  | 106 => ⟨S8192x2x64, .f32⟩
  | 107 => ⟨S8192x2x64, .f32⟩
  | 108 => ⟨S_, .f32⟩
  | 109 => ⟨S8192x2, .f32⟩
  | 110 => ⟨S8192x2x1, .f32⟩
  | 111 => ⟨S_, .f32⟩
  | 112 => ⟨S8192x2x1, .f32⟩
  | 113 => ⟨S8192x2x1, .f32⟩
  | 114 => ⟨S_, .f32⟩
  | 115 => ⟨S8192x2x1, .f32⟩
  | 116 => ⟨S8192x2x1, .f32⟩
  | 117 => ⟨S8192x2x1, .f32⟩
  | 118 => ⟨S8192x2x1, .f32⟩
  | 119 => ⟨S_, .f32⟩
  | 120 => ⟨S8192x2x1, .f32⟩
  | 121 => ⟨S8192x2x1, .f32⟩
  | 122 => ⟨S8192x2x64, .f32⟩
  | 123 => ⟨S8192x2x64, .f32⟩
  | 124 => ⟨S1x1x64, .f32⟩
  | 125 => ⟨S8192x2x64, .f32⟩
  | 126 => ⟨S8192x2x64, .f32⟩
  | 127 => ⟨S8192x2x32, .f32⟩
  | _ => ⟨S8192x2304, .f32⟩

abbrev hbmTy0_2 (i : Nat) : BufTy := match i % 128 with
  | 0 => ⟨S_, .i32⟩
  | 1 => ⟨S_, .i32⟩
  | 2 => ⟨S8192, .i32⟩
  | 3 => ⟨S8192, .i32⟩
  | 4 => ⟨S8192, .i32⟩
  | 5 => ⟨S_, .i32⟩
  | 6 => ⟨S8192, .i32⟩
  | 7 => ⟨S8192, .i1⟩
  | 8 => ⟨S8192, .i32⟩
  | 9 => ⟨S8192, .i32⟩
  | 10 => ⟨S_, .i32⟩
  | 11 => ⟨S8192, .i32⟩
  | 12 => ⟨S8192, .i1⟩
  | 13 => ⟨S8192, .i1⟩
  | 14 => ⟨S_, .i32⟩
  | 15 => ⟨S8192, .i32⟩
  | 16 => ⟨S8192, .i32⟩
  | 17 => ⟨S8192, .i32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S8192, .f32⟩
  | 27 => ⟨S8192x1, .f32⟩
  | 28 => ⟨S1x16, .f32⟩
  | 29 => ⟨S8192x16, .f32⟩
  | 30 => ⟨S8192x16, .f32⟩
  | 31 => ⟨S8192x16, .f32⟩
  | 32 => ⟨S8192x16, .f32⟩
  | 33 => ⟨S8192x1x16, .f32⟩
  | 34 => ⟨S8192x16, .f32⟩
  | 35 => ⟨S8192x1x16, .f32⟩
  | 36 => ⟨S8192x2x16, .f32⟩
  | 37 => ⟨S8192x2x16, .f32⟩
  | 38 => ⟨S8192x2x16, .f32⟩
  | 39 => ⟨S8192x2x16, .f32⟩
  | 40 => ⟨S8192x2x16, .f32⟩
  | 41 => ⟨S8192x2x16, .f32⟩
  | 42 => ⟨S8192x2x16, .f32⟩
  | 43 => ⟨S8192x2x16, .f32⟩
  | 44 => ⟨S8192x2x16, .f32⟩
  | 45 => ⟨S8192x2x16, .f32⟩
  | 46 => ⟨S8192x2x16, .f32⟩
  | 47 => ⟨S8192x2x16, .f32⟩
  | 48 => ⟨S8192x2x32, .f32⟩
  | 49 => ⟨S8192x2x32, .f32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S8192, .i32⟩
  | 57 => ⟨S8192, .i32⟩
  | 58 => ⟨S_, .i32⟩
  | 59 => ⟨S8192, .i32⟩
  | 60 => ⟨S8192, .i1⟩
  | 61 => ⟨S_, .i32⟩
  | 62 => ⟨S8192, .i32⟩
  | 63 => ⟨S8192, .i1⟩
  | 64 => ⟨S_, .i32⟩
  | 65 => ⟨S_, .i1⟩
  | 66 => ⟨S8192, .i1⟩
  | 67 => ⟨S8192, .i1⟩
  | 68 => ⟨S8192, .i1⟩
  | 69 => ⟨S8192, .i32⟩
  | 70 => ⟨S8192, .i32⟩
  | 71 => ⟨S8192, .i32⟩
  | 72 => ⟨S16, .f32⟩
  | 73 => ⟨S16, .f32⟩
  | 74 => ⟨S_, .f32⟩
  | 75 => ⟨S16, .f32⟩
  | 76 => ⟨S16, .f32⟩
  | 77 => ⟨S_, .f32⟩
  | 78 => ⟨S16, .f32⟩
  | 79 => ⟨S16, .f32⟩
  | 80 => ⟨S8192, .f32⟩
  | 81 => ⟨S8192x1, .f32⟩
  | 82 => ⟨S1x16, .f32⟩
  | 83 => ⟨S8192x16, .f32⟩
  | 84 => ⟨S8192x16, .f32⟩
  | 85 => ⟨S8192x16, .f32⟩
  | 86 => ⟨S8192x16, .f32⟩
  | 87 => ⟨S8192x1x16, .f32⟩
  | 88 => ⟨S8192x16, .f32⟩
  | 89 => ⟨S8192x1x16, .f32⟩
  | 90 => ⟨S8192x2x16, .f32⟩
  | 91 => ⟨S8192x2x16, .f32⟩
  | 92 => ⟨S8192x2x16, .f32⟩
  | 93 => ⟨S8192x2x16, .f32⟩
  | 94 => ⟨S8192x2x16, .f32⟩
  | 95 => ⟨S8192x2x16, .f32⟩
  | 96 => ⟨S8192x2x16, .f32⟩
  | 97 => ⟨S8192x2x16, .f32⟩
  | 98 => ⟨S8192x2x16, .f32⟩
  | 99 => ⟨S8192x2x16, .f32⟩
  | 100 => ⟨S8192x2x16, .f32⟩
  | 101 => ⟨S8192x2x16, .f32⟩
  | 102 => ⟨S8192x2x32, .f32⟩
  | 103 => ⟨S8192x2x64, .f32⟩
  | 104 => ⟨S8192x128, .f32⟩
  | 105 => ⟨S_, .f32⟩
  | 106 => ⟨S8192x256, .f32⟩
  | 107 => ⟨S8192x256, .f32⟩
  | 108 => ⟨S_, .f32⟩
  | 109 => ⟨S8192x256, .f32⟩
  | 110 => ⟨S8192x256, .f32⟩
  | 111 => ⟨S8192x2x64, .f32⟩
  | 112 => ⟨S8192x2x32, .f32⟩
  | 113 => ⟨S8192x2x32, .f32⟩
  | 114 => ⟨S8192x2x16, .f32⟩
  | 115 => ⟨S8192x2x16, .f32⟩
  | 116 => ⟨S8192x2x16, .f32⟩
  | 117 => ⟨S8192x2x16, .f32⟩
  | 118 => ⟨S8192x2x16, .f32⟩
  | 119 => ⟨S8192x2x16, .f32⟩
  | 120 => ⟨S8192x2x16, .f32⟩
  | 121 => ⟨S8192x2x16, .f32⟩
  | 122 => ⟨S8192x2x16, .f32⟩
  | 123 => ⟨S8192x2x16, .f32⟩
  | 124 => ⟨S8192x2x16, .f32⟩
  | 125 => ⟨S8192x2x16, .f32⟩
  | 126 => ⟨S8192x2x16, .f32⟩
  | 127 => ⟨S_, .f32⟩
  | _ => ⟨S8192x2304, .f32⟩

abbrev hbmTy0_3 (i : Nat) : BufTy := match i % 128 with
  | 0 => ⟨S8192x2x32, .f32⟩
  | 1 => ⟨S_, .f32⟩
  | 2 => ⟨S8192x2x32, .f32⟩
  | 3 => ⟨S8192x2x32, .f32⟩
  | 4 => ⟨S_, .f32⟩
  | 5 => ⟨S8192x2x64, .f32⟩
  | 6 => ⟨S8192x2x16, .f32⟩
  | 7 => ⟨S8192x2x16, .f32⟩
  | 8 => ⟨S8192x2x16, .f32⟩
  | 9 => ⟨S8192x2x16, .f32⟩
  | 10 => ⟨S8192x2x16, .f32⟩
  | 11 => ⟨S8192x2x16, .f32⟩
  | 12 => ⟨S8192x2x16, .f32⟩
  | 13 => ⟨S8192x2x16, .f32⟩
  | 14 => ⟨S8192x2x16, .f32⟩
  | 15 => ⟨S8192x2x16, .f32⟩
  | 16 => ⟨S8192x2x16, .f32⟩
  | 17 => ⟨S8192x2x16, .f32⟩
  | 18 => ⟨S8192x2x16, .f32⟩
  | 19 => ⟨S_, .f32⟩
  | 20 => ⟨S8192x2x32, .f32⟩
  | 21 => ⟨S_, .f32⟩
  | 22 => ⟨S8192x2x32, .f32⟩
  | 23 => ⟨S8192x2x32, .f32⟩
  | 24 => ⟨S_, .f32⟩
  | 25 => ⟨S8192x2x64, .f32⟩
  | 26 => ⟨S8192x2x64, .f32⟩
  | 27 => ⟨S8192x2x64, .f32⟩
  | 28 => ⟨S_, .f32⟩
  | 29 => ⟨S64, .f32⟩
  | 30 => ⟨S1x1x64, .f32⟩
  | 31 => ⟨S8192x2x64, .f32⟩
  | 32 => ⟨S8192x2x64, .f32⟩
  | 33 => ⟨S_, .f32⟩
  | 34 => ⟨S64, .f32⟩
  | 35 => ⟨S8192x2x64, .f32⟩
  | 36 => ⟨S_, .f32⟩
  | 37 => ⟨S8192x2, .f32⟩
  | 38 => ⟨S8192x2x1, .f32⟩
  | 39 => ⟨S8192x2x64, .f32⟩
  | 40 => ⟨S8192x2x64, .f32⟩
  | 41 => ⟨S8192x2x1, .f32⟩
  | 42 => ⟨S_, .f32⟩
  | 43 => ⟨S8192x2x1, .f32⟩
  | 44 => ⟨S8192x2x1, .f32⟩
  | 45 => ⟨S_, .f32⟩
  | 46 => ⟨S8192x2, .f32⟩
  | 47 => ⟨S8192x2x64, .f32⟩
  | 48 => ⟨S8192x2x64, .f32⟩
  | 49 => ⟨S8192x2x64, .f32⟩
  | 50 => ⟨S8192x128, .f32⟩
  | 51 => ⟨S8192x8x64, .f32⟩
  | 52 => ⟨S_, .f32⟩
  | 53 => ⟨S8192x8x64, .f32⟩
  | 54 => ⟨S8192x8x64, .f32⟩
  | 55 => ⟨S8192x8x32, .f32⟩
  | 56 => ⟨S8192x8x32, .f32⟩
  | 57 => ⟨S8192x8x16, .f32⟩
  | 58 => ⟨S8192x8x16, .f32⟩
  | 59 => ⟨S8192x8x16, .f32⟩
  | 60 => ⟨S8192x8x16, .f32⟩
  | 61 => ⟨S8192x8x16, .f32⟩
  | 62 => ⟨S8192x8x16, .f32⟩
  | 63 => ⟨S8192x8x16, .f32⟩
  | 64 => ⟨S8192x8x16, .f32⟩
  | 65 => ⟨S8192x8x16, .f32⟩
  | 66 => ⟨S8192x8x16, .f32⟩
  | 67 => ⟨S8192x8x16, .f32⟩
  | 68 => ⟨S8192x8x16, .f32⟩
  | 69 => ⟨S8192x8x16, .f32⟩
  | 70 => ⟨S_, .f32⟩
  | 71 => ⟨S8192x8x32, .f32⟩
  | 72 => ⟨S_, .f32⟩
  | 73 => ⟨S8192x8x32, .f32⟩
  | 74 => ⟨S8192x8x32, .f32⟩
  | 75 => ⟨S_, .f32⟩
  | 76 => ⟨S8192x8x64, .f32⟩
  | 77 => ⟨S8192x8x16, .f32⟩
  | 78 => ⟨S8192x8x16, .f32⟩
  | 79 => ⟨S8192x8x16, .f32⟩
  | 80 => ⟨S8192x8x16, .f32⟩
  | 81 => ⟨S8192x8x16, .f32⟩
  | 82 => ⟨S8192x8x16, .f32⟩
  | 83 => ⟨S8192x8x16, .f32⟩
  | 84 => ⟨S8192x8x16, .f32⟩
  | 85 => ⟨S8192x8x16, .f32⟩
  | 86 => ⟨S8192x8x16, .f32⟩
  | 87 => ⟨S8192x8x16, .f32⟩
  | 88 => ⟨S8192x8x16, .f32⟩
  | 89 => ⟨S8192x8x16, .f32⟩
  | 90 => ⟨S_, .f32⟩
  | 91 => ⟨S8192x8x32, .f32⟩
  | 92 => ⟨S_, .f32⟩
  | 93 => ⟨S8192x8x32, .f32⟩
  | 94 => ⟨S8192x8x32, .f32⟩
  | 95 => ⟨S_, .f32⟩
  | 96 => ⟨S8192x8x64, .f32⟩
  | 97 => ⟨S8192x8x64, .f32⟩
  | 98 => ⟨S8192x8x64, .f32⟩
  | 99 => ⟨S_, .f32⟩
  | 100 => ⟨S64, .f32⟩
  | 101 => ⟨S1x1x64, .f32⟩
  | 102 => ⟨S8192x8x64, .f32⟩
  | 103 => ⟨S8192x8x64, .f32⟩
  | 104 => ⟨S_, .f32⟩
  | 105 => ⟨S64, .f32⟩
  | 106 => ⟨S8192x8x64, .f32⟩
  | 107 => ⟨S_, .f32⟩
  | 108 => ⟨S8192x8, .f32⟩
  | 109 => ⟨S8192x8x1, .f32⟩
  | 110 => ⟨S8192x8x64, .f32⟩
  | 111 => ⟨S8192x8x64, .f32⟩
  | 112 => ⟨S8192x8x1, .f32⟩
  | 113 => ⟨S_, .f32⟩
  | 114 => ⟨S8192x8x1, .f32⟩
  | 115 => ⟨S8192x8x1, .f32⟩
  | 116 => ⟨S_, .f32⟩
  | 117 => ⟨S8192x8, .f32⟩
  | 118 => ⟨S8192x8x64, .f32⟩
  | 119 => ⟨S8192x8x64, .f32⟩
  | 120 => ⟨S8192x8x64, .f32⟩
  | 121 => ⟨S8192x512, .f32⟩
  | 122 => ⟨S8192x4x64, .f32⟩
  | 123 => ⟨S8192x4x16, .f32⟩
  | 124 => ⟨S8192x4x48, .f32⟩
  | 125 => ⟨S_, .f32⟩
  | 126 => ⟨S8192x4x64, .f32⟩
  | 127 => ⟨S8192x4x8, .f32⟩
  | _ => ⟨S8192x2304, .f32⟩

abbrev hbmTy0_4 (i : Nat) : BufTy := match i % 128 with
  | 0 => ⟨S8192x4x8, .f32⟩
  | 1 => ⟨S8192x4x8, .f32⟩
  | 2 => ⟨S8192x4x8, .f32⟩
  | 3 => ⟨S8192x4x8, .f32⟩
  | 4 => ⟨S8192x4x8, .f32⟩
  | 5 => ⟨S8192x4x8, .f32⟩
  | 6 => ⟨S8192x4x8, .f32⟩
  | 7 => ⟨S8192x4x8, .f32⟩
  | 8 => ⟨S8192x4x8, .f32⟩
  | 9 => ⟨S8192x4x8, .f32⟩
  | 10 => ⟨S8192x4x8, .f32⟩
  | 11 => ⟨S8192x4x8, .f32⟩
  | 12 => ⟨S_, .f32⟩
  | 13 => ⟨S8192x4x16, .f32⟩
  | 14 => ⟨S_, .f32⟩
  | 15 => ⟨S8192x4x16, .f32⟩
  | 16 => ⟨S8192x4x16, .f32⟩
  | 17 => ⟨S_, .f32⟩
  | 18 => ⟨S8192x4x64, .f32⟩
  | 19 => ⟨S8192x4x64, .f32⟩
  | 20 => ⟨S8192x256, .f32⟩
  | 21 => ⟨S8192x4x64, .f32⟩
  | 22 => ⟨S_, .f32⟩
  | 23 => ⟨S8192x4x64, .f32⟩
  | 24 => ⟨S8192x4x64, .f32⟩
  | 25 => ⟨S8192x4x16, .f32⟩
  | 26 => ⟨S8192x4x48, .f32⟩
  | 27 => ⟨S_, .f32⟩
  | 28 => ⟨S8192x4x64, .f32⟩
  | 29 => ⟨S8192x4x8, .f32⟩
  | 30 => ⟨S8192x4x8, .f32⟩
  | 31 => ⟨S8192x4x8, .f32⟩
  | 32 => ⟨S8192x4x8, .f32⟩
  | 33 => ⟨S8192x4x8, .f32⟩
  | 34 => ⟨S8192x4x8, .f32⟩
  | 35 => ⟨S8192x4x8, .f32⟩
  | 36 => ⟨S8192x4x8, .f32⟩
  | 37 => ⟨S8192x4x8, .f32⟩
  | 38 => ⟨S8192x4x8, .f32⟩
  | 39 => ⟨S8192x4x8, .f32⟩
  | 40 => ⟨S8192x4x8, .f32⟩
  | 41 => ⟨S8192x4x8, .f32⟩
  | 42 => ⟨S_, .f32⟩
  | 43 => ⟨S8192x4x16, .f32⟩
  | 44 => ⟨S_, .f32⟩
  | 45 => ⟨S8192x4x16, .f32⟩
  | 46 => ⟨S8192x4x16, .f32⟩
  | 47 => ⟨S_, .f32⟩
  | 48 => ⟨S8192x4x64, .f32⟩
  | 49 => ⟨S8192x4x64, .f32⟩
  | 50 => ⟨S8192x256, .f32⟩
  | 51 => ⟨S8192x2304, .f32⟩
  | 52 => ⟨S8192x2304, .bf16⟩
  | _ => ⟨S8192x2304, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x2304, .f32⟩

abbrev bufTy : (tb : Table) → Fin (tcTables nBuf tb) → BufTy
  | .hbm, ⟨i, _⟩ => hbmTy i
  | _, _ => ⟨S8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_1 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_2 : Ref sig .tc := ⟨.hbm, 66, rfl⟩
abbrev main_v53 : Ref sig .tc := ⟨.hbm, 67, rfl⟩
abbrev main_v54 : Ref sig .tc := ⟨.hbm, 68, rfl⟩
abbrev main_cst_3 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_cst_4 : Ref sig .tc := ⟨.hbm, 100, rfl⟩
abbrev main_v85 : Ref sig .tc := ⟨.hbm, 101, rfl⟩
abbrev main_v86 : Ref sig .tc := ⟨.hbm, 102, rfl⟩
abbrev main_cst_5 : Ref sig .tc := ⟨.hbm, 103, rfl⟩
abbrev main_v87 : Ref sig .tc := ⟨.hbm, 104, rfl⟩
abbrev main_v88 : Ref sig .tc := ⟨.hbm, 105, rfl⟩
abbrev main_cst_6 : Ref sig .tc := ⟨.hbm, 106, rfl⟩
abbrev main_v89 : Ref sig .tc := ⟨.hbm, 107, rfl⟩
abbrev main_v90 : Ref sig .tc := ⟨.hbm, 108, rfl⟩
abbrev main_cst_7 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_cst_8 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_c : Ref sig .tc := ⟨.hbm, 123, rfl⟩
abbrev main_call0_v0 : Ref sig .tc := ⟨.hbm, 124, rfl⟩
abbrev main_call0_v1 : Ref sig .tc := ⟨.hbm, 125, rfl⟩
abbrev main_call0_v2 : Ref sig .tc := ⟨.hbm, 126, rfl⟩
abbrev main_call0_v3 : Ref sig .tc := ⟨.hbm, 127, rfl⟩
abbrev main_call0_v4 : Ref sig .tc := ⟨.hbm, 128, rfl⟩
abbrev main_call0_v5 : Ref sig .tc := ⟨.hbm, 129, rfl⟩
abbrev main_call0_v6 : Ref sig .tc := ⟨.hbm, 130, rfl⟩
abbrev main_call0_v7 : Ref sig .tc := ⟨.hbm, 131, rfl⟩
abbrev main_call0_v8 : Ref sig .tc := ⟨.hbm, 132, rfl⟩
abbrev main_call0_c : Ref sig .tc := ⟨.hbm, 133, rfl⟩
abbrev main_call0_v9 : Ref sig .tc := ⟨.hbm, 134, rfl⟩
abbrev main_call0_v10 : Ref sig .tc := ⟨.hbm, 135, rfl⟩
abbrev main_call0_v11 : Ref sig .tc := ⟨.hbm, 136, rfl⟩
abbrev main_call0_c_0 : Ref sig .tc := ⟨.hbm, 137, rfl⟩
abbrev main_call0_v12 : Ref sig .tc := ⟨.hbm, 138, rfl⟩
abbrev main_call0_v13 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_9 : Ref sig .tc := ⟨.hbm, 143, rfl⟩
abbrev main_v106 : Ref sig .tc := ⟨.hbm, 144, rfl⟩
abbrev main_v107 : Ref sig .tc := ⟨.hbm, 145, rfl⟩
abbrev main_cst_10 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_c_11 : Ref sig .tc := ⟨.hbm, 173, rfl⟩
abbrev main_call1_v0 : Ref sig .tc := ⟨.hbm, 174, rfl⟩
abbrev main_call1_c : Ref sig .tc := ⟨.hbm, 175, rfl⟩
abbrev main_call1_v1 : Ref sig .tc := ⟨.hbm, 176, rfl⟩
abbrev main_call1_c_0 : Ref sig .tc := ⟨.hbm, 177, rfl⟩
abbrev main_call1_v2 : Ref sig .tc := ⟨.hbm, 178, rfl⟩
abbrev main_call1_v3 : Ref sig .tc := ⟨.hbm, 179, rfl⟩
abbrev main_call1_v4 : Ref sig .tc := ⟨.hbm, 180, rfl⟩
abbrev main_call1_c_1 : Ref sig .tc := ⟨.hbm, 181, rfl⟩
abbrev main_call1_v5 : Ref sig .tc := ⟨.hbm, 182, rfl⟩
abbrev main_call1_v6 : Ref sig .tc := ⟨.hbm, 183, rfl⟩
abbrev main_call1_c_2 : Ref sig .tc := ⟨.hbm, 184, rfl⟩
abbrev main_call1_v7 : Ref sig .tc := ⟨.hbm, 185, rfl⟩
abbrev main_call1_v8 : Ref sig .tc := ⟨.hbm, 186, rfl⟩
abbrev main_call1_c_3 : Ref sig .tc := ⟨.hbm, 187, rfl⟩
abbrev main_call1_v9 : Ref sig .tc := ⟨.hbm, 188, rfl⟩
abbrev main_call1_v10 : Ref sig .tc := ⟨.hbm, 189, rfl⟩
abbrev main_call1_v11 : Ref sig .tc := ⟨.hbm, 190, rfl⟩
abbrev main_call1_v12 : Ref sig .tc := ⟨.hbm, 191, rfl⟩
abbrev main_call1_v13 : Ref sig .tc := ⟨.hbm, 192, rfl⟩
abbrev main_call1_v14 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_cst_12 : Ref sig .tc := ⟨.hbm, 197, rfl⟩
abbrev main_v137 : Ref sig .tc := ⟨.hbm, 198, rfl⟩
abbrev main_v138 : Ref sig .tc := ⟨.hbm, 199, rfl⟩
abbrev main_cst_13 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_cst_14 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_cst_15 : Ref sig .tc := ⟨.hbm, 233, rfl⟩
abbrev main_v170 : Ref sig .tc := ⟨.hbm, 234, rfl⟩
abbrev main_v171 : Ref sig .tc := ⟨.hbm, 235, rfl⟩
abbrev main_cst_16 : Ref sig .tc := ⟨.hbm, 236, rfl⟩
abbrev main_v172 : Ref sig .tc := ⟨.hbm, 237, rfl⟩
abbrev main_v173 : Ref sig .tc := ⟨.hbm, 238, rfl⟩
abbrev main_cst_17 : Ref sig .tc := ⟨.hbm, 239, rfl⟩
abbrev main_v174 : Ref sig .tc := ⟨.hbm, 240, rfl⟩
abbrev main_v175 : Ref sig .tc := ⟨.hbm, 241, rfl⟩
abbrev main_cst_18 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_cst_19 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_c_20 : Ref sig .tc := ⟨.hbm, 256, rfl⟩
abbrev main_call2_v0 : Ref sig .tc := ⟨.hbm, 257, rfl⟩
abbrev main_call2_v1 : Ref sig .tc := ⟨.hbm, 258, rfl⟩
abbrev main_call2_v2 : Ref sig .tc := ⟨.hbm, 259, rfl⟩
abbrev main_call2_v3 : Ref sig .tc := ⟨.hbm, 260, rfl⟩
abbrev main_call2_v4 : Ref sig .tc := ⟨.hbm, 261, rfl⟩
abbrev main_call2_v5 : Ref sig .tc := ⟨.hbm, 262, rfl⟩
abbrev main_call2_v6 : Ref sig .tc := ⟨.hbm, 263, rfl⟩
abbrev main_call2_v7 : Ref sig .tc := ⟨.hbm, 264, rfl⟩
abbrev main_call2_v8 : Ref sig .tc := ⟨.hbm, 265, rfl⟩
abbrev main_call2_c : Ref sig .tc := ⟨.hbm, 266, rfl⟩
abbrev main_call2_v9 : Ref sig .tc := ⟨.hbm, 267, rfl⟩
abbrev main_call2_v10 : Ref sig .tc := ⟨.hbm, 268, rfl⟩
abbrev main_call2_v11 : Ref sig .tc := ⟨.hbm, 269, rfl⟩
abbrev main_call2_c_0 : Ref sig .tc := ⟨.hbm, 270, rfl⟩
abbrev main_call2_v12 : Ref sig .tc := ⟨.hbm, 271, rfl⟩
abbrev main_call2_v13 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_cst_21 : Ref sig .tc := ⟨.hbm, 276, rfl⟩
abbrev main_v191 : Ref sig .tc := ⟨.hbm, 277, rfl⟩
abbrev main_v192 : Ref sig .tc := ⟨.hbm, 278, rfl⟩
abbrev main_cst_22 : Ref sig .tc := ⟨.hbm, 279, rfl⟩
abbrev main_v193 : Ref sig .tc := ⟨.hbm, 280, rfl⟩
abbrev main_v194 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_v200 : Ref sig .tc := ⟨.hbm, 287, rfl⟩
abbrev main_v201 : Ref sig .tc := ⟨.hbm, 288, rfl⟩
abbrev main_v202 : Ref sig .tc := ⟨.hbm, 289, rfl⟩
abbrev main_v203 : Ref sig .tc := ⟨.hbm, 290, rfl⟩
abbrev main_v204 : Ref sig .tc := ⟨.hbm, 291, rfl⟩
abbrev main_v205 : Ref sig .tc := ⟨.hbm, 292, rfl⟩
abbrev main_v206 : Ref sig .tc := ⟨.hbm, 293, rfl⟩
abbrev main_v207 : Ref sig .tc := ⟨.hbm, 294, rfl⟩
abbrev main_v208 : Ref sig .tc := ⟨.hbm, 295, rfl⟩
abbrev main_v209 : Ref sig .tc := ⟨.hbm, 296, rfl⟩
abbrev main_v210 : Ref sig .tc := ⟨.hbm, 297, rfl⟩
abbrev main_v211 : Ref sig .tc := ⟨.hbm, 298, rfl⟩
abbrev main_v212 : Ref sig .tc := ⟨.hbm, 299, rfl⟩
abbrev main_v213 : Ref sig .tc := ⟨.hbm, 300, rfl⟩
abbrev main_v214 : Ref sig .tc := ⟨.hbm, 301, rfl⟩
abbrev main_v215 : Ref sig .tc := ⟨.hbm, 302, rfl⟩
abbrev main_v216 : Ref sig .tc := ⟨.hbm, 303, rfl⟩
abbrev main_v217 : Ref sig .tc := ⟨.hbm, 304, rfl⟩
abbrev main_v218 : Ref sig .tc := ⟨.hbm, 305, rfl⟩
abbrev main_c_23 : Ref sig .tc := ⟨.hbm, 306, rfl⟩
abbrev main_call3_v0 : Ref sig .tc := ⟨.hbm, 307, rfl⟩
abbrev main_call3_c : Ref sig .tc := ⟨.hbm, 308, rfl⟩
abbrev main_call3_v1 : Ref sig .tc := ⟨.hbm, 309, rfl⟩
abbrev main_call3_c_0 : Ref sig .tc := ⟨.hbm, 310, rfl⟩
abbrev main_call3_v2 : Ref sig .tc := ⟨.hbm, 311, rfl⟩
abbrev main_call3_v3 : Ref sig .tc := ⟨.hbm, 312, rfl⟩
abbrev main_call3_v4 : Ref sig .tc := ⟨.hbm, 313, rfl⟩
abbrev main_call3_c_1 : Ref sig .tc := ⟨.hbm, 314, rfl⟩
abbrev main_call3_v5 : Ref sig .tc := ⟨.hbm, 315, rfl⟩
abbrev main_call3_v6 : Ref sig .tc := ⟨.hbm, 316, rfl⟩
abbrev main_call3_c_2 : Ref sig .tc := ⟨.hbm, 317, rfl⟩
abbrev main_call3_v7 : Ref sig .tc := ⟨.hbm, 318, rfl⟩
abbrev main_call3_v8 : Ref sig .tc := ⟨.hbm, 319, rfl⟩
abbrev main_call3_c_3 : Ref sig .tc := ⟨.hbm, 320, rfl⟩
abbrev main_call3_v9 : Ref sig .tc := ⟨.hbm, 321, rfl⟩
abbrev main_call3_v10 : Ref sig .tc := ⟨.hbm, 322, rfl⟩
abbrev main_call3_v11 : Ref sig .tc := ⟨.hbm, 323, rfl⟩
abbrev main_call3_v12 : Ref sig .tc := ⟨.hbm, 324, rfl⟩
abbrev main_call3_v13 : Ref sig .tc := ⟨.hbm, 325, rfl⟩
abbrev main_call3_v14 : Ref sig .tc := ⟨.hbm, 326, rfl⟩
abbrev main_v219 : Ref sig .tc := ⟨.hbm, 327, rfl⟩
abbrev main_v220 : Ref sig .tc := ⟨.hbm, 328, rfl⟩
abbrev main_v221 : Ref sig .tc := ⟨.hbm, 329, rfl⟩
abbrev main_cst_24 : Ref sig .tc := ⟨.hbm, 330, rfl⟩
abbrev main_v222 : Ref sig .tc := ⟨.hbm, 331, rfl⟩
abbrev main_v223 : Ref sig .tc := ⟨.hbm, 332, rfl⟩
abbrev main_cst_25 : Ref sig .tc := ⟨.hbm, 333, rfl⟩
abbrev main_v224 : Ref sig .tc := ⟨.hbm, 334, rfl⟩
abbrev main_v225 : Ref sig .tc := ⟨.hbm, 335, rfl⟩
abbrev main_v226 : Ref sig .tc := ⟨.hbm, 336, rfl⟩
abbrev main_v227 : Ref sig .tc := ⟨.hbm, 337, rfl⟩
abbrev main_v228 : Ref sig .tc := ⟨.hbm, 338, rfl⟩
abbrev main_v229 : Ref sig .tc := ⟨.hbm, 339, rfl⟩
abbrev main_v230 : Ref sig .tc := ⟨.hbm, 340, rfl⟩
abbrev main_v231 : Ref sig .tc := ⟨.hbm, 341, rfl⟩
abbrev main_v232 : Ref sig .tc := ⟨.hbm, 342, rfl⟩
abbrev main_v233 : Ref sig .tc := ⟨.hbm, 343, rfl⟩
abbrev main_v234 : Ref sig .tc := ⟨.hbm, 344, rfl⟩
abbrev main_v235 : Ref sig .tc := ⟨.hbm, 345, rfl⟩
abbrev main_v236 : Ref sig .tc := ⟨.hbm, 346, rfl⟩
abbrev main_v237 : Ref sig .tc := ⟨.hbm, 347, rfl⟩
abbrev main_v238 : Ref sig .tc := ⟨.hbm, 348, rfl⟩
abbrev main_v239 : Ref sig .tc := ⟨.hbm, 349, rfl⟩
abbrev main_v240 : Ref sig .tc := ⟨.hbm, 350, rfl⟩
abbrev main_v241 : Ref sig .tc := ⟨.hbm, 351, rfl⟩
abbrev main_v242 : Ref sig .tc := ⟨.hbm, 352, rfl⟩
abbrev main_v243 : Ref sig .tc := ⟨.hbm, 353, rfl⟩
abbrev main_v244 : Ref sig .tc := ⟨.hbm, 354, rfl⟩
abbrev main_v245 : Ref sig .tc := ⟨.hbm, 355, rfl⟩
abbrev main_v246 : Ref sig .tc := ⟨.hbm, 356, rfl⟩
abbrev main_v247 : Ref sig .tc := ⟨.hbm, 357, rfl⟩
abbrev main_v248 : Ref sig .tc := ⟨.hbm, 358, rfl⟩
abbrev main_v249 : Ref sig .tc := ⟨.hbm, 359, rfl⟩
abbrev main_v250 : Ref sig .tc := ⟨.hbm, 360, rfl⟩
abbrev main_cst_26 : Ref sig .tc := ⟨.hbm, 361, rfl⟩
abbrev main_v251 : Ref sig .tc := ⟨.hbm, 362, rfl⟩
abbrev main_v252 : Ref sig .tc := ⟨.hbm, 363, rfl⟩
abbrev main_cst_27 : Ref sig .tc := ⟨.hbm, 364, rfl⟩
abbrev main_v253 : Ref sig .tc := ⟨.hbm, 365, rfl⟩
abbrev main_v254 : Ref sig .tc := ⟨.hbm, 366, rfl⟩
abbrev main_v255 : Ref sig .tc := ⟨.hbm, 367, rfl⟩
abbrev main_v256 : Ref sig .tc := ⟨.hbm, 368, rfl⟩
abbrev main_v257 : Ref sig .tc := ⟨.hbm, 369, rfl⟩
abbrev main_v258 : Ref sig .tc := ⟨.hbm, 370, rfl⟩
abbrev main_v259 : Ref sig .tc := ⟨.hbm, 371, rfl⟩
abbrev main_v260 : Ref sig .tc := ⟨.hbm, 372, rfl⟩
abbrev main_v261 : Ref sig .tc := ⟨.hbm, 373, rfl⟩
abbrev main_v262 : Ref sig .tc := ⟨.hbm, 374, rfl⟩
abbrev main_v263 : Ref sig .tc := ⟨.hbm, 375, rfl⟩
abbrev main_v264 : Ref sig .tc := ⟨.hbm, 376, rfl⟩
abbrev main_v265 : Ref sig .tc := ⟨.hbm, 377, rfl⟩
abbrev main_v266 : Ref sig .tc := ⟨.hbm, 378, rfl⟩
abbrev main_v267 : Ref sig .tc := ⟨.hbm, 379, rfl⟩
abbrev main_v268 : Ref sig .tc := ⟨.hbm, 380, rfl⟩
abbrev main_v269 : Ref sig .tc := ⟨.hbm, 381, rfl⟩
abbrev main_v270 : Ref sig .tc := ⟨.hbm, 382, rfl⟩
abbrev main_cst_28 : Ref sig .tc := ⟨.hbm, 383, rfl⟩
abbrev main_v271 : Ref sig .tc := ⟨.hbm, 384, rfl⟩
abbrev main_cst_29 : Ref sig .tc := ⟨.hbm, 385, rfl⟩
abbrev main_v272 : Ref sig .tc := ⟨.hbm, 386, rfl⟩
abbrev main_v273 : Ref sig .tc := ⟨.hbm, 387, rfl⟩
abbrev main_cst_30 : Ref sig .tc := ⟨.hbm, 388, rfl⟩
abbrev main_v274 : Ref sig .tc := ⟨.hbm, 389, rfl⟩
abbrev main_v275 : Ref sig .tc := ⟨.hbm, 390, rfl⟩
abbrev main_v276 : Ref sig .tc := ⟨.hbm, 391, rfl⟩
abbrev main_v277 : Ref sig .tc := ⟨.hbm, 392, rfl⟩
abbrev main_v278 : Ref sig .tc := ⟨.hbm, 393, rfl⟩
abbrev main_v279 : Ref sig .tc := ⟨.hbm, 394, rfl⟩
abbrev main_v280 : Ref sig .tc := ⟨.hbm, 395, rfl⟩
abbrev main_v281 : Ref sig .tc := ⟨.hbm, 396, rfl⟩
abbrev main_v282 : Ref sig .tc := ⟨.hbm, 397, rfl⟩
abbrev main_v283 : Ref sig .tc := ⟨.hbm, 398, rfl⟩
abbrev main_v284 : Ref sig .tc := ⟨.hbm, 399, rfl⟩
abbrev main_v285 : Ref sig .tc := ⟨.hbm, 400, rfl⟩
abbrev main_v286 : Ref sig .tc := ⟨.hbm, 401, rfl⟩
abbrev main_v287 : Ref sig .tc := ⟨.hbm, 402, rfl⟩
abbrev main_cst_31 : Ref sig .tc := ⟨.hbm, 403, rfl⟩
abbrev main_v288 : Ref sig .tc := ⟨.hbm, 404, rfl⟩
abbrev main_cst_32 : Ref sig .tc := ⟨.hbm, 405, rfl⟩
abbrev main_v289 : Ref sig .tc := ⟨.hbm, 406, rfl⟩
abbrev main_v290 : Ref sig .tc := ⟨.hbm, 407, rfl⟩
abbrev main_cst_33 : Ref sig .tc := ⟨.hbm, 408, rfl⟩
abbrev main_v291 : Ref sig .tc := ⟨.hbm, 409, rfl⟩
abbrev main_v292 : Ref sig .tc := ⟨.hbm, 410, rfl⟩
abbrev main_v293 : Ref sig .tc := ⟨.hbm, 411, rfl⟩
abbrev main_cst_34 : Ref sig .tc := ⟨.hbm, 412, rfl⟩
abbrev main_v294 : Ref sig .tc := ⟨.hbm, 413, rfl⟩
abbrev main_v295 : Ref sig .tc := ⟨.hbm, 414, rfl⟩
abbrev main_v296 : Ref sig .tc := ⟨.hbm, 415, rfl⟩
abbrev main_v297 : Ref sig .tc := ⟨.hbm, 416, rfl⟩
abbrev main_cst_35 : Ref sig .tc := ⟨.hbm, 417, rfl⟩
abbrev main_v298 : Ref sig .tc := ⟨.hbm, 418, rfl⟩
abbrev main_v299 : Ref sig .tc := ⟨.hbm, 419, rfl⟩
abbrev main_cst_36 : Ref sig .tc := ⟨.hbm, 420, rfl⟩
abbrev main_v300 : Ref sig .tc := ⟨.hbm, 421, rfl⟩
abbrev main_v301 : Ref sig .tc := ⟨.hbm, 422, rfl⟩
abbrev main_v302 : Ref sig .tc := ⟨.hbm, 423, rfl⟩
abbrev main_v303 : Ref sig .tc := ⟨.hbm, 424, rfl⟩
abbrev main_v304 : Ref sig .tc := ⟨.hbm, 425, rfl⟩
abbrev main_cst_37 : Ref sig .tc := ⟨.hbm, 426, rfl⟩
abbrev main_v305 : Ref sig .tc := ⟨.hbm, 427, rfl⟩
abbrev main_v306 : Ref sig .tc := ⟨.hbm, 428, rfl⟩
abbrev main_cst_38 : Ref sig .tc := ⟨.hbm, 429, rfl⟩
abbrev main_v307 : Ref sig .tc := ⟨.hbm, 430, rfl⟩
abbrev main_v308 : Ref sig .tc := ⟨.hbm, 431, rfl⟩
abbrev main_v309 : Ref sig .tc := ⟨.hbm, 432, rfl⟩
abbrev main_v310 : Ref sig .tc := ⟨.hbm, 433, rfl⟩
abbrev main_v311 : Ref sig .tc := ⟨.hbm, 434, rfl⟩
abbrev main_v312 : Ref sig .tc := ⟨.hbm, 435, rfl⟩
abbrev main_cst_39 : Ref sig .tc := ⟨.hbm, 436, rfl⟩
abbrev main_v313 : Ref sig .tc := ⟨.hbm, 437, rfl⟩
abbrev main_v314 : Ref sig .tc := ⟨.hbm, 438, rfl⟩
abbrev main_v315 : Ref sig .tc := ⟨.hbm, 439, rfl⟩
abbrev main_v316 : Ref sig .tc := ⟨.hbm, 440, rfl⟩
abbrev main_v317 : Ref sig .tc := ⟨.hbm, 441, rfl⟩
abbrev main_v318 : Ref sig .tc := ⟨.hbm, 442, rfl⟩
abbrev main_v319 : Ref sig .tc := ⟨.hbm, 443, rfl⟩
abbrev main_v320 : Ref sig .tc := ⟨.hbm, 444, rfl⟩
abbrev main_v321 : Ref sig .tc := ⟨.hbm, 445, rfl⟩
abbrev main_v322 : Ref sig .tc := ⟨.hbm, 446, rfl⟩
abbrev main_v323 : Ref sig .tc := ⟨.hbm, 447, rfl⟩
abbrev main_v324 : Ref sig .tc := ⟨.hbm, 448, rfl⟩
abbrev main_v325 : Ref sig .tc := ⟨.hbm, 449, rfl⟩
abbrev main_v326 : Ref sig .tc := ⟨.hbm, 450, rfl⟩
abbrev main_v327 : Ref sig .tc := ⟨.hbm, 451, rfl⟩
abbrev main_v328 : Ref sig .tc := ⟨.hbm, 452, rfl⟩
abbrev main_v329 : Ref sig .tc := ⟨.hbm, 453, rfl⟩
abbrev main_cst_40 : Ref sig .tc := ⟨.hbm, 454, rfl⟩
abbrev main_v330 : Ref sig .tc := ⟨.hbm, 455, rfl⟩
abbrev main_cst_41 : Ref sig .tc := ⟨.hbm, 456, rfl⟩
abbrev main_v331 : Ref sig .tc := ⟨.hbm, 457, rfl⟩
abbrev main_v332 : Ref sig .tc := ⟨.hbm, 458, rfl⟩
abbrev main_cst_42 : Ref sig .tc := ⟨.hbm, 459, rfl⟩
abbrev main_v333 : Ref sig .tc := ⟨.hbm, 460, rfl⟩
abbrev main_v334 : Ref sig .tc := ⟨.hbm, 461, rfl⟩
abbrev main_v335 : Ref sig .tc := ⟨.hbm, 462, rfl⟩
abbrev main_v336 : Ref sig .tc := ⟨.hbm, 463, rfl⟩
abbrev main_v337 : Ref sig .tc := ⟨.hbm, 464, rfl⟩
abbrev main_v338 : Ref sig .tc := ⟨.hbm, 465, rfl⟩
abbrev main_v339 : Ref sig .tc := ⟨.hbm, 466, rfl⟩
abbrev main_v340 : Ref sig .tc := ⟨.hbm, 467, rfl⟩
abbrev main_v341 : Ref sig .tc := ⟨.hbm, 468, rfl⟩
abbrev main_v342 : Ref sig .tc := ⟨.hbm, 469, rfl⟩
abbrev main_v343 : Ref sig .tc := ⟨.hbm, 470, rfl⟩
abbrev main_v344 : Ref sig .tc := ⟨.hbm, 471, rfl⟩
abbrev main_v345 : Ref sig .tc := ⟨.hbm, 472, rfl⟩
abbrev main_v346 : Ref sig .tc := ⟨.hbm, 473, rfl⟩
abbrev main_cst_43 : Ref sig .tc := ⟨.hbm, 474, rfl⟩
abbrev main_v347 : Ref sig .tc := ⟨.hbm, 475, rfl⟩
abbrev main_cst_44 : Ref sig .tc := ⟨.hbm, 476, rfl⟩
abbrev main_v348 : Ref sig .tc := ⟨.hbm, 477, rfl⟩
abbrev main_v349 : Ref sig .tc := ⟨.hbm, 478, rfl⟩
abbrev main_cst_45 : Ref sig .tc := ⟨.hbm, 479, rfl⟩
abbrev main_v350 : Ref sig .tc := ⟨.hbm, 480, rfl⟩
abbrev main_v351 : Ref sig .tc := ⟨.hbm, 481, rfl⟩
abbrev main_v352 : Ref sig .tc := ⟨.hbm, 482, rfl⟩
abbrev main_cst_46 : Ref sig .tc := ⟨.hbm, 483, rfl⟩
abbrev main_v353 : Ref sig .tc := ⟨.hbm, 484, rfl⟩
abbrev main_v354 : Ref sig .tc := ⟨.hbm, 485, rfl⟩
abbrev main_v355 : Ref sig .tc := ⟨.hbm, 486, rfl⟩
abbrev main_v356 : Ref sig .tc := ⟨.hbm, 487, rfl⟩
abbrev main_cst_47 : Ref sig .tc := ⟨.hbm, 488, rfl⟩
abbrev main_v357 : Ref sig .tc := ⟨.hbm, 489, rfl⟩
abbrev main_v358 : Ref sig .tc := ⟨.hbm, 490, rfl⟩
abbrev main_cst_48 : Ref sig .tc := ⟨.hbm, 491, rfl⟩
abbrev main_v359 : Ref sig .tc := ⟨.hbm, 492, rfl⟩
abbrev main_v360 : Ref sig .tc := ⟨.hbm, 493, rfl⟩
abbrev main_v361 : Ref sig .tc := ⟨.hbm, 494, rfl⟩
abbrev main_v362 : Ref sig .tc := ⟨.hbm, 495, rfl⟩
abbrev main_v363 : Ref sig .tc := ⟨.hbm, 496, rfl⟩
abbrev main_cst_49 : Ref sig .tc := ⟨.hbm, 497, rfl⟩
abbrev main_v364 : Ref sig .tc := ⟨.hbm, 498, rfl⟩
abbrev main_v365 : Ref sig .tc := ⟨.hbm, 499, rfl⟩
abbrev main_cst_50 : Ref sig .tc := ⟨.hbm, 500, rfl⟩
abbrev main_v366 : Ref sig .tc := ⟨.hbm, 501, rfl⟩
abbrev main_v367 : Ref sig .tc := ⟨.hbm, 502, rfl⟩
abbrev main_v368 : Ref sig .tc := ⟨.hbm, 503, rfl⟩
abbrev main_v369 : Ref sig .tc := ⟨.hbm, 504, rfl⟩
abbrev main_v370 : Ref sig .tc := ⟨.hbm, 505, rfl⟩
abbrev main_v371 : Ref sig .tc := ⟨.hbm, 506, rfl⟩
abbrev main_v372 : Ref sig .tc := ⟨.hbm, 507, rfl⟩
abbrev main_v373 : Ref sig .tc := ⟨.hbm, 508, rfl⟩
abbrev main_cst_51 : Ref sig .tc := ⟨.hbm, 509, rfl⟩
abbrev main_v374 : Ref sig .tc := ⟨.hbm, 510, rfl⟩
abbrev main_v375 : Ref sig .tc := ⟨.hbm, 511, rfl⟩
abbrev main_v376 : Ref sig .tc := ⟨.hbm, 512, rfl⟩
abbrev main_v377 : Ref sig .tc := ⟨.hbm, 513, rfl⟩
abbrev main_v378 : Ref sig .tc := ⟨.hbm, 514, rfl⟩
abbrev main_v379 : Ref sig .tc := ⟨.hbm, 515, rfl⟩
abbrev main_v380 : Ref sig .tc := ⟨.hbm, 516, rfl⟩
abbrev main_v381 : Ref sig .tc := ⟨.hbm, 517, rfl⟩
abbrev main_v382 : Ref sig .tc := ⟨.hbm, 518, rfl⟩
abbrev main_v383 : Ref sig .tc := ⟨.hbm, 519, rfl⟩
abbrev main_v384 : Ref sig .tc := ⟨.hbm, 520, rfl⟩
abbrev main_v385 : Ref sig .tc := ⟨.hbm, 521, rfl⟩
abbrev main_v386 : Ref sig .tc := ⟨.hbm, 522, rfl⟩
abbrev main_v387 : Ref sig .tc := ⟨.hbm, 523, rfl⟩
abbrev main_cst_52 : Ref sig .tc := ⟨.hbm, 524, rfl⟩
abbrev main_v388 : Ref sig .tc := ⟨.hbm, 525, rfl⟩
abbrev main_cst_53 : Ref sig .tc := ⟨.hbm, 526, rfl⟩
abbrev main_v389 : Ref sig .tc := ⟨.hbm, 527, rfl⟩
abbrev main_v390 : Ref sig .tc := ⟨.hbm, 528, rfl⟩
abbrev main_cst_54 : Ref sig .tc := ⟨.hbm, 529, rfl⟩
abbrev main_v391 : Ref sig .tc := ⟨.hbm, 530, rfl⟩
abbrev main_v392 : Ref sig .tc := ⟨.hbm, 531, rfl⟩
abbrev main_v393 : Ref sig .tc := ⟨.hbm, 532, rfl⟩
abbrev main_v394 : Ref sig .tc := ⟨.hbm, 533, rfl⟩
abbrev main_cst_55 : Ref sig .tc := ⟨.hbm, 534, rfl⟩
abbrev main_v395 : Ref sig .tc := ⟨.hbm, 535, rfl⟩
abbrev main_v396 : Ref sig .tc := ⟨.hbm, 536, rfl⟩
abbrev main_v397 : Ref sig .tc := ⟨.hbm, 537, rfl⟩
abbrev main_v398 : Ref sig .tc := ⟨.hbm, 538, rfl⟩
abbrev main_cst_56 : Ref sig .tc := ⟨.hbm, 539, rfl⟩
abbrev main_v399 : Ref sig .tc := ⟨.hbm, 540, rfl⟩
abbrev main_v400 : Ref sig .tc := ⟨.hbm, 541, rfl⟩
abbrev main_v401 : Ref sig .tc := ⟨.hbm, 542, rfl⟩
abbrev main_v402 : Ref sig .tc := ⟨.hbm, 543, rfl⟩
abbrev main_v403 : Ref sig .tc := ⟨.hbm, 544, rfl⟩
abbrev main_v404 : Ref sig .tc := ⟨.hbm, 545, rfl⟩
abbrev main_v405 : Ref sig .tc := ⟨.hbm, 546, rfl⟩
abbrev main_v406 : Ref sig .tc := ⟨.hbm, 547, rfl⟩
abbrev main_v407 : Ref sig .tc := ⟨.hbm, 548, rfl⟩
abbrev main_v408 : Ref sig .tc := ⟨.hbm, 549, rfl⟩
abbrev main_v409 : Ref sig .tc := ⟨.hbm, 550, rfl⟩
abbrev main_v410 : Ref sig .tc := ⟨.hbm, 551, rfl⟩
abbrev main_v411 : Ref sig .tc := ⟨.hbm, 552, rfl⟩
abbrev main_v412 : Ref sig .tc := ⟨.hbm, 553, rfl⟩
abbrev main_cst_57 : Ref sig .tc := ⟨.hbm, 554, rfl⟩
abbrev main_v413 : Ref sig .tc := ⟨.hbm, 555, rfl⟩
abbrev main_cst_58 : Ref sig .tc := ⟨.hbm, 556, rfl⟩
abbrev main_v414 : Ref sig .tc := ⟨.hbm, 557, rfl⟩
abbrev main_v415 : Ref sig .tc := ⟨.hbm, 558, rfl⟩
abbrev main_cst_59 : Ref sig .tc := ⟨.hbm, 559, rfl⟩
abbrev main_v416 : Ref sig .tc := ⟨.hbm, 560, rfl⟩
abbrev main_v417 : Ref sig .tc := ⟨.hbm, 561, rfl⟩
abbrev main_v418 : Ref sig .tc := ⟨.hbm, 562, rfl⟩
abbrev main_v419 : Ref sig .tc := ⟨.hbm, 563, rfl⟩
abbrev main_v420 : Ref sig .tc := ⟨.hbm, 564, rfl⟩

abbrev nD : Nat := 1
abbrev τ : Topo := Topo.v7x

variable {F : FTy → Type} [FloatOps F]
-- ==== Gate.lean ====
abbrev S8192x256 : Shape := ⟨2, ![8192, 256]⟩
abbrev S8192x512 : Shape := ⟨2, ![8192, 512]⟩
abbrev S8192x3072 : Shape := ⟨2, ![8192, 3072]⟩
abbrev S1x3072 : Shape := ⟨2, ![1, 3072]⟩
abbrev S256x1024 : Shape := ⟨2, ![256, 1024]⟩
abbrev S512x1024 : Shape := ⟨2, ![512, 1024]⟩
abbrev S8192x1024 : Shape := ⟨2, ![8192, 1024]⟩
abbrev S512x256 : Shape := ⟨2, ![512, 256]⟩
abbrev S512x512 : Shape := ⟨2, ![512, 512]⟩
abbrev S512x3072 : Shape := ⟨2, ![512, 3072]⟩
abbrev S1x1024 : Shape := ⟨2, ![1, 1024]⟩

abbrev nBuf : Space → Nat
  | .hbm => 15
  | .vmem => 14
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x256, .f32⟩
  | .hbm, ⟨3, _⟩ => ⟨S8192x3072, .f32⟩
  | .hbm, ⟨4, _⟩ => ⟨S1x3072, .f32⟩
  | .hbm, ⟨5, _⟩ => ⟨S256x1024, .f32⟩
  | .hbm, ⟨6, _⟩ => ⟨S512x1024, .f32⟩
  | .hbm, ⟨7, _⟩ => ⟨S256x1024, .f32⟩
  | .hbm, ⟨8, _⟩ => ⟨S8192x256, .bf16⟩
  | .hbm, ⟨9, _⟩ => ⟨S8192x512, .bf16⟩
  | .hbm, ⟨10, _⟩ => ⟨S8192x256, .bf16⟩
  | .hbm, ⟨11, _⟩ => ⟨S256x1024, .bf16⟩
  | .hbm, ⟨12, _⟩ => ⟨S512x1024, .bf16⟩
  | .hbm, ⟨13, _⟩ => ⟨S256x1024, .bf16⟩
  | .hbm, ⟨14, _⟩ => ⟨S8192x1024, .bf16⟩
  | .local _ .vmem, ⟨0, _⟩ => ⟨S512x256, .bf16⟩
  | .local _ .vmem, ⟨1, _⟩ => ⟨S512x256, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x3072, .f32⟩
  | .local _ .vmem, ⟨7, _⟩ => ⟨S512x3072, .f32⟩
  | .local _ .vmem, ⟨8, _⟩ => ⟨S1x3072, .f32⟩
  | .local _ .vmem, ⟨9, _⟩ => ⟨S256x1024, .bf16⟩
  | .local _ .vmem, ⟨10, _⟩ => ⟨S512x1024, .bf16⟩
  | .local _ .vmem, ⟨11, _⟩ => ⟨S256x1024, .bf16⟩
  | .local _ .vmem, ⟨12, _⟩ => ⟨S512x1024, .bf16⟩
  | .local _ .vmem, ⟨13, _⟩ => ⟨S512x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GateRefIdeal.lean ====
abbrev S8192x256 : Shape := ⟨2, ![8192, 256]⟩
abbrev S8192x512 : Shape := ⟨2, ![8192, 512]⟩
abbrev S8192x3072 : Shape := ⟨2, ![8192, 3072]⟩
abbrev S1x3072 : Shape := ⟨2, ![1, 3072]⟩
abbrev S256x1024 : Shape := ⟨2, ![256, 1024]⟩
abbrev S512x1024 : Shape := ⟨2, ![512, 1024]⟩
abbrev S_ : Shape := ⟨0, ![]⟩
abbrev S8192x3x1024 : Shape := ⟨3, ![8192, 3, 1024]⟩
abbrev S8192x1x1024 : Shape := ⟨3, ![8192, 1, 1024]⟩
abbrev S8192x1024 : Shape := ⟨2, ![8192, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x256, .f32⟩
  | .hbm, ⟨3, _⟩ => ⟨S8192x3072, .f32⟩
  | .hbm, ⟨4, _⟩ => ⟨S1x3072, .f32⟩
  | .hbm, ⟨5, _⟩ => ⟨S256x1024, .f32⟩
  | .hbm, ⟨6, _⟩ => ⟨S512x1024, .f32⟩
  | .hbm, ⟨7, _⟩ => ⟨S256x1024, .f32⟩
  | .hbm, ⟨8, _⟩ => ⟨S8192x3072, .f32⟩
  | .hbm, ⟨9, _⟩ => ⟨S8192x3072, .f32⟩
  | .hbm, ⟨10, _⟩ => ⟨S8192x3072, .f32⟩
  | .hbm, ⟨11, _⟩ => ⟨S8192x3072, .f32⟩
  | .hbm, ⟨12, _⟩ => ⟨S_, .f32⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S8192x3x1024, .f32⟩
  | .hbm, ⟨19, _⟩ => ⟨S8192x1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Delta.lean ====
abbrev S8192x512 : Shape := ⟨2, ![8192, 512]⟩
abbrev S16x512x8x64 : Shape := ⟨4, ![16, 512, 8, 64]⟩
abbrev S8x16x64x512 : Shape := ⟨4, ![8, 16, 64, 512]⟩
abbrev S8x16x1x512 : Shape := ⟨4, ![8, 16, 1, 512]⟩
abbrev S1x16x64x512 : Shape := ⟨4, ![1, 16, 64, 512]⟩
abbrev S1x16x1x512 : Shape := ⟨4, ![1, 16, 1, 512]⟩
abbrev S16x64x512 : Shape := ⟨3, ![16, 64, 512]⟩
abbrev S16x512 : Shape := ⟨2, ![16, 512]⟩
abbrev S16x1x512 : Shape := ⟨3, ![16, 1, 512]⟩

abbrev nBuf : Space → Nat
  | .hbm => 9
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .bf16⟩
  | .hbm, ⟨3, _⟩ => ⟨S16x512x8x64, .bf16⟩
  | .hbm, ⟨4, _⟩ => ⟨S8x16x64x512, .bf16⟩
  | .hbm, ⟨5, _⟩ => ⟨S8192x512, .bf16⟩
  | .hbm, ⟨6, _⟩ => ⟨S16x512x8x64, .bf16⟩
  | .hbm, ⟨7, _⟩ => ⟨S8x16x64x512, .bf16⟩
  | .hbm, ⟨8, _⟩ => ⟨S8x16x1x512, .f32⟩
  | .local _ .vmem, ⟨0, _⟩ => ⟨S1x16x64x512, .bf16⟩
  | .local _ .vmem, ⟨1, _⟩ => ⟨S1x16x64x512, .bf16⟩
  | .local _ .vmem, ⟨2, _⟩ => ⟨S1x16x64x512, .bf16⟩
  | .local _ .vmem, ⟨3, _⟩ => ⟨S1x16x64x512, .bf16⟩
  | .local _ .vmem, ⟨4, _⟩ => ⟨S1x16x1x512, .f32⟩
  | .local _ .vmem, ⟨5, _⟩ => ⟨S1x16x1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DeltaRefIdeal.lean ====
abbrev S8192x512 : Shape := ⟨2, ![8192, 512]⟩
abbrev S8192x8x64 : Shape := ⟨3, ![8192, 8, 64]⟩
abbrev S_ : Shape := ⟨0, ![]⟩
abbrev S8192x8 : Shape := ⟨2, ![8192, 8]⟩
abbrev S8x8192 : Shape := ⟨2, ![8, 8192]⟩
abbrev S8x16x1x512 : Shape := ⟨4, ![8, 16, 1, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x8x64, .f32⟩
  | .hbm, ⟨4, _⟩ => ⟨S_, .f32⟩
  | .hbm, ⟨5, _⟩ => ⟨S8192x8, .f32⟩
  | .hbm, ⟨6, _⟩ => ⟨S8x8192, .f32⟩
  | .hbm, ⟨7, _⟩ => ⟨S8x16x1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dims.lean ====
abbrev S8192x256 : Shape := ⟨2, ![8192, 256]⟩
abbrev S8192x4x64 : Shape := ⟨3, ![8192, 4, 64]⟩
abbrev S4x64x8192 : Shape := ⟨3, ![4, 64, 8192]⟩
abbrev S4x1x8192 : Shape := ⟨3, ![4, 1, 8192]⟩
abbrev S1x64x2048 : Shape := ⟨3, ![1, 64, 2048]⟩
abbrev S1x1x2048 : Shape := ⟨3, ![1, 1, 2048]⟩
abbrev S64x2048 : Shape := ⟨2, ![64, 2048]⟩
abbrev S2048 : Shape := ⟨1, ![2048]⟩
abbrev S1x2048 : Shape := ⟨2, ![1, 2048]⟩

abbrev nBuf : Space → Nat
  | .hbm => 9
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .bf16⟩
  | .hbm, ⟨3, _⟩ => ⟨S8192x4x64, .bf16⟩
  | .hbm, ⟨4, _⟩ => ⟨S4x64x8192, .bf16⟩
  | .hbm, ⟨5, _⟩ => ⟨S8192x256, .bf16⟩
  | .hbm, ⟨6, _⟩ => ⟨S8192x4x64, .bf16⟩
  | .hbm, ⟨7, _⟩ => ⟨S4x64x8192, .bf16⟩
  | .hbm, ⟨8, _⟩ => ⟨S4x1x8192, .f32⟩
  | .local _ .vmem, ⟨0, _⟩ => ⟨S1x64x2048, .bf16⟩
  | .local _ .vmem, ⟨1, _⟩ => ⟨S1x64x2048, .bf16⟩
  | .local _ .vmem, ⟨2, _⟩ => ⟨S1x64x2048, .bf16⟩
  | .local _ .vmem, ⟨3, _⟩ => ⟨S1x64x2048, .bf16⟩
  | .local _ .vmem, ⟨4, _⟩ => ⟨S1x1x2048, .f32⟩
  | .local _ .vmem, ⟨5, _⟩ => ⟨S1x1x2048, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DimsRefIdeal.lean ====
abbrev S8192x256 : Shape := ⟨2, ![8192, 256]⟩
abbrev S8192x4x64 : Shape := ⟨3, ![8192, 4, 64]⟩
abbrev S_ : Shape := ⟨0, ![]⟩
abbrev S8192x4 : Shape := ⟨2, ![8192, 4]⟩
abbrev S4x8192 : Shape := ⟨2, ![4, 8192]⟩
abbrev S4x1x8192 : Shape := ⟨3, ![4, 1, 8192]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x4x64, .f32⟩
  | .hbm, ⟨4, _⟩ => ⟨S_, .f32⟩
  | .hbm, ⟨5, _⟩ => ⟨S8192x4, .f32⟩
  | .hbm, ⟨6, _⟩ => ⟨S4x8192, .f32⟩
  | .hbm, ⟨7, _⟩ => ⟨S4x1x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Step.lean ====
abbrev S4096x672 : Shape := ⟨2, ![4096, 672]⟩
abbrev S512x672 : Shape := ⟨2, ![512, 672]⟩

abbrev nBuf : Space → Nat
  | .hbm => 7
  | .vmem => 14
  | .smem => 0
  | _ => 0

abbrev bufTy : (tb : Table) → Fin (tcTables nBuf tb) → BufTy
  | .hbm, ⟨0, _⟩ => ⟨S4096x672, .f32⟩
  | .hbm, ⟨1, _⟩ => ⟨S4096x672, .f32⟩
  | .hbm, ⟨2, _⟩ => ⟨S4096x672, .f32⟩
  | .hbm, ⟨3, _⟩ => ⟨S4096x672, .f32⟩
  | .hbm, ⟨4, _⟩ => ⟨S4096x672, .f32⟩
  | .hbm, ⟨5, _⟩ => ⟨S4096x672, .f32⟩
  | .hbm, ⟨6, _⟩ => ⟨S4096x672, .f32⟩
  | .local _ .vmem, ⟨0, _⟩ => ⟨S512x672, .f32⟩
  | .local _ .vmem, ⟨1, _⟩ => ⟨S512x672, .f32⟩
  | .local _ .vmem, ⟨2, _⟩ => ⟨S512x672, .f32⟩
  | .local _ .vmem, ⟨3, _⟩ => ⟨S512x672, .f32⟩
  | .local _ .vmem, ⟨4, _⟩ => ⟨S512x672, .f32⟩
  | .local _ .vmem, ⟨5, _⟩ => ⟨S512x672, .f32⟩
  | .local _ .vmem, ⟨6, _⟩ => ⟨S512x672, .f32⟩
  | .local _ .vmem, ⟨7, _⟩ => ⟨S512x672, .f32⟩
  | .local _ .vmem, ⟨8, _⟩ => ⟨S512x672, .f32⟩
  | .local _ .vmem, ⟨9, _⟩ => ⟨S512x672, .f32⟩
  | .local _ .vmem, ⟨10, _⟩ => ⟨S512x672, .f32⟩
  | .local _ .vmem, ⟨11, _⟩ => ⟨S512x672, .f32⟩
  | .local _ .vmem, ⟨12, _⟩ => ⟨S512x672, .f32⟩
  | .local _ .vmem, ⟨13, _⟩ => ⟨S512x672, .f32⟩
  | _, _ => ⟨S4096x672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x672 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x672 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x672 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x672 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x672 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x672 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x672 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepRefIdeal.lean ====
abbrev S4096x672 : Shape := ⟨2, ![4096, 672]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x672, .f32⟩
  | .hbm, ⟨1, _⟩ => ⟨S4096x672, .f32⟩
  | .hbm, ⟨2, _⟩ => ⟨S4096x672, .f32⟩
  | .hbm, ⟨3, _⟩ => ⟨S4096x672, .f32⟩
  | .hbm, ⟨4, _⟩ => ⟨S_, .f32⟩
  | .hbm, ⟨5, _⟩ => ⟨S4096x672, .f32⟩
  | .hbm, ⟨6, _⟩ => ⟨S4096x672, .f32⟩
  | .hbm, ⟨7, _⟩ => ⟨S_, .f32⟩
  | .hbm, ⟨8, _⟩ => ⟨S4096x672, .f32⟩
  | .hbm, ⟨9, _⟩ => ⟨S4096x672, .f32⟩
  | .hbm, ⟨10, _⟩ => ⟨S4096x672, .f32⟩
  | .hbm, ⟨11, _⟩ => ⟨S_, .f32⟩
  | .hbm, ⟨12, _⟩ => ⟨S4096x672, .f32⟩
  | .hbm, ⟨13, _⟩ => ⟨S4096x672, .f32⟩
  | .hbm, ⟨14, _⟩ => ⟨S4096x672, .f32⟩
  | .hbm, ⟨15, _⟩ => ⟨S_, .f32⟩
  | .hbm, ⟨16, _⟩ => ⟨S4096x672, .f32⟩
  | .hbm, ⟨17, _⟩ => ⟨S4096x672, .f32⟩
  | .hbm, ⟨18, _⟩ => ⟨S4096x672, .f32⟩
  | .hbm, ⟨19, _⟩ => ⟨S_, .f32⟩
  | .hbm, ⟨20, _⟩ => ⟨S4096x672, .f32⟩
  | .hbm, ⟨21, _⟩ => ⟨S4096x672, .f32⟩
  | .hbm, ⟨22, _⟩ => ⟨S_, .f32⟩
  | .hbm, ⟨23, _⟩ => ⟨S4096x672, .f32⟩
  | .hbm, ⟨24, _⟩ => ⟨S4096x672, .f32⟩
  | .hbm, ⟨25, _⟩ => ⟨S4096x672, .f32⟩
  | .hbm, ⟨26, _⟩ => ⟨S_, .f32⟩
  | .hbm, ⟨27, _⟩ => ⟨S4096x672, .f32⟩
  | .hbm, ⟨28, _⟩ => ⟨S4096x672, .f32⟩
  | .hbm, ⟨29, _⟩ => ⟨S4096x672, .f32⟩
  | .hbm, ⟨30, _⟩ => ⟨S_, .f32⟩
  | .hbm, ⟨31, _⟩ => ⟨S4096x672, .f32⟩
  | .hbm, ⟨32, _⟩ => ⟨S4096x672, .f32⟩
  | .hbm, ⟨33, _⟩ => ⟨S4096x672, .f32⟩
  | .hbm, ⟨34, _⟩ => ⟨S_, .f32⟩
  | .hbm, ⟨35, _⟩ => ⟨S4096x672, .f32⟩
  | .hbm, ⟨36, _⟩ => ⟨S4096x672, .f32⟩
  | _, _ => ⟨S4096x672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Small.lean ====
abbrev S8x288x128 : Shape := ⟨3, ![8, 288, 128]⟩
abbrev S288x128 : Shape := ⟨2, ![288, 128]⟩
abbrev S1x288x128 : Shape := ⟨3, ![1, 288, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x288x128, .f32⟩
  | .hbm, ⟨1, _⟩ => ⟨S288x128, .f32⟩
  | .hbm, ⟨2, _⟩ => ⟨S288x128, .f32⟩
  | .hbm, ⟨3, _⟩ => ⟨S288x128, .f32⟩
  | .hbm, ⟨4, _⟩ => ⟨S288x128, .f32⟩
  | .hbm, ⟨5, _⟩ => ⟨S288x128, .f32⟩
  | .hbm, ⟨6, _⟩ => ⟨S288x128, .f32⟩
  | .hbm, ⟨7, _⟩ => ⟨S288x128, .f32⟩
  | .local _ .vmem, ⟨0, _⟩ => ⟨S8x288x128, .f32⟩
  | .local _ .vmem, ⟨1, _⟩ => ⟨S288x128, .f32⟩
  | .local _ .vmem, ⟨2, _⟩ => ⟨S288x128, .f32⟩
  | .local _ .vmem, ⟨3, _⟩ => ⟨S288x128, .f32⟩
  | .local _ .vmem, ⟨4, _⟩ => ⟨S288x128, .f32⟩
  | .local _ .vmem, ⟨5, _⟩ => ⟨S288x128, .f32⟩
  | .local _ .vmem, ⟨6, _⟩ => ⟨S288x128, .f32⟩
  | .local _ .vmem, ⟨7, _⟩ => ⟨S288x128, .f32⟩
  | _, _ => ⟨S8x288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x288x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S288x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S288x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S288x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S288x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S288x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S288x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S288x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== SmallRefIdeal.lean ====
abbrev S8x288x128 : Shape := ⟨3, ![8, 288, 128]⟩
abbrev S288x128 : Shape := ⟨2, ![288, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x288x128, .f32⟩
  | .hbm, ⟨1, _⟩ => ⟨S288x128, .f32⟩
  | .hbm, ⟨2, _⟩ => ⟨S288x128, .f32⟩
  | .hbm, ⟨3, _⟩ => ⟨S288x128, .f32⟩
  | .hbm, ⟨4, _⟩ => ⟨S_, .f32⟩
  | .hbm, ⟨5, _⟩ => ⟨S288x128, .f32⟩
  | .hbm, ⟨6, _⟩ => ⟨S_, .f32⟩
  | .hbm, ⟨7, _⟩ => ⟨S288x128, .f32⟩
  | .hbm, ⟨8, _⟩ => ⟨S288x128, .f32⟩
  | .hbm, ⟨9, _⟩ => ⟨S_, .f32⟩
  | .hbm, ⟨10, _⟩ => ⟨S288x128, .f32⟩
  | .hbm, ⟨11, _⟩ => ⟨S288x128, .f32⟩
  | .hbm, ⟨12, _⟩ => ⟨S288x128, .f32⟩
  | .hbm, ⟨13, _⟩ => ⟨S_, .f32⟩
  | .hbm, ⟨14, _⟩ => ⟨S288x128, .f32⟩
  | .hbm, ⟨15, _⟩ => ⟨S288x128, .f32⟩
  | .hbm, ⟨16, _⟩ => ⟨S288x128, .f32⟩
  | .hbm, ⟨17, _⟩ => ⟨S_, .f32⟩
  | .hbm, ⟨18, _⟩ => ⟨S288x128, .f32⟩
  | .hbm, ⟨19, _⟩ => ⟨S288x128, .f32⟩
  | .hbm, ⟨20, _⟩ => ⟨S288x128, .f32⟩
  | .hbm, ⟨21, _⟩ => ⟨S_, .f32⟩
  | .hbm, ⟨22, _⟩ => ⟨S288x128, .f32⟩
  | .hbm, ⟨23, _⟩ => ⟨S288x128, .f32⟩
  | .hbm, ⟨24, _⟩ => ⟨S_, .f32⟩
  | .hbm, ⟨25, _⟩ => ⟨S288x128, .f32⟩
  | .hbm, ⟨26, _⟩ => ⟨S288x128, .f32⟩
  | .hbm, ⟨27, _⟩ => ⟨S288x128, .f32⟩
  | .hbm, ⟨28, _⟩ => ⟨S_, .f32⟩
  | .hbm, ⟨29, _⟩ => ⟨S288x128, .f32⟩
  | .hbm, ⟨30, _⟩ => ⟨S288x128, .f32⟩
  | .hbm, ⟨31, _⟩ => ⟨S288x128, .f32⟩
  | .hbm, ⟨32, _⟩ => ⟨S_, .f32⟩
  | .hbm, ⟨33, _⟩ => ⟨S288x128, .f32⟩
  | .hbm, ⟨34, _⟩ => ⟨S288x128, .f32⟩
  | .hbm, ⟨35, _⟩ => ⟨S288x128, .f32⟩
  | .hbm, ⟨36, _⟩ => ⟨S_, .f32⟩
  | .hbm, ⟨37, _⟩ => ⟨S288x128, .f32⟩
  | .hbm, ⟨38, _⟩ => ⟨S288x128, .f32⟩
  | _, _ => ⟨S8x288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Dw.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRefIdeal.lean ====
abbrev S8192x1024 : Shape := ⟨2, ![8192, 1024]⟩
abbrev S8192x4096 : Shape := ⟨2, ![8192, 4096]⟩
abbrev S1024x8192 : Shape := ⟨2, ![1024, 8192]⟩
abbrev S1024x4096 : Shape := ⟨2, ![1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S1024x8192, .bf16⟩
  | .hbm, ⟨4, _⟩ => ⟨S8192x4096, .bf16⟩
  | .hbm, ⟨5, _⟩ => ⟨S1024x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Sums.lean ====
/- Sums over a whole axis read as sums over its tiles, for every tiled kernel here. -/
module

public import Mathlib.Algebra.BigOperators.Fin
public import Mathlib.Data.EReal.Operations
public import Mathlib.Algebra.Order.BigOperators.Group.Finset
public import Mathlib.Logic.Equiv.Fin.Basic

@[expose] public section

namespace Cert.Proof

/-- A sum over `a * b` places is the sum over the `a` tiles of the sums over the `b` places of a tile. -/
theorem sum_tiles {M : Type} [AddCommMonoid M] (a b n : ℕ) (hn : a * b = n) (f : Fin n → M) :
    ∑ i, f i = ∑ t : Fin a, ∑ r : Fin b, f ⟨b * t.val + r.val, by
      subst hn
      calc b * t.val + r.val < b * t.val + b := by omega
        _ = b * (t.val + 1) := by ring
        _ ≤ b * a := Nat.mul_le_mul_left _ t.isLt
        _ = a * b := Nat.mul_comm _ _⟩ := by
  subst hn
  rw [← Equiv.sum_comp finProdFinEquiv, Fintype.sum_prod_type]
  refine Finset.sum_congr rfl fun t _ => Finset.sum_congr rfl fun r _ => congrArg f (Fin.ext ?_)
  simp [finProdFinEquiv, Nat.add_comm]

/-- A nonnegative real factor goes into a sum of nonnegative terms. -/
theorem mul_sum_nonneg {ι : Type} (s : Finset ι) (r : ℝ) (f : ι → EReal) (hf : ∀ i ∈ s, 0 ≤ f i) :
    (r : EReal) * ∑ i ∈ s, f i = ∑ i ∈ s, (r : EReal) * f i := by
  classical
  induction s using Finset.induction_on with
  | empty => simp
  | insert i s hi ih =>
    rw [Finset.sum_insert hi, Finset.sum_insert hi, ← ih fun j hj => hf j (Finset.mem_insert_of_mem hj)]
    exact EReal.left_distrib_of_nonneg (hf i (Finset.mem_insert_self i s))
      (Finset.sum_nonneg fun j hj => hf j (Finset.mem_insert_of_mem hj))

end Cert.Proof

end
-- ==== Proof.Index.lean ====
module

public import Idealize.ShloMosaic.Lib.KernelVsHost

/-! Indices of arrays with two axes. -/

@[expose] public section

namespace Cert.Proof

open Idealize.ShloMosaic Idealize.ShloMosaic.ValueIdx

/-- An index of two axes from its two places. -/
theorem ix2_of {N W : ℕ} {v : (⟨2, ![N, W]⟩ : Shape).Idx} {R : Fin N} {C : Fin W} (h0 : (v 0).val = R.val) (h1 : (v 1).val = C.val) : v = ix2 R C := by
  funext a; apply Fin.ext
  match a with
  | ⟨0, _⟩ => exact h0
  | ⟨1, _⟩ => exact h1

/-- A block index. -/
abbrev At (f : Fin 2 → ℕ) (p q : ℕ) : Prop := f 0 = p ∧ f 1 = q

/-- A place in a block of the array whose block index is known, -/
theorem ix2_blk {N M B W p q : ℕ} {f : Fin 2 → ℕ} (h : f 0 = p ∧ f 1 = q) {r : Fin B} {k : Fin W} {R : Fin N} {C : Fin M} {v : (⟨2, ![N, M]⟩ : Shape).Idx}
    (h0 : (v 0).val = f 0 * B + 1 * r.val) (h1 : (v 1).val = f 1 * W + 1 * k.val) (hR : R.val = p * B + r.val) (hC : C.val = q * W + k.val) : v = ix2 R C := by
  rw [h.1] at h0; rw [h.2] at h1
  exact ix2_of (by omega) (by omega)
/-- of a block of whole rows, -/
theorem ix2_rows {N B W p : ℕ} {f : Fin 2 → ℕ} (h : f 0 = p ∧ f 1 = 0) {r : Fin B} {k : Fin W} {R : Fin N} {v : (⟨2, ![N, W]⟩ : Shape).Idx}
    (h0 : (v 0).val = f 0 * B + 1 * r.val) (h1 : (v 1).val = f 1 * W + 1 * k.val) (hR : R.val = B * p + r.val) : v = ix2 R k :=
  ix2_blk h h0 h1 (by rw [hR, Nat.mul_comm]) (by omega)
/-- and of a block that is the array. -/
theorem ix2_all {B W : ℕ} {f : Fin 2 → ℕ} (h : f 0 = 0 ∧ f 1 = 0) {r : Fin B} {k : Fin W} {v : (⟨2, ![B, W]⟩ : Shape).Idx}
    (h0 : (v 0).val = f 0 * B + 1 * r.val) (h1 : (v 1).val = f 1 * W + 1 * k.val) : v = ix2 r k :=
  ix2_blk h h0 h1 (by omega) (by omega)

/-- The places that a block covers. -/
theorem cover_blk (B W : ℕ) {p q a b : ℕ} {f o l i : Fin 2 → ℕ} (h : f 0 = p ∧ f 1 = q) (o0 : o 0 = f 0 * B) (o1 : o 1 = f 1 * W) (l0 : l 0 = B) (l1 : l 1 = W)
    (i0 : i 0 = a) (i1 : i 1 = b) (h0 : p * B ≤ a ∧ a < p * B + B) (h1 : q * W ≤ b ∧ b < q * W + W) : ∀ x : Fin 2, o x ≤ i x ∧ i x < o x + l x := by
  rw [h.1] at o0; rw [h.2] at o1
  intro x
  match x with
  | ⟨0, _⟩ => show o 0 ≤ i 0 ∧ i 0 < o 0 + l 0; rw [o0, l0, i0]; exact h0
  | ⟨1, _⟩ => show o 1 ≤ i 1 ∧ i 1 < o 1 + l 1; rw [o1, l1, i1]; exact h1

end Cert.Proof

end
-- ==== Proof.Loss.Block.lean ====
/- What one grid point of the loss kernel leaves in its two output blocks, read element by element over the extended
   reals: the gradient block, and the running column sums of the squared error. -/
module

public import proofs.«01_k».proof.Proof.Gen.LossIdeal.Frame
public import proofs.«01_k».proof.Proof.Sums
public import proofs.«01_k».proof.Proof.Index
public import Idealize.ShloMosaic.Lib.Pipeline.Value
public import Idealize.ShloMosaic.Lib.ValueIdx
public import Idealize.ShloMosaic.Lib.ValueLayout
public import Idealize.ShloMosaic.Lib.Tactic
public import Idealize.ShloMosaic.PureOps.Ideal.Laws

@[expose] public section

set_option maxRecDepth 16384

noncomputable section

namespace Cert.Proof.Loss

open Cert.LossIdeal Cert.LossIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

section Blocks
variable {F : FTy → Type} [FloatOps F]

/-- The first point's gradient block. -/
theorem dy_A (c : Dev nD) (i : grid0.Coords) (a1 : Memref sig .tc .vmem S512x1024 .f32) (h1 : a1.IsWhole)
    (a2 : Memref sig .tc .vmem S512x1024 .f32) (h2 : a2.IsWhole) (a3 : Memref sig .tc .vmem S512x1024 .f32) (h3 : a3.IsWhole)
    (a4 : Memref sig .tc .vmem S1x1024 .f32) (h4 : a4.IsWhole) (hc : cond0_0 i) (x y : Vec F S512x1024 .f32) :
    out0_A_2 c i a1 h1 a2 h2 a3 h3 a4 h4 hc x y = k0_pay3 x y := by
  unfold out0_A_2
  rw [View.read_writes_eq_canon _ _ _ (cover0_A_2 c i a1 h1 a2 h2 a3 h3 a4 h4 hc x y)]
  unfold kernelRun0_A
  dsimp only
  rw [View.canon_unit_zero hz]
  simp only [View.readAt_eq_ld, h1.read_unread, h2.read_unread, View.ld_unit_zero (S := S512x1024) hz]

/-- A later point's gradient block. -/
theorem dy_B (c : Dev nD) (i : grid0.Coords) (a1 : Memref sig .tc .vmem S512x1024 .f32) (h1 : a1.IsWhole)
    (a2 : Memref sig .tc .vmem S512x1024 .f32) (h2 : a2.IsWhole) (a3 : Memref sig .tc .vmem S512x1024 .f32) (h3 : a3.IsWhole)
    (a4 : Memref sig .tc .vmem S1x1024 .f32) (h4 : a4.IsWhole) (hc : ¬cond0_0 i) (x y : Vec F S512x1024 .f32) (s : Vec F S1x1024 .f32) :
    out0_B_2 c i a1 h1 a2 h2 a3 h3 a4 h4 hc x y s = k0_pay3 x y := by
  unfold out0_B_2
  rw [View.read_writes_eq_canon _ _ _ (cover0_B_2 c i a1 h1 a2 h2 a3 h3 a4 h4 hc x y s)]
  unfold kernelRun0_B
  dsimp only
  rw [View.canon_unit_zero hz]
  simp only [View.readAt_eq_ld, h1.read_unread, h2.read_unread, View.ld_unit_zero (S := S512x1024) hz]

/-- The first point's column sums, over the zeros it stores first. -/
theorem sq_A (c : Dev nD) (i : grid0.Coords) (a1 : Memref sig .tc .vmem S512x1024 .f32) (h1 : a1.IsWhole)
    (a2 : Memref sig .tc .vmem S512x1024 .f32) (h2 : a2.IsWhole) (a3 : Memref sig .tc .vmem S512x1024 .f32) (h3 : a3.IsWhole)
    (a4 : Memref sig .tc .vmem S1x1024 .f32) (h4 : a4.IsWhole) (hc : cond0_0 i) (x y : Vec F S512x1024 .f32) :
    out0_A_3 c i a1 h1 a2 h2 a3 h3 a4 h4 hc x y = k0_pay4 x y k0_pay1 := by
  unfold out0_A_3
  rw [View.read_writes_eq_canon _ _ _ (cover0_A_3 c i a1 h1 a2 h2 a3 h3 a4 h4 hc x y)]
  unfold kernelRun0_A
  dsimp only
  sl_unfold_words
  rw [View.canon_cons_unit_zero (S := S1x1024) hz, View.readCov_unit_zero (S := S1x1024) _ hz]
  simp only [View.readAt_eq_ld, h1.read_unread, h2.read_unread, View.ld_unit_zero (S := S512x1024) hz]

/-- A later point's column sums, over those the point before left. -/
theorem sq_B (c : Dev nD) (i : grid0.Coords) (a1 : Memref sig .tc .vmem S512x1024 .f32) (h1 : a1.IsWhole)
    (a2 : Memref sig .tc .vmem S512x1024 .f32) (h2 : a2.IsWhole) (a3 : Memref sig .tc .vmem S512x1024 .f32) (h3 : a3.IsWhole)
    (a4 : Memref sig .tc .vmem S1x1024 .f32) (h4 : a4.IsWhole) (hc : ¬cond0_0 i) (x y : Vec F S512x1024 .f32) (s : Vec F S1x1024 .f32) :
    out0_B_3 c i a1 h1 a2 h2 a3 h3 a4 h4 hc x y s = k0_pay4 x y s := by
  unfold out0_B_3
  rw [View.read_writes_eq_canon _ _ _ (cover0_B_3 c i a1 h1 a2 h2 a3 h3 a4 h4 hc x y s)]
  unfold kernelRun0_B
  dsimp only
  rw [View.canon_unit_zero hz]
  simp only [View.readAt_eq_ld, h1.read_unread, h2.read_unread, h4.read_unread, View.ld_unit_zero (S := S512x1024) hz,
    View.ld_unit_zero (S := S1x1024) hz]

end Blocks

/-- The gradient block, element by element. -/
theorem pay3_apply (x y : Vec Ideal S512x1024 .f32) (j : S512x1024.Idx) :
    k0_pay3 (F := Ideal) x y j = (x j - y j) * Ideal.ofBits .f32 0x3A800000#32 := rfl

/-- The column sums, element by element. -/
theorem pay4_apply (x y : Vec Ideal S512x1024 .f32) (s : Vec Ideal S1x1024 .f32) (u : Fin 1) (k : Fin 1024) :
    k0_pay4 (F := Ideal) x y s (ValueIdx.ix2 u k) = s (ValueIdx.ix2 u k) + ∑ r : Fin 512,
      (x (ValueIdx.ix2 r k) - y (ValueIdx.ix2 r k)) * (x (ValueIdx.ix2 r k) - y (ValueIdx.ix2 r k)) := by
  unfold k0_pay4
  rw [shapeCast_self]
  show s (ValueIdx.ix2 u k) + shapeCast S1x1024 _ shapeCasts_S1024_S1x1024 (ValueIdx.ix2 u k) = _
  rw [ValueIdx.shapeCast_a_1a_apply]
  refine congrArg (s (ValueIdx.ix2 u k) + ·) ((Ideal.multiReduction_add_single _ _ _ _ _ _).trans (Finset.sum_congr rfl fun r _ => ?_))
  have e : reduces_S512x1024_S1024.lift (ValueIdx.ix1 k) r = ValueIdx.ix2 r k := by
    funext a; apply Fin.ext
    match a with
    | ⟨0, _⟩ => rfl
    | ⟨1, _⟩ => rfl
  rw [e]
  rfl

variable (m : (ℓ : Loc nD τ sig) → Buf (Elt Ideal) ℓ) (ρ : Dev nD → PrngReg)

/-- The predictions and the targets, as arrays. -/
abbrev yArr (c : Dev nD) : S8192x1024.Idx → EReal := m ((c.tc : Thread nD τ).loc main_arg0)
abbrev tArr (c : Dev nD) : S8192x1024.Idx → EReal := m ((c.tc : Thread nD τ).loc main_arg1)

/-- The squared error at a place. -/
def sq (c : Dev nD) (r : Fin 8192) (k : Fin 1024) : EReal :=
  (yArr m c (ValueIdx.ix2 r k) - tArr m c (ValueIdx.ix2 r k)) * (yArr m c (ValueIdx.ix2 r k) - tArr m c (ValueIdx.ix2 r k))

/-- The row of the array that row `r` of block `n` is. -/
abbrev row (n : ℕ) (hn : n < cfg0.N) (r : Fin 512) : Fin 8192 := ⟨512 * n + r.val, by rw [show cfg0.N = 16 from N_0] at hn; omega⟩

/-- The block index of each window. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)

/-- Block `n` of the predictions, element by element. -/
theorem iblk0_apply (c : Dev nD) (n : ℕ) (hn : n < cfg0.N) (r : Fin 512) (k : Fin 1024) :
    iblk m c 0 ⟨n, hn⟩ (ValueIdx.ix2 r k) = yArr m c (ValueIdx.ix2 (row n hn r) k) := by
  show m ((c.tc : Thread nD τ).loc main_arg0) (((cfg0.win 0).blk ⟨n, hn⟩).view.emb (ValueIdx.ix2 r k)) = _
  exact congrArg _ (ix2_rows (idx0 ⟨n, hn⟩) rfl rfl rfl)

/-- Block `n` of the targets, element by element. -/
theorem iblk1_apply (c : Dev nD) (n : ℕ) (hn : n < cfg0.N) (r : Fin 512) (k : Fin 1024) :
    iblk m c 1 ⟨n, hn⟩ (ValueIdx.ix2 r k) = tArr m c (ValueIdx.ix2 (row n hn r) k) := by
  show m ((c.tc : Thread nD τ).loc main_arg1) (((cfg0.win 1).blk ⟨n, hn⟩).view.emb (ValueIdx.ix2 r k)) = _
  exact congrArg _ (ix2_rows (idx1 ⟨n, hn⟩) rfl rfl rfl)

/-- The gradient's block at every point. -/
theorem dy_at (c : Dev nD) (t : Fin cfg0.N) :
    (outsAt0 m c t.val t.isLt).1 = k0_pay3 (F := Ideal) (iblk m c 0 t) (iblk m c 1 t) := by
  by_cases h : t.val % 16 = 0
  · rw [outsAt0_A m c t h]; dsimp only; rw [dy_A]
  · rw [outsAt0_B m c t h]; dsimp only; rw [dy_B]

/-- The column sums after each point: the squared errors of the rows so far. -/
theorem sq_at (c : Dev nD) : ∀ (n : ℕ) (hn : n < cfg0.N) (u : Fin 1) (k : Fin 1024),
    (outsAt0 m c n hn).2 (ValueIdx.ix2 u k) = ∑ t : Fin (n + 1), ∑ r : Fin 512,
      sq m c (row t.val (Nat.lt_of_lt_of_le t.isLt hn) r) k
  | 0, hn, u, k => by
    rw [outsAt0_A m c ⟨0, hn⟩ rfl]; dsimp only
    rw [sq_A, pay4_apply, Fin.sum_univ_one]
    simp only [iblk0_apply, iblk1_apply]
    show Ideal.ofBits .f32 0x00000000#32 + _ = _
    rw [Ideal.ofBits_zero_f32, zero_add]
    rfl
  | n + 1, hn, u, k => by
    have hN : cfg0.N = 16 := N_0
    have hB : ¬(⟨n + 1, hn⟩ : Fin cfg0.N).val % 16 = 0 := by dsimp only; omega
    rw [outsAt0_B m c ⟨n + 1, hn⟩ hB]; dsimp only
    rw [sq_B, pay4_apply, Fin.sum_univ_castSucc (n := n + 1)]
    simp only [iblk0_apply, iblk1_apply]
    exact congrArg₂ (· + ·) (sq_at c n (Nat.lt_of_succ_lt hn) u k) rfl

/-- The gradient as a whole array. -/
def dyArr (c : Dev nD) : Buf (Elt Ideal) ((c : Thread nD τ).loc main_v0_0) :=
  fun i => (yArr m c i - tArr m c i) * Ideal.ofBits .f32 0x3A800000#32

/-- The column sums over all rows, as a whole array. -/
def sqArr (c : Dev nD) : Buf (Elt Ideal) ((c : Thread nD τ).loc main_v0_1) :=
  fun i => (∑ r : Fin 8192, sq m c r (i 1) : EReal)

theorem final_dy (c : Dev nD) : (dats m 0 c).arrAt 2 cfg0.N = dyArr m c := by
  refine (dats m 0 c).arrAt_eq_of_cover 2 (dyArr m c) (fun t _ => ?_) fun i => ?_
  · show (cfg0.win 2).cut (grid0.coords t) ((dats m 0 c).after 2 t) = _
    rw [after0_2, dy_at]
    funext j
    obtain ⟨r, k, rfl⟩ : ∃ (r : Fin 512) (k : Fin 1024), j = ValueIdx.ix2 r k := ⟨j 0, j 1, ValueIdx.eq_ix2 j⟩
    show k0_pay3 (F := Ideal) (iblk m c 0 t) (iblk m c 1 t) (ValueIdx.ix2 r k) = dyArr m c (((cfg0.win 2).blk t).view.emb (ValueIdx.ix2 r k))
    have e : ((cfg0.win 2).blk t).view.emb (ValueIdx.ix2 r k) = ValueIdx.ix2 (row t.val t.isLt r) k :=
      ix2_rows (idx2 t) rfl rfl rfl
    rw [e, pay3_apply, iblk0_apply, iblk1_apply]
    rfl
  · have hN : cfg0.N = 16 := N_0
    have hi : (i 0 : Nat) < 8192 := (i 0).isLt
    have hk : (i 1 : Nat) < 1024 := (i 1).isLt
    let t : Fin cfg0.N := ⟨(i 0 : Nat) / 512, by rw [hN]; omega⟩
    refine ⟨t, flush0_2 t, ?_⟩
    show i ∈ ((View.whole main_v0_0).slice (win0_2.rect t)).set
    rw [View.set_slice_whole, Rect.mem_set_unit]
    exact cover_blk 512 1024 (idx2 t) rfl rfl rfl rfl rfl rfl (by dsimp only [t]; omega) (by omega)

theorem final_sq (c : Dev nD) : (dats m 0 c).arrAt 3 cfg0.N = sqArr m c := by
  have hN : cfg0.N = 16 := N_0
  have emb : ∀ (t : Fin cfg0.N) (u : Fin 1) (k : Fin 1024), ((cfg0.win 3).blk t).view.emb (ValueIdx.ix2 u k) = ValueIdx.ix2 u k :=
    fun t u k => ix2_all (idx3 t) rfl rfl
  refine (dats m 0 c).arrAt_eq_of_cover 3 (sqArr m c) (fun t hf => ?_) fun i => ?_
  · show (cfg0.win 3).cut (grid0.coords t) ((dats m 0 c).after 3 t) = _
    rw [after0_3]
    funext j
    obtain ⟨u, k, rfl⟩ : ∃ (r : Fin 1) (k : Fin 1024), j = ValueIdx.ix2 r k := ⟨j 0, j 1, ValueIdx.eq_ix2 j⟩
    show (outsAt0 m c t.val t.isLt).2 (ValueIdx.ix2 u k) = sqArr m c (((cfg0.win 3).blk t).view.emb (ValueIdx.ix2 u k))
    rw [sq_at, emb]
    have h15 : t.val = 15 := by have := (flush0_3 t).mp hf; have := t.isLt; omega
    obtain ⟨n, hn⟩ := t
    dsimp only at h15
    subst h15
    exact (sum_tiles 16 512 8192 rfl fun r => sq m c r k).symm
  · let t : Fin cfg0.N := ⟨15, by rw [hN]; decide⟩
    refine ⟨t, (flush0_3 t).mpr rfl, ?_⟩
    have h0 : (i 0 : Nat) < 1 := (i 0).isLt
    have hk : (i 1 : Nat) < 1024 := (i 1).isLt
    show i ∈ ((View.whole main_v0_1).slice (win0_3.rect t)).set
    rw [View.set_slice_whole, Rect.mem_set_unit]
    exact cover_blk 1 1024 (idx3 t) rfl rfl rfl rfl rfl rfl (by omega) (by omega)

end Cert.Proof.Loss

end
-- ==== Proof.Lits.lean ====
/- The real numbers that the programs' literals are, and division by a nonzero real. -/
module

public import Idealize.ShloMosaic.PureOps.Ideal.Laws
public import Mathlib.Data.EReal.Inv

@[expose] public section

namespace Cert.Proof

open Idealize.ShloMosaic

theorem lit_inv2048 : Ideal.ofBits .f32 0x3A000000#32 = ((1 / 2048 : ℝ) : EReal) := by
  simp [Ideal.ofBits, Ideal.ieee]; rw [← EReal.coe_mul]; norm_num
theorem lit_inv1024 : Ideal.ofBits .f32 0x3A800000#32 = ((1 / 1024 : ℝ) : EReal) := by
  simp [Ideal.ofBits, Ideal.ieee]; rw [← EReal.coe_mul]; norm_num
theorem lit_1024 : Ideal.ofBits .f32 0x44800000#32 = ((1024 : ℝ) : EReal) := by
  simp [Ideal.ofBits, Ideal.ieee]; rw [← EReal.coe_mul]; norm_num
theorem lit_half : Ideal.ofBits .f32 0x3F000000#32 = ((1 / 2 : ℝ) : EReal) := by
  simp [Ideal.ofBits, Ideal.ieee]; rw [← EReal.coe_mul]; norm_num
theorem lit_two : Ideal.ofBits .f32 0x40000000#32 = ((2 : ℝ) : EReal) := by
  simp [Ideal.ofBits, Ideal.ieee]; rw [← EReal.coe_mul]; norm_num
theorem lit_one : Ideal.ofBits .f32 0x3F800000#32 = ((1 : ℝ) : EReal) := by
  simp [Ideal.ofBits, Ideal.ieee]; rw [← EReal.coe_mul]; norm_num

/-- Division by a nonzero real is multiplication by its inverse. -/
theorem div_coe (x : EReal) (r : ℝ) (hr : r ≠ 0) : Ideal.div x (r : EReal) = x * ((r⁻¹ : ℝ) : EReal) := by
  unfold Ideal.div
  rw [if_neg (by exact_mod_cast hr), EReal.coe_inv]

theorem mul_self_nonneg' (x : EReal) : 0 ≤ x * x := by
  rcases le_total 0 x with h | h
  · exact mul_nonneg h h
  · rw [← neg_mul_neg]
    have h' : 0 ≤ -x := by simpa using EReal.neg_le_neg_iff.mpr h
    exact mul_nonneg h' h'

end Cert.Proof

end
-- ==== Proof.Loss.Value.lean ====
/- The loss kernel's run, read: its two results as functions of the arguments, and the reference's two results as the
   same functions. -/
module

public import proofs.«01_k».proof.Proof.Loss.Block
public import proofs.«01_k».proof.Proof.Lits
public import Idealize.ShloMosaic.Lib.ValueIdxRank1
public import proofs.«01_k».proof.Proof.Gen.LossRefIdeal.Run
public import proofs.«01_k».proof.Proof.Gen.LossRefIdeal.Read

@[expose] public section

set_option maxRecDepth 16384

noncomputable section

namespace Cert.Proof.Loss

open Cert.LossIdeal Cert.LossIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The loss, of the column sums. -/
def lossArr (c : Dev nD) : Buf (Elt Ideal) ((c : Thread nD τ).loc main_v2) :=
  let z : (⟨S_, .f32⟩ : BufTy).Contents (Elt Ideal) := constant (F := Ideal) S_ .f32 0x00000000#32
  let f : (⟨S_, .f32⟩ : BufTy).Contents (Elt Ideal) := constant (F := Ideal) S_ .f32 0x3A000000#32
  let y : (⟨S_, .f32⟩ : BufTy).Contents (Elt Ideal) := Host.reduceAdd (F := Ideal) (φ := .f32) (sqArr m c) z reducesTo_S1x1024_S_d0_1 h_S_
  mulf (F := Ideal) (φ := .f32) f y

/-- The column sums as extended reals. -/
def sqF (c : Dev nD) : S1x1024.Idx → EReal := sqArr m c

/-- What the lines after the region leave in the loss's buffer. -/
theorem tail_loss (c : Dev nD) : Pipeline.afterTail₀ cfgs (dats m) 0 (V0 m) [hostOps1] c main_v2 = lossArr m c := by
  unfold Pipeline.afterTail₀
  have e : Pipeline.withArrays spec0 c (V0 m c) (fun w => (dats m 0 c).arrAt w cfg0.N) (Proc.devRef .tc main_v0_1) = sqArr m c :=
    (Pipeline.withArrays_arr spec0 (by decide) c (V0 m c) (fun w => (dats m 0 c).arrAt w cfg0.N) 3).trans (final_sq m c)
  unfold lossArr
  rw [← e]
  show StableHlo.after hostOps1 _ _ = _
  after_results

/-- The run, read. -/
theorem run : θ_run defs (onTc (τ := τ) (main (F := Ideal))) ⟨m, fun _ => 0, ρ⟩ fun r => ∀ c : Dev nD,
      r.2.mem ((c : Thread nD τ).loc main_v2) = lossArr m c
      ∧ r.2.mem ((c : Thread nD τ).loc main_v0_0) = dyArr m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v2 (by decide)).trans (tail_loss m c), ((h c).1 2).trans (final_dy m c),
      ((h c).1 0).trans ((dats m 0 c).arrAt_in 0 rfl _), ((h c).1 1).trans ((dats m 0 c).arrAt_in 1 rfl _)⟩)
    (run_main m ρ)

open Cert.LossRefIdeal.Read in
/-- The reference's gradient is the kernel's. -/
theorem ref_dy (c : Dev nD) : val_main_v14 (F := Ideal) (yArr m c) (tArr m c) = dyArr m c := by
  funext i
  rw [val_main_v14_apply, val_main_v13_apply, val_main_v12_apply, val_main_v11_apply, val_main_v10_apply, val_main_v9_apply,
    val_main_v3_apply, val_main_v2_apply, val_main_v0_apply, val_main_cst_4_apply, val_main_cst_5_apply, val_main_cst_6_apply,
    val_main_cst_apply]
  show Ideal.div (Ideal.ofBits .f32 0x3F000000#32 * Ideal.ofBits .f32 0x3F800000#32) (Ideal.ofBits .f32 0x44800000#32) *
    (Ideal.ofBits .f32 0x40000000#32 * (yArr m c i - tArr m c i)) = (yArr m c i - tArr m c i) * Ideal.ofBits .f32 0x3A800000#32
  rw [lit_half, lit_one, lit_1024, lit_two, lit_inv1024, div_coe _ _ (by norm_num), ← mul_assoc, mul_comm]
  congr 1
  rw [← EReal.coe_mul, ← EReal.coe_mul, ← EReal.coe_mul]
  norm_num

theorem sq_nonneg (c : Dev nD) (r : Fin 8192) (k : Fin 1024) : 0 ≤ sq m c r k := mul_self_nonneg' _

open Cert.LossRefIdeal.Read in
/-- The reference's loss is the kernel's: both sum the same nonnegative squares, row by row or column by column. -/
theorem ref_loss (c : Dev nD) : val_main_v8 (F := Ideal) (yArr m c) (tArr m c) = lossArr m c := by
  have hrow : ∀ r : Fin 8192, val_main_v6 (F := Ideal) (yArr m c) (tArr m c) (ValueIdx.ix1 r)
      = ((1 / 1024 : ℝ) : EReal) * ∑ k : Fin 1024, sq m c r k := by
    intro r
    rw [val_main_v6_apply, val_main_v5_apply, val_main_cst_1_apply, val_main_v4_apply, val_main_cst_0_apply]
    show Ideal.div (Ideal.ofBits .f32 0x00000000#32 + _) (Ideal.ofBits .f32 0x44800000#32) = _
    rw [lit_1024, div_coe _ _ (by norm_num), Ideal.ofBits_zero_f32, zero_add, mul_comm]
    refine congrArg₂ (· * ·) (by norm_num) (Finset.sum_congr rfl fun k _ => ?_)
    rw [val_main_v1_apply, val_main_v0_apply]
    have e : idx_main_v4 (ValueIdx.ix1 r) k = ValueIdx.ix2 r k := by
      funext a; apply Fin.ext
      match a with
      | ⟨0, _⟩ => rfl
      | ⟨1, _⟩ => rfl
    rw [e]
    rfl
  funext i
  rw [val_main_v8_apply, val_main_v7_apply, val_main_cst_2_apply, val_main_cst_3_apply]
  have hl : lossArr m c i = Ideal.ofBits .f32 0x3A000000#32 * (0 + ∑ j : S1x1024.Idx, sqF m c j) := by
    show Ideal.ofBits .f32 0x3A000000#32 * Ideal.hostReduceAdd reducesTo_S1x1024_S_d0_1 (sqF m c) (Ideal.ofBits .f32 0x00000000#32) i = _
    rw [Ideal.hostReduceAdd_total _ (fun b => b.elim0), Ideal.ofBits_zero_f32]
  rw [hl]
  show Ideal.ofBits .f32 0x3F000000#32 * (Ideal.ofBits .f32 0x00000000#32 + ∑ j : Cert.LossRefIdeal.S8192.Idx, val_main_v6 (F := Ideal) (yArr m c) (tArr m c) j) = _
  rw [Ideal.ofBits_zero_f32, zero_add, zero_add, lit_half, lit_inv2048]
  have h1 : ∑ j : Cert.LossRefIdeal.S8192.Idx, val_main_v6 (F := Ideal) (yArr m c) (tArr m c) j = ((1 / 1024 : ℝ) : EReal) * ∑ r : Fin 8192, ∑ k : Fin 1024, sq m c r k := by
    rw [mul_sum_nonneg _ _ _ fun r _ => Finset.sum_nonneg fun k _ => sq_nonneg m c r k]
    exact (Equiv.sum_comp ValueIdx.idxEquiv1.symm _).symm.trans (Finset.sum_congr rfl fun r _ => hrow r)
  have h2 : ∑ j : S1x1024.Idx, sqF m c j = (∑ r : Fin 8192, ∑ k : Fin 1024, sq m c r k : EReal) := by
    refine (ValueIdx.sum_idx2 _).trans ?_
    rw [Fin.sum_univ_one, Finset.sum_comm]
    rfl
  rw [h1, h2, ← mul_assoc, ← EReal.coe_mul]
  norm_num

end Cert.Proof.Loss

end
-- ==== Proof.Loss.Claims.lean ====
/- The claims about the loss call: the three frames and the equality with the reference over the extended reals. -/
module

public import proofs.«01_k».proof.Defs
public import proofs.«01_k».proof.Proof.Gen.Loss.Frame
public import proofs.«01_k».proof.Proof.Gen.LossRefIdeal.Run
public import proofs.«01_k».proof.Proof.Loss.Value
public import Idealize.ShloMosaic.Adequacy
public import Idealize.ShloMosaic.Init

@[expose] public section

set_option maxRecDepth 16384

noncomputable section

namespace Cert.Proof.Loss

open Idealize.ShloMosaic Idealize.SL.Sem

theorem frame_ref : Cert.quiescent_LossRefIdeal := fun m ρ _ =>
  (θ_run Cert.LossRefIdeal.defs _ _).mono (fun r h => ⟨fun c => ⟨(h c).2.2.1, (h c).2.2.2⟩,
      sem_eq_zero_of_no_sems (by decide) r.2⟩)
    (Cert.LossRefIdeal.Value.run (F := Ideal) m ρ)

theorem algebraic : Cert.algebraic_LossIdeal_LossRefIdeal := by
  intro m ρ m' ρ' _ hagree
  refine ⟨fun c => lossArr m c, fun c => dyArr m c, run m ρ, ?_⟩
  refine (θ_run Cert.LossRefIdeal.defs _ _).mono (fun _ h c => ⟨(h c).1.trans ?_, (h c).2.1.trans ?_, (h c).2.2⟩)
    (Cert.LossRefIdeal.Value.run (F := Ideal) m' ρ')
  · rw [Cert.LossRefIdeal.Read.val_main_v8_eq, (hagree c).1, (hagree c).2]
    exact ref_loss m c
  · rw [Cert.LossRefIdeal.Read.val_main_v14_eq, (hagree c).1, (hagree c).2]
    exact ref_dy m c

end Cert.Proof.Loss

end
-- ==== Proof.AttnBwd.Pay.lean ====
module

public import proofs.«01_k».proof.Proof.Gen.AttnBwdIdeal.Frame
public import Idealize.ShloMosaic.Lib.VecWindow
public import Idealize.ShloMosaic.Lib.WritesUnit
public import Idealize.ShloMosaic.Lib.MatmulPlain
public import Idealize.ShloMosaic.Lib.Pipeline.Value
public import Idealize.ShloMosaic.Lib.ValueIdx
public import Idealize.ShloMosaic.Lib.ValueLayout
public import Idealize.ShloMosaic.Lib.Tactic
public import Idealize.ShloMosaic.PureOps.Ideal.Laws

/-! The arithmetic of one step of the full attention's backward kernel, over the extended reals.

One step takes a chunk of 512 queries and a block of 512 keys. `pE` is the softmax weight of key
row `r` and query column `c` (from the saved row log-sum), `dE` the gradient of their score. -/

@[expose] public section

set_option maxRecDepth 16384

noncomputable section

namespace Cert.AttnBwdIdeal.Val

open Idealize.ShloMosaic Idealize.ShloMosaic.TcCoe Idealize.ShloMosaic.Tactic Idealize.SL.Sem Cert.AttnBwdIdeal.Gen
open Idealize.ShloMosaic.ValueIdx

/-- The chunk `i` of a stack of 16. -/
def chunk (x : S1x16x64x512.Idx → EReal) (i : Fin 16) : S1x1x64x512.Idx → EReal := fun y => x (ix4 0 i (y 2) (y 3))
/-- The row `i` of a stack of 16. -/
def row (x : S1x16x1x512.Idx → EReal) (i : Fin 16) : S1x1x1x512.Idx → EReal := fun y => x (ix4 0 i 0 (y 3))

/-- The softmax weight of key `r` for the query `c` of one chunk. -/
def pE (kb : S1x512x64.Idx → EReal) (q : S1x16x64x512.Idx → EReal) (l : S1x16x1x512.Idx → EReal) (i : Fin 16) (r c : Fin 512) : EReal :=
  Ideal.exp ((∑ d : Fin 64, kb (ix3 0 r d) * q (ix4 0 i d c)) - l (ix4 0 i 0 c))

/-- The gradient of the score of key `r` and query `c` of one chunk. -/
def dE (kb vb : S1x512x64.Idx → EReal) (q o : S1x16x64x512.Idx → EReal) (l dl : S1x16x1x512.Idx → EReal) (i : Fin 16) (r c : Fin 512) : EReal :=
  pE kb q l i r c * ((∑ d : Fin 64, vb (ix3 0 r d) * o (ix4 0 i d c)) - dl (ix4 0 i 0 c))

/-- A chunk without its two leading unit axes. -/
theorem chunk_apply (x : S1x16x64x512.Idx → EReal) (i : Fin 16) (h : S1x1x64x512.ShapeCasts S64x512) (d : Fin 64) (c : Fin 512) :
    shapeCast S64x512 (chunk x i) h (ix2 d c) = x (ix4 0 i d c) := by
  rw [shapeCast_apply (chunk x i) h (ix2 d c) (ix4 0 0 d c) (by
    rw [Shape.rowMajor_val_two, Shape.rowMajor_val_four]
    show ((0 * 1 + 0) * 64 + d.val) * 512 + c.val = d.val * 512 + c.val
    omega)]
  rfl

/-- A row read along the 512 keys of a score tile. -/
theorem row_apply (x : S1x16x1x512.Idx → EReal) (i : Fin 16) (h : S1x1x1x512.ShapeCasts S1x512) (h' : S1x512.Broadcasts S512x512) (r c : Fin 512) :
    broadcastTo S512x512 (shapeCast S1x512 (row x i) h) h' (ix2 r c) = x (ix4 0 i 0 c) := by
  rw [broadcastTo_apply _ h' (ix2 r c) (ix2 0 c) (fun a => by
    match a with
    | ⟨0, _⟩ => rfl
    | ⟨1, _⟩ => rfl)]
  rw [shapeCast_apply (row x i) h (ix2 0 c) (ix4 0 0 0 c) (by
    rw [Shape.rowMajor_val_two, Shape.rowMajor_val_four]
    show ((0 * 1 + 0) * 1 + 0) * 512 + c.val = 0 * 512 + c.val
    omega)]
  rfl

theorem dot1 (lhs : FVec Ideal S512x64 .bf16) (rhs : FVec Ideal S64x512 .bf16) (r c : Fin 512) :
    matmul (F := Ideal) dot_S512x64_S64x512_S512x512_1_0_0_1_n_n none lhs rhs (constant S512x512 .f32 0x00000000#32) (ix2 r c)
      = ∑ d : Fin 64, lhs (ix2 r d) * rhs (ix2 d c) := by
  refine (Ideal.matmul_plain_apply none lhs rhs _ r c).trans ?_
  show (Ideal.ofBits .f32 0x00000000#32 : EReal) + _ = _
  simp

theorem dot2 (lhs : FVec Ideal S512x512 .bf16) (rhs : FVec Ideal S64x512 .bf16) (r : Fin 512) (d : Fin 64) :
    matmul (F := Ideal) dot_S512x512_S64x512_S512x64_1_1_0_0_n_n none lhs rhs (constant S512x64 .f32 0x00000000#32) (ix2 r d)
      = ∑ c : Fin 512, lhs (ix2 r c) * rhs (ix2 d c) := by
  refine (Ideal.matmul_transposedRhs_apply none lhs rhs _ r d).trans ?_
  show (Ideal.ofBits .f32 0x00000000#32 : EReal) + _ = _
  simp

theorem dot3 (lhs : FVec Ideal S64x512 .bf16) (rhs : FVec Ideal S512x512 .bf16) (d : Fin 64) (c : Fin 512) :
    matmul (F := Ideal) dot_S64x512_S512x512_S64x512_1_0_0_1_n_n none lhs rhs (constant S64x512 .f32 0x00000000#32) (ix2 d c)
      = ∑ r : Fin 512, lhs (ix2 d r) * rhs (ix2 r c) := by
  refine (Ideal.matmul_plain_apply none lhs rhs _ d c).trans ?_
  show (Ideal.ofBits .f32 0x00000000#32 : EReal) + _ = _
  simp

theorem pay5_apply (kb : S1x512x64.Idx → EReal) (q : S1x16x64x512.Idx → EReal) (l : S1x16x1x512.Idx → EReal) (i : Fin 16) (r c : Fin 512) :
    k0_pay5 (F := Ideal) (k0_pay10 (F := Ideal) kb) (chunk q i) (row l i) (ix2 r c) = pE kb q l i r c := by
  unfold k0_pay5 k0_pay10 k0_pay3 pE
  dsimp only
  show Ideal.exp (_ - _) = _
  congr 2
  · refine (dot1 _ _ r c).trans (Finset.sum_congr rfl fun d _ => ?_)
    exact congrArg₂ (· * ·) (shapeCast_1ab_ab_apply kb _ r d) (chunk_apply q i _ d c)
  · exact row_apply l i _ _ r c

theorem pay7_apply (kb vb : S1x512x64.Idx → EReal) (q o : S1x16x64x512.Idx → EReal) (l dl : S1x16x1x512.Idx → EReal) (i : Fin 16) (r c : Fin 512) :
    k0_pay7 (F := Ideal) (k0_pay10 (F := Ideal) kb) (k0_pay11 (F := Ideal) vb) (chunk q i) (chunk o i) (row l i) (row dl i) (ix2 r c)
      = dE kb vb q o l dl i r c := by
  have h5 := pay5_apply kb q l i r c
  unfold k0_pay7 k0_pay11 k0_pay4 dE
  dsimp only
  show k0_pay5 (F := Ideal) (k0_pay10 (F := Ideal) kb) (chunk q i) (row l i) (ix2 r c) * (_ - _) = _
  rw [h5]
  congr 2
  · refine (dot1 _ _ r c).trans (Finset.sum_congr rfl fun d _ => ?_)
    exact congrArg₂ (· * ·) (shapeCast_1ab_ab_apply vb _ r d) (chunk_apply o i _ d c)
  · exact row_apply dl i _ _ r c

theorem pay6_apply (kb : S1x512x64.Idx → EReal) (q o : S1x16x64x512.Idx → EReal) (l : S1x16x1x512.Idx → EReal) (a : S512x64.Idx → EReal) (i : Fin 16) (r : Fin 512) (d : Fin 64) :
    k0_pay6 (F := Ideal) (k0_pay10 (F := Ideal) kb) (chunk q i) (chunk o i) (row l i) a (ix2 r d)
      = a (ix2 r d) + ∑ c : Fin 512, pE kb q l i r c * o (ix4 0 i d c) := by
  unfold k0_pay6 k0_pay4
  dsimp only
  rw [shapeCast_self]
  show a (ix2 r d) + _ = _
  congr 1
  refine (dot2 _ _ r d).trans (Finset.sum_congr rfl fun c _ => ?_)
  exact congrArg₂ (· * ·) (pay5_apply kb q l i r c) (chunk_apply o i _ d c)

theorem pay8_apply (kb vb : S1x512x64.Idx → EReal) (q o : S1x16x64x512.Idx → EReal) (l dl : S1x16x1x512.Idx → EReal) (a : S512x64.Idx → EReal) (i : Fin 16) (r : Fin 512) (d : Fin 64) :
    k0_pay8 (F := Ideal) (k0_pay10 (F := Ideal) kb) (k0_pay11 (F := Ideal) vb) (chunk q i) (chunk o i) (row l i) (row dl i) a (ix2 r d)
      = a (ix2 r d) + ∑ c : Fin 512, dE kb vb q o l dl i r c * q (ix4 0 i d c) := by
  unfold k0_pay8 k0_pay3
  dsimp only
  rw [shapeCast_self]
  show a (ix2 r d) + _ = _
  congr 1
  refine (dot2 _ _ r d).trans (Finset.sum_congr rfl fun c _ => ?_)
  exact congrArg₂ (· * ·) (pay7_apply kb vb q o l dl i r c) (chunk_apply q i _ d c)

theorem pay14_apply (kt : S1x64x512.Idx → EReal) (g : S512x512.Idx → EReal) (a : S1x64x512.Idx → EReal) (d : Fin 64) (c : Fin 512) :
    k0_pay14 (F := Ideal) kt g a (ix3 0 d c) = a (ix3 0 d c) + ∑ r : Fin 512, kt (ix3 0 d r) * g (ix2 r c) := by
  unfold k0_pay14
  refine (shapeCast_ab_1ab_apply _ _ 0 d c).trans ?_
  show _ + _ = _
  congr 1
  · exact shapeCast_1ab_ab_apply a _ d c
  · refine (dot3 _ _ d c).trans (Finset.sum_congr rfl fun r _ => ?_)
    exact congrArg (· * _) (shapeCast_1ab_ab_apply kt _ d r)

theorem pay9_eq : k0_pay9 (F := Ideal) = fun _ => (0 : EReal) := by
  unfold k0_pay9
  show shapeCast S16x64x512 (broadcast S16x64x512 (FloatOps.ofBits (F := Ideal) FTy.f32 0x00000000#32)) _ = _
  rw [shapeCast_self]; funext y
  show (Ideal.ofBits .f32 0x00000000#32 : EReal) = 0
  simp

theorem pay12_eq : k0_pay12 (F := Ideal) = fun _ => (0 : EReal) := by
  unfold k0_pay12
  show shapeCast S512x64 (broadcast S512x64 (FloatOps.ofBits (F := Ideal) FTy.f32 0x00000000#32)) _ = _
  rw [shapeCast_self]; funext y
  show (Ideal.ofBits .f32 0x00000000#32 : EReal) = 0
  simp

theorem pay13_eq : k0_pay13 (F := Ideal) = fun _ => (0 : EReal) := pay12_eq

/-- A 512×64 result stored with a leading unit axis. -/
theorem pay15_apply (x : S512x64.Idx → EReal) (u : Fin 1) (r : Fin 512) (d : Fin 64) :
    k0_pay15 (F := Ideal) x (ix3 u r d) = x (ix2 r d) := by
  unfold k0_pay15
  exact shapeCast_ab_1ab_apply _ _ u r d

theorem pay1_apply (x : S512x64.Idx → EReal) (u : Fin 1) (r : Fin 512) (d : Fin 64) :
    k0_pay1 (F := Ideal) (k0_pay16 (F := Ideal) x) (ix3 u r d) = x (ix2 r d) := by
  unfold k0_pay1
  exact shapeCast_ab_1ab_apply _ _ u r d

theorem pay2_apply (x : S16x64x512.Idx → EReal) (u : Fin 1) (i : Fin 16) (d : Fin 64) (c : Fin 512) :
    k0_pay2 (F := Ideal) x (ix4 u i d c) = x (ix3 i d c) := by
  unfold k0_pay2
  exact shapeCast_abc_1abc_apply _ _ u i d c

end Cert.AttnBwdIdeal.Val
-- ==== Proof.AttnBwd.Loop.lean ====
module

public import proofs.«01_k».proof.Proof.AttnBwd.Pay

/-! The loop over the 16 query chunks inside one point of the full attention's backward kernel: what
the three accumulators hold after it. -/

@[expose] public section

set_option maxRecDepth 16384

noncomputable section

namespace Cert.AttnBwdIdeal.Val

open Idealize.ShloMosaic Idealize.ShloMosaic.TcCoe Idealize.ShloMosaic.Tactic Idealize.SL.Sem Cert.AttnBwdIdeal.Gen
open Idealize.ShloMosaic.ValueIdx

theorem trips_eq : k0_t1_loop.trips = 16 := by decide +kernel

/-- The chunk that trip `k` reads. -/
def ci (k : Fin k0_t1_loop.trips) : Fin 16 := ⟨k.val, lt_of_lt_of_eq k.isLt trips_eq⟩

theorem off1_eq : ∀ k : Fin k0_t1_loop.trips, k0_off1 k = ![0, k.val, 0, 0] := by decide +kernel
theorem off2_eq : ∀ k : Fin k0_t1_loop.trips, k0_off2 k = ![0, k.val, 0, 0] := by decide +kernel
theorem off3_eq : ∀ k : Fin k0_t1_loop.trips, k0_off3 k = ![k.val, 0, 0] := by decide +kernel

theorem inb_chunk (k : Fin k0_t1_loop.trips) (a : Fin 4) : (![0, k.val, 0, 0] : Fin 4 → ℕ) a + S1x1x64x512.size a ≤ S1x16x64x512.size a := by
  rw [← off1_eq k]; exact k0_off1_inb k a
theorem inb_row (k : Fin k0_t1_loop.trips) (a : Fin 4) : (![0, k.val, 0, 0] : Fin 4 → ℕ) a + S1x1x1x512.size a ≤ S1x16x1x512.size a := by
  rw [← off2_eq k]; exact k0_off2_inb k a
theorem inb_acc (k : Fin k0_t1_loop.trips) (a : Fin 3) : (![k.val, 0, 0] : Fin 3 → ℕ) a + S1x64x512.size a ≤ S16x64x512.size a := by
  rw [← off3_eq k]; exact k0_off3_inb k a

theorem window_chunk (x : S1x16x64x512.Idx → EReal) (k : Fin k0_t1_loop.trips) :
    VecWindow.window x ![0, k.val, 0, 0] S1x1x64x512.size (inb_chunk k) = chunk x (ci k) := by
  funext y
  refine congrArg x (funext fun a => Fin.ext ?_)
  match a with
  | ⟨0, _⟩ => show 0 + 1 * (y 0).val = 0; have h : (y 0).val < 1 := (y 0).isLt; omega
  | ⟨1, _⟩ => show k.val + 1 * (y 1).val = k.val; have h : (y 1).val < 1 := (y 1).isLt; omega
  | ⟨2, _⟩ => show 0 + 1 * (y 2).val = (y 2).val; omega
  | ⟨3, _⟩ => show 0 + 1 * (y 3).val = (y 3).val; omega

theorem window_row (x : S1x16x1x512.Idx → EReal) (k : Fin k0_t1_loop.trips) :
    VecWindow.window x ![0, k.val, 0, 0] S1x1x1x512.size (inb_row k) = row x (ci k) := by
  funext y
  refine congrArg x (funext fun a => Fin.ext ?_)
  match a with
  | ⟨0, _⟩ => show 0 + 1 * (y 0).val = 0; have h : (y 0).val < 1 := (y 0).isLt; omega
  | ⟨1, _⟩ => show k.val + 1 * (y 1).val = k.val; have h : (y 1).val < 1 := (y 1).isLt; omega
  | ⟨2, _⟩ => show 0 + 1 * (y 2).val = 0; have h : (y 2).val < 1 := (y 2).isLt; omega
  | ⟨3, _⟩ => show 0 + 1 * (y 3).val = (y 3).val; omega

/-- A slab of the query gradient's accumulator after a slab was put back. -/
theorem put_acc (x : S16x64x512.Idx → EReal) (w : S1x64x512.Idx → EReal) (k : Fin k0_t1_loop.trips) (i : Fin 16) (d : Fin 64) (c : Fin 512) :
    VecWindow.put x ![k.val, 0, 0] S1x64x512.size w (ix3 i d c) = if i.val = k.val then w (ix3 0 d c) else x (ix3 i d c) := by
  unfold VecWindow.put
  by_cases h : i.val = k.val
  · rw [if_pos h, dif_pos (fun a => by
      match a with
      | ⟨0, _⟩ => show k.val ≤ i.val ∧ i.val < k.val + 1; omega
      | ⟨1, _⟩ => show 0 ≤ d.val ∧ d.val < 0 + 64; omega
      | ⟨2, _⟩ => show 0 ≤ c.val ∧ c.val < 0 + 512; omega)]
    refine congrArg w (funext fun a => Fin.ext ?_)
    match a with
    | ⟨0, _⟩ => show i.val - k.val = 0; omega
    | ⟨1, _⟩ => show d.val - 0 = d.val; omega
    | ⟨2, _⟩ => show c.val - 0 = c.val; omega
  · rw [if_neg h, dif_neg (fun H => by
      have h0 : k.val ≤ i.val ∧ i.val < k.val + 1 := H 0
      omega)]

theorem window_acc (x : S16x64x512.Idx → EReal) (k : Fin k0_t1_loop.trips) (d : Fin 64) (c : Fin 512) :
    VecWindow.window x ![k.val, 0, 0] S1x64x512.size (inb_acc k) (ix3 0 d c) = x (ix3 (ci k) d c) := by
  refine congrArg x (funext fun a => Fin.ext ?_)
  match a with
  | ⟨0, _⟩ => show k.val + 1 * 0 = k.val; omega
  | ⟨1, _⟩ => show 0 + 1 * d.val = d.val; omega
  | ⟨2, _⟩ => show 0 + 1 * c.val = c.val; omega

section
variable (dv : Dev nD) (gi : grid0.Coords) (arg2 : Memref sig .tc .vmem S1x16x64x512 .bf16) (harg2 : arg2.IsWhole) (arg3 : Memref sig .tc .vmem S1x16x64x512 .bf16) (harg3 : arg3.IsWhole) (arg4 : Memref sig .tc .vmem S1x16x1x512 .f32) (harg4 : arg4.IsWhole) (arg5 : Memref sig .tc .vmem S1x16x1x512 .f32) (harg5 : arg5.IsWhole) (arg6 : Memref sig .tc .vmem S1x512x64 .bf16) (harg6 : arg6.IsWhole) (arg7 : Memref sig .tc .vmem S1x64x512 .bf16) (harg7 : arg7.IsWhole) (arg8 : Memref sig .tc .vmem S1x512x64 .bf16) (harg8 : arg8.IsWhole) (arg9 : Memref sig .tc .vmem S1x16x64x512 .bf16) (harg9 : arg9.IsWhole) (arg10 : Memref sig .tc .vmem S1x512x64 .bf16) (harg10 : arg10.IsWhole) (arg11 : Memref sig .tc .vmem S1x512x64 .bf16) (harg11 : arg11.IsWhole) (arg12 : Memref sig .tc .vmem S16x64x512 .f32) (harg12 : arg12.IsWhole) (arg13 : Memref sig .tc .vmem S512x64 .f32) (harg13 : arg13.IsWhole) (arg14 : Memref sig .tc .vmem S512x64 .f32) (harg14 : arg14.IsWhole)
variable (v3 : Vec Ideal S1x512x64 .bf16) (v5 : Vec Ideal S1x64x512 .bf16) (v7 : Vec Ideal S1x512x64 .bf16)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (f12 G12 : BufTy.Contents (Elt Ideal) arg12.view.ty) (f13 G13 : BufTy.Contents (Elt Ideal) arg13.view.ty)
  (f14 G14 : BufTy.Contents (Elt Ideal) arg14.view.ty) (k : Fin k0_t1_loop.trips)

/-- One trip: the new readings of the accumulators (keys', values', queries' gradient). -/
theorem trip_read (q o : S1x16x64x512.Idx → EReal) (l dl : S1x16x1x512.Idx → EReal)
    (h2 : arg2.view.read (Elt Ideal) X2 = q) (h3 : arg3.view.read (Elt Ideal) X3 = o)
    (h4 : arg4.view.read (Elt Ideal) X4 = l) (h5 : arg5.view.read (Elt Ideal) X5 = dl) :
    arg14.view.read (Elt Ideal) (arg14.view.writes (Elt Ideal) f14 (tripL_k0_t1 (F := Ideal) Variants.none dv none gi arg2 harg2 arg3 harg3 arg4 harg4 arg5 harg5 arg6 harg6 arg7 harg7 arg8 harg8 arg9 harg9 arg10 harg10 arg11 harg11 arg12 harg12 arg13 harg13 arg14 harg14 v3 v5 v7 X2 X3 X4 X5 k f12 f13 f14).2.2)
        = k0_pay6 (F := Ideal) (k0_pay10 (F := Ideal) v3) (chunk q (ci k)) (chunk o (ci k)) (row l (ci k)) (arg14.view.read (Elt Ideal) f14)
      ∧ arg13.view.read (Elt Ideal) (arg13.view.writes (Elt Ideal) f13 (tripL_k0_t1 (F := Ideal) Variants.none dv none gi arg2 harg2 arg3 harg3 arg4 harg4 arg5 harg5 arg6 harg6 arg7 harg7 arg8 harg8 arg9 harg9 arg10 harg10 arg11 harg11 arg12 harg12 arg13 harg13 arg14 harg14 v3 v5 v7 X2 X3 X4 X5 k f12 f13 f14).2.1)
        = k0_pay8 (F := Ideal) (k0_pay10 (F := Ideal) v3) (k0_pay11 (F := Ideal) v7) (chunk q (ci k)) (chunk o (ci k)) (row l (ci k)) (row dl (ci k)) (arg13.view.read (Elt Ideal) f13)
      ∧ arg12.view.read (Elt Ideal) (arg12.view.writes (Elt Ideal) f12 (tripL_k0_t1 (F := Ideal) Variants.none dv none gi arg2 harg2 arg3 harg3 arg4 harg4 arg5 harg5 arg6 harg6 arg7 harg7 arg8 harg8 arg9 harg9 arg10 harg10 arg11 harg11 arg12 harg12 arg13 harg13 arg14 harg14 v3 v5 v7 X2 X3 X4 X5 k f12 f13 f14).1)
        = VecWindow.put (arg12.view.read (Elt Ideal) f12) ![k.val, 0, 0] S1x64x512.size
            (k0_pay14 (F := Ideal) v5 (k0_pay7 (F := Ideal) (k0_pay10 (F := Ideal) v3) (k0_pay11 (F := Ideal) v7) (chunk q (ci k)) (chunk o (ci k)) (row l (ci k)) (row dl (ci k)))
              (VecWindow.window (arg12.view.read (Elt Ideal) f12) ![k.val, 0, 0] S1x64x512.size (inb_acc k))) := by
  have e2 : arg2.view.readAt (Elt Ideal) (Rect.unit (s := S1x16x64x512) (k0_off1 k) S1x1x64x512.size (k0_off1_inb k)).toLoadRect X2 = chunk q (ci k) := by
    rw [View.readAt_unit _ _ _ (off1_eq k) (inb_chunk k), h2]; exact window_chunk q k
  have e3 : arg3.view.readAt (Elt Ideal) (Rect.unit (s := S1x16x64x512) (k0_off1 k) S1x1x64x512.size (k0_off1_inb k)).toLoadRect X3 = chunk o (ci k) := by
    rw [View.readAt_unit _ _ _ (off1_eq k) (inb_chunk k), h3]; exact window_chunk o k
  have e4 : arg4.view.readAt (Elt Ideal) (Rect.unit (s := S1x16x1x512) (k0_off2 k) S1x1x1x512.size (k0_off2_inb k)).toLoadRect X4 = row l (ci k) := by
    rw [View.readAt_unit _ _ _ (off2_eq k) (inb_row k), h4]; exact window_row l k
  have e5 : arg5.view.readAt (Elt Ideal) (Rect.unit (s := S1x16x1x512) (k0_off2 k) S1x1x1x512.size (k0_off2_inb k)).toLoadRect X5 = row dl (ci k) := by
    rw [View.readAt_unit _ _ _ (off2_eq k) (inb_row k), h5]; exact window_row dl k
  unfold tripL_k0_t1 trip_k0_t1
  dsimp only
  sl_unfold_words
  refine ⟨?_, ?_, ?_⟩
  · refine (View.read_writes_full _ _ _ _ _).trans ?_
    have key : ∀ (a2 a3 : S1x1x64x512.Idx → EReal) (a4 : S1x1x1x512.Idx → EReal) (a w : S512x64.Idx → EReal),
        a2 = chunk q (ci k) → a3 = chunk o (ci k) → a4 = row l (ci k) → a = w →
        k0_pay6 (F := Ideal) (k0_pay10 (F := Ideal) v3) a2 a3 a4 a
          = k0_pay6 (F := Ideal) (k0_pay10 (F := Ideal) v3) (chunk q (ci k)) (chunk o (ci k)) (row l (ci k)) w := by
      rintro _ _ _ _ _ rfl rfl rfl rfl; rfl
    exact key _ _ _ _ _ e2 e3 e4 (View.readAt_full _ _ _)
  · refine (View.read_writes_full _ _ _ _ _).trans ?_
    have key : ∀ (a2 a3 : S1x1x64x512.Idx → EReal) (a4 a5 : S1x1x1x512.Idx → EReal) (a w : S512x64.Idx → EReal),
        a2 = chunk q (ci k) → a3 = chunk o (ci k) → a4 = row l (ci k) → a5 = row dl (ci k) → a = w →
        k0_pay8 (F := Ideal) (k0_pay10 (F := Ideal) v3) (k0_pay11 (F := Ideal) v7) a2 a3 a4 a5 a
          = k0_pay8 (F := Ideal) (k0_pay10 (F := Ideal) v3) (k0_pay11 (F := Ideal) v7) (chunk q (ci k)) (chunk o (ci k)) (row l (ci k)) (row dl (ci k)) w := by
      rintro _ _ _ _ _ _ rfl rfl rfl rfl rfl; rfl
    exact key _ _ _ _ _ _ e2 e3 e4 e5 (View.readAt_full _ _ _)
  · refine (View.read_writes_cons_put _ _ _ _ _ (off3_eq k)).trans ?_
    have key : ∀ (a2 a3 : S1x1x64x512.Idx → EReal) (a4 a5 : S1x1x1x512.Idx → EReal) (a12 w : S1x64x512.Idx → EReal),
        a2 = chunk q (ci k) → a3 = chunk o (ci k) → a4 = row l (ci k) → a5 = row dl (ci k) → a12 = w →
        VecWindow.put (arg12.view.read (Elt Ideal) f12) ![k.val, 0, 0] S1x64x512.size
            (k0_pay14 (F := Ideal) v5 (k0_pay7 (F := Ideal) (k0_pay10 (F := Ideal) v3) (k0_pay11 (F := Ideal) v7) a2 a3 a4 a5) a12)
          = VecWindow.put (arg12.view.read (Elt Ideal) f12) ![k.val, 0, 0] S1x64x512.size
            (k0_pay14 (F := Ideal) v5 (k0_pay7 (F := Ideal) (k0_pay10 (F := Ideal) v3) (k0_pay11 (F := Ideal) v7) (chunk q (ci k)) (chunk o (ci k)) (row l (ci k)) (row dl (ci k))) w) := by
      rintro _ _ _ _ _ _ rfl rfl rfl rfl rfl; rfl
    exact key _ _ _ _ _ _ e2 e3 e4 e5 (View.readAt_unit _ _ _ (off3_eq k) (inb_acc k))

/-- The accumulators after the first `n` trips. -/
theorem loop_read (q o : S1x16x64x512.Idx → EReal) (l dl : S1x16x1x512.Idx → EReal)
    (h2 : arg2.view.read (Elt Ideal) X2 = q) (h3 : arg3.view.read (Elt Ideal) X3 = o)
    (h4 : arg4.view.read (Elt Ideal) X4 = l) (h5 : arg5.view.read (Elt Ideal) X5 = dl) (n : ℕ) (hn : n ≤ 16) :
    (∀ (r : Fin 512) (d : Fin 64), arg14.view.read (Elt Ideal) (arg14.view.writes (Elt Ideal) G14 (pb_k0_t1 (F := Ideal) Variants.none dv none gi arg2 harg2 arg3 harg3 arg4 harg4 arg5 harg5 arg6 harg6 arg7 harg7 arg8 harg8 arg9 harg9 arg10 harg10 arg11 harg11 arg12 harg12 arg13 harg13 arg14 harg14 v3 v5 v7 X2 X3 X4 X5 G12 G13 G14 n).2.2) (ix2 r d)
        = arg14.view.read (Elt Ideal) G14 (ix2 r d) + ∑ i : Fin n, ∑ c : Fin 512, pE v3 q l (i.castLE hn) r c * o (ix4 0 (i.castLE hn) d c))
      ∧ (∀ (r : Fin 512) (d : Fin 64), arg13.view.read (Elt Ideal) (arg13.view.writes (Elt Ideal) G13 (pb_k0_t1 (F := Ideal) Variants.none dv none gi arg2 harg2 arg3 harg3 arg4 harg4 arg5 harg5 arg6 harg6 arg7 harg7 arg8 harg8 arg9 harg9 arg10 harg10 arg11 harg11 arg12 harg12 arg13 harg13 arg14 harg14 v3 v5 v7 X2 X3 X4 X5 G12 G13 G14 n).2.1) (ix2 r d)
        = arg13.view.read (Elt Ideal) G13 (ix2 r d) + ∑ i : Fin n, ∑ c : Fin 512, dE v3 v7 q o l dl (i.castLE hn) r c * q (ix4 0 (i.castLE hn) d c))
      ∧ (∀ (j : Fin 16) (d : Fin 64) (c : Fin 512), arg12.view.read (Elt Ideal) (arg12.view.writes (Elt Ideal) G12 (pb_k0_t1 (F := Ideal) Variants.none dv none gi arg2 harg2 arg3 harg3 arg4 harg4 arg5 harg5 arg6 harg6 arg7 harg7 arg8 harg8 arg9 harg9 arg10 harg10 arg11 harg11 arg12 harg12 arg13 harg13 arg14 harg14 v3 v5 v7 X2 X3 X4 X5 G12 G13 G14 n).1) (ix3 j d c)
        = if j.val < n then arg12.view.read (Elt Ideal) G12 (ix3 j d c) + ∑ r : Fin 512, v5 (ix3 0 d r) * dE v3 v7 q o l dl j r c
          else arg12.view.read (Elt Ideal) G12 (ix3 j d c)) := by
  induction n with
  | zero =>
    refine ⟨fun r d => ?_, fun r d => ?_, fun j d c => ?_⟩
    · rw [pb_k0_t1.eq_1]; simp [View.writes_nil]
    · rw [pb_k0_t1.eq_1]; simp [View.writes_nil]
    · rw [pb_k0_t1.eq_1]; simp [View.writes_nil]
  | succ n ih =>
    obtain ⟨i14, i13, i12⟩ := ih (by omega)
    have hlt : n < k0_t1_loop.trips := by rw [trips_eq]; omega
    have hs := pb_k0_t1_succ (F := Ideal) Variants.none dv none gi arg2 harg2 arg3 harg3 arg4 harg4 arg5 harg5 arg6 harg6 arg7 harg7 arg8 harg8 arg9 harg9 arg10 harg10 arg11 harg11 arg12 harg12 arg13 harg13 arg14 harg14 v3 v5 v7 X2 X3 X4 X5 G12 G13 G14 ⟨n, hlt⟩
    rw [show (⟨n, hlt⟩ : Fin k0_t1_loop.trips).val = n from rfl] at hs
    have ht := trip_read dv gi arg2 harg2 arg3 harg3 arg4 harg4 arg5 harg5 arg6 harg6 arg7 harg7 arg8 harg8 arg9 harg9 arg10 harg10 arg11 harg11 arg12 harg12 arg13 harg13 arg14 harg14 v3 v5 v7 X2 X3 X4 X5 (arg12.view.writes (Elt Ideal) G12 (pb_k0_t1 (F := Ideal) Variants.none dv none gi arg2 harg2 arg3 harg3 arg4 harg4 arg5 harg5 arg6 harg6 arg7 harg7 arg8 harg8 arg9 harg9 arg10 harg10 arg11 harg11 arg12 harg12 arg13 harg13 arg14 harg14 v3 v5 v7 X2 X3 X4 X5 G12 G13 G14 n).1) (arg13.view.writes (Elt Ideal) G13 (pb_k0_t1 (F := Ideal) Variants.none dv none gi arg2 harg2 arg3 harg3 arg4 harg4 arg5 harg5 arg6 harg6 arg7 harg7 arg8 harg8 arg9 harg9 arg10 harg10 arg11 harg11 arg12 harg12 arg13 harg13 arg14 harg14 v3 v5 v7 X2 X3 X4 X5 G12 G13 G14 n).2.1)
      (arg14.view.writes (Elt Ideal) G14 (pb_k0_t1 (F := Ideal) Variants.none dv none gi arg2 harg2 arg3 harg3 arg4 harg4 arg5 harg5 arg6 harg6 arg7 harg7 arg8 harg8 arg9 harg9 arg10 harg10 arg11 harg11 arg12 harg12 arg13 harg13 arg14 harg14 v3 v5 v7 X2 X3 X4 X5 G12 G13 G14 n).2.2) ⟨n, hlt⟩ q o l dl h2 h3 h4 h5
    rw [hs]
    dsimp only
    rw [View.writes_append, View.writes_append, View.writes_append]
    obtain ⟨t14, t13, t12⟩ := ht
    have hci : ci ⟨n, hlt⟩ = (⟨n, by omega⟩ : Fin 16) := rfl
    refine ⟨fun r d => ?_, fun r d => ?_, fun j d c => ?_⟩
    · rw [t14, pay6_apply, i14, Fin.sum_univ_castSucc (n := n), add_assoc]
      rfl
    · rw [t13, pay8_apply, i13, Fin.sum_univ_castSucc (n := n), add_assoc]
      rfl
    · rw [t12, put_acc, pay14_apply, window_acc]
      by_cases hj : j.val = n
      · have hjc : ci ⟨n, hlt⟩ = j := Fin.ext hj.symm
        rw [if_pos hj, if_pos (by omega), hjc, i12, if_neg (by omega)]
        exact congrArg _ (Finset.sum_congr rfl fun r _ => congrArg _ (pay7_apply v3 v7 q o l dl j r c))
      · rw [if_neg hj, i12]
        by_cases hj' : j.val < n
        · rw [if_pos hj', if_pos (by omega)]
        · rw [if_neg hj', if_neg (by omega)]

/-- The accumulators after the whole loop, the key and value gradients' started from zero. -/
theorem loop_all (q o : S1x16x64x512.Idx → EReal) (l dl : S1x16x1x512.Idx → EReal) (kb vb : S1x512x64.Idx → EReal) (kt : S1x64x512.Idx → EReal)
    (acc : S16x64x512.Idx → EReal) (n : ℕ) (hn : n = 16) (hk : v3 = kb) (ht : v5 = kt) (hv : v7 = vb)
    (h2 : arg2.view.read (Elt Ideal) X2 = q) (h3 : arg3.view.read (Elt Ideal) X3 = o)
    (h4 : arg4.view.read (Elt Ideal) X4 = l) (h5 : arg5.view.read (Elt Ideal) X5 = dl)
    (g12 : arg12.view.read (Elt Ideal) G12 = acc) (g13 : arg13.view.read (Elt Ideal) G13 = fun _ => (0 : EReal))
    (g14 : arg14.view.read (Elt Ideal) G14 = fun _ => (0 : EReal)) :
    (∀ (r : Fin 512) (d : Fin 64), arg14.view.read (Elt Ideal) (arg14.view.writes (Elt Ideal) G14 (pb_k0_t1 (F := Ideal) Variants.none dv none gi arg2 harg2 arg3 harg3 arg4 harg4 arg5 harg5 arg6 harg6 arg7 harg7 arg8 harg8 arg9 harg9 arg10 harg10 arg11 harg11 arg12 harg12 arg13 harg13 arg14 harg14 v3 v5 v7 X2 X3 X4 X5 G12 G13 G14 n).2.2) (ix2 r d)
        = ∑ i : Fin 16, ∑ c : Fin 512, pE kb q l i r c * o (ix4 0 i d c))
      ∧ (∀ (r : Fin 512) (d : Fin 64), arg13.view.read (Elt Ideal) (arg13.view.writes (Elt Ideal) G13 (pb_k0_t1 (F := Ideal) Variants.none dv none gi arg2 harg2 arg3 harg3 arg4 harg4 arg5 harg5 arg6 harg6 arg7 harg7 arg8 harg8 arg9 harg9 arg10 harg10 arg11 harg11 arg12 harg12 arg13 harg13 arg14 harg14 v3 v5 v7 X2 X3 X4 X5 G12 G13 G14 n).2.1) (ix2 r d)
        = ∑ i : Fin 16, ∑ c : Fin 512, dE kb vb q o l dl i r c * q (ix4 0 i d c))
      ∧ (∀ (j : Fin 16) (d : Fin 64) (c : Fin 512), arg12.view.read (Elt Ideal) (arg12.view.writes (Elt Ideal) G12 (pb_k0_t1 (F := Ideal) Variants.none dv none gi arg2 harg2 arg3 harg3 arg4 harg4 arg5 harg5 arg6 harg6 arg7 harg7 arg8 harg8 arg9 harg9 arg10 harg10 arg11 harg11 arg12 harg12 arg13 harg13 arg14 harg14 v3 v5 v7 X2 X3 X4 X5 G12 G13 G14 n).1) (ix3 j d c)
        = acc (ix3 j d c) + ∑ r : Fin 512, kt (ix3 0 d r) * dE kb vb q o l dl j r c) := by
  subst hn hk ht hv
  obtain ⟨i14, i13, i12⟩ := loop_read dv gi arg2 harg2 arg3 harg3 arg4 harg4 arg5 harg5 arg6 harg6 arg7 harg7 arg8 harg8 arg9 harg9 arg10 harg10 arg11 harg11 arg12 harg12 arg13 harg13 arg14 harg14 v3 v5 v7 X2 X3 X4 X5 G12 G13 G14 q o l dl h2 h3 h4 h5 16 le_rfl
  refine ⟨fun r d => ?_, fun r d => ?_, fun j d c => ?_⟩
  · rw [i14, g14, zero_add]; rfl
  · rw [i13, g13, zero_add]; rfl
  · rw [i12, if_pos j.isLt, g12]

end

end Cert.AttnBwdIdeal.Val
-- ==== Proof.AttnBwd.Block.lean ====
module

public import proofs.«01_k».proof.Proof.AttnBwd.Loop

/-! What one point of the full attention's backward kernel leaves in its output blocks and in the
accumulator that it carries to the next point. -/

@[expose] public section

set_option maxRecDepth 16384

noncomputable section

namespace Cert.AttnBwdIdeal.Val

open Idealize.ShloMosaic Idealize.ShloMosaic.TcCoe Idealize.ShloMosaic.Tactic Idealize.SL.Sem Cert.AttnBwdIdeal.Gen
open Idealize.ShloMosaic.ValueIdx

/-- The key gradient's block. -/
def dkE (q o : S1x16x64x512.Idx → EReal) (l dl : S1x16x1x512.Idx → EReal) (kb vb : S1x512x64.Idx → EReal) (r : Fin 512) (d : Fin 64) : EReal :=
  ∑ i : Fin 16, ∑ c : Fin 512, dE kb vb q o l dl i r c * q (ix4 0 i d c)
/-- The value gradient's block. -/
def dvE (q o : S1x16x64x512.Idx → EReal) (l : S1x16x1x512.Idx → EReal) (kb : S1x512x64.Idx → EReal) (r : Fin 512) (d : Fin 64) : EReal :=
  ∑ i : Fin 16, ∑ c : Fin 512, pE kb q l i r c * o (ix4 0 i d c)
/-- What the point adds to the query gradient. -/
def dqE (q o : S1x16x64x512.Idx → EReal) (l dl : S1x16x1x512.Idx → EReal) (kb vb : S1x512x64.Idx → EReal) (kt : S1x64x512.Idx → EReal)
    (j : Fin 16) (d : Fin 64) (c : Fin 512) : EReal :=
  ∑ r : Fin 512, kt (ix3 0 d r) * dE kb vb q o l dl j r c

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

variable (dv : Dev nD) (gi : grid0.Coords) (arg2 : Memref sig .tc .vmem S1x16x64x512 .bf16) (harg2 : arg2.IsWhole) (arg3 : Memref sig .tc .vmem S1x16x64x512 .bf16) (harg3 : arg3.IsWhole) (arg4 : Memref sig .tc .vmem S1x16x1x512 .f32) (harg4 : arg4.IsWhole) (arg5 : Memref sig .tc .vmem S1x16x1x512 .f32) (harg5 : arg5.IsWhole) (arg6 : Memref sig .tc .vmem S1x512x64 .bf16) (harg6 : arg6.IsWhole) (arg7 : Memref sig .tc .vmem S1x64x512 .bf16) (harg7 : arg7.IsWhole) (arg8 : Memref sig .tc .vmem S1x512x64 .bf16) (harg8 : arg8.IsWhole) (arg9 : Memref sig .tc .vmem S1x16x64x512 .bf16) (harg9 : arg9.IsWhole) (arg10 : Memref sig .tc .vmem S1x512x64 .bf16) (harg10 : arg10.IsWhole) (arg11 : Memref sig .tc .vmem S1x512x64 .bf16) (harg11 : arg11.IsWhole) (arg12 : Memref sig .tc .vmem S16x64x512 .f32) (harg12 : arg12.IsWhole) (arg13 : Memref sig .tc .vmem S512x64 .f32) (harg13 : arg13.IsWhole) (arg14 : Memref sig .tc .vmem S512x64 .f32) (harg14 : arg14.IsWhole)
variable (x0 : Vec Ideal S1x16x64x512 .bf16) (x1 : Vec Ideal S1x16x64x512 .bf16) (x2 : Vec Ideal S1x16x1x512 .f32) (x3 : Vec Ideal S1x16x1x512 .f32) (x4 : Vec Ideal S1x512x64 .bf16) (x5 : Vec Ideal S1x64x512 .bf16) (x6 : Vec Ideal S1x512x64 .bf16) (xs0 : Vec Ideal S16x64x512 .f32)

theorem out_A_8 (hc0 hc1) (u : Fin 1) (r : Fin 512) (d : Fin 64) :
    out0_A_8 (F := Ideal) dv gi arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 (ix3 u r d) = dkE x0 x1 x2 x3 x4 x6 r d := by
  unfold out0_A_8
  rw [View.read_writes_eq_canon _ _ _ (cover0_A_8 dv gi arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  rw [View.canon_unit_zero (S := S1x512x64) hz3]
  unfold kernelRun0_A.sl.v18
  refine (pay15_apply _ u r d).trans ?_
  refine (congrFun (View.readAt_full arg13.view _ _) (ix2 r d)).trans ?_
  rw [View.writes_append]
  exact (loop_all dv gi arg2 harg2 arg3 harg3 arg4 harg4 arg5 harg5 arg6 harg6 arg7 harg7 arg8 harg8 arg9 harg9 arg10 harg10 arg11 harg11 arg12 harg12 arg13 harg13 arg14 harg14 _ _ _ _ _ _ _ _ _ _ x0 x1 x2 x3 x4 x6 x5 (fun _ => (0 : EReal)) _ (by decide +kernel)
    ((View.readAt_full _ _ _).trans (harg6.read_unread x4)) ((View.readAt_full _ _ _).trans (harg7.read_unread x5)) ((View.readAt_full _ _ _).trans (harg8.read_unread x6))
    (harg2.read_unread x0) (harg3.read_unread x1) (harg4.read_unread x2) (harg5.read_unread x3)
    ((View.read_writes_full _ _ _ _ _).trans pay9_eq) ((View.read_writes_full _ _ _ _ _).trans pay12_eq) ((View.read_writes_full _ _ _ _ _).trans pay13_eq)).2.1 r d

theorem out_A_9 (hc0 hc1) (u : Fin 1) (r : Fin 512) (d : Fin 64) :
    out0_A_9 (F := Ideal) dv gi arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 (ix3 u r d) = dvE x0 x1 x2 x4 r d := by
  unfold out0_A_9
  rw [View.read_writes_eq_canon _ _ _ (cover0_A_9 dv gi arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  rw [View.canon_unit_zero (S := S1x512x64) hz3]
  unfold kernelRun0_A.sl.r kernelRun0_A.sl.v23
  refine (pay1_apply _ u r d).trans ?_
  refine (congrFun (View.readAt_full arg14.view _ _) (ix2 r d)).trans ?_
  rw [View.writes_append]
  exact (loop_all dv gi arg2 harg2 arg3 harg3 arg4 harg4 arg5 harg5 arg6 harg6 arg7 harg7 arg8 harg8 arg9 harg9 arg10 harg10 arg11 harg11 arg12 harg12 arg13 harg13 arg14 harg14 _ _ _ _ _ _ _ _ _ _ x0 x1 x2 x3 x4 x6 x5 (fun _ => (0 : EReal)) _ (by decide +kernel)
    ((View.readAt_full _ _ _).trans (harg6.read_unread x4)) ((View.readAt_full _ _ _).trans (harg7.read_unread x5)) ((View.readAt_full _ _ _).trans (harg8.read_unread x6))
    (harg2.read_unread x0) (harg3.read_unread x1) (harg4.read_unread x2) (harg5.read_unread x3)
    ((View.read_writes_full _ _ _ _ _).trans pay9_eq) ((View.read_writes_full _ _ _ _ _).trans pay12_eq) ((View.read_writes_full _ _ _ _ _).trans pay13_eq)).1 r d

theorem sout_A (hc0 hc1) (j : Fin 16) (d : Fin 64) (c : Fin 512) :
    sout0_A_0 (F := Ideal) dv gi arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 (ix3 j d c) = dqE x0 x1 x2 x3 x4 x6 x5 j d c := by
  unfold sout0_A_0
  rw [View.read_writes_eq_canon _ _ _ (scover0_A_0 dv gi arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6),
    ← View.read_writes_eq_canon arg12.view arg12.view.junk _ (scover0_A_0 dv gi arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  rw [View.writes_append]
  exact ((loop_all dv gi arg2 harg2 arg3 harg3 arg4 harg4 arg5 harg5 arg6 harg6 arg7 harg7 arg8 harg8 arg9 harg9 arg10 harg10 arg11 harg11 arg12 harg12 arg13 harg13 arg14 harg14 _ _ _ _ _ _ _ _ _ _ x0 x1 x2 x3 x4 x6 x5 (fun _ => (0 : EReal)) _ (by decide +kernel)
    ((View.readAt_full _ _ _).trans (harg6.read_unread x4)) ((View.readAt_full _ _ _).trans (harg7.read_unread x5)) ((View.readAt_full _ _ _).trans (harg8.read_unread x6))
    (harg2.read_unread x0) (harg3.read_unread x1) (harg4.read_unread x2) (harg5.read_unread x3)
    ((View.read_writes_full _ _ _ _ _).trans pay9_eq) ((View.read_writes_full _ _ _ _ _).trans pay12_eq) ((View.read_writes_full _ _ _ _ _).trans pay13_eq)).2.2 j d c).trans (zero_add _)

theorem out_B_8 (hc0 hc1) (u : Fin 1) (r : Fin 512) (d : Fin 64) :
    out0_B_8 (F := Ideal) dv gi arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 (ix3 u r d) = dkE x0 x1 x2 x3 x4 x6 r d := by
  unfold out0_B_8
  rw [View.read_writes_eq_canon _ _ _ (cover0_B_8 dv gi arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0)]
  unfold kernelRun0_B
  dsimp only
  rw [View.canon_unit_zero (S := S1x512x64) hz3]
  unfold kernelRun0_B.sl.v18
  refine (pay15_apply _ u r d).trans ?_
  refine (congrFun (View.readAt_full arg13.view _ _) (ix2 r d)).trans ?_
  rw [View.writes_append]
  exact (loop_all dv gi arg2 harg2 arg3 harg3 arg4 harg4 arg5 harg5 arg6 harg6 arg7 harg7 arg8 harg8 arg9 harg9 arg10 harg10 arg11 harg11 arg12 harg12 arg13 harg13 arg14 harg14 _ _ _ _ _ _ _ _ _ _ x0 x1 x2 x3 x4 x6 x5 xs0 _ (by decide +kernel)
    ((View.readAt_full _ _ _).trans (harg6.read_unread x4)) ((View.readAt_full _ _ _).trans (harg7.read_unread x5)) ((View.readAt_full _ _ _).trans (harg8.read_unread x6))
    (harg2.read_unread x0) (harg3.read_unread x1) (harg4.read_unread x2) (harg5.read_unread x3)
    (harg12.read_unread xs0) ((View.read_writes_full _ _ _ _ _).trans pay12_eq) ((View.read_writes_full _ _ _ _ _).trans pay13_eq)).2.1 r d

theorem out_B_9 (hc0 hc1) (u : Fin 1) (r : Fin 512) (d : Fin 64) :
    out0_B_9 (F := Ideal) dv gi arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 (ix3 u r d) = dvE x0 x1 x2 x4 r d := by
  unfold out0_B_9
  rw [View.read_writes_eq_canon _ _ _ (cover0_B_9 dv gi arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0)]
  unfold kernelRun0_B
  dsimp only
  rw [View.canon_unit_zero (S := S1x512x64) hz3]
  unfold kernelRun0_B.sl.r kernelRun0_B.sl.v23
  refine (pay1_apply _ u r d).trans ?_
  refine (congrFun (View.readAt_full arg14.view _ _) (ix2 r d)).trans ?_
  rw [View.writes_append]
  exact (loop_all dv gi arg2 harg2 arg3 harg3 arg4 harg4 arg5 harg5 arg6 harg6 arg7 harg7 arg8 harg8 arg9 harg9 arg10 harg10 arg11 harg11 arg12 harg12 arg13 harg13 arg14 harg14 _ _ _ _ _ _ _ _ _ _ x0 x1 x2 x3 x4 x6 x5 xs0 _ (by decide +kernel)
    ((View.readAt_full _ _ _).trans (harg6.read_unread x4)) ((View.readAt_full _ _ _).trans (harg7.read_unread x5)) ((View.readAt_full _ _ _).trans (harg8.read_unread x6))
    (harg2.read_unread x0) (harg3.read_unread x1) (harg4.read_unread x2) (harg5.read_unread x3)
    (harg12.read_unread xs0) ((View.read_writes_full _ _ _ _ _).trans pay12_eq) ((View.read_writes_full _ _ _ _ _).trans pay13_eq)).1 r d

theorem sout_B (hc0 hc1) (j : Fin 16) (d : Fin 64) (c : Fin 512) :
    sout0_B_0 (F := Ideal) dv gi arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 (ix3 j d c) = xs0 (ix3 j d c) + dqE x0 x1 x2 x3 x4 x6 x5 j d c := by
  unfold sout0_B_0
  rw [View.read_writes_eq_canon _ _ _ (scover0_B_0 dv gi arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0),
    ← View.read_writes_eq_canon arg12.view (harg12.unread xs0) _ (scover0_B_0 dv gi arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0)]
  unfold kernelRun0_B
  dsimp only
  exact ((loop_all dv gi arg2 harg2 arg3 harg3 arg4 harg4 arg5 harg5 arg6 harg6 arg7 harg7 arg8 harg8 arg9 harg9 arg10 harg10 arg11 harg11 arg12 harg12 arg13 harg13 arg14 harg14 _ _ _ _ _ _ _ _ _ _ x0 x1 x2 x3 x4 x6 x5 xs0 _ (by decide +kernel)
    ((View.readAt_full _ _ _).trans (harg6.read_unread x4)) ((View.readAt_full _ _ _).trans (harg7.read_unread x5)) ((View.readAt_full _ _ _).trans (harg8.read_unread x6))
    (harg2.read_unread x0) (harg3.read_unread x1) (harg4.read_unread x2) (harg5.read_unread x3)
    (harg12.read_unread xs0) ((View.read_writes_full _ _ _ _ _).trans pay12_eq) ((View.read_writes_full _ _ _ _ _).trans pay13_eq)).2.2 j d c)

theorem out_C_8 (hc0 hc1) (u : Fin 1) (r : Fin 512) (d : Fin 64) :
    out0_C_8 (F := Ideal) dv gi arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 (ix3 u r d) = dkE x0 x1 x2 x3 x4 x6 r d := by
  unfold out0_C_8
  rw [View.read_writes_eq_canon _ _ _ (cover0_C_8 dv gi arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0)]
  unfold kernelRun0_C
  dsimp only
  rw [View.canon_unit_zero (S := S1x512x64) hz3]
  unfold kernelRun0_C.sl.v18
  refine (pay15_apply _ u r d).trans ?_
  refine (congrFun (View.readAt_full arg13.view _ _) (ix2 r d)).trans ?_
  rw [View.writes_append]
  exact (loop_all dv gi arg2 harg2 arg3 harg3 arg4 harg4 arg5 harg5 arg6 harg6 arg7 harg7 arg8 harg8 arg9 harg9 arg10 harg10 arg11 harg11 arg12 harg12 arg13 harg13 arg14 harg14 _ _ _ _ _ _ _ _ _ _ x0 x1 x2 x3 x4 x6 x5 xs0 _ (by decide +kernel)
    ((View.readAt_full _ _ _).trans (harg6.read_unread x4)) ((View.readAt_full _ _ _).trans (harg7.read_unread x5)) ((View.readAt_full _ _ _).trans (harg8.read_unread x6))
    (harg2.read_unread x0) (harg3.read_unread x1) (harg4.read_unread x2) (harg5.read_unread x3)
    (harg12.read_unread xs0) ((View.read_writes_full _ _ _ _ _).trans pay12_eq) ((View.read_writes_full _ _ _ _ _).trans pay13_eq)).2.1 r d

theorem out_C_9 (hc0 hc1) (u : Fin 1) (r : Fin 512) (d : Fin 64) :
    out0_C_9 (F := Ideal) dv gi arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 (ix3 u r d) = dvE x0 x1 x2 x4 r d := by
  unfold out0_C_9
  rw [View.read_writes_eq_canon _ _ _ (cover0_C_9 dv gi arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0)]
  unfold kernelRun0_C
  dsimp only
  rw [View.canon_unit_zero (S := S1x512x64) hz3]
  unfold kernelRun0_C.sl.r kernelRun0_C.sl.v23
  refine (pay1_apply _ u r d).trans ?_
  refine (congrFun (View.readAt_full arg14.view _ _) (ix2 r d)).trans ?_
  rw [View.writes_append]
  exact (loop_all dv gi arg2 harg2 arg3 harg3 arg4 harg4 arg5 harg5 arg6 harg6 arg7 harg7 arg8 harg8 arg9 harg9 arg10 harg10 arg11 harg11 arg12 harg12 arg13 harg13 arg14 harg14 _ _ _ _ _ _ _ _ _ _ x0 x1 x2 x3 x4 x6 x5 xs0 _ (by decide +kernel)
    ((View.readAt_full _ _ _).trans (harg6.read_unread x4)) ((View.readAt_full _ _ _).trans (harg7.read_unread x5)) ((View.readAt_full _ _ _).trans (harg8.read_unread x6))
    (harg2.read_unread x0) (harg3.read_unread x1) (harg4.read_unread x2) (harg5.read_unread x3)
    (harg12.read_unread xs0) ((View.read_writes_full _ _ _ _ _).trans pay12_eq) ((View.read_writes_full _ _ _ _ _).trans pay13_eq)).1 r d

theorem sout_C (hc0 hc1) (j : Fin 16) (d : Fin 64) (c : Fin 512) :
    sout0_C_0 (F := Ideal) dv gi arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 (ix3 j d c) = xs0 (ix3 j d c) + dqE x0 x1 x2 x3 x4 x6 x5 j d c := by
  unfold sout0_C_0
  rw [View.read_writes_eq_canon _ _ _ (scover0_C_0 dv gi arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0),
    ← View.read_writes_eq_canon arg12.view (harg12.unread xs0) _ (scover0_C_0 dv gi arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0)]
  unfold kernelRun0_C
  dsimp only
  exact ((loop_all dv gi arg2 harg2 arg3 harg3 arg4 harg4 arg5 harg5 arg6 harg6 arg7 harg7 arg8 harg8 arg9 harg9 arg10 harg10 arg11 harg11 arg12 harg12 arg13 harg13 arg14 harg14 _ _ _ _ _ _ _ _ _ _ x0 x1 x2 x3 x4 x6 x5 xs0 _ (by decide +kernel)
    ((View.readAt_full _ _ _).trans (harg6.read_unread x4)) ((View.readAt_full _ _ _).trans (harg7.read_unread x5)) ((View.readAt_full _ _ _).trans (harg8.read_unread x6))
    (harg2.read_unread x0) (harg3.read_unread x1) (harg4.read_unread x2) (harg5.read_unread x3)
    (harg12.read_unread xs0) ((View.read_writes_full _ _ _ _ _).trans pay12_eq) ((View.read_writes_full _ _ _ _ _).trans pay13_eq)).2.2 j d c)

theorem out_C_7 (hc0 hc1) (u : Fin 1) (j : Fin 16) (d : Fin 64) (c : Fin 512) :
    out0_C_7 (F := Ideal) dv gi arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 (ix4 u j d c) = xs0 (ix3 j d c) + dqE x0 x1 x2 x3 x4 x6 x5 j d c := by
  unfold out0_C_7
  rw [View.read_writes_eq_canon _ _ _ (cover0_C_7 dv gi arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0)]
  unfold kernelRun0_C
  dsimp only
  rw [View.canon_unit_zero (S := S1x16x64x512) hz4]
  unfold kernelRun0_C.sl.v31
  refine (pay2_apply _ u j d c).trans ?_
  refine (congrFun (View.readAt_full arg12.view _ _) (ix3 j d c)).trans ?_
  exact (loop_all dv gi arg2 harg2 arg3 harg3 arg4 harg4 arg5 harg5 arg6 harg6 arg7 harg7 arg8 harg8 arg9 harg9 arg10 harg10 arg11 harg11 arg12 harg12 arg13 harg13 arg14 harg14 _ _ _ _ _ _ _ _ _ _ x0 x1 x2 x3 x4 x6 x5 xs0 _ (by decide +kernel)
    ((View.readAt_full _ _ _).trans (harg6.read_unread x4)) ((View.readAt_full _ _ _).trans (harg7.read_unread x5)) ((View.readAt_full _ _ _).trans (harg8.read_unread x6))
    (harg2.read_unread x0) (harg3.read_unread x1) (harg4.read_unread x2) (harg5.read_unread x3)
    (harg12.read_unread xs0) ((View.read_writes_full _ _ _ _ _).trans pay12_eq) ((View.read_writes_full _ _ _ _ _).trans pay13_eq)).2.2 j d c

end Cert.AttnBwdIdeal.Val
-- ==== Proof.AttnBwd.Arrays.lean ====
module

public import proofs.«01_k».proof.Proof.AttnBwd.Block
public import proofs.«01_k».proof.Proof.Sums

/-! The full attention's backward kernel over its whole grid: the three output arrays as functions of
the arrays that it reads. The grid has 8 heads times 16 blocks of 512 keys, point `t` being head
`t / 16` and block `t % 16`; the four query heads of a group read one key head. -/

@[expose] public section

set_option maxRecDepth 16384

noncomputable section

namespace Cert.AttnBwdIdeal.Val

open Idealize.ShloMosaic Idealize.ShloMosaic.TcCoe Idealize.ShloMosaic.Tactic Idealize.SL.Sem Cert.AttnBwdIdeal.Gen
open Idealize.ShloMosaic.ValueIdx Cert.Proof
open Idealize.ShloMosaic.Pipeline (Dat)

variable (m : (ℓ : Loc nD τ sig) → Buf (Elt Ideal) ℓ) (ρ : Dev nD → PrngReg)

/-- The arrays that the kernel reads: queries, output gradient, row log-sums, row sums, keys, keys transposed, values. -/
def aQ (c : Dev nD) : S8x16x64x512.Idx → EReal := V m c (Pipeline.arrRef spec0 0)
def aO (c : Dev nD) : S8x16x64x512.Idx → EReal := V m c (Pipeline.arrRef spec0 1)
def aL (c : Dev nD) : S8x16x1x512.Idx → EReal := V m c (Pipeline.arrRef spec0 2)
def aD (c : Dev nD) : S8x16x1x512.Idx → EReal := V m c (Pipeline.arrRef spec0 3)
def aK (c : Dev nD) : S2x8192x64.Idx → EReal := V m c (Pipeline.arrRef spec0 4)
def aT (c : Dev nD) : S2x64x8192.Idx → EReal := V m c (Pipeline.arrRef spec0 5)
def aV (c : Dev nD) : S2x8192x64.Idx → EReal := V m c (Pipeline.arrRef spec0 6)

/-- The key head of a query head. -/
def kvh (h : Fin 8) : Fin 2 := ⟨h.val / 4, by omega⟩
/-- Key `r` of block `j`. -/
def key (j : ℕ) (hj : j < 16) (r : Fin 512) : Fin 8192 := ⟨512 * j + r.val, by omega⟩

/-- The softmax weight of key `n` for the query at chunk `i`, column `c` of head `h`. -/
def pG (dv : Dev nD) (h : Fin 8) (n : Fin 8192) (i : Fin 16) (c : Fin 512) : EReal :=
  Ideal.exp ((∑ d : Fin 64, aK m dv (ix3 (kvh h) n d) * aQ m dv (ix4 h i d c)) - aL m dv (ix4 h i 0 c))
/-- The gradient of their score. -/
def dG (dv : Dev nD) (h : Fin 8) (n : Fin 8192) (i : Fin 16) (c : Fin 512) : EReal :=
  pG m dv h n i c * ((∑ d : Fin 64, aV m dv (ix3 (kvh h) n d) * aO m dv (ix4 h i d c)) - aD m dv (ix4 h i 0 c))

/-- The head of a point. -/
def hd (n : ℕ) (hn : n < cfg0.N) : Fin 8 := ⟨n / 16, by rw [show cfg0.N = 128 from N_0] at hn; omega⟩
/-- The key that row `r` of the point's block is. -/
def kr (n : ℕ) (r : Fin 512) : Fin 8192 := key (n % 16) (Nat.mod_lt _ (by decide)) r

theorem ix_0 : ∀ t : Fin cfg0.N, win0_0.index t (0 : Fin 4) = t.val / 16 ∧ win0_0.index t (1 : Fin 4) = 0 ∧ win0_0.index t (2 : Fin 4) = 0 ∧ win0_0.index t (3 : Fin 4) = 0 :=
  (by decide +kernel : ∀ t : Fin grid0.N, _)
theorem ix_1 : ∀ t : Fin cfg0.N, win0_1.index t (0 : Fin 4) = t.val / 16 ∧ win0_1.index t (1 : Fin 4) = 0 ∧ win0_1.index t (2 : Fin 4) = 0 ∧ win0_1.index t (3 : Fin 4) = 0 :=
  (by decide +kernel : ∀ t : Fin grid0.N, _)
theorem ix_2 : ∀ t : Fin cfg0.N, win0_2.index t (0 : Fin 4) = t.val / 16 ∧ win0_2.index t (1 : Fin 4) = 0 ∧ win0_2.index t (2 : Fin 4) = 0 ∧ win0_2.index t (3 : Fin 4) = 0 :=
  (by decide +kernel : ∀ t : Fin grid0.N, _)
theorem ix_3 : ∀ t : Fin cfg0.N, win0_3.index t (0 : Fin 4) = t.val / 16 ∧ win0_3.index t (1 : Fin 4) = 0 ∧ win0_3.index t (2 : Fin 4) = 0 ∧ win0_3.index t (3 : Fin 4) = 0 :=
  (by decide +kernel : ∀ t : Fin grid0.N, _)
theorem ix_4 : ∀ t : Fin cfg0.N, win0_4.index t (0 : Fin 3) = t.val / 16 / 4 ∧ win0_4.index t (1 : Fin 3) = t.val % 16 ∧ win0_4.index t (2 : Fin 3) = 0 :=
  (by decide +kernel : ∀ t : Fin grid0.N, _)
theorem ix_5 : ∀ t : Fin cfg0.N, win0_5.index t (0 : Fin 3) = t.val / 16 / 4 ∧ win0_5.index t (1 : Fin 3) = 0 ∧ win0_5.index t (2 : Fin 3) = t.val % 16 :=
  (by decide +kernel : ∀ t : Fin grid0.N, _)
theorem ix_6 : ∀ t : Fin cfg0.N, win0_6.index t (0 : Fin 3) = t.val / 16 / 4 ∧ win0_6.index t (1 : Fin 3) = t.val % 16 ∧ win0_6.index t (2 : Fin 3) = 0 :=
  (by decide +kernel : ∀ t : Fin grid0.N, _)
theorem ix_7 : ∀ t : Fin cfg0.N, win0_7.index t (0 : Fin 4) = t.val / 16 ∧ win0_7.index t (1 : Fin 4) = 0 ∧ win0_7.index t (2 : Fin 4) = 0 ∧ win0_7.index t (3 : Fin 4) = 0 :=
  (by decide +kernel : ∀ t : Fin grid0.N, _)
theorem ix_8 : ∀ t : Fin cfg0.N, win0_8.index t (0 : Fin 3) = t.val / 16 ∧ win0_8.index t (1 : Fin 3) = t.val % 16 ∧ win0_8.index t (2 : Fin 3) = 0 :=
  (by decide +kernel : ∀ t : Fin grid0.N, _)
theorem ix_9 : ∀ t : Fin cfg0.N, win0_9.index t (0 : Fin 3) = t.val / 16 ∧ win0_9.index t (1 : Fin 3) = t.val % 16 ∧ win0_9.index t (2 : Fin 3) = 0 :=
  (by decide +kernel : ∀ t : Fin grid0.N, _)

/-- A place in a head's block of a whole array, -/
theorem place4 {A B C D h : ℕ} {f : Fin 4 → ℕ} (e : f 0 = h ∧ f 1 = 0 ∧ f 2 = 0 ∧ f 3 = 0) {u : Fin 1} {i : Fin B} {d : Fin C} {c : Fin D} {H : Fin A}
    {v : (⟨4, ![A, B, C, D]⟩ : Shape).Idx} (h0 : (v 0).val = f 0 * 1 + 1 * u.val) (h1 : (v 1).val = f 1 * B + 1 * i.val)
    (h2 : (v 2).val = f 2 * C + 1 * d.val) (h3 : (v 3).val = f 3 * D + 1 * c.val) (hH : H.val = h) : v = ix4 H i d c := by
  obtain ⟨e0, e1, e2, e3⟩ := e
  rw [e0] at h0; rw [e1] at h1; rw [e2] at h2; rw [e3] at h3
  funext a; apply Fin.ext
  match a with
  | ⟨0, _⟩ => show (v 0).val = H.val; omega
  | ⟨1, _⟩ => show (v 1).val = i.val; omega
  | ⟨2, _⟩ => show (v 2).val = d.val; omega
  | ⟨3, _⟩ => show (v 3).val = c.val; omega
/-- and in its block of keys. -/
theorem place3 {A N B C h q : ℕ} {f : Fin 3 → ℕ} (e : f 0 = h ∧ f 1 = q ∧ f 2 = 0) {u : Fin 1} {r : Fin B} {d : Fin C} {H : Fin A} {R : Fin N}
    {v : (⟨3, ![A, N, C]⟩ : Shape).Idx} (h0 : (v 0).val = f 0 * 1 + 1 * u.val) (h1 : (v 1).val = f 1 * B + 1 * r.val)
    (h2 : (v 2).val = f 2 * C + 1 * d.val) (hH : H.val = h) (hR : R.val = B * q + r.val) : v = ix3 H R d := by
  obtain ⟨e0, e1, e2⟩ := e
  rw [e0] at h0; rw [e1] at h1; rw [e2] at h2
  rw [Nat.mul_comm] at hR
  funext a; apply Fin.ext
  match a with
  | ⟨0, _⟩ => show (v 0).val = H.val; omega
  | ⟨1, _⟩ => show (v 1).val = R.val; omega
  | ⟨2, _⟩ => show (v 2).val = d.val; omega

theorem ib_0 (dv : Dev nD) (n : ℕ) (hn : n < cfg0.N) (i : Fin 16) (d : Fin 64) (c : Fin 512) :
    iblk m dv 0 ⟨n, hn⟩ (ix4 0 i d c) = aQ m dv (ix4 (hd n hn) i d c) := by
  unfold iblk aQ
  generalize V m dv (Pipeline.arrRef spec0 0) = X
  exact congrArg X (place4 (ix_0 ⟨n, hn⟩) rfl rfl rfl rfl rfl)

theorem ib_1 (dv : Dev nD) (n : ℕ) (hn : n < cfg0.N) (i : Fin 16) (d : Fin 64) (c : Fin 512) :
    iblk m dv 1 ⟨n, hn⟩ (ix4 0 i d c) = aO m dv (ix4 (hd n hn) i d c) := by
  unfold iblk aO
  generalize V m dv (Pipeline.arrRef spec0 1) = X
  exact congrArg X (place4 (ix_1 ⟨n, hn⟩) rfl rfl rfl rfl rfl)

theorem rd_2 (X : S8x16x1x512.Idx → EReal) (n : ℕ) (hn : n < cfg0.N) (i : Fin 16) (c : Fin 512) :
    ((cfg0.win 2).blk ⟨n, hn⟩).view.read (Elt Ideal) X (ix4 0 i 0 c) = X (ix4 (hd n hn) i 0 c) := by
  show X (((cfg0.win 2).blk ⟨n, hn⟩).view.emb (ix4 0 i 0 c)) = _
  obtain ⟨e0, e1, e2, e3⟩ := ix_2 ⟨n, hn⟩
  refine congrArg X (funext fun a => Fin.ext ?_)
  match a with
  | ⟨0, _⟩ => show win0_2.index ⟨n, hn⟩ (0 : Fin 4) * 1 + 1 * 0 = n / 16; rw [e0]; dsimp only; omega
  | ⟨1, _⟩ => show win0_2.index ⟨n, hn⟩ (1 : Fin 4) * 16 + 1 * i.val = i.val; rw [e1]; omega
  | ⟨2, _⟩ => show win0_2.index ⟨n, hn⟩ (2 : Fin 4) * 1 + 1 * 0 = 0; rw [e2]
  | ⟨3, _⟩ => show win0_2.index ⟨n, hn⟩ (3 : Fin 4) * 512 + 1 * c.val = c.val; rw [e3]; omega

theorem ib_2 (dv : Dev nD) (n : ℕ) (hn : n < cfg0.N) (i : Fin 16) (c : Fin 512) :
    iblk m dv 2 ⟨n, hn⟩ (ix4 0 i 0 c) = aL m dv (ix4 (hd n hn) i 0 c) := by
  unfold iblk aL
  exact rd_2 _ n hn i c

theorem rd_3 (X : S8x16x1x512.Idx → EReal) (n : ℕ) (hn : n < cfg0.N) (i : Fin 16) (c : Fin 512) :
    ((cfg0.win 3).blk ⟨n, hn⟩).view.read (Elt Ideal) X (ix4 0 i 0 c) = X (ix4 (hd n hn) i 0 c) := by
  show X (((cfg0.win 3).blk ⟨n, hn⟩).view.emb (ix4 0 i 0 c)) = _
  obtain ⟨e0, e1, e2, e3⟩ := ix_3 ⟨n, hn⟩
  refine congrArg X (funext fun a => Fin.ext ?_)
  match a with
  | ⟨0, _⟩ => show win0_3.index ⟨n, hn⟩ (0 : Fin 4) * 1 + 1 * 0 = n / 16; rw [e0]; dsimp only; omega
  | ⟨1, _⟩ => show win0_3.index ⟨n, hn⟩ (1 : Fin 4) * 16 + 1 * i.val = i.val; rw [e1]; omega
  | ⟨2, _⟩ => show win0_3.index ⟨n, hn⟩ (2 : Fin 4) * 1 + 1 * 0 = 0; rw [e2]
  | ⟨3, _⟩ => show win0_3.index ⟨n, hn⟩ (3 : Fin 4) * 512 + 1 * c.val = c.val; rw [e3]; omega

theorem ib_3 (dv : Dev nD) (n : ℕ) (hn : n < cfg0.N) (i : Fin 16) (c : Fin 512) :
    iblk m dv 3 ⟨n, hn⟩ (ix4 0 i 0 c) = aD m dv (ix4 (hd n hn) i 0 c) := by
  unfold iblk aD
  exact rd_3 _ n hn i c

theorem ib_4 (dv : Dev nD) (n : ℕ) (hn : n < cfg0.N) (r : Fin 512) (d : Fin 64) :
    iblk m dv 4 ⟨n, hn⟩ (ix3 0 r d) = aK m dv (ix3 (kvh (hd n hn)) (kr n r) d) := by
  unfold iblk aK
  generalize V m dv (Pipeline.arrRef spec0 4) = X
  exact congrArg X (place3 (ix_4 ⟨n, hn⟩) rfl rfl rfl rfl rfl)

theorem ib_6 (dv : Dev nD) (n : ℕ) (hn : n < cfg0.N) (r : Fin 512) (d : Fin 64) :
    iblk m dv 6 ⟨n, hn⟩ (ix3 0 r d) = aV m dv (ix3 (kvh (hd n hn)) (kr n r) d) := by
  unfold iblk aV
  generalize V m dv (Pipeline.arrRef spec0 6) = X
  exact congrArg X (place3 (ix_6 ⟨n, hn⟩) rfl rfl rfl rfl rfl)

theorem rd_5 (X : S2x64x8192.Idx → EReal) (n : ℕ) (hn : n < cfg0.N) (d : Fin 64) (r : Fin 512) :
    ((cfg0.win 5).blk ⟨n, hn⟩).view.read (Elt Ideal) X (ix3 0 d r) = X (ix3 (kvh (hd n hn)) d (kr n r)) := by
  show X (((cfg0.win 5).blk ⟨n, hn⟩).view.emb (ix3 0 d r)) = _
  obtain ⟨e0, e1, e2⟩ := ix_5 ⟨n, hn⟩
  refine congrArg X (funext fun a => Fin.ext ?_)
  match a with
  | ⟨0, _⟩ => show win0_5.index ⟨n, hn⟩ (0 : Fin 3) * 1 + 1 * 0 = n / 16 / 4; rw [e0]; dsimp only; omega
  | ⟨1, _⟩ => show win0_5.index ⟨n, hn⟩ (1 : Fin 3) * 64 + 1 * d.val = d.val; rw [e1]; omega
  | ⟨2, _⟩ => show win0_5.index ⟨n, hn⟩ (2 : Fin 3) * 512 + 1 * r.val = 512 * (n % 16) + r.val; rw [e2]; dsimp only; omega

theorem ib_5 (dv : Dev nD) (n : ℕ) (hn : n < cfg0.N) (d : Fin 64) (r : Fin 512) :
    iblk m dv 5 ⟨n, hn⟩ (ix3 0 d r) = aT m dv (ix3 (kvh (hd n hn)) d (kr n r)) := by
  unfold iblk aT
  exact rd_5 _ n hn d r

/-- The point's softmax weights and score gradients are the whole arrays'. -/
theorem pE_blk (dv : Dev nD) (n : ℕ) (hn : n < cfg0.N) (i : Fin 16) (r c : Fin 512) :
    pE (iblk m dv 4 ⟨n, hn⟩) (iblk m dv 0 ⟨n, hn⟩) (iblk m dv 2 ⟨n, hn⟩) i r c = pG m dv (hd n hn) (kr n r) i c := by
  unfold pE pG
  rw [ib_2]
  simp only [ib_4, ib_0]

theorem dE_blk (dv : Dev nD) (n : ℕ) (hn : n < cfg0.N) (i : Fin 16) (r c : Fin 512) :
    dE (iblk m dv 4 ⟨n, hn⟩) (iblk m dv 6 ⟨n, hn⟩) (iblk m dv 0 ⟨n, hn⟩) (iblk m dv 1 ⟨n, hn⟩) (iblk m dv 2 ⟨n, hn⟩) (iblk m dv 3 ⟨n, hn⟩) i r c
      = dG m dv (hd n hn) (kr n r) i c := by
  unfold dE dG
  rw [pE_blk, ib_3]
  simp only [ib_6, ib_1]

/-- What a point adds to the query gradient. -/
def qStep (dv : Dev nD) (n : ℕ) (hn : n < cfg0.N) (j : Fin 16) (d : Fin 64) (c : Fin 512) : EReal :=
  ∑ r : Fin 512, aT m dv (ix3 (kvh (hd n hn)) d (kr n r)) * dG m dv (hd n hn) (kr n r) j c

theorem dqE_blk (dv : Dev nD) (n : ℕ) (hn : n < cfg0.N) (j : Fin 16) (d : Fin 64) (c : Fin 512) :
    dqE (iblk m dv 0 ⟨n, hn⟩) (iblk m dv 1 ⟨n, hn⟩) (iblk m dv 2 ⟨n, hn⟩) (iblk m dv 3 ⟨n, hn⟩) (iblk m dv 4 ⟨n, hn⟩) (iblk m dv 6 ⟨n, hn⟩) (iblk m dv 5 ⟨n, hn⟩) j d c
      = qStep m dv n hn j d c := by
  unfold dqE qStep
  exact Finset.sum_congr rfl fun r _ => congrArg₂ (· * ·) (ib_5 m dv n hn d r) (dE_blk m dv n hn j r c)

/-- The key gradient's block at every point. -/
theorem dk_at (dv : Dev nD) (t : Fin cfg0.N) (u : Fin 1) (r : Fin 512) (d : Fin 64) :
    (outsAt0 m dv t.val t.isLt).2.1 (ix3 u r d)
      = ∑ i : Fin 16, ∑ c : Fin 512, dG m dv (hd t.val t.isLt) (kr t.val r) i c * aQ m dv (ix4 (hd t.val t.isLt) i d c) := by
  have key : dkE (iblk m dv 0 t) (iblk m dv 1 t) (iblk m dv 2 t) (iblk m dv 3 t) (iblk m dv 4 t) (iblk m dv 6 t) r d
      = ∑ i : Fin 16, ∑ c : Fin 512, dG m dv (hd t.val t.isLt) (kr t.val r) i c * aQ m dv (ix4 (hd t.val t.isLt) i d c) := by
    unfold dkE
    exact Finset.sum_congr rfl fun i _ => Finset.sum_congr rfl fun c _ => congrArg₂ (· * ·) (dE_blk m dv t.val t.isLt i r c) (ib_0 m dv t.val t.isLt i d c)
  rw [← key]
  by_cases h0 : t.val % 16 = 0
  · rw [outsAt0_A m dv t h0 (by omega)]; dsimp only; rw [out_A_8]
  · by_cases h1 : t.val % 16 = 15
    · rw [outsAt0_C m dv t h0 h1]; dsimp only; rw [out_C_8]
    · rw [outsAt0_B m dv t h0 h1]; dsimp only; rw [out_B_8]

/-- The value gradient's block at every point. -/
theorem dv_at (dv : Dev nD) (t : Fin cfg0.N) (u : Fin 1) (r : Fin 512) (d : Fin 64) :
    (outsAt0 m dv t.val t.isLt).2.2.1 (ix3 u r d)
      = ∑ i : Fin 16, ∑ c : Fin 512, pG m dv (hd t.val t.isLt) (kr t.val r) i c * aO m dv (ix4 (hd t.val t.isLt) i d c) := by
  have key : dvE (iblk m dv 0 t) (iblk m dv 1 t) (iblk m dv 2 t) (iblk m dv 4 t) r d
      = ∑ i : Fin 16, ∑ c : Fin 512, pG m dv (hd t.val t.isLt) (kr t.val r) i c * aO m dv (ix4 (hd t.val t.isLt) i d c) := by
    unfold dvE
    exact Finset.sum_congr rfl fun i _ => Finset.sum_congr rfl fun c _ => congrArg₂ (· * ·) (pE_blk m dv t.val t.isLt i r c) (ib_1 m dv t.val t.isLt i d c)
  rw [← key]
  by_cases h0 : t.val % 16 = 0
  · rw [outsAt0_A m dv t h0 (by omega)]; dsimp only; rw [out_A_9]
  · by_cases h1 : t.val % 16 = 15
    · rw [outsAt0_C m dv t h0 h1]; dsimp only; rw [out_C_9]
    · rw [outsAt0_B m dv t h0 h1]; dsimp only; rw [out_B_9]

theorem qStep_congr (dv : Dev nD) (n n' : ℕ) (h : n = n') (hn : n < cfg0.N) (hn' : n' < cfg0.N) (j : Fin 16) (d : Fin 64) (c : Fin 512) :
    qStep m dv n hn j d c = qStep m dv n' hn' j d c := by subst h; rfl

theorem sum_fin_congr (a b : ℕ) (h : a = b) (f : Fin a → EReal) : ∑ x, f x = ∑ x : Fin b, f (x.cast h.symm) := by subst h; rfl

/-- The carried accumulator after each point: what the points of its head so far added. -/
theorem acc_at (dv : Dev nD) : ∀ (n : ℕ) (hn : n < cfg0.N) (j : Fin 16) (d : Fin 64) (c : Fin 512),
    (outsAt0 m dv n hn).2.2.2 (ix3 j d c) = ∑ x : Fin (n % 16 + 1), qStep m dv (16 * (n / 16) + x.val) (by have := x.isLt; omega) j d c
  | 0, hn, j, d, c => by
    rw [outsAt0_A m dv ⟨0, hn⟩ rfl (by dsimp only; omega)]; dsimp only
    rw [sout_A, dqE_blk, sum_fin_congr _ 1 rfl, Fin.sum_univ_one]
    exact qStep_congr m dv _ _ rfl _ _ j d c
  | n + 1, hn, j, d, c => by
    have hN : cfg0.N = 128 := N_0
    by_cases h0 : (n + 1) % 16 = 0
    · rw [outsAt0_A m dv ⟨n + 1, hn⟩ h0 (by dsimp only; omega)]; dsimp only
      rw [sout_A, dqE_blk, sum_fin_congr _ 1 (by omega), Fin.sum_univ_one]
      exact qStep_congr m dv _ _ (by simp only [Fin.val_cast, Fin.val_zero]; omega) _ _ j d c
    · have ih := acc_at dv n (Nat.lt_of_succ_lt hn) j d c
      have hstep : (outsAt0 m dv (n + 1) hn).2.2.2 (ix3 j d c) = (outsAt0 m dv n (Nat.lt_of_succ_lt hn)).2.2.2 (ix3 j d c) + qStep m dv (n + 1) hn j d c := by
        by_cases h1 : (n + 1) % 16 = 15
        · rw [outsAt0_C m dv ⟨n + 1, hn⟩ h0 h1]; dsimp only
          rw [sout_C, dqE_blk]
          rfl
        · rw [outsAt0_B m dv ⟨n + 1, hn⟩ h0 h1]; dsimp only
          rw [sout_B, dqE_blk]
          rfl
      rw [hstep, ih, sum_fin_congr ((n + 1) % 16 + 1) (n % 16 + 1 + 1) (by omega), Fin.sum_univ_castSucc (n := n % 16 + 1)]
      refine congrArg₂ (· + ·) (Finset.sum_congr rfl fun x _ => ?_) ?_
      · exact qStep_congr m dv _ _ (by simp only [Fin.val_cast, Fin.val_castSucc]; omega) _ _ j d c
      · exact qStep_congr m dv _ _ (by simp only [Fin.val_cast, Fin.val_last]; omega) _ _ j d c

/-- The query gradient's block at a head's last point. -/
theorem dq_at (dv : Dev nD) (t : Fin cfg0.N) (h1 : t.val % 16 = 15) (u : Fin 1) (j : Fin 16) (d : Fin 64) (c : Fin 512) :
    (outsAt0 m dv t.val t.isLt).1 (ix4 u j d c)
      = ∑ n : Fin 8192, aT m dv (ix3 (kvh (hd t.val t.isLt)) d n) * dG m dv (hd t.val t.isLt) n j c := by
  have hN : cfg0.N = 128 := N_0
  have hacc := acc_at m dv t.val t.isLt j d c
  have e : (outsAt0 m dv t.val t.isLt).1 (ix4 u j d c) = (outsAt0 m dv t.val t.isLt).2.2.2 (ix3 j d c) := by
    rw [outsAt0_C m dv t (by omega) h1]; dsimp only; rw [out_C_7, sout_C]
  rw [e, hacc, sum_tiles 16 512 8192 rfl, sum_fin_congr _ 16 (by omega)]
  refine Finset.sum_congr rfl fun x _ => ?_
  have ht := t.isLt
  have hx := x.isLt
  unfold qStep
  have e1 : hd (16 * (t.val / 16) + (x.cast (by omega : 16 = t.val % 16 + 1)).val) (by rw [Fin.val_cast]; omega) = hd t.val t.isLt := by
    apply Fin.ext; show (16 * (t.val / 16) + x.val) / 16 = t.val / 16; omega
  have e2 : ∀ r, kr (16 * (t.val / 16) + (x.cast (by omega : 16 = t.val % 16 + 1)).val) r = ⟨512 * x.val + r.val, by omega⟩ := by
    intro r; apply Fin.ext; show 512 * ((16 * (t.val / 16) + x.val) % 16) + r.val = 512 * x.val + r.val; omega
  rw [e1]
  simp only [e2]

/-- The three output arrays. -/
def dqArr (c : Dev nD) : S8x16x64x512.Idx → EReal := fun i => ∑ n : Fin 8192, aT m c (ix3 (kvh (i 0)) (i 2) n) * dG m c (i 0) n (i 1) (i 3)
def dkArr (c : Dev nD) : S8x8192x64.Idx → EReal := fun i => ∑ j : Fin 16, ∑ x : Fin 512, dG m c (i 0) (i 1) j x * aQ m c (ix4 (i 0) j (i 2) x)
def dvArr (c : Dev nD) : S8x8192x64.Idx → EReal := fun i => ∑ j : Fin 16, ∑ x : Fin 512, pG m c (i 0) (i 1) j x * aO m c (ix4 (i 0) j (i 2) x)

theorem final_dq (c : Dev nD) : (dats m 0 c).arrAt 7 cfg0.N = dqArr m c := by
  have hN : cfg0.N = 128 := N_0
  refine (dats m 0 c).arrAt_eq_of_cover 7 (dqArr m c) (fun t hf => ?_) fun i => ?_
  · show (cfg0.win 7).cut (grid0.coords t) ((dats m 0 c).after 7 t) = _
    rw [after0_7]
    funext y
    obtain ⟨u, j, d, x, rfl⟩ : ∃ (u : Fin 1) (j : Fin 16) (d : Fin 64) (x : Fin 512), y = ix4 u j d x := ⟨y 0, y 1, y 2, y 3, eq_ix4 y⟩
    show (outsAt0 m c t.val t.isLt).1 (ix4 u j d x) = dqArr m c (((cfg0.win 7).blk t).view.emb (ix4 u j d x))
    have e : ((cfg0.win 7).blk t).view.emb (ix4 u j d x) = ix4 (hd t.val t.isLt) j d x :=
      place4 (ix_7 t) rfl rfl rfl rfl rfl
    rw [e, dq_at m c t ((flush0_7 t).mp hf)]
    rfl
  · have h0 : (i 0 : Nat) < 8 := (i 0).isLt
    have h1 : (i 1 : Nat) < 16 := (i 1).isLt
    have h2 : (i 2 : Nat) < 64 := (i 2).isLt
    have h3 : (i 3 : Nat) < 512 := (i 3).isLt
    let t : Fin cfg0.N := ⟨16 * (i 0 : Nat) + 15, by rw [hN]; omega⟩
    refine ⟨t, (flush0_7 t).mpr (by dsimp only [t]; omega), ?_⟩
    obtain ⟨e0, e1, e2, e3⟩ := ix_7 t
    have et : t.val = 16 * (i 0 : Nat) + 15 := rfl
    show i ∈ ((View.whole main_v38_0).slice (win0_7.rect t)).set
    rw [View.set_slice_whole, Rect.mem_set_unit]
    intro a
    match a with
    | ⟨0, _⟩ => show win0_7.index t (0 : Fin 4) * 1 ≤ (i 0 : Nat) ∧ (i 0 : Nat) < win0_7.index t (0 : Fin 4) * 1 + 1; omega
    | ⟨1, _⟩ => show win0_7.index t (1 : Fin 4) * 16 ≤ (i 1 : Nat) ∧ (i 1 : Nat) < win0_7.index t (1 : Fin 4) * 16 + 16; omega
    | ⟨2, _⟩ => show win0_7.index t (2 : Fin 4) * 64 ≤ (i 2 : Nat) ∧ (i 2 : Nat) < win0_7.index t (2 : Fin 4) * 64 + 64; omega
    | ⟨3, _⟩ => show win0_7.index t (3 : Fin 4) * 512 ≤ (i 3 : Nat) ∧ (i 3 : Nat) < win0_7.index t (3 : Fin 4) * 512 + 512; omega

theorem final_dk (c : Dev nD) : (dats m 0 c).arrAt 8 cfg0.N = dkArr m c := by
  have hN : cfg0.N = 128 := N_0
  refine (dats m 0 c).arrAt_eq_of_cover 8 (dkArr m c) (fun t hf => ?_) fun i => ?_
  · show (cfg0.win 8).cut (grid0.coords t) ((dats m 0 c).after 8 t) = _
    rw [after0_8]
    funext y
    obtain ⟨u, r, d, rfl⟩ : ∃ (u : Fin 1) (r : Fin 512) (d : Fin 64), y = ix3 u r d := ⟨y 0, y 1, y 2, eq_ix3 y⟩
    show (outsAt0 m c t.val t.isLt).2.1 (ix3 u r d) = dkArr m c (((cfg0.win 8).blk t).view.emb (ix3 u r d))
    have e : ((cfg0.win 8).blk t).view.emb (ix3 u r d) = ix3 (hd t.val t.isLt) (kr t.val r) d :=
      place3 (ix_8 t) rfl rfl rfl rfl rfl
    rw [e, dk_at]
    rfl
  · have h0 : (i 0 : Nat) < 8 := (i 0).isLt
    have h1 : (i 1 : Nat) < 8192 := (i 1).isLt
    have h2 : (i 2 : Nat) < 64 := (i 2).isLt
    let t : Fin cfg0.N := ⟨16 * (i 0 : Nat) + (i 1 : Nat) / 512, by rw [hN]; omega⟩
    refine ⟨t, flush0_8 t, ?_⟩
    obtain ⟨e0, e1, e2⟩ := ix_8 t
    have et : t.val = 16 * (i 0 : Nat) + (i 1 : Nat) / 512 := rfl
    show i ∈ ((View.whole main_v38_1).slice (win0_8.rect t)).set
    rw [View.set_slice_whole, Rect.mem_set_unit]
    intro a
    match a with
    | ⟨0, _⟩ => show win0_8.index t (0 : Fin 3) * 1 ≤ (i 0 : Nat) ∧ (i 0 : Nat) < win0_8.index t (0 : Fin 3) * 1 + 1; omega
    | ⟨1, _⟩ => show win0_8.index t (1 : Fin 3) * 512 ≤ (i 1 : Nat) ∧ (i 1 : Nat) < win0_8.index t (1 : Fin 3) * 512 + 512; omega
    | ⟨2, _⟩ => show win0_8.index t (2 : Fin 3) * 64 ≤ (i 2 : Nat) ∧ (i 2 : Nat) < win0_8.index t (2 : Fin 3) * 64 + 64; omega

theorem final_dv (c : Dev nD) : (dats m 0 c).arrAt 9 cfg0.N = dvArr m c := by
  have hN : cfg0.N = 128 := N_0
  refine (dats m 0 c).arrAt_eq_of_cover 9 (dvArr m c) (fun t hf => ?_) fun i => ?_
  · show (cfg0.win 9).cut (grid0.coords t) ((dats m 0 c).after 9 t) = _
    rw [after0_9]
    funext y
    obtain ⟨u, r, d, rfl⟩ : ∃ (u : Fin 1) (r : Fin 512) (d : Fin 64), y = ix3 u r d := ⟨y 0, y 1, y 2, eq_ix3 y⟩
    show (outsAt0 m c t.val t.isLt).2.2.1 (ix3 u r d) = dvArr m c (((cfg0.win 9).blk t).view.emb (ix3 u r d))
    have e : ((cfg0.win 9).blk t).view.emb (ix3 u r d) = ix3 (hd t.val t.isLt) (kr t.val r) d :=
      place3 (ix_9 t) rfl rfl rfl rfl rfl
    rw [e, dv_at]
    rfl
  · have h0 : (i 0 : Nat) < 8 := (i 0).isLt
    have h1 : (i 1 : Nat) < 8192 := (i 1).isLt
    have h2 : (i 2 : Nat) < 64 := (i 2).isLt
    let t : Fin cfg0.N := ⟨16 * (i 0 : Nat) + (i 1 : Nat) / 512, by rw [hN]; omega⟩
    refine ⟨t, flush0_9 t, ?_⟩
    obtain ⟨e0, e1, e2⟩ := ix_9 t
    have et : t.val = 16 * (i 0 : Nat) + (i 1 : Nat) / 512 := rfl
    show i ∈ ((View.whole main_v38_2).slice (win0_9.rect t)).set
    rw [View.set_slice_whole, Rect.mem_set_unit]
    intro a
    match a with
    | ⟨0, _⟩ => show win0_9.index t (0 : Fin 3) * 1 ≤ (i 0 : Nat) ∧ (i 0 : Nat) < win0_9.index t (0 : Fin 3) * 1 + 1; omega
    | ⟨1, _⟩ => show win0_9.index t (1 : Fin 3) * 512 ≤ (i 1 : Nat) ∧ (i 1 : Nat) < win0_9.index t (1 : Fin 3) * 512 + 512; omega
    | ⟨2, _⟩ => show win0_9.index t (2 : Fin 3) * 64 ≤ (i 2 : Nat) ∧ (i 2 : Nat) < win0_9.index t (2 : Fin 3) * 64 + 64; omega

end Cert.AttnBwdIdeal.Val
-- ==== Proof.Reals.lean ====
/- Extended reals that are real: sums, quotients, exponentials and maxima of real numbers, and what a finiteness
   precondition says of an array. -/
module

public import Idealize.ShloMosaic.PureOps.Ideal.Laws
public import Idealize.ShloMosaic.PureOps.Reduce
public import proofs.«01_k».proof.Proof.Lits

@[expose] public section

namespace Cert.Proof

open Idealize.ShloMosaic

/-- A sum of reals, taken in the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum whose terms are real is the real sum. -/
theorem sum_real {ι : Type*} [Fintype ι] (g : ι → EReal) (f : ι → ℝ) (h : ∀ i, g i = (f i : EReal)) :
    ∑ i, g i = ((∑ i, f i : ℝ) : EReal) := by
  rw [← coe_sum]; exact Finset.sum_congr rfl fun i _ => h i

theorem ediv_coe (a b : ℝ) (hb : b ≠ 0) : Ideal.div (a : EReal) (b : EReal) = ((a / b : ℝ) : EReal) := by
  rw [div_coe _ _ hb, ← EReal.coe_mul, div_eq_mul_inv]

theorem bot_lit : Ideal.ofBits .f32 0xFF800000#32 = ⊥ := by
  simp [Ideal.ofBits, Ideal.ieee]
theorem top_lit : Ideal.ofBits .f32 0x7F800000#32 = ⊤ := by
  simp [Ideal.ofBits, Ideal.ieee]

/-- The largest of finitely many reals, at least one, is a real. -/
theorem fold_max_real {ι : Type*} (s : Finset ι) (hs : s.Nonempty) (f : ι → EReal) (r : ι → ℝ) (h : ∀ i, f i = (r i : EReal)) :
    ∃ M : ℝ, s.fold (FloatOps.maximumf (F := Ideal) (φ := .f32)) ((⊥ : EReal) : Ideal .f32) f = (M : EReal) := by
  classical
  induction hs using Finset.Nonempty.cons_induction with
  | singleton a => exact ⟨r a, by rw [Finset.fold_singleton, h]; exact max_bot_right _⟩
  | cons a s ha hs ih =>
    obtain ⟨M, hM⟩ := ih
    refine ⟨max (r a) M, ?_⟩
    rw [Finset.fold_cons, hM, h]
    exact (EReal.coe_strictMono.monotone.map_max).symm

/-- The host's row maximum of an array of reals is real. -/
theorem hostMax_real {s t u : Shape} {a : Fin s.rank} (x : FVec Ideal s .f32) (r : s.Idx → ℝ) (hx : ∀ i, x i = (r i : EReal))
    (init : FVec Ideal u .f32) (h' : s.ReducesTo [a] t) (h : s.Reduces [a] t) (hu : 0 < u.numel)
    (hi : init (Shape.Idx.first hu) = (⊥ : EReal)) (ha : 0 < s.size a) (j : t.Idx) :
    ∃ M : ℝ, Host.reduce (FloatOps.maximumf (F := Ideal) (φ := .f32)) x init h' hu j = (M : EReal) := by
  rw [Host.reduce_eq_fold_single _ x init h' h hu j, hi]
  exact fold_max_real _ ⟨⟨0, ha⟩, Finset.mem_univ _⟩ _ (fun k => r (h.lift j k)) fun k => hx _

/-- An array whose absolute values all compare below infinity holds reals. -/
theorem real_of_finite {s u : Shape} (a : FVec Ideal s .f32) (dims : Fin u.rank → Fin s.rank) (hb : u.BroadcastsInDim s dims)
    (h : cmpf .olt (Host.absf a) (broadcastInDim s dims hb (constant (F := Ideal) u .f32 0x7F800000#32)) = fun _ => 1#1)
    (i : s.Idx) : a i = (((a i : EReal).toReal : ℝ) : EReal) := by
  have e := congrFun h i
  have e' : Ideal.cmp .olt (max (a i : EReal) (-(a i : EReal))) (Ideal.ofBits .f32 0x7F800000#32) = 1#1 := e
  rw [top_lit] at e'
  have hlt : max (a i : EReal) (-(a i : EReal)) < ⊤ := by
    by_contra hn; simp [Ideal.cmp, hn] at e'
  refine (EReal.coe_toReal ?_ ?_).symm
  · exact ((le_max_left _ _).trans_lt hlt).ne
  · intro hbot
    have := ((le_max_right (a i : EReal) (-(a i : EReal))).trans_lt hlt).ne
    rw [hbot] at this; exact this rfl

end Cert.Proof

end
-- ==== Proof.AttnBwd.Math.lean ====
/- The attention of 8 query heads in 2 groups over 8192 keys, and its gradients, in real numbers. -/
module

public import Mathlib.Analysis.SpecialFunctions.Log.Basic
public import Mathlib.Algebra.BigOperators.Field

@[expose] public section

noncomputable section

namespace Cert.Proof

/-- The attention's arguments by head group `h`, head `g` of the group, position and lane: queries, keys, values, the
    cotangent of the output, and any number `M` per row to subtract from the scores. -/
structure Attn where
  q : Fin 2 → Fin 4 → Fin 8192 → Fin 64 → ℝ
  k : Fin 2 → Fin 8192 → Fin 64 → ℝ
  v : Fin 2 → Fin 8192 → Fin 64 → ℝ
  o : Fin 2 → Fin 4 → Fin 8192 → Fin 64 → ℝ
  M : Fin 2 → Fin 4 → Fin 8192 → ℝ

namespace Attn
variable (A : Attn) (h : Fin 2) (g : Fin 4)

/-- The score of row `i` at key `j`. -/
def S (i j : Fin 8192) : ℝ := ∑ d, A.k h j d * A.q h g i d
def E (i j : Fin 8192) : ℝ := Real.exp (A.S h g i j - A.M h g i)
def L (i : Fin 8192) : ℝ := ∑ j, A.E h g i j
/-- The probability of key `j` in row `i`. -/
def P (i j : Fin 8192) : ℝ := A.E h g i j / A.L h g i
/-- The cotangent of that probability. -/
def G (i j : Fin 8192) : ℝ := ∑ d, A.v h j d * A.o h g i d
/-- The row's mean of the cotangents. -/
def D (i : Fin 8192) : ℝ := ∑ j, A.P h g i j * A.G h g i j
/-- The cotangent of the score. -/
def W (i j : Fin 8192) : ℝ := A.P h g i j * (A.G h g i j - A.D h g i)
/-- The row's output. -/
def O (i : Fin 8192) (d : Fin 64) : ℝ := ∑ j, A.v h j d * A.P h g i j

theorem L_pos (i : Fin 8192) : 0 < A.L h g i :=
  Finset.sum_pos (fun _ _ => Real.exp_pos _) ⟨0, Finset.mem_univ _⟩

theorem L_ne (i : Fin 8192) : A.L h g i ≠ 0 := (A.L_pos h g i).ne'

/-- The row's sum of output times cotangent is `D`. -/
theorem D_eq (i : Fin 8192) : ∑ d, A.o h g i d * A.O h g i d = A.D h g i := by
  unfold O D G
  simp only [Finset.mul_sum]
  rw [Finset.sum_comm]
  exact Finset.sum_congr rfl fun j _ => Finset.sum_congr rfl fun d _ => by ring

/-- A probability read from the row's log-sum. -/
theorem P_exp (i j : Fin 8192) :
    Real.exp (A.S h g i j - (A.M h g i + Real.log (A.L h g i))) = A.P h g i j := by
  rw [← sub_sub, Real.exp_sub, Real.exp_log (A.L_pos h g i)]; rfl

/-- The score's cotangent as the derivative of the quotient gives it. -/
theorem W_quot (i j : Fin 8192) :
    (A.G h g i j / A.L h g i + -∑ x, A.G h g i x * (1 / (A.L h g i * A.L h g i)) * A.E h g i x) * A.E h g i j = A.W h g i j := by
  have e : ∑ x, A.G h g i x * (1 / (A.L h g i * A.L h g i)) * A.E h g i x = A.D h g i / A.L h g i := by
    unfold D P
    rw [Finset.sum_div]
    refine Finset.sum_congr rfl fun x _ => ?_
    have := A.L_ne h g i
    field_simp
  rw [e]
  unfold W P
  have := A.L_ne h g i
  field_simp
  ring

end Attn

end Cert.Proof

end

end
-- ==== Proof.AttnBwd.Ref.lean ====
/- The reference's three gradients of the attention, over finite arguments, in real numbers. -/
module

public import proofs.«01_k».proof.Proof.Gen.AttnBwdRefIdeal.Read
public import Idealize.ShloMosaic.Lib.TwoAxisContraction
public import proofs.«01_k».proof.Proof.Reals
public import proofs.«01_k».proof.Proof.AttnBwd.Math

@[expose] public section

set_option maxRecDepth 16384

noncomputable section

namespace Cert.AttnBwdRefIdeal.Val

open Idealize.ShloMosaic Idealize.ShloMosaic.TcCoe Idealize.SL.Sem Cert.AttnBwdRefIdeal Cert.AttnBwdRefIdeal.Gen
open Idealize.ShloMosaic.ValueIdx Cert.Proof Cert.AttnBwdRefIdeal.Read

/-- A product of two arrays over two contracted axes whose terms are real. -/
theorem dot2_real {sl sr so : Shape} (D : DotDims sl sr so) (n0 n1 : Nat) (hr : D.contr.rank = 2)
    (e0 : D.contr.size ⟨0, by omega⟩ = n0) (e1 : D.contr.size ⟨1, by omega⟩ = n1) (l : FVec Ideal sl .f32) (r : FVec Ideal sr .f32)
    (y : so.Idx) (f : Fin n0 → Fin n1 → ℝ)
    (hf : ∀ a b, (l (D.lhsIdx y ((contrEquiv2 D n0 n1 hr e0 e1).symm (a, b))) : EReal) * r (D.rhsIdx y ((contrEquiv2 D n0 n1 hr e0 e1).symm (a, b))) = (f a b : EReal)) :
    (Host.dotGeneral (F := Ideal) D none l r : FVec Ideal so .f32) y = ((∑ a, ∑ b, f a b : ℝ) : EReal) := by
  simp only [Host.dotGeneral]
  rw [Ideal.dotGeneral_apply, sum_contr2 D n0 n1 hr e0 e1]
  exact sum_real _ (fun a => ∑ b, f a b) fun a => sum_real _ _ fun b => hf a b

variable (x0 x3 : FVec Ideal S8192x512 .f32) (x1 x2 : FVec Ideal S8192x128 .f32)

/-- Lane `d` of head `g` of group `h` among 512 columns, and of group `h` among 128. -/
def col (h : Fin 2) (g : Fin 4) (d : Fin 64) : Fin 512 := ⟨h.val * 256 + g.val * 64 + d.val, by omega⟩
def kcol (h : Fin 2) (d : Fin 64) : Fin 128 := ⟨h.val * 64 + d.val, by omega⟩

/-- The row's largest score. -/
def rowMax (h : Fin 2) (g : Fin 4) (i : Fin 8192) : ℝ := EReal.toReal (val_main_v5 (F := Ideal) x0 x1 (ix3 h g i))

/-- The attention that the arguments are. -/
def att : Attn where
  q h g i d := (x0 (ix2 i (col h g d)) : EReal).toReal
  k h j d := (x1 (ix2 j (kcol h d)) : EReal).toReal
  v h j d := (x2 (ix2 j (kcol h d)) : EReal).toReal
  o h g i d := (x3 (ix2 i (col h g d)) : EReal).toReal
  M h g i := rowMax x0 x1 h g i

/-- Every element of an array is a real. -/
abbrev Real' {s : Shape} (x : FVec Ideal s .f32) : Prop := ∀ i, x i = (((x i : EReal).toReal : ℝ) : EReal)

variable (h0 : Real' x0) (h1 : Real' x1) (h2 : Real' x2) (h3 : Real' x3)
variable (h : Fin 2) (g : Fin 4) (i j : Fin 8192) (d : Fin 64)

section
include h0
theorem v0_at : val_main_v0 (F := Ideal) x0 (ix4 i h g d) = (((att x0 x3 x1 x2).q h g i d : ℝ) : EReal) := by
  rw [val_main_v0_apply, show idx_main_v0 (ix4 i h g d) = ix2 i (col h g d) from funext fun a => by
    match a with
    | ⟨0, _⟩ => exact Fin.ext (by show (((i.val * 2 + h.val) * 4 + g.val) * 64 + d.val) / 512 = i.val; omega)
    | ⟨1, _⟩ => exact Fin.ext (by show (((i.val * 2 + h.val) * 4 + g.val) * 64 + d.val) % 512 = h.val * 256 + g.val * 64 + d.val; omega)]
  exact h0 _
end
section
include h1
theorem v1_at : val_main_v1 (F := Ideal) x1 (ix3 j h d) = (((att x0 x3 x1 x2).k h j d : ℝ) : EReal) := by
  rw [val_main_v1_apply, show idx_main_v1 (ix3 j h d) = ix2 j (kcol h d) from funext fun a => by
    match a with
    | ⟨0, _⟩ => exact Fin.ext (by show ((j.val * 2 + h.val) * 64 + d.val) / 128 = j.val; omega)
    | ⟨1, _⟩ => exact Fin.ext (by show ((j.val * 2 + h.val) * 64 + d.val) % 128 = h.val * 64 + d.val; omega)]
  exact h1 _
end
section
include h2
theorem v2_at : val_main_v2 (F := Ideal) x2 (ix3 j h d) = (((att x0 x3 x1 x2).v h j d : ℝ) : EReal) :=
  v1_at x0 x3 x2 x1 h2 h j d
end
section
include h3
theorem v37_at : val_main_v37 (F := Ideal) x3 (ix4 h d g i) = (((att x0 x3 x1 x2).o h g i d : ℝ) : EReal) := by
  rw [val_main_v37_apply, show idx_main_v37 (ix4 h d g i) = ix4 i h g d from eq_ix4 _]
  exact v0_at x3 x0 x1 x2 h3 h g i d
end

section
include h0 h1
/-- The scores. -/
theorem v4_at : val_main_v4 (F := Ideal) x0 x1 (ix4 h g i j) = (((att x0 x3 x1 x2).S h g i j : ℝ) : EReal) := by
  rw [val_main_v4_apply, show idx_main_v4 (ix4 h g i j) = ix4 h j i g from eq_ix4 _, val_main_v3_apply]
  refine sum_real _ (fun d => (att x0 x3 x1 x2).k h j d * (att x0 x3 x1 x2).q h g i d) fun d => ?_
  rw [show lidx_main_v3 (ix4 h j i g) d = ix3 j h d from eq_ix3 _, show ridx_main_v3 (ix4 h j i g) d = ix4 i h g d from eq_ix4 _,
    v0_at x0 x3 x1 x2 h0, v1_at x0 x3 x1 x2 h1, EReal.coe_mul]

/-- The row maximum is a real. -/
theorem v5_at : val_main_v5 (F := Ideal) x0 x1 (ix3 h g i) = (((att x0 x3 x1 x2).M h g i : ℝ) : EReal) := by
  have hr : ∃ M : ℝ, val_main_v5 (F := Ideal) x0 x1 (ix3 h g i) = (M : EReal) := by
    unfold val_main_v5
    refine hostMax_real (a := 3) _ (fun y => (att x0 x3 x1 x2).S (y 0) (y 1) (y 2) (y 3)) (fun y => ?_) _ _ (by decide) _ ?_ (by decide) _
    · rw [eq_ix4 y]; exact v4_at x0 x3 x1 x2 h0 h1 _ _ _ _
    · exact bot_lit
  obtain ⟨M, hM⟩ := hr
  rw [show (att x0 x3 x1 x2).M h g i = rowMax x0 x1 h g i from by simp only [att]]
  unfold rowMax
  rw [hM, EReal.toReal_coe]

/-- The exponentials. -/
theorem v25_at : val_main_v25 (F := Ideal) x0 x1 (ix4 h g i j) = (((att x0 x3 x1 x2).E h g i j : ℝ) : EReal) := by
  rw [val_main_v25_apply, val_main_v24_apply, val_main_v23_apply, val_main_v22_apply, val_main_v12_apply, val_main_v11_apply,
    show idx_main_v22 (idx_main_v23 (ix4 h g i j)) = ix3 h g i from eq_ix3 _, v4_at x0 x3 x1 x2 h0 h1, v5_at x0 x3 x1 x2 h0 h1]
  show Ideal.exp ((((att x0 x3 x1 x2).S h g i j : ℝ) : EReal) - max (Ideal.ofBits .f32 0xFF800000#32) (((att x0 x3 x1 x2).M h g i : ℝ) : EReal)) = _
  rw [bot_lit, max_bot_left, ← EReal.coe_sub, Ideal.exp_coe]; rfl

/-- The row sums. -/
theorem v26_at : val_main_v26 (F := Ideal) x0 x1 (ix3 h g i) = (((att x0 x3 x1 x2).L h g i : ℝ) : EReal) := by
  rw [val_main_v26_apply]
  refine (congrArg₂ (· + ·) (show _ = (0 : EReal) from ?_) (sum_real _ (fun j => (att x0 x3 x1 x2).E h g i j) fun j => ?_)).trans (zero_add _)
  · show Ideal.ofBits .f32 0x00000000#32 = 0
    simp
  · rw [show idx_main_v26 (ix3 h g i) j = ix4 h g i j from eq_ix4 _, v25_at x0 x3 x1 x2 h0 h1]

/-- The probabilities. -/
theorem v29_at : val_main_v29 (F := Ideal) x0 x1 (ix4 h g i j) = (((att x0 x3 x1 x2).P h g i j : ℝ) : EReal) := by
  rw [val_main_v29_apply, val_main_v28_apply, val_main_v27_apply, show idx_main_v27 (idx_main_v28 (ix4 h g i j)) = ix3 h g i from eq_ix3 _,
    v25_at x0 x3 x1 x2 h0 h1, v26_at x0 x3 x1 x2 h0 h1]
  exact ediv_coe _ _ (Attn.L_ne _ _ _ _)
end

section
include h2 h3
/-- The cotangent of the probabilities. -/
theorem v38_at : val_main_v38 (F := Ideal) x2 x3 (ix4 h g i j) = (((att x0 x3 x1 x2).G h g i j : ℝ) : EReal) := by
  rw [val_main_v38_apply]
  refine sum_real _ (fun d => (att x0 x3 x1 x2).v h j d * (att x0 x3 x1 x2).o h g i d) fun d => ?_
  rw [show lidx_main_v38 (ix4 h g i j) d = ix4 h d g i from eq_ix4 _, show ridx_main_v38 (ix4 h g i j) d = ix3 j h d from eq_ix3 _,
    v37_at x0 x3 x1 x2 h3, v2_at x0 x3 x1 x2 h2, ← EReal.coe_mul, mul_comm]
end

section
include h0 h1 h2 h3
/-- The sum that the quotient's denominator sends back. -/
theorem v44_at : val_main_v44 (F := Ideal) x0 x1 x2 x3 (ix3 h g i) =
    ((∑ x, (att x0 x3 x1 x2).G h g i x * (1 / ((att x0 x3 x1 x2).L h g i * (att x0 x3 x1 x2).L h g i)) * (att x0 x3 x1 x2).E h g i x : ℝ) : EReal) := by
  rw [val_main_v44_apply]
  refine (congrArg₂ (· + ·) (show _ = (0 : EReal) from ?_) (sum_real _ (fun x => (att x0 x3 x1 x2).G h g i x *
    (1 / ((att x0 x3 x1 x2).L h g i * (att x0 x3 x1 x2).L h g i)) * (att x0 x3 x1 x2).E h g i x) fun j => ?_)).trans (zero_add _)
  · show Ideal.ofBits .f32 0x00000000#32 = 0
    simp
  · rw [show idx_main_v44 (ix3 h g i) j = ix4 h g i j from eq_ix4 _, val_main_v43_apply, val_main_v42_apply, val_main_v41_apply,
      val_main_v32_apply, val_main_v31_apply, val_main_v30_apply, val_main_v27_apply,
      show idx_main_v27 (idx_main_v41 (ix4 h g i j)) = ix3 h g i from eq_ix3 _,
      v25_at x0 x3 x1 x2 h0 h1, v26_at x0 x3 x1 x2 h0 h1, v38_at x0 x3 x1 x2 h2 h3]
    show (((att x0 x3 x1 x2).G h g i j : ℝ) : EReal) * Ideal.div (Ideal.ofBits .f32 0x3F800000#32)
      ((((att x0 x3 x1 x2).L h g i : ℝ) : EReal) * (((att x0 x3 x1 x2).L h g i : ℝ) : EReal)) * (((att x0 x3 x1 x2).E h g i j : ℝ) : EReal) = _
    rw [lit_one, ← EReal.coe_mul, ediv_coe _ _ (mul_ne_zero (Attn.L_ne _ _ _ _) (Attn.L_ne _ _ _ _)), ← EReal.coe_mul, ← EReal.coe_mul]

/-- The cotangent of the scores. -/
theorem v53_at : val_main_v53 (F := Ideal) x0 x1 x2 x3 (ix4 h j i g) = (((att x0 x3 x1 x2).W h g i j : ℝ) : EReal) := by
  have e49 : val_main_v49 (F := Ideal) x0 x1 x2 x3 (ix3 h g i) = ((-(∑ x, (att x0 x3 x1 x2).G h g i x * (1 / ((att x0 x3 x1 x2).L h g i *
      (att x0 x3 x1 x2).L h g i)) * (att x0 x3 x1 x2).E h g i x) : ℝ) : EReal) := by
    rw [val_main_v49_apply, Fin.sum_univ_one, val_main_v46_apply, val_main_v45_apply,
      show idx_main_v45 (idx_main_v49 (ix3 h g i) 0) = ix3 h g i from funext fun a => by
        match a with
        | ⟨0, _⟩ => exact Fin.ext (by show (((h.val * 4 + g.val) * 8192 + i.val) * 1 + 0) / 32768 = h.val; omega)
        | ⟨1, _⟩ => exact Fin.ext (by show (((h.val * 4 + g.val) * 8192 + i.val) * 1 + 0) / 8192 % 4 = g.val; omega)
        | ⟨2, _⟩ => exact Fin.ext (by show (((h.val * 4 + g.val) * 8192 + i.val) * 1 + 0) % 8192 = i.val; omega),
      v44_at x0 x3 x1 x2 h0 h1 h2 h3]
    show Ideal.ofBits .f32 0x00000000#32 + -(_ : EReal) = _
    rw [← EReal.coe_neg]; simp
  rw [val_main_v53_apply, show idx_main_v53 (ix4 h j i g) = ix4 h g i j from eq_ix4 _, val_main_v52_apply, val_main_v51_apply,
    val_main_v50_apply, val_main_v48_apply, val_main_v47_apply, val_main_v27_apply,
    show idx_main_v27 (idx_main_v47 (ix4 h g i j)) = ix3 h g i from eq_ix3 _, show idx_main_v50 (ix4 h g i j) = ix3 h g i from eq_ix3 _,
    v25_at x0 x3 x1 x2 h0 h1, v26_at x0 x3 x1 x2 h0 h1, v38_at x0 x3 x1 x2 h2 h3, e49]
  show (Ideal.div (((att x0 x3 x1 x2).G h g i j : ℝ) : EReal) (((att x0 x3 x1 x2).L h g i : ℝ) : EReal) + _) * (((att x0 x3 x1 x2).E h g i j : ℝ) : EReal) = _
  rw [ediv_coe _ _ (Attn.L_ne _ _ _ _), ← EReal.coe_add, ← EReal.coe_mul, Attn.W_quot]

/-- The gradient of the queries. -/
theorem ref_dq : val_main_v61 (F := Ideal) x0 x1 x2 x3 (ix2 i (col h g d)) =
    ((∑ j, (att x0 x3 x1 x2).W h g i j * (att x0 x3 x1 x2).k h j d : ℝ) : EReal) := by
  rw [val_main_v61_apply]
  show val_main_v60 (F := Ideal) x0 x1 x2 x3 (ix2 i (col h g d)) = _
  rw [val_main_v60_apply, show idx_main_v60 (ix2 i (col h g d)) = ix4 i h g d from funext fun a => by
    match a with
    | ⟨0, _⟩ => exact Fin.ext (by show (i.val * 512 + (h.val * 256 + g.val * 64 + d.val)) / 512 = i.val; omega)
    | ⟨1, _⟩ => exact Fin.ext (by show (i.val * 512 + (h.val * 256 + g.val * 64 + d.val)) / 256 % 2 = h.val; omega)
    | ⟨2, _⟩ => exact Fin.ext (by show (i.val * 512 + (h.val * 256 + g.val * 64 + d.val)) / 64 % 4 = g.val; omega)
    | ⟨3, _⟩ => exact Fin.ext (by show (i.val * 512 + (h.val * 256 + g.val * 64 + d.val)) % 64 = d.val; omega),
    val_main_v55_apply, show idx_main_v55 (ix4 i h g d) = ix4 h i g d from eq_ix4 _, val_main_v54_apply]
  refine sum_real _ (fun j => (att x0 x3 x1 x2).W h g i j * (att x0 x3 x1 x2).k h j d) fun j => ?_
  rw [show lidx_main_v54 (ix4 h i g d) j = ix4 h j i g from eq_ix4 _, show ridx_main_v54 (ix4 h i g d) j = ix3 j h d from eq_ix3 _,
    v53_at x0 x3 x1 x2 h0 h1 h2 h3, v1_at x0 x3 x1 x2 h1, EReal.coe_mul]

/-- The gradient of the values. -/
theorem ref_dv : val_main_v63 (F := Ideal) x0 x1 x3 (ix2 j (kcol h d)) =
    ((∑ g, ∑ i, (att x0 x3 x1 x2).o h g i d * (att x0 x3 x1 x2).P h g i j : ℝ) : EReal) := by
  rw [val_main_v63_apply]
  show val_main_v58 (F := Ideal) x0 x1 x3 (ix2 j (kcol h d)) = _
  rw [val_main_v58_apply, show idx_main_v58 (ix2 j (kcol h d)) = ix3 j h d from funext fun a => by
    match a with
    | ⟨0, _⟩ => exact Fin.ext (by show (j.val * 128 + (h.val * 64 + d.val)) / 128 = j.val; omega)
    | ⟨1, _⟩ => exact Fin.ext (by show (j.val * 128 + (h.val * 64 + d.val)) / 64 % 2 = h.val; omega)
    | ⟨2, _⟩ => exact Fin.ext (by show (j.val * 128 + (h.val * 64 + d.val)) % 64 = d.val; omega),
    val_main_v40_apply, show idx_main_v40 (ix3 j h d) = ix3 h d j from eq_ix3 _]
  unfold val_main_v39
  refine dot2_real _ 4 8192 rfl rfl rfl _ _ _ (fun g i => (att x0 x3 x1 x2).o h g i d * (att x0 x3 x1 x2).P h g i j) fun g i => ?_
  have el : dot_S2x64x4x8192_S2x4x8192x8192_S2x64x8192_23_12_1_3_0_0.lhsIdx (ix3 h d j) ((contrEquiv2
      dot_S2x64x4x8192_S2x4x8192x8192_S2x64x8192_23_12_1_3_0_0 4 8192 rfl rfl rfl).symm (g, i)) = ix4 h d g i := eq_ix4 _
  have er : dot_S2x64x4x8192_S2x4x8192x8192_S2x64x8192_23_12_1_3_0_0.rhsIdx (ix3 h d j) ((contrEquiv2
      dot_S2x64x4x8192_S2x4x8192x8192_S2x64x8192_23_12_1_3_0_0 4 8192 rfl rfl rfl).symm (g, i)) = ix4 h g i j := eq_ix4 _
  rw [el, er, v37_at x0 x3 x1 x2 h3, v29_at x0 x3 x1 x2 h0 h1, ← EReal.coe_mul]

/-- The gradient of the keys. -/
theorem ref_dk : val_main_v62 (F := Ideal) x0 x1 x2 x3 (ix2 j (kcol h d)) =
    ((∑ i, ∑ g, (att x0 x3 x1 x2).W h g i j * (att x0 x3 x1 x2).q h g i d : ℝ) : EReal) := by
  rw [val_main_v62_apply]
  show val_main_v59 (F := Ideal) x0 x1 x2 x3 (ix2 j (kcol h d)) = _
  rw [val_main_v59_apply, show idx_main_v59 (ix2 j (kcol h d)) = ix3 j h d from funext fun a => by
    match a with
    | ⟨0, _⟩ => exact Fin.ext (by show (j.val * 128 + (h.val * 64 + d.val)) / 128 = j.val; omega)
    | ⟨1, _⟩ => exact Fin.ext (by show (j.val * 128 + (h.val * 64 + d.val)) / 64 % 2 = h.val; omega)
    | ⟨2, _⟩ => exact Fin.ext (by show (j.val * 128 + (h.val * 64 + d.val)) % 64 = d.val; omega),
    val_main_v57_apply, show idx_main_v57 (ix3 j h d) = ix3 h j d from eq_ix3 _]
  unfold val_main_v56
  refine dot2_real _ 8192 4 rfl rfl rfl _ _ _ (fun i g => (att x0 x3 x1 x2).W h g i j * (att x0 x3 x1 x2).q h g i d) fun i g => ?_
  have el : dot_S2x8192x8192x4_S8192x2x4x64_S2x8192x64_23_02_1_3_0_1.lhsIdx (ix3 h j d) ((contrEquiv2
      dot_S2x8192x8192x4_S8192x2x4x64_S2x8192x64_23_02_1_3_0_1 8192 4 rfl rfl rfl).symm (i, g)) = ix4 h j i g := eq_ix4 _
  have er : dot_S2x8192x8192x4_S8192x2x4x64_S2x8192x64_23_02_1_3_0_1.rhsIdx (ix3 h j d) ((contrEquiv2
      dot_S2x8192x8192x4_S8192x2x4x64_S2x8192x64_23_02_1_3_0_1 8192 4 rfl rfl rfl).symm (i, g)) = ix4 i h g d := eq_ix4 _
  rw [el, er, v53_at x0 x3 x1 x2 h0 h1 h2 h3, v0_at x0 x3 x1 x2 h0, ← EReal.coe_mul]
end

end Cert.AttnBwdRefIdeal.Val

end

end
-- ==== Proof.AttnBwd.Host.lean ====
/- What the host computes before the kernel, read in the program's arguments: the layouts of queries, keys, values and
   cotangent, the rows' log-sums and the rows' sums of output times cotangent. -/
module

public import proofs.«01_k».proof.Proof.AttnBwd.Arrays
public import proofs.«01_k».proof.Proof.AttnBwd.Ref

@[expose] public section

set_option maxRecDepth 16384

noncomputable section

namespace Cert.AttnBwdIdeal.Val

open Idealize.ShloMosaic Idealize.ShloMosaic.TcCoe Idealize.ShloMosaic.Tactic Idealize.SL.Sem Cert.AttnBwdIdeal Cert.AttnBwdIdeal.Gen
open Idealize.ShloMosaic.ValueIdx Cert.Proof Cert.AttnBwdRefIdeal.Read Cert.AttnBwdIdeal.Facts
open Cert.AttnBwdRefIdeal.Val (att col kcol Real' v4_at v5_at v25_at v26_at v29_at)

/-! ### The lines as functions -/

section
variable (x0 x3 : FVec Ideal S8192x512 .f32) (x1 x2 : FVec Ideal S8192x128 .f32)

/-- The exponentials of the scores less the row maximum. -/
def hostE : FVec Ideal S2x4x8192x8192 .f32 :=
  Host.exp (subf (val_main_v4 (F := Ideal) x0 x1) (broadcastInDim S2x4x8192x8192 ![0, 1, 2, 3] bcast_S2x4x8192x1_S2x4x8192x8192_0_1_2_3
    (broadcastInDim S2x4x8192x1 ![0, 1, 2] bcast_S2x4x8192_S2x4x8192x1_0_1_2 (val_main_v5 (F := Ideal) x0 x1))))
/-- Their row sums. -/
def sumE (e : FVec Ideal S2x4x8192x8192 .f32) : FVec Ideal S2x4x8192x1 .f32 :=
  broadcastInDim S2x4x8192x1 ![0, 1, 2] bcast_S2x4x8192_S2x4x8192x1_0_1_2
    (Host.reduceAdd e (constant S_ .f32 0x00000000#32) reducesTo_S2x4x8192x8192_S2x4x8192_d3 h_S_)
/-- The rows' log-sums. -/
def hostLse (e : FVec Ideal S2x4x8192x8192 .f32) : FVec Ideal S8x16x1x512 .f32 :=
  shapeCast _ (addf (broadcastInDim S2x4x8192x1 ![0, 1, 2] bcast_S2x4x8192_S2x4x8192x1_0_1_2 (val_main_v5 (F := Ideal) x0 x1))
    (Host.log (sumE e))) shapeCasts_S2x4x8192x1_S8x16x1x512
/-- The output. -/
def hostO (e : FVec Ideal S2x4x8192x8192 .f32) : FVec Ideal S8192x512 .f32 :=
  shapeCast _ (transpose S8192x2x4x64 [3, 0, 2, 1] (Host.dotGeneral (φ₁ := .f32) (φ₂ := .f32) Cert.AttnBwdRefIdeal.dot_S8192x2x64_S2x4x8192x8192_S2x64x4x8192_0_3_2_12_1_0 none
    (val_main_v2 (F := Ideal) x2) (Host.divf e (broadcastInDim S2x4x8192x8192 ![0, 1, 2, 3] bcast_S2x4x8192x1_S2x4x8192x8192_0_1_2_3 (sumE e))))
    transposes_S2x64x4x8192_S8192x2x4x64_3_0_2_1) shapeCasts_S8192x2x4x64_S8192x512
/-- The rows' sums of output times cotangent. -/
def hostD (o : FVec Ideal S8192x512 .f32) : FVec Ideal S8x16x1x512 .f32 :=
  shapeCast _ (transpose S8x8192 [1, 0] (Host.reduceAdd (shapeCast S8192x8x64 (mulf x3 o) shapeCasts_S8192x512_S8192x8x64)
    (constant S_ .f32 0x00000000#32) reducesTo_S8192x8x64_S8192x8_d2 h_S_) transposes_S8192x8_S8x8192_1_0) shapeCasts_S8x8192_S8x16x1x512
end

variable (m : (ℓ : Loc nD τ sig) → Buf (Elt Ideal) ℓ) (c : Dev nD)

def X0 : FVec Ideal S8192x512 .f32 := m ((c : Thread nD τ).loc main_arg0)
def X1 : FVec Ideal S8192x128 .f32 := m ((c : Thread nD τ).loc main_arg1)
def X2 : FVec Ideal S8192x128 .f32 := m ((c : Thread nD τ).loc main_arg2)
def X3 : FVec Ideal S8192x512 .f32 := m ((c : Thread nD τ).loc main_arg3)

theorem dotS_eq : dot_S8192x2x64_S8192x2x4x64_S2x8192x8192x4_2_3_0_02_1_1 =
    Cert.AttnBwdRefIdeal.dot_S8192x2x64_S8192x2x4x64_S2x8192x8192x4_2_3_0_02_1_1 := rfl
theorem dotO_eq : dot_S8192x2x64_S2x4x8192x8192_S2x64x4x8192_0_3_2_12_1_0 =
    Cert.AttnBwdRefIdeal.dot_S8192x2x64_S2x4x8192x8192_S2x64x4x8192_0_3_2_12_1_0 := rfl

theorem V_v19 : V m c main_v19 = hostLse (X0 m c) (X1 m c) (hostE (X0 m c) (X1 m c)) := by
  show StableHlo.after hostOps0 _ _ = _
  after_results
  rw [dotS_eq]
  unfold hostLse sumE hostE val_main_v5 val_main_v4 val_main_v3 val_main_v1 val_main_v0 X0 X1
  rfl
theorem V_v24 : V m c main_v24 = hostD (X3 m c) (hostO (X2 m c) (hostE (X0 m c) (X1 m c))) := by
  show StableHlo.after hostOps0 _ _ = _
  after_results
  rw [dotS_eq, dotO_eq]
  unfold hostD hostO sumE hostE val_main_v5 val_main_v4 val_main_v3 val_main_v2 val_main_v1 val_main_v0 X0 X1 X2 X3
  rfl

/-! ### The layouts -/

/-- Column `x` of chunk `b` of the positions; the head of a group among the eight. -/
def pos (b : Fin 16) (x : Fin 512) : Fin 8192 := ⟨512 * b.val + x.val, by omega⟩
def grp (h : Fin 8) : Fin 4 := ⟨h.val % 4, by omega⟩

theorem heads_at (x : FVec Ideal S8192x512 .bf16) (h : Fin 8) (b : Fin 16) (d : Fin 64) (y : Fin 512) :
    transpose S8x16x64x512 [2, 0, 3, 1] (shapeCast S16x512x8x64 x shapeCasts_S8192x512_S16x512x8x64)
      transposes_S16x512x8x64_S8x16x64x512_2_0_3_1 (ix4 h b d y) = x (ix2 (pos b y) (col (kvh h) (grp h) d)) := by
  rw [transpose_apply _ _ _ _ (ix4 b y h d) (fun a => by match a with | ⟨0, _⟩ => rfl | ⟨1, _⟩ => rfl | ⟨2, _⟩ => rfl | ⟨3, _⟩ => rfl)]
  exact shapeCast_apply _ _ _ _ (by
    rewrite [Shape.rowMajor_val_two, Shape.rowMajor_val_four]
    show (512 * b.val + y.val) * 512 + (h.val / 4 * 256 + h.val % 4 * 64 + d.val) = ((b.val * 512 + y.val) * 8 + h.val) * 64 + d.val
    omega)
theorem keys_at (x : FVec Ideal S8192x128 .bf16) (h : Fin 2) (j : Fin 8192) (d : Fin 64) :
    transpose S2x8192x64 [1, 0, 2] (shapeCast S8192x2x64 x shapeCasts_S8192x128_S8192x2x64)
      transposes_S8192x2x64_S2x8192x64_1_0_2 (ix3 h j d) = x (ix2 j (kcol h d)) := by
  rw [transpose_apply _ _ _ _ (ix3 j h d) (fun a => by match a with | ⟨0, _⟩ => rfl | ⟨1, _⟩ => rfl | ⟨2, _⟩ => rfl)]
  exact shapeCast_apply _ _ _ _ (by
    rewrite [Shape.rowMajor_val_two, Shape.rowMajor_val_three]
    show j.val * 128 + (h.val * 64 + d.val) = (j.val * 2 + h.val) * 64 + d.val
    omega)

theorem aQ_at (h : Fin 8) (b : Fin 16) (d : Fin 64) (y : Fin 512) :
    aQ m c (ix4 h b d y) = X0 m c (ix2 (pos b y) (col (kvh h) (grp h) d)) := by
  have e : V m c main_v30 = transpose S8x16x64x512 [2, 0, 3, 1] (shapeCast S16x512x8x64 (truncf .bf16 (X0 m c) bitsLt_bf16_f32) shapeCasts_S8192x512_S16x512x8x64)
      transposes_S16x512x8x64_S8x16x64x512_2_0_3_1 := by
    show StableHlo.after hostOps0 _ _ = _
    after_results
    rfl
  exact (congrFun e _).trans (heads_at _ h b d y)
theorem aO_at (h : Fin 8) (b : Fin 16) (d : Fin 64) (y : Fin 512) :
    aO m c (ix4 h b d y) = X3 m c (ix2 (pos b y) (col (kvh h) (grp h) d)) := by
  have e : V m c main_v34 = transpose S8x16x64x512 [2, 0, 3, 1] (shapeCast S16x512x8x64 (truncf .bf16 (X3 m c) bitsLt_bf16_f32) shapeCasts_S8192x512_S16x512x8x64)
      transposes_S16x512x8x64_S8x16x64x512_2_0_3_1 := by
    show StableHlo.after hostOps0 _ _ = _
    after_results
    rfl
  exact (congrFun e _).trans (heads_at _ h b d y)
theorem aK_at (h : Fin 2) (j : Fin 8192) (d : Fin 64) : aK m c (ix3 h j d) = X1 m c (ix2 j (kcol h d)) := by
  have e : V m c main_v32 = transpose S2x8192x64 [1, 0, 2] (shapeCast S8192x2x64 (truncf .bf16 (X1 m c) bitsLt_bf16_f32) shapeCasts_S8192x128_S8192x2x64)
      transposes_S8192x2x64_S2x8192x64_1_0_2 := by
    show StableHlo.after hostOps0 _ _ = _
    after_results
    rfl
  exact (congrFun e _).trans (keys_at _ h j d)
theorem aV_at (h : Fin 2) (j : Fin 8192) (d : Fin 64) : aV m c (ix3 h j d) = X2 m c (ix2 j (kcol h d)) := by
  have e : V m c main_v37 = transpose S2x8192x64 [1, 0, 2] (shapeCast S8192x2x64 (truncf .bf16 (X2 m c) bitsLt_bf16_f32) shapeCasts_S8192x128_S8192x2x64)
      transposes_S8192x2x64_S2x8192x64_1_0_2 := by
    show StableHlo.after hostOps0 _ _ = _
    after_results
    rfl
  exact (congrFun e _).trans (keys_at _ h j d)
theorem aT_at (h : Fin 2) (d : Fin 64) (j : Fin 8192) : aT m c (ix3 h d j) = X1 m c (ix2 j (kcol h d)) := by
  have e : V m c main_v35 = transpose S2x64x8192 [0, 2, 1] (transpose S2x8192x64 [1, 0, 2] (shapeCast S8192x2x64 (truncf .bf16 (X1 m c) bitsLt_bf16_f32) shapeCasts_S8192x128_S8192x2x64)
      transposes_S8192x2x64_S2x8192x64_1_0_2) transposes_S2x8192x64_S2x64x8192_0_2_1 := by
    show StableHlo.after hostOps0 _ _ = _
    after_results
    rfl
  refine (congrFun e _).trans ?_
  rw [transpose_apply _ _ _ _ (ix3 h j d) (fun a => by match a with | ⟨0, _⟩ => rfl | ⟨1, _⟩ => rfl | ⟨2, _⟩ => rfl)]
  exact keys_at _ h j d

/-! ### The saved sums in real numbers -/

section
variable (x0 x3 : FVec Ideal S8192x512 .f32) (x1 x2 : FVec Ideal S8192x128 .f32)

theorem add_log {s : Shape} (a b : FVec Ideal s .f32) (y : s.Idx) : addf a (Host.log b) y = (a y : EReal) + Ideal.log (b y) := rfl
theorem v12_eq : val_main_v12 (F := Ideal) x0 x1 = val_main_v5 (F := Ideal) x0 x1 := by
  funext y
  rw [val_main_v12_apply, val_main_v11_apply]
  show max (Ideal.ofBits .f32 0xFF800000#32) (val_main_v5 (F := Ideal) x0 x1 y : EReal) = _
  rw [bot_lit]; exact max_bot_left _
theorem hostE_eq : hostE x0 x1 = val_main_v25 (F := Ideal) x0 x1 := by
  unfold val_main_v25 val_main_v24 val_main_v23 val_main_v22
  rw [v12_eq]; rfl
theorem sumE_eq : sumE (val_main_v25 (F := Ideal) x0 x1) = val_main_v27 (F := Ideal) x0 x1 := by
  unfold sumE val_main_v27 val_main_v26; rfl
theorem hostO_eq : hostO x2 (hostE x0 x1) = val_main_v35 (F := Ideal) x0 x1 x2 := by
  rw [hostE_eq]
  unfold hostO
  rw [sumE_eq]
  unfold val_main_v35 val_main_v34 val_main_v33 val_main_v29 val_main_v28; rfl

variable (h0 : Real' x0) (h1 : Real' x1) (h2 : Real' x2) (h3 : Real' x3)
include h0 h1

theorem hostLse_at (h : Fin 8) (b : Fin 16) (y : Fin 512) : hostLse x0 x1 (hostE x0 x1) (ix4 h b 0 y) =
    (((att x0 x3 x1 x2).M (kvh h) (grp h) (pos b y) + Real.log ((att x0 x3 x1 x2).L (kvh h) (grp h) (pos b y)) : ℝ) : EReal) := by
  rw [hostE_eq]
  unfold hostLse
  refine (shapeCast_apply _ _ _ (ix4 (kvh h) (grp h) (pos b y) (0 : Fin 1)) (by
    rewrite [Shape.rowMajor_val_four, Shape.rowMajor_val_four]
    show ((h.val / 4 * 4 + h.val % 4) * 8192 + (512 * b.val + y.val)) * 1 + 0 = ((h.val * 16 + b.val) * 1 + 0) * 512 + y.val
    omega)).trans ?_
  have e5 : broadcastInDim S2x4x8192x1 ![0, 1, 2] bcast_S2x4x8192_S2x4x8192x1_0_1_2 (val_main_v5 (F := Ideal) x0 x1)
      (ix4 (kvh h) (grp h) (pos b y) (0 : Fin 1)) = val_main_v5 (F := Ideal) x0 x1 (ix3 (kvh h) (grp h) (pos b y)) :=
    broadcastInDim_apply _ _ _ _ _ (fun a => by match a with | ⟨0, _⟩ => rfl | ⟨1, _⟩ => rfl | ⟨2, _⟩ => rfl)
  rw [sumE_eq]
  refine (add_log _ _ _).trans ?_
  rw [e5, val_main_v27_apply, show idx_main_v27 (ix4 (kvh h) (grp h) (pos b y) (0 : Fin 1)) = ix3 (kvh h) (grp h) (pos b y) from eq_ix3 _,
    v5_at x0 x3 x1 x2 h0 h1, v26_at x0 x3 x1 x2 h0 h1, Ideal.log_coe, if_neg (not_le.mpr (Attn.L_pos _ _ _ _)), ← EReal.coe_add]

include h2 h3
theorem v35_at (h : Fin 2) (g : Fin 4) (i : Fin 8192) (d : Fin 64) :
    val_main_v35 (F := Ideal) x0 x1 x2 (ix2 i (col h g d)) = (((att x0 x3 x1 x2).O h g i d : ℝ) : EReal) := by
  rw [val_main_v35_apply, show idx_main_v35 (ix2 i (col h g d)) = ix4 i h g d from funext fun a => by
    match a with
    | ⟨0, _⟩ => exact Fin.ext (by show (i.val * 512 + (h.val * 256 + g.val * 64 + d.val)) / 512 = i.val; omega)
    | ⟨1, _⟩ => exact Fin.ext (by show (i.val * 512 + (h.val * 256 + g.val * 64 + d.val)) / 256 % 2 = h.val; omega)
    | ⟨2, _⟩ => exact Fin.ext (by show (i.val * 512 + (h.val * 256 + g.val * 64 + d.val)) / 64 % 4 = g.val; omega)
    | ⟨3, _⟩ => exact Fin.ext (by show (i.val * 512 + (h.val * 256 + g.val * 64 + d.val)) % 64 = d.val; omega),
    val_main_v34_apply, show idx_main_v34 (ix4 i h g d) = ix4 h d g i from eq_ix4 _, val_main_v33_apply]
  refine sum_real _ (fun j => (att x0 x3 x1 x2).v h j d * (att x0 x3 x1 x2).P h g i j) fun j => ?_
  rw [show lidx_main_v33 (ix4 h d g i) j = ix3 j h d from eq_ix3 _, show ridx_main_v33 (ix4 h d g i) j = ix4 h g i j from eq_ix4 _,
    Cert.AttnBwdRefIdeal.Val.v2_at x0 x3 x1 x2 h2, v29_at x0 x3 x1 x2 h0 h1, EReal.coe_mul]

theorem hostD_at (h : Fin 8) (b : Fin 16) (y : Fin 512) : hostD x3 (hostO x2 (hostE x0 x1)) (ix4 h b 0 y) =
    (((att x0 x3 x1 x2).D (kvh h) (grp h) (pos b y) : ℝ) : EReal) := by
  rw [hostO_eq]
  unfold hostD
  refine (shapeCast_apply _ _ _ (ix2 h (pos b y)) (by
    rewrite [Shape.rowMajor_val_two, Shape.rowMajor_val_four]
    show h.val * 8192 + (512 * b.val + y.val) = ((h.val * 16 + b.val) * 1 + 0) * 512 + y.val
    omega)).trans ?_
  rw [transpose_apply _ _ _ _ (ix2 (pos b y) h) (fun a => by match a with | ⟨0, _⟩ => rfl | ⟨1, _⟩ => rfl)]
  have e0 : (constant S_ .f32 0x00000000#32 : FVec Ideal S_ .f32) (Shape.Idx.first h_S_) = (0 : EReal) := by
    show Ideal.ofBits .f32 0x00000000#32 = 0
    simp
  simp only [Host.reduceAdd, Ideal.hostReduceAdd_def]
  rw [Ideal.hostReduceAdd_single reducesTo_S8192x8x64_S8192x8_d2 (by decide), e0, zero_add, ← Attn.D_eq]
  refine sum_real _ (fun d => (att x0 x3 x1 x2).o (kvh h) (grp h) (pos b y) d * (att x0 x3 x1 x2).O (kvh h) (grp h) (pos b y) d) fun d => ?_
  refine (shapeCast_apply _ _ _ (ix2 (pos b y) (col (kvh h) (grp h) d)) (by
    rewrite [Shape.rowMajor_val_two, Shape.rowMajor_val_three]
    show (512 * b.val + y.val) * 512 + (h.val / 4 * 256 + h.val % 4 * 64 + d.val) = ((512 * b.val + y.val) * 8 + h.val) * 64 + d.val
    omega)).trans ?_
  refine (congrArg₂ (fun s t : EReal => s * t) (h3 _) (v35_at x0 x3 x1 x2 h0 h1 h2 h3 _ _ _ _)).trans ?_
  exact (EReal.coe_mul _ _).symm
end

end Cert.AttnBwdIdeal.Val

end

end
-- ==== Proof.AttnBwd.Value.lean ====
/- The full attention's gradients as the program returns them: the kernel's arrays brought back to the arguments' layout,
   over finite arguments equal to the reference's gradients. -/
module

public import proofs.«01_k».proof.Proof.AttnBwd.Host

@[expose] public section

set_option maxRecDepth 16384

noncomputable section

namespace Cert.AttnBwdIdeal.Val

open Idealize.ShloMosaic Idealize.ShloMosaic.TcCoe Idealize.ShloMosaic.Tactic Idealize.SL.Sem Cert.AttnBwdIdeal Cert.AttnBwdIdeal.Gen
open Idealize.ShloMosaic.ValueIdx Cert.Proof Cert.AttnBwdRefIdeal.Read Cert.AttnBwdIdeal.Facts
open Cert.AttnBwdRefIdeal.Val (att col kcol Real' ref_dq ref_dk ref_dv)

variable (m : (ℓ : Loc nD τ sig) → Buf (Elt Ideal) ℓ) (ρ : Dev nD → PrngReg) (c : Dev nD)

/-! ### The results' layout -/

/-- The queries' gradient back in rows. -/
def rows (x : FVec Ideal S8x16x64x512 .bf16) : FVec Ideal S8192x512 .bf16 :=
  shapeCast _ (transpose S16x512x8x64 [1, 3, 0, 2] x transposes_S8x16x64x512_S16x512x8x64_1_3_0_2) shapeCasts_S16x512x8x64_S8192x512
/-- A key head's gradient, summed over its four query heads, back in rows. -/
def groups (x : FVec Ideal S8x8192x64 .bf16) : FVec Ideal S8192x128 .bf16 :=
  shapeCast _ (transpose S8192x2x64 [1, 0, 2] (truncf .bf16 (Host.reduceAdd (extf .f32 (shapeCast S2x4x8192x64 x shapeCasts_S8x8192x64_S2x4x8192x64) bitsLt_bf16_f32)
    (constant S_ .f32 0x00000000#32) reducesTo_S2x4x8192x64_S2x8192x64_d1 h_S_) bitsLt_bf16_f32) transposes_S2x8192x64_S8192x2x64_1_0_2)
    shapeCasts_S8192x2x64_S8192x128

theorem tail_dq : Pipeline.afterTail₀ cfgs (dats m) 0 (V0 m) [hostOps1] c main_v40 = rows (dqArr m c) := by
  unfold Pipeline.afterTail₀
  have e : Pipeline.withArrays spec0 c (V0 m c) (fun w => (dats m 0 c).arrAt w cfg0.N) (Proc.devRef .tc main_v38_0) = dqArr m c :=
    (Pipeline.withArrays_arr spec0 (by decide) c (V0 m c) (fun w => (dats m 0 c).arrAt w cfg0.N) 7).trans (final_dq m c)
  rw [← e]
  show StableHlo.after hostOps1 _ _ = _
  after_results
  rfl
theorem tail_dk : Pipeline.afterTail₀ cfgs (dats m) 0 (V0 m) [hostOps1] c main_v46 = groups (dkArr m c) := by
  unfold Pipeline.afterTail₀
  have e : Pipeline.withArrays spec0 c (V0 m c) (fun w => (dats m 0 c).arrAt w cfg0.N) (Proc.devRef .tc main_v38_1) = dkArr m c :=
    (Pipeline.withArrays_arr spec0 (by decide) c (V0 m c) (fun w => (dats m 0 c).arrAt w cfg0.N) 8).trans (final_dk m c)
  rw [← e]
  show StableHlo.after hostOps1 _ _ = _
  after_results
  rfl
theorem tail_dv : Pipeline.afterTail₀ cfgs (dats m) 0 (V0 m) [hostOps1] c main_v52 = groups (dvArr m c) := by
  unfold Pipeline.afterTail₀
  have e : Pipeline.withArrays spec0 c (V0 m c) (fun w => (dats m 0 c).arrAt w cfg0.N) (Proc.devRef .tc main_v38_2) = dvArr m c :=
    (Pipeline.withArrays_arr spec0 (by decide) c (V0 m c) (fun w => (dats m 0 c).arrAt w cfg0.N) 9).trans (final_dv m c)
  rw [← e]
  show StableHlo.after hostOps1 _ _ = _
  after_results
  rfl

/-- The run, read. -/
theorem run_val : θ_run defs (onTc (τ := τ) (main (F := Ideal))) ⟨m, fun _ => 0, ρ⟩ fun r => ∀ c : Dev nD,
      r.2.mem ((c : Thread nD τ).loc main_v40) = rows (dqArr m c)
      ∧ r.2.mem ((c : Thread nD τ).loc main_v46) = groups (dkArr m c)
      ∧ r.2.mem ((c : Thread nD τ).loc main_v52) = groups (dvArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ⟨((h c).2 main_v40 (by decide)).trans (tail_dq m c),
      ((h c).2 main_v46 (by decide)).trans (tail_dk m c), ((h c).2 main_v52 (by decide)).trans (tail_dv m c),
      ((h c).2 main_arg0 (by decide)).trans (W_main_arg0 m (dats m) c), ((h c).2 main_arg1 (by decide)).trans (W_main_arg1 m (dats m) c),
      ((h c).2 main_arg2 (by decide)).trans (W_main_arg2 m (dats m) c), ((h c).2 main_arg3 (by decide)).trans (W_main_arg3 m (dats m) c)⟩)
    (run_main m ρ)

/-! ### In real numbers -/

/-- The eight heads' head `g` of group `h`. -/
def head8 (h : Fin 2) (g : Fin 4) : Fin 8 := ⟨h.val * 4 + g.val, by omega⟩
theorem kvh_head8 (h : Fin 2) (g : Fin 4) : kvh (head8 h g) = h := Fin.ext (by show (h.val * 4 + g.val) / 4 = h.val; omega)
theorem grp_head8 (h : Fin 2) (g : Fin 4) : grp (head8 h g) = g := Fin.ext (by show (h.val * 4 + g.val) % 4 = g.val; omega)
def chunkOf (i : Fin 8192) : Fin 16 := ⟨i.val / 512, by omega⟩
def colOf (i : Fin 8192) : Fin 512 := ⟨i.val % 512, by omega⟩
theorem pos_of (i : Fin 8192) : pos (chunkOf i) (colOf i) = i := Fin.ext (by show 512 * (i.val / 512) + i.val % 512 = i.val; omega)

theorem rows_at (x : FVec Ideal S8x16x64x512 .bf16) (h : Fin 2) (g : Fin 4) (i : Fin 8192) (d : Fin 64) :
    rows x (ix2 i (col h g d)) = x (ix4 (head8 h g) (chunkOf i) d (colOf i)) := by
  unfold rows
  refine (shapeCast_apply _ _ _ (ix4 (chunkOf i) (colOf i) (head8 h g) d) (by
    rewrite [Shape.rowMajor_val_two, Shape.rowMajor_val_four]
    show ((i.val / 512 * 512 + i.val % 512) * 8 + (h.val * 4 + g.val)) * 64 + d.val = i.val * 512 + (h.val * 256 + g.val * 64 + d.val)
    omega)).trans ?_
  exact transpose_apply _ _ _ _ _ (fun a => by match a with | ⟨0, _⟩ => rfl | ⟨1, _⟩ => rfl | ⟨2, _⟩ => rfl | ⟨3, _⟩ => rfl)

theorem groups_at (x : FVec Ideal S8x8192x64 .bf16) (f : Fin 4 → ℝ) (h : Fin 2) (j : Fin 8192) (d : Fin 64)
    (hf : ∀ g, x (ix3 (head8 h g) j d) = ((f g : ℝ) : EReal)) :
    groups x (ix2 j (kcol h d)) = ((∑ g, f g : ℝ) : EReal) := by
  unfold groups
  refine (shapeCast_apply _ _ _ (ix3 j h d) (by
    rewrite [Shape.rowMajor_val_two, Shape.rowMajor_val_three]
    show (j.val * 2 + h.val) * 64 + d.val = j.val * 128 + (h.val * 64 + d.val)
    omega)).trans ?_
  rw [transpose_apply _ _ _ _ (ix3 h j d) (fun a => by match a with | ⟨0, _⟩ => rfl | ⟨1, _⟩ => rfl | ⟨2, _⟩ => rfl)]
  have e0 : (constant S_ .f32 0x00000000#32 : FVec Ideal S_ .f32) (Shape.Idx.first h_S_) = (0 : EReal) := by
    show Ideal.ofBits .f32 0x00000000#32 = 0
    simp
  simp only [Host.reduceAdd, Ideal.hostReduceAdd_def]
  refine (Ideal.hostReduceAdd_single reducesTo_S2x4x8192x64_S2x8192x64_d1 (by decide) _ _ (ix3 h j d)).trans ?_
  rw [e0, zero_add]
  refine sum_real _ f fun g => ?_
  exact (shapeCast_apply _ _ _ (ix3 (head8 h g) j d) (by
    rewrite [Shape.rowMajor_val_three, Shape.rowMajor_val_four]
    show ((h.val * 4 + g.val) * 8192 + j.val) * 64 + d.val = ((h.val * 4 + g.val) * 8192 + j.val) * 64 + d.val
    rfl)).trans (hf g)

theorem kcol_cases (z : S8192x128.Idx) : ∃ j h d, z = ix2 j (kcol h d) :=
  ⟨z 0, ⟨(z 1).val / 64, by have : (z 1).val < 128 := (z 1).isLt; omega⟩, ⟨(z 1).val % 64, by omega⟩, funext fun a => by
    match a with
    | ⟨0, _⟩ => rfl
    | ⟨1, _⟩ => exact Fin.ext (by show (z 1).val = (z 1).val / 64 * 64 + (z 1).val % 64; omega)⟩

variable (h0 : Real' (X0 m c)) (h1 : Real' (X1 m c)) (h2 : Real' (X2 m c)) (h3 : Real' (X3 m c))

/-- The attention that the program's arguments are. -/
abbrev attOf : Attn := att (X0 m c) (X3 m c) (X1 m c) (X2 m c)

section
include h0 h1 h2 h3
theorem pG_at (h : Fin 8) (n : Fin 8192) (b : Fin 16) (y : Fin 512) :
    pG m c h n b y = (((attOf m c).P (kvh h) (grp h) (pos b y) n : ℝ) : EReal) := by
  have eS : ∑ d : Fin 64, aK m c (ix3 (kvh h) n d) * aQ m c (ix4 h b d y) = (((attOf m c).S (kvh h) (grp h) (pos b y) n : ℝ) : EReal) :=
    sum_real _ (fun d => (attOf m c).k (kvh h) n d * (attOf m c).q (kvh h) (grp h) (pos b y) d) fun d => by
      rw [aK_at, aQ_at, h1, h0, ← EReal.coe_mul]; rfl
  have eL : aL m c (ix4 h b 0 y) = _ := (congrFun (V_v19 m c) _).trans (hostLse_at (X0 m c) (X3 m c) (X1 m c) (X2 m c) h0 h1 h b y)
  unfold pG
  rw [eS, eL, ← EReal.coe_sub, Ideal.exp_coe, Attn.P_exp]

theorem dG_at (h : Fin 8) (n : Fin 8192) (b : Fin 16) (y : Fin 512) :
    dG m c h n b y = (((attOf m c).W (kvh h) (grp h) (pos b y) n : ℝ) : EReal) := by
  have eG : ∑ d : Fin 64, aV m c (ix3 (kvh h) n d) * aO m c (ix4 h b d y) = (((attOf m c).G (kvh h) (grp h) (pos b y) n : ℝ) : EReal) :=
    sum_real _ (fun d => (attOf m c).v (kvh h) n d * (attOf m c).o (kvh h) (grp h) (pos b y) d) fun d => by
      rw [aV_at, aO_at, h2, h3, ← EReal.coe_mul]; rfl
  have eD : aD m c (ix4 h b 0 y) = _ := (congrFun (V_v24 m c) _).trans (hostD_at (X0 m c) (X3 m c) (X1 m c) (X2 m c) h0 h1 h2 h3 h b y)
  unfold dG
  rw [eG, eD, pG_at m c h0 h1 h2 h3, ← EReal.coe_sub, ← EReal.coe_mul]
  rfl

/-- The queries' gradient. -/
theorem dq_eq : val_main_v61 (F := Ideal) (X0 m c) (X1 m c) (X2 m c) (X3 m c) = rows (dqArr m c) := by
  funext z
  obtain ⟨i, h, g, d, rfl⟩ : ∃ i h g d, z = ix2 i (col h g d) :=
    ⟨z 0, ⟨(z 1).val / 256, by have : (z 1).val < 512 := (z 1).isLt; omega⟩, ⟨(z 1).val / 64 % 4, by omega⟩, ⟨(z 1).val % 64, by omega⟩, funext fun a => by
      match a with
      | ⟨0, _⟩ => rfl
      | ⟨1, _⟩ => exact Fin.ext (by show (z 1).val = (z 1).val / 256 * 256 + (z 1).val / 64 % 4 * 64 + (z 1).val % 64; omega)⟩
  rw [ref_dq _ _ _ _ h0 h1 h2 h3, rows_at]
  refine (sum_real _ (fun j => (attOf m c).W h g i j * (attOf m c).k h j d) fun n => ?_).symm
  show aT m c (ix3 (kvh (head8 h g)) d n) * dG m c (head8 h g) n (chunkOf i) (colOf i) = _
  rw [dG_at m c h0 h1 h2 h3, aT_at, h1, kvh_head8, grp_head8, pos_of, mul_comm, ← EReal.coe_mul]
  rfl

/-- The keys' gradient. -/
theorem dk_eq : val_main_v62 (F := Ideal) (X0 m c) (X1 m c) (X2 m c) (X3 m c) = groups (dkArr m c) := by
  funext z
  obtain ⟨j, h, d, rfl⟩ := kcol_cases z
  rw [ref_dk _ _ _ _ h0 h1 h2 h3, Finset.sum_comm]
  refine (groups_at _ (fun g => ∑ i, (attOf m c).W h g i j * (attOf m c).q h g i d) h j d fun g => ?_).symm
  rw [sum_tiles 16 512 8192 rfl]
  refine sum_real _ (fun b : Fin 16 => ∑ y : Fin 512, (attOf m c).W h g (pos b y) j * (attOf m c).q h g (pos b y) d) fun b => sum_real _ _ fun y => ?_
  show dG m c (head8 h g) j b y * aQ m c (ix4 (head8 h g) b d y) = _
  rw [dG_at m c h0 h1 h2 h3, aQ_at, h0, kvh_head8, grp_head8, ← EReal.coe_mul]
  rfl

/-- The values' gradient. -/
theorem dv_eq : val_main_v63 (F := Ideal) (X0 m c) (X1 m c) (X3 m c) = groups (dvArr m c) := by
  funext z
  obtain ⟨j, h, d, rfl⟩ := kcol_cases z
  rw [ref_dv _ _ _ (X2 m c) h0 h1 h2 h3]
  refine (groups_at _ (fun g => ∑ i, (attOf m c).o h g i d * (attOf m c).P h g i j) h j d fun g => ?_).symm
  rw [sum_tiles 16 512 8192 rfl]
  refine sum_real _ (fun b : Fin 16 => ∑ y : Fin 512, (attOf m c).o h g (pos b y) d * (attOf m c).P h g (pos b y) j) fun b => sum_real _ _ fun y => ?_
  show pG m c (head8 h g) j b y * aO m c (ix4 (head8 h g) b d y) = _
  rw [pG_at m c h0 h1 h2 h3, aO_at, h3, kvh_head8, grp_head8, mul_comm, ← EReal.coe_mul]
  rfl
end

end Cert.AttnBwdIdeal.Val

end

end
-- ==== Proof.AttnBwd.Claims.lean ====
/- The claims about the full attention's backward call: the reference's frame and the equality of the three gradients with
   the reference's over finite arguments. -/
module

public import proofs.«01_k».proof.Defs
public import proofs.«01_k».proof.Proof.Gen.Pre_attn_finite
public import proofs.«01_k».proof.Proof.AttnBwd.Value
public import Idealize.ShloMosaic.Adequacy
public import Idealize.ShloMosaic.Init

@[expose] public section

set_option maxRecDepth 16384

noncomputable section

namespace Cert.Proof.AttnBwd

open Idealize.ShloMosaic Idealize.ShloMosaic.TcCoe Idealize.SL.Sem Cert.AttnBwdIdeal.Val
open Cert.AttnBwdRefIdeal.Val (Real')

theorem frame_ref : Cert.quiescent_AttnBwdRefIdeal := fun m ρ _ =>
  (θ_run Cert.AttnBwdRefIdeal.defs _ _).mono (fun r h => ⟨fun c => (h c).2.2.2,
      sem_eq_zero_of_no_sems (by decide) r.2⟩)
    (Cert.AttnBwdRefIdeal.Value.run (F := Ideal) m ρ)

theorem algebraic : Cert.algebraic_AttnBwdIdeal_AttnBwdRefIdeal_pre_attn_finite := by
  intro m ρ m' ρ' hpre hagree
  have h0 : ∀ c, Real' (X0 m c) := fun c => real_of_finite (X0 m c) _ _ (hpre c).1
  have h1 : ∀ c, Real' (X1 m c) := fun c => real_of_finite (X1 m c) _ _ (hpre c).2.1
  have h2 : ∀ c, Real' (X2 m c) := fun c => real_of_finite (X2 m c) _ _ (hpre c).2.2.1
  have h3 : ∀ c, Real' (X3 m c) := fun c => real_of_finite (X3 m c) _ _ (hpre c).2.2.2
  refine ⟨fun c => rows (dqArr m c), fun c => groups (dkArr m c), fun c => groups (dvArr m c), run_val m ρ, ?_⟩
  refine (θ_run Cert.AttnBwdRefIdeal.defs _ _).mono (fun _ h c => ⟨(h c).1.trans ?_, (h c).2.1.trans ?_, (h c).2.2.1.trans ?_, (h c).2.2.2⟩)
    (Cert.AttnBwdRefIdeal.Value.run (F := Ideal) m' ρ')
  · rw [Cert.AttnBwdRefIdeal.Read.val_main_v61_eq, (hagree c).1, (hagree c).2.1, (hagree c).2.2.1, (hagree c).2.2.2]
    exact dq_eq m c (h0 c) (h1 c) (h2 c) (h3 c)
  · rw [Cert.AttnBwdRefIdeal.Read.val_main_v62_eq, (hagree c).1, (hagree c).2.1, (hagree c).2.2.1, (hagree c).2.2.2]
    exact dk_eq m c (h0 c) (h1 c) (h2 c) (h3 c)
  · rw [Cert.AttnBwdRefIdeal.Read.val_main_v63_eq, (hagree c).1, (hagree c).2.1, (hagree c).2.2.2]
    exact dv_eq m c (h0 c) (h1 c) (h2 c) (h3 c)

end Cert.Proof.AttnBwd

end

end
-- ==== Proof.Merge.Block.lean ====
module

public import proofs.«01_k».proof.Proof.Gen.MergeIdeal.Frame
public import Idealize.ShloMosaic.Lib.MatmulPlain
public import Idealize.ShloMosaic.Lib.Pipeline.Value
public import Idealize.ShloMosaic.Lib.ValueIdx
public import Idealize.ShloMosaic.Lib.ValueLayout
public import Idealize.ShloMosaic.Lib.Tactic
public import Idealize.ShloMosaic.PureOps.Ideal.Laws

/-! What one point of the gates' backward kernel leaves in its output blocks. The gate logits lie in
three groups of 1024 columns, one for each branch. -/

@[expose] public section

set_option maxRecDepth 16384

noncomputable section

namespace Cert.MergeIdeal.Val

open Idealize.ShloMosaic Idealize.ShloMosaic.TcCoe Idealize.ShloMosaic.Tactic Idealize.SL.Sem Cert.MergeIdeal.Gen
open Idealize.ShloMosaic.ValueIdx

theorem hz2 : (![0, 0] : Fin 2 → Nat) = fun _ => 0 := funext fun a => by fin_cases a <;> rfl

/-- Column `c` of group `k`. -/
abbrev col (k : Fin 3) (c : Fin 1024) : Fin 3072 := ⟨1024 * k.val + c.val, by omega⟩

/-- The columns of group `k`. -/
def hcol {n : ℕ} (x : (⟨2, ![n, 3072]⟩ : Shape).Idx → EReal) (k : Fin 3) : (⟨2, ![n, 1024]⟩ : Shape).Idx → EReal :=
  fun y => x (ix2 (y 0) (col k (y 1)))

/-- Where group `k`'s rectangle puts its place (r, c). -/
theorem emb_col {n o : ℕ} (k : Fin 3) (ho : o = 1024 * k.val)
    (inb : ∀ a, (![0, o] : Fin 2 → ℕ) a + (![n, 1024] : Fin 2 → ℕ) a ≤ (⟨2, ![n, 3072]⟩ : Shape).size a) (y : (⟨2, ![n, 1024]⟩ : Shape).Idx) :
    (Rect.unit (s := ⟨2, ![n, 3072]⟩) ![0, o] ![n, 1024] inb).emb y = ix2 (y 0) (col k (y 1)) := by
  subst ho
  funext a; apply Fin.ext
  match a with
  | ⟨0, _⟩ => show 0 + 1 * (y 0).val = (y 0).val; omega
  | ⟨1, _⟩ => show 1024 * k.val + 1 * (y 1).val = 1024 * k.val + (y 1).val; omega

theorem ld_col {n o : ℕ} {e : EltTy} (k : Fin 3) (ho : o = 1024 * k.val) (x : Vec Ideal ⟨2, ![n, 3072]⟩ e)
    (inb : ∀ a, (![0, o] : Fin 2 → ℕ) a + (![n, 1024] : Fin 2 → ℕ) a ≤ (⟨2, ![n, 3072]⟩ : Shape).size a) (y : (⟨2, ![n, 1024]⟩ : Shape).Idx) :
    View.ld x (Rect.unit (s := ⟨2, ![n, 3072]⟩) ![0, o] ![n, 1024] inb) y = x (ix2 (y 0) (col k (y 1))) :=
  congrArg x (emb_col k ho inb y)

theorem hcol0 (x : S256x3072.Idx → EReal) : View.ld (Val := Elt Ideal) (e' := .f32) x (Rect.unit (s := S256x3072) ![0, 0] ![256, 1024] inb_S256x3072_S256x1024_0_0) = hcol x 0 :=
  funext fun y => ld_col (e := .f32) 0 rfl x _ y
theorem hcol1 (x : S256x3072.Idx → EReal) : View.ld (Val := Elt Ideal) (e' := .f32) x (Rect.unit (s := S256x3072) ![0, 1024] ![256, 1024] inb_S256x3072_S256x1024_0_1024) = hcol x 1 :=
  funext fun y => ld_col (e := .f32) 1 rfl x _ y
theorem hcol2 (x : S256x3072.Idx → EReal) : View.ld (Val := Elt Ideal) (e' := .f32) x (Rect.unit (s := S256x3072) ![0, 2048] ![256, 1024] inb_S256x3072_S256x1024_0_2048) = hcol x 2 :=
  funext fun y => ld_col (e := .f32) 2 rfl x _ y
theorem bcol0 (x : S1x3072.Idx → EReal) : View.ld (Val := Elt Ideal) (e' := .f32) x (Rect.unit (s := S1x3072) ![0, 0] ![1, 1024] inb_S1x3072_S1x1024_0_0) = hcol x 0 :=
  funext fun y => ld_col (e := .f32) 0 rfl x _ y
theorem bcol1 (x : S1x3072.Idx → EReal) : View.ld (Val := Elt Ideal) (e' := .f32) x (Rect.unit (s := S1x3072) ![0, 1024] ![1, 1024] inb_S1x3072_S1x1024_0_1024) = hcol x 1 :=
  funext fun y => ld_col (e := .f32) 1 rfl x _ y
theorem bcol2 (x : S1x3072.Idx → EReal) : View.ld (Val := Elt Ideal) (e' := .f32) x (Rect.unit (s := S1x3072) ![0, 2048] ![1, 1024] inb_S1x3072_S1x1024_0_2048) = hcol x 2 :=
  funext fun y => ld_col (e := .f32) 2 rfl x _ y

/-- A group's rectangle does not meet another group. -/
theorem not_mem_col {n : ℕ} (o : ℕ) (inb) (k' k : Fin 3) (ho : o = 1024 * k'.val) (hk : k' ≠ k) (r : Fin n) (c : Fin 1024) :
    ix2 r (col k c) ∉ (Rect.unit (s := ⟨2, ![n, 3072]⟩) ![0, o] ![n, 1024] inb).set := by
  intro hm
  rw [Rect.mem_set_unit] at hm
  obtain ⟨h, h'⟩ := hm 1
  have g : o ≤ 1024 * k.val + c.val := h
  have g' : 1024 * k.val + c.val < o + 1024 := h'
  exact hk (Fin.ext (by omega))

/-- A read of group `k` skips a write to another group, -/
theorem skip_col {n : ℕ} {e : EltTy} (o : ℕ) (inb) (k' k : Fin 3) (ho : o = 1024 * k'.val) (hk : k' ≠ k) (w : (⟨2, ![n, 1024]⟩ : Shape).Idx → Elt Ideal e)
    (L : List (View.Piece (Elt Ideal) ⟨2, ![n, 3072]⟩ e)) (r : Fin n) (c : Fin 1024) :
    View.canon (⟨Rect.unit (s := ⟨2, ![n, 3072]⟩) ![0, o] ![n, 1024] inb, w⟩ :: L) (ix2 r (col k c)) = View.canon L (ix2 r (col k c)) :=
  View.canon_cons_of_not_mem _ _ (not_mem_col o inb k' k ho hk r c)

/-- and finds what was last written to its own. -/
theorem hit_col {n : ℕ} {e : EltTy} (o : ℕ) (inb) (k : Fin 3) (ho : o = 1024 * k.val) (w : (⟨2, ![n, 1024]⟩ : Shape).Idx → Elt Ideal e)
    (L : List (View.Piece (Elt Ideal) ⟨2, ![n, 3072]⟩ e)) (r : Fin n) (c : Fin 1024) :
    View.canon (⟨Rect.unit (s := ⟨2, ![n, 3072]⟩) ![0, o] ![n, 1024] inb, w⟩ :: L) (ix2 r (col k c)) = w (ix2 r c) :=
  (congrArg (View.canon _) (emb_col k ho inb (ix2 r c)).symm).trans (View.canon_cons_emb (Rect.unit (s := ⟨2, ![n, 3072]⟩) ![0, o] ![n, 1024] inb) w L (ix2 r c))

/-- Three pieces, one for each group of columns, read back. -/
theorem canon_cols {n : ℕ} {e : EltTy} (i0 i1 i2) (w0 w1 w2 : (⟨2, ![n, 1024]⟩ : Shape).Idx → Elt Ideal e)
    (L : List (View.Piece (Elt Ideal) ⟨2, ![n, 3072]⟩ e)) (k : Fin 3) (r : Fin n) (c : Fin 1024) :
    View.canon (⟨Rect.unit ![0, 2048] ![n, 1024] i2, w2⟩ :: ⟨Rect.unit ![0, 1024] ![n, 1024] i1, w1⟩ :: ⟨Rect.unit ![0, 0] ![n, 1024] i0, w0⟩ :: L)
      (ix2 r (col k c)) = (![w0, w1, w2] : Fin 3 → _) k (ix2 r c) := by
  obtain rfl | rfl | rfl := (by decide : ∀ k : Fin 3, k = 0 ∨ k = 1 ∨ k = 2) k
  · exact ((skip_col 2048 i2 2 0 rfl (by decide) w2 _ r c).trans (skip_col 1024 i1 1 0 rfl (by decide) w1 _ r c)).trans (hit_col 0 i0 0 rfl w0 L r c)
  · exact (skip_col 2048 i2 2 1 rfl (by decide) w2 _ r c).trans (hit_col 1024 i1 1 rfl w1 _ r c)
  · exact hit_col 2048 i2 2 rfl w2 _ r c

/-- The gradient of the gate logits of one block, by group. -/
def dzs (x0 : Vec Ideal S256x1024 .f32) (x1 : Vec Ideal S256x256 .bf16) (x2 : Vec Ideal S256x512 .bf16) (x3 : Vec Ideal S256x256 .bf16) (x4 : Vec Ideal S256x3072 .f32) (x5 : Vec Ideal S1x3072 .f32) (x6 : Vec Ideal S256x1024 .bf16) (x7 : Vec Ideal S512x1024 .bf16) (x8 : Vec Ideal S256x1024 .bf16)
    (k : Fin 3) : FVec Ideal S256x1024 .f32 :=
  k0_pay2 (F := Ideal) x0 ((![k0_pay21 (F := Ideal) x1 x6, k0_pay14 (F := Ideal) x2 x7, k0_pay21 (F := Ideal) x3 x8] : Fin 3 → FVec Ideal S256x1024 .f32) k)
    (k0_pay6 (F := Ideal) (hcol x4 k) (hcol x5 k))

/-- What a point adds to the running sums. -/
def sums (z : FVec Ideal S256x1024 .f32) (v : S1x1024.Idx → EReal) : S1x1024.Idx → EReal :=
  addf (F := Ideal) (φ := .f32) (shapeCast S1x1024 v shapeCasts_S1x1024_S1x1024)
    (shapeCast S1x1024 (multiReduction (F := Ideal) .add [0] S1024 z 0x00000000#32 reduces_S256x1024_S1024 (.inl rfl) rfl) shapeCasts_S1024_S1x1024)

/-- Zeros written over the whole row, and then groups before group `k`: group `k` reads zero. -/
theorem fill0 (v : View sig .tc .vmem S1x3072 .f32) :
    v.readCov (Val := Elt Ideal) [⟨Rect.unit ![0, 0] S1x3072.size inb_S1x3072_S1x3072_0_0, k0_pay5 (F := Ideal)⟩]
      (Rect.unit (s := S1x3072) ![0, 0] ![1, 1024] inb_S1x3072_S1x1024_0_0).toLoadRect = fun _ => (0 : EReal) := by
  rw [View.readCov_eq_canon', View.canon_unit_zero hz2]
  exact funext fun _ => Ideal.ofBits_zero_f32
theorem fill1 (v : View sig .tc .vmem S1x3072 .f32) (w0 : S1x1024.Idx → Elt Ideal .f32) :
    v.readCov (Val := Elt Ideal) [⟨Rect.unit (s := S1x3072) ![0, 0] ![1, 1024] inb_S1x3072_S1x1024_0_0, w0⟩,
        ⟨Rect.unit ![0, 0] S1x3072.size inb_S1x3072_S1x3072_0_0, k0_pay5 (F := Ideal)⟩]
      (Rect.unit (s := S1x3072) ![0, 1024] ![1, 1024] inb_S1x3072_S1x1024_0_1024).toLoadRect = fun _ => (0 : EReal) := by
  rw [View.readCov_eq_canon']
  funext y
  refine (congrArg (View.canon _) (emb_col (n := 1) 1 rfl inb_S1x3072_S1x1024_0_1024 y)).trans ?_
  refine (skip_col 0 _ 0 1 rfl (by decide) w0 _ (y 0) (y 1)).trans ?_
  rw [View.canon_unit_zero hz2]
  exact Ideal.ofBits_zero_f32
theorem fill2 (v : View sig .tc .vmem S1x3072 .f32) (w0 w1 : S1x1024.Idx → Elt Ideal .f32) :
    v.readCov (Val := Elt Ideal) [⟨Rect.unit (s := S1x3072) ![0, 1024] ![1, 1024] inb_S1x3072_S1x1024_0_1024, w1⟩,
        ⟨Rect.unit (s := S1x3072) ![0, 0] ![1, 1024] inb_S1x3072_S1x1024_0_0, w0⟩,
        ⟨Rect.unit ![0, 0] S1x3072.size inb_S1x3072_S1x3072_0_0, k0_pay5 (F := Ideal)⟩]
      (Rect.unit (s := S1x3072) ![0, 2048] ![1, 1024] inb_S1x3072_S1x1024_0_2048).toLoadRect = fun _ => (0 : EReal) := by
  rw [View.readCov_eq_canon']
  funext y
  refine (congrArg (View.canon _) (emb_col (n := 1) 2 rfl inb_S1x3072_S1x1024_0_2048 y)).trans ?_
  refine ((skip_col 1024 _ 1 2 rfl (by decide) w1 _ (y 0) (y 1)).trans (skip_col 0 _ 0 2 rfl (by decide) w0 _ (y 0) (y 1))).trans ?_
  rw [View.canon_unit_zero hz2]
  exact Ideal.ofBits_zero_f32

variable (dv : Dev nD) (gi : grid0.Coords) (arg1 : Memref sig .tc .vmem S256x1024 .f32) (harg1 : arg1.IsWhole) (arg2 : Memref sig .tc .vmem S256x256 .bf16) (harg2 : arg2.IsWhole) (arg3 : Memref sig .tc .vmem S256x512 .bf16) (harg3 : arg3.IsWhole) (arg4 : Memref sig .tc .vmem S256x256 .bf16) (harg4 : arg4.IsWhole) (arg5 : Memref sig .tc .vmem S256x3072 .f32) (harg5 : arg5.IsWhole) (arg6 : Memref sig .tc .vmem S1x3072 .f32) (harg6 : arg6.IsWhole) (arg7 : Memref sig .tc .vmem S256x1024 .bf16) (harg7 : arg7.IsWhole) (arg8 : Memref sig .tc .vmem S512x1024 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x512 .bf16) (harg14 : arg14.IsWhole) (arg15 : Memref sig .tc .vmem S256x256 .bf16) (harg15 : arg15.IsWhole) (arg16 : Memref sig .tc .vmem S256x3072 .bf16) (harg16 : arg16.IsWhole) (arg17 : Memref sig .tc .vmem S1x3072 .f32) (harg17 : arg17.IsWhole)
variable (x0 : Vec Ideal S256x1024 .f32) (x1 : Vec Ideal S256x256 .bf16) (x2 : Vec Ideal S256x512 .bf16) (x3 : Vec Ideal S256x256 .bf16) (x4 : Vec Ideal S256x3072 .f32) (x5 : Vec Ideal S1x3072 .f32) (x6 : Vec Ideal S256x1024 .bf16) (x7 : Vec Ideal S512x1024 .bf16) (x8 : Vec Ideal S256x1024 .bf16) (s : Vec Ideal S1x3072 .f32)

/-- The first point's blocks of the gradients of the branches' and of the mixers' outputs. -/
theorem rows_A (hc) : out0_A_9 (F := Ideal) dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 = k0_pay7 (F := Ideal) x0 (hcol x4 0) (hcol x5 0) ∧
      out0_A_10 (F := Ideal) dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 = k0_pay7 (F := Ideal) x0 (hcol x4 1) (hcol x5 1) ∧
      out0_A_11 (F := Ideal) dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 = k0_pay7 (F := Ideal) x0 (hcol x4 2) (hcol x5 2) ∧
      out0_A_12 (F := Ideal) dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 = k0_pay8 (F := Ideal) x0 (hcol x4 0) (hcol x5 0) x6 ∧
      out0_A_13 (F := Ideal) dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 = k0_pay17 (F := Ideal) x0 (hcol x4 1) (hcol x5 1) x7 ∧
      out0_A_14 (F := Ideal) dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 = k0_pay8 (F := Ideal) x0 (hcol x4 2) (hcol x5 2) x8 := by
  refine ⟨(View.read_writes_eq_canon _ _ _ (cover0_A_9 dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8)).trans ?_,
    (View.read_writes_eq_canon _ _ _ (cover0_A_10 dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8)).trans ?_,
    (View.read_writes_eq_canon _ _ _ (cover0_A_11 dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8)).trans ?_,
    (View.read_writes_eq_canon _ _ _ (cover0_A_12 dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8)).trans ?_,
    (View.read_writes_eq_canon _ _ _ (cover0_A_13 dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8)).trans ?_,
    (View.read_writes_eq_canon _ _ _ (cover0_A_14 dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8)).trans ?_⟩ <;>
  · unfold kernelRun0_A
    dsimp only
    sl_unfold_words
    rw [View.canon_unit_zero hz2]
    simp only [View.readAt_eq_ld, harg1.read_unread, harg2.read_unread, harg3.read_unread, harg4.read_unread, harg5.read_unread, harg6.read_unread,
      harg7.read_unread, harg8.read_unread, harg9.read_unread, harg17.read_unread, View.ld_unit_zero (S := S256x1024) hz2, View.ld_unit_zero (S := S512x1024) hz2,
      View.ld_unit_zero (S := S256x256) hz2, View.ld_unit_zero (S := S256x512) hz2, hcol0, hcol1, hcol2, bcol0, bcol1, bcol2]
    try rfl

/-- The gradient of the gate logits, by group. -/
theorem logits_A (hc) (k : Fin 3) (r : Fin 256) (c : Fin 1024) :
    out0_A_15 (F := Ideal) dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 (ix2 r (col k c)) = dzs x0 x1 x2 x3 x4 x5 x6 x7 x8 k (ix2 r c) := by
  refine (congrFun (View.read_writes_eq_canon _ _ _ (cover0_A_15 dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8)) _).trans ?_
  · unfold kernelRun0_A
    dsimp only
    sl_unfold_words
    refine (canon_cols _ _ _ _ _ _ _ k r c).trans ?_
    simp only [View.readAt_eq_ld, harg1.read_unread, harg2.read_unread, harg3.read_unread, harg4.read_unread, harg5.read_unread, harg6.read_unread,
      harg7.read_unread, harg8.read_unread, harg9.read_unread, harg17.read_unread, View.ld_unit_zero (S := S256x1024) hz2, View.ld_unit_zero (S := S512x1024) hz2,
      View.ld_unit_zero (S := S256x256) hz2, View.ld_unit_zero (S := S256x512) hz2, hcol0, hcol1, hcol2, bcol0, bcol1, bcol2]
    obtain rfl | rfl | rfl := (by decide : ∀ k : Fin 3, k = 0 ∨ k = 1 ∨ k = 2) k <;> rfl

/-- The first point's sums of the gradient of the gate logits over its rows, over the zeros it stores first. -/
theorem bias_A (hc) (k : Fin 3) (u : Fin 1) (c : Fin 1024) :
    out0_A_16 (F := Ideal) dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 (ix2 u (col k c)) = sums (dzs x0 x1 x2 x3 x4 x5 x6 x7 x8 k) (fun _ => (0 : EReal)) (ix2 u c) := by
  refine (congrFun (View.read_writes_eq_canon _ _ _ (cover0_A_16 dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8)) _).trans ?_
  · unfold kernelRun0_A
    dsimp only
    sl_unfold_words
    refine (canon_cols _ _ _ _ _ _ _ k u c).trans ?_
    simp only [View.readAt_eq_ld, harg1.read_unread, harg2.read_unread, harg3.read_unread, harg4.read_unread, harg5.read_unread, harg6.read_unread,
      harg7.read_unread, harg8.read_unread, harg9.read_unread, harg17.read_unread, View.ld_unit_zero (S := S256x1024) hz2, View.ld_unit_zero (S := S512x1024) hz2,
      View.ld_unit_zero (S := S256x256) hz2, View.ld_unit_zero (S := S256x512) hz2, hcol0, hcol1, hcol2, bcol0, bcol1, bcol2]
    obtain rfl | rfl | rfl := (by decide : ∀ k : Fin 3, k = 0 ∨ k = 1 ∨ k = 2) k
    · exact (congrArg (fun v => k0_pay13 (F := Ideal) (k0_pay9 x0 x1 x6) (k0_pay10 (hcol x4 0) (hcol x5 0)) v (ix2 u c)) (fill0 arg17.view)).trans rfl
    · exact (congrArg (fun v => k0_pay20 (F := Ideal) x0 (k0_pay14 x2 x7) (k0_pay15 (hcol x4 1) (hcol x5 1)) v (ix2 u c)) (fill1 arg17.view _)).trans rfl
    · exact (congrArg (fun v => k0_pay4 (F := Ideal) x0 (k0_pay21 x3 x8) (k0_pay22 (hcol x4 2) (hcol x5 2)) v (ix2 u c)) (fill2 arg17.view _ _)).trans rfl

/-- A later point's blocks of the gradients of the branches' and of the mixers' outputs. -/
theorem rows_B (hc) : out0_B_9 (F := Ideal) dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 s = k0_pay7 (F := Ideal) x0 (hcol x4 0) (hcol x5 0) ∧
      out0_B_10 (F := Ideal) dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 s = k0_pay7 (F := Ideal) x0 (hcol x4 1) (hcol x5 1) ∧
      out0_B_11 (F := Ideal) dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 s = k0_pay7 (F := Ideal) x0 (hcol x4 2) (hcol x5 2) ∧
      out0_B_12 (F := Ideal) dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 s = k0_pay8 (F := Ideal) x0 (hcol x4 0) (hcol x5 0) x6 ∧
      out0_B_13 (F := Ideal) dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 s = k0_pay17 (F := Ideal) x0 (hcol x4 1) (hcol x5 1) x7 ∧
      out0_B_14 (F := Ideal) dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 s = k0_pay8 (F := Ideal) x0 (hcol x4 2) (hcol x5 2) x8 := by
  refine ⟨(View.read_writes_eq_canon _ _ _ (cover0_B_9 dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 s)).trans ?_,
    (View.read_writes_eq_canon _ _ _ (cover0_B_10 dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 s)).trans ?_,
    (View.read_writes_eq_canon _ _ _ (cover0_B_11 dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 s)).trans ?_,
    (View.read_writes_eq_canon _ _ _ (cover0_B_12 dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 s)).trans ?_,
    (View.read_writes_eq_canon _ _ _ (cover0_B_13 dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 s)).trans ?_,
    (View.read_writes_eq_canon _ _ _ (cover0_B_14 dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 s)).trans ?_⟩ <;>
  · unfold kernelRun0_B
    dsimp only
    sl_unfold_words
    rw [View.canon_unit_zero hz2]
    simp only [View.readAt_eq_ld, harg1.read_unread, harg2.read_unread, harg3.read_unread, harg4.read_unread, harg5.read_unread, harg6.read_unread,
      harg7.read_unread, harg8.read_unread, harg9.read_unread, harg17.read_unread, View.ld_unit_zero (S := S256x1024) hz2, View.ld_unit_zero (S := S512x1024) hz2,
      View.ld_unit_zero (S := S256x256) hz2, View.ld_unit_zero (S := S256x512) hz2, hcol0, hcol1, hcol2, bcol0, bcol1, bcol2]
    try rfl

/-- The gradient of the gate logits, by group. -/
theorem logits_B (hc) (k : Fin 3) (r : Fin 256) (c : Fin 1024) :
    out0_B_15 (F := Ideal) dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 s (ix2 r (col k c)) = dzs x0 x1 x2 x3 x4 x5 x6 x7 x8 k (ix2 r c) := by
  refine (congrFun (View.read_writes_eq_canon _ _ _ (cover0_B_15 dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 s)) _).trans ?_
  · unfold kernelRun0_B
    dsimp only
    sl_unfold_words
    refine (canon_cols _ _ _ _ _ _ _ k r c).trans ?_
    simp only [View.readAt_eq_ld, harg1.read_unread, harg2.read_unread, harg3.read_unread, harg4.read_unread, harg5.read_unread, harg6.read_unread,
      harg7.read_unread, harg8.read_unread, harg9.read_unread, harg17.read_unread, View.ld_unit_zero (S := S256x1024) hz2, View.ld_unit_zero (S := S512x1024) hz2,
      View.ld_unit_zero (S := S256x256) hz2, View.ld_unit_zero (S := S256x512) hz2, hcol0, hcol1, hcol2, bcol0, bcol1, bcol2]
    obtain rfl | rfl | rfl := (by decide : ∀ k : Fin 3, k = 0 ∨ k = 1 ∨ k = 2) k <;> rfl

/-- A later point's, over those the point before left. -/
theorem bias_B (hc) (k : Fin 3) (u : Fin 1) (c : Fin 1024) :
    out0_B_16 (F := Ideal) dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 s (ix2 u (col k c)) = sums (dzs x0 x1 x2 x3 x4 x5 x6 x7 x8 k) (hcol s k) (ix2 u c) := by
  refine (congrFun (View.read_writes_eq_canon _ _ _ (cover0_B_16 dv gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 s)) _).trans ?_
  · unfold kernelRun0_B
    dsimp only
    sl_unfold_words
    refine (canon_cols _ _ _ _ _ _ _ k u c).trans ?_
    simp only [View.readAt_eq_ld, harg1.read_unread, harg2.read_unread, harg3.read_unread, harg4.read_unread, harg5.read_unread, harg6.read_unread,
      harg7.read_unread, harg8.read_unread, harg9.read_unread, harg17.read_unread, View.ld_unit_zero (S := S256x1024) hz2, View.ld_unit_zero (S := S512x1024) hz2,
      View.ld_unit_zero (S := S256x256) hz2, View.ld_unit_zero (S := S256x512) hz2, hcol0, hcol1, hcol2, bcol0, bcol1, bcol2]
    obtain rfl | rfl | rfl := (by decide : ∀ k : Fin 3, k = 0 ∨ k = 1 ∨ k = 2) k <;> rfl

end Cert.MergeIdeal.Val

end
-- ==== Proof.Merge.Arrays.lean ====
module

public import proofs.«01_k».proof.Proof.Merge.Block
public import proofs.«01_k».proof.Proof.Sums
public import proofs.«01_k».proof.Proof.Index

/-! The gates' backward kernel over its whole grid of 32 blocks of 256 rows: its eight arrays as
functions of the arrays that it reads. -/

@[expose] public section

set_option maxRecDepth 16384

noncomputable section

namespace Cert.MergeIdeal.Val

open Idealize.ShloMosaic Idealize.ShloMosaic.TcCoe Idealize.ShloMosaic.Tactic Idealize.SL.Sem Cert.MergeIdeal.Gen Cert.MergeIdeal.Facts
open Idealize.ShloMosaic.ValueIdx Cert.Proof
open Idealize.ShloMosaic.Pipeline (Dat)

/-- An index of two axes from its two places. -/
theorem ix2_ext {N W : ℕ} {v : (⟨2, ![N, W]⟩ : Shape).Idx} {R : Fin N} {C : Fin W} (h0 : (v 0).val = R.val) (h1 : (v 1).val = C.val) : v = ix2 R C := by
  funext a; apply Fin.ext
  match a with
  | ⟨0, _⟩ => exact h0
  | ⟨1, _⟩ => exact h1

/-! ### The block's values, element by element -/

/-- The gate of a logit and a bias. -/
def gate (h b : EReal) : EReal :=
  Ideal.div (Ideal.ofBits .f32 0x3F800000#32) (Ideal.ofBits .f32 0x3F800000#32 + Ideal.exp (Ideal.ofBits .f32 0x00000000#32 - (h + b)))

theorem gate_apply (h : S256x1024.Idx → EReal) (b : S1x1024.Idx → EReal) (r : Fin 256) (j : Fin 1024) :
    k0_pay6 (F := Ideal) h b (ix2 r j) = gate (h (ix2 r j)) (b (ix2 0 j)) := by
  have e : broadcastTo S256x1024 b broadcasts_S1x1024_S256x1024 (ix2 r j) = b (ix2 0 j) :=
    broadcastTo_apply _ broadcasts_S1x1024_S256x1024 (ix2 r j) (ix2 0 j) (fun a => by match a with | ⟨0, _⟩ => rfl | ⟨1, _⟩ => rfl)
  unfold k0_pay6 gate
  rw [← e]
  rfl

theorem dy_apply (x : S256x1024.Idx → EReal) (h : S256x1024.Idx → EReal) (b : S1x1024.Idx → EReal) (r : Fin 256) (j : Fin 1024) :
    k0_pay7 (F := Ideal) x h b (ix2 r j) = x (ix2 r j) * gate (h (ix2 r j)) (b (ix2 0 j)) := by
  rw [← gate_apply]; rfl

theorem do_apply (x : S256x1024.Idx → EReal) (h : S256x1024.Idx → EReal) (b : S1x1024.Idx → EReal) (w : S256x1024.Idx → EReal) (r k : Fin 256) :
    k0_pay8 (F := Ideal) x h b w (ix2 r k) = ∑ j : Fin 1024, (x (ix2 r j) * gate (h (ix2 r j)) (b (ix2 0 j))) * w (ix2 k j) := by
  unfold k0_pay8
  rw [shapeCast_self]
  refine (Ideal.matmul_transposedRhs_apply (φ₂ := .bf16) none _ _ _ r k).trans ?_
  show (Ideal.ofBits .f32 0x00000000#32 : EReal) + _ = _
  rw [Ideal.ofBits_zero_f32, zero_add]
  exact Finset.sum_congr rfl fun j _ => congrArg (· * w (ix2 k j)) (dy_apply x h b r j)

theorem do_apply_b (x : S256x1024.Idx → EReal) (h : S256x1024.Idx → EReal) (b : S1x1024.Idx → EReal) (w : S512x1024.Idx → EReal) (r : Fin 256) (k : Fin 512) :
    k0_pay17 (F := Ideal) x h b w (ix2 r k) = ∑ j : Fin 1024, (x (ix2 r j) * gate (h (ix2 r j)) (b (ix2 0 j))) * w (ix2 k j) := by
  unfold k0_pay17
  rw [shapeCast_self]
  refine (Ideal.matmul_transposedRhs_apply (φ₂ := .bf16) none _ _ _ r k).trans ?_
  show (Ideal.ofBits .f32 0x00000000#32 : EReal) + _ = _
  rw [Ideal.ofBits_zero_f32, zero_add]
  exact Finset.sum_congr rfl fun j _ => congrArg (· * w (ix2 k j)) (dy_apply x h b r j)

theorem y_apply (o : S256x256.Idx → EReal) (w : S256x1024.Idx → EReal) (r : Fin 256) (j : Fin 1024) :
    k0_pay21 (F := Ideal) o w (ix2 r j) = ∑ k : Fin 256, o (ix2 r k) * w (ix2 k j) := by
  unfold k0_pay21
  rw [shapeCast_self, shapeCast_self]
  refine (Ideal.matmul_plain_apply none _ _ _ r j).trans ?_
  show (Ideal.ofBits .f32 0x00000000#32 : EReal) + _ = _
  rw [Ideal.ofBits_zero_f32, zero_add]

theorem y_apply_b (o : S256x512.Idx → EReal) (w : S512x1024.Idx → EReal) (r : Fin 256) (j : Fin 1024) :
    k0_pay14 (F := Ideal) o w (ix2 r j) = ∑ k : Fin 512, o (ix2 r k) * w (ix2 k j) := by
  unfold k0_pay14
  rw [shapeCast_self, shapeCast_self]
  refine (Ideal.matmul_plain_apply none _ _ _ r j).trans ?_
  show (Ideal.ofBits .f32 0x00000000#32 : EReal) + _ = _
  rw [Ideal.ofBits_zero_f32, zero_add]

theorem dz_apply (x y g : S256x1024.Idx → EReal) (i : S256x1024.Idx) :
    k0_pay2 (F := Ideal) x y g i = x i * y i * (g i * (Ideal.ofBits .f32 0x3F800000#32 - g i)) := rfl

theorem sums_apply (z : S256x1024.Idx → EReal) (v : S1x1024.Idx → EReal) (u : Fin 1) (k : Fin 1024) :
    sums z v (ix2 u k) = v (ix2 u k) + ∑ r : Fin 256, z (ix2 r k) := by
  unfold sums
  rw [shapeCast_self]
  show v (ix2 u k) + shapeCast S1x1024 _ shapeCasts_S1024_S1x1024 (ix2 u k) = _
  rw [ValueIdx.shapeCast_a_1a_apply]
  refine congrArg (v (ix2 u k) + ·) ((Ideal.multiReduction_add_single _ _ _ _ _ _).trans (Finset.sum_congr rfl fun r _ => ?_))
  exact congrArg z (ix2_ext rfl rfl)

variable (m : (ℓ : Loc nD τ sig) → Buf (Elt Ideal) ℓ) (ρ : Dev nD → PrngReg)

/-- The arrays that the kernel reads: the cotangent of the merged output, the mixers' outputs, the gate logits, their bias, the three weights. -/
def aM (c : Dev nD) : S8192x1024.Idx → EReal := V m c (Pipeline.arrRef spec0 0)
def aA (c : Dev nD) : S8192x256.Idx → EReal := V m c (Pipeline.arrRef spec0 1)
def aB (c : Dev nD) : S8192x512.Idx → EReal := V m c (Pipeline.arrRef spec0 2)
def aC (c : Dev nD) : S8192x256.Idx → EReal := V m c (Pipeline.arrRef spec0 3)
def aH (c : Dev nD) : S8192x3072.Idx → EReal := V m c (Pipeline.arrRef spec0 4)
def aG (c : Dev nD) : S1x3072.Idx → EReal := V m c (Pipeline.arrRef spec0 5)
def aP (c : Dev nD) : S256x1024.Idx → EReal := V m c (Pipeline.arrRef spec0 6)
def aQ (c : Dev nD) : S512x1024.Idx → EReal := V m c (Pipeline.arrRef spec0 7)
def aR (c : Dev nD) : S256x1024.Idx → EReal := V m c (Pipeline.arrRef spec0 8)

/-- The gate at a place. -/
def gt (c : Dev nD) (r : Fin 8192) (j : Fin 3072) : EReal := gate (aH m c (ix2 r j)) (aG m c (ix2 0 j))
/-- The branches' outputs. -/
def ya (c : Dev nD) (r : Fin 8192) (j : Fin 1024) : EReal := ∑ i : Fin 256, aA m c (ix2 r i) * aP m c (ix2 i j)
def yb (c : Dev nD) (r : Fin 8192) (j : Fin 1024) : EReal := ∑ i : Fin 512, aB m c (ix2 r i) * aQ m c (ix2 i j)
def yc (c : Dev nD) (r : Fin 8192) (j : Fin 1024) : EReal := ∑ i : Fin 256, aC m c (ix2 r i) * aR m c (ix2 i j)
def yy (c : Dev nD) (k : Fin 3) (r : Fin 8192) (j : Fin 1024) : EReal := (![ya m c r j, yb m c r j, yc m c r j] : Fin 3 → EReal) k

/-- One of three functions at a place is that one of the three values. -/
theorem pick_apply {α β : Type} (f g h : α → β) (k : Fin 3) (i : α) : (![f, g, h] : Fin 3 → α → β) k i = (![f i, g i, h i] : Fin 3 → β) k := by
  obtain rfl | rfl | rfl := (by decide : ∀ k : Fin 3, k = 0 ∨ k = 1 ∨ k = 2) k <;> rfl

/-- Their gradients. -/
def dyy (c : Dev nD) (k : Fin 3) (r : Fin 8192) (j : Fin 1024) : EReal := aM m c (ix2 r j) * gt m c r (col k j)
/-- The gradient of the gate logits. -/
def dzz (c : Dev nD) (k : Fin 3) (r : Fin 8192) (j : Fin 1024) : EReal :=
  aM m c (ix2 r j) * yy m c k r j * (gt m c r (col k j) * (Ideal.ofBits .f32 0x3F800000#32 - gt m c r (col k j)))

/-- The row of the array that row `r` of block `n` is. -/
abbrev row (n : ℕ) (hn : n < cfg0.N) (r : Fin 256) : Fin 8192 := ⟨256 * n + r.val, by rw [show cfg0.N = 32 from N_0] at hn; omega⟩

theorem ix_0 : ∀ t : Fin cfg0.N, At (win0_0.index t) t.val 0 := (by decide +kernel : ∀ t : Fin grid0.N, _)
theorem ix_1 : ∀ t : Fin cfg0.N, At (win0_1.index t) t.val 0 := (by decide +kernel : ∀ t : Fin grid0.N, _)
theorem ix_2 : ∀ t : Fin cfg0.N, At (win0_2.index t) t.val 0 := (by decide +kernel : ∀ t : Fin grid0.N, _)
theorem ix_3 : ∀ t : Fin cfg0.N, At (win0_3.index t) t.val 0 := (by decide +kernel : ∀ t : Fin grid0.N, _)
theorem ix_4 : ∀ t : Fin cfg0.N, At (win0_4.index t) t.val 0 := (by decide +kernel : ∀ t : Fin grid0.N, _)
theorem ix_5 : ∀ t : Fin cfg0.N, At (win0_5.index t) 0 0 := (by decide +kernel : ∀ t : Fin grid0.N, _)
theorem ix_6 : ∀ t : Fin cfg0.N, At (win0_6.index t) 0 0 := (by decide +kernel : ∀ t : Fin grid0.N, _)
theorem ix_7 : ∀ t : Fin cfg0.N, At (win0_7.index t) 0 0 := (by decide +kernel : ∀ t : Fin grid0.N, _)
theorem ix_8 : ∀ t : Fin cfg0.N, At (win0_8.index t) 0 0 := (by decide +kernel : ∀ t : Fin grid0.N, _)
theorem ix_9 : ∀ t : Fin cfg0.N, At (win0_9.index t) t.val 0 := (by decide +kernel : ∀ t : Fin grid0.N, _)
theorem ix_10 : ∀ t : Fin cfg0.N, At (win0_10.index t) t.val 0 := (by decide +kernel : ∀ t : Fin grid0.N, _)
theorem ix_11 : ∀ t : Fin cfg0.N, At (win0_11.index t) t.val 0 := (by decide +kernel : ∀ t : Fin grid0.N, _)
theorem ix_12 : ∀ t : Fin cfg0.N, At (win0_12.index t) t.val 0 := (by decide +kernel : ∀ t : Fin grid0.N, _)
theorem ix_13 : ∀ t : Fin cfg0.N, At (win0_13.index t) t.val 0 := (by decide +kernel : ∀ t : Fin grid0.N, _)
theorem ix_14 : ∀ t : Fin cfg0.N, At (win0_14.index t) t.val 0 := (by decide +kernel : ∀ t : Fin grid0.N, _)
theorem ix_15 : ∀ t : Fin cfg0.N, At (win0_15.index t) t.val 0 := (by decide +kernel : ∀ t : Fin grid0.N, _)
theorem ix_16 : ∀ t : Fin cfg0.N, At (win0_16.index t) 0 0 := (by decide +kernel : ∀ t : Fin grid0.N, _)

theorem emb_0 (n : ℕ) (hn : n < cfg0.N) (r : Fin 256) (k : Fin 1024) : ((cfg0.win 0).blk ⟨n, hn⟩).view.emb (ix2 r k) = ix2 (row n hn r) k :=
  ix2_rows (ix_0 ⟨n, hn⟩) rfl rfl rfl
theorem emb_1 (n : ℕ) (hn : n < cfg0.N) (r : Fin 256) (k : Fin 256) : ((cfg0.win 1).blk ⟨n, hn⟩).view.emb (ix2 r k) = ix2 (row n hn r) k :=
  ix2_rows (ix_1 ⟨n, hn⟩) rfl rfl rfl
theorem emb_2 (n : ℕ) (hn : n < cfg0.N) (r : Fin 256) (k : Fin 512) : ((cfg0.win 2).blk ⟨n, hn⟩).view.emb (ix2 r k) = ix2 (row n hn r) k :=
  ix2_rows (ix_2 ⟨n, hn⟩) rfl rfl rfl
theorem emb_3 (n : ℕ) (hn : n < cfg0.N) (r : Fin 256) (k : Fin 256) : ((cfg0.win 3).blk ⟨n, hn⟩).view.emb (ix2 r k) = ix2 (row n hn r) k :=
  ix2_rows (ix_3 ⟨n, hn⟩) rfl rfl rfl
theorem emb_4 (n : ℕ) (hn : n < cfg0.N) (r : Fin 256) (k : Fin 3072) : ((cfg0.win 4).blk ⟨n, hn⟩).view.emb (ix2 r k) = ix2 (row n hn r) k :=
  ix2_rows (ix_4 ⟨n, hn⟩) rfl rfl rfl
theorem emb_5 (t : Fin cfg0.N) (r : Fin 1) (k : Fin 3072) : ((cfg0.win 5).blk t).view.emb (ix2 r k) = ix2 r k :=
  ix2_all (ix_5 t) rfl rfl
theorem emb_6 (t : Fin cfg0.N) (r : Fin 256) (k : Fin 1024) : ((cfg0.win 6).blk t).view.emb (ix2 r k) = ix2 r k :=
  ix2_all (ix_6 t) rfl rfl
theorem emb_7 (t : Fin cfg0.N) (r : Fin 512) (k : Fin 1024) : ((cfg0.win 7).blk t).view.emb (ix2 r k) = ix2 r k :=
  ix2_all (ix_7 t) rfl rfl
theorem emb_8 (t : Fin cfg0.N) (r : Fin 256) (k : Fin 1024) : ((cfg0.win 8).blk t).view.emb (ix2 r k) = ix2 r k :=
  ix2_all (ix_8 t) rfl rfl
theorem emb_9 (n : ℕ) (hn : n < cfg0.N) (r : Fin 256) (k : Fin 1024) : ((cfg0.win 9).blk ⟨n, hn⟩).view.emb (ix2 r k) = ix2 (row n hn r) k :=
  ix2_rows (ix_9 ⟨n, hn⟩) rfl rfl rfl
theorem emb_10 (n : ℕ) (hn : n < cfg0.N) (r : Fin 256) (k : Fin 1024) : ((cfg0.win 10).blk ⟨n, hn⟩).view.emb (ix2 r k) = ix2 (row n hn r) k :=
  ix2_rows (ix_10 ⟨n, hn⟩) rfl rfl rfl
theorem emb_11 (n : ℕ) (hn : n < cfg0.N) (r : Fin 256) (k : Fin 1024) : ((cfg0.win 11).blk ⟨n, hn⟩).view.emb (ix2 r k) = ix2 (row n hn r) k :=
  ix2_rows (ix_11 ⟨n, hn⟩) rfl rfl rfl
theorem emb_12 (n : ℕ) (hn : n < cfg0.N) (r : Fin 256) (k : Fin 256) : ((cfg0.win 12).blk ⟨n, hn⟩).view.emb (ix2 r k) = ix2 (row n hn r) k :=
  ix2_rows (ix_12 ⟨n, hn⟩) rfl rfl rfl
theorem emb_13 (n : ℕ) (hn : n < cfg0.N) (r : Fin 256) (k : Fin 512) : ((cfg0.win 13).blk ⟨n, hn⟩).view.emb (ix2 r k) = ix2 (row n hn r) k :=
  ix2_rows (ix_13 ⟨n, hn⟩) rfl rfl rfl
theorem emb_14 (n : ℕ) (hn : n < cfg0.N) (r : Fin 256) (k : Fin 256) : ((cfg0.win 14).blk ⟨n, hn⟩).view.emb (ix2 r k) = ix2 (row n hn r) k :=
  ix2_rows (ix_14 ⟨n, hn⟩) rfl rfl rfl
theorem emb_15 (n : ℕ) (hn : n < cfg0.N) (r : Fin 256) (k : Fin 3072) : ((cfg0.win 15).blk ⟨n, hn⟩).view.emb (ix2 r k) = ix2 (row n hn r) k :=
  ix2_rows (ix_15 ⟨n, hn⟩) rfl rfl rfl
theorem emb_16 (t : Fin cfg0.N) (r : Fin 1) (k : Fin 3072) : ((cfg0.win 16).blk t).view.emb (ix2 r k) = ix2 r k :=
  ix2_all (ix_16 t) rfl rfl

theorem ib_0 (c : Dev nD) (n : ℕ) (hn : n < cfg0.N) (r : Fin 256) (k : Fin 1024) : iblk m c 0 ⟨n, hn⟩ (ix2 r k) = aM m c (ix2 (row n hn r) k) :=
  congrArg (aM m c) (emb_0 n hn r k)
theorem ib_1 (c : Dev nD) (n : ℕ) (hn : n < cfg0.N) (r : Fin 256) (k : Fin 256) : iblk m c 1 ⟨n, hn⟩ (ix2 r k) = aA m c (ix2 (row n hn r) k) :=
  congrArg (aA m c) (emb_1 n hn r k)
theorem ib_2 (c : Dev nD) (n : ℕ) (hn : n < cfg0.N) (r : Fin 256) (k : Fin 512) : iblk m c 2 ⟨n, hn⟩ (ix2 r k) = aB m c (ix2 (row n hn r) k) :=
  congrArg (aB m c) (emb_2 n hn r k)
theorem ib_3 (c : Dev nD) (n : ℕ) (hn : n < cfg0.N) (r : Fin 256) (k : Fin 256) : iblk m c 3 ⟨n, hn⟩ (ix2 r k) = aC m c (ix2 (row n hn r) k) :=
  congrArg (aC m c) (emb_3 n hn r k)
theorem ib_4 (c : Dev nD) (n : ℕ) (hn : n < cfg0.N) (r : Fin 256) (k : Fin 3072) : iblk m c 4 ⟨n, hn⟩ (ix2 r k) = aH m c (ix2 (row n hn r) k) :=
  congrArg (aH m c) (emb_4 n hn r k)
theorem ib_5 (c : Dev nD) (t : Fin cfg0.N) (r : Fin 1) (k : Fin 3072) : iblk m c 5 t (ix2 r k) = aG m c (ix2 r k) :=
  congrArg (aG m c) (emb_5 t r k)
theorem ib_6 (c : Dev nD) (t : Fin cfg0.N) (r : Fin 256) (k : Fin 1024) : iblk m c 6 t (ix2 r k) = aP m c (ix2 r k) :=
  congrArg (aP m c) (emb_6 t r k)
theorem ib_7 (c : Dev nD) (t : Fin cfg0.N) (r : Fin 512) (k : Fin 1024) : iblk m c 7 t (ix2 r k) = aQ m c (ix2 r k) :=
  congrArg (aQ m c) (emb_7 t r k)
theorem ib_8 (c : Dev nD) (t : Fin cfg0.N) (r : Fin 256) (k : Fin 1024) : iblk m c 8 t (ix2 r k) = aR m c (ix2 r k) :=
  congrArg (aR m c) (emb_8 t r k)

/-- The gradient of the gate logits over a point's block. -/
abbrev dzB (c : Dev nD) (t : Fin cfg0.N) (k : Fin 3) : S256x1024.Idx → EReal := dzs (iblk m c 0 t) (iblk m c 1 t) (iblk m c 2 t) (iblk m c 3 t) (iblk m c 4 t) (iblk m c 5 t) (iblk m c 6 t) (iblk m c 7 t) (iblk m c 8 t) k

theorem gate_blk (c : Dev nD) (n : ℕ) (hn : n < cfg0.N) (k : Fin 3) (r : Fin 256) (j : Fin 1024) :
    gate (hcol (iblk m c 4 ⟨n, hn⟩) k (ix2 r j)) (hcol (iblk m c 5 ⟨n, hn⟩) k (ix2 0 j)) = gt m c (row n hn r) (col k j) := by
  show gate (iblk m c 4 ⟨n, hn⟩ (ix2 r (col k j))) (iblk m c 5 ⟨n, hn⟩ (ix2 0 (col k j))) = _
  rw [ib_4, ib_5]
  rfl

theorem dz_blk (c : Dev nD) (n : ℕ) (hn : n < cfg0.N) (k : Fin 3) (r : Fin 256) (j : Fin 1024) :
    dzB m c ⟨n, hn⟩ k (ix2 r j) = dzz m c k (row n hn r) j := by
  have hy : (![k0_pay21 (F := Ideal) (iblk m c 1 ⟨n, hn⟩) (iblk m c 6 ⟨n, hn⟩), k0_pay14 (F := Ideal) (iblk m c 2 ⟨n, hn⟩) (iblk m c 7 ⟨n, hn⟩),
      k0_pay21 (F := Ideal) (iblk m c 3 ⟨n, hn⟩) (iblk m c 8 ⟨n, hn⟩)] : Fin 3 → FVec Ideal S256x1024 .f32) k (ix2 r j) = yy m c k (row n hn r) j := by
    have e0 : k0_pay21 (F := Ideal) (iblk m c 1 ⟨n, hn⟩) (iblk m c 6 ⟨n, hn⟩) (ix2 r j) = ya m c (row n hn r) j := by
      rw [y_apply]; unfold ya; simp only [ib_1, ib_6]
    have e1 : k0_pay14 (F := Ideal) (iblk m c 2 ⟨n, hn⟩) (iblk m c 7 ⟨n, hn⟩) (ix2 r j) = yb m c (row n hn r) j := by
      rw [y_apply_b]; unfold yb; simp only [ib_2, ib_7]
    have e2 : k0_pay21 (F := Ideal) (iblk m c 3 ⟨n, hn⟩) (iblk m c 8 ⟨n, hn⟩) (ix2 r j) = yc m c (row n hn r) j := by
      rw [y_apply]; unfold yc; simp only [ib_3, ib_8]
    rw [pick_apply, e0, e1, e2]
    unfold yy
    rfl
  unfold dzB dzs
  rw [dz_apply, gate_apply, gate_blk, hy, ib_0]
  rfl

/-- The blocks that a point writes. -/
theorem rows_at (c : Dev nD) (t : Fin cfg0.N) :
      (outsAt0 m c t.val t.isLt).1 = k0_pay7 (F := Ideal) (iblk m c 0 t) (hcol (iblk m c 4 t) 0) (hcol (iblk m c 5 t) 0) ∧
      (outsAt0 m c t.val t.isLt).2.1 = k0_pay7 (F := Ideal) (iblk m c 0 t) (hcol (iblk m c 4 t) 1) (hcol (iblk m c 5 t) 1) ∧
      (outsAt0 m c t.val t.isLt).2.2.1 = k0_pay7 (F := Ideal) (iblk m c 0 t) (hcol (iblk m c 4 t) 2) (hcol (iblk m c 5 t) 2) ∧
      (outsAt0 m c t.val t.isLt).2.2.2.1 = k0_pay8 (F := Ideal) (iblk m c 0 t) (hcol (iblk m c 4 t) 0) (hcol (iblk m c 5 t) 0) (iblk m c 6 t) ∧
      (outsAt0 m c t.val t.isLt).2.2.2.2.1 = k0_pay17 (F := Ideal) (iblk m c 0 t) (hcol (iblk m c 4 t) 1) (hcol (iblk m c 5 t) 1) (iblk m c 7 t) ∧
      (outsAt0 m c t.val t.isLt).2.2.2.2.2.1 = k0_pay8 (F := Ideal) (iblk m c 0 t) (hcol (iblk m c 4 t) 2) (hcol (iblk m c 5 t) 2) (iblk m c 8 t) := by
  by_cases h : t.val % 32 = 0
  · rw [outsAt0_A m c t h]
    dsimp only
    exact rows_A ..
  · rw [outsAt0_B m c t h]
    dsimp only
    exact rows_B ..

theorem logits_at (c : Dev nD) (t : Fin cfg0.N) (k : Fin 3) (r : Fin 256) (j : Fin 1024) :
    (outsAt0 m c t.val t.isLt).2.2.2.2.2.2.1 (ix2 r (col k j)) = dzB m c t k (ix2 r j) := by
  by_cases h : t.val % 32 = 0
  · rw [outsAt0_A m c t h]
    dsimp only
    exact logits_A ..
  · rw [outsAt0_B m c t h]
    dsimp only
    exact logits_B ..

/-- The column sums after each point: those of the rows so far. -/
theorem bias_at (c : Dev nD) (k : Fin 3) (j : Fin 1024) : ∀ (n : ℕ) (hn : n < cfg0.N) (u : Fin 1),
    (outsAt0 m c n hn).2.2.2.2.2.2.2 (ix2 u (col k j)) = ∑ t : Fin (n + 1), ∑ r : Fin 256, dzz m c k (row t.val (Nat.lt_of_lt_of_le t.isLt hn) r) j
  | 0, hn, u => by
    rw [outsAt0_A m c ⟨0, hn⟩ rfl]
    dsimp only
    refine (bias_A ..).trans ?_
    rw [sums_apply, Fin.sum_univ_one]
    refine (zero_add _).trans (Finset.sum_congr rfl fun r _ => dz_blk m c 0 hn k r j)
  | n + 1, hn, u => by
    have hN : cfg0.N = 32 := N_0
    have hB : ¬(⟨n + 1, hn⟩ : Fin cfg0.N).val % 32 = 0 := by dsimp only; omega
    rw [outsAt0_B m c ⟨n + 1, hn⟩ hB]
    dsimp only
    refine (bias_B ..).trans ?_
    rw [sums_apply, Fin.sum_univ_castSucc (n := n + 1)]
    exact congrArg₂ (· + ·) (bias_at c k j n (Nat.lt_of_succ_lt hn) u) (Finset.sum_congr rfl fun r _ => dz_blk m c (n + 1) hn k r j)

/-- A column of the gate logits is a column of its group. -/
theorem col_split (j : Fin 3072) : col ⟨j.val / 1024, by omega⟩ ⟨j.val % 1024, by omega⟩ = j := Fin.ext (by dsimp only; omega)

/-- Every row lies in a block. -/
theorem blk_of (i : ℕ) (hi : i < 8192) : ∃ t : Fin cfg0.N, 256 * t.val ≤ i ∧ i < 256 * t.val + 256 :=
  ⟨⟨i / 256, by rw [show cfg0.N = 32 from N_0]; omega⟩, by dsimp only; omega, by dsimp only; omega⟩

/-- The eight arrays. -/
def arr_9 (c : Dev nD) : Buf (Elt Ideal) ((c : Thread nD τ).loc main_v6_0) := fun i => (dyy m c 0 (i 0) (i 1) : EReal)
def arr_10 (c : Dev nD) : Buf (Elt Ideal) ((c : Thread nD τ).loc main_v6_1) := fun i => (dyy m c 1 (i 0) (i 1) : EReal)
def arr_11 (c : Dev nD) : Buf (Elt Ideal) ((c : Thread nD τ).loc main_v6_2) := fun i => (dyy m c 2 (i 0) (i 1) : EReal)
def arr_12 (c : Dev nD) : Buf (Elt Ideal) ((c : Thread nD τ).loc main_v6_3) := fun i => (∑ j : Fin 1024, dyy m c 0 (i 0) j * aP m c (ix2 (i 1) j) : EReal)
def arr_13 (c : Dev nD) : Buf (Elt Ideal) ((c : Thread nD τ).loc main_v6_4) := fun i => (∑ j : Fin 1024, dyy m c 1 (i 0) j * aQ m c (ix2 (i 1) j) : EReal)
def arr_14 (c : Dev nD) : Buf (Elt Ideal) ((c : Thread nD τ).loc main_v6_5) := fun i => (∑ j : Fin 1024, dyy m c 2 (i 0) j * aR m c (ix2 (i 1) j) : EReal)
def arr_15 (c : Dev nD) : Buf (Elt Ideal) ((c : Thread nD τ).loc main_v6_6) := fun i => (dzz m c ⟨(i 1).val / 1024, Nat.div_lt_of_lt_mul (i 1).isLt⟩ (i 0) ⟨(i 1).val % 1024, Nat.mod_lt _ (by decide)⟩ : EReal)
def arr_16 (c : Dev nD) : Buf (Elt Ideal) ((c : Thread nD τ).loc main_v6_7) := fun i => (∑ r : Fin 8192, dzz m c ⟨(i 1).val / 1024, Nat.div_lt_of_lt_mul (i 1).isLt⟩ r ⟨(i 1).val % 1024, Nat.mod_lt _ (by decide)⟩ : EReal)

theorem final_9 (c : Dev nD) : (dats m 0 c).arrAt 9 cfg0.N = arr_9 m c := by
  refine (dats m 0 c).arrAt_eq_of_cover 9 (arr_9 m c) (fun t _ => ?_) fun i => ?_
  · show (cfg0.win 9).cut (grid0.coords t) ((dats m 0 c).after 9 t) = _
    rw [after0_9]
    funext y
    obtain ⟨r, k, rfl⟩ : ∃ (r : Fin 256) (k : Fin 1024), y = ix2 r k := ⟨y 0, y 1, eq_ix2 y⟩
    refine Eq.trans ?_ (congrArg (arr_9 m c) (emb_9 t.val t.isLt r k)).symm
    refine (congrFun (rows_at m c t).1 (ix2 r k)).trans ((dy_apply _ _ _ r k).trans ?_)
    rw [ib_0 m c t.val t.isLt, gate_blk m c t.val t.isLt]
    rfl
  · obtain ⟨t, h, h'⟩ := blk_of (i 0).val (i 0).isLt
    obtain ⟨e0, e1⟩ := ix_9 t
    have hk : (i 1 : ℕ) < 1024 := (i 1).isLt
    refine ⟨t, flush0_9 t, ?_⟩
    show i ∈ ((View.whole main_v6_0).slice (win0_9.rect t)).set
    rw [View.set_slice_whole, Rect.mem_set_unit]
    exact cover_blk 256 1024 ⟨e0, e1⟩ rfl rfl rfl rfl (a := (i 0).val) rfl (b := (i 1).val) rfl (by omega) (by omega)

theorem final_10 (c : Dev nD) : (dats m 0 c).arrAt 10 cfg0.N = arr_10 m c := by
  refine (dats m 0 c).arrAt_eq_of_cover 10 (arr_10 m c) (fun t _ => ?_) fun i => ?_
  · show (cfg0.win 10).cut (grid0.coords t) ((dats m 0 c).after 10 t) = _
    rw [after0_10]
    funext y
    obtain ⟨r, k, rfl⟩ : ∃ (r : Fin 256) (k : Fin 1024), y = ix2 r k := ⟨y 0, y 1, eq_ix2 y⟩
    refine Eq.trans ?_ (congrArg (arr_10 m c) (emb_10 t.val t.isLt r k)).symm
    refine (congrFun (rows_at m c t).2.1 (ix2 r k)).trans ((dy_apply _ _ _ r k).trans ?_)
    rw [ib_0 m c t.val t.isLt, gate_blk m c t.val t.isLt]
    rfl
  · obtain ⟨t, h, h'⟩ := blk_of (i 0).val (i 0).isLt
    obtain ⟨e0, e1⟩ := ix_10 t
    have hk : (i 1 : ℕ) < 1024 := (i 1).isLt
    refine ⟨t, flush0_10 t, ?_⟩
    show i ∈ ((View.whole main_v6_1).slice (win0_10.rect t)).set
    rw [View.set_slice_whole, Rect.mem_set_unit]
    exact cover_blk 256 1024 ⟨e0, e1⟩ rfl rfl rfl rfl (a := (i 0).val) rfl (b := (i 1).val) rfl (by omega) (by omega)

theorem final_11 (c : Dev nD) : (dats m 0 c).arrAt 11 cfg0.N = arr_11 m c := by
  refine (dats m 0 c).arrAt_eq_of_cover 11 (arr_11 m c) (fun t _ => ?_) fun i => ?_
  · show (cfg0.win 11).cut (grid0.coords t) ((dats m 0 c).after 11 t) = _
    rw [after0_11]
    funext y
    obtain ⟨r, k, rfl⟩ : ∃ (r : Fin 256) (k : Fin 1024), y = ix2 r k := ⟨y 0, y 1, eq_ix2 y⟩
    refine Eq.trans ?_ (congrArg (arr_11 m c) (emb_11 t.val t.isLt r k)).symm
    refine (congrFun (rows_at m c t).2.2.1 (ix2 r k)).trans ((dy_apply _ _ _ r k).trans ?_)
    rw [ib_0 m c t.val t.isLt, gate_blk m c t.val t.isLt]
    rfl
  · obtain ⟨t, h, h'⟩ := blk_of (i 0).val (i 0).isLt
    obtain ⟨e0, e1⟩ := ix_11 t
    have hk : (i 1 : ℕ) < 1024 := (i 1).isLt
    refine ⟨t, flush0_11 t, ?_⟩
    show i ∈ ((View.whole main_v6_2).slice (win0_11.rect t)).set
    rw [View.set_slice_whole, Rect.mem_set_unit]
    exact cover_blk 256 1024 ⟨e0, e1⟩ rfl rfl rfl rfl (a := (i 0).val) rfl (b := (i 1).val) rfl (by omega) (by omega)

theorem final_12 (c : Dev nD) : (dats m 0 c).arrAt 12 cfg0.N = arr_12 m c := by
  refine (dats m 0 c).arrAt_eq_of_cover 12 (arr_12 m c) (fun t _ => ?_) fun i => ?_
  · show (cfg0.win 12).cut (grid0.coords t) ((dats m 0 c).after 12 t) = _
    rw [after0_12]
    funext y
    obtain ⟨r, k, rfl⟩ : ∃ (r : Fin 256) (k : Fin 256), y = ix2 r k := ⟨y 0, y 1, eq_ix2 y⟩
    refine Eq.trans ?_ (congrArg (arr_12 m c) (emb_12 t.val t.isLt r k)).symm
    refine (congrFun (rows_at m c t).2.2.2.1 (ix2 r k)).trans ((do_apply _ _ _ _ r k).trans (Finset.sum_congr rfl fun j _ => ?_))
    rw [ib_0 m c t.val t.isLt, gate_blk m c t.val t.isLt, ib_6]
    rfl
  · obtain ⟨t, h, h'⟩ := blk_of (i 0).val (i 0).isLt
    obtain ⟨e0, e1⟩ := ix_12 t
    have hk : (i 1 : ℕ) < 256 := (i 1).isLt
    refine ⟨t, flush0_12 t, ?_⟩
    show i ∈ ((View.whole main_v6_3).slice (win0_12.rect t)).set
    rw [View.set_slice_whole, Rect.mem_set_unit]
    exact cover_blk 256 256 ⟨e0, e1⟩ rfl rfl rfl rfl (a := (i 0).val) rfl (b := (i 1).val) rfl (by omega) (by omega)

theorem final_13 (c : Dev nD) : (dats m 0 c).arrAt 13 cfg0.N = arr_13 m c := by
  refine (dats m 0 c).arrAt_eq_of_cover 13 (arr_13 m c) (fun t _ => ?_) fun i => ?_
  · show (cfg0.win 13).cut (grid0.coords t) ((dats m 0 c).after 13 t) = _
    rw [after0_13]
    funext y
    obtain ⟨r, k, rfl⟩ : ∃ (r : Fin 256) (k : Fin 512), y = ix2 r k := ⟨y 0, y 1, eq_ix2 y⟩
    refine Eq.trans ?_ (congrArg (arr_13 m c) (emb_13 t.val t.isLt r k)).symm
    refine (congrFun (rows_at m c t).2.2.2.2.1 (ix2 r k)).trans ((do_apply_b _ _ _ _ r k).trans (Finset.sum_congr rfl fun j _ => ?_))
    rw [ib_0 m c t.val t.isLt, gate_blk m c t.val t.isLt, ib_7]
    rfl
  · obtain ⟨t, h, h'⟩ := blk_of (i 0).val (i 0).isLt
    obtain ⟨e0, e1⟩ := ix_13 t
    have hk : (i 1 : ℕ) < 512 := (i 1).isLt
    refine ⟨t, flush0_13 t, ?_⟩
    show i ∈ ((View.whole main_v6_4).slice (win0_13.rect t)).set
    rw [View.set_slice_whole, Rect.mem_set_unit]
    exact cover_blk 256 512 ⟨e0, e1⟩ rfl rfl rfl rfl (a := (i 0).val) rfl (b := (i 1).val) rfl (by omega) (by omega)

theorem final_14 (c : Dev nD) : (dats m 0 c).arrAt 14 cfg0.N = arr_14 m c := by
  refine (dats m 0 c).arrAt_eq_of_cover 14 (arr_14 m c) (fun t _ => ?_) fun i => ?_
  · show (cfg0.win 14).cut (grid0.coords t) ((dats m 0 c).after 14 t) = _
    rw [after0_14]
    funext y
    obtain ⟨r, k, rfl⟩ : ∃ (r : Fin 256) (k : Fin 256), y = ix2 r k := ⟨y 0, y 1, eq_ix2 y⟩
    refine Eq.trans ?_ (congrArg (arr_14 m c) (emb_14 t.val t.isLt r k)).symm
    refine (congrFun (rows_at m c t).2.2.2.2.2 (ix2 r k)).trans ((do_apply _ _ _ _ r k).trans (Finset.sum_congr rfl fun j _ => ?_))
    rw [ib_0 m c t.val t.isLt, gate_blk m c t.val t.isLt, ib_8]
    rfl
  · obtain ⟨t, h, h'⟩ := blk_of (i 0).val (i 0).isLt
    obtain ⟨e0, e1⟩ := ix_14 t
    have hk : (i 1 : ℕ) < 256 := (i 1).isLt
    refine ⟨t, flush0_14 t, ?_⟩
    show i ∈ ((View.whole main_v6_5).slice (win0_14.rect t)).set
    rw [View.set_slice_whole, Rect.mem_set_unit]
    exact cover_blk 256 256 ⟨e0, e1⟩ rfl rfl rfl rfl (a := (i 0).val) rfl (b := (i 1).val) rfl (by omega) (by omega)

theorem final_15 (c : Dev nD) : (dats m 0 c).arrAt 15 cfg0.N = arr_15 m c := by
  refine (dats m 0 c).arrAt_eq_of_cover 15 (arr_15 m c) (fun t _ => ?_) fun i => ?_
  · show (cfg0.win 15).cut (grid0.coords t) ((dats m 0 c).after 15 t) = _
    rw [after0_15]
    funext y
    obtain ⟨r, k, rfl⟩ : ∃ (r : Fin 256) (k : Fin 3072), y = ix2 r k := ⟨y 0, y 1, eq_ix2 y⟩
    refine Eq.trans ?_ (congrArg (arr_15 m c) (emb_15 t.val t.isLt r k)).symm
    obtain ⟨q, j, rfl⟩ : ∃ (q : Fin 3) (j : Fin 1024), k = col q j := ⟨_, _, (col_split k).symm⟩
    refine (logits_at m c t q r j).trans ((dz_blk m c t.val t.isLt q r j).trans ?_)
    show dzz m c q _ j = dzz m c ⟨(1024 * q.val + j.val) / 1024, _⟩ _ ⟨(1024 * q.val + j.val) % 1024, _⟩
    congr 1 <;> exact Fin.ext (by dsimp only; omega)
  · obtain ⟨t, h, h'⟩ := blk_of (i 0).val (i 0).isLt
    obtain ⟨e0, e1⟩ := ix_15 t
    have hk : (i 1 : ℕ) < 3072 := (i 1).isLt
    refine ⟨t, flush0_15 t, ?_⟩
    show i ∈ ((View.whole main_v6_6).slice (win0_15.rect t)).set
    rw [View.set_slice_whole, Rect.mem_set_unit]
    exact cover_blk 256 3072 ⟨e0, e1⟩ rfl rfl rfl rfl (a := (i 0).val) rfl (b := (i 1).val) rfl (by omega) (by omega)

theorem final_16 (c : Dev nD) : (dats m 0 c).arrAt 16 cfg0.N = arr_16 m c := by
  have hN : cfg0.N = 32 := N_0
  refine (dats m 0 c).arrAt_eq_of_cover 16 (arr_16 m c) (fun t hf => ?_) fun i => ?_
  · show (cfg0.win 16).cut (grid0.coords t) ((dats m 0 c).after 16 t) = _
    rw [after0_16]
    funext y
    obtain ⟨u, k, rfl⟩ : ∃ (u : Fin 1) (k : Fin 3072), y = ix2 u k := ⟨y 0, y 1, eq_ix2 y⟩
    obtain ⟨q, j, rfl⟩ : ∃ (q : Fin 3) (j : Fin 1024), k = col q j := ⟨_, _, (col_split k).symm⟩
    refine Eq.trans ?_ (congrArg (arr_16 m c) (emb_16 t u (col q j))).symm
    refine (bias_at m c q j t.val t.isLt u).trans ?_
    have h31 : t.val = 31 := by have := (flush0_16 t).mp hf; have := t.isLt; omega
    obtain ⟨n, hn⟩ := t
    dsimp only at h31
    subst h31
    refine (sum_tiles 32 256 8192 rfl fun r => dzz m c q r j).symm.trans (Finset.sum_congr rfl fun r _ => ?_)
    show dzz m c q r j = dzz m c ⟨(1024 * q.val + j.val) / 1024, _⟩ _ ⟨(1024 * q.val + j.val) % 1024, _⟩
    congr 1 <;> exact Fin.ext (by dsimp only; omega)
  · let t : Fin cfg0.N := ⟨31, by rw [hN]; decide⟩
    refine ⟨t, (flush0_16 t).mpr rfl, ?_⟩
    obtain ⟨e0, e1⟩ := ix_16 t
    have h0 : (i 0 : ℕ) < 1 := (i 0).isLt
    have hk : (i 1 : ℕ) < 3072 := (i 1).isLt
    show i ∈ ((View.whole main_v6_7).slice (win0_16.rect t)).set
    rw [View.set_slice_whole, Rect.mem_set_unit]
    exact cover_blk 1 3072 ⟨e0, e1⟩ rfl rfl rfl rfl (a := (i 0).val) rfl (b := (i 1).val) rfl (by omega) (by omega)

end Cert.MergeIdeal.Val

end
-- ==== Proof.Merge.Value.lean ====
module

public import proofs.«01_k».proof.Proof.Merge.Arrays
public import proofs.«01_k».proof.Proof.Gen.MergeIdeal.Value
public import proofs.«01_k».proof.Proof.Gen.MergeRefIdeal.Read
public import Idealize.ShloMosaic.Lib.KernelVsHost

/-! The gates' backward call: the arrays that it writes are those that the reference computes from the
same arguments. -/

@[expose] public section

set_option maxRecDepth 16384

noncomputable section

namespace Cert.MergeIdeal.Val

open Idealize.ShloMosaic Idealize.ShloMosaic.TcCoe Idealize.ShloMosaic.Tactic Idealize.SL.Sem Cert.MergeIdeal.Gen
open Idealize.ShloMosaic.ValueIdx Cert.Proof Cert.MergeRefIdeal.Read

section Reference

variable (x0 : S8192x1024.Idx → EReal) (x1 x3 : S8192x256.Idx → EReal) (x2 : S8192x512.Idx → EReal) (x4 : S8192x3072.Idx → EReal)
  (x5 : S1x3072.Idx → EReal) (x6 x8 : S256x1024.Idx → EReal) (x7 : S512x1024.Idx → EReal) (r : Fin 8192) (j : Fin 1024)

theorem gate_ref (j : Fin 3072) : val_main_v10 (F := Ideal) x4 x5 (ix2 r j) = gate (x4 (ix2 r j)) (x5 (ix2 0 j)) := by
  rw [val_main_v10_apply, val_main_v9_apply, val_main_v8_apply, val_main_v7_apply, val_main_cst_apply, val_main_cst_0_apply,
    val_main_v6_apply, val_main_v5_apply, val_main_v4_apply, val_main_v3_apply,
    show idx_main_v3 (ix2 r j) = ix2 0 j from ix2_ext rfl rfl]
  unfold gate
  show Ideal.div (Ideal.ofBits .f32 0x3F800000#32) (Ideal.ofBits .f32 0x3F800000#32 + Ideal.exp (-(x4 (ix2 r j) + x5 (ix2 0 j)))) = _
  rw [Ideal.ofBits_zero_f32, zero_sub]

theorem group0 : val_main_v16 (F := Ideal) x4 x5 (ix2 r j) = gate (x4 (ix2 r (col 0 j))) (x5 (ix2 0 (col 0 j))) := by
  rw [val_main_v16_apply, val_main_v15_apply, val_main_v14_apply, ← gate_ref]
  exact congrArg (val_main_v10 (F := Ideal) x4 x5)
    (ix2_ext (by show (((r.val * 1024 + j.val) / 1024 * 3 + 0) * 1024 + (r.val * 1024 + j.val) % 1024) / 3072 = r.val; omega)
      (by show (((r.val * 1024 + j.val) / 1024 * 3 + 0) * 1024 + (r.val * 1024 + j.val) % 1024) % 3072 = 1024 * 0 + j.val; omega))

theorem group1 : val_main_v19 (F := Ideal) x4 x5 (ix2 r j) = gate (x4 (ix2 r (col 1 j))) (x5 (ix2 0 (col 1 j))) := by
  rw [val_main_v19_apply, val_main_v18_apply, val_main_v14_apply, ← gate_ref]
  exact congrArg (val_main_v10 (F := Ideal) x4 x5)
    (ix2_ext (by show (((r.val * 1024 + j.val) / 1024 * 3 + 1) * 1024 + (r.val * 1024 + j.val) % 1024) / 3072 = r.val; omega)
      (by show (((r.val * 1024 + j.val) / 1024 * 3 + 1) * 1024 + (r.val * 1024 + j.val) % 1024) % 3072 = 1024 * 1 + j.val; omega))

theorem group2 : val_main_v23 (F := Ideal) x4 x5 (ix2 r j) = gate (x4 (ix2 r (col 2 j))) (x5 (ix2 0 (col 2 j))) := by
  rw [val_main_v23_apply, val_main_v22_apply, val_main_v14_apply, ← gate_ref]
  exact congrArg (val_main_v10 (F := Ideal) x4 x5)
    (ix2_ext (by show (((r.val * 1024 + j.val) / 1024 * 3 + 2) * 1024 + (r.val * 1024 + j.val) % 1024) / 3072 = r.val; omega)
      (by show (((r.val * 1024 + j.val) / 1024 * 3 + 2) * 1024 + (r.val * 1024 + j.val) % 1024) % 3072 = 1024 * 2 + j.val; omega))

theorem same26 : val_main_v26 (F := Ideal) x0 (ix2 r j) = x0 (ix2 r j) := by
  rw [val_main_v26_apply]
  exact congrArg x0 (ix2_ext (by show (r.val * 1024 + j.val) / 1024 = r.val; omega) (by show (r.val * 1024 + j.val) % 1024 = j.val; omega))

theorem same27 : val_main_v27 (F := Ideal) x0 (ix2 r j) = x0 (ix2 r j) := by
  rw [val_main_v27_apply]
  exact congrArg x0 (ix2_ext (by show (r.val * 1024 + j.val) / 1024 = r.val; omega) (by show (r.val * 1024 + j.val) % 1024 = j.val; omega))

theorem dy_ref0 : val_main_v37 (F := Ideal) x0 x4 x5 (ix2 r j) = x0 (ix2 r j) * gate (x4 (ix2 r (col 0 j))) (x5 (ix2 0 (col 0 j))) := by
  rw [val_main_v37_apply, group0, same26]
  exact mul_comm _ _

theorem dy_ref1 : val_main_v32 (F := Ideal) x0 x4 x5 (ix2 r j) = x0 (ix2 r j) * gate (x4 (ix2 r (col 1 j))) (x5 (ix2 0 (col 1 j))) := by
  rw [val_main_v32_apply, group1, same26]
  exact mul_comm _ _

theorem dy_ref2 : val_main_v28 (F := Ideal) x0 x4 x5 (ix2 r j) = x0 (ix2 r j) * gate (x4 (ix2 r (col 2 j))) (x5 (ix2 0 (col 2 j))) := by
  rw [val_main_v28_apply, group2, same27]
  exact mul_comm _ _

theorem do_ref0 (k : Fin 256) : val_main_v46 (F := Ideal) x0 x4 x5 x6 (ix2 r k)
    = ∑ j : Fin 1024, x0 (ix2 r j) * gate (x4 (ix2 r (col 0 j))) (x5 (ix2 0 (col 0 j))) * x6 (ix2 k j) := by
  rw [val_main_v46_apply]
  refine Finset.sum_congr rfl fun j _ => ?_
  rw [show lidx_main_v46 (ix2 r k) j = ix2 r j from ix2_ext rfl rfl, show ridx_main_v46 (ix2 r k) j = ix2 k j from ix2_ext rfl rfl, dy_ref0]

theorem do_ref1 (k : Fin 512) : val_main_v47 (F := Ideal) x0 x4 x5 x7 (ix2 r k)
    = ∑ j : Fin 1024, x0 (ix2 r j) * gate (x4 (ix2 r (col 1 j))) (x5 (ix2 0 (col 1 j))) * x7 (ix2 k j) := by
  rw [val_main_v47_apply]
  refine Finset.sum_congr rfl fun j _ => ?_
  rw [show lidx_main_v47 (ix2 r k) j = ix2 r j from ix2_ext rfl rfl, show ridx_main_v47 (ix2 r k) j = ix2 k j from ix2_ext rfl rfl, dy_ref1]

theorem do_ref2 (k : Fin 256) : val_main_v48 (F := Ideal) x0 x4 x5 x8 (ix2 r k)
    = ∑ j : Fin 1024, x0 (ix2 r j) * gate (x4 (ix2 r (col 2 j))) (x5 (ix2 0 (col 2 j))) * x8 (ix2 k j) := by
  rw [val_main_v48_apply]
  refine Finset.sum_congr rfl fun j _ => ?_
  rw [show lidx_main_v48 (ix2 r k) j = ix2 r j from ix2_ext rfl rfl, show ridx_main_v48 (ix2 r k) j = ix2 k j from ix2_ext rfl rfl, dy_ref2]

theorem y_ref0 : val_main_v0 (F := Ideal) x1 x6 (ix2 r j) = ∑ i : Fin 256, x1 (ix2 r i) * x6 (ix2 i j) := by
  rw [val_main_v0_apply]
  refine Finset.sum_congr rfl fun i _ => ?_
  rw [show lidx_main_v0 (ix2 r j) i = ix2 r i from ix2_ext rfl rfl, show ridx_main_v0 (ix2 r j) i = ix2 i j from ix2_ext rfl rfl]

theorem y_ref1 : val_main_v1 (F := Ideal) x2 x7 (ix2 r j) = ∑ i : Fin 512, x2 (ix2 r i) * x7 (ix2 i j) := by
  rw [val_main_v1_apply]
  refine Finset.sum_congr rfl fun i _ => ?_
  rw [show lidx_main_v1 (ix2 r j) i = ix2 r i from ix2_ext rfl rfl, show ridx_main_v1 (ix2 r j) i = ix2 i j from ix2_ext rfl rfl]

theorem y_ref2 : val_main_v2 (F := Ideal) x3 x8 (ix2 r j) = ∑ i : Fin 256, x3 (ix2 r i) * x8 (ix2 i j) := by
  rw [val_main_v2_apply]
  refine Finset.sum_congr rfl fun i _ => ?_
  rw [show lidx_main_v2 (ix2 r j) i = ix2 r i from ix2_ext rfl rfl, show ridx_main_v2 (ix2 r j) i = ix2 i j from ix2_ext rfl rfl]

/-- A group's rows put at place `p` of three: the group there, zero elsewhere. -/
theorem pad_in (lo hi : Fin 3 → ℕ) (p : Fin 3) (hlo : lo = ![0, p.val, 0]) (x : Cert.MergeRefIdeal.S8192x1x1024.Idx → EReal) (v : Cert.MergeRefIdeal.S_.Idx → EReal)
    (h : Cert.MergeRefIdeal.S8192x1x1024.Pads lo hi ![0, 0, 0] Cert.MergeRefIdeal.S8192x3x1024) (hu) :
    pad Cert.MergeRefIdeal.S8192x3x1024 lo hi ![0, 0, 0] x v h hu (ix3 r p j) = x (ix3 r 0 j) := by
  subst hlo
  refine pad_apply_of_inside _ _ _ x v h hu (ix3 r p j) (ix3 r 0 j) fun a => ?_
  match a with
  | ⟨0, _⟩ => show r.val = 0 + r.val * (0 + 1); omega
  | ⟨1, _⟩ => show p.val = p.val + 0 * (0 + 1); omega
  | ⟨2, _⟩ => show j.val = 0 + j.val * (0 + 1); omega

theorem pad_out (lo hi : Fin 3 → ℕ) (p q : Fin 3) (hpq : q ≠ p) (hlo : lo = ![0, p.val, 0]) (x : Cert.MergeRefIdeal.S8192x1x1024.Idx → EReal) (v : Cert.MergeRefIdeal.S_.Idx → EReal)
    (h : Cert.MergeRefIdeal.S8192x1x1024.Pads lo hi ![0, 0, 0] Cert.MergeRefIdeal.S8192x3x1024) (hu) :
    pad Cert.MergeRefIdeal.S8192x3x1024 lo hi ![0, 0, 0] x v h hu (ix3 r q j) = v (Shape.Idx.first hu) := by
  subst hlo
  refine pad_apply_of_not_inside _ _ _ x v h hu (ix3 r q j) 1 fun hin => hpq (Fin.ext ?_)
  obtain ⟨h1, -, h3⟩ := hin
  have h1' : p.val ≤ q.val := h1
  have h3' : (q.val - p.val) / (0 + 1) < 1 := h3
  rw [Nat.div_one] at h3'
  omega

theorem part0 (u : Fin 1) : val_main_v39 (F := Ideal) x0 x1 x6 (ix3 r u j) = x0 (ix2 r j) * val_main_v0 (F := Ideal) x1 x6 (ix2 r j) := by
  rw [val_main_v39_apply, show idx_main_v39 (ix3 r u j) = ix2 r j from ix2_ext rfl rfl, val_main_v38_apply, same26]
  rfl

theorem part1 (u : Fin 1) : val_main_v34 (F := Ideal) x0 x2 x7 (ix3 r u j) = x0 (ix2 r j) * val_main_v1 (F := Ideal) x2 x7 (ix2 r j) := by
  rw [val_main_v34_apply, show idx_main_v34 (ix3 r u j) = ix2 r j from ix2_ext rfl rfl, val_main_v33_apply, same26]
  rfl

theorem part2 (u : Fin 1) : val_main_v30 (F := Ideal) x0 x3 x8 (ix3 r u j) = x0 (ix2 r j) * val_main_v2 (F := Ideal) x3 x8 (ix2 r j) := by
  rw [val_main_v30_apply, show idx_main_v30 (ix3 r u j) = ix2 r j from ix2_ext rfl rfl, val_main_v29_apply, same27]
  rfl

theorem merged0 : val_main_v41 (F := Ideal) x0 x1 x2 x3 x6 x7 x8 (ix3 r 0 j) = x0 (ix2 r j) * val_main_v0 (F := Ideal) x1 x6 (ix2 r j) := by
  have e0 : (val_main_v40 (F := Ideal) x0 x1 x6 (ix3 r 0 j) = x0 (ix2 r j) * val_main_v0 (F := Ideal) x1 x6 (ix2 r j)) := (pad_in r j _ _ 0 rfl _ _ _ _).trans (part0 ..)
  have e1 : (val_main_v35 (F := Ideal) x0 x2 x7 (ix3 r 0 j) = 0) := (pad_out r j _ _ 1 0 (by decide) rfl _ _ _ _).trans Ideal.ofBits_zero_f32
  have e2 : (val_main_v31 (F := Ideal) x0 x3 x8 (ix3 r 0 j) = 0) := (pad_out r j _ _ 2 0 (by decide) rfl _ _ _ _).trans Ideal.ofBits_zero_f32
  rw [val_main_v41_apply, val_main_v36_apply, e0, e1, e2]
  show ((_ : EReal) + _) + _ = _
  rw [zero_add, zero_add]

theorem merged1 : val_main_v41 (F := Ideal) x0 x1 x2 x3 x6 x7 x8 (ix3 r 1 j) = x0 (ix2 r j) * val_main_v1 (F := Ideal) x2 x7 (ix2 r j) := by
  have e0 : (val_main_v40 (F := Ideal) x0 x1 x6 (ix3 r 1 j) = 0) := (pad_out r j _ _ 0 1 (by decide) rfl _ _ _ _).trans Ideal.ofBits_zero_f32
  have e1 : (val_main_v35 (F := Ideal) x0 x2 x7 (ix3 r 1 j) = x0 (ix2 r j) * val_main_v1 (F := Ideal) x2 x7 (ix2 r j)) := (pad_in r j _ _ 1 rfl _ _ _ _).trans (part1 ..)
  have e2 : (val_main_v31 (F := Ideal) x0 x3 x8 (ix3 r 1 j) = 0) := (pad_out r j _ _ 2 1 (by decide) rfl _ _ _ _).trans Ideal.ofBits_zero_f32
  rw [val_main_v41_apply, val_main_v36_apply, e0, e1, e2]
  show ((_ : EReal) + _) + _ = _
  rw [zero_add, add_zero]

theorem merged2 : val_main_v41 (F := Ideal) x0 x1 x2 x3 x6 x7 x8 (ix3 r 2 j) = x0 (ix2 r j) * val_main_v2 (F := Ideal) x3 x8 (ix2 r j) := by
  have e0 : (val_main_v40 (F := Ideal) x0 x1 x6 (ix3 r 2 j) = 0) := (pad_out r j _ _ 0 2 (by decide) rfl _ _ _ _).trans Ideal.ofBits_zero_f32
  have e1 : (val_main_v35 (F := Ideal) x0 x2 x7 (ix3 r 2 j) = 0) := (pad_out r j _ _ 1 2 (by decide) rfl _ _ _ _).trans Ideal.ofBits_zero_f32
  have e2 : (val_main_v31 (F := Ideal) x0 x3 x8 (ix3 r 2 j) = x0 (ix2 r j) * val_main_v2 (F := Ideal) x3 x8 (ix2 r j)) := (pad_in r j _ _ 2 rfl _ _ _ _).trans (part2 ..)
  rw [val_main_v41_apply, val_main_v36_apply, e0, e1, e2]
  show ((_ : EReal) + _) + _ = _
  rw [add_zero, add_zero]

/-- The gradient of the gate logits, as the reference computes it. -/
theorem dz_ref (k : Fin 3) : val_main_v43 (F := Ideal) x0 x1 x2 x3 x4 x5 x6 x7 x8 (ix2 r (col k j))
    = x0 (ix2 r j) * (![val_main_v0 (F := Ideal) x1 x6 (ix2 r j), val_main_v1 (F := Ideal) x2 x7 (ix2 r j), val_main_v2 (F := Ideal) x3 x8 (ix2 r j)] : Fin 3 → EReal) k
      * (gate (x4 (ix2 r (col k j))) (x5 (ix2 0 (col k j))) * (Ideal.ofBits .f32 0x3F800000#32 - gate (x4 (ix2 r (col k j))) (x5 (ix2 0 (col k j))))) := by
  rw [val_main_v43_apply, val_main_v42_apply, val_main_v13_apply, val_main_v12_apply, val_main_v11_apply, val_main_cst_1_apply, gate_ref]
  have e : idx_main_v42 (ix2 r (col k j)) = ix3 r k j := by
    funext a; apply Fin.ext
    match a with
    | ⟨0, _⟩ => show (r.val * 3072 + (1024 * k.val + j.val)) / 3072 = r.val; omega
    | ⟨1, _⟩ => show (r.val * 3072 + (1024 * k.val + j.val)) / 1024 % 3 = k.val; omega
    | ⟨2, _⟩ => show (r.val * 3072 + (1024 * k.val + j.val)) % 1024 = j.val; omega
  rw [e]
  refine congrArg (· * _) ?_
  obtain rfl | rfl | rfl := (by decide : ∀ k : Fin 3, k = 0 ∨ k = 1 ∨ k = 2) k
  · exact merged0 ..
  · exact merged1 ..
  · exact merged2 ..

/-- Its column sums. -/
theorem dbg_ref (u : Fin 1) (k : Fin 3) : val_main_v45 (F := Ideal) x0 x1 x2 x3 x4 x5 x6 x7 x8 (ix2 u (col k j))
    = ∑ r : Fin 8192, val_main_v43 (F := Ideal) x0 x1 x2 x3 x4 x5 x6 x7 x8 (ix2 r (col k j)) := by
  rw [val_main_v45_apply, val_main_v44_apply, val_main_cst_5_apply]
  show Ideal.ofBits .f32 0x00000000#32 + _ = _
  rw [Ideal.ofBits_zero_f32, zero_add]
  refine Finset.sum_congr rfl fun r _ => congrArg _ (ix2_ext rfl ?_)
  show u.val * 3072 + (1024 * k.val + j.val) = 1024 * k.val + j.val
  omega

end Reference

variable (m : (ℓ : Loc nD τ sig) → Buf (Elt Ideal) ℓ) (ρ : Dev nD → PrngReg)

/-- The arguments. -/
abbrev X0 (c : Dev nD) : S8192x1024.Idx → EReal := m ((c : Thread nD τ).loc main_arg0)
abbrev X1 (c : Dev nD) : S8192x256.Idx → EReal := m ((c : Thread nD τ).loc main_arg1)
abbrev X2 (c : Dev nD) : S8192x512.Idx → EReal := m ((c : Thread nD τ).loc main_arg2)
abbrev X3 (c : Dev nD) : S8192x256.Idx → EReal := m ((c : Thread nD τ).loc main_arg3)
abbrev X4 (c : Dev nD) : S8192x3072.Idx → EReal := m ((c : Thread nD τ).loc main_arg4)
abbrev X5 (c : Dev nD) : S1x3072.Idx → EReal := m ((c : Thread nD τ).loc main_arg5)
abbrev X6 (c : Dev nD) : S256x1024.Idx → EReal := m ((c : Thread nD τ).loc main_arg6)
abbrev X7 (c : Dev nD) : S512x1024.Idx → EReal := m ((c : Thread nD τ).loc main_arg7)
abbrev X8 (c : Dev nD) : S256x1024.Idx → EReal := m ((c : Thread nD τ).loc main_arg8)

/-- The arrays that the kernel reads are the arguments: a cast is the identity over the reals. -/
theorem aM_eq (c : Dev nD) : aM m c = X0 m c := V_main_arg0 m c
theorem aA_eq (c : Dev nD) : aA m c = X1 m c := by
  unfold aA
  show StableHlo.after hostOps0 _ _ = _
  after_results
  rfl
theorem aB_eq (c : Dev nD) : aB m c = X2 m c := by
  unfold aB
  show StableHlo.after hostOps0 _ _ = _
  after_results
  rfl
theorem aC_eq (c : Dev nD) : aC m c = X3 m c := by
  unfold aC
  show StableHlo.after hostOps0 _ _ = _
  after_results
  rfl
theorem aH_eq (c : Dev nD) : aH m c = X4 m c := V_main_arg4 m c
theorem aG_eq (c : Dev nD) : aG m c = X5 m c := V_main_arg5 m c
theorem aP_eq (c : Dev nD) : aP m c = X6 m c := by
  unfold aP
  show StableHlo.after hostOps0 _ _ = _
  after_results
  rfl
theorem aQ_eq (c : Dev nD) : aQ m c = X7 m c := by
  unfold aQ
  show StableHlo.after hostOps0 _ _ = _
  after_results
  rfl
theorem aR_eq (c : Dev nD) : aR m c = X8 m c := by
  unfold aR
  show StableHlo.after hostOps0 _ _ = _
  after_results
  rfl

theorem val_9 (c : Dev nD) : val_main_v49 (F := Ideal) (X0 m c) (X4 m c) (X5 m c) = arr_9 m c := by
  funext i
  obtain ⟨r, j, rfl⟩ : ∃ (r : Fin 8192) (j : Fin 1024), i = ix2 r j := ⟨i 0, i 1, eq_ix2 i⟩
  rw [val_main_v49_apply]
  refine (dy_ref0 ..).trans ?_
  unfold arr_9 dyy gt
  rw [aM_eq, aH_eq, aG_eq]
  rfl

theorem val_10 (c : Dev nD) : val_main_v50 (F := Ideal) (X0 m c) (X4 m c) (X5 m c) = arr_10 m c := by
  funext i
  obtain ⟨r, j, rfl⟩ : ∃ (r : Fin 8192) (j : Fin 1024), i = ix2 r j := ⟨i 0, i 1, eq_ix2 i⟩
  rw [val_main_v50_apply]
  refine (dy_ref1 ..).trans ?_
  unfold arr_10 dyy gt
  rw [aM_eq, aH_eq, aG_eq]
  rfl

theorem val_11 (c : Dev nD) : val_main_v51 (F := Ideal) (X0 m c) (X4 m c) (X5 m c) = arr_11 m c := by
  funext i
  obtain ⟨r, j, rfl⟩ : ∃ (r : Fin 8192) (j : Fin 1024), i = ix2 r j := ⟨i 0, i 1, eq_ix2 i⟩
  rw [val_main_v51_apply]
  refine (dy_ref2 ..).trans ?_
  unfold arr_11 dyy gt
  rw [aM_eq, aH_eq, aG_eq]
  rfl

theorem val_12 (c : Dev nD) : val_main_v52 (F := Ideal) (X0 m c) (X4 m c) (X5 m c) (X6 m c) = arr_12 m c := by
  funext i
  obtain ⟨r, k, rfl⟩ : ∃ (r : Fin 8192) (k : Fin 256), i = ix2 r k := ⟨i 0, i 1, eq_ix2 i⟩
  rw [val_main_v52_apply]
  refine (do_ref0 ..).trans ?_
  unfold arr_12 dyy gt
  rw [aM_eq, aH_eq, aG_eq, aP_eq]
  rfl

theorem val_13 (c : Dev nD) : val_main_v53 (F := Ideal) (X0 m c) (X4 m c) (X5 m c) (X7 m c) = arr_13 m c := by
  funext i
  obtain ⟨r, k, rfl⟩ : ∃ (r : Fin 8192) (k : Fin 512), i = ix2 r k := ⟨i 0, i 1, eq_ix2 i⟩
  rw [val_main_v53_apply]
  refine (do_ref1 ..).trans ?_
  unfold arr_13 dyy gt
  rw [aM_eq, aH_eq, aG_eq, aQ_eq]
  rfl

theorem val_14 (c : Dev nD) : val_main_v54 (F := Ideal) (X0 m c) (X4 m c) (X5 m c) (X8 m c) = arr_14 m c := by
  funext i
  obtain ⟨r, k, rfl⟩ : ∃ (r : Fin 8192) (k : Fin 256), i = ix2 r k := ⟨i 0, i 1, eq_ix2 i⟩
  rw [val_main_v54_apply]
  refine (do_ref2 ..).trans ?_
  unfold arr_14 dyy gt
  rw [aM_eq, aH_eq, aG_eq, aR_eq]
  rfl

/-- The gradient of the gate logits at a place. -/
theorem dz_same (c : Dev nD) (r : Fin 8192) (k : Fin 3) (j : Fin 1024) : val_main_v43 (F := Ideal) (X0 m c) (X1 m c) (X2 m c) (X3 m c) (X4 m c) (X5 m c) (X6 m c) (X7 m c) (X8 m c) (ix2 r (col k j)) = dzz m c k r j := by
  rw [dz_ref, y_ref0, y_ref1, y_ref2]
  unfold dzz yy ya yb yc gt
  rw [aM_eq, aA_eq, aB_eq, aC_eq, aH_eq, aG_eq, aP_eq, aQ_eq, aR_eq]

theorem val_15 (c : Dev nD) : val_main_v55 (F := Ideal) (X0 m c) (X1 m c) (X2 m c) (X3 m c) (X4 m c) (X5 m c) (X6 m c) (X7 m c) (X8 m c) = arr_15 m c := by
  funext i
  obtain ⟨r, q, rfl⟩ : ∃ (r : Fin 8192) (q : Fin 3072), i = ix2 r q := ⟨i 0, i 1, eq_ix2 i⟩
  rw [val_main_v55_apply]
  refine (congrArg (fun q => val_main_v43 (F := Ideal) (X0 m c) (X1 m c) (X2 m c) (X3 m c) (X4 m c) (X5 m c) (X6 m c) (X7 m c) (X8 m c) (ix2 r q)) (col_split q).symm).trans ?_
  exact dz_same m c r _ _

theorem val_16 (c : Dev nD) : val_main_v45 (F := Ideal) (X0 m c) (X1 m c) (X2 m c) (X3 m c) (X4 m c) (X5 m c) (X6 m c) (X7 m c) (X8 m c) = arr_16 m c := by
  funext i
  obtain ⟨u, q, rfl⟩ : ∃ (u : Fin 1) (q : Fin 3072), i = ix2 u q := ⟨i 0, i 1, eq_ix2 i⟩
  refine (congrArg (fun q => val_main_v45 (F := Ideal) (X0 m c) (X1 m c) (X2 m c) (X3 m c) (X4 m c) (X5 m c) (X6 m c) (X7 m c) (X8 m c) (ix2 u q)) (col_split q).symm).trans ?_
  refine (dbg_ref ..).trans ?_
  exact Finset.sum_congr rfl fun r _ => dz_same m c r _ _

end Cert.MergeIdeal.Val

end
-- ==== Proof.Merge.Claims.lean ====
module

public import proofs.«01_k».proof.Proof.Merge.Value
public import proofs.«01_k».proof.Proof.Gen.MergeRefIdeal.Run
public import proofs.«01_k».proof.Defs

/-! The claims about the gates' backward call: the reference's frame and the equality with the reference over the extended
reals. -/

@[expose] public section

set_option maxRecDepth 16384

noncomputable section

namespace Cert.Proof.Merge

open Idealize.ShloMosaic Idealize.ShloMosaic.TcCoe Idealize.SL.Sem Cert.MergeIdeal.Val

theorem frame_ref : Cert.quiescent_MergeRefIdeal := fun m ρ _ =>
  (θ_run Cert.MergeRefIdeal.defs _ _).mono (fun r h => ⟨fun c => (h c).2.2.2.2.2.2.2.2, sem_eq_zero_of_no_sems (by decide) r.2⟩)
    (Cert.MergeRefIdeal.Value.run (F := Ideal) m ρ)

/-- The kernel's run, read. -/
theorem run_val (m : (ℓ : Loc Cert.MergeIdeal.nD Cert.MergeIdeal.τ Cert.MergeIdeal.sig) → Buf (Elt Ideal) ℓ) (ρ : Dev Cert.MergeIdeal.nD → PrngReg) : θ_run Cert.MergeIdeal.defs (onTc (τ := Cert.MergeIdeal.τ) (Cert.MergeIdeal.main (F := Ideal))) ⟨m, fun _ => 0, ρ⟩ fun r => ∀ c : Dev Cert.MergeIdeal.nD,
      r.2.mem ((c : Thread Cert.MergeIdeal.nD Cert.MergeIdeal.τ).loc Cert.MergeIdeal.main_v6_0) = arr_9 m c
      ∧ r.2.mem ((c : Thread Cert.MergeIdeal.nD Cert.MergeIdeal.τ).loc Cert.MergeIdeal.main_v6_1) = arr_10 m c
      ∧ r.2.mem ((c : Thread Cert.MergeIdeal.nD Cert.MergeIdeal.τ).loc Cert.MergeIdeal.main_v6_2) = arr_11 m c
      ∧ r.2.mem ((c : Thread Cert.MergeIdeal.nD Cert.MergeIdeal.τ).loc Cert.MergeIdeal.main_v6_3) = arr_12 m c
      ∧ r.2.mem ((c : Thread Cert.MergeIdeal.nD Cert.MergeIdeal.τ).loc Cert.MergeIdeal.main_v6_4) = arr_13 m c
      ∧ r.2.mem ((c : Thread Cert.MergeIdeal.nD Cert.MergeIdeal.τ).loc Cert.MergeIdeal.main_v6_5) = arr_14 m c
      ∧ r.2.mem ((c : Thread Cert.MergeIdeal.nD Cert.MergeIdeal.τ).loc Cert.MergeIdeal.main_v6_6) = arr_15 m c
      ∧ r.2.mem ((c : Thread Cert.MergeIdeal.nD Cert.MergeIdeal.τ).loc Cert.MergeIdeal.main_v6_7) = arr_16 m c
      ∧ r.2.mem ((c : Thread Cert.MergeIdeal.nD Cert.MergeIdeal.τ).loc Cert.MergeIdeal.main_arg0) = m ((c : Thread Cert.MergeIdeal.nD Cert.MergeIdeal.τ).loc Cert.MergeIdeal.main_arg0)
      ∧ r.2.mem ((c : Thread Cert.MergeIdeal.nD Cert.MergeIdeal.τ).loc Cert.MergeIdeal.main_arg1) = m ((c : Thread Cert.MergeIdeal.nD Cert.MergeIdeal.τ).loc Cert.MergeIdeal.main_arg1)
      ∧ r.2.mem ((c : Thread Cert.MergeIdeal.nD Cert.MergeIdeal.τ).loc Cert.MergeIdeal.main_arg2) = m ((c : Thread Cert.MergeIdeal.nD Cert.MergeIdeal.τ).loc Cert.MergeIdeal.main_arg2)
      ∧ r.2.mem ((c : Thread Cert.MergeIdeal.nD Cert.MergeIdeal.τ).loc Cert.MergeIdeal.main_arg3) = m ((c : Thread Cert.MergeIdeal.nD Cert.MergeIdeal.τ).loc Cert.MergeIdeal.main_arg3)
      ∧ r.2.mem ((c : Thread Cert.MergeIdeal.nD Cert.MergeIdeal.τ).loc Cert.MergeIdeal.main_arg4) = m ((c : Thread Cert.MergeIdeal.nD Cert.MergeIdeal.τ).loc Cert.MergeIdeal.main_arg4)
      ∧ r.2.mem ((c : Thread Cert.MergeIdeal.nD Cert.MergeIdeal.τ).loc Cert.MergeIdeal.main_arg5) = m ((c : Thread Cert.MergeIdeal.nD Cert.MergeIdeal.τ).loc Cert.MergeIdeal.main_arg5)
      ∧ r.2.mem ((c : Thread Cert.MergeIdeal.nD Cert.MergeIdeal.τ).loc Cert.MergeIdeal.main_arg6) = m ((c : Thread Cert.MergeIdeal.nD Cert.MergeIdeal.τ).loc Cert.MergeIdeal.main_arg6)
      ∧ r.2.mem ((c : Thread Cert.MergeIdeal.nD Cert.MergeIdeal.τ).loc Cert.MergeIdeal.main_arg7) = m ((c : Thread Cert.MergeIdeal.nD Cert.MergeIdeal.τ).loc Cert.MergeIdeal.main_arg7)
      ∧ r.2.mem ((c : Thread Cert.MergeIdeal.nD Cert.MergeIdeal.τ).loc Cert.MergeIdeal.main_arg8) = m ((c : Thread Cert.MergeIdeal.nD Cert.MergeIdeal.τ).loc Cert.MergeIdeal.main_arg8) :=
  (θ_run Cert.MergeIdeal.defs _ _).mono (fun _ h c => ⟨(h c).1.trans (final_9 m c), (h c).2.1.trans (final_10 m c), (h c).2.2.1.trans (final_11 m c), (h c).2.2.2.1.trans (final_12 m c), (h c).2.2.2.2.1.trans (final_13 m c), (h c).2.2.2.2.2.1.trans (final_14 m c), (h c).2.2.2.2.2.2.1.trans (final_15 m c), (h c).2.2.2.2.2.2.2.1.trans (final_16 m c), (h c).2.2.2.2.2.2.2.2⟩)
    (Cert.MergeIdeal.Value.run_blocks m ρ)

theorem algebraic : Cert.algebraic_MergeIdeal_MergeRefIdeal := by
  intro m ρ m' ρ' _ hagree
  refine ⟨fun c => arr_9 m c, fun c => arr_10 m c, fun c => arr_11 m c, fun c => arr_12 m c, fun c => arr_13 m c, fun c => arr_14 m c, fun c => arr_15 m c, fun c => arr_16 m c, run_val m ρ, ?_⟩
  refine (θ_run Cert.MergeRefIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩)
    (Cert.MergeRefIdeal.Value.run (F := Ideal) m' ρ')
  · rw [Cert.MergeRefIdeal.Read.val_main_v49_eq, (hagree c).1, (hagree c).2.2.2.2.1, (hagree c).2.2.2.2.2.1]
    exact val_9 m c
  · rw [Cert.MergeRefIdeal.Read.val_main_v50_eq, (hagree c).1, (hagree c).2.2.2.2.1, (hagree c).2.2.2.2.2.1]
    exact val_10 m c
  · rw [Cert.MergeRefIdeal.Read.val_main_v51_eq, (hagree c).1, (hagree c).2.2.2.2.1, (hagree c).2.2.2.2.2.1]
    exact val_11 m c
  · rw [Cert.MergeRefIdeal.Read.val_main_v52_eq, (hagree c).1, (hagree c).2.2.2.2.1, (hagree c).2.2.2.2.2.1, (hagree c).2.2.2.2.2.2.1]
    exact val_12 m c
  · rw [Cert.MergeRefIdeal.Read.val_main_v53_eq, (hagree c).1, (hagree c).2.2.2.2.1, (hagree c).2.2.2.2.2.1, (hagree c).2.2.2.2.2.2.2.1]
    exact val_13 m c
  · rw [Cert.MergeRefIdeal.Read.val_main_v54_eq, (hagree c).1, (hagree c).2.2.2.2.1, (hagree c).2.2.2.2.2.1, (hagree c).2.2.2.2.2.2.2.2]
    exact val_14 m c
  · rw [Cert.MergeRefIdeal.Read.val_main_v55_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact val_15 m c
  · rw [Cert.MergeRefIdeal.Read.val_main_v45_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact val_16 m c

end Cert.Proof.Merge

end
-- ==== Proof.Act.Arrays.lean ====
module

public import proofs.«01_k».proof.Proof.Gen.ActIdeal.Frame
public import proofs.«01_k».proof.Proof.Index
public import Idealize.ShloMosaic.Lib.MatmulPlain
public import Idealize.ShloMosaic.Lib.Pipeline.Value
public import Idealize.ShloMosaic.Lib.ValueLayout
public import Idealize.ShloMosaic.Lib.Tactic
public import Idealize.ShloMosaic.PureOps.Ideal.Laws

/-! The squared ReLU's two calls: the arrays that they write, as functions of the arguments. The first
call leaves relu(x·w) and its square, the second du·vᵀ times twice the ReLU. -/

@[expose] public section

set_option maxRecDepth 16384

noncomputable section

namespace Cert.ActIdeal.Val

open Idealize.ShloMosaic Idealize.ShloMosaic.TcCoe Idealize.ShloMosaic.Tactic Idealize.SL.Sem Cert.ActIdeal.Gen Cert.ActIdeal.Facts
open Idealize.ShloMosaic.ValueIdx Cert.Proof
open Idealize.ShloMosaic.Pipeline (Dat)

/-- The start of a rectangle that begins at the origin. -/
theorem hz2 : (![0, 0] : Fin 2 → ℕ) = 0 := by decide

/-! ### The blocks, element by element -/

variable (x w v : S1024x1024.Idx → EReal) (r j : Fin 1024)

theorem relu_apply : k0_pay1 (F := Ideal) x w (ix2 r j) = max (∑ k : Fin 1024, x (ix2 r k) * w (ix2 k j)) 0 := by
  unfold k0_pay1
  rw [shapeCast_self, shapeCast_self]
  show max (matmul (F := Ideal) dot_S1024x1024_S1024x1024_S1024x1024_1_0_0_1_n_n none x w _ (ix2 r j)) (Ideal.ofBits .f32 0x00000000#32) = _
  refine congrArg₂ max ((Ideal.matmul_plain_apply none _ _ _ r j).trans ?_) Ideal.ofBits_zero_f32
  show (Ideal.ofBits .f32 0x00000000#32 : EReal) + _ = _
  rw [Ideal.ofBits_zero_f32, zero_add]

theorem out0_2_apply : out0_2 (F := Ideal) x w (ix2 r j)
    = max (∑ k : Fin 1024, x (ix2 r k) * w (ix2 k j)) 0 * max (∑ k : Fin 1024, x (ix2 r k) * w (ix2 k j)) 0 := by
  rw [← relu_apply]
  unfold out0_2
  rw [View.canon_unit_zero (S := S1024x1024) hz2, View.ld_unit_zero (S := S1024x1024) hz2, View.ld_unit_zero (S := S1024x1024) hz2]
  rfl

theorem out0_3_apply : out0_3 (F := Ideal) x w (ix2 r j) = max (∑ k : Fin 1024, x (ix2 r k) * w (ix2 k j)) 0 := by
  rw [← relu_apply]
  unfold out0_3
  rw [View.canon_unit_zero (S := S1024x1024) hz2, View.ld_unit_zero (S := S1024x1024) hz2, View.ld_unit_zero (S := S1024x1024) hz2]
  rfl

theorem out1_3_apply : out1_3 (F := Ideal) x w v (ix2 r j)
    = (∑ k : Fin 1024, x (ix2 r k) * w (ix2 j k)) * (Ideal.ofBits .f32 0x40000000#32 * v (ix2 r j)) := by
  unfold out1_3
  rw [View.canon_unit_zero (S := S1024x1024) hz2, View.ld_unit_zero (S := S1024x1024) hz2, View.ld_unit_zero (S := S1024x1024) hz2,
    View.ld_unit_zero (S := S1024x1024) hz2]
  unfold k1_pay1
  rw [shapeCast_self, shapeCast_self, shapeCast_self]
  show (matmul (F := Ideal) dot_S1024x1024_S1024x1024_S1024x1024_1_1_0_0_n_n none x w _ (ix2 r j)) * (Ideal.ofBits .f32 0x40000000#32 * v (ix2 r j)) = _
  refine congrArg (· * (Ideal.ofBits .f32 0x40000000#32 * v (ix2 r j))) ((Ideal.matmul_transposedRhs_apply (φ₂ := .bf16) none _ _ _ r j).trans ?_)
  show (Ideal.ofBits .f32 0x00000000#32 : EReal) + _ = _
  rw [Ideal.ofBits_zero_f32, zero_add]

end Cert.ActIdeal.Val

namespace Cert.ActIdeal.Val

open Idealize.ShloMosaic Idealize.ShloMosaic.TcCoe Idealize.ShloMosaic.Tactic Idealize.SL.Sem Cert.ActIdeal.Gen Cert.ActIdeal.Facts
open Idealize.ShloMosaic.ValueIdx Cert.Proof
open Idealize.ShloMosaic.Pipeline (Dat)

/-! ### Where the blocks lie: point `n` of the grid is row block `n / 4`, column block `n % 4` -/

/-- A row of the array, from the block's row. -/
def row (n : ℕ) (hn : n < 32) (r : Fin 1024) : Fin 8192 := ⟨n / 4 * 1024 + r.val, by have := r.isLt; omega⟩
/-- A column of the array, from the block's column. -/
def col (n : ℕ) (hn : n < 32) (j : Fin 1024) : Fin 4096 := ⟨n % 4 * 1024 + j.val, by have := j.isLt; omega⟩

theorem ix0_0 : ∀ t : Fin cfg0.N, win0_0.index t (0 : Fin 2) = t.val / 4 ∧ win0_0.index t (1 : Fin 2) = 0 := (by decide +kernel : ∀ t : Fin grid0.N, _)
theorem ix0_1 : ∀ t : Fin cfg0.N, win0_1.index t (0 : Fin 2) = 0 ∧ win0_1.index t (1 : Fin 2) = t.val % 4 := (by decide +kernel : ∀ t : Fin grid0.N, _)
theorem ix0_2 : ∀ t : Fin cfg0.N, win0_2.index t (0 : Fin 2) = t.val / 4 ∧ win0_2.index t (1 : Fin 2) = t.val % 4 := (by decide +kernel : ∀ t : Fin grid0.N, _)
theorem ix0_3 : ∀ t : Fin cfg0.N, win0_3.index t (0 : Fin 2) = t.val / 4 ∧ win0_3.index t (1 : Fin 2) = t.val % 4 := (by decide +kernel : ∀ t : Fin grid0.N, _)
theorem ix1_0 : ∀ t : Fin cfg1.N, win1_0.index t (0 : Fin 2) = t.val / 4 ∧ win1_0.index t (1 : Fin 2) = 0 := (by decide +kernel : ∀ t : Fin grid1.N, _)
theorem ix1_1 : ∀ t : Fin cfg1.N, win1_1.index t (0 : Fin 2) = t.val % 4 ∧ win1_1.index t (1 : Fin 2) = 0 := (by decide +kernel : ∀ t : Fin grid1.N, _)
theorem ix1_2 : ∀ t : Fin cfg1.N, win1_2.index t (0 : Fin 2) = t.val / 4 ∧ win1_2.index t (1 : Fin 2) = t.val % 4 := (by decide +kernel : ∀ t : Fin grid1.N, _)
theorem ix1_3 : ∀ t : Fin cfg1.N, win1_3.index t (0 : Fin 2) = t.val / 4 ∧ win1_3.index t (1 : Fin 2) = t.val % 4 := (by decide +kernel : ∀ t : Fin grid1.N, _)

theorem emb0_0 (n : ℕ) (hn : n < 32) (r k : Fin 1024) : ((cfg0.win 0).blk ⟨n, hn⟩).view.emb (ix2 r k) = ix2 (row n hn r) k :=
  ix2_blk (ix0_0 ⟨n, hn⟩) rfl rfl rfl (show k.val = 0 * 1024 + k.val by omega)

theorem emb0_1 (n : ℕ) (hn : n < 32) (r k : Fin 1024) : ((cfg0.win 1).blk ⟨n, hn⟩).view.emb (ix2 r k) = ix2 r (col n hn k) :=
  ix2_blk (ix0_1 ⟨n, hn⟩) rfl rfl (show r.val = 0 * 1024 + r.val by omega) rfl

theorem emb0_2 (n : ℕ) (hn : n < 32) (r k : Fin 1024) : ((cfg0.win 2).blk ⟨n, hn⟩).view.emb (ix2 r k) = ix2 (row n hn r) (col n hn k) :=
  ix2_blk (ix0_2 ⟨n, hn⟩) rfl rfl rfl rfl

theorem emb0_3 (n : ℕ) (hn : n < 32) (r k : Fin 1024) : ((cfg0.win 3).blk ⟨n, hn⟩).view.emb (ix2 r k) = ix2 (row n hn r) (col n hn k) :=
  ix2_blk (ix0_3 ⟨n, hn⟩) rfl rfl rfl rfl

theorem emb1_0 (n : ℕ) (hn : n < 32) (r k : Fin 1024) : ((cfg1.win 0).blk ⟨n, hn⟩).view.emb (ix2 r k) = ix2 (row n hn r) k :=
  ix2_blk (ix1_0 ⟨n, hn⟩) rfl rfl rfl (show k.val = 0 * 1024 + k.val by omega)

theorem emb1_1 (n : ℕ) (hn : n < 32) (r k : Fin 1024) : ((cfg1.win 1).blk ⟨n, hn⟩).view.emb (ix2 r k) = ix2 (col n hn r) k :=
  ix2_blk (ix1_1 ⟨n, hn⟩) rfl rfl rfl (show k.val = 0 * 1024 + k.val by omega)

theorem emb1_2 (n : ℕ) (hn : n < 32) (r k : Fin 1024) : ((cfg1.win 2).blk ⟨n, hn⟩).view.emb (ix2 r k) = ix2 (row n hn r) (col n hn k) :=
  ix2_blk (ix1_2 ⟨n, hn⟩) rfl rfl rfl rfl

theorem emb1_3 (n : ℕ) (hn : n < 32) (r k : Fin 1024) : ((cfg1.win 3).blk ⟨n, hn⟩).view.emb (ix2 r k) = ix2 (row n hn r) (col n hn k) :=
  ix2_blk (ix1_3 ⟨n, hn⟩) rfl rfl rfl rfl

variable (m : (ℓ : Loc nD τ sig) → Buf (Elt Ideal) ℓ) (ρ : Dev nD → PrngReg)

/-- The arguments. -/
def aX (c : Dev nD) : S8192x1024.Idx → EReal := m ((c : Thread nD τ).loc main_arg0)
def aU (c : Dev nD) : S1024x4096.Idx → EReal := m ((c : Thread nD τ).loc main_arg1)
def aD (c : Dev nD) : S4096x1024.Idx → EReal := m ((c : Thread nD τ).loc main_arg2)
def aC (c : Dev nD) : S8192x1024.Idx → EReal := m ((c : Thread nD τ).loc main_arg3)

/-- The ReLU of x·w. -/
def relu (c : Dev nD) (r : Fin 8192) (j : Fin 4096) : EReal := max (∑ k : Fin 1024, aX m c (ix2 r k) * aU m c (ix2 k j)) 0
/-- The three arrays. -/
def arr_f (c : Dev nD) : Buf (Elt Ideal) ((c : Thread nD τ).loc main_v2_0) := fun i => (relu m c (i 0) (i 1) * relu m c (i 0) (i 1) : EReal)
def arr_r (c : Dev nD) : Buf (Elt Ideal) ((c : Thread nD τ).loc main_v2_1) := fun i => (relu m c (i 0) (i 1) : EReal)
def arr_d (c : Dev nD) : Buf (Elt Ideal) ((c : Thread nD τ).loc main_v5) := fun i =>
  ((∑ k : Fin 1024, aC m c (ix2 (i 0) k) * aD m c (ix2 (i 1) k)) * (Ideal.ofBits .f32 0x40000000#32 * relu m c (i 0) (i 1)) : EReal)

/-! ### What the calls read -/

theorem V1_x (c : Dev nD) : V1 m ρ c (Pipeline.arrRef spec0 0) = aX m c := by
  show StableHlo.after hostOps0 _ _ = _; after_results; rfl

theorem V1_u (c : Dev nD) : V1 m ρ c (Pipeline.arrRef spec0 1) = aU m c := by
  show StableHlo.after hostOps0 _ _ = _; after_results; rfl

/-- The point whose block holds a place. -/
theorem point_of (a b : ℕ) (ha : a < 8192) (hb : b < 4096) : ∃ t : Fin 32, t.val / 4 = a / 1024 ∧ t.val % 4 = b / 1024 :=
  ⟨⟨a / 1024 * 4 + b / 1024, by omega⟩, by dsimp only; omega, by dsimp only; omega⟩

theorem x_blk (c : Dev nD) (n : ℕ) (hn : n < 32) (r k : Fin 1024) : iblk0 (V1 m ρ) c 0 ⟨n, hn⟩ (ix2 r k) = aX m c (ix2 (row n hn r) k) :=
  (congrArg (V1 m ρ c (Pipeline.arrRef spec0 0)) (emb0_0 n hn r k)).trans (congrFun (V1_x m ρ c) _)

theorem u_blk (c : Dev nD) (n : ℕ) (hn : n < 32) (k j : Fin 1024) : iblk0 (V1 m ρ) c 1 ⟨n, hn⟩ (ix2 k j) = aU m c (ix2 k (col n hn j)) :=
  (congrArg (V1 m ρ c (Pipeline.arrRef spec0 1)) (emb0_1 n hn k j)).trans (congrFun (V1_u m ρ c) _)

theorem relu_of (c : Dev nD) (x w : S1024x1024.Idx → EReal) (n : ℕ) (hn : n < 32) (hx : ∀ r k, x (ix2 r k) = aX m c (ix2 (row n hn r) k))
    (hw : ∀ k j, w (ix2 k j) = aU m c (ix2 k (col n hn j))) (r j : Fin 1024) :
    max (∑ k : Fin 1024, x (ix2 r k) * w (ix2 k j)) 0 = relu m c (row n hn r) (col n hn j) := by
  unfold relu
  refine congrArg (max · (0 : EReal)) (Finset.sum_congr rfl fun k _ => ?_)
  rw [hx, hw]

theorem final_f (c : Dev nD) : (dat0 (V1 m ρ) c).arrAt 2 cfg0.N = arr_f m c := by
  refine (dat0 (V1 m ρ) c).arrAt_eq_of_cover 2 (arr_f m c) (fun t _ => ?_) fun i => ?_
  · show (cfg0.win 2).cut (grid0.coords t) ((dat0 (V1 m ρ) c).after 2 t) = _
    rw [after0_2]
    funext y
    obtain ⟨r, k, rfl⟩ : ∃ (r : Fin 1024) (k : Fin 1024), y = ix2 r k := ⟨y 0, y 1, eq_ix2 y⟩
    refine Eq.trans ?_ (congrArg (arr_f m c) (emb0_2 t.val t.isLt r k)).symm
    refine (out0_2_apply _ _ r k).trans ?_
    rw [relu_of m c _ _ t.val t.isLt (x_blk m ρ c t.val t.isLt) (u_blk m ρ c t.val t.isLt) r k]
    rfl
  · obtain ⟨t, h, h'⟩ := point_of (i 0).val (i 1).val (i 0).isLt (i 1).isLt
    obtain ⟨e0, e1⟩ := ix0_2 t
    refine ⟨t, flush0_2 t, ?_⟩
    show i ∈ ((View.whole (Pipeline.arrRef spec0 2)).slice (win0_2.rect t)).set
    rw [View.set_slice_whole, Rect.mem_set_unit]
    exact cover_blk 1024 1024 ⟨e0, e1⟩ rfl rfl rfl rfl (a := (i 0).val) rfl (b := (i 1).val) rfl (by omega) (by omega)

theorem final_r (c : Dev nD) : (dat0 (V1 m ρ) c).arrAt 3 cfg0.N = arr_r m c := by
  refine (dat0 (V1 m ρ) c).arrAt_eq_of_cover 3 (arr_r m c) (fun t _ => ?_) fun i => ?_
  · show (cfg0.win 3).cut (grid0.coords t) ((dat0 (V1 m ρ) c).after 3 t) = _
    rw [after0_3]
    funext y
    obtain ⟨r, k, rfl⟩ : ∃ (r : Fin 1024) (k : Fin 1024), y = ix2 r k := ⟨y 0, y 1, eq_ix2 y⟩
    refine Eq.trans ?_ (congrArg (arr_r m c) (emb0_3 t.val t.isLt r k)).symm
    refine (out0_3_apply _ _ r k).trans ?_
    rw [relu_of m c _ _ t.val t.isLt (x_blk m ρ c t.val t.isLt) (u_blk m ρ c t.val t.isLt) r k]
    rfl
  · obtain ⟨t, h, h'⟩ := point_of (i 0).val (i 1).val (i 0).isLt (i 1).isLt
    obtain ⟨e0, e1⟩ := ix0_3 t
    refine ⟨t, flush0_3 t, ?_⟩
    show i ∈ ((View.whole (Pipeline.arrRef spec0 3)).slice (win0_3.rect t)).set
    rw [View.set_slice_whole, Rect.mem_set_unit]
    exact cover_blk 1024 1024 ⟨e0, e1⟩ rfl rfl rfl rfl (a := (i 0).val) rfl (b := (i 1).val) rfl (by omega) (by omega)

theorem V3_c (c : Dev nD) : V3 m ρ c (Pipeline.arrRef spec1 0) = aC m c := by
  have e : W2 m ρ c (Proc.devRef .tc main_arg3) = m ((c : Thread nD τ).loc main_arg3) := W2_args m ρ c main_arg3 (by decide)
  show StableHlo.after hostOps1 _ _ = _; after_results; rw [e]; rfl

theorem V3_d (c : Dev nD) : V3 m ρ c (Pipeline.arrRef spec1 1) = aD m c := by
  have e : W2 m ρ c (Proc.devRef .tc main_arg2) = m ((c : Thread nD τ).loc main_arg2) := W2_args m ρ c main_arg2 (by decide)
  show StableHlo.after hostOps1 _ _ = _; after_results; rw [e]; rfl

theorem V3_r (c : Dev nD) : V3 m ρ c (Pipeline.arrRef spec1 2) = arr_r m c :=
  ((W3_of m ρ c main_v2_1 (by decide)).trans (W2_arr m ρ c 3)).trans (final_r m ρ c)

theorem c_blk (c : Dev nD) (n : ℕ) (hn : n < 32) (r k : Fin 1024) : iblk1 (V3 m ρ) c 0 ⟨n, hn⟩ (ix2 r k) = aC m c (ix2 (row n hn r) k) :=
  (congrArg (V3 m ρ c (Pipeline.arrRef spec1 0)) (emb1_0 n hn r k)).trans (congrFun (V3_c m ρ c) _)

theorem d_blk (c : Dev nD) (n : ℕ) (hn : n < 32) (j k : Fin 1024) : iblk1 (V3 m ρ) c 1 ⟨n, hn⟩ (ix2 j k) = aD m c (ix2 (col n hn j) k) :=
  (congrArg (V3 m ρ c (Pipeline.arrRef spec1 1)) (emb1_1 n hn j k)).trans (congrFun (V3_d m ρ c) _)

theorem r_blk (c : Dev nD) (n : ℕ) (hn : n < 32) (r j : Fin 1024) : iblk1 (V3 m ρ) c 2 ⟨n, hn⟩ (ix2 r j) = relu m c (row n hn r) (col n hn j) :=
  (congrArg (V3 m ρ c (Pipeline.arrRef spec1 2)) (emb1_2 n hn r j)).trans (congrFun (V3_r m ρ c) _)

theorem final_d (c : Dev nD) : (dat1 (V3 m ρ) c).arrAt 3 cfg1.N = arr_d m c := by
  refine (dat1 (V3 m ρ) c).arrAt_eq_of_cover 3 (arr_d m c) (fun t _ => ?_) fun i => ?_
  · show (cfg1.win 3).cut (grid1.coords t) ((dat1 (V3 m ρ) c).after 3 t) = _
    rw [after1_3]
    funext y
    obtain ⟨r, k, rfl⟩ : ∃ (r : Fin 1024) (k : Fin 1024), y = ix2 r k := ⟨y 0, y 1, eq_ix2 y⟩
    refine Eq.trans ?_ (congrArg (arr_d m c) (emb1_3 t.val t.isLt r k)).symm
    refine (out1_3_apply _ _ _ r k).trans ?_
    refine congrArg₂ (fun a b : EReal => a * (Ideal.ofBits .f32 0x40000000#32 * b)) (Finset.sum_congr rfl fun q _ => ?_) (r_blk m ρ c t.val t.isLt r k)
    exact congrArg₂ (fun a b : EReal => a * b) (c_blk m ρ c t.val t.isLt r q) (d_blk m ρ c t.val t.isLt k q)
  · obtain ⟨t, h, h'⟩ := point_of (i 0).val (i 1).val (i 0).isLt (i 1).isLt
    obtain ⟨e0, e1⟩ := ix1_3 t
    refine ⟨t, flush1_3 t, ?_⟩
    show i ∈ ((View.whole (Pipeline.arrRef spec1 3)).slice (win1_3.rect t)).set
    rw [View.set_slice_whole, Rect.mem_set_unit]
    exact cover_blk 1024 1024 ⟨e0, e1⟩ rfl rfl rfl rfl (a := (i 0).val) rfl (b := (i 1).val) rfl (by omega) (by omega)

/-! ### The buffers after both calls -/

theorem end_f (c : Dev nD) : W4 m ρ c (Proc.devRef .tc main_v2_0) = arr_f m c :=
  (W4_of_ne m ρ c main_v2_0 (by decide)).trans
    (((W3_of m ρ c main_v2_0 (by decide)).trans (W2_arr m ρ c 2)).trans (final_f m ρ c))

theorem end_d (c : Dev nD) : W4 m ρ c (Proc.devRef .tc main_v5) = arr_d m c :=
  (W4_arr m ρ c 3).trans (final_d m ρ c)

end Cert.ActIdeal.Val

end
-- ==== Proof.Act.Run.lean ====
module

public import proofs.«01_k».proof.Proof.Gen.ActIdeal.Frame
public import Idealize.ShloMosaic.PureOps.Ideal.Laws

/-! The squared ReLU's two calls, one after the other: the run ends with every buffer at what the calls
leave in it. -/

@[expose] public section

set_option maxRecDepth 16384

noncomputable section

namespace Cert.ActIdeal.Val

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds Cert.ActIdeal.Gen

variable (m : (ℓ : Loc nD τ sig) → Buf (Elt Ideal) ℓ) (ρ : Dev nD → PrngReg)

/-- Every buffer of the TensorCore at the end of the run is what the two calls leave in it. -/
theorem run_end : θ_run defs (onTc (τ := τ) (main (F := Ideal))) ⟨m, fun _ => 0, ρ⟩ fun r => ∀ c : Dev nD,
    ∀ b ∈ Pipeline.ucRefs τ sig, r.2.mem (((c : Thread nD τ)).1, b) = W4 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
          ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

end Cert.ActIdeal.Val

end
-- ==== Proof.Act.Claims.lean ====
module

public import proofs.«01_k».proof.Proof.Act.Arrays
public import proofs.«01_k».proof.Proof.Act.Run
public import proofs.«01_k».proof.Proof.Gen.ActRefIdeal.Run
public import proofs.«01_k».proof.Proof.Gen.ActRefIdeal.Read
public import proofs.«01_k».proof.Defs

/-! The squared ReLU: what the reference computes is what the two calls leave. Where the ReLU is zero
the reference's derivative takes zero, the kernel the product with zero. -/

@[expose] public section

set_option maxRecDepth 16384

noncomputable section

namespace Cert.ActIdeal.Val

open Idealize.ShloMosaic Idealize.ShloMosaic.TcCoe Idealize.ShloMosaic.Tactic Idealize.SL.Sem Cert.ActIdeal.Gen
open Idealize.ShloMosaic.ValueIdx Cert.Proof Cert.ActRefIdeal.Read

section Reference

variable (x0 : S8192x1024.Idx → EReal) (x1 : S1024x4096.Idx → EReal) (x2 : S4096x1024.Idx → EReal) (x3 : S8192x1024.Idx → EReal)
  (r : Fin 8192) (j : Fin 4096)

theorem up_ref : val_main_v0 (F := Ideal) x0 x1 (ix2 r j) = ∑ k : Fin 1024, x0 (ix2 r k) * x1 (ix2 k j) := by
  rw [val_main_v0_apply]
  refine Finset.sum_congr rfl fun k _ => ?_
  rw [show lidx_main_v0 (ix2 r j) k = ix2 r k from ix2_of rfl rfl, show ridx_main_v0 (ix2 r j) k = ix2 k j from ix2_of rfl rfl]

theorem up_ref' : val_main_v3 (F := Ideal) x0 x1 (ix2 r j) = ∑ k : Fin 1024, x0 (ix2 r k) * x1 (ix2 k j) := up_ref x0 x1 r j

theorem relu_ref : val_main_v1 (F := Ideal) x0 x1 (ix2 r j) = max (∑ k : Fin 1024, x0 (ix2 r k) * x1 (ix2 k j)) 0 := by
  rw [val_main_v1_apply, up_ref, val_main_call0_v0_apply, val_main_call0_cst_apply]
  exact congrArg (max _) Ideal.ofBits_zero_f32

theorem f_ref : val_main_v16 (F := Ideal) x0 x1 (ix2 r j)
    = max (∑ k : Fin 1024, x0 (ix2 r k) * x1 (ix2 k j)) 0 * max (∑ k : Fin 1024, x0 (ix2 r k) * x1 (ix2 k j)) 0 := by
  rw [← relu_ref]; rfl

theorem down_ref : val_main_v12 (F := Ideal) x2 x3 (ix2 r j) = ∑ k : Fin 1024, x3 (ix2 r k) * x2 (ix2 j k) := by
  rw [val_main_v12_apply]
  refine Finset.sum_congr rfl fun k _ => ?_
  rw [show lidx_main_v12 (ix2 r j) k = ix2 r k from ix2_of rfl rfl, show ridx_main_v12 (ix2 r j) k = ix2 j k from ix2_of rfl rfl]

/-- Zero where `h` isn't positive is what the product with the ReLU gives by itself. -/
theorem masked (h g t : EReal) : Scalar.select (Ideal.cmp .ogt h 0) (g * (t * max h 0)) 0 = g * (t * max h 0) := by
  unfold Scalar.select Ideal.cmp
  by_cases hp : 0 < h
  · simp [hp]
  · rw [max_eq_right (not_lt.mp hp), mul_zero, mul_zero, ite_self]

theorem d_ref : val_main_v17 (F := Ideal) x0 x1 x2 x3 (ix2 r j)
    = (∑ k : Fin 1024, x3 (ix2 r k) * x2 (ix2 j k)) * (Ideal.ofBits .f32 0x40000000#32 * max (∑ k : Fin 1024, x0 (ix2 r k) * x1 (ix2 k j)) 0) := by
  have e : val_main_v17 (F := Ideal) x0 x1 x2 x3 (ix2 r j)
      = Scalar.select (Ideal.cmp .ogt (val_main_v3 (F := Ideal) x0 x1 (ix2 r j)) (Ideal.ofBits .f32 0x00000000#32))
        (val_main_v12 (F := Ideal) x2 x3 (ix2 r j) * (Ideal.ofBits .f32 0x40000000#32 * val_main_v1 (F := Ideal) x0 x1 (ix2 r j)) : EReal)
        (Ideal.ofBits .f32 0x00000000#32 : EReal) := rfl
  rw [e, up_ref', down_ref, relu_ref, Ideal.ofBits_zero_f32, masked]

end Reference

variable (m : (ℓ : Loc nD τ sig) → Buf (Elt Ideal) ℓ) (ρ : Dev nD → PrngReg)

theorem val_f (c : Dev nD) : val_main_v16 (F := Ideal) (m ((c : Thread nD τ).loc main_arg0)) (m ((c : Thread nD τ).loc main_arg1)) = arr_f m c := by
  funext i
  obtain ⟨r, j, rfl⟩ : ∃ (r : Fin 8192) (j : Fin 4096), i = ix2 r j := ⟨i 0, i 1, eq_ix2 i⟩
  exact f_ref _ _ r j

theorem val_d (c : Dev nD) : val_main_v17 (F := Ideal) (m ((c : Thread nD τ).loc main_arg0)) (m ((c : Thread nD τ).loc main_arg1))
    (m ((c : Thread nD τ).loc main_arg2)) (m ((c : Thread nD τ).loc main_arg3)) = arr_d m c := by
  funext i
  obtain ⟨r, j, rfl⟩ : ∃ (r : Fin 8192) (j : Fin 4096), i = ix2 r j := ⟨i 0, i 1, eq_ix2 i⟩
  exact d_ref _ _ _ _ r j

end Cert.ActIdeal.Val

namespace Cert.Proof.Act

open Idealize.ShloMosaic Idealize.ShloMosaic.TcCoe Idealize.SL.Sem Cert.ActIdeal.Val

theorem frame_ref : Cert.quiescent_ActRefIdeal := fun m ρ _ =>
  (θ_run Cert.ActRefIdeal.defs _ _).mono (fun r h => ⟨fun c => (h c).2.2, sem_eq_zero_of_no_sems (by decide) r.2⟩)
    (Cert.ActRefIdeal.Value.run (F := Ideal) m ρ)

theorem algebraic : Cert.algebraic_ActIdeal_ActRefIdeal := by
  intro m ρ m' ρ' _ hagree
  refine ⟨fun c => arr_f m c, fun c => arr_d m c, ?_, ?_⟩
  · refine (θ_run Cert.ActIdeal.defs _ _).mono (fun _ h c => ⟨?_, ?_, ?_, ?_, ?_, ?_⟩) (run_end m ρ)
    · exact (h c _ (Cert.ActIdeal.Gen.mem_uc Cert.ActIdeal.main_v2_0 (by decide))).trans (end_f m ρ c)
    · exact (h c _ (Cert.ActIdeal.Gen.mem_uc Cert.ActIdeal.main_v5 (by decide))).trans (end_d m ρ c)
    · exact (h c _ (Cert.ActIdeal.Gen.mem_uc Cert.ActIdeal.main_arg0 (by decide))).trans (Cert.ActIdeal.Gen.W4_main_arg0 m ρ c)
    · exact (h c _ (Cert.ActIdeal.Gen.mem_uc Cert.ActIdeal.main_arg1 (by decide))).trans (Cert.ActIdeal.Gen.W4_main_arg1 m ρ c)
    · exact (h c _ (Cert.ActIdeal.Gen.mem_uc Cert.ActIdeal.main_arg2 (by decide))).trans (Cert.ActIdeal.Gen.W4_main_arg2 m ρ c)
    · exact (h c _ (Cert.ActIdeal.Gen.mem_uc Cert.ActIdeal.main_arg3 (by decide))).trans (Cert.ActIdeal.Gen.W4_main_arg3 m ρ c)
  · refine (θ_run Cert.ActRefIdeal.defs _ _).mono (fun _ h c => ⟨(h c).1.trans ?_, (h c).2.1.trans ?_, (h c).2.2⟩)
      (Cert.ActRefIdeal.Value.run (F := Ideal) m' ρ')
    · rw [Cert.ActRefIdeal.Read.val_main_v16_eq, (hagree c).1, (hagree c).2.1]
      exact val_f m c
    · rw [Cert.ActRefIdeal.Read.val_main_v17_eq, (hagree c).1, (hagree c).2.1, (hagree c).2.2.1, (hagree c).2.2.2]
      exact val_d m c

end Cert.Proof.Act

end
-- ==== Proof.Norm.Row.lean ====
module

public import proofs.«01_k».proof.Proof.Index
public import proofs.«01_k».proof.Proof.Reals
public import Idealize.ShloMosaic.Lib.ValueIdx
public import Idealize.ShloMosaic.Lib.ValueLayout
public import Idealize.ShloMosaic.Lib.ValueLayoutCasts
public import Idealize.ShloMosaic.Lib.KernelVsHost

/-! One row of a layer norm over the extended reals: its mean, its deviations, its reciprocal standard
deviation and its gradient; and the equation between the two ways to write the gradient. -/

@[expose] public section

noncomputable section

namespace Cert.Proof.Norm

open Idealize.ShloMosaic Idealize.ShloMosaic.ValueIdx Cert.Proof

/-- A row's mean. -/
def mean (u : Fin 1024 → EReal) : EReal := Ideal.div (∑ k, u k) (Ideal.ofBits .f32 0x44800000#32)
/-- A row's deviations from its mean. -/
def cen (u : Fin 1024 → EReal) (k : Fin 1024) : EReal := u k - mean u
/-- A row's variance, with the small number that the norm adds. -/
def vare (u : Fin 1024 → EReal) : EReal := mean (fun k => cen u k * cen u k) + Ideal.ofBits .f32 0x3727C5AC#32
/-- The reciprocal standard deviation. -/
def rstd (u : Fin 1024 → EReal) : EReal := Ideal.rsqrt (vare u)
/-- The normalised row. -/
def hat (u : Fin 1024 → EReal) (k : Fin 1024) : EReal := cen u k * rstd u
/-- The row's gradient as the kernel writes it, from the cotangent `d` of the normalised row, that row and the reciprocal
standard deviation. -/
def grad (d x : Fin 1024 → EReal) (s : EReal) (k : Fin 1024) : EReal := s * (d k - mean d - x k * mean fun k => d k * x k)
/-- The row's gradient as the derivative of mean, variance and reciprocal root writes it. -/
def grad' (d u : Fin 1024 → EReal) (k : Fin 1024) : EReal :=
  let s := rstd u
  let K := Ideal.div ((∑ j, cen u j * d j) * (Ideal.ofBits .f32 0xBF000000#32 * Ideal.div s (vare u))) (Ideal.ofBits .f32 0x44800000#32)
  d k * s + K * (Ideal.ofBits .f32 0x40000000#32 * cen u k)
    + Ideal.div ((∑ j, -(d j * s)) + ∑ j, -(K * (Ideal.ofBits .f32 0x40000000#32 * cen u j))) (Ideal.ofBits .f32 0x44800000#32)

/-! ### Over the reals -/

theorem lit_eps : ∃ e : ℝ, 0 < e ∧ Ideal.ofBits .f32 0x3727C5AC#32 = (e : EReal) := by
  refine ⟨_, ?_, by simp [Ideal.ofBits, Ideal.ieee]; rw [← EReal.coe_mul]⟩
  norm_num
theorem lit_neg_half : Ideal.ofBits .f32 0xBF000000#32 = ((-(1 / 2) : ℝ) : EReal) := by
  simp [Ideal.ofBits, Ideal.ieee]; rw [← EReal.coe_mul]; norm_num

theorem mean_real (u : Fin 1024 → EReal) (a : Fin 1024 → ℝ) (h : ∀ k, u k = (a k : EReal)) : mean u = (((∑ k, a k) / 1024 : ℝ) : EReal) := by
  unfold mean
  rw [sum_real u a h, lit_1024, ediv_coe _ _ (by norm_num)]

/-- The gradient's equation over the reals: the deviations `c` sum to zero and the reciprocal root's square is the reciprocal. -/
theorem real_grad (d c : Fin 1024 → ℝ) (s v : ℝ) (hv : v ≠ 0) (hc : ∑ k, c k = 0) (hs : s * s = 1 / v) (k : Fin 1024) :
    d k * s + (∑ j, c j * d j) * (-(1 / 2) * (s / v)) / 1024 * (2 * c k)
        + ((∑ j, -(d j * s)) + ∑ j, -((∑ j, c j * d j) * (-(1 / 2) * (s / v)) / 1024 * (2 * c j))) / 1024
      = s * (d k - (∑ j, d j) / 1024 - c k * s * ((∑ j, d j * (c j * s)) / 1024)) := by
  have e1 : ∑ j, -(d j * s) = -(∑ j, d j) * s := by rw [Finset.sum_neg_distrib, ← Finset.sum_mul, neg_mul]
  have e2 : ∀ K : ℝ, ∑ j, -(K * (2 * c j)) = 0 := fun K => by
    rw [Finset.sum_neg_distrib, ← Finset.mul_sum, ← Finset.mul_sum, hc]; ring
  have e3 : ∑ j, d j * (c j * s) = (∑ j, c j * d j) * s := by
    rw [Finset.sum_mul]; exact Finset.sum_congr rfl fun j _ => by ring
  have e4 : s / v = s * (s * s) := by rw [hs]; ring
  rw [e1, e2, e3, e4]
  ring

/-- For a real row and a real cotangent the two gradients are one. -/
theorem grad_eq (d u : Fin 1024 → EReal) (b a : Fin 1024 → ℝ) (hd : ∀ k, d k = (b k : EReal)) (hu : ∀ k, u k = (a k : EReal)) (k : Fin 1024) :
    grad' d u k = grad d (hat u) (rstd u) k := by
  obtain ⟨e, he, hee⟩ := lit_eps
  let c : Fin 1024 → ℝ := fun k => a k - (∑ k, a k) / 1024
  have hc : ∀ k, cen u k = (c k : EReal) := fun k => by
    unfold cen; rw [mean_real u a hu, hu, ← EReal.coe_sub]
  let v : ℝ := (∑ k, c k * c k) / 1024 + e
  have hv0 : 0 < v := by
    have : 0 ≤ ∑ k, c k * c k := Finset.sum_nonneg fun k _ => mul_self_nonneg _
    positivity
  have hv : vare u = (v : EReal) := by
    unfold vare
    rw [mean_real (fun k => cen u k * cen u k) (fun k => c k * c k) (fun k => by rw [hc, ← EReal.coe_mul]), hee, ← EReal.coe_add]
  let s : ℝ := (Real.sqrt v)⁻¹
  have hs : rstd u = (s : EReal) := by
    unfold rstd
    rw [hv, Ideal.rsqrt_coe, if_neg (not_lt.mpr hv0.le), if_neg hv0.ne']
  have hss : s * s = 1 / v := by
    show (Real.sqrt v)⁻¹ * (Real.sqrt v)⁻¹ = 1 / v
    rw [← mul_inv, Real.mul_self_sqrt hv0.le, one_div]
  have hc0 : ∑ k, c k = 0 := by
    show ∑ k : Fin 1024, (a k - (∑ k, a k) / 1024) = 0
    rw [Finset.sum_sub_distrib, Finset.sum_const, Finset.card_univ, Fintype.card_fin, nsmul_eq_mul]
    push_cast; ring
  have hx : ∀ k, hat u k = ((c k * s : ℝ) : EReal) := fun k => by unfold hat; rw [hc, hs, ← EReal.coe_mul]
  have eA : ∑ j, cen u j * d j = ((∑ j, c j * b j : ℝ) : EReal) := sum_real _ _ fun j => by rw [hc, hd, ← EReal.coe_mul]
  have eK : Ideal.div ((∑ j, cen u j * d j) * (Ideal.ofBits .f32 0xBF000000#32 * Ideal.div (rstd u) (vare u))) (Ideal.ofBits .f32 0x44800000#32)
      = (((∑ j, c j * b j) * (-(1 / 2) * (s / v)) / 1024 : ℝ) : EReal) := by
    rw [eA, hs, hv, lit_neg_half, ediv_coe _ _ hv0.ne', ← EReal.coe_mul, ← EReal.coe_mul, lit_1024, ediv_coe _ _ (by norm_num)]
  unfold grad' grad
  dsimp only
  rw [eK, hs, lit_two, mean_real d b hd, mean_real (fun k => d k * hat u k) (fun k => b k * (c k * s)) (fun k => by rw [hd, hx, ← EReal.coe_mul]),
    sum_real (fun j => -(d j * (s : EReal))) (fun j => -(b j * s)) (fun j => by rw [hd, ← EReal.coe_mul, ← EReal.coe_neg]),
    sum_real (fun j => -((((∑ j, c j * b j) * (-(1 / 2) * (s / v)) / 1024 : ℝ) : EReal) * (((2 : ℝ) : EReal) * cen u j)))
      (fun j => -((∑ j, c j * b j) * (-(1 / 2) * (s / v)) / 1024 * (2 * c j)))
      (fun j => by rw [hc, ← EReal.coe_mul, ← EReal.coe_mul, ← EReal.coe_neg]),
    lit_1024, ← EReal.coe_add, ediv_coe _ _ (by norm_num), hd, hc, hx, ← EReal.coe_mul, ← EReal.coe_mul, ← EReal.coe_mul, ← EReal.coe_add, ← EReal.coe_add,
    ← EReal.coe_mul, ← EReal.coe_sub, ← EReal.coe_sub, ← EReal.coe_mul]
  exact congrArg _ (real_grad b c s v hv0.ne' hc0 hss k)

/-! ### A block's column of row means -/

theorem col_mean {N : ℕ} (z : (⟨2, ![N, 1024]⟩ : Shape).Idx → EReal) (h : (⟨2, ![N, 1024]⟩ : Shape).Reduces [1] ⟨1, ![N]⟩)
    (hc : (⟨1, ![N]⟩ : Shape).ShapeCasts ⟨2, ![N, 1]⟩) (r : Fin N) (u : Fin 1) :
    divf (F := Ideal) (φ := .f32) (shapeCast ⟨2, ![N, 1]⟩ (multiReduction (F := Ideal) (φ := .f32) .add [1] ⟨1, ![N]⟩ z 0x00000000#32 h (.inl rfl) rfl) hc)
      (broadcast ⟨2, ![N, 1]⟩ (Ideal.ofBits .f32 0x44800000#32 : EReal)) (ix2 r u) = mean fun k => z (ix2 r k) := by
  show Ideal.div (shapeCast ⟨2, ![N, 1]⟩ _ hc (ix2 r u)) _ = _
  rw [ValueIdx.shapeCast_a_a1_apply]
  unfold mean
  refine congrArg (Ideal.div · _) ((Ideal.multiReduction_add_single _ _ _ _ _ _).trans (Finset.sum_congr rfl fun k _ => ?_))
  exact congrArg z (ix2_of rfl rfl)

end Cert.Proof.Norm

end
-- ==== Proof.Norm.Block.lean ====
module

public import proofs.«01_k».proof.Proof.Gen.NormIdeal.Frame
public import proofs.«01_k».proof.Proof.Norm.Row
public import Idealize.ShloMosaic.Lib.MatmulPlain
public import Idealize.ShloMosaic.Lib.Pipeline.Value
public import Idealize.ShloMosaic.Lib.Tactic
public import Idealize.ShloMosaic.PureOps.Ideal.Laws

/-! The norm's two calls, block by block: what one grid point of the forward call and one of the backward call leave in
their output blocks, element by element over the extended reals. -/

@[expose] public section

set_option maxRecDepth 16384

noncomputable section

namespace Cert.NormIdeal.Val

open Idealize.ShloMosaic Idealize.ShloMosaic.TcCoe Idealize.ShloMosaic.Tactic Idealize.SL.Sem Cert.NormIdeal.Gen Cert.NormIdeal.Facts
open Idealize.ShloMosaic.ValueIdx Cert.Proof Cert.Proof.Norm

/-- The start of a rectangle that begins at the origin. -/
theorem hz2 : (![0, 0] : Fin 2 → ℕ) = fun _ => 0 := funext fun a => by fin_cases a <;> rfl

/-! ### The forward call -/

section Forward

variable (a : S256x1024.Idx → EReal) (w : S1024x1024.Idx → EReal) (x : S256x1024.Idx → EReal) (g b : S1x1024.Idx → EReal) (r : Fin 256) (k : Fin 1024) (u : Fin 1)

/-- A row before the norm: the scaled residual plus the product's row. -/
def lin (xr : Fin 1024 → EReal) (ar : Fin 1024 → EReal) (w : S1024x1024.Idx → EReal) (k : Fin 1024) : EReal :=
  Ideal.ofBits .f32 0x3FD744FD#32 * xr k + ∑ j : Fin 1024, ar j * w (ix2 j k)

/-- The block before the norm. -/
def linB : S256x1024.Idx → EReal := fun i => lin (fun k => x (ix2 (i 0) k)) (fun k => a (ix2 (i 0) k)) w (i 1)

/-- A block without its rows' means. -/
def cenB (z : FVec Ideal S256x1024 .f32) : FVec Ideal S256x1024 .f32 :=
  subf z (broadcastTo S256x1024 (divf (shapeCast S256x1 (multiReduction .add [1] S256 z 0x00000000#32 reduces_S256x1024_S256 (.inl rfl) rfl) shapeCasts_S256_S256x1)
    (broadcast S256x1 (Scalar.ofBits .f32 0x44800000#32))) broadcasts_S256x1_S256x1024)

theorem cenB_apply (z : S256x1024.Idx → EReal) : cenB z (ix2 r k) = cen (fun k => z (ix2 r k)) k := by
  unfold cenB
  refine congrArg (z (ix2 r k) - ·) ((broadcastTo_apply _ _ (ix2 r k) (ix2 r 0) (fun a => by match a with | ⟨0, _⟩ => rfl | ⟨1, _⟩ => rfl)).trans ?_)
  exact col_mean z _ _ r 0

theorem pay1_eq : k0_pay1 (F := Ideal) x a w = cenB (linB a w x) := by
  have e : (addf (mulf (broadcast S256x1024 (Scalar.ofBits .f32 0x3FD744FD#32)) x)
      (matmul (F := Ideal) (φ₁ := .bf16) (φ₂ := .bf16) dot_S256x1024_S1024x1024_S256x1024_1_0_0_1_n_n none a w (constant S256x1024 .f32 0x00000000#32)) : FVec Ideal S256x1024 .f32)
      = linB a w x := by
    funext i
    obtain ⟨r, k, rfl⟩ : ∃ (r : Fin 256) (k : Fin 1024), i = ix2 r k := ⟨i 0, i 1, eq_ix2 i⟩
    refine congrArg (Ideal.ofBits .f32 0x3FD744FD#32 * x (ix2 r k) + ·) ((Ideal.matmul_plain_apply none _ _ _ r k).trans ?_)
    show (Ideal.ofBits .f32 0x00000000#32 : EReal) + _ = _
    rw [Ideal.ofBits_zero_f32, zero_add]
  rw [← e]
  unfold k0_pay1
  rw [shapeCast_self, shapeCast_self]
  rfl

theorem pay1_apply : k0_pay1 (F := Ideal) x a w (ix2 r k) = cen (lin (fun k => x (ix2 r k)) (fun k => a (ix2 r k)) w) k := by
  rw [pay1_eq, cenB_apply]; rfl

theorem pay2_apply : k0_pay2 (F := Ideal) x a w (ix2 r u) = rstd (lin (fun k => x (ix2 r k)) (fun k => a (ix2 r k)) w) := by
  unfold k0_pay2 rstd vare
  refine congrArg (fun t => Ideal.rsqrt (t + Ideal.ofBits .f32 0x3727C5AC#32)) ((col_mean _ _ _ r u).trans (congrArg mean (funext fun k => ?_)))
  rw [← pay1_apply]
  rfl

theorem pay3_apply : k0_pay3 (F := Ideal) x a w (ix2 r k) = hat (lin (fun k => x (ix2 r k)) (fun k => a (ix2 r k)) w) k := by
  unfold k0_pay3 hat
  refine congrArg₂ (· * ·) (pay1_apply a w x r k) ((broadcastTo_apply _ _ (ix2 r k) (ix2 r 0) (fun a => by match a with | ⟨0, _⟩ => rfl | ⟨1, _⟩ => rfl)).trans ?_)
  exact pay2_apply a w x r 0

theorem pay4_apply : k0_pay4 (F := Ideal) x a w g b (ix2 r k)
    = hat (lin (fun k => x (ix2 r k)) (fun k => a (ix2 r k)) w) k * g (ix2 0 k) + b (ix2 0 k) := by
  unfold k0_pay4
  refine congrArg₂ (· + ·) (congrArg₂ (· * ·) (pay3_apply a w x r k) ?_) ?_
  · exact broadcastTo_apply _ _ (ix2 r k) (ix2 0 k) (fun a => by match a with | ⟨0, _⟩ => rfl | ⟨1, _⟩ => rfl)
  · exact broadcastTo_apply _ _ (ix2 r k) (ix2 0 k) (fun a => by match a with | ⟨0, _⟩ => rfl | ⟨1, _⟩ => rfl)

theorem out0_5_eq : out0_5 (F := Ideal) a w x g b = k0_pay4 (F := Ideal) x a w g b := by
  unfold out0_5
  rw [View.canon_unit_zero (S := S256x1024) hz2, View.ld_unit_zero (S := S256x1024) hz2, View.ld_unit_zero (S := S256x1024) hz2,
    View.ld_unit_zero (S := S1024x1024) hz2, View.ld_unit_zero (S := S1x1024) hz2, View.ld_unit_zero (S := S1x1024) hz2]

theorem out0_6_eq : out0_6 (F := Ideal) a w x g b = k0_pay4 (F := Ideal) x a w g b := by
  unfold out0_6
  rw [View.canon_unit_zero (S := S256x1024) hz2, View.ld_unit_zero (S := S256x1024) hz2, View.ld_unit_zero (S := S256x1024) hz2,
    View.ld_unit_zero (S := S1024x1024) hz2, View.ld_unit_zero (S := S1x1024) hz2, View.ld_unit_zero (S := S1x1024) hz2]
  rfl

theorem out0_7_eq : out0_7 (F := Ideal) a w x g b = k0_pay3 (F := Ideal) x a w := by
  unfold out0_7
  rw [View.canon_unit_zero (S := S256x1024) hz2, View.ld_unit_zero (S := S256x1024) hz2, View.ld_unit_zero (S := S256x1024) hz2,
    View.ld_unit_zero (S := S1024x1024) hz2]

theorem out0_8_eq : out0_8 (F := Ideal) a w x g b = k0_pay2 (F := Ideal) x a w := by
  unfold out0_8
  rw [View.canon_unit_zero (S := S256x1) hz2, View.ld_unit_zero (S := S256x1024) hz2, View.ld_unit_zero (S := S256x1024) hz2,
    View.ld_unit_zero (S := S1024x1024) hz2]

end Forward

/-! ### The backward call -/

section Cases
variable {F : FTy → Type} [FloatOps F]
variable (c : Dev nD) (i : grid1.Coords) (a1 : Memref sig .tc .vmem S512x1024 .f32) (h1 : a1.IsWhole) (a2 : Memref sig .tc .vmem S512x1024 .f32) (h2 : a2.IsWhole) (a3 : Memref sig .tc .vmem S512x1 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .bf16) (h6 : a6.IsWhole) (a7 : Memref sig .tc .vmem S1x1024 .f32) (h7 : a7.IsWhole) (a8 : Memref sig .tc .vmem S1x1024 .f32) (h8 : a8.IsWhole)
  (dy xh : Vec F S512x1024 .f32) (rs : Vec F S512x1 .f32) (g s t : Vec F S1x1024 .f32)

theorem du_A (hc : cond1_0 i) : out1_A_4 c i a1 h1 a2 h2 a3 h3 a4 h4 a5 h5 a6 h6 a7 h7 a8 h8 hc dy xh rs g = k1_pay1 (k1_pay5 xh) (k1_pay8 dy g) (k1_pay9 dy g) (k1_pay10 dy xh g) rs := by
  unfold out1_A_4
  rw [View.read_writes_eq_canon _ _ _ (cover1_A_4 c i a1 h1 a2 h2 a3 h3 a4 h4 a5 h5 a6 h6 a7 h7 a8 h8 hc dy xh rs g)]
  unfold kernelRun1_A
  dsimp only
  sl_unfold_words
  rw [View.canon_unit_zero hz2]
  simp only [View.readAt_eq_ld, h1.read_unread, h2.read_unread, h3.read_unread, h4.read_unread, h7.read_unread, h8.read_unread, View.ld_unit_zero (S := S512x1024) hz2,
    View.ld_unit_zero (S := S512x1) hz2, View.ld_unit_zero (S := S1x1024) hz2]

theorem du_B (hc : ¬cond1_0 i) : out1_B_4 c i a1 h1 a2 h2 a3 h3 a4 h4 a5 h5 a6 h6 a7 h7 a8 h8 hc dy xh rs g s t = k1_pay1 (k1_pay5 xh) (k1_pay8 dy g) (k1_pay9 dy g) (k1_pay10 dy xh g) rs := by
  unfold out1_B_4
  rw [View.read_writes_eq_canon _ _ _ (cover1_B_4 c i a1 h1 a2 h2 a3 h3 a4 h4 a5 h5 a6 h6 a7 h7 a8 h8 hc dy xh rs g s t)]
  unfold kernelRun1_B
  dsimp only
  sl_unfold_words
  rw [View.canon_unit_zero hz2]
  simp only [View.readAt_eq_ld, h1.read_unread, h2.read_unread, h3.read_unread, h4.read_unread, h7.read_unread, h8.read_unread, View.ld_unit_zero (S := S512x1024) hz2,
    View.ld_unit_zero (S := S512x1) hz2, View.ld_unit_zero (S := S1x1024) hz2]

theorem dub_A (hc : cond1_0 i) : out1_A_5 c i a1 h1 a2 h2 a3 h3 a4 h4 a5 h5 a6 h6 a7 h7 a8 h8 hc dy xh rs g = k1_pay2 (k1_pay5 xh) (k1_pay8 dy g) (k1_pay9 dy g) (k1_pay10 dy xh g) rs := by
  unfold out1_A_5
  rw [View.read_writes_eq_canon _ _ _ (cover1_A_5 c i a1 h1 a2 h2 a3 h3 a4 h4 a5 h5 a6 h6 a7 h7 a8 h8 hc dy xh rs g)]
  unfold kernelRun1_A
  dsimp only
  sl_unfold_words
  rw [View.canon_unit_zero hz2]
  simp only [View.readAt_eq_ld, h1.read_unread, h2.read_unread, h3.read_unread, h4.read_unread, h7.read_unread, h8.read_unread, View.ld_unit_zero (S := S512x1024) hz2,
    View.ld_unit_zero (S := S512x1) hz2, View.ld_unit_zero (S := S1x1024) hz2]

theorem dub_B (hc : ¬cond1_0 i) : out1_B_5 c i a1 h1 a2 h2 a3 h3 a4 h4 a5 h5 a6 h6 a7 h7 a8 h8 hc dy xh rs g s t = k1_pay2 (k1_pay5 xh) (k1_pay8 dy g) (k1_pay9 dy g) (k1_pay10 dy xh g) rs := by
  unfold out1_B_5
  rw [View.read_writes_eq_canon _ _ _ (cover1_B_5 c i a1 h1 a2 h2 a3 h3 a4 h4 a5 h5 a6 h6 a7 h7 a8 h8 hc dy xh rs g s t)]
  unfold kernelRun1_B
  dsimp only
  sl_unfold_words
  rw [View.canon_unit_zero hz2]
  simp only [View.readAt_eq_ld, h1.read_unread, h2.read_unread, h3.read_unread, h4.read_unread, h7.read_unread, h8.read_unread, View.ld_unit_zero (S := S512x1024) hz2,
    View.ld_unit_zero (S := S512x1) hz2, View.ld_unit_zero (S := S1x1024) hz2]

theorem dg_A (hc : cond1_0 i) : out1_A_6 c i a1 h1 a2 h2 a3 h3 a4 h4 a5 h5 a6 h6 a7 h7 a8 h8 hc dy xh rs g = k1_pay6 dy xh k1_pay3 := by
  unfold out1_A_6
  rw [View.read_writes_eq_canon _ _ _ (cover1_A_6 c i a1 h1 a2 h2 a3 h3 a4 h4 a5 h5 a6 h6 a7 h7 a8 h8 hc dy xh rs g)]
  unfold kernelRun1_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h7.read_unread, h8.read_unread, View.ld_unit_zero (S := S512x1024) hz2,
    View.ld_unit_zero (S := S512x1) hz2, View.ld_unit_zero (S := S1x1024) hz2]

theorem dg_B (hc : ¬cond1_0 i) : out1_B_6 c i a1 h1 a2 h2 a3 h3 a4 h4 a5 h5 a6 h6 a7 h7 a8 h8 hc dy xh rs g s t = k1_pay6 dy xh s := by
  unfold out1_B_6
  rw [View.read_writes_eq_canon _ _ _ (cover1_B_6 c i a1 h1 a2 h2 a3 h3 a4 h4 a5 h5 a6 h6 a7 h7 a8 h8 hc dy xh rs g s t)]
  unfold kernelRun1_B
  dsimp only
  sl_unfold_words
  rw [View.canon_unit_zero hz2]
  simp only [View.readAt_eq_ld, h1.read_unread, h2.read_unread, h3.read_unread, h4.read_unread, h7.read_unread, h8.read_unread, View.ld_unit_zero (S := S512x1024) hz2,
    View.ld_unit_zero (S := S512x1) hz2, View.ld_unit_zero (S := S1x1024) hz2]

theorem db_A (hc : cond1_0 i) : out1_A_7 c i a1 h1 a2 h2 a3 h3 a4 h4 a5 h5 a6 h6 a7 h7 a8 h8 hc dy xh rs g = k1_pay7 dy k1_pay4 := by
  unfold out1_A_7
  rw [View.read_writes_eq_canon _ _ _ (cover1_A_7 c i a1 h1 a2 h2 a3 h3 a4 h4 a5 h5 a6 h6 a7 h7 a8 h8 hc dy xh rs g)]
  unfold kernelRun1_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h7.read_unread, h8.read_unread, View.ld_unit_zero (S := S512x1024) hz2,
    View.ld_unit_zero (S := S512x1) hz2, View.ld_unit_zero (S := S1x1024) hz2]

theorem db_B (hc : ¬cond1_0 i) : out1_B_7 c i a1 h1 a2 h2 a3 h3 a4 h4 a5 h5 a6 h6 a7 h7 a8 h8 hc dy xh rs g s t = k1_pay7 dy t := by
  unfold out1_B_7
  rw [View.read_writes_eq_canon _ _ _ (cover1_B_7 c i a1 h1 a2 h2 a3 h3 a4 h4 a5 h5 a6 h6 a7 h7 a8 h8 hc dy xh rs g s t)]
  unfold kernelRun1_B
  dsimp only
  sl_unfold_words
  rw [View.canon_unit_zero hz2]
  simp only [View.readAt_eq_ld, h1.read_unread, h2.read_unread, h3.read_unread, h4.read_unread, h7.read_unread, h8.read_unread, View.ld_unit_zero (S := S512x1024) hz2,
    View.ld_unit_zero (S := S512x1) hz2, View.ld_unit_zero (S := S1x1024) hz2]

end Cases

section Backward

variable (dy xh : S512x1024.Idx → EReal) (rs : S512x1.Idx → EReal) (g s : S1x1024.Idx → EReal) (r : Fin 512) (k : Fin 1024) (u : Fin 1)

theorem p8_apply : k1_pay8 (F := Ideal) dy g (ix2 r k) = dy (ix2 r k) * g (ix2 0 k) := by
  unfold k1_pay8
  exact congrArg (dy (ix2 r k) * ·) (broadcastTo_apply _ _ (ix2 r k) (ix2 0 k) (fun a => by match a with | ⟨0, _⟩ => rfl | ⟨1, _⟩ => rfl))

theorem p5_eq : k1_pay5 (F := Ideal) xh = xh := by unfold k1_pay5; exact shapeCast_self _ _

theorem p9_apply : k1_pay9 (F := Ideal) dy g (ix2 r u) = mean fun k => dy (ix2 r k) * g (ix2 0 k) := by
  unfold k1_pay9
  exact (col_mean _ _ _ r u).trans (congrArg mean (funext fun k => p8_apply dy g r k))

theorem p10_apply : k1_pay10 (F := Ideal) dy xh g (ix2 r u) = mean fun k => dy (ix2 r k) * g (ix2 0 k) * xh (ix2 r k) := by
  unfold k1_pay10
  refine (col_mean _ _ _ r u).trans (congrArg mean (funext fun k => ?_))
  rw [← p8_apply, p5_eq]
  rfl

/-- The gradient's block, element by element. -/
theorem du_apply : k1_pay1 (F := Ideal) (k1_pay5 xh) (k1_pay8 dy g) (k1_pay9 dy g) (k1_pay10 dy xh g) rs (ix2 r k)
    = grad (fun k => dy (ix2 r k) * g (ix2 0 k)) (fun k => xh (ix2 r k)) (rs (ix2 r 0)) k := by
  have hb : ∀ (z : S512x1.Idx → EReal), broadcastTo S512x1024 z broadcasts_S512x1_S512x1024 (ix2 r k) = z (ix2 r 0) := fun z =>
    broadcastTo_apply _ _ (ix2 r k) (ix2 r 0) (fun a => by match a with | ⟨0, _⟩ => rfl | ⟨1, _⟩ => rfl)
  unfold k1_pay1 grad
  rw [p5_eq, shapeCast_self]
  refine congrArg₂ (· * ·) (hb _) (congrArg₂ (· - ·) (congrArg₂ (· - ·) (p8_apply dy g r k) ((hb _).trans (p9_apply dy g r 0))) (congrArg (xh (ix2 r k) * ·) ((hb _).trans (p10_apply dy xh g r 0))))

/-- The running sums of the scale's and the shift's gradients, element by element. -/
theorem dg_apply : k1_pay6 (F := Ideal) dy xh s (ix2 u k) = s (ix2 u k) + ∑ r : Fin 512, dy (ix2 r k) * xh (ix2 r k) := by
  unfold k1_pay6
  rw [p5_eq, shapeCast_self]
  refine congrArg (s (ix2 u k) + ·) ((ValueIdx.shapeCast_a_1a_apply _ _ _ _).trans ((Ideal.multiReduction_add_single _ _ _ _ _ _).trans (Finset.sum_congr rfl fun r _ => ?_)))
  rw [show reduces_S512x1024_S1024.lift (ix1 k) r = ix2 r k from ix2_of rfl rfl]
  rfl

theorem db_apply : k1_pay7 (F := Ideal) dy s (ix2 u k) = s (ix2 u k) + ∑ r : Fin 512, dy (ix2 r k) := by
  unfold k1_pay7
  rw [shapeCast_self]
  refine congrArg (s (ix2 u k) + ·) ((ValueIdx.shapeCast_a_1a_apply _ _ _ _).trans ((Ideal.multiReduction_add_single _ _ _ _ _ _).trans (Finset.sum_congr rfl fun r _ => ?_)))
  rw [show reduces_S512x1024_S1024.lift (ix1 k) r = ix2 r k from ix2_of rfl rfl]
  rfl

end Backward

end Cert.NormIdeal.Val

end
-- ==== Proof.Norm.Arrays.lean ====
module

public import proofs.«01_k».proof.Proof.Norm.Block
public import proofs.«01_k».proof.Proof.Sums

/-! The norm's two calls: the arrays that they write, as functions of the arguments. The forward call leaves the norm, its
normalised rows and their reciprocal standard deviations; the backward call, which reads the last two, leaves the gradients. -/

@[expose] public section

set_option maxRecDepth 16384

noncomputable section

namespace Cert.NormIdeal.Val

open Idealize.ShloMosaic Idealize.ShloMosaic.TcCoe Idealize.ShloMosaic.Tactic Idealize.SL.Sem Cert.NormIdeal.Gen Cert.NormIdeal.Facts
open Idealize.ShloMosaic.ValueIdx Cert.Proof Cert.Proof.Norm
open Idealize.ShloMosaic.Pipeline (Dat)

/-! ### Where the blocks lie -/

/-- A row of the array, from a row of the forward call's block. -/
def row0 (n : ℕ) (hn : n < 32) (r : Fin 256) : Fin 8192 := ⟨256 * n + r.val, by have := r.isLt; omega⟩
/-- A row of the array, from a row of the backward call's block. -/
def row1 (n : ℕ) (hn : n < 16) (r : Fin 512) : Fin 8192 := ⟨512 * n + r.val, by have := r.isLt; omega⟩

theorem ix0_0 : ∀ t : Fin cfg0.N, At (win0_0.index t) t.val 0 := (by decide +kernel : ∀ t : Fin grid0.N, _)
theorem emb0_0 (n : ℕ) (hn : n < 32) (r : Fin 256) (k : Fin 1024) : ((cfg0.win 0).blk ⟨n, hn⟩).view.emb (ix2 r k) = ix2 (row0 n hn r) k :=
  ix2_rows (ix0_0 ⟨n, hn⟩) rfl rfl rfl

theorem ix0_1 : ∀ t : Fin cfg0.N, At (win0_1.index t) 0 0 := (by decide +kernel : ∀ t : Fin grid0.N, _)
theorem emb0_1 (n : ℕ) (hn : n < 32) (r : Fin 1024) (k : Fin 1024) : ((cfg0.win 1).blk ⟨n, hn⟩).view.emb (ix2 r k) = ix2 r k :=
  ix2_all (ix0_1 ⟨n, hn⟩) rfl rfl

theorem ix0_2 : ∀ t : Fin cfg0.N, At (win0_2.index t) t.val 0 := (by decide +kernel : ∀ t : Fin grid0.N, _)
theorem emb0_2 (n : ℕ) (hn : n < 32) (r : Fin 256) (k : Fin 1024) : ((cfg0.win 2).blk ⟨n, hn⟩).view.emb (ix2 r k) = ix2 (row0 n hn r) k :=
  ix2_rows (ix0_2 ⟨n, hn⟩) rfl rfl rfl

theorem ix0_3 : ∀ t : Fin cfg0.N, At (win0_3.index t) 0 0 := (by decide +kernel : ∀ t : Fin grid0.N, _)
theorem emb0_3 (n : ℕ) (hn : n < 32) (r : Fin 1) (k : Fin 1024) : ((cfg0.win 3).blk ⟨n, hn⟩).view.emb (ix2 r k) = ix2 r k :=
  ix2_all (ix0_3 ⟨n, hn⟩) rfl rfl

theorem ix0_4 : ∀ t : Fin cfg0.N, At (win0_4.index t) 0 0 := (by decide +kernel : ∀ t : Fin grid0.N, _)
theorem emb0_4 (n : ℕ) (hn : n < 32) (r : Fin 1) (k : Fin 1024) : ((cfg0.win 4).blk ⟨n, hn⟩).view.emb (ix2 r k) = ix2 r k :=
  ix2_all (ix0_4 ⟨n, hn⟩) rfl rfl

theorem ix0_5 : ∀ t : Fin cfg0.N, At (win0_5.index t) t.val 0 := (by decide +kernel : ∀ t : Fin grid0.N, _)
theorem emb0_5 (n : ℕ) (hn : n < 32) (r : Fin 256) (k : Fin 1024) : ((cfg0.win 5).blk ⟨n, hn⟩).view.emb (ix2 r k) = ix2 (row0 n hn r) k :=
  ix2_rows (ix0_5 ⟨n, hn⟩) rfl rfl rfl

theorem ix0_6 : ∀ t : Fin cfg0.N, At (win0_6.index t) t.val 0 := (by decide +kernel : ∀ t : Fin grid0.N, _)
theorem emb0_6 (n : ℕ) (hn : n < 32) (r : Fin 256) (k : Fin 1024) : ((cfg0.win 6).blk ⟨n, hn⟩).view.emb (ix2 r k) = ix2 (row0 n hn r) k :=
  ix2_rows (ix0_6 ⟨n, hn⟩) rfl rfl rfl

theorem ix0_7 : ∀ t : Fin cfg0.N, At (win0_7.index t) t.val 0 := (by decide +kernel : ∀ t : Fin grid0.N, _)
theorem emb0_7 (n : ℕ) (hn : n < 32) (r : Fin 256) (k : Fin 1024) : ((cfg0.win 7).blk ⟨n, hn⟩).view.emb (ix2 r k) = ix2 (row0 n hn r) k :=
  ix2_rows (ix0_7 ⟨n, hn⟩) rfl rfl rfl

theorem ix0_8 : ∀ t : Fin cfg0.N, At (win0_8.index t) t.val 0 := (by decide +kernel : ∀ t : Fin grid0.N, _)
theorem emb0_8 (n : ℕ) (hn : n < 32) (r : Fin 256) (k : Fin 1) : ((cfg0.win 8).blk ⟨n, hn⟩).view.emb (ix2 r k) = ix2 (row0 n hn r) k :=
  ix2_rows (ix0_8 ⟨n, hn⟩) rfl rfl rfl

theorem ix1_0 : ∀ t : Fin cfg1.N, win1_0.index t (0 : Fin 2) = t.val ∧ win1_0.index t (1 : Fin 2) = 0 := (by decide +kernel : ∀ t : Fin grid1.N, _)
theorem emb1_0 (n : ℕ) (hn : n < 16) (r : Fin 512) (k : Fin 1024) : ((cfg1.win 0).blk ⟨n, hn⟩).view.emb (ix2 r k) = ix2 (row1 n hn r) k :=
  ix2_rows (ix1_0 ⟨n, hn⟩) rfl rfl rfl

theorem ix1_1 : ∀ t : Fin cfg1.N, win1_1.index t (0 : Fin 2) = t.val ∧ win1_1.index t (1 : Fin 2) = 0 := (by decide +kernel : ∀ t : Fin grid1.N, _)
theorem emb1_1 (n : ℕ) (hn : n < 16) (r : Fin 512) (k : Fin 1024) : ((cfg1.win 1).blk ⟨n, hn⟩).view.emb (ix2 r k) = ix2 (row1 n hn r) k :=
  ix2_rows (ix1_1 ⟨n, hn⟩) rfl rfl rfl

theorem ix1_2 : ∀ t : Fin cfg1.N, win1_2.index t (0 : Fin 2) = t.val ∧ win1_2.index t (1 : Fin 2) = 0 := (by decide +kernel : ∀ t : Fin grid1.N, _)
theorem emb1_2 (n : ℕ) (hn : n < 16) (r : Fin 512) (k : Fin 1) : ((cfg1.win 2).blk ⟨n, hn⟩).view.emb (ix2 r k) = ix2 (row1 n hn r) k :=
  ix2_rows (ix1_2 ⟨n, hn⟩) rfl rfl rfl

theorem ix1_3 : ∀ t : Fin cfg1.N, win1_3.index t (0 : Fin 2) = 0 ∧ win1_3.index t (1 : Fin 2) = 0 := (by decide +kernel : ∀ t : Fin grid1.N, _)
theorem emb1_3 (n : ℕ) (hn : n < 16) (r : Fin 1) (k : Fin 1024) : ((cfg1.win 3).blk ⟨n, hn⟩).view.emb (ix2 r k) = ix2 r k :=
  ix2_all (ix1_3 ⟨n, hn⟩) rfl rfl

theorem ix1_4 : ∀ t : Fin cfg1.N, win1_4.index t (0 : Fin 2) = t.val ∧ win1_4.index t (1 : Fin 2) = 0 := (by decide +kernel : ∀ t : Fin grid1.N, _)
theorem emb1_4 (n : ℕ) (hn : n < 16) (r : Fin 512) (k : Fin 1024) : ((cfg1.win 4).blk ⟨n, hn⟩).view.emb (ix2 r k) = ix2 (row1 n hn r) k :=
  ix2_rows (ix1_4 ⟨n, hn⟩) rfl rfl rfl

theorem ix1_5 : ∀ t : Fin cfg1.N, win1_5.index t (0 : Fin 2) = t.val ∧ win1_5.index t (1 : Fin 2) = 0 := (by decide +kernel : ∀ t : Fin grid1.N, _)
theorem emb1_5 (n : ℕ) (hn : n < 16) (r : Fin 512) (k : Fin 1024) : ((cfg1.win 5).blk ⟨n, hn⟩).view.emb (ix2 r k) = ix2 (row1 n hn r) k :=
  ix2_rows (ix1_5 ⟨n, hn⟩) rfl rfl rfl

theorem ix1_6 : ∀ t : Fin cfg1.N, win1_6.index t (0 : Fin 2) = 0 ∧ win1_6.index t (1 : Fin 2) = 0 := (by decide +kernel : ∀ t : Fin grid1.N, _)
theorem emb1_6 (n : ℕ) (hn : n < 16) (r : Fin 1) (k : Fin 1024) : ((cfg1.win 6).blk ⟨n, hn⟩).view.emb (ix2 r k) = ix2 r k :=
  ix2_all (ix1_6 ⟨n, hn⟩) rfl rfl

theorem ix1_7 : ∀ t : Fin cfg1.N, win1_7.index t (0 : Fin 2) = 0 ∧ win1_7.index t (1 : Fin 2) = 0 := (by decide +kernel : ∀ t : Fin grid1.N, _)
theorem emb1_7 (n : ℕ) (hn : n < 16) (r : Fin 1) (k : Fin 1024) : ((cfg1.win 7).blk ⟨n, hn⟩).view.emb (ix2 r k) = ix2 r k :=
  ix2_all (ix1_7 ⟨n, hn⟩) rfl rfl

variable (m : (ℓ : Loc nD τ sig) → Buf (Elt Ideal) ℓ) (ρ : Dev nD → PrngReg)

/-- The arguments: the product's two factors, the residual, scale and shift, and the cotangent. -/
def aA (c : Dev nD) : S8192x1024.Idx → EReal := m ((c : Thread nD τ).loc main_arg0)
def aW (c : Dev nD) : S1024x1024.Idx → EReal := m ((c : Thread nD τ).loc main_arg1)
def aR (c : Dev nD) : S8192x1024.Idx → EReal := m ((c : Thread nD τ).loc main_arg2)
def aG (c : Dev nD) : S1x1024.Idx → EReal := m ((c : Thread nD τ).loc main_arg3)
def aB (c : Dev nD) : S1x1024.Idx → EReal := m ((c : Thread nD τ).loc main_arg4)
def aY (c : Dev nD) : S8192x1024.Idx → EReal := m ((c : Thread nD τ).loc main_arg5)

/-- A row before the norm. -/
def lrow (c : Dev nD) (r : Fin 8192) : Fin 1024 → EReal := lin (fun k => aR m c (ix2 r k)) (fun k => aA m c (ix2 r k)) (aW m c)
/-- The norm, element by element. -/
def nrm (c : Dev nD) (r : Fin 8192) (k : Fin 1024) : EReal := hat (lrow m c r) k * aG m c (ix2 0 k) + aB m c (ix2 0 k)
/-- The gradient of what goes into the norm, element by element. -/
def dmix (c : Dev nD) (r : Fin 8192) (k : Fin 1024) : EReal :=
  grad (fun k => aY m c (ix2 r k) * aG m c (ix2 0 k)) (hat (lrow m c r)) (rstd (lrow m c r)) k

/-- The arrays. -/
def arr_y (c : Dev nD) : Buf (Elt Ideal) ((c : Thread nD τ).loc main_v2_0) := fun i => (nrm m c (i 0) (i 1) : EReal)
def arr_yb (c : Dev nD) : Buf (Elt Ideal) ((c : Thread nD τ).loc main_v2_1) := fun i => (nrm m c (i 0) (i 1) : EReal)
def arr_xh (c : Dev nD) : Buf (Elt Ideal) ((c : Thread nD τ).loc main_v2_2) := fun i => (hat (lrow m c (i 0)) (i 1) : EReal)
def arr_rs (c : Dev nD) : Buf (Elt Ideal) ((c : Thread nD τ).loc main_v2_3) := fun i => (rstd (lrow m c (i 0)) : EReal)
def arr_d (c : Dev nD) : Buf (Elt Ideal) ((c : Thread nD τ).loc main_v3_0) := fun i => (dmix m c (i 0) (i 1) : EReal)
def arr_db16 (c : Dev nD) : Buf (Elt Ideal) ((c : Thread nD τ).loc main_v3_1) := fun i => (dmix m c (i 0) (i 1) : EReal)
def arr_dg (c : Dev nD) : Buf (Elt Ideal) ((c : Thread nD τ).loc main_v3_2) := fun i =>
  (∑ r : Fin 8192, aY m c (ix2 r (i 1)) * hat (lrow m c r) (i 1) : EReal)
def arr_dbeta (c : Dev nD) : Buf (Elt Ideal) ((c : Thread nD τ).loc main_v3_3) := fun i => (∑ r : Fin 8192, aY m c (ix2 r (i 1)) : EReal)

/-! ### The forward call -/

theorem V1_0 (c : Dev nD) : V1 m ρ c (Pipeline.arrRef spec0 0) = aA m c := by
  show StableHlo.after hostOps0 _ _ = _; after_results; rfl
theorem blk0_0 (c : Dev nD) (n : ℕ) (hn : n < 32) (r : Fin 256) (k : Fin 1024) : iblk0 (V1 m ρ) c 0 ⟨n, hn⟩ (ix2 r k) = aA m c (ix2 (row0 n hn r) k) :=
  (congrArg (V1 m ρ c (Pipeline.arrRef spec0 0)) (emb0_0 n hn r k)).trans (congrFun (V1_0 m ρ c) _)

theorem V1_1 (c : Dev nD) : V1 m ρ c (Pipeline.arrRef spec0 1) = aW m c := by
  show StableHlo.after hostOps0 _ _ = _; after_results; rfl
theorem blk0_1 (c : Dev nD) (n : ℕ) (hn : n < 32) (r : Fin 1024) (k : Fin 1024) : iblk0 (V1 m ρ) c 1 ⟨n, hn⟩ (ix2 r k) = aW m c (ix2 r k) :=
  (congrArg (V1 m ρ c (Pipeline.arrRef spec0 1)) (emb0_1 n hn r k)).trans (congrFun (V1_1 m ρ c) _)

theorem V1_2 (c : Dev nD) : V1 m ρ c (Pipeline.arrRef spec0 2) = aR m c := by
  show StableHlo.after hostOps0 _ _ = _; after_results; rfl
theorem blk0_2 (c : Dev nD) (n : ℕ) (hn : n < 32) (r : Fin 256) (k : Fin 1024) : iblk0 (V1 m ρ) c 2 ⟨n, hn⟩ (ix2 r k) = aR m c (ix2 (row0 n hn r) k) :=
  (congrArg (V1 m ρ c (Pipeline.arrRef spec0 2)) (emb0_2 n hn r k)).trans (congrFun (V1_2 m ρ c) _)

theorem V1_3 (c : Dev nD) : V1 m ρ c (Pipeline.arrRef spec0 3) = aG m c := by
  show StableHlo.after hostOps0 _ _ = _; after_results; rfl
theorem blk0_3 (c : Dev nD) (n : ℕ) (hn : n < 32) (r : Fin 1) (k : Fin 1024) : iblk0 (V1 m ρ) c 3 ⟨n, hn⟩ (ix2 r k) = aG m c (ix2 r k) :=
  (congrArg (V1 m ρ c (Pipeline.arrRef spec0 3)) (emb0_3 n hn r k)).trans (congrFun (V1_3 m ρ c) _)

theorem V1_4 (c : Dev nD) : V1 m ρ c (Pipeline.arrRef spec0 4) = aB m c := by
  show StableHlo.after hostOps0 _ _ = _; after_results; rfl
theorem blk0_4 (c : Dev nD) (n : ℕ) (hn : n < 32) (r : Fin 1) (k : Fin 1024) : iblk0 (V1 m ρ) c 4 ⟨n, hn⟩ (ix2 r k) = aB m c (ix2 r k) :=
  (congrArg (V1 m ρ c (Pipeline.arrRef spec0 4)) (emb0_4 n hn r k)).trans (congrFun (V1_4 m ρ c) _)

/-- A block's row before the norm is the array's. -/
theorem lin_of (c : Dev nD) (x a : S256x1024.Idx → EReal) (w : S1024x1024.Idx → EReal) (n : ℕ) (hn : n < 32) (hx : ∀ r k, x (ix2 r k) = aR m c (ix2 (row0 n hn r) k))
    (ha : ∀ r k, a (ix2 r k) = aA m c (ix2 (row0 n hn r) k)) (hw : ∀ k j, w (ix2 k j) = aW m c (ix2 k j)) (r : Fin 256) :
    lin (fun k => x (ix2 r k)) (fun k => a (ix2 r k)) w = lrow m c (row0 n hn r) := by
  funext k
  unfold lrow lin
  refine congrArg₂ (· + ·) (congrArg _ (hx r k)) (Finset.sum_congr rfl fun j _ => ?_)
  exact congrArg₂ (· * ·) (ha r j) (hw j k)

theorem nrm_of (c : Dev nD) (x a : S256x1024.Idx → EReal) (w : S1024x1024.Idx → EReal) (g b : S1x1024.Idx → EReal) (n : ℕ) (hn : n < 32) (hx : ∀ r k, x (ix2 r k) = aR m c (ix2 (row0 n hn r) k))
    (ha : ∀ r k, a (ix2 r k) = aA m c (ix2 (row0 n hn r) k)) (hw : ∀ k j, w (ix2 k j) = aW m c (ix2 k j)) (hg : ∀ u k, g (ix2 u k) = aG m c (ix2 u k))
    (hb : ∀ u k, b (ix2 u k) = aB m c (ix2 u k)) (r : Fin 256) (k : Fin 1024) :
    hat (lin (fun k => x (ix2 r k)) (fun k => a (ix2 r k)) w) k * g (ix2 0 k) + b (ix2 0 k) = nrm m c (row0 n hn r) k := by
  unfold nrm
  rw [lin_of m c x a w n hn hx ha hw r, hg, hb]

theorem final_arr_y (c : Dev nD) : (dat0 (V1 m ρ) c).arrAt 5 cfg0.N = arr_y m c := by
  refine (dat0 (V1 m ρ) c).arrAt_eq_of_cover 5 (arr_y m c) (fun t _ => ?_) fun i => ?_
  · show (cfg0.win 5).cut (grid0.coords t) ((dat0 (V1 m ρ) c).after 5 t) = _
    rw [after0_5]
    funext y
    obtain ⟨r, k, rfl⟩ : ∃ (r : Fin 256) (k : Fin 1024), y = ix2 r k := ⟨y 0, y 1, eq_ix2 y⟩
    refine Eq.trans ?_ (congrArg (arr_y m c) (emb0_5 t.val t.isLt r k)).symm
    refine (congrFun (out0_5_eq _ _ _ _ _) (ix2 r k)).trans ((pay4_apply _ _ _ _ _ r k).trans ?_)
    exact nrm_of m c _ _ _ _ _ t.val t.isLt (blk0_2 m ρ c t.val t.isLt) (blk0_0 m ρ c t.val t.isLt) (blk0_1 m ρ c t.val t.isLt) (blk0_3 m ρ c t.val t.isLt) (blk0_4 m ρ c t.val t.isLt) r k
  · obtain ⟨t, h⟩ : ∃ t : Fin 32, t.val = (i 0).val / 256 := ⟨⟨(i 0).val / 256, by have : (i 0).val < 8192 := (i 0).isLt; omega⟩, rfl⟩
    obtain ⟨e0, e1⟩ := ix0_5 t
    have h1 : (i 1).val < 1024 := (i 1).isLt
    refine ⟨t, flush0_5 t, ?_⟩
    show i ∈ ((View.whole (Pipeline.arrRef spec0 5)).slice (win0_5.rect t)).set
    rw [View.set_slice_whole, Rect.mem_set_unit]
    exact cover_blk 256 1024 ⟨e0, e1⟩ rfl rfl rfl rfl (a := (i 0).val) rfl (b := (i 1).val) rfl (by omega) (by omega)

theorem final_arr_yb (c : Dev nD) : (dat0 (V1 m ρ) c).arrAt 6 cfg0.N = arr_yb m c := by
  refine (dat0 (V1 m ρ) c).arrAt_eq_of_cover 6 (arr_yb m c) (fun t _ => ?_) fun i => ?_
  · show (cfg0.win 6).cut (grid0.coords t) ((dat0 (V1 m ρ) c).after 6 t) = _
    rw [after0_6]
    funext y
    obtain ⟨r, k, rfl⟩ : ∃ (r : Fin 256) (k : Fin 1024), y = ix2 r k := ⟨y 0, y 1, eq_ix2 y⟩
    refine Eq.trans ?_ (congrArg (arr_yb m c) (emb0_6 t.val t.isLt r k)).symm
    refine (congrFun (out0_6_eq _ _ _ _ _) (ix2 r k)).trans ((pay4_apply _ _ _ _ _ r k).trans ?_)
    exact nrm_of m c _ _ _ _ _ t.val t.isLt (blk0_2 m ρ c t.val t.isLt) (blk0_0 m ρ c t.val t.isLt) (blk0_1 m ρ c t.val t.isLt) (blk0_3 m ρ c t.val t.isLt) (blk0_4 m ρ c t.val t.isLt) r k
  · obtain ⟨t, h⟩ : ∃ t : Fin 32, t.val = (i 0).val / 256 := ⟨⟨(i 0).val / 256, by have : (i 0).val < 8192 := (i 0).isLt; omega⟩, rfl⟩
    obtain ⟨e0, e1⟩ := ix0_6 t
    have h1 : (i 1).val < 1024 := (i 1).isLt
    refine ⟨t, flush0_6 t, ?_⟩
    show i ∈ ((View.whole (Pipeline.arrRef spec0 6)).slice (win0_6.rect t)).set
    rw [View.set_slice_whole, Rect.mem_set_unit]
    exact cover_blk 256 1024 ⟨e0, e1⟩ rfl rfl rfl rfl (a := (i 0).val) rfl (b := (i 1).val) rfl (by omega) (by omega)

theorem final_arr_xh (c : Dev nD) : (dat0 (V1 m ρ) c).arrAt 7 cfg0.N = arr_xh m c := by
  refine (dat0 (V1 m ρ) c).arrAt_eq_of_cover 7 (arr_xh m c) (fun t _ => ?_) fun i => ?_
  · show (cfg0.win 7).cut (grid0.coords t) ((dat0 (V1 m ρ) c).after 7 t) = _
    rw [after0_7]
    funext y
    obtain ⟨r, k, rfl⟩ : ∃ (r : Fin 256) (k : Fin 1024), y = ix2 r k := ⟨y 0, y 1, eq_ix2 y⟩
    refine Eq.trans ?_ (congrArg (arr_xh m c) (emb0_7 t.val t.isLt r k)).symm
    refine (congrFun (out0_7_eq _ _ _ _ _) (ix2 r k)).trans ((pay3_apply _ _ _ r k).trans ?_)
    exact congrArg (hat · k) (lin_of m c _ _ _ t.val t.isLt (blk0_2 m ρ c t.val t.isLt) (blk0_0 m ρ c t.val t.isLt) (blk0_1 m ρ c t.val t.isLt) r)
  · obtain ⟨t, h⟩ : ∃ t : Fin 32, t.val = (i 0).val / 256 := ⟨⟨(i 0).val / 256, by have : (i 0).val < 8192 := (i 0).isLt; omega⟩, rfl⟩
    obtain ⟨e0, e1⟩ := ix0_7 t
    have h1 : (i 1).val < 1024 := (i 1).isLt
    refine ⟨t, flush0_7 t, ?_⟩
    show i ∈ ((View.whole (Pipeline.arrRef spec0 7)).slice (win0_7.rect t)).set
    rw [View.set_slice_whole, Rect.mem_set_unit]
    exact cover_blk 256 1024 ⟨e0, e1⟩ rfl rfl rfl rfl (a := (i 0).val) rfl (b := (i 1).val) rfl (by omega) (by omega)

theorem final_arr_rs (c : Dev nD) : (dat0 (V1 m ρ) c).arrAt 8 cfg0.N = arr_rs m c := by
  refine (dat0 (V1 m ρ) c).arrAt_eq_of_cover 8 (arr_rs m c) (fun t _ => ?_) fun i => ?_
  · show (cfg0.win 8).cut (grid0.coords t) ((dat0 (V1 m ρ) c).after 8 t) = _
    rw [after0_8]
    funext y
    obtain ⟨r, k, rfl⟩ : ∃ (r : Fin 256) (k : Fin 1), y = ix2 r k := ⟨y 0, y 1, eq_ix2 y⟩
    refine Eq.trans ?_ (congrArg (arr_rs m c) (emb0_8 t.val t.isLt r k)).symm
    refine (congrFun (out0_8_eq _ _ _ _ _) (ix2 r k)).trans ((pay2_apply _ _ _ r k).trans ?_)
    exact congrArg rstd (lin_of m c _ _ _ t.val t.isLt (blk0_2 m ρ c t.val t.isLt) (blk0_0 m ρ c t.val t.isLt) (blk0_1 m ρ c t.val t.isLt) r)
  · obtain ⟨t, h⟩ : ∃ t : Fin 32, t.val = (i 0).val / 256 := ⟨⟨(i 0).val / 256, by have : (i 0).val < 8192 := (i 0).isLt; omega⟩, rfl⟩
    obtain ⟨e0, e1⟩ := ix0_8 t
    have h1 : (i 1).val < 1 := (i 1).isLt
    refine ⟨t, flush0_8 t, ?_⟩
    show i ∈ ((View.whole (Pipeline.arrRef spec0 8)).slice (win0_8.rect t)).set
    rw [View.set_slice_whole, Rect.mem_set_unit]
    exact cover_blk 256 1 ⟨e0, e1⟩ rfl rfl rfl rfl (a := (i 0).val) rfl (b := (i 1).val) rfl (by omega) (by omega)

/-! ### The backward call -/

theorem V2_0 (c : Dev nD) : V2 m ρ c (Pipeline.arrRef spec1 0) = aY m c := W2_args m ρ c main_arg5 (by decide)
theorem V2_1 (c : Dev nD) : V2 m ρ c (Pipeline.arrRef spec1 1) = arr_xh m c := (W2_arr m ρ c 7).trans (final_arr_xh m ρ c)
theorem V2_2 (c : Dev nD) : V2 m ρ c (Pipeline.arrRef spec1 2) = arr_rs m c := (W2_arr m ρ c 8).trans (final_arr_rs m ρ c)
theorem V2_3 (c : Dev nD) : V2 m ρ c (Pipeline.arrRef spec1 3) = aG m c := W2_args m ρ c main_arg3 (by decide)

theorem blk1_0 (c : Dev nD) (n : ℕ) (hn : n < 16) (r : Fin 512) (k : Fin 1024) : iblk1 (V2 m ρ) c 0 ⟨n, hn⟩ (ix2 r k) = aY m c (ix2 (row1 n hn r) k) :=
  (congrArg (V2 m ρ c (Pipeline.arrRef spec1 0)) (emb1_0 n hn r k)).trans (congrFun (V2_0 m ρ c) _)

theorem blk1_1 (c : Dev nD) (n : ℕ) (hn : n < 16) (r : Fin 512) (k : Fin 1024) : iblk1 (V2 m ρ) c 1 ⟨n, hn⟩ (ix2 r k) = hat (lrow m c (row1 n hn r)) k :=
  (congrArg (V2 m ρ c (Pipeline.arrRef spec1 1)) (emb1_1 n hn r k)).trans (congrFun (V2_1 m ρ c) _)

theorem blk1_2 (c : Dev nD) (n : ℕ) (hn : n < 16) (r : Fin 512) (k : Fin 1) : iblk1 (V2 m ρ) c 2 ⟨n, hn⟩ (ix2 r k) = rstd (lrow m c (row1 n hn r)) :=
  (congrArg (V2 m ρ c (Pipeline.arrRef spec1 2)) (emb1_2 n hn r k)).trans (congrFun (V2_2 m ρ c) _)

theorem blk1_3 (c : Dev nD) (n : ℕ) (hn : n < 16) (r : Fin 1) (k : Fin 1024) : iblk1 (V2 m ρ) c 3 ⟨n, hn⟩ (ix2 r k) = aG m c (ix2 r k) :=
  (congrArg (V2 m ρ c (Pipeline.arrRef spec1 3)) (emb1_3 n hn r k)).trans (congrFun (V2_3 m ρ c) _)

theorem dmix_of (c : Dev nD) (dy xh : S512x1024.Idx → EReal) (rs : S512x1.Idx → EReal) (g : S1x1024.Idx → EReal) (n : ℕ) (hn : n < 16)
    (hy : ∀ r k, dy (ix2 r k) = aY m c (ix2 (row1 n hn r) k)) (hx : ∀ r k, xh (ix2 r k) = hat (lrow m c (row1 n hn r)) k)
    (hr : ∀ r k, rs (ix2 r k) = rstd (lrow m c (row1 n hn r))) (hg : ∀ u k, g (ix2 u k) = aG m c (ix2 u k)) (r : Fin 512) (k : Fin 1024) :
    grad (fun k => dy (ix2 r k) * g (ix2 0 k)) (fun k => xh (ix2 r k)) (rs (ix2 r 0)) k = dmix m c (row1 n hn r) k := by
  unfold dmix
  simp only [hy, hx, hr, hg]

theorem d_at (c : Dev nD) (n : ℕ) (hn : n < cfg1.N) (r : Fin 512) (k : Fin 1024) : (outsAt1 (V2 m ρ) c n hn).1 (ix2 r k) = dmix m c (row1 n hn r) k := by
  refine Eq.trans ?_ (dmix_of m c _ _ _ _ n hn (blk1_0 m ρ c n hn) (blk1_1 m ρ c n hn) (blk1_2 m ρ c n hn) (blk1_3 m ρ c n hn) r k)
  by_cases h : n % 16 = 0
  · rw [outsAt1_A (V2 m ρ) c ⟨n, hn⟩ h]; dsimp only; rw [du_A]; exact du_apply _ _ _ _ r k
  · rw [outsAt1_B (V2 m ρ) c ⟨n, hn⟩ h]; dsimp only; rw [du_B]; exact du_apply _ _ _ _ r k

theorem db16_at (c : Dev nD) (n : ℕ) (hn : n < cfg1.N) (r : Fin 512) (k : Fin 1024) : (outsAt1 (V2 m ρ) c n hn).2.1 (ix2 r k) = dmix m c (row1 n hn r) k := by
  refine Eq.trans ?_ (dmix_of m c _ _ _ _ n hn (blk1_0 m ρ c n hn) (blk1_1 m ρ c n hn) (blk1_2 m ρ c n hn) (blk1_3 m ρ c n hn) r k)
  by_cases h : n % 16 = 0
  · rw [outsAt1_A (V2 m ρ) c ⟨n, hn⟩ h]; dsimp only; rw [dub_A]; exact du_apply _ _ _ _ r k
  · rw [outsAt1_B (V2 m ρ) c ⟨n, hn⟩ h]; dsimp only; rw [dub_B]; exact du_apply _ _ _ _ r k

/-- A block's terms of the scale's gradient, and of the shift's. -/
theorem dg_of (c : Dev nD) (dy xh : S512x1024.Idx → EReal) (n : ℕ) (hn : n < 16) (hy : ∀ r k, dy (ix2 r k) = aY m c (ix2 (row1 n hn r) k))
    (hx : ∀ r k, xh (ix2 r k) = hat (lrow m c (row1 n hn r)) k) (k : Fin 1024) :
    ∑ r : Fin 512, dy (ix2 r k) * xh (ix2 r k) = ∑ r : Fin 512, aY m c (ix2 (row1 n hn r) k) * hat (lrow m c (row1 n hn r)) k :=
  Finset.sum_congr rfl fun r _ => congrArg₂ (· * ·) (hy r k) (hx r k)

theorem dbeta_of (c : Dev nD) (dy : S512x1024.Idx → EReal) (n : ℕ) (hn : n < 16) (hy : ∀ r k, dy (ix2 r k) = aY m c (ix2 (row1 n hn r) k)) (k : Fin 1024) :
    ∑ r : Fin 512, dy (ix2 r k) = ∑ r : Fin 512, aY m c (ix2 (row1 n hn r) k) :=
  Finset.sum_congr rfl fun r _ => hy r k

theorem dg_at (c : Dev nD) : ∀ (n : ℕ) (hn : n < cfg1.N) (u : Fin 1) (k : Fin 1024),
    (outsAt1 (V2 m ρ) c n hn).2.2.1 (ix2 u k) = ∑ t : Fin (n + 1), ∑ r : Fin 512, aY m c (ix2 (row1 t.val (Nat.lt_of_lt_of_le t.isLt hn) r) k) * hat (lrow m c (row1 t.val (Nat.lt_of_lt_of_le t.isLt hn) r)) k
  | 0, hn, u, k => by
    rw [outsAt1_A (V2 m ρ) c ⟨0, hn⟩ rfl]; dsimp only
    rw [dg_A, Fin.sum_univ_one]
    refine (dg_apply _ _ _ k u).trans ?_
    rw [show (k1_pay3 (F := Ideal) (ix2 u k) : EReal) = 0 from Ideal.ofBits_zero_f32, zero_add]
    exact dg_of m c _ _ 0 hn (blk1_0 m ρ c 0 hn) (blk1_1 m ρ c 0 hn) k
  | n + 1, hn, u, k => by
    have hN : cfg1.N = 16 := N_1
    have hB : ¬(⟨n + 1, hn⟩ : Fin cfg1.N).val % 16 = 0 := by dsimp only; omega
    rw [outsAt1_B (V2 m ρ) c ⟨n + 1, hn⟩ hB]; dsimp only
    rw [dg_B, Fin.sum_univ_castSucc (n := n + 1)]
    refine (dg_apply _ _ _ k u).trans (congrArg₂ (· + ·) (dg_at c n (Nat.lt_of_succ_lt hn) u k) ?_)
    exact dg_of m c _ _ (n + 1) hn (blk1_0 m ρ c (n + 1) hn) (blk1_1 m ρ c (n + 1) hn) k

theorem dbeta_at (c : Dev nD) : ∀ (n : ℕ) (hn : n < cfg1.N) (u : Fin 1) (k : Fin 1024),
    (outsAt1 (V2 m ρ) c n hn).2.2.2 (ix2 u k) = ∑ t : Fin (n + 1), ∑ r : Fin 512, aY m c (ix2 (row1 t.val (Nat.lt_of_lt_of_le t.isLt hn) r) k)
  | 0, hn, u, k => by
    rw [outsAt1_A (V2 m ρ) c ⟨0, hn⟩ rfl]; dsimp only
    rw [db_A, Fin.sum_univ_one]
    refine (db_apply _ _ k u).trans ?_
    rw [show (k1_pay4 (F := Ideal) (ix2 u k) : EReal) = 0 from Ideal.ofBits_zero_f32, zero_add]
    exact dbeta_of m c _ 0 hn (blk1_0 m ρ c 0 hn) k
  | n + 1, hn, u, k => by
    have hN : cfg1.N = 16 := N_1
    have hB : ¬(⟨n + 1, hn⟩ : Fin cfg1.N).val % 16 = 0 := by dsimp only; omega
    rw [outsAt1_B (V2 m ρ) c ⟨n + 1, hn⟩ hB]; dsimp only
    rw [db_B, Fin.sum_univ_castSucc (n := n + 1)]
    refine (db_apply _ _ k u).trans (congrArg₂ (· + ·) (dbeta_at c n (Nat.lt_of_succ_lt hn) u k) ?_)
    exact dbeta_of m c _ (n + 1) hn (blk1_0 m ρ c (n + 1) hn) k

theorem final_arr_d (c : Dev nD) : (dat1 (V2 m ρ) c).arrAt 4 cfg1.N = arr_d m c := by
  refine (dat1 (V2 m ρ) c).arrAt_eq_of_cover 4 (arr_d m c) (fun t _ => ?_) fun i => ?_
  · show (cfg1.win 4).cut (grid1.coords t) ((dat1 (V2 m ρ) c).after 4 t) = _
    rw [after1_4]
    funext y
    obtain ⟨r, k, rfl⟩ : ∃ (r : Fin 512) (k : Fin 1024), y = ix2 r k := ⟨y 0, y 1, eq_ix2 y⟩
    exact (d_at m ρ c t.val t.isLt r k).trans (congrArg (arr_d m c) (emb1_4 t.val t.isLt r k)).symm
  · obtain ⟨t, h⟩ : ∃ t : Fin 16, t.val = (i 0).val / 512 := ⟨⟨(i 0).val / 512, by have : (i 0).val < 8192 := (i 0).isLt; omega⟩, rfl⟩
    obtain ⟨e0, e1⟩ := ix1_4 t
    have h1 : (i 1).val < 1024 := (i 1).isLt
    refine ⟨t, flush1_4 t, ?_⟩
    show i ∈ ((View.whole (Pipeline.arrRef spec1 4)).slice (win1_4.rect t)).set
    rw [View.set_slice_whole, Rect.mem_set_unit]
    exact cover_blk 512 1024 ⟨e0, e1⟩ rfl rfl rfl rfl (a := (i 0).val) rfl (b := (i 1).val) rfl (by omega) (by omega)

theorem final_arr_db16 (c : Dev nD) : (dat1 (V2 m ρ) c).arrAt 5 cfg1.N = arr_db16 m c := by
  refine (dat1 (V2 m ρ) c).arrAt_eq_of_cover 5 (arr_db16 m c) (fun t _ => ?_) fun i => ?_
  · show (cfg1.win 5).cut (grid1.coords t) ((dat1 (V2 m ρ) c).after 5 t) = _
    rw [after1_5]
    funext y
    obtain ⟨r, k, rfl⟩ : ∃ (r : Fin 512) (k : Fin 1024), y = ix2 r k := ⟨y 0, y 1, eq_ix2 y⟩
    exact (db16_at m ρ c t.val t.isLt r k).trans (congrArg (arr_db16 m c) (emb1_5 t.val t.isLt r k)).symm
  · obtain ⟨t, h⟩ : ∃ t : Fin 16, t.val = (i 0).val / 512 := ⟨⟨(i 0).val / 512, by have : (i 0).val < 8192 := (i 0).isLt; omega⟩, rfl⟩
    obtain ⟨e0, e1⟩ := ix1_5 t
    have h1 : (i 1).val < 1024 := (i 1).isLt
    refine ⟨t, flush1_5 t, ?_⟩
    show i ∈ ((View.whole (Pipeline.arrRef spec1 5)).slice (win1_5.rect t)).set
    rw [View.set_slice_whole, Rect.mem_set_unit]
    exact cover_blk 512 1024 ⟨e0, e1⟩ rfl rfl rfl rfl (a := (i 0).val) rfl (b := (i 1).val) rfl (by omega) (by omega)

theorem final_arr_dg (c : Dev nD) : (dat1 (V2 m ρ) c).arrAt 6 cfg1.N = arr_dg m c := by
  have hN : cfg1.N = 16 := N_1
  refine (dat1 (V2 m ρ) c).arrAt_eq_of_cover 6 (arr_dg m c) (fun t hf => ?_) fun i => ?_
  · show (cfg1.win 6).cut (grid1.coords t) ((dat1 (V2 m ρ) c).after 6 t) = _
    rw [after1_6]
    funext y
    obtain ⟨u, k, rfl⟩ : ∃ (r : Fin 1) (k : Fin 1024), y = ix2 r k := ⟨y 0, y 1, eq_ix2 y⟩
    have h15 : t.val = 15 := by have := (flush1_6 t).mp hf; have := t.isLt; omega
    refine (dg_at m ρ c t.val t.isLt u k).trans (Eq.trans ?_ (congrArg (arr_dg m c) (emb1_6 t.val t.isLt u k)).symm)
    obtain ⟨n, hn⟩ := t
    dsimp only at h15
    subst h15
    exact (sum_tiles 16 512 8192 rfl fun r => aY m c (ix2 r k) * hat (lrow m c r) k).symm
  · let t : Fin cfg1.N := ⟨15, by rw [hN]; decide⟩
    refine ⟨t, (flush1_6 t).mpr rfl, ?_⟩
    obtain ⟨e0, e1⟩ := ix1_6 t
    have h0 : (i 0 : ℕ) < 1 := (i 0).isLt
    have hk : (i 1 : ℕ) < 1024 := (i 1).isLt
    show i ∈ ((View.whole (Pipeline.arrRef spec1 6)).slice (win1_6.rect t)).set
    rw [View.set_slice_whole, Rect.mem_set_unit]
    exact cover_blk 1 1024 ⟨e0, e1⟩ rfl rfl rfl rfl (a := (i 0).val) rfl (b := (i 1).val) rfl (by omega) (by omega)

theorem final_arr_dbeta (c : Dev nD) : (dat1 (V2 m ρ) c).arrAt 7 cfg1.N = arr_dbeta m c := by
  have hN : cfg1.N = 16 := N_1
  refine (dat1 (V2 m ρ) c).arrAt_eq_of_cover 7 (arr_dbeta m c) (fun t hf => ?_) fun i => ?_
  · show (cfg1.win 7).cut (grid1.coords t) ((dat1 (V2 m ρ) c).after 7 t) = _
    rw [after1_7]
    funext y
    obtain ⟨u, k, rfl⟩ : ∃ (r : Fin 1) (k : Fin 1024), y = ix2 r k := ⟨y 0, y 1, eq_ix2 y⟩
    have h15 : t.val = 15 := by have := (flush1_7 t).mp hf; have := t.isLt; omega
    refine (dbeta_at m ρ c t.val t.isLt u k).trans (Eq.trans ?_ (congrArg (arr_dbeta m c) (emb1_7 t.val t.isLt u k)).symm)
    obtain ⟨n, hn⟩ := t
    dsimp only at h15
    subst h15
    exact (sum_tiles 16 512 8192 rfl fun r => aY m c (ix2 r k)).symm
  · let t : Fin cfg1.N := ⟨15, by rw [hN]; decide⟩
    refine ⟨t, (flush1_7 t).mpr rfl, ?_⟩
    obtain ⟨e0, e1⟩ := ix1_7 t
    have h0 : (i 0 : ℕ) < 1 := (i 0).isLt
    have hk : (i 1 : ℕ) < 1024 := (i 1).isLt
    show i ∈ ((View.whole (Pipeline.arrRef spec1 7)).slice (win1_7.rect t)).set
    rw [View.set_slice_whole, Rect.mem_set_unit]
    exact cover_blk 1 1024 ⟨e0, e1⟩ rfl rfl rfl rfl (a := (i 0).val) rfl (b := (i 1).val) rfl (by omega) (by omega)

/-! ### At the end of the run -/

theorem end_y (c : Dev nD) : W3 m ρ c main_v2_0 = arr_y m c :=
  ((W3_of_ne m ρ c main_v2_0 (by decide)).trans (W2_arr m ρ c 5)).trans (final_arr_y m ρ c)
theorem end_yb (c : Dev nD) : W3 m ρ c main_v2_1 = arr_yb m c :=
  ((W3_of_ne m ρ c main_v2_1 (by decide)).trans (W2_arr m ρ c 6)).trans (final_arr_yb m ρ c)
theorem end_d (c : Dev nD) : W3 m ρ c main_v3_0 = arr_d m c := (W3_arr m ρ c 4).trans (final_arr_d m ρ c)
theorem end_db16 (c : Dev nD) : W3 m ρ c main_v3_1 = arr_db16 m c := (W3_arr m ρ c 5).trans (final_arr_db16 m ρ c)
theorem end_dg (c : Dev nD) : W3 m ρ c main_v3_2 = arr_dg m c := (W3_arr m ρ c 6).trans (final_arr_dg m ρ c)
theorem end_dbeta (c : Dev nD) : W3 m ρ c main_v3_3 = arr_dbeta m c := (W3_arr m ρ c 7).trans (final_arr_dbeta m ρ c)

end Cert.NormIdeal.Val

end
-- ==== Proof.Norm.Run.lean ====
module

public import proofs.«01_k».proof.Proof.Gen.NormIdeal.Frame
public import Idealize.ShloMosaic.PureOps.Ideal.Laws

/-! The norm's two calls, one after the other: the run ends with every buffer at what the calls
leave in it. -/

@[expose] public section

set_option maxRecDepth 16384

noncomputable section

namespace Cert.NormIdeal.Val

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds Cert.NormIdeal.Gen

variable (m : (ℓ : Loc nD τ sig) → Buf (Elt Ideal) ℓ) (ρ : Dev nD → PrngReg)

/-- Every buffer of the TensorCore at the end of the run is what the two calls leave in it. -/
theorem run_end : θ_run defs (onTc (τ := τ) (main (F := Ideal))) ⟨m, fun _ => 0, ρ⟩ fun r => ∀ c : Dev nD,
    ∀ b ∈ Pipeline.ucRefs τ sig, r.2.mem (((c : Thread nD τ)).1, b) = W3 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
          ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

end Cert.NormIdeal.Val

end
-- ==== Proof.Norm.Claims.lean ====
module

public import proofs.«01_k».proof.Proof.Norm.Arrays
public import proofs.«01_k».proof.Proof.Norm.Run
public import proofs.«01_k».proof.Proof.Gen.NormRefIdeal.Run
public import proofs.«01_k».proof.Proof.Gen.NormRefIdeal.Read
public import proofs.«01_k».proof.Proof.Gen.Pre_ln_finite
public import proofs.«01_k».proof.Defs

/-! The norm: what the reference computes is what the two calls leave. The norm itself and the gradients of scale and shift are
the same sums; the gradient of what goes in is the kernel's closed form for finite arguments. -/

@[expose] public section

set_option maxRecDepth 16384

noncomputable section

namespace Cert.NormIdeal.Val

open Idealize.ShloMosaic Idealize.ShloMosaic.TcCoe Idealize.ShloMosaic.Tactic Idealize.SL.Sem Cert.NormIdeal.Gen
open Idealize.ShloMosaic.ValueIdx Cert.Proof Cert.Proof.Norm Cert.NormRefIdeal.Read

section Reference

variable (x0 : S8192x1024.Idx → EReal) (x1 : S1024x1024.Idx → EReal) (x2 : S8192x1024.Idx → EReal) (x3 x4 : S1x1024.Idx → EReal)
  (x5 : S8192x1024.Idx → EReal) (r : Fin 8192) (k : Fin 1024) (z : Fin 1)

/-- The reference's row before the norm. -/
abbrev rowR : Fin 1024 → EReal := lin (fun k => x2 (ix2 r k)) (fun k => x0 (ix2 r k)) x1
/-- The reference's cotangent of the normalised row. -/
abbrev cotR : Fin 1024 → EReal := fun k => x5 (ix2 r k) * x3 (ix2 0 k)

theorem lin_ref : val_main_v3 (F := Ideal) x0 x1 x2 (ix2 r k) = rowR x0 x1 x2 r k := by
  rw [val_main_v3_apply, val_main_v2_apply, val_main_v1_apply, val_main_cst_apply, val_main_v0_apply]
  refine congrArg (Ideal.ofBits .f32 0x3FD744FD#32 * x2 (ix2 r k) + ·) (Finset.sum_congr rfl fun j _ => ?_)
  rw [show lidx_main_v0 (ix2 r k) j = ix2 r j from ix2_of rfl rfl, show ridx_main_v0 (ix2 r k) j = ix2 j k from ix2_of rfl rfl]

theorem mean_ref : val_main_v7 (F := Ideal) x0 x1 x2 (ix2 r z) = mean (rowR x0 x1 x2 r) := by
  rw [val_main_v7_apply, val_main_v5_apply, val_main_v4_apply, val_main_v6_apply, val_main_cst_1_apply, val_main_cst_0_apply]
  refine congrArg (Ideal.div · _) (((congrArg (· + _) Ideal.ofBits_zero_f32).trans (zero_add _)).trans (Finset.sum_congr rfl fun j _ => ?_))
  rw [← lin_ref, show idx_main_v4 (idx_main_v5 (ix2 r z)) j = ix2 r j from ix2_of rfl rfl]

theorem cen_ref : val_main_v9 (F := Ideal) x0 x1 x2 (ix2 r k) = cen (rowR x0 x1 x2 r) k := by
  rw [val_main_v9_apply, val_main_v8_apply, show idx_main_v8 (ix2 r k) = ix2 r 0 from ix2_of rfl rfl, mean_ref, lin_ref]; rfl

theorem cen_ref' : val_main_v18 (F := Ideal) x0 x1 x2 (ix2 r k) = cen (rowR x0 x1 x2 r) k := by
  rw [val_main_v18_apply, val_main_v17_apply, show idx_main_v17 (ix2 r k) = ix2 r 0 from ix2_of rfl rfl, mean_ref, lin_ref]; rfl

theorem vare_ref : val_main_v20 (F := Ideal) x0 x1 x2 (ix2 r z) = vare (rowR x0 x1 x2 r) := by
  rw [val_main_v20_apply, val_main_v19_apply, val_main_cst_5_apply, val_main_v16_apply, val_main_v14_apply, val_main_v13_apply, val_main_v15_apply,
    val_main_cst_4_apply, val_main_cst_3_apply]
  refine congrArg (Ideal.div · _ + _) (((congrArg (· + _) Ideal.ofBits_zero_f32).trans (zero_add _)).trans (Finset.sum_congr rfl fun j _ => ?_))
  rw [show idx_main_v13 (idx_main_v14 (ix2 r z)) j = ix2 r j from ix2_of rfl rfl, val_main_v10_apply, cen_ref]
  rfl

theorem rstd_ref : val_main_v21 (F := Ideal) x0 x1 x2 (ix2 r z) = rstd (rowR x0 x1 x2 r) := by
  rw [val_main_v21_apply, vare_ref]; rfl

theorem hat_ref : val_main_v26 (F := Ideal) x0 x1 x2 (ix2 r k) = hat (rowR x0 x1 x2 r) k := by
  rw [val_main_v26_apply, cen_ref', val_main_v25_apply, show idx_main_v25 (ix2 r k) = ix2 r 0 from ix2_of rfl rfl, rstd_ref]; rfl

theorem y_ref : val_main_v30 (F := Ideal) x0 x1 x2 x3 x4 (ix2 r k) = hat (rowR x0 x1 x2 r) k * x3 (ix2 0 k) + x4 (ix2 0 k) := by
  rw [val_main_v30_apply, val_main_v28_apply, hat_ref, val_main_v27_apply, val_main_v29_apply,
    show idx_main_v27 (ix2 r k) = ix2 0 k from ix2_of rfl rfl, show idx_main_v29 (ix2 r k) = ix2 0 k from ix2_of rfl rfl]
  rfl

theorem ct_ref : val_main_v31 (F := Ideal) x5 (ix2 r k) = x5 (ix2 r k) := by
  have := k.isLt
  rw [val_main_v31_apply, show idx_main_v31 (ix2 r k) = ix2 r k from
    ix2_of (by show (r.val * 1024 + k.val) / 1024 = r.val; omega) (by show (r.val * 1024 + k.val) % 1024 = k.val; omega)]

theorem cot_ref : val_main_v38 (F := Ideal) x3 x5 (ix2 r k) = cotR x3 x5 r k := by
  rw [val_main_v38_apply, ct_ref, val_main_v37_apply, show idx_main_v37 (ix2 r k) = ix2 0 k from ix2_of rfl rfl]; rfl

theorem dbeta_ref : val_main_v33 (F := Ideal) x5 (ix2 z k) = ∑ r : Fin 8192, x5 (ix2 r k) := by
  have := z.isLt
  rw [val_main_v33_apply, val_main_v32_apply, val_main_cst_7_apply]
  refine ((congrArg (· + _) Ideal.ofBits_zero_f32).trans (zero_add _)).trans (Finset.sum_congr rfl fun j _ => ?_)
  exact congrArg x5 (ix2_of rfl (by show z.val * 1024 + k.val = k.val; omega))

theorem dg_ref : val_main_v36 (F := Ideal) x0 x1 x2 x5 (ix2 z k) = ∑ r : Fin 8192, x5 (ix2 r k) * hat (rowR x0 x1 x2 r) k := by
  have := z.isLt
  rw [val_main_v36_apply, val_main_v35_apply, val_main_cst_8_apply]
  refine ((congrArg (· + _) Ideal.ofBits_zero_f32).trans (zero_add _)).trans (Finset.sum_congr rfl fun j _ => ?_)
  rw [show idx_main_v35 (idx_main_v36 (ix2 z k)) j = ix2 j k from ix2_of rfl (by show z.val * 1024 + k.val = k.val; omega), val_main_v34_apply, hat_ref, ct_ref]
  exact mul_comm _ _

/-- The factor of the deviations in the gradient. -/
abbrev facR : EReal := Ideal.div ((∑ j, cen (rowR x0 x1 x2 r) j * cotR x3 x5 r j)
  * (Ideal.ofBits .f32 0xBF000000#32 * Ideal.div (rstd (rowR x0 x1 x2 r)) (vare (rowR x0 x1 x2 r)))) (Ideal.ofBits .f32 0x44800000#32)

theorem fac_ref : val_main_v49 (F := Ideal) x0 x1 x2 x3 x5 (ix2 r z) = facR x0 x1 x2 x3 x5 r := by
  have := z.isLt
  rw [val_main_v49_apply, val_main_v44_apply, val_main_v41_apply, val_main_v40_apply, val_main_cst_9_apply, val_main_v24_apply, val_main_v23_apply,
    val_main_cst_6_apply, val_main_v22_apply, rstd_ref, vare_ref, val_main_v48_apply, val_main_cst_11_apply]
  refine congrArg (fun t => Ideal.div (t * _) _) (((congrArg (· + _) Ideal.ofBits_zero_f32).trans (zero_add _)).trans (Finset.sum_congr rfl fun j _ => ?_))
  rw [show idx_main_v40 (idx_main_v41 (ix2 r z)) j = ix2 r j from ix2_of (by show r.val * 1 + z.val = r.val; omega) rfl, val_main_v39_apply, cen_ref', cot_ref]
  rfl

theorem v43_ref : val_main_v43 (F := Ideal) x0 x1 x2 x3 x5 (ix2 r k) = cotR x3 x5 r k * rstd (rowR x0 x1 x2 r) := by
  rw [val_main_v43_apply, cot_ref, val_main_v42_apply, show idx_main_v42 (ix2 r k) = ix2 r 0 from ix2_of rfl rfl, rstd_ref]; rfl

theorem v52_ref : val_main_v52 (F := Ideal) x0 x1 x2 x3 x5 (ix2 r k)
    = facR x0 x1 x2 x3 x5 r * (Ideal.ofBits .f32 0x40000000#32 * cen (rowR x0 x1 x2 r) k) := by
  rw [val_main_v52_apply, val_main_v51_apply, val_main_v50_apply, Fin.sum_univ_one,
    show idx_main_v50 (idx_main_v51 (ix2 r k)) 0 = ix2 r 0 from ix2_of rfl rfl, fac_ref, val_main_cst_12_apply, val_main_v12_apply, val_main_v11_apply,
    val_main_cst_2_apply, cen_ref]
  exact congrArg (· * _) ((congrArg (· + _) Ideal.ofBits_zero_f32).trans (zero_add _))

theorem dmix_ref : val_main_v62 (F := Ideal) x0 x1 x2 x3 x5 (ix2 r k) = grad' (cotR x3 x5 r) (rowR x0 x1 x2 r) k := by
  rw [val_main_v62_apply, val_main_v56_apply, v43_ref, v52_ref, val_main_v61_apply, val_main_v60_apply, Fin.sum_univ_one,
    show idx_main_v60 (idx_main_v61 (ix2 r k)) 0 = ix2 r 0 from ix2_of rfl rfl, val_main_cst_15_apply, val_main_v59_apply, val_main_v57_apply,
    val_main_v47_apply, val_main_v46_apply, val_main_cst_10_apply, val_main_v55_apply, val_main_v54_apply, val_main_cst_13_apply, val_main_v58_apply,
    val_main_cst_14_apply]
  unfold grad'
  refine congrArg₂ (fun s t : EReal => s + t) rfl ((congrArg (fun t : EReal => t + _) Ideal.ofBits_zero_f32).trans ((zero_add _).trans ?_))
  refine congrArg (fun t : EReal => Ideal.div t (Ideal.ofBits .f32 0x44800000#32)) (congrArg₂ (fun s t : EReal => s + t) ?_ ?_)
  · refine ((congrArg (· + _) Ideal.ofBits_zero_f32).trans (zero_add _)).trans (Finset.sum_congr rfl fun j _ => ?_)
    rw [show idx_main_v46 (idx_main_v47 (ix2 r 0)) j = ix2 r j from ix2_of (by show r.val * 1 + 0 = r.val; omega) rfl, val_main_v45_apply, v43_ref]
    rfl
  · refine ((congrArg (· + _) Ideal.ofBits_zero_f32).trans (zero_add _)).trans (Finset.sum_congr rfl fun j _ => ?_)
    rw [show idx_main_v54 (idx_main_v55 (ix2 r 0)) j = ix2 r j from ix2_of (by show r.val * 1 + 0 = r.val; omega) rfl, val_main_v53_apply, v52_ref]
    rfl

end Reference

variable (m : (ℓ : Loc nD τ sig) → Buf (Elt Ideal) ℓ) (ρ : Dev nD → PrngReg)

theorem val_y (c : Dev nD) : val_main_v30 (F := Ideal) (aA m c) (aW m c) (aR m c) (aG m c) (aB m c) = arr_y m c := by
  funext i
  obtain ⟨r, j, rfl⟩ : ∃ (r : Fin 8192) (j : Fin 1024), i = ix2 r j := ⟨i 0, i 1, eq_ix2 i⟩
  exact y_ref _ _ _ _ _ r j

theorem val_dg (c : Dev nD) : val_main_v36 (F := Ideal) (aA m c) (aW m c) (aR m c) (aY m c) = arr_dg m c := by
  funext i
  obtain ⟨r, j, rfl⟩ : ∃ (r : Fin 1) (j : Fin 1024), i = ix2 r j := ⟨i 0, i 1, eq_ix2 i⟩
  exact dg_ref _ _ _ _ j r

theorem val_dbeta (c : Dev nD) : val_main_v33 (F := Ideal) (aY m c) = arr_dbeta m c := by
  funext i
  obtain ⟨r, j, rfl⟩ : ∃ (r : Fin 1) (j : Fin 1024), i = ix2 r j := ⟨i 0, i 1, eq_ix2 i⟩
  exact dbeta_ref _ j r

theorem lit_alpha : ∃ a : ℝ, Ideal.ofBits .f32 0x3FD744FD#32 = (a : EReal) := by
  refine ⟨_, by simp [Ideal.ofBits, Ideal.ieee]; rw [← EReal.coe_mul]⟩

/-- The row of real numbers that a row of finite arguments makes. -/
theorem row_real (x0 : S8192x1024.Idx → EReal) (x1 : S1024x1024.Idx → EReal) (x2 : S8192x1024.Idx → EReal)
    (a0 : S8192x1024.Idx → ℝ) (a1 : S1024x1024.Idx → ℝ) (a2 : S8192x1024.Idx → ℝ)
    (h0 : ∀ i, x0 i = (a0 i : EReal)) (h1 : ∀ i, x1 i = (a1 i : EReal)) (h2 : ∀ i, x2 i = (a2 i : EReal)) (r : Fin 8192) :
    ∃ a : Fin 1024 → ℝ, ∀ k, rowR x0 x1 x2 r k = (a k : EReal) := by
  obtain ⟨al, hal⟩ := lit_alpha
  refine ⟨fun k => al * a2 (ix2 r k) + ∑ j : Fin 1024, a0 (ix2 r j) * a1 (ix2 j k), fun k => ?_⟩
  show Ideal.ofBits .f32 0x3FD744FD#32 * x2 (ix2 r k) + ∑ j : Fin 1024, x0 (ix2 r j) * x1 (ix2 j k) = _
  rw [hal, h2, sum_real _ (fun j => a0 (ix2 r j) * a1 (ix2 j k)) (fun j => by rw [h0, h1, ← EReal.coe_mul]), ← EReal.coe_mul, ← EReal.coe_add]

/-- An array of real numbers. -/
abbrev RealArr {s : Shape} (x : s.Idx → EReal) : Prop := ∀ i, x i = (((x i).toReal : ℝ) : EReal)

theorem val_d (c : Dev nD) (h0 : RealArr (aA m c)) (h1 : RealArr (aW m c)) (h2 : RealArr (aR m c)) (h3 : RealArr (aG m c)) (h5 : RealArr (aY m c)) :
    val_main_v62 (F := Ideal) (aA m c) (aW m c) (aR m c) (aG m c) (aY m c) = arr_d m c := by
  funext i
  obtain ⟨r, j, rfl⟩ : ∃ (r : Fin 8192) (j : Fin 1024), i = ix2 r j := ⟨i 0, i 1, eq_ix2 i⟩
  obtain ⟨a, ha⟩ := row_real _ _ _ _ _ _ h0 h1 h2 r
  refine (dmix_ref _ _ _ _ _ r j).trans (grad_eq _ _ (fun k => (aY m c (ix2 r k)).toReal * (aG m c (ix2 0 k)).toReal) a (fun k => ?_) ha j)
  rw [EReal.coe_mul, ← h5, ← h3]

end Cert.NormIdeal.Val

namespace Cert.Proof.Norm

open Idealize.ShloMosaic Idealize.ShloMosaic.TcCoe Idealize.SL.Sem Cert.NormIdeal.Val

theorem frame_ref : Cert.quiescent_NormRefIdeal := fun m ρ _ =>
  (θ_run Cert.NormRefIdeal.defs _ _).mono (fun r h => ⟨fun c => (h c).2.2.2.2.2.2, sem_eq_zero_of_no_sems (by decide) r.2⟩)
    (Cert.NormRefIdeal.Value.run (F := Ideal) m ρ)

theorem algebraic : Cert.algebraic_NormIdeal_NormRefIdeal_pre_ln_finite := by
  intro m ρ m' ρ' hpre hagree
  have h0 : ∀ c, RealArr (aA m c) := fun c => real_of_finite (aA m c) _ _ (hpre c).1
  have h1 : ∀ c, RealArr (aW m c) := fun c => real_of_finite (aW m c) _ _ (hpre c).2.1
  have h2 : ∀ c, RealArr (aR m c) := fun c => real_of_finite (aR m c) _ _ (hpre c).2.2.1
  have h3 : ∀ c, RealArr (aG m c) := fun c => real_of_finite (aG m c) _ _ (hpre c).2.2.2.1
  have h5 : ∀ c, RealArr (aY m c) := fun c => real_of_finite (aY m c) _ _ (hpre c).2.2.2.2
  refine ⟨fun c => arr_y m c, fun c => arr_yb m c, fun c => arr_d m c, fun c => arr_db16 m c, fun c => arr_dg m c, fun c => arr_dbeta m c, ?_, ?_⟩
  · refine (θ_run Cert.NormIdeal.defs _ _).mono (fun _ h c => ⟨?_, ?_, ?_, ?_, ?_, ?_, ?_, ?_, ?_, ?_, ?_, ?_⟩) (run_end m ρ)
    · exact (h c _ (Cert.NormIdeal.Gen.mem_uc Cert.NormIdeal.main_v2_0 (by decide))).trans (end_y m ρ c)
    · exact (h c _ (Cert.NormIdeal.Gen.mem_uc Cert.NormIdeal.main_v2_1 (by decide))).trans (end_yb m ρ c)
    · exact (h c _ (Cert.NormIdeal.Gen.mem_uc Cert.NormIdeal.main_v3_0 (by decide))).trans (end_d m ρ c)
    · exact (h c _ (Cert.NormIdeal.Gen.mem_uc Cert.NormIdeal.main_v3_1 (by decide))).trans (end_db16 m ρ c)
    · exact (h c _ (Cert.NormIdeal.Gen.mem_uc Cert.NormIdeal.main_v3_2 (by decide))).trans (end_dg m ρ c)
    · exact (h c _ (Cert.NormIdeal.Gen.mem_uc Cert.NormIdeal.main_v3_3 (by decide))).trans (end_dbeta m ρ c)
    · exact (h c _ (Cert.NormIdeal.Gen.mem_uc Cert.NormIdeal.main_arg0 (by decide))).trans (Cert.NormIdeal.Gen.W3_main_arg0 m ρ c)
    · exact (h c _ (Cert.NormIdeal.Gen.mem_uc Cert.NormIdeal.main_arg1 (by decide))).trans (Cert.NormIdeal.Gen.W3_main_arg1 m ρ c)
    · exact (h c _ (Cert.NormIdeal.Gen.mem_uc Cert.NormIdeal.main_arg2 (by decide))).trans (Cert.NormIdeal.Gen.W3_main_arg2 m ρ c)
    · exact (h c _ (Cert.NormIdeal.Gen.mem_uc Cert.NormIdeal.main_arg3 (by decide))).trans (Cert.NormIdeal.Gen.W3_main_arg3 m ρ c)
    · exact (h c _ (Cert.NormIdeal.Gen.mem_uc Cert.NormIdeal.main_arg4 (by decide))).trans (Cert.NormIdeal.Gen.W3_main_arg4 m ρ c)
    · exact (h c _ (Cert.NormIdeal.Gen.mem_uc Cert.NormIdeal.main_arg5 (by decide))).trans (Cert.NormIdeal.Gen.W3_main_arg5 m ρ c)
  · refine (θ_run Cert.NormRefIdeal.defs _ _).mono (fun _ h c => ⟨(h c).1.trans ?_, (h c).2.1.trans ?_, (h c).2.2.1.trans ?_, (h c).2.2.2.1.trans ?_,
        (h c).2.2.2.2.1.trans ?_, (h c).2.2.2.2.2.1.trans ?_, (h c).2.2.2.2.2.2⟩)
      (Cert.NormRefIdeal.Value.run (F := Ideal) m' ρ')
    · rw [Cert.NormRefIdeal.Read.val_main_v30_eq, (hagree c).1, (hagree c).2.1, (hagree c).2.2.1, (hagree c).2.2.2.1, (hagree c).2.2.2.2.1]
      exact val_y m c
    · rw [Cert.NormRefIdeal.Read.val_main_v63_eq, (hagree c).1, (hagree c).2.1, (hagree c).2.2.1, (hagree c).2.2.2.1, (hagree c).2.2.2.2.1]
      exact val_y m c
    · rw [Cert.NormRefIdeal.Read.val_main_v62_eq, (hagree c).1, (hagree c).2.1, (hagree c).2.2.1, (hagree c).2.2.2.1, (hagree c).2.2.2.2.2]
      exact val_d m c (h0 c) (h1 c) (h2 c) (h3 c) (h5 c)
    · rw [Cert.NormRefIdeal.Read.val_main_v64_eq, (hagree c).1, (hagree c).2.1, (hagree c).2.2.1, (hagree c).2.2.2.1, (hagree c).2.2.2.2.2]
      exact val_d m c (h0 c) (h1 c) (h2 c) (h3 c) (h5 c)
    · rw [Cert.NormRefIdeal.Read.val_main_v36_eq, (hagree c).1, (hagree c).2.1, (hagree c).2.2.1, (hagree c).2.2.2.2.2]
      exact val_dg m c
    · rw [Cert.NormRefIdeal.Read.val_main_v33_eq, (hagree c).2.2.2.2.2]
      exact val_dbeta m c

end Cert.Proof.Norm

end
-- ==== Proof.AttnFwd.Pay.lean ====
module

public import proofs.«01_k».proof.Proof.Gen.AttnFwdIdeal.Frame
public import proofs.«01_k».proof.Proof.Reals
public import Idealize.ShloMosaic.Lib.VecWindow
public import Idealize.ShloMosaic.Lib.WritesUnit
public import Idealize.ShloMosaic.Lib.MatmulPlain
public import Idealize.ShloMosaic.Lib.Pipeline.Value
public import Idealize.ShloMosaic.Lib.ValueIdx
public import Idealize.ShloMosaic.Lib.ValueLayout
public import Idealize.ShloMosaic.Lib.Tactic
public import Idealize.ShloMosaic.PureOps.Ideal.Laws

/-! The arithmetic of one step of the full attention's forward kernel, in real numbers.

One step takes a tile of 512 keys against a chunk of 512 queries. It is handed any real `M` per query, the tile's
scores, and the accumulator: rows of values weighted by `exp (score - M)` over the keys so far. -/

@[expose] public section

set_option maxRecDepth 16384

noncomputable section

namespace Cert.AttnFwdIdeal.Val

open Idealize.ShloMosaic Idealize.ShloMosaic.TcCoe Idealize.ShloMosaic.Tactic Idealize.SL.Sem Cert.AttnFwdIdeal Cert.AttnFwdIdeal.Gen
open Idealize.ShloMosaic.ValueIdx Cert.Proof

/-- A chunk of queries by lane and column. -/
abbrev IsQ (q : S1x1x64x512.Idx → EReal) (qf : Fin 64 → Fin 512 → ℝ) : Prop := ∀ d c, q (ix4 0 0 d c) = ((qf d c : ℝ) : EReal)
/-- A tile of keys by row and lane. -/
abbrev IsK (k : S1x512x64.Idx → EReal) (kf : Fin 512 → Fin 64 → ℝ) : Prop := ∀ r d, k (ix3 0 r d) = ((kf r d : ℝ) : EReal)

/-- The score of a key with a query. -/
def sc (kf : Fin 512 → Fin 64 → ℝ) (qf : Fin 64 → Fin 512 → ℝ) (r c : Fin 512) : ℝ := ∑ d, kf r d * qf d c

theorem dot1 (lhs : FVec Ideal S512x64 .bf16) (rhs : FVec Ideal S64x512 .bf16) (r c : Fin 512) :
    matmul (F := Ideal) dot_S512x64_S64x512_S512x512_1_0_0_1_n_n none lhs rhs (constant S512x512 .f32 0x00000000#32) (ix2 r c)
      = ∑ d : Fin 64, lhs (ix2 r d) * rhs (ix2 d c) := by
  refine (Ideal.matmul_plain_apply none lhs rhs _ r c).trans ?_
  show (Ideal.ofBits .f32 0x00000000#32 : EReal) + _ = _
  simp

theorem dot2 (lhs : FVec Ideal S72x512 .bf16) (rhs : FVec Ideal S512x512 .bf16) (e : Fin 72) (c : Fin 512) :
    matmul (F := Ideal) dot_S72x512_S512x512_S72x512_1_0_0_1_n_n none lhs rhs (constant S72x512 .f32 0x00000000#32) (ix2 e c)
      = ∑ r : Fin 512, lhs (ix2 e r) * rhs (ix2 r c) := by
  refine (Ideal.matmul_plain_apply none lhs rhs _ e c).trans ?_
  show (Ideal.ofBits .f32 0x00000000#32 : EReal) + _ = _
  simp

theorem chunk_apply {n : ℕ} (x : Shape.Idx ⟨4, ![1, 1, n, 512]⟩ → EReal) (h : Shape.ShapeCasts ⟨4, ![1, 1, n, 512]⟩ ⟨2, ![n, 512]⟩) (d : Fin n) (c : Fin 512) :
    shapeCast ⟨2, ![n, 512]⟩ x h (ix2 d c) = x (ix4 0 0 d c) := by
  rw [shapeCast_apply x h (ix2 d c) (ix4 0 0 d c) (by
    rw [Shape.rowMajor_val_two, Shape.rowMajor_val_four]
    show ((0 * 1 + 0) * n + d.val) * 512 + c.val = d.val * 512 + c.val
    simp)]

theorem unchunk_apply {n : ℕ} (x : Shape.Idx ⟨2, ![n, 512]⟩ → EReal) (h : Shape.ShapeCasts ⟨2, ![n, 512]⟩ ⟨4, ![1, 1, n, 512]⟩) (u v : Fin 1) (d : Fin n) (c : Fin 512) :
    shapeCast ⟨4, ![1, 1, n, 512]⟩ x h (ix4 u v d c) = x (ix2 d c) := by
  rw [shapeCast_apply x h (ix4 u v d c) (ix2 d c) (by
    rw [Shape.rowMajor_val_two, Shape.rowMajor_val_four]
    show d.val * 512 + c.val = ((u.val * 1 + v.val) * n + d.val) * 512 + c.val
    rw [show u.val = 0 by omega, show v.val = 0 by omega]; simp)]

section
variable (k : S1x512x64.Idx → EReal) (q : S1x1x64x512.Idx → EReal) (kf : Fin 512 → Fin 64 → ℝ) (qf : Fin 64 → Fin 512 → ℝ)
variable (hk : IsK k kf) (hq : IsQ q qf)
include hk hq

/-- A tile's scores. -/
theorem pay4_apply (r c : Fin 512) : k0_pay4 (F := Ideal) k q (ix2 r c) = ((sc kf qf r c : ℝ) : EReal) := by
  unfold k0_pay4
  refine (dot1 _ _ r c).trans (sum_real _ _ fun d => ?_)
  refine (congrArg₂ (· * ·) (shapeCast_1ab_ab_apply k _ r d) (chunk_apply q _ d c)).trans ?_
  rw [hk, hq, EReal.coe_mul]

/-- Their largest per query is a real. -/
theorem pay5_real : ∃ M : Fin 512 → ℝ, ∀ c, k0_pay5 (F := Ideal) k q (ix2 0 c) = ((M c : ℝ) : EReal) := by
  have h : ∀ c : Fin 512, ∃ M : ℝ, k0_pay5 (F := Ideal) k q (ix2 0 c) = (M : EReal) := fun c => by
    unfold k0_pay5
    obtain ⟨M, hM⟩ := fold_max_real (Finset.univ : Finset (Fin 512)) ⟨0, Finset.mem_univ _⟩
      (fun r => k0_pay4 (F := Ideal) k q (ix2 r c)) (fun r => sc kf qf r c) (fun r => pay4_apply k q kf qf hk hq r c)
    refine ⟨M, ((shapeCast_a_1a_apply _ _ 0 c).trans
      (Ideal.multiReduction_maximumf_single _ _ reduces_S512x512_S512 (.inl rfl) rfl (ix1 c))).trans (Eq.trans ?_ hM)⟩
    refine congrArg₂ (fun (b : EReal) (f : Fin 512 → EReal) => (Finset.univ : Finset (Fin 512)).fold max b f) bot_lit (funext fun r => ?_)
    exact congrArg (k0_pay4 (F := Ideal) k q) (funext fun a => by match a with | ⟨0, _⟩ => rfl | ⟨1, _⟩ => rfl)
  choose M hM using h
  exact ⟨M, hM⟩

theorem pay6_apply (r c : Fin 512) : k0_pay6 (F := Ideal) k q (ix2 r c) = ((sc kf qf r c : ℝ) : EReal) :=
  pay4_apply k q kf qf hk hq r c
theorem pay7_real : ∃ M : Fin 512 → ℝ, ∀ c, k0_pay7 (F := Ideal) k q (ix2 0 c) = ((M c : ℝ) : EReal) :=
  pay5_real k q kf qf hk hq
end

/-- The new number to subtract is the larger of the two. -/
theorem pay8_apply (a b : S1x512.Idx → EReal) (A B : Fin 512 → ℝ) (ha : ∀ c, a (ix2 0 c) = ((A c : ℝ) : EReal)) (hb : ∀ c, b (ix2 0 c) = ((B c : ℝ) : EReal))
    (c : Fin 512) : k0_pay8 (F := Ideal) a b (ix2 0 c) = ((max (A c) (B c) : ℝ) : EReal) := by
  unfold k0_pay8
  show max (a (ix2 0 c)) (b (ix2 0 c)) = _
  rw [ha, hb]
  exact (EReal.coe_strictMono.monotone.map_max).symm

/-- The accumulator, brought to the new number and with the tile's terms added. -/
theorem pay9_apply (a b : S1x512.Idx → EReal) (s : S512x512.Idx → EReal) (w : S72x512.Idx → EReal) (v : S1x1x72x512.Idx → EReal)
    (A B : Fin 512 → ℝ) (S : Fin 512 → Fin 512 → ℝ) (W : Fin 72 → Fin 512 → ℝ) (V : Fin 72 → Fin 512 → ℝ)
    (ha : ∀ c, a (ix2 0 c) = ((A c : ℝ) : EReal)) (hb : ∀ c, b (ix2 0 c) = ((B c : ℝ) : EReal))
    (hs : ∀ r c, s (ix2 r c) = ((S r c : ℝ) : EReal)) (hw : ∀ e c, w (ix2 e c) = ((W e c : ℝ) : EReal))
    (hv : ∀ e r, v (ix4 0 0 e r) = ((V e r : ℝ) : EReal)) (e : Fin 72) (c : Fin 512) :
    k0_pay9 (F := Ideal) a s b w v (ix2 e c)
      = ((Real.exp (A c - max (A c) (B c)) * W e c + ∑ r, V e r * Real.exp (S r c - max (A c) (B c)) : ℝ) : EReal) := by
  have h8 := pay8_apply a b A B ha hb c
  unfold k0_pay9
  rw [shapeCast_self]
  refine (congrArg₂ (fun x y : EReal => x + y) (?_ : _ = ((Real.exp (A c - max (A c) (B c)) * W e c : ℝ) : EReal))
    (?_ : _ = ((∑ r, V e r * Real.exp (S r c - max (A c) (B c)) : ℝ) : EReal))).trans (EReal.coe_add _ _).symm
  · refine (congrArg₂ (fun x y : EReal => x * y) (broadcastTo_apply _ _ (ix2 e c) (ix2 0 c) (fun a => by match a with | ⟨0, _⟩ => rfl | ⟨1, _⟩ => rfl)) (hw e c)).trans ?_
    show Ideal.exp (a (ix2 0 c) - k0_pay8 (F := Ideal) a b (ix2 0 c)) * _ = _
    rw [h8, ha, ← EReal.coe_sub, Ideal.exp_coe, ← EReal.coe_mul]
  · refine (dot2 _ _ e c).trans (sum_real _ _ fun r => ?_)
    refine (congrArg₂ (fun x y : EReal => x * y) ((chunk_apply v _ e r).trans (hv e r)) (?_ : _ = ((Real.exp (S r c - max (A c) (B c)) : ℝ) : EReal))).trans (EReal.coe_mul _ _).symm
    show Ideal.exp (s (ix2 r c) - broadcastTo S512x512 (k0_pay8 (F := Ideal) a b) broadcasts_S1x512_S512x512 (ix2 r c)) = _
    rw [broadcastTo_apply _ _ (ix2 r c) (ix2 0 c) (fun a => by match a with | ⟨0, _⟩ => rfl | ⟨1, _⟩ => rfl), h8, hs, ← EReal.coe_sub, Ideal.exp_coe]

theorem pay2_apply (e : Fin 72) (c : Fin 512) : k0_pay2 (F := Ideal) (ix2 e c) = ((0 : ℝ) : EReal) := by
  unfold k0_pay2
  rw [shapeCast_self]
  show (Ideal.ofBits .f32 0x00000000#32 : EReal) = _
  simp

/-- The number that the loop starts from is a real. -/
theorem pay3_real : ∃ M : ℝ, ∀ c, k0_pay3 (F := Ideal) (ix2 0 c) = ((M : ℝ) : EReal) := by
  have h : ∃ M : ℝ, Ideal.ofBits .f32 0xF149F2CA#32 = ((M : ℝ) : EReal) := by
    refine ⟨-(13234890 * 2 ^ 76), ?_⟩
    simp [Ideal.ofBits, Ideal.ieee]
  obtain ⟨M, hM⟩ := h
  exact ⟨M, fun c => hM⟩

/-- The output's block: a row of the accumulator over its row of weights. -/
theorem pay10_apply (l : S1x512.Idx → EReal) (x : S64x512.Idx → EReal) (u v : Fin 1) (d : Fin 64) (c : Fin 512) :
    k0_pay10 (F := Ideal) l x (ix4 u v d c) = Ideal.div (x (ix2 d c)) (l (ix2 0 c)) := by
  unfold k0_pay10
  refine (unchunk_apply _ _ u v d c).trans ?_
  show Ideal.div (x (ix2 d c)) (broadcastTo S64x512 l broadcasts_S1x512_S64x512 (ix2 d c)) = _
  rw [broadcastTo_apply _ _ (ix2 d c) (ix2 0 c) (fun a => by match a with | ⟨0, _⟩ => rfl | ⟨1, _⟩ => rfl)]

/-- The row log-sum's block. -/
theorem pay1_apply (a l : S1x512.Idx → EReal) (u v w : Fin 1) (c : Fin 512) :
    k0_pay1 (F := Ideal) (k0_pay11 (F := Ideal) a l) (ix4 u v w c) = a (ix2 0 c) + Ideal.log (l (ix2 0 c)) := by
  unfold k0_pay1
  obtain rfl : w = 0 := Subsingleton.elim _ _
  exact unchunk_apply _ _ u v 0 c

end Cert.AttnFwdIdeal.Val
-- ==== Proof.AttnFwd.Loop.lean ====
module

public import proofs.«01_k».proof.Proof.AttnFwd.Pay

/-! The loop over the 16 key tiles inside one point of the full attention's forward kernel: what it carries and what the
accumulator holds after it. The tile of the next trip is scored one trip ahead. -/

@[expose] public section

set_option maxRecDepth 16384

noncomputable section

namespace Cert.AttnFwdIdeal.Val

open Idealize.ShloMosaic Idealize.ShloMosaic.TcCoe Idealize.ShloMosaic.Tactic Idealize.SL.Sem Cert.AttnFwdIdeal Cert.AttnFwdIdeal.Gen
open Idealize.ShloMosaic.ValueIdx Cert.Proof

theorem trips_eq : k0_t1_loop.trips = 16 := by decide +kernel

/-- The tile that trip `k` adds, and the tile that it scores. -/
def ci (k : Fin k0_t1_loop.trips) : Fin 16 := ⟨k.val, lt_of_lt_of_eq k.isLt trips_eq⟩
def nx (k : ℕ) : Fin 16 := ⟨min k 15, by omega⟩

theorem off1_eq : ∀ k : Fin k0_t1_loop.trips, k0_off1 k = ![0, 512 * (nx (k.val + 1)).val, 0] := by decide +kernel
theorem off2_eq : ∀ k : Fin k0_t1_loop.trips, k0_off2 k = ![0, k.val, 0, 0] := by decide +kernel

theorem inb_key (i : Fin 16) (a : Fin 3) : (![0, 512 * i.val, 0] : Fin 3 → ℕ) a + S1x512x64.size a ≤ S1x8192x64.size a := by
  match a with
  | ⟨0, _⟩ => show 0 + 1 ≤ 1; omega
  | ⟨1, _⟩ => show 512 * i.val + 512 ≤ 8192; omega
  | ⟨2, _⟩ => show 0 + 64 ≤ 64; omega
theorem inb_val (k : Fin k0_t1_loop.trips) (a : Fin 4) : (![0, k.val, 0, 0] : Fin 4 → ℕ) a + S1x1x72x512.size a ≤ S1x16x72x512.size a := by
  rw [← off2_eq k]; exact k0_off2_inb k a

/-- Key `r` of tile `i`. -/
def key (i : Fin 16) (r : Fin 512) : Fin 8192 := ⟨512 * i.val + r.val, by omega⟩
/-- Tile `i` of the keys and of the values. -/
def tile (x : S1x8192x64.Idx → EReal) (i : Fin 16) : S1x512x64.Idx → EReal := fun y => x (ix3 0 (key i (y 1)) (y 2))
def vtile (x : S1x16x72x512.Idx → EReal) (i : Fin 16) : S1x1x72x512.Idx → EReal := fun y => x (ix4 0 i (y 2) (y 3))

theorem window_tile (x : S1x8192x64.Idx → EReal) (i : Fin 16) :
    VecWindow.window x ![0, 512 * i.val, 0] S1x512x64.size (inb_key i) = tile x i := by
  funext y
  refine congrArg x (funext fun a => Fin.ext ?_)
  match a with
  | ⟨0, _⟩ => show 0 + 1 * (y 0).val = 0; have h : (y 0).val < 1 := (y 0).isLt; omega
  | ⟨1, _⟩ => show 512 * i.val + 1 * (y 1).val = 512 * i.val + (y 1).val; omega
  | ⟨2, _⟩ => show 0 + 1 * (y 2).val = (y 2).val; omega

theorem window_vtile (x : S1x16x72x512.Idx → EReal) (k : Fin k0_t1_loop.trips) :
    VecWindow.window x ![0, k.val, 0, 0] S1x1x72x512.size (inb_val k) = vtile x (ci k) := by
  funext y
  refine congrArg x (funext fun a => Fin.ext ?_)
  match a with
  | ⟨0, _⟩ => show 0 + 1 * (y 0).val = 0; have h : (y 0).val < 1 := (y 0).isLt; omega
  | ⟨1, _⟩ => show k.val + 1 * (y 1).val = k.val; have h : (y 1).val < 1 := (y 1).isLt; omega
  | ⟨2, _⟩ => show 0 + 1 * (y 2).val = (y 2).val; omega
  | ⟨3, _⟩ => show 0 + 1 * (y 3).val = (y 3).val; omega

section
variable (dv : Dev nD) (gi : grid0.Coords) (arg2 : Memref sig .tc .vmem S1x1x64x512 .bf16) (harg2 : arg2.IsWhole) (arg3 : Memref sig .tc .vmem S1x8192x64 .bf16) (harg3 : arg3.IsWhole) (arg4 : Memref sig .tc .vmem S1x16x72x512 .bf16) (harg4 : arg4.IsWhole) (arg5 : Memref sig .tc .vmem S1x1x64x512 .bf16) (harg5 : arg5.IsWhole) (arg6 : Memref sig .tc .vmem S1x1x1x512 .f32) (harg6 : arg6.IsWhole) (arg7 : Memref sig .tc .vmem S72x512 .f32) (harg7 : arg7.IsWhole)
variable (X2 : BufTy.Contents (Elt Ideal) arg2.view.ty) (X3 : BufTy.Contents (Elt Ideal) arg3.view.ty)
  (X4 : BufTy.Contents (Elt Ideal) arg4.view.ty) (f7 G7 : BufTy.Contents (Elt Ideal) arg7.view.ty)
  (k : Fin k0_t1_loop.trips) (init acc : FVec Ideal S1x512 .f32 × FVec Ideal S512x512 .f32 × FVec Ideal S1x512 .f32)

/-- One trip: what it carries on, and the accumulator's new reading. -/
theorem trip_read (q : S1x1x64x512.Idx → EReal) (kb : S1x8192x64.Idx → EReal) (vb : S1x16x72x512.Idx → EReal)
    (h2 : arg2.view.read (Elt Ideal) X2 = q) (h3 : arg3.view.read (Elt Ideal) X3 = kb) (h4 : arg4.view.read (Elt Ideal) X4 = vb) :
    tripR_k0_t1 (F := Ideal) Variants.none dv none gi arg2 harg2 arg3 harg3 arg4 harg4 arg5 harg5 arg6 harg6 arg7 harg7 X2 X3 X4 k acc f7
        = (k0_pay8 (F := Ideal) acc.1 acc.2.2, k0_pay6 (F := Ideal) (tile kb (nx (k.val + 1))) q, k0_pay7 (F := Ideal) (tile kb (nx (k.val + 1))) q)
      ∧ arg7.view.read (Elt Ideal) (arg7.view.writes (Elt Ideal) f7 (tripL_k0_t1 (F := Ideal) Variants.none dv none gi arg2 harg2 arg3 harg3 arg4 harg4 arg5 harg5 arg6 harg6 arg7 harg7 X2 X3 X4 k acc f7))
        = k0_pay9 (F := Ideal) acc.1 acc.2.1 acc.2.2 (arg7.view.read (Elt Ideal) f7) (vtile vb (ci k)) := by
  have e3 : arg3.view.readAt (Elt Ideal) (Rect.unit (s := S1x8192x64) (k0_off1 k) S1x512x64.size (k0_off1_inb k)).toLoadRect X3 = tile kb (nx (k.val + 1)) := by
    rw [View.readAt_unit _ _ _ (off1_eq k) (inb_key _), h3]; exact window_tile kb _
  have e4 : arg4.view.readAt (Elt Ideal) (Rect.unit (s := S1x16x72x512) (k0_off2 k) S1x1x72x512.size (k0_off2_inb k)).toLoadRect X4 = vtile vb (ci k) := by
    rw [View.readAt_unit _ _ _ (off2_eq k) (inb_val k), h4]; exact window_vtile vb k
  unfold tripR_k0_t1 tripL_k0_t1 trip_k0_t1
  dsimp only
  sl_unfold_words
  refine ⟨?_, ?_⟩
  · have key : ∀ (a : S1x512x64.Idx → EReal) (b : S1x1x64x512.Idx → EReal), a = tile kb (nx (k.val + 1)) → b = q →
        (k0_pay8 (F := Ideal) acc.1 acc.2.2, k0_pay6 (F := Ideal) a b, k0_pay7 (F := Ideal) a b)
          = (k0_pay8 (F := Ideal) acc.1 acc.2.2, k0_pay6 (F := Ideal) (tile kb (nx (k.val + 1))) q, k0_pay7 (F := Ideal) (tile kb (nx (k.val + 1))) q) := by
      rintro _ _ rfl rfl; rfl
    exact key _ _ e3 ((View.readAt_full _ _ _).trans h2)
  · refine (View.read_writes_full _ _ _ _ _).trans ?_
    have key : ∀ (a : S72x512.Idx → EReal) (b : S1x1x72x512.Idx → EReal), a = arg7.view.read (Elt Ideal) f7 → b = vtile vb (ci k) →
        k0_pay9 (F := Ideal) acc.1 acc.2.1 acc.2.2 a b
          = k0_pay9 (F := Ideal) acc.1 acc.2.1 acc.2.2 (arg7.view.read (Elt Ideal) f7) (vtile vb (ci k)) := by
      rintro _ _ rfl rfl; rfl
    exact key _ _ (View.readAt_full _ _ _) e4

/-- What the first `n` trips have done: the accumulator holds the weighted values of their tiles, for the number `M`
    carried along; the carried scores are the next tile's. -/
def Done (qf : Fin 64 → Fin 512 → ℝ) (kf : Fin 8192 → Fin 64 → ℝ) (vf : Fin 16 → Fin 72 → Fin 512 → ℝ) (n : ℕ) (hn : n ≤ 16)
    (a : FVec Ideal S1x512 .f32 × FVec Ideal S512x512 .f32 × FVec Ideal S1x512 .f32) (w : S72x512.Idx → EReal) : Prop :=
  ∃ M B : Fin 512 → ℝ, (∀ c, a.1 (ix2 0 c) = ((M c : ℝ) : EReal)) ∧ (∀ c, a.2.2 (ix2 0 c) = ((B c : ℝ) : EReal))
    ∧ (∀ r c, a.2.1 (ix2 r c) = ((sc (fun r => kf (key (nx n) r)) qf r c : ℝ) : EReal))
    ∧ ∀ e c, w (ix2 e c) = ((∑ i : Fin n, ∑ r, vf (i.castLE hn) e r * Real.exp (sc (fun r => kf (key (i.castLE hn) r)) qf r c - M c) : ℝ) : EReal)

theorem done_zero (q : S1x1x64x512.Idx → EReal) (kb : S1x8192x64.Idx → EReal)
    (qf : Fin 64 → Fin 512 → ℝ) (kf : Fin 8192 → Fin 64 → ℝ) (vf : Fin 16 → Fin 72 → Fin 512 → ℝ)
    (hq : IsQ q qf) (hk : ∀ j d, kb (ix3 0 j d) = ((kf j d : ℝ) : EReal)) :
    Done qf kf vf 0 (by omega) (k0_pay3 (F := Ideal), k0_pay4 (F := Ideal) (tile kb 0) q, k0_pay5 (F := Ideal) (tile kb 0) q) (k0_pay2 (F := Ideal)) := by
  obtain ⟨M, hM⟩ := pay3_real
  have hk0 : IsK (tile kb 0) (fun r => kf (key 0 r)) := fun r d => hk _ _
  obtain ⟨B, hB⟩ := pay5_real (tile kb 0) q _ qf hk0 hq
  refine ⟨fun _ => M, B, hM, fun c => (by dsimp only; exact hB c), fun r c => pay4_apply _ _ _ _ hk0 hq r c, fun e c => ?_⟩
  rw [pay2_apply]; simp

theorem done_succ (q : S1x1x64x512.Idx → EReal) (kb : S1x8192x64.Idx → EReal) (vb : S1x16x72x512.Idx → EReal)
    (qf : Fin 64 → Fin 512 → ℝ) (kf : Fin 8192 → Fin 64 → ℝ) (vf : Fin 16 → Fin 72 → Fin 512 → ℝ)
    (hq : IsQ q qf) (hk : ∀ j d, kb (ix3 0 j d) = ((kf j d : ℝ) : EReal)) (hv : ∀ i e r, vb (ix4 0 i e r) = ((vf i e r : ℝ) : EReal))
    (n : ℕ) (hn : n + 1 ≤ 16) (a : FVec Ideal S1x512 .f32 × FVec Ideal S512x512 .f32 × FVec Ideal S1x512 .f32) (w : S72x512.Idx → EReal)
    (h : Done qf kf vf n (by omega) a w) :
    Done qf kf vf (n + 1) hn (k0_pay8 (F := Ideal) a.1 a.2.2, k0_pay6 (F := Ideal) (tile kb (nx (n + 1))) q, k0_pay7 (F := Ideal) (tile kb (nx (n + 1))) q)
      (k0_pay9 (F := Ideal) a.1 a.2.1 a.2.2 w (vtile vb ⟨n, by omega⟩)) := by
  obtain ⟨M, B, hM, hB, hS, hW⟩ := h
  have hk1 : IsK (tile kb (nx (n + 1))) (fun r => kf (key (nx (n + 1)) r)) := fun r d => hk _ _
  obtain ⟨B', hB'⟩ := pay7_real (tile kb (nx (n + 1))) q _ qf hk1 hq
  refine ⟨fun c => max (M c) (B c), B', pay8_apply _ _ M B hM hB, fun c => (by dsimp only; exact hB' c), fun r c => pay6_apply _ _ _ _ hk1 hq r c, fun e c => ?_⟩
  refine (pay9_apply _ _ _ _ _ M B _ _ (vf ⟨n, by omega⟩) hM hB hS hW (fun e r => hv _ _ _) e c).trans (congrArg _ ?_)
  rw [Fin.sum_univ_castSucc (n := n), Finset.mul_sum]
  refine congrArg₂ (· + ·) (Finset.sum_congr rfl fun i _ => ?_) ?_
  · rw [Finset.mul_sum]
    refine Finset.sum_congr rfl fun r _ => ?_
    rw [mul_left_comm, ← Real.exp_add]
    refine congrArg₂ (fun x y : ℝ => x * Real.exp y) rfl ?_
    show M c - max (M c) (B c) + (_ - M c) = _ - max (M c) (B c)
    rw [add_comm, sub_add_sub_cancel]; rfl
  · have e : nx n = (⟨n, by omega⟩ : Fin 16) := Fin.ext (by show min n 15 = n; omega)
    rw [e]; rfl

/-- The loop. -/
theorem loop_read (q : S1x1x64x512.Idx → EReal) (kb : S1x8192x64.Idx → EReal) (vb : S1x16x72x512.Idx → EReal)
    (qf : Fin 64 → Fin 512 → ℝ) (kf : Fin 8192 → Fin 64 → ℝ) (vf : Fin 16 → Fin 72 → Fin 512 → ℝ)
    (hq : IsQ q qf) (hk : ∀ j d, kb (ix3 0 j d) = ((kf j d : ℝ) : EReal)) (hv : ∀ i e r, vb (ix4 0 i e r) = ((vf i e r : ℝ) : EReal))
    (h2 : arg2.view.read (Elt Ideal) X2 = q) (h3 : arg3.view.read (Elt Ideal) X3 = kb) (h4 : arg4.view.read (Elt Ideal) X4 = vb)
    (h0 : Done qf kf vf 0 (by omega) init (arg7.view.read (Elt Ideal) G7)) (n : ℕ) (hn : n ≤ 16) :
    Done qf kf vf n hn (st_k0_t1 (F := Ideal) Variants.none dv none gi arg2 harg2 arg3 harg3 arg4 harg4 arg5 harg5 arg6 harg6 arg7 harg7 X2 X3 X4 G7 init n).1
      (arg7.view.read (Elt Ideal) (arg7.view.writes (Elt Ideal) G7 (st_k0_t1 (F := Ideal) Variants.none dv none gi arg2 harg2 arg3 harg3 arg4 harg4 arg5 harg5 arg6 harg6 arg7 harg7 X2 X3 X4 G7 init n).2)) := by
  induction n with
  | zero => exact h0
  | succ n ih =>
    have ih := ih (by omega)
    have hlt : n < k0_t1_loop.trips := by rw [trips_eq]; omega
    have hs := st_k0_t1_succ (F := Ideal) Variants.none dv none gi arg2 harg2 arg3 harg3 arg4 harg4 arg5 harg5 arg6 harg6 arg7 harg7 X2 X3 X4 G7 init ⟨n, hlt⟩
    rw [show (⟨n, hlt⟩ : Fin k0_t1_loop.trips).val = n from rfl] at hs
    obtain ⟨tR, tL⟩ := trip_read dv gi arg2 harg2 arg3 harg3 arg4 harg4 arg5 harg5 arg6 harg6 arg7 harg7 X2 X3 X4 (arg7.view.writes (Elt Ideal) G7 (st_k0_t1 (F := Ideal) Variants.none dv none gi arg2 harg2 arg3 harg3 arg4 harg4 arg5 harg5 arg6 harg6 arg7 harg7 X2 X3 X4 G7 init n).2) ⟨n, hlt⟩
      (st_k0_t1 (F := Ideal) Variants.none dv none gi arg2 harg2 arg3 harg3 arg4 harg4 arg5 harg5 arg6 harg6 arg7 harg7 X2 X3 X4 G7 init n).1 q kb vb h2 h3 h4
    rw [hs]
    dsimp only
    rw [View.writes_append, tR, tL]
    exact done_succ q kb vb qf kf vf hq hk hv n hn _ _ ih

end

end Cert.AttnFwdIdeal.Val
-- ==== Proof.AttnFwd.Block.lean ====
module

public import proofs.«01_k».proof.Proof.AttnFwd.Loop

/-! What one point of the full attention's forward kernel leaves in its two output blocks: the attention's output of
its queries, and the logarithm of each query's sum of exponentials. -/

@[expose] public section

set_option maxRecDepth 16384

noncomputable section

namespace Cert.AttnFwdIdeal.Val

open Idealize.ShloMosaic Idealize.ShloMosaic.TcCoe Idealize.ShloMosaic.Tactic Idealize.SL.Sem Cert.AttnFwdIdeal Cert.AttnFwdIdeal.Gen
open Idealize.ShloMosaic.ValueIdx Cert.Proof

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The sum of the values of row `e` weighted by the exponentials of query `c`'s scores; row 64 of the values is ones. -/
def wsum (qf : Fin 64 → Fin 512 → ℝ) (kf : Fin 8192 → Fin 64 → ℝ) (vf : Fin 16 → Fin 72 → Fin 512 → ℝ) (e : Fin 72) (c : Fin 512) : ℝ :=
  ∑ i : Fin 16, ∑ r, vf i e r * Real.exp (sc (fun r => kf (key i r)) qf r c)
def row (d : Fin 64) : Fin 72 := ⟨d.val, by omega⟩
def oR (qf : Fin 64 → Fin 512 → ℝ) (kf : Fin 8192 → Fin 64 → ℝ) (vf : Fin 16 → Fin 72 → Fin 512 → ℝ) (d : Fin 64) (c : Fin 512) : ℝ :=
  wsum qf kf vf (row d) c / wsum qf kf vf 64 c
def lR (qf : Fin 64 → Fin 512 → ℝ) (kf : Fin 8192 → Fin 64 → ℝ) (vf : Fin 16 → Fin 72 → Fin 512 → ℝ) (c : Fin 512) : ℝ :=
  Real.log (wsum qf kf vf 64 c)

section
variable (qf : Fin 64 → Fin 512 → ℝ) (kf : Fin 8192 → Fin 64 → ℝ) (vf : Fin 16 → Fin 72 → Fin 512 → ℝ) (M : Fin 512 → ℝ)

theorem shifted (e : Fin 72) (c : Fin 512) :
    ∑ i : Fin 16, ∑ r, vf i e r * Real.exp (sc (fun r => kf (key i r)) qf r c - M c) = wsum qf kf vf e c * (Real.exp (M c))⁻¹ := by
  unfold wsum
  rw [Finset.sum_mul]
  refine Finset.sum_congr rfl fun i _ => ?_
  rw [Finset.sum_mul]
  refine Finset.sum_congr rfl fun r _ => ?_
  rw [Real.exp_sub, mul_assoc, div_eq_mul_inv]

theorem wsum_pos (h1 : ∀ i r, vf i 64 r = 1) (c : Fin 512) : 0 < wsum qf kf vf 64 c := by
  refine Finset.sum_pos (fun i _ => Finset.sum_pos (fun r _ => ?_) ⟨0, Finset.mem_univ _⟩) ⟨0, Finset.mem_univ _⟩
  rw [h1, one_mul]; exact Real.exp_pos _
end

theorem inb_row (a : Fin 2) : (![64, 0] : Fin 2 → ℕ) a + S1x512.size a ≤ S72x512.size a := by
  match a with
  | ⟨0, _⟩ => show 64 + 1 ≤ 72; omega
  | ⟨1, _⟩ => show 0 + 512 ≤ 512; omega
theorem inb_rows (a : Fin 2) : (![0, 0] : Fin 2 → ℕ) a + S64x512.size a ≤ S72x512.size a := by
  match a with
  | ⟨0, _⟩ => show 0 + 64 ≤ 72; omega
  | ⟨1, _⟩ => show 0 + 512 ≤ 512; omega

theorem window_row (x : S72x512.Idx → EReal) (c : Fin 512) : VecWindow.window x ![64, 0] S1x512.size inb_row (ix2 0 c) = x (ix2 64 c) := by
  refine congrArg x (funext fun a => Fin.ext ?_)
  match a with
  | ⟨0, _⟩ => rfl
  | ⟨1, _⟩ => show 0 + 1 * c.val = c.val; omega
theorem window_rows (x : S72x512.Idx → EReal) (d : Fin 64) (c : Fin 512) : VecWindow.window x ![0, 0] S64x512.size inb_rows (ix2 d c) = x (ix2 (row d) c) := by
  refine congrArg x (funext fun a => Fin.ext ?_)
  match a with
  | ⟨0, _⟩ => show 0 + 1 * d.val = d.val; omega
  | ⟨1, _⟩ => show 0 + 1 * c.val = c.val; omega

variable (dv : Dev nD) (gi : grid0.Coords) (arg2 : Memref sig .tc .vmem S1x1x64x512 .bf16) (harg2 : arg2.IsWhole) (arg3 : Memref sig .tc .vmem S1x8192x64 .bf16) (harg3 : arg3.IsWhole) (arg4 : Memref sig .tc .vmem S1x16x72x512 .bf16) (harg4 : arg4.IsWhole) (arg5 : Memref sig .tc .vmem S1x1x64x512 .bf16) (harg5 : arg5.IsWhole) (arg6 : Memref sig .tc .vmem S1x1x1x512 .f32) (harg6 : arg6.IsWhole) (arg7 : Memref sig .tc .vmem S72x512 .f32) (harg7 : arg7.IsWhole)
variable (x0 : Vec Ideal S1x1x64x512 .bf16) (x1 : Vec Ideal S1x8192x64 .bf16) (x2 : Vec Ideal S1x16x72x512 .bf16)
variable (qf : Fin 64 → Fin 512 → ℝ) (kf : Fin 8192 → Fin 64 → ℝ) (vf : Fin 16 → Fin 72 → Fin 512 → ℝ)
variable (hq : IsQ x0 qf) (hk : ∀ j d, x1 (ix3 0 j d) = ((kf j d : ℝ) : EReal)) (hv : ∀ i e r, x2 (ix4 0 i e r) = ((vf i e r : ℝ) : EReal))
  (h1 : ∀ i r, vf i 64 r = 1)
include hq hk hv h1

/-- The quotient of two rows of the accumulator, and the logarithm with the number subtracted put back. -/
theorem quot (a : FVec Ideal S1x512 .f32 × FVec Ideal S512x512 .f32 × FVec Ideal S1x512 .f32) (w : S72x512.Idx → EReal)
    (h : Done qf kf vf 16 (le_refl _) a w) (d : Fin 64) (c : Fin 512) :
    Ideal.div (w (ix2 (row d) c)) (w (ix2 64 c)) = ((oR qf kf vf d c : ℝ) : EReal)
      ∧ a.1 (ix2 0 c) + Ideal.log (w (ix2 64 c)) = ((lR qf kf vf c : ℝ) : EReal) := by
  obtain ⟨M, B, hM, -, -, hW⟩ := h
  have hw : ∀ e, w (ix2 e c) = ((wsum qf kf vf e c * (Real.exp (M c))⁻¹ : ℝ) : EReal) := fun e => (hW e c).trans (congrArg _ (shifted qf kf vf M e c))
  have hp := wsum_pos qf kf vf h1 c
  have hE : (Real.exp (M c))⁻¹ ≠ 0 := inv_ne_zero (Real.exp_pos _).ne'
  refine ⟨?_, ?_⟩
  · rw [hw, hw, ediv_coe _ _ (mul_ne_zero hp.ne' hE), mul_div_mul_right _ _ hE]; rfl
  · rw [hw, hM, Ideal.log_coe, if_neg (not_le.mpr (mul_pos hp (inv_pos.mpr (Real.exp_pos _)))), ← EReal.coe_add]
    refine congrArg _ ?_
    rw [Real.log_mul hp.ne' hE, Real.log_inv, Real.log_exp]
    show M c + (_ + -M c) = _
    rw [add_neg_cancel_comm_assoc]; rfl

omit h1 in
/-- The loop, from the body's first stores: all its 16 trips. -/
theorem after_loop (X2 : BufTy.Contents (Elt Ideal) arg2.view.ty) (X3 : BufTy.Contents (Elt Ideal) arg3.view.ty) (X4 : BufTy.Contents (Elt Ideal) arg4.view.ty)
    (G7 : BufTy.Contents (Elt Ideal) arg7.view.ty) (init : FVec Ideal S1x512 .f32 × FVec Ideal S512x512 .f32 × FVec Ideal S1x512 .f32) (n : ℕ) (hn : n = 16)
    (h2 : arg2.view.read (Elt Ideal) X2 = x0) (h3 : arg3.view.read (Elt Ideal) X3 = x1) (h4 : arg4.view.read (Elt Ideal) X4 = x2)
    (h7 : arg7.view.read (Elt Ideal) G7 = k0_pay2 (F := Ideal))
    (hi : init = (k0_pay3 (F := Ideal), k0_pay4 (F := Ideal) (tile x1 0) x0, k0_pay5 (F := Ideal) (tile x1 0) x0)) :
    Done qf kf vf 16 (le_refl _) (st_k0_t1 (F := Ideal) Variants.none dv none gi arg2 harg2 arg3 harg3 arg4 harg4 arg5 harg5 arg6 harg6 arg7 harg7 X2 X3 X4 G7 init n).1
      (arg7.view.read (Elt Ideal) (arg7.view.writes (Elt Ideal) G7 (st_k0_t1 (F := Ideal) Variants.none dv none gi arg2 harg2 arg3 harg3 arg4 harg4 arg5 harg5 arg6 harg6 arg7 harg7 X2 X3 X4 G7 init n).2)) := by
  subst hn
  refine loop_read dv gi arg2 harg2 arg3 harg3 arg4 harg4 arg5 harg5 arg6 harg6 arg7 harg7 X2 X3 X4 G7 init x0 x1 x2 qf kf vf hq hk hv h2 h3 h4 ?_ 16 (le_refl _)
  rw [h7, hi]
  exact done_zero x0 x1 qf kf vf hq hk

omit hq hk hv h1 in
theorem first_tile : arg3.view.readAt (Elt Ideal) (Rect.unit (s := S1x8192x64) ![0, 0, 0] S1x512x64.size inb_S1x8192x64_S1x512x64_0_0_0).toLoadRect (harg3.unread x1) = tile x1 0 := by
  rw [View.readAt_unit _ _ _ (show ![0, 0, 0] = ![0, 512 * (0 : Fin 16).val, 0] from rfl) (inb_key 0), harg3.read_unread]
  exact window_tile x1 0

omit hq hk hv h1 in
theorem init_eq (a : S1x512x64.Idx → EReal) (b : S1x1x64x512.Idx → EReal) (ha : a = tile x1 0) (hb : b = x0) :
    (k0_pay3 (F := Ideal), k0_pay4 (F := Ideal) a b, k0_pay5 (F := Ideal) a b) = (k0_pay3 (F := Ideal), k0_pay4 (F := Ideal) (tile x1 0) x0, k0_pay5 (F := Ideal) (tile x1 0) x0) := by
  subst ha hb; rfl

omit hq hk hv h1 in
theorem read_row (L : List (View.Piece (Elt Ideal) S72x512 .f32)) (c : Fin 512) :
    arg7.view.readCov L (Rect.unit (s := S72x512) ![64, 0] S1x512.size inb_S72x512_S1x512_64_0).toLoadRect (ix2 0 c)
      = arg7.view.read (Elt Ideal) (arg7.view.writes (Elt Ideal) arg7.view.junk L) (ix2 64 c) := by
  unfold View.readCov
  rw [View.readAt_unit _ _ _ rfl inb_row]
  exact window_row _ c
omit hq hk hv h1 in
theorem read_rows (L : List (View.Piece (Elt Ideal) S72x512 .f32)) (d : Fin 64) (c : Fin 512) :
    arg7.view.readCov L (Rect.unit (s := S72x512) ![0, 0] S64x512.size inb_S72x512_S64x512_0_0).toLoadRect (ix2 d c)
      = arg7.view.read (Elt Ideal) (arg7.view.writes (Elt Ideal) arg7.view.junk L) (ix2 (row d) c) := by
  unfold View.readCov
  rw [View.readAt_unit _ _ _ rfl inb_rows]
  exact window_rows _ d c

theorem out_o (u v : Fin 1) (d : Fin 64) (c : Fin 512) :
    out0_A_3 (F := Ideal) dv gi arg2 harg2 arg3 harg3 arg4 harg4 arg5 harg5 arg6 harg6 arg7 harg7 x0 x1 x2 (ix4 u v d c) = ((oR qf kf vf d c : ℝ) : EReal) := by
  unfold out0_A_3
  rw [View.read_writes_eq_canon _ _ _ (cover0_A_3 dv gi arg2 harg2 arg3 harg3 arg4 harg4 arg5 harg5 arg6 harg6 arg7 harg7 x0 x1 x2)]
  unfold kernelRun0_A
  dsimp only
  sl_unfold_words
  rw [View.canon_unit_zero (S := S1x1x64x512) hz4]
  refine (pay10_apply _ _ u v d c).trans ?_
  rw [read_row, read_rows, View.writes_append]
  exact (quot x0 x1 x2 qf kf vf hq hk hv h1 _ _ (after_loop dv gi arg2 harg2 arg3 harg3 arg4 harg4 arg5 harg5 arg6 harg6 arg7 harg7 x0 x1 x2 qf kf vf hq hk hv _ _ _ _ _ _ (by decide +kernel)
    (harg2.read_unread x0) (harg3.read_unread x1) (harg4.read_unread x2) (View.read_writes_full _ _ _ _ _)
    (init_eq x0 x1 _ _ (first_tile arg3 harg3 x1) ((View.readAt_full _ _ _).trans (harg2.read_unread x0)))) d c).1

theorem out_l (u v w : Fin 1) (c : Fin 512) :
    out0_A_4 (F := Ideal) dv gi arg2 harg2 arg3 harg3 arg4 harg4 arg5 harg5 arg6 harg6 arg7 harg7 x0 x1 x2 (ix4 u v w c) = ((lR qf kf vf c : ℝ) : EReal) := by
  unfold out0_A_4
  rw [View.read_writes_eq_canon _ _ _ (cover0_A_4 dv gi arg2 harg2 arg3 harg3 arg4 harg4 arg5 harg5 arg6 harg6 arg7 harg7 x0 x1 x2)]
  unfold kernelRun0_A
  dsimp only
  sl_unfold_words
  rw [View.canon_unit_zero (S := S1x1x1x512) hz4]
  refine (pay1_apply _ _ u v w c).trans ?_
  rw [read_row, View.writes_append]
  exact (quot x0 x1 x2 qf kf vf hq hk hv h1 _ _ (after_loop dv gi arg2 harg2 arg3 harg3 arg4 harg4 arg5 harg5 arg6 harg6 arg7 harg7 x0 x1 x2 qf kf vf hq hk hv _ _ _ _ _ _ (by decide +kernel)
    (harg2.read_unread x0) (harg3.read_unread x1) (harg4.read_unread x2) (View.read_writes_full _ _ _ _ _)
    (init_eq x0 x1 _ _ (first_tile arg3 harg3 x1) ((View.readAt_full _ _ _).trans (harg2.read_unread x0)))) 0 c).2

end Cert.AttnFwdIdeal.Val
-- ==== Proof.AttnFwd.Arrays.lean ====
module

public import proofs.«01_k».proof.Proof.AttnFwd.Block

/-! The full attention's forward kernel over its whole grid: the two output arrays, over finite inputs, as functions of
them. The grid has 8 heads times 16 tiles of 512 queries, point `t` being head `t / 16` and tile `t % 16`; the four
query heads of a group read one head of keys and values. -/

@[expose] public section

set_option maxRecDepth 16384

noncomputable section

namespace Cert.AttnFwdIdeal.Val

open Idealize.ShloMosaic Idealize.ShloMosaic.TcCoe Idealize.ShloMosaic.Tactic Idealize.SL.Sem Cert.AttnFwdIdeal Cert.AttnFwdIdeal.Gen
open Idealize.ShloMosaic.ValueIdx Cert.Proof
open Idealize.ShloMosaic.Pipeline (Dat)

variable (m : (ℓ : Loc nD τ sig) → Buf (Elt Ideal) ℓ) (ρ : Dev nD → PrngReg)

/-- The arrays that the kernel reads: queries, keys, and the values with their rows of ones. -/
def aQ (c : Dev nD) : S8x16x64x512.Idx → EReal := V m c (Pipeline.arrRef spec0 0)
def aK (c : Dev nD) : S2x8192x64.Idx → EReal := V m c (Pipeline.arrRef spec0 1)
def aV (c : Dev nD) : S2x16x72x512.Idx → EReal := V m c (Pipeline.arrRef spec0 2)

/-- The head of keys and values that a query head reads. -/
def kvh (h : Fin 8) : Fin 2 := ⟨h.val / 4, by omega⟩
/-- The head and the tile of a point. -/
def hd (t : Fin cfg0.N) : Fin 8 := ⟨t.val / 16, by have := lt_of_lt_of_eq t.isLt (show cfg0.N = 128 from N_0); omega⟩
def tl (t : Fin cfg0.N) : Fin 16 := ⟨t.val % 16, by omega⟩

theorem ix_0 : ∀ t : Fin cfg0.N, win0_0.index t (0 : Fin 4) = t.val / 16 ∧ win0_0.index t (1 : Fin 4) = t.val % 16 ∧ win0_0.index t (2 : Fin 4) = 0 ∧ win0_0.index t (3 : Fin 4) = 0 :=
  (by decide +kernel : ∀ t : Fin grid0.N, _)
theorem ix_1 : ∀ t : Fin cfg0.N, win0_1.index t (0 : Fin 3) = t.val / 16 / 4 ∧ win0_1.index t (1 : Fin 3) = 0 ∧ win0_1.index t (2 : Fin 3) = 0 :=
  (by decide +kernel : ∀ t : Fin grid0.N, _)
theorem ix_2 : ∀ t : Fin cfg0.N, win0_2.index t (0 : Fin 4) = t.val / 16 / 4 ∧ win0_2.index t (1 : Fin 4) = 0 ∧ win0_2.index t (2 : Fin 4) = 0 ∧ win0_2.index t (3 : Fin 4) = 0 :=
  (by decide +kernel : ∀ t : Fin grid0.N, _)
theorem ix_3 : ∀ t : Fin cfg0.N, win0_3.index t (0 : Fin 4) = t.val / 16 ∧ win0_3.index t (1 : Fin 4) = t.val % 16 ∧ win0_3.index t (2 : Fin 4) = 0 ∧ win0_3.index t (3 : Fin 4) = 0 :=
  (by decide +kernel : ∀ t : Fin grid0.N, _)
theorem ix_4 : ∀ t : Fin cfg0.N, win0_4.index t (0 : Fin 4) = t.val / 16 ∧ win0_4.index t (1 : Fin 4) = t.val % 16 ∧ win0_4.index t (2 : Fin 4) = 0 ∧ win0_4.index t (3 : Fin 4) = 0 :=
  (by decide +kernel : ∀ t : Fin grid0.N, _)

theorem ib_0 (dv : Dev nD) (t : Fin cfg0.N) (d : Fin 64) (c : Fin 512) :
    iblk m dv 0 t (ix4 0 0 d c) = aQ m dv (ix4 (hd t) (tl t) d c) := by
  unfold iblk aQ
  show V m dv (Pipeline.arrRef spec0 0) (((cfg0.win 0).blk t).view.emb (ix4 0 0 d c)) = _
  obtain ⟨e0, e1, e2, e3⟩ := ix_0 t
  refine congrArg (V m dv (Pipeline.arrRef spec0 0)) (funext fun a => Fin.ext ?_)
  match a with
  | ⟨0, _⟩ => show win0_0.index t (0 : Fin 4) * 1 + 1 * 0 = t.val / 16; omega
  | ⟨1, _⟩ => show win0_0.index t (1 : Fin 4) * 1 + 1 * 0 = t.val % 16; omega
  | ⟨2, _⟩ => show win0_0.index t (2 : Fin 4) * 64 + 1 * d.val = d.val; omega
  | ⟨3, _⟩ => show win0_0.index t (3 : Fin 4) * 512 + 1 * c.val = c.val; omega
theorem ib_1 (dv : Dev nD) (t : Fin cfg0.N) (j : Fin 8192) (d : Fin 64) :
    iblk m dv 1 t (ix3 0 j d) = aK m dv (ix3 (kvh (hd t)) j d) := by
  unfold iblk aK
  show V m dv (Pipeline.arrRef spec0 1) (((cfg0.win 1).blk t).view.emb (ix3 0 j d)) = _
  obtain ⟨e0, e1, e2⟩ := ix_1 t
  refine congrArg (V m dv (Pipeline.arrRef spec0 1)) (funext fun a => Fin.ext ?_)
  match a with
  | ⟨0, _⟩ => show win0_1.index t (0 : Fin 3) * 1 + 1 * 0 = t.val / 16 / 4; omega
  | ⟨1, _⟩ => show win0_1.index t (1 : Fin 3) * 8192 + 1 * j.val = j.val; omega
  | ⟨2, _⟩ => show win0_1.index t (2 : Fin 3) * 64 + 1 * d.val = d.val; omega
theorem ib_2 (dv : Dev nD) (t : Fin cfg0.N) (i : Fin 16) (e : Fin 72) (r : Fin 512) :
    iblk m dv 2 t (ix4 0 i e r) = aV m dv (ix4 (kvh (hd t)) i e r) := by
  unfold iblk aV
  show V m dv (Pipeline.arrRef spec0 2) (((cfg0.win 2).blk t).view.emb (ix4 0 i e r)) = _
  obtain ⟨e0, e1, e2, e3⟩ := ix_2 t
  refine congrArg (V m dv (Pipeline.arrRef spec0 2)) (funext fun a => Fin.ext ?_)
  match a with
  | ⟨0, _⟩ => show win0_2.index t (0 : Fin 4) * 1 + 1 * 0 = t.val / 16 / 4; omega
  | ⟨1, _⟩ => show win0_2.index t (1 : Fin 4) * 16 + 1 * i.val = i.val; omega
  | ⟨2, _⟩ => show win0_2.index t (2 : Fin 4) * 72 + 1 * e.val = e.val; omega
  | ⟨3, _⟩ => show win0_2.index t (3 : Fin 4) * 512 + 1 * r.val = r.val; omega

variable (c : Dev nD) (Q : Fin 8 → Fin 16 → Fin 64 → Fin 512 → ℝ) (K : Fin 2 → Fin 8192 → Fin 64 → ℝ) (W : Fin 2 → Fin 16 → Fin 72 → Fin 512 → ℝ)
  (hQ : ∀ h b d x, aQ m c (ix4 h b d x) = ((Q h b d x : ℝ) : EReal)) (hK : ∀ h j d, aK m c (ix3 h j d) = ((K h j d : ℝ) : EReal))
  (hW : ∀ h i e r, aV m c (ix4 h i e r) = ((W h i e r : ℝ) : EReal)) (h1 : ∀ h i r, W h i 64 r = 1)

/-- The two output arrays. -/
def oArr : S8x16x64x512.Idx → EReal := fun z => ((oR (Q (z 0) (z 1)) (K (kvh (z 0))) (W (kvh (z 0))) (z 2) (z 3) : ℝ) : EReal)
def lArr : S8x16x1x512.Idx → EReal := fun z => ((lR (Q (z 0) (z 1)) (K (kvh (z 0))) (W (kvh (z 0))) (z 3) : ℝ) : EReal)

include hQ hK hW h1

theorem final_o : (dats m 0 c).arrAt 3 cfg0.N = oArr Q K W := by
  have hN : cfg0.N = 128 := N_0
  refine (dats m 0 c).arrAt_eq_of_cover 3 (oArr Q K W) (fun t hf => ?_) fun i => ?_
  · show (cfg0.win 3).cut (grid0.coords t) ((dats m 0 c).after 3 t) = _
    rw [after0_3]
    obtain ⟨e0, e1, e2, e3⟩ := ix_3 t
    funext y
    obtain ⟨u, v, d, x, rfl⟩ : ∃ (u v : Fin 1) (d : Fin 64) (x : Fin 512), y = ix4 u v d x := ⟨y 0, y 1, y 2, y 3, eq_ix4 y⟩
    show (outsAt0 m c t).1 (ix4 u v d x) = oArr Q K W (((cfg0.win 3).blk t).view.emb (ix4 u v d x))
    have e : ((cfg0.win 3).blk t).view.emb (ix4 u v d x) = ix4 (hd t) (tl t) d x := by
      funext a; apply Fin.ext
      match a with
      | ⟨0, _⟩ => show win0_3.index t (0 : Fin 4) * 1 + 1 * u.val = t.val / 16; omega
      | ⟨1, _⟩ => show win0_3.index t (1 : Fin 4) * 1 + 1 * v.val = t.val % 16; omega
      | ⟨2, _⟩ => show win0_3.index t (2 : Fin 4) * 64 + 1 * d.val = d.val; omega
      | ⟨3, _⟩ => show win0_3.index t (3 : Fin 4) * 512 + 1 * x.val = x.val; omega
    rw [e]
    unfold outsAt0
    dsimp only
    exact out_o c (grid0.coords t) (ms0_0 t) (hs0_0 t) (ms0_1 t) (hs0_1 t) (ms0_2 t) (hs0_2 t) (ms0_3 t) (hs0_3 t) (ms0_4 t) (hs0_4 t) scM0_0 (Memref.isWhole_whole _)
      (iblk m c 0 t) (iblk m c 1 t) (iblk m c 2 t) (Q (hd t) (tl t)) (K (kvh (hd t))) (W (kvh (hd t)))
      (fun d x => (ib_0 m c t d x).trans (hQ _ _ _ _)) (fun j d => (ib_1 m c t j d).trans (hK _ _ _))
      (fun i e r => (ib_2 m c t i e r).trans (hW _ _ _ _)) (h1 _) u v d x
  · have h0 : (i 0 : Nat) < 8 := (i 0).isLt
    have h1 : (i 1 : Nat) < 16 := (i 1).isLt
    have h2 : (i 2 : Nat) < 64 := (i 2).isLt
    have h3 : (i 3 : Nat) < 512 := (i 3).isLt
    let t : Fin cfg0.N := ⟨16 * (i 0 : Nat) + (i 1 : Nat), by rw [hN]; omega⟩
    refine ⟨t, flush0_3 t, ?_⟩
    obtain ⟨e0, e1, e2, e3⟩ := ix_3 t
    have et : t.val = 16 * (i 0 : Nat) + (i 1 : Nat) := rfl
    show i ∈ ((View.whole main_v11_0).slice (win0_3.rect t)).set
    rw [View.set_slice_whole, Rect.mem_set_unit]
    intro a
    match a with
    | ⟨0, _⟩ => show win0_3.index t (0 : Fin 4) * 1 ≤ (i 0 : Nat) ∧ (i 0 : Nat) < win0_3.index t (0 : Fin 4) * 1 + 1; omega
    | ⟨1, _⟩ => show win0_3.index t (1 : Fin 4) * 1 ≤ (i 1 : Nat) ∧ (i 1 : Nat) < win0_3.index t (1 : Fin 4) * 1 + 1; omega
    | ⟨2, _⟩ => show win0_3.index t (2 : Fin 4) * 64 ≤ (i 2 : Nat) ∧ (i 2 : Nat) < win0_3.index t (2 : Fin 4) * 64 + 64; omega
    | ⟨3, _⟩ => show win0_3.index t (3 : Fin 4) * 512 ≤ (i 3 : Nat) ∧ (i 3 : Nat) < win0_3.index t (3 : Fin 4) * 512 + 512; omega

theorem final_l : (dats m 0 c).arrAt 4 cfg0.N = lArr Q K W := by
  have hN : cfg0.N = 128 := N_0
  refine (dats m 0 c).arrAt_eq_of_cover 4 (lArr Q K W) (fun t hf => ?_) fun i => ?_
  · show (cfg0.win 4).cut (grid0.coords t) ((dats m 0 c).after 4 t) = _
    rw [after0_4]
    obtain ⟨e0, e1, e2, e3⟩ := ix_4 t
    funext y
    obtain ⟨u, v, w, x, rfl⟩ : ∃ (u v w : Fin 1) (x : Fin 512), y = ix4 u v w x := ⟨y 0, y 1, y 2, y 3, eq_ix4 y⟩
    show (outsAt0 m c t).2 (ix4 u v w x) = lArr Q K W (((cfg0.win 4).blk t).view.emb (ix4 u v w x))
    have e : ((cfg0.win 4).blk t).view.emb (ix4 u v w x) = ix4 (hd t) (tl t) 0 x := by
      funext a; apply Fin.ext
      match a with
      | ⟨0, _⟩ => show win0_4.index t (0 : Fin 4) * 1 + 1 * u.val = t.val / 16; omega
      | ⟨1, _⟩ => show win0_4.index t (1 : Fin 4) * 1 + 1 * v.val = t.val % 16; omega
      | ⟨2, _⟩ => show win0_4.index t (2 : Fin 4) * 1 + 1 * w.val = 0; omega
      | ⟨3, _⟩ => show win0_4.index t (3 : Fin 4) * 512 + 1 * x.val = x.val; omega
    rw [e]
    unfold outsAt0
    dsimp only
    exact out_l c (grid0.coords t) (ms0_0 t) (hs0_0 t) (ms0_1 t) (hs0_1 t) (ms0_2 t) (hs0_2 t) (ms0_3 t) (hs0_3 t) (ms0_4 t) (hs0_4 t) scM0_0 (Memref.isWhole_whole _)
      (iblk m c 0 t) (iblk m c 1 t) (iblk m c 2 t) (Q (hd t) (tl t)) (K (kvh (hd t))) (W (kvh (hd t)))
      (fun d x => (ib_0 m c t d x).trans (hQ _ _ _ _)) (fun j d => (ib_1 m c t j d).trans (hK _ _ _))
      (fun i e r => (ib_2 m c t i e r).trans (hW _ _ _ _)) (h1 _) u v w x
  · have h0 : (i 0 : Nat) < 8 := (i 0).isLt
    have h1 : (i 1 : Nat) < 16 := (i 1).isLt
    have h2 : (i 2 : Nat) < 1 := (i 2).isLt
    have h3 : (i 3 : Nat) < 512 := (i 3).isLt
    let t : Fin cfg0.N := ⟨16 * (i 0 : Nat) + (i 1 : Nat), by rw [hN]; omega⟩
    refine ⟨t, flush0_4 t, ?_⟩
    obtain ⟨e0, e1, e2, e3⟩ := ix_4 t
    have et : t.val = 16 * (i 0 : Nat) + (i 1 : Nat) := rfl
    show i ∈ ((View.whole main_v11_1).slice (win0_4.rect t)).set
    rw [View.set_slice_whole, Rect.mem_set_unit]
    intro a
    match a with
    | ⟨0, _⟩ => show win0_4.index t (0 : Fin 4) * 1 ≤ (i 0 : Nat) ∧ (i 0 : Nat) < win0_4.index t (0 : Fin 4) * 1 + 1; omega
    | ⟨1, _⟩ => show win0_4.index t (1 : Fin 4) * 1 ≤ (i 1 : Nat) ∧ (i 1 : Nat) < win0_4.index t (1 : Fin 4) * 1 + 1; omega
    | ⟨2, _⟩ => show win0_4.index t (2 : Fin 4) * 1 ≤ (i 2 : Nat) ∧ (i 2 : Nat) < win0_4.index t (2 : Fin 4) * 1 + 1; omega
    | ⟨3, _⟩ => show win0_4.index t (3 : Fin 4) * 512 ≤ (i 3 : Nat) ∧ (i 3 : Nat) < win0_4.index t (3 : Fin 4) * 512 + 512; omega

end Cert.AttnFwdIdeal.Val
-- ==== Proof.AttnFwd.Value.lean ====
/- The full attention's output and row log-sums as the program returns them, over finite arguments equal to the
   reference's. -/
module

public import proofs.«01_k».proof.Proof.AttnFwd.Arrays
public import proofs.«01_k».proof.Proof.AttnBwd.Value
public import proofs.«01_k».proof.Proof.Gen.AttnFwdRefIdeal.Read

@[expose] public section

set_option maxRecDepth 16384

noncomputable section

namespace Cert.AttnFwdIdeal.Val

open Idealize.ShloMosaic Idealize.ShloMosaic.TcCoe Idealize.ShloMosaic.Tactic Idealize.SL.Sem Cert.AttnFwdIdeal Cert.AttnFwdIdeal.Gen
open Idealize.ShloMosaic.ValueIdx Cert.Proof Cert.AttnFwdRefIdeal.Read Cert.AttnFwdIdeal.Facts
open Cert.AttnBwdRefIdeal.Val (att col kcol Real' v4_at v5_at)
open Cert.AttnBwdIdeal.Val (pos grp head8 chunkOf colOf pos_of rows rows_at heads_at keys_at kvh_head8 grp_head8)

variable (m : (ℓ : Loc nD τ sig) → Buf (Elt Ideal) ℓ) (ρ : Dev nD → PrngReg) (c : Dev nD)

def X0 : FVec Ideal S8192x512 .f32 := m ((c : Thread nD τ).loc main_arg0)
def X1 : FVec Ideal S8192x128 .f32 := m ((c : Thread nD τ).loc main_arg1)
def X2 : FVec Ideal S8192x128 .f32 := m ((c : Thread nD τ).loc main_arg2)

/-! ### What the host computes before the kernel -/

/-- The values in chunks, transposed, with eight rows of ones. -/
def vals (x : FVec Ideal S8192x128 .bf16) : FVec Ideal S2x16x72x512 .bf16 :=
  concatenate S2x16x72x512 2 [⟨S2x16x64x512, transpose S2x16x64x512 [2, 0, 3, 1] (shapeCast S16x512x2x64 x shapeCasts_S8192x128_S16x512x2x64)
      transposes_S16x512x2x64_S2x16x64x512_2_0_3_1⟩,
    ⟨S2x16x8x512, broadcastInDim S2x16x8x512 ![] bcast_S_S2x16x8x512 (constant S_ .bf16 0x3F80#16)⟩] concatenates_S2x16x64x512_S2x16x8x512_S2x16x72x512_d2

theorem vals_row (x : FVec Ideal S8192x128 .bf16) (h : Fin 2) (b : Fin 16) (d : Fin 64) (y : Fin 512) :
    vals x (ix4 h b (row d) y) = x (ix2 (pos b y) (kcol h d)) := by
  unfold vals
  refine (concatenate_pair_apply_left (t := S2x16x72x512) (s₁ := S2x16x64x512) (s₂ := S2x16x8x512) (2 : Fin 4) _ _ concatenates_S2x16x64x512_S2x16x8x512_S2x16x72x512_d2 _ rfl (ix4 h b d y) (fun a => by
    match a with | ⟨0, _⟩ => rfl | ⟨1, _⟩ => rfl | ⟨2, _⟩ => rfl | ⟨3, _⟩ => rfl)).trans ?_
  rw [transpose_apply _ _ _ _ (ix4 b y h d) (fun a => by match a with | ⟨0, _⟩ => rfl | ⟨1, _⟩ => rfl | ⟨2, _⟩ => rfl | ⟨3, _⟩ => rfl)]
  exact shapeCast_apply _ _ _ _ (by
    rewrite [Shape.rowMajor_val_two, Shape.rowMajor_val_four]
    show (512 * b.val + y.val) * 128 + (h.val * 64 + d.val) = ((b.val * 512 + y.val) * 2 + h.val) * 64 + d.val
    omega)
theorem vals_one (x : FVec Ideal S8192x128 .bf16) (h : Fin 2) (b : Fin 16) (e : Fin 72) (he : 64 ≤ e.val) (y : Fin 512) :
    vals x (ix4 h b e y) = ((1 : ℝ) : EReal) := by
  unfold vals
  refine (concatenate_pair_apply_right (t := S2x16x72x512) (s₁ := S2x16x64x512) (s₂ := S2x16x8x512) (2 : Fin 4) _ _ concatenates_S2x16x64x512_S2x16x8x512_S2x16x72x512_d2 _ rfl rfl
    (ix4 h b (⟨e.val - 64, by omega⟩ : Fin 8) y) (fun a => by
      match a with | ⟨0, _⟩ => exact fun _ => rfl | ⟨1, _⟩ => exact fun _ => rfl | ⟨2, _⟩ => exact fun h => absurd rfl h | ⟨3, _⟩ => exact fun _ => rfl)
    (by show e.val - 64 + 64 = e.val; omega)).trans ?_
  show Ideal.ofBits .bf16 0x3F80#16 = _
  simp [Ideal.ofBits, Ideal.ieee]; rw [← EReal.coe_mul]; norm_num

theorem aQ_at (h : Fin 8) (b : Fin 16) (d : Fin 64) (y : Fin 512) :
    aQ m c (ix4 h b d y) = X0 m c (ix2 (pos b y) (col (kvh h) (grp h) d)) := by
  have e : V m c main_v4 = transpose S8x16x64x512 [2, 0, 3, 1] (shapeCast S16x512x8x64 (truncf .bf16 (X0 m c) bitsLt_bf16_f32) shapeCasts_S8192x512_S16x512x8x64)
      transposes_S16x512x8x64_S8x16x64x512_2_0_3_1 := by
    show StableHlo.after hostOps0 _ _ = _
    after_results
    rfl
  exact (congrFun e _).trans (heads_at _ h b d y)
theorem aK_at (h : Fin 2) (j : Fin 8192) (d : Fin 64) : aK m c (ix3 h j d) = X1 m c (ix2 j (kcol h d)) := by
  have e : V m c main_v6 = transpose S2x8192x64 [1, 0, 2] (shapeCast S8192x2x64 (truncf .bf16 (X1 m c) bitsLt_bf16_f32) shapeCasts_S8192x128_S8192x2x64)
      transposes_S8192x2x64_S2x8192x64_1_0_2 := by
    show StableHlo.after hostOps0 _ _ = _
    after_results
    rfl
  exact (congrFun e _).trans (keys_at _ h j d)
theorem V_v10 : V m c main_v10 = vals (truncf .bf16 (X2 m c) bitsLt_bf16_f32) := by
  show StableHlo.after hostOps0 _ _ = _
  after_results
  rfl

/-! ### In real numbers -/

/-- The attention of the arguments; the cotangent that the record asks for is none of the forward call's. -/
abbrev attF (x0 : FVec Ideal S8192x512 .f32) (x1 x2 : FVec Ideal S8192x128 .f32) : Attn := att x0 (fun _ => (0 : EReal)) x1 x2

/-- The kernel's three arrays. -/
def qR (h : Fin 8) (b : Fin 16) (d : Fin 64) (y : Fin 512) : ℝ := (attF (X0 m c) (X1 m c) (X2 m c)).q (kvh h) (grp h) (pos b y) d
def kR (h : Fin 2) (j : Fin 8192) (d : Fin 64) : ℝ := (attF (X0 m c) (X1 m c) (X2 m c)).k h j d
def vR (h : Fin 2) (b : Fin 16) (e : Fin 72) (y : Fin 512) : ℝ :=
  if he : e.val < 64 then (attF (X0 m c) (X1 m c) (X2 m c)).v h (pos b y) ⟨e.val, he⟩ else 1

section
variable (h0 : Real' (X0 m c)) (h1 : Real' (X1 m c)) (h2 : Real' (X2 m c))

include h0 in
theorem aQ_real (h : Fin 8) (b : Fin 16) (d : Fin 64) (y : Fin 512) : aQ m c (ix4 h b d y) = ((qR m c h b d y : ℝ) : EReal) := by
  rw [aQ_at, h0]; rfl
include h1 in
theorem aK_real (h : Fin 2) (j : Fin 8192) (d : Fin 64) : aK m c (ix3 h j d) = ((kR m c h j d : ℝ) : EReal) := by
  rw [aK_at, h1]; rfl
include h2 in
theorem aV_real (h : Fin 2) (b : Fin 16) (e : Fin 72) (y : Fin 512) : aV m c (ix4 h b e y) = ((vR m c h b e y : ℝ) : EReal) := by
  refine (congrFun (V_v10 m c) _).trans ?_
  unfold vR
  by_cases he : e.val < 64
  · rw [dif_pos he]
    refine (vals_row (truncf .bf16 (X2 m c) bitsLt_bf16_f32) h b ⟨e.val, he⟩ y).trans ?_
    exact h2 _
  · rw [dif_neg he]
    exact vals_one _ h b e (by omega) y
theorem vR_one (h : Fin 2) (b : Fin 16) (y : Fin 512) : vR m c h b 64 y = 1 := dif_neg (by decide)
end

/-- The scores' exponentials without a number subtracted. -/
def ES (A : Attn) (h : Fin 2) (g : Fin 4) (i j : Fin 8192) : ℝ := Real.exp (A.S h g i j)

theorem ES_pos (A : Attn) (h : Fin 2) (g : Fin 4) (i : Fin 8192) : 0 < ∑ j, ES A h g i j :=
  Finset.sum_pos (fun _ _ => Real.exp_pos _) ⟨0, Finset.mem_univ _⟩

theorem shift_sum (A : Attn) (h : Fin 2) (g : Fin 4) (i : Fin 8192) (M : ℝ) :
    ∑ j, Real.exp (A.S h g i j - M) = (∑ j, ES A h g i j) * (Real.exp M)⁻¹ := by
  rw [Finset.sum_mul]
  exact Finset.sum_congr rfl fun j _ => by rw [Real.exp_sub, div_eq_mul_inv]; rfl

/-- The row's log-sum doesn't depend on the number subtracted. -/
theorem shift_log (A : Attn) (h : Fin 2) (g : Fin 4) (i : Fin 8192) (M : ℝ) :
    Real.log (∑ j, Real.exp (A.S h g i j - M)) + M = Real.log (∑ j, ES A h g i j) := by
  rw [shift_sum, Real.log_mul (ES_pos A h g i).ne' (inv_ne_zero (Real.exp_pos _).ne'), Real.log_inv, Real.log_exp, neg_add_cancel_right]

/-- Nor does the row's output. -/
theorem shift_out (A : Attn) (h : Fin 2) (g : Fin 4) (i : Fin 8192) (d : Fin 64) :
    A.O h g i d = (∑ j, A.v h j d * ES A h g i j) / ∑ j, ES A h g i j := by
  unfold Attn.O Attn.P Attn.L Attn.E
  rw [Finset.sum_div, shift_sum]
  refine Finset.sum_congr rfl fun j _ => ?_
  rw [Real.exp_sub, div_eq_mul_inv (Real.exp _), mul_div_mul_right _ _ (inv_ne_zero (Real.exp_pos _).ne'), mul_div_assoc]
  rfl

/-- The kernel's weighted sums, over the keys in order. -/
theorem wsum_eq (h : Fin 8) (b : Fin 16) (y : Fin 512) (e : Fin 72) (f : Fin 8192 → ℝ) (hf : ∀ i r, vR m c (kvh h) i e r = f (key i r)) :
    wsum (qR m c h b) (kR m c (kvh h)) (vR m c (kvh h)) e y
      = ∑ j, f j * ES (attF (X0 m c) (X1 m c) (X2 m c)) (kvh h) (grp h) (pos b y) j := by
  rw [sum_tiles 16 512 8192 rfl]
  exact Finset.sum_congr rfl fun i _ => Finset.sum_congr rfl fun r _ => by rw [hf]; rfl

theorem oR_eq (h : Fin 8) (b : Fin 16) (d : Fin 64) (y : Fin 512) :
    oR (qR m c h b) (kR m c (kvh h)) (vR m c (kvh h)) d y = (attF (X0 m c) (X1 m c) (X2 m c)).O (kvh h) (grp h) (pos b y) d := by
  unfold oR
  rw [shift_out, wsum_eq m c h b y (row d) (fun j => (attF (X0 m c) (X1 m c) (X2 m c)).v (kvh h) j d) (fun i r => by
    unfold vR; exact dif_pos (show (row d).val < 64 from d.isLt)), wsum_eq m c h b y 64 (fun _ => 1) (fun i r => vR_one m c _ i r)]
  simp only [one_mul]
theorem lR_eq (h : Fin 8) (b : Fin 16) (y : Fin 512) :
    lR (qR m c h b) (kR m c (kvh h)) (vR m c (kvh h)) y = Real.log (∑ j, ES (attF (X0 m c) (X1 m c) (X2 m c)) (kvh h) (grp h) (pos b y) j) := by
  unfold lR
  rw [wsum_eq m c h b y 64 (fun _ => 1) (fun i r => vR_one m c _ i r)]
  simp only [one_mul]

/-! ### The reference -/

section
variable (x0 : FVec Ideal S8192x512 .f32) (x1 x2 : FVec Ideal S8192x128 .f32)

theorem dotS_eq : Cert.AttnFwdRefIdeal.dot_S8192x2x64_S8192x2x4x64_S2x8192x8192x4_2_3_0_02_1_1 =
    Cert.AttnBwdRefIdeal.dot_S8192x2x64_S8192x2x4x64_S2x8192x8192x4_2_3_0_02_1_1 := rfl
theorem dotO_eq : Cert.AttnFwdRefIdeal.dot_S8192x2x64_S2x4x8192x8192_S2x64x4x8192_0_3_2_12_1_0 =
    Cert.AttnBwdRefIdeal.dot_S8192x2x64_S2x4x8192x8192_S2x64x4x8192_0_3_2_12_1_0 := rfl

/-- The output and the row log-sums are the lines of the gradient's two programs. -/
theorem sc_eq : val_main_v17 (F := Ideal) x0 x1 = Cert.AttnBwdRefIdeal.Read.val_main_v4 (F := Ideal) x0 x1 := by
  unfold val_main_v17 val_main_v16 val_main_v14 val_main_v13 Cert.AttnBwdRefIdeal.Read.val_main_v4 Cert.AttnBwdRefIdeal.Read.val_main_v3
    Cert.AttnBwdRefIdeal.Read.val_main_v1 Cert.AttnBwdRefIdeal.Read.val_main_v0
  rw [dotS_eq]
theorem exp_eq : val_main_v24 (F := Ideal) x0 x1 = Cert.AttnBwdRefIdeal.Read.val_main_v25 (F := Ideal) x0 x1 := by
  unfold val_main_v24 val_main_v23 val_main_v22 val_main_v21 val_main_v20 val_main_v18
  rw [sc_eq]
  rfl
theorem prob_eq : val_main_v28 (F := Ideal) x0 x1 = Cert.AttnBwdRefIdeal.Read.val_main_v29 (F := Ideal) x0 x1 := by
  unfold val_main_v28 val_main_v27 val_main_v26 val_main_v25
  rw [exp_eq]
  rfl
theorem ref_o : val_main_v31 (F := Ideal) x0 x1 x2 = Cert.AttnBwdRefIdeal.Read.val_main_v35 (F := Ideal) x0 x1 x2 := by
  unfold val_main_v31 val_main_v30 val_main_v29 val_main_v15
  rw [prob_eq, dotO_eq]
  rfl
theorem ref_l : val_main_v33 (F := Ideal) x0 x1 = Cert.AttnBwdIdeal.Val.hostLse x0 x1 (Cert.AttnBwdIdeal.Val.hostE x0 x1) := by
  have e : val_main_v3 (F := Ideal) x0 x1 = Cert.AttnBwdRefIdeal.Read.val_main_v4 (F := Ideal) x0 x1 := sc_eq x0 x1
  unfold val_main_v33 val_main_v12 val_main_v11 val_main_v10 val_main_v9 val_main_v8 val_main_v7 val_main_v6 val_main_v5 val_main_v4
  rw [e]
  rfl
end

/-! ### The results -/

section
variable (h0 : Real' (X0 m c)) (h1 : Real' (X1 m c)) (h2 : Real' (X2 m c))
include h0 h1 h2

theorem o_eq : val_main_v32 (F := Ideal) (X0 m c) (X1 m c) (X2 m c) = rows (oArr (qR m c) (kR m c) (vR m c)) := by
  funext z
  obtain ⟨i, h, g, d, rfl⟩ : ∃ i h g d, z = ix2 i (col h g d) :=
    ⟨z 0, ⟨(z 1).val / 256, by have : (z 1).val < 512 := (z 1).isLt; omega⟩, ⟨(z 1).val / 64 % 4, by omega⟩, ⟨(z 1).val % 64, by omega⟩, funext fun a => by
      match a with
      | ⟨0, _⟩ => rfl
      | ⟨1, _⟩ => exact Fin.ext (by show (z 1).val = (z 1).val / 256 * 256 + (z 1).val / 64 % 4 * 64 + (z 1).val % 64; omega)⟩
  rw [rows_at]
  refine ((congrFun (ref_o (X0 m c) (X1 m c) (X2 m c)) _).trans
    (Cert.AttnBwdIdeal.Val.v35_at (X0 m c) (fun _ => (0 : EReal)) (X1 m c) (X2 m c) h0 h1 h2 (fun _ => EReal.coe_zero.symm) h g i d)).trans ?_
  refine Eq.trans ?_ (congrArg (fun x : ℝ => (x : EReal)) (oR_eq m c (head8 h g) (chunkOf i) d (colOf i))).symm
  rw [show kvh (head8 h g) = h from kvh_head8 h g, grp_head8, pos_of]

theorem l_eq : val_main_v33 (F := Ideal) (X0 m c) (X1 m c) = lArr (qR m c) (kR m c) (vR m c) := by
  funext z
  obtain ⟨h, b, y, rfl⟩ : ∃ h b y, z = ix4 h b (0 : Fin 1) y := ⟨z 0, z 1, z 3, by
    refine (eq_ix4 z).trans ?_
    rw [show z 2 = (0 : Fin 1) from Fin.ext (by have h : (z 2).val < 1 := (z 2).isLt; show (z 2).val = 0; omega)]
    rfl⟩
  refine ((congrFun (ref_l (X0 m c) (X1 m c)) _).trans
    (Cert.AttnBwdIdeal.Val.hostLse_at (X0 m c) (fun _ => (0 : EReal)) (X1 m c) (X2 m c) h0 h1 h b y)).trans ?_
  refine Eq.trans ?_ (congrArg (fun x : ℝ => (x : EReal)) (lR_eq m c h b y)).symm
  rw [← shift_log _ _ _ _ ((attF (X0 m c) (X1 m c) (X2 m c)).M (kvh h) (grp h) (pos b y)), add_comm]
  rfl

theorem tail_o : Pipeline.afterTail₀ cfgs (dats m) 0 (V0 m) [hostOps1] c main_v13 = rows (oArr (qR m c) (kR m c) (vR m c)) := by
  unfold Pipeline.afterTail₀
  have e : Pipeline.withArrays spec0 c (V0 m c) (fun w => (dats m 0 c).arrAt w cfg0.N) (Proc.devRef .tc main_v11_0) = oArr (qR m c) (kR m c) (vR m c) :=
    (Pipeline.withArrays_arr spec0 (by decide) c (V0 m c) (fun w => (dats m 0 c).arrAt w cfg0.N) 3).trans
      (final_o m c _ _ _ (aQ_real m c h0) (aK_real m c h1) (aV_real m c h2) (vR_one m c))
  rw [← e]
  show StableHlo.after hostOps1 _ _ = _
  after_results
  rfl
end

/-- The run, read. -/
theorem run_val (h0 : ∀ c, Real' (X0 m c)) (h1 : ∀ c, Real' (X1 m c)) (h2 : ∀ c, Real' (X2 m c)) :
    θ_run defs (onTc (τ := τ) (main (F := Ideal))) ⟨m, fun _ => 0, ρ⟩ fun r => ∀ c : Dev nD,
      r.2.mem ((c : Thread nD τ).loc main_v13) = rows (oArr (qR m c) (kR m c) (vR m c))
      ∧ r.2.mem ((c : Thread nD τ).loc main_v11_1) = lArr (qR m c) (kR m c) (vR m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun _ h c => ⟨((h c).2 main_v13 (by decide)).trans (tail_o m c (h0 c) (h1 c) (h2 c)),
      ((h c).1 4).trans (final_l m c _ _ _ (aQ_real m c (h0 c)) (aK_real m c (h1 c)) (aV_real m c (h2 c)) (vR_one m c)),
      ((h c).2 main_arg0 (by decide)).trans (W_main_arg0 m (dats m) c), ((h c).2 main_arg1 (by decide)).trans (W_main_arg1 m (dats m) c),
      ((h c).2 main_arg2 (by decide)).trans (W_main_arg2 m (dats m) c)⟩)
    (run_main m ρ)

end Cert.AttnFwdIdeal.Val

end

end
-- ==== Proof.AttnFwd.Claims.lean ====
/- The claims about the full attention's forward call: the reference's frame and the equality of the output and of the row
   log-sums with the reference's over finite arguments. -/
module

public import proofs.«01_k».proof.Defs
public import proofs.«01_k».proof.Proof.Gen.Pre_fwd_finite
public import proofs.«01_k».proof.Proof.Gen.AttnFwdRefIdeal.Run
public import proofs.«01_k».proof.Proof.AttnFwd.Value
public import Idealize.ShloMosaic.Adequacy
public import Idealize.ShloMosaic.Init

@[expose] public section

set_option maxRecDepth 16384

noncomputable section

namespace Cert.Proof.AttnFwd

open Idealize.ShloMosaic Idealize.ShloMosaic.TcCoe Idealize.SL.Sem Cert.AttnFwdIdeal.Val
open Cert.AttnBwdRefIdeal.Val (Real')

theorem frame_ref : Cert.quiescent_AttnFwdRefIdeal := fun m ρ _ =>
  (θ_run Cert.AttnFwdRefIdeal.defs _ _).mono (fun r h => ⟨fun c => (h c).2.2,
      sem_eq_zero_of_no_sems (by decide) r.2⟩)
    (Cert.AttnFwdRefIdeal.Value.run (F := Ideal) m ρ)

theorem algebraic : Cert.algebraic_AttnFwdIdeal_AttnFwdRefIdeal_pre_fwd_finite := by
  intro m ρ m' ρ' hpre hagree
  have h0 : ∀ c, Real' (X0 m c) := fun c => real_of_finite (X0 m c) _ _ (hpre c).1
  have h1 : ∀ c, Real' (X1 m c) := fun c => real_of_finite (X1 m c) _ _ (hpre c).2.1
  have h2 : ∀ c, Real' (X2 m c) := fun c => real_of_finite (X2 m c) _ _ (hpre c).2.2
  refine ⟨fun c => Cert.AttnBwdIdeal.Val.rows (oArr (qR m c) (kR m c) (vR m c)), fun c => lArr (qR m c) (kR m c) (vR m c),
    run_val m ρ h0 h1 h2, ?_⟩
  refine (θ_run Cert.AttnFwdRefIdeal.defs _ _).mono (fun _ h c => ⟨(h c).1.trans ?_, (h c).2.1.trans ?_, (h c).2.2⟩)
    (Cert.AttnFwdRefIdeal.Value.run (F := Ideal) m' ρ')
  · rw [Cert.AttnFwdRefIdeal.Read.val_main_v32_eq, (hagree c).1, (hagree c).2.1, (hagree c).2.2]
    exact o_eq m c (h0 c) (h1 c) (h2 c)
  · rw [Cert.AttnFwdRefIdeal.Read.val_main_v33_eq, (hagree c).1, (hagree c).2.1]
    exact l_eq m c (h0 c) (h1 c) (h2 c)

end Cert.Proof.AttnFwd

end

end
-- ==== Proof.Prep.Row.lean ====
module

public import proofs.«01_k».proof.Proof.Index
public import proofs.«01_k».proof.Proof.Reals
public import Idealize.ShloMosaic.Lib.ValueIdx
public import Idealize.ShloMosaic.Lib.ValueLayout
public import Idealize.ShloMosaic.Lib.ValueLayoutCasts
public import Idealize.ShloMosaic.Lib.KernelVsHost

/-! One head of 64 columns over the extended reals: the derivative of its rotation, the gradient of its root-mean-square
norm, and the equation between the two ways to write that gradient. A kernel's row holds two heads side by side. -/

@[expose] public section

noncomputable section

namespace Cert.Proof.Prep

open Idealize.ShloMosaic Idealize.ShloMosaic.ValueIdx Cert.Proof

/-- Column `d` of head `b` among 128 columns. -/
def lane (b : Fin 2) (d : Fin 64) : Fin 128 := ⟨64 * b.val + d.val, by omega⟩

theorem exists_lane (l : Fin 128) : ∃ b d, l = lane b d := ⟨⟨l.val / 64, by omega⟩, ⟨l.val % 64, by omega⟩, Fin.ext (by show l.val = 64 * (l.val / 64) + l.val % 64; omega)⟩

theorem sum_lane (f : Fin 128 → EReal) : ∑ l, f l = (∑ d, f (lane 0 d)) + ∑ d, f (lane 1 d) := by
  have e := Fin.sum_univ_add (a := 64) (b := 64) f
  refine e.trans (congrArg₂ (· + ·) ?_ ?_) <;> exact Finset.sum_congr rfl fun d _ => congrArg f (Fin.ext (by simp [lane] <;> omega))

/-! ### The rotation -/

/-- The column `k` to the left, and to the right, around the row. -/
def back (k : ℕ) (l : Fin 128) : Fin 128 := ⟨(l.val + 128 - k % 128) % 128, Nat.mod_lt _ (by omega)⟩
/-- One row's rotation with tables of 128 columns. -/
def rot (k k' : ℕ) (g c s1 s2 : Fin 128 → EReal) (l : Fin 128) : EReal :=
  g l * c l + g (back k l) * s1 (back k l) + g (back k' l) * s2 (back k' l)
/-- One head's rotation with tables of 64 columns. -/
def rotT (k : ℕ) (g c s1 s2 : Fin 64 → EReal) (d : Fin 64) : EReal :=
  g d * c d + (if k ≤ d.val then g ⟨d.val - k, by omega⟩ * s1 ⟨d.val - k, by omega⟩ else 0)
    + (if h : d.val + k < 64 then g ⟨d.val + k, h⟩ * s2 ⟨d.val + k, h⟩ else 0)

/-- A row's rotation is its heads': what wraps around meets a zero of the tables. -/
theorem rot_lane (k : ℕ) (hk : 0 < k) (hk' : k < 64) (g c s1 s2 : Fin 128 → EReal) (c' s1' s2' : Fin 64 → EReal)
    (hc : ∀ b d, c (lane b d) = c' d) (h1 : ∀ b d, s1 (lane b d) = s1' d) (h2 : ∀ b d, s2 (lane b d) = s2' d)
    (z1 : ∀ d : Fin 64, 64 ≤ d.val + k → s1' d = 0) (z2 : ∀ d : Fin 64, d.val < k → s2' d = 0) (b : Fin 2) (d : Fin 64) :
    rot k (128 - k) g c s1 s2 (lane b d) = rotT k (fun d => g (lane b d)) c' s1' s2' d := by
  unfold rot rotT
  rw [hc]
  refine congrArg₂ (fun s t : EReal => g (lane b d) * c' d + s + t) ?_ ?_
  · split
    · next h =>
      have e : back k (lane b d) = lane b ⟨d.val - k, by omega⟩ := Fin.ext (by
        show (64 * b.val + d.val + 128 - k % 128) % 128 = 64 * b.val + (d.val - k); omega)
      rw [e, h1]
    · next h =>
      obtain ⟨b', hb⟩ : ∃ b', back k (lane b d) = lane b' ⟨d.val + 64 - k, by omega⟩ := by
        refine ⟨⟨1 - b.val, by omega⟩, Fin.ext ?_⟩
        show (64 * b.val + d.val + 128 - k % 128) % 128 = 64 * (1 - b.val) + (d.val + 64 - k)
        omega
      rw [hb, h1, z1 _ (by show 64 ≤ d.val + 64 - k + k; omega), mul_zero]
  · split
    · next h =>
      have e : back (128 - k) (lane b d) = lane b ⟨d.val + k, h⟩ := Fin.ext (by
        show (64 * b.val + d.val + 128 - (128 - k) % 128) % 128 = 64 * b.val + (d.val + k); omega)
      rw [e, h2]
    · next h =>
      obtain ⟨b', hb⟩ : ∃ b', back (128 - k) (lane b d) = lane b' ⟨d.val + k - 64, by omega⟩ := by
        refine ⟨⟨1 - b.val, by omega⟩, Fin.ext ?_⟩
        show (64 * b.val + d.val + 128 - (128 - k) % 128) % 128 = 64 * (1 - b.val) + (d.val + k - 64)
        omega
      rw [hb, h2, z2 _ (by show d.val + k - 64 < k; omega), mul_zero]

/-! ### The norm -/

theorem lit_inv64 : Ideal.ofBits .f32 0x3C800000#32 = ((1 / 64 : ℝ) : EReal) := by
  simp [Ideal.ofBits, Ideal.ieee]; rw [← EReal.coe_mul]; norm_num
theorem lit_64 : Ideal.ofBits .f32 0x42800000#32 = ((64 : ℝ) : EReal) := by
  simp [Ideal.ofBits, Ideal.ieee]; rw [← EReal.coe_mul]; norm_num
theorem lit_neg_half : Ideal.ofBits .f32 0xBF000000#32 = ((-(1 / 2) : ℝ) : EReal) := by
  simp [Ideal.ofBits, Ideal.ieee]; rw [← EReal.coe_mul]; norm_num
theorem lit_eps : ∃ e : ℝ, 0 < e ∧ Ideal.ofBits .f32 0x358637BD#32 = (e : EReal) := by
  refine ⟨_, ?_, by simp [Ideal.ofBits, Ideal.ieee]; rw [← EReal.coe_mul]⟩
  norm_num

/-- The reciprocal root of a head's mean square, the mean as a sum with the weight 1/64. -/
def rstd (x : Fin 64 → EReal) : EReal :=
  Ideal.rsqrt ((∑ d, x d * x d * Ideal.ofBits .f32 0x3C800000#32) + Ideal.ofBits .f32 0x358637BD#32)
/-- The head's gradient as the kernel writes it. -/
def grad (e w x : Fin 64 → EReal) (d : Fin 64) : EReal :=
  rstd x * (e d * w d - x d * rstd x * ∑ j, e j * w j * (x j * rstd x) * Ideal.ofBits .f32 0x3C800000#32)
/-- The head's mean square with the small number that the norm adds, the mean as a quotient. -/
def vare (x : Fin 64 → EReal) : EReal := Ideal.div (∑ d, x d * x d) (Ideal.ofBits .f32 0x42800000#32) + Ideal.ofBits .f32 0x358637BD#32
/-- The head's gradient as the derivative of mean square and reciprocal root writes it. -/
def grad' (e w x : Fin 64 → EReal) (d : Fin 64) : EReal :=
  e d * w d * Ideal.rsqrt (vare x)
    + Ideal.div ((∑ j, x j * (e j * w j)) * (Ideal.ofBits .f32 0xBF000000#32 * Ideal.div (Ideal.rsqrt (vare x)) (vare x))) (Ideal.ofBits .f32 0x42800000#32)
      * (Ideal.ofBits .f32 0x40000000#32 * x d)

section Real
variable (x : Fin 64 → EReal) (a : Fin 64 → ℝ) (hx : ∀ d, x d = (a d : EReal))
include hx

/-- Mean square and reciprocal root of a real head. -/
theorem stats : ∃ s v : ℝ, v ≠ 0 ∧ s * s = 1 / v ∧ rstd x = (s : EReal) ∧ vare x = (v : EReal) ∧ Ideal.rsqrt (vare x) = (s : EReal) := by
  obtain ⟨e, he, hee⟩ := lit_eps
  let v : ℝ := (∑ k, a k * a k) / 64 + e
  have hv0 : 0 < v := by
    have : 0 ≤ ∑ k, a k * a k := Finset.sum_nonneg fun k _ => mul_self_nonneg _
    positivity
  have hv : vare x = (v : EReal) := by
    unfold vare
    rw [sum_real _ (fun d => a d * a d) (fun d => by rw [hx, ← EReal.coe_mul]), hee, lit_64, ediv_coe _ _ (by norm_num), ← EReal.coe_add]
  have hv' : (∑ d, x d * x d * Ideal.ofBits .f32 0x3C800000#32) + Ideal.ofBits .f32 0x358637BD#32 = (v : EReal) := by
    rw [sum_real _ (fun d => a d * a d * (1 / 64)) (fun d => by rw [hx, lit_inv64, ← EReal.coe_mul, ← EReal.coe_mul]), hee, ← EReal.coe_add,
      ← Finset.sum_mul, mul_one_div]
  have hr : Ideal.rsqrt (v : EReal) = (((Real.sqrt v)⁻¹ : ℝ) : EReal) := by
    rw [Ideal.rsqrt_coe, if_neg (not_lt.mpr hv0.le), if_neg hv0.ne']
  refine ⟨(Real.sqrt v)⁻¹, v, hv0.ne', ?_, ?_, hv, by rw [hv, hr]⟩
  · rw [← mul_inv, Real.mul_self_sqrt hv0.le, one_div]
  · unfold rstd; rw [hv', hr]

/-- The two reciprocal roots are one. -/
theorem rstd_eq : Ideal.rsqrt (vare x) = rstd x := by
  obtain ⟨s, v, -, -, h1, -, h2⟩ := stats x a hx
  rw [h1, h2]

/-- For a real head, cotangent and weight the two gradients are one. -/
theorem grad_eq (e w : Fin 64 → EReal) (b c : Fin 64 → ℝ) (he : ∀ d, e d = (b d : EReal)) (hw : ∀ d, w d = (c d : EReal)) (d : Fin 64) :
    grad' e w x d = grad e w x d := by
  obtain ⟨s, v, hv0, hss, h1, h3, h2⟩ := stats x a hx
  unfold grad grad'
  rw [h1, h2, h3, lit_neg_half, lit_64, lit_two, lit_inv64,
    sum_real _ (fun j => a j * (b j * c j)) (fun j => by rw [hx, he, hw, ← EReal.coe_mul, ← EReal.coe_mul]),
    sum_real _ (fun j => b j * c j * (a j * s) * (1 / 64)) (fun j => by
      rw [hx, he, hw, ← EReal.coe_mul, ← EReal.coe_mul, ← EReal.coe_mul, ← EReal.coe_mul]),
    ediv_coe _ _ hv0, ← EReal.coe_mul, ← EReal.coe_mul, ediv_coe _ _ (by norm_num), hx, he, hw, ← EReal.coe_mul, ← EReal.coe_mul, ← EReal.coe_mul,
    ← EReal.coe_mul, ← EReal.coe_add, ← EReal.coe_mul, ← EReal.coe_mul, ← EReal.coe_sub, ← EReal.coe_mul]
  have e1 : ∑ j, b j * c j * (a j * s) * (1 / 64) = (∑ j, a j * (b j * c j)) * s / 64 := by
    rw [Finset.sum_mul, Finset.sum_div]; exact Finset.sum_congr rfl fun j _ => by ring
  have e2 : s / v = s * (s * s) := by rw [hss]; ring
  rw [e1, e2]
  exact congrArg _ (by ring)

end Real

/-! ### A row of two heads -/

/-- A sum weighted by the group matrix is the head's. -/
theorem sum_group (f : Fin 128 → EReal) (gm : Fin 128 → Fin 128 → EReal)
    (hgm : ∀ l l', gm l l' = if l.val / 64 = l'.val / 64 then Ideal.ofBits .f32 0x3C800000#32 else 0) (b : Fin 2) (d : Fin 64) :
    ∑ l, f l * gm l (lane b d) = ∑ j, f (lane b j) * Ideal.ofBits .f32 0x3C800000#32 := by
  have hd : ∀ (b : Fin 2) (d : Fin 64), (lane b d).val / 64 = b.val := fun b d => by show (64 * b.val + d.val) / 64 = b.val; omega
  have t : ∀ b' : Fin 2, ∑ j, f (lane b' j) * gm (lane b' j) (lane b d)
      = if b' = b then ∑ j, f (lane b j) * Ideal.ofBits .f32 0x3C800000#32 else 0 := fun b' => by
    split
    · next h => subst h; exact Finset.sum_congr rfl fun j _ => by rw [hgm, hd, hd, if_pos rfl]
    · next h => exact Finset.sum_eq_zero fun j _ => by rw [hgm, hd, hd, if_neg (fun e => h (Fin.ext e)), mul_zero]
  rw [sum_lane, t, t]
  match b with
  | 0 => simp
  | 1 => simp

/-- A row's reciprocal roots and its gradient with the group matrix. -/
def rstdRow (x : Fin 128 → EReal) (gm : Fin 128 → Fin 128 → EReal) (l : Fin 128) : EReal :=
  Ideal.rsqrt ((∑ j, x j * x j * gm j l) + Ideal.ofBits .f32 0x358637BD#32)
def gradRow (e w x : Fin 128 → EReal) (gm : Fin 128 → Fin 128 → EReal) (l : Fin 128) : EReal :=
  rstdRow x gm l * (e l * w l - x l * rstdRow x gm l * ∑ j, e j * w j * (x j * rstdRow x gm j) * gm j l)

section Group
variable (x : Fin 128 → EReal) (gm : Fin 128 → Fin 128 → EReal)
  (hgm : ∀ l l', gm l l' = if l.val / 64 = l'.val / 64 then Ideal.ofBits .f32 0x3C800000#32 else 0) (b : Fin 2) (d : Fin 64)
include hgm

theorem rstdRow_lane : rstdRow x gm (lane b d) = rstd fun d => x (lane b d) := by
  unfold rstdRow rstd; rw [sum_group _ gm hgm]
theorem gradRow_lane (e w : Fin 128 → EReal) :
    gradRow e w x gm (lane b d) = grad (fun d => e (lane b d)) (fun d => w (lane b d)) (fun d => x (lane b d)) d := by
  unfold gradRow grad
  rw [sum_group _ gm hgm, rstdRow_lane x gm hgm]
  simp only [rstdRow_lane x gm hgm]

end Group

end Cert.Proof.Prep

end
-- ==== Proof.Prep.Pay.lean ====
module

public import proofs.«01_k».proof.Proof.Gen.PrepIdeal.Frame
public import proofs.«01_k».proof.Proof.Prep.Row
public import proofs.«01_k».proof.Proof.Norm.Row
public import Idealize.ShloMosaic.Lib.ValueIdx
public import Idealize.ShloMosaic.Lib.ValueLayout
public import Idealize.ShloMosaic.Lib.WritesUnit
public import Idealize.ShloMosaic.Lib.MatmulPlain

/-! What the kernel computes of one block of 128 columns: a rotation, a copy, or the gradient of the heads' norm. -/

@[expose] public section

set_option maxRecDepth 16384

noncomputable section

namespace Cert.PrepIdeal.Val

open Idealize.ShloMosaic Idealize.ShloMosaic.TcCoe Idealize.ShloMosaic.Tactic Idealize.SL.Sem Cert.PrepIdeal Cert.PrepIdeal.Gen
open Idealize.ShloMosaic.ValueIdx Cert.Proof Cert.Proof.Prep

/-- The attention's scale. -/
def sc : EReal := Ideal.ofBits .bf16 0x3E00#16
/-- A row of a block. -/
def row {N M : ℕ} (v : (⟨2, ![N, M]⟩ : Shape).Idx → EReal) (r : Fin N) (l : Fin M) : EReal := v (ix2 r l)

/-! ### The three shapes of a payload -/

def scaleV (v : Vec Ideal S256x128 .bf16) : FVec Ideal S256x128 .bf16 := mulf v (broadcast S256x128 (Scalar.ofBits (F := Ideal) .bf16 0x3E00#16))
def rotV (kb kb' : BitVec 32) (v : FVec Ideal S256x128 .f32) (C S1 S2 : FVec Ideal S256x128 .f32) : FVec Ideal S256x128 .f32 :=
  addf (addf (mulf v C) (dynamicRotate 1 kb none (mulf v S1) rotates_S256x128_d1)) (dynamicRotate 1 kb' none (mulf v S2) rotates_S256x128_d1)
def rV (x : FVec Ideal S256x128 .f32) (gm : FVec Ideal S128x128 .f32) : FVec Ideal S256x128 .f32 :=
  rsqrt (addf (matmul dot_S256x128_S128x128_S256x128_1_0_0_1_n_n (some .fp32) (mulf x x) gm (constant S256x128 .f32 0x00000000#32))
    (broadcast S256x128 (Scalar.ofBits (F := Ideal) .f32 0x358637BD#32)))
def gradV (e x : FVec Ideal S256x128 .f32) (w : FVec Ideal S1x128 .f32) (gm gm' : FVec Ideal S128x128 .f32) : FVec Ideal S256x128 .f32 :=
  mulf (rV x gm) (subf (mulf e (broadcastTo S256x128 w broadcasts_S1x128_S256x128)) (mulf (mulf x (rV x gm))
    (matmul dot_S256x128_S128x128_S256x128_1_0_0_1_n_n (some .fp32) (mulf (mulf e (broadcastTo S256x128 w broadcasts_S1x128_S256x128)) (mulf x (rV x gm))) gm'
      (constant S256x128 .f32 0x00000000#32))))
def dnV (e x : FVec Ideal S256x128 .f32) (gm : FVec Ideal S128x128 .f32) (acc : FVec Ideal S1x128 .f32) : FVec Ideal S1x128 .f32 :=
  addf acc (shapeCast S1x128 (multiReduction .add [0] S128 (mulf e (mulf x (rV x gm))) 0x00000000#32 reduces_S256x128_S128 (.inl rfl) rfl) shapeCasts_S128_S1x128)

theorem rotV_apply (k k' : ℕ) (kb kb' : BitVec 32) (hk : kb.toNat = k) (hk' : kb'.toNat = k') (v C S1 S2 : FVec Ideal S256x128 .f32) (r : Fin 256) (l : Fin 128) :
    rotV kb kb' v C S1 S2 (ix2 r l) = rot k k' (row v r) (row C r) (row S1 r) (row S2 r) l := by
  subst hk hk'
  have e : ∀ (kb : BitVec 32) (y : FVec Ideal S256x128 .f32), dynamicRotate 1 kb none y rotates_S256x128_d1 (ix2 r l) = y (ix2 r (back kb.toNat l)) := fun kb y =>
    dynamicRotate_apply 1 kb y rotates_S256x128_d1 (ix2 r l) (ix2 r (back kb.toNat l)) fun b => by
      match b with
      | ⟨0, _⟩ => rfl
      | ⟨1, _⟩ => rfl
  exact congrArg₂ (fun s t : EReal => v (ix2 r l) * C (ix2 r l) + s + t) (e kb (mulf v S1)) (e kb' (mulf v S2))

theorem mm_apply (a : FVec Ideal S256x128 .f32) (gm : FVec Ideal S128x128 .f32) (r : Fin 256) (l : Fin 128) :
    matmul dot_S256x128_S128x128_S256x128_1_0_0_1_n_n (some .fp32) a gm (constant S256x128 .f32 0x00000000#32) (ix2 r l) = ∑ j, row a r j * row gm j l := by
  refine (Ideal.matmul_plain_apply (some .fp32) _ _ _ r l).trans ?_
  show (Ideal.ofBits .f32 0x00000000#32 : EReal) + _ = _
  rw [Ideal.ofBits_zero_f32, zero_add]
  rfl

theorem rV_apply (x : FVec Ideal S256x128 .f32) (gm : FVec Ideal S128x128 .f32) (r : Fin 256) (l : Fin 128) : rV x gm (ix2 r l) = rstdRow (row x r) (row gm) l :=
  congrArg (fun s : EReal => Ideal.rsqrt (s + Ideal.ofBits .f32 0x358637BD#32)) (mm_apply (mulf x x) gm r l)

theorem bw_apply (w : FVec Ideal S1x128 .f32) (r : Fin 256) (l : Fin 128) : broadcastTo S256x128 w broadcasts_S1x128_S256x128 (ix2 r l) = row w 0 l :=
  broadcastTo_apply _ _ (ix2 r l) (ix2 0 l) fun a => by
    match a with
    | ⟨0, _⟩ => rfl
    | ⟨1, _⟩ => rfl

theorem gradV_apply (e x : FVec Ideal S256x128 .f32) (w : FVec Ideal S1x128 .f32) (gm : FVec Ideal S128x128 .f32) (r : Fin 256) (l : Fin 128) :
    gradV e x w gm gm (ix2 r l) = gradRow (row e r) (row w 0) (row x r) (row gm) l := by
  unfold gradV gradRow
  show (rV x gm (ix2 r l) : EReal) * (e (ix2 r l) * broadcastTo S256x128 w broadcasts_S1x128_S256x128 (ix2 r l)
    - x (ix2 r l) * rV x gm (ix2 r l) * matmul (F := Ideal) dot_S256x128_S128x128_S256x128_1_0_0_1_n_n (some .fp32) _ _ _ (ix2 r l)) = _
  rw [mm_apply, rV_apply, bw_apply]
  refine congrArg (fun s : EReal => rstdRow (row x r) (row gm) l * (e (ix2 r l) * row w 0 l - x (ix2 r l) * rstdRow (row x r) (row gm) l * s)) ?_
  refine Finset.sum_congr rfl fun j _ => congrArg (fun s : EReal => s * row gm j l) ?_
  show (e (ix2 r j) * broadcastTo S256x128 w broadcasts_S1x128_S256x128 (ix2 r j)) * (x (ix2 r j) * rV x gm (ix2 r j)) = _
  rw [rV_apply, bw_apply]
  rfl

theorem dnV_apply (e x : FVec Ideal S256x128 .f32) (gm : FVec Ideal S128x128 .f32) (acc : FVec Ideal S1x128 .f32) (u : Fin 1) (l : Fin 128) :
    dnV e x gm acc (ix2 u l) = acc (ix2 u l) + ∑ r, row e r l * (row x r l * rstdRow (row x r) (row gm) l) := by
  refine congrArg (acc (ix2 u l) + · : EReal → EReal) ?_
  rw [ValueIdx.shapeCast_a_1a_apply]
  refine (Ideal.multiReduction_add_single _ _ _ _ _ _).trans (Finset.sum_congr rfl fun k _ => ?_)
  have hi : ∀ y : FVec Ideal S256x128 .f32, ∀ i, i = ix2 k l → y i = y (ix2 k l) := fun y i h => congrArg y h
  refine (hi _ _ (ix2_of rfl rfl)).trans ?_
  exact congrArg (fun s : EReal => e (ix2 k l) * (x (ix2 k l) * s)) (rV_apply x gm k l)

/-! ### The payloads -/

section Pays
variable (v : Vec Ideal S256x128 .bf16) (C S1 S2 x : Vec Ideal S256x128 .f32) (w acc : Vec Ideal S1x128 .f32) (gm gm' : Vec Ideal S128x128 .f32)

theorem pay4_eq : k0_pay4 v C S1 S2 = rotV 8#32 120#32 (scaleV v) C S1 S2 := by unfold k0_pay4; simp only [shapeCast_self]; rfl
theorem pay10_eq : k0_pay10 (k0_pay5 v) (k0_pay6 C) (k0_pay7 S1) (k0_pay8 S2) (k0_pay9 v) = rotV 8#32 120#32 v C S1 S2 := by
  unfold k0_pay10 k0_pay9 k0_pay5 k0_pay6 k0_pay7 k0_pay8; simp only [shapeCast_self]; rfl
theorem pay16_eq : k0_pay16 (k0_pay15 v) C S1 S2 = rotV 8#32 120#32 (scaleV v) C S1 S2 := by unfold k0_pay16 k0_pay15; simp only [shapeCast_self]; rfl
theorem pay17_eq : k0_pay17 v C S1 S2 = rotV 8#32 120#32 v C S1 S2 := by unfold k0_pay17; simp only [shapeCast_self]; rfl
theorem copies : k0_pay11 v = v ∧ k0_pay13 v = v ∧ k0_pay14 v = v ∧ k0_pay18 v = v ∧ k0_pay20 v = v ∧ k0_pay21 v = v ∧ k0_pay1 v = v := by
  unfold k0_pay11 k0_pay13 k0_pay14 k0_pay18 k0_pay20 k0_pay21 k0_pay1
  simp only [shapeCast_self, and_self]
theorem scales : k0_pay12 v = scaleV v ∧ k0_pay19 v = scaleV v := by
  unfold k0_pay12 k0_pay19; simp only [shapeCast_self]; exact ⟨rfl, rfl⟩

/-- The rotated cotangent of a head of the normed attention. -/
theorem pay26_eq : k0_pay26 (k0_pay22 v) (k0_pay23 S2) (k0_pay24 v C) (k0_pay25 v S1) = rotV 16#32 112#32 (scaleV v) C S1 S2 := by
  unfold k0_pay26 k0_pay25 k0_pay24 k0_pay23 k0_pay22; simp only [shapeCast_self]; rfl
theorem pay32_eq : k0_pay32 (k0_pay31 v) C S1 S2 = rotV 16#32 112#32 (scaleV v) C S1 S2 := by unfold k0_pay32 k0_pay31; simp only [shapeCast_self]; rfl
theorem pay38_eq : k0_pay38 v C S1 S2 = rotV 16#32 112#32 (scaleV v) C S1 S2 := by unfold k0_pay38; simp only [shapeCast_self]; rfl
theorem pay44_eq : k0_pay44 v C S1 S2 = rotV 16#32 112#32 (scaleV v) C S1 S2 := by unfold k0_pay44; simp only [shapeCast_self]; rfl
theorem pay52_eq : k0_pay52 (k0_pay49 v) (k0_pay50 C) (k0_pay51 S1) S2 = rotV 16#32 112#32 v C S1 S2 := by
  unfold k0_pay52 k0_pay49 k0_pay50 k0_pay51; simp only [shapeCast_self]; rfl

theorem roots : k0_pay27 x gm = rV x gm ∧ k0_pay33 x gm = rV x gm ∧ k0_pay40 x gm = rV x gm ∧ k0_pay45 x gm = rV x gm ∧ k0_pay53 x gm = rV x gm := ⟨rfl, rfl, rfl, rfl, rfl⟩

theorem pay29_eq : k0_pay29 (k0_pay22 v) (k0_pay23 S2) (k0_pay24 v C) (k0_pay25 v S1) x w gm gm' = gradV (rotV 16#32 112#32 (scaleV v) C S1 S2) x w gm gm' := by
  rw [← pay26_eq]; unfold k0_pay29; simp only [shapeCast_self]; rfl
theorem pay36_eq : k0_pay36 (k0_pay31 v) C S1 S2 x w gm gm' = gradV (rotV 16#32 112#32 (scaleV v) C S1 S2) x w gm gm' := by
  rw [← pay32_eq]; unfold k0_pay36; simp only [shapeCast_self]; rfl
theorem pay42_eq : k0_pay42 (k0_pay38 v C S1 S2) (k0_pay39 w) (k0_pay40 x gm) (k0_pay41 x gm) gm' = gradV (rotV 16#32 112#32 (scaleV v) C S1 S2) x w gm gm' := by
  rw [← pay38_eq]; unfold k0_pay42 k0_pay39; simp only [shapeCast_self]; rfl
theorem pay47_eq : k0_pay47 (k0_pay44 v C S1 S2) x w gm gm' = gradV (rotV 16#32 112#32 (scaleV v) C S1 S2) x w gm gm' := by
  rw [← pay44_eq]; unfold k0_pay47; simp only [shapeCast_self]; rfl
theorem pay55_eq : k0_pay55 (k0_pay49 v) (k0_pay50 C) (k0_pay51 S1) S2 x w gm gm' = gradV (rotV 16#32 112#32 v C S1 S2) x w gm gm' := by
  rw [← pay52_eq]; unfold k0_pay55; simp only [shapeCast_self]; rfl

theorem pay30_eq : k0_pay30 (k0_pay22 v) (k0_pay23 S2) (k0_pay24 v C) (k0_pay25 v S1) x gm acc = dnV (rotV 16#32 112#32 (scaleV v) C S1 S2) x gm acc := by
  rw [← pay26_eq]; unfold k0_pay30; simp only [shapeCast_self]; rfl
theorem pay37_eq : k0_pay37 (k0_pay35 (k0_pay31 v) C S1 S2 x gm) acc = dnV (rotV 16#32 112#32 (scaleV v) C S1 S2) x gm acc := by
  rw [← pay32_eq]; unfold k0_pay37 k0_pay35; simp only [shapeCast_self]; rfl
theorem pay43_eq : k0_pay43 (k0_pay38 v C S1 S2) (k0_pay41 x gm) acc = dnV (rotV 16#32 112#32 (scaleV v) C S1 S2) x gm acc := by
  rw [← pay38_eq]; unfold k0_pay43; simp only [shapeCast_self]; rfl
theorem pay48_eq : k0_pay48 (k0_pay44 v C S1 S2) x gm acc = dnV (rotV 16#32 112#32 (scaleV v) C S1 S2) x gm acc := by
  rw [← pay44_eq]; unfold k0_pay48; simp only [shapeCast_self]; rfl
theorem pay56_eq : k0_pay56 (k0_pay49 v) (k0_pay50 C) (k0_pay51 S1) S2 x gm acc = dnV (rotV 16#32 112#32 v C S1 S2) x gm acc := by
  rw [← pay52_eq]; unfold k0_pay56; simp only [shapeCast_self]; rfl

end Pays

end Cert.PrepIdeal.Val

end
-- ==== Proof.Prep.Stores.lean ====
module

public import proofs.«01_k».proof.Proof.Prep.Pay
public import Idealize.ShloMosaic.Lib.Pipeline.ValueKit.Tiles

/-! A buffer filled by stores of 128 columns each, read at one of its columns. -/

@[expose] public section

set_option maxRecDepth 16384

noncomputable section

namespace Cert.PrepIdeal.Val

open Idealize.ShloMosaic Idealize.ShloMosaic.ValueIdx Cert.Proof

variable {N M : ℕ} {e : EltTy}

/-- The piece stores `F k` in the block of columns number `k`. -/
def BlkAt (F : ℕ → Fin N → Fin 128 → Elt Ideal e) (k : ℕ) (pc : View.Piece (Elt Ideal) (⟨2, ![N, M]⟩ : Shape) e) : Prop :=
  ∃ (inb : ∀ a, (![0, 128 * k] : Fin 2 → ℕ) a + (![N, 128] : Fin 2 → ℕ) a ≤ (⟨2, ![N, M]⟩ : Shape).size a)
    (w : (Rect.unit (s := (⟨2, ![N, M]⟩ : Shape)) ![0, 128 * k] ![N, 128] inb).shape.Idx → Elt Ideal e),
    pc = ⟨Rect.unit (s := (⟨2, ![N, M]⟩ : Shape)) ![0, 128 * k] ![N, 128] inb, w⟩ ∧ ∀ (r : Fin N) (l : Fin 128), w (ix2 r l) = F k r l

theorem BlkAt.mk (F : ℕ → Fin N → Fin 128 → Elt Ideal e) (k : ℕ)
    (inb : ∀ a, (![0, 128 * k] : Fin 2 → ℕ) a + (![N, 128] : Fin 2 → ℕ) a ≤ (⟨2, ![N, M]⟩ : Shape).size a)
    (w : (⟨2, ![N, 128]⟩ : Shape).Idx → Elt Ideal e) (h : ∀ (r : Fin N) (l : Fin 128), w (ix2 r l) = F k r l) :
    BlkAt F k (⟨Rect.unit (s := (⟨2, ![N, M]⟩ : Shape)) ![0, 128 * k] ![N, 128] inb, w⟩ : View.Piece (Elt Ideal) (⟨2, ![N, M]⟩ : Shape) e) :=
  ⟨inb, w, rfl, h⟩

/-- The newest pieces store the blocks of the list's numbers. -/
inductive Stores (F : ℕ → Fin N → Fin 128 → Elt Ideal e) : List ℕ → List (View.Piece (Elt Ideal) (⟨2, ![N, M]⟩ : Shape) e) → Prop
  | nil {L} : Stores F [] L
  | cons {k ks pc L} : BlkAt F k pc → Stores F ks L → Stores F (k :: ks) (pc :: L)

theorem read_blocks {sig : RefSig} {κ : Kind} {sp : Space} (v : View sig κ sp (⟨2, ![N, M]⟩ : Shape) e) (f : v.ty.Contents (Elt Ideal))
    (F : ℕ → Fin N → Fin 128 → Elt Ideal e) (ks : List ℕ) (L : List (View.Piece (Elt Ideal) (⟨2, ![N, M]⟩ : Shape) e))
    (hL : Stores F ks L) (k : ℕ) (hk : k ∈ ks) (r : Fin N) (l : Fin 128) (h : 128 * k + l.val < M) :
    v.read (Elt Ideal) (v.writes (Elt Ideal) f L) (ix2 r ⟨128 * k + l.val, h⟩) = F k r l := by
  induction hL with
  | nil => exact absurd hk List.not_mem_nil
  | @cons k' ks' pc L₀ hpc _ ih =>
    obtain ⟨inb, w, rfl, hw⟩ := hpc
    by_cases hkk : k' = k
    · subst hkk
      refine (View.read_writes_cons_unit_of_mem v f inb w _ _ (ix2 r l) rfl fun a => ?_).trans (hw r l)
      match a with
      | ⟨0, _⟩ => exact (Nat.zero_add _).symm
      | ⟨1, _⟩ => rfl
    · refine (View.read_writes_cons_unit_of_not_mem v f inb w _ _ rfl 1 ?_).trans (ih ((List.mem_cons.mp hk).resolve_left fun e => hkk e.symm))
      show 128 * k + l.val < 128 * k' ∨ 128 * k' + 128 ≤ 128 * k + l.val
      omega

/-- A first store of one array over the whole buffer, under newer stores of blocks other than number `k`. -/
inductive Rest (k : ℕ) (z : (⟨2, ![N, M]⟩ : Shape).Idx → Elt Ideal e) : List (View.Piece (Elt Ideal) (⟨2, ![N, M]⟩ : Shape) e) → Prop
  | first (inb : ∀ a, (![0, 0] : Fin 2 → ℕ) a + (![N, M] : Fin 2 → ℕ) a ≤ (⟨2, ![N, M]⟩ : Shape).size a) :
    Rest k z [⟨Rect.unit (s := (⟨2, ![N, M]⟩ : Shape)) ![0, 0] ![N, M] inb, z⟩]
  | newer {L} (k' : ℕ) (hk : k' ≠ k) (inb : ∀ a, (![0, 128 * k'] : Fin 2 → ℕ) a + (![N, 128] : Fin 2 → ℕ) a ≤ (⟨2, ![N, M]⟩ : Shape).size a)
    (w : (⟨2, ![N, 128]⟩ : Shape).Idx → Elt Ideal e) :
    Rest k z L → Rest k z (⟨Rect.unit (s := (⟨2, ![N, M]⟩ : Shape)) ![0, 128 * k'] ![N, 128] inb, w⟩ :: L)

/-- A load of block `k` reads the first store's array. -/
theorem readCov_rest {sig : RefSig} {κ : Kind} {sp : Space} (v : View sig κ sp (⟨2, ![N, M]⟩ : Shape) e) (k : ℕ)
    (z : (⟨2, ![N, M]⟩ : Shape).Idx → Elt Ideal e) (L : List (View.Piece (Elt Ideal) (⟨2, ![N, M]⟩ : Shape) e)) (hL : Rest k z L)
    (inb : ∀ a, (![0, 128 * k] : Fin 2 → ℕ) a + (![N, 128] : Fin 2 → ℕ) a ≤ (⟨2, ![N, M]⟩ : Shape).size a) (r : Fin N) (l : Fin 128) :
    v.readCov L (Rect.unit (s := (⟨2, ![N, M]⟩ : Shape)) ![0, 128 * k] ![N, 128] inb).toLoadRect (ix2 r l)
      = z (ix2 r ⟨128 * k + l.val, by have h := inb 1; change 128 * k + 128 ≤ M at h; omega⟩) := by
  have hM : 128 * k + 128 ≤ M := inb 1
  have key : v.read (Elt Ideal) (v.writes (Elt Ideal) v.junk L) (ix2 r ⟨128 * k + l.val, by omega⟩) = z (ix2 r ⟨128 * k + l.val, by omega⟩) := by
    induction hL with
    | first inb₀ =>
      refine View.read_writes_cons_unit_of_mem v v.junk inb₀ z _ _ (ix2 r ⟨128 * k + l.val, by omega⟩) rfl fun a => ?_
      match a with
      | ⟨0, _⟩ => exact (Nat.zero_add _).symm
      | ⟨1, _⟩ => exact (Nat.zero_add _).symm
    | newer k' hk inb' w _ ih =>
      refine (View.read_writes_cons_unit_of_not_mem v v.junk inb' w _ _ rfl 1 ?_).trans ih
      show 128 * k + l.val < 128 * k' ∨ 128 * k' + 128 ≤ 128 * k + l.val
      omega
  refine Eq.trans (congrArg (v.read (Elt Ideal) (v.writes (Elt Ideal) v.junk L)) (funext fun a => Fin.ext ?_)) key
  match a with
  | ⟨0, _⟩ => show 0 + 1 * r.val = r.val; omega
  | ⟨1, _⟩ => show 128 * k + 1 * l.val = 128 * k + l.val; omega

/-- A block of 128 columns. -/
def sub (X : (⟨2, ![N, M]⟩ : Shape).Idx → Elt Ideal e) (o : ℕ) (h : o + 128 ≤ M) : (⟨2, ![N, 128]⟩ : Shape).Idx → Elt Ideal e :=
  fun i => X (ix2 (i 0) ⟨o + (i 1).val, by have := (i 1).isLt; simp at this; omega⟩)

theorem ld_sub (X : (⟨2, ![N, M]⟩ : Shape).Idx → Elt Ideal e) (o : ℕ)
    (inb : ∀ a, (![0, o] : Fin 2 → ℕ) a + (![N, 128] : Fin 2 → ℕ) a ≤ (⟨2, ![N, M]⟩ : Shape).size a) :
    View.ld (Val := Elt Ideal) (e' := e) X (Rect.unit (s := (⟨2, ![N, M]⟩ : Shape)) ![0, o] ![N, 128] inb) = sub X o (inb 1) :=
  funext fun x => View.ld_unit_apply_of X _ _ inb x _ fun a => by
    match a with
    | ⟨0, _⟩ => exact (Nat.zero_add _).symm
    | ⟨1, _⟩ => rfl

end Cert.PrepIdeal.Val

end
-- ==== Proof.Prep.Block.lean ====
module

public import proofs.«01_k».proof.Proof.Prep.Stores

/-! What one tile of 256 rows leaves in its three output blocks. -/

@[expose] public section

set_option maxRecDepth 16384

noncomputable section

namespace Cert.PrepIdeal.Val

open Idealize.ShloMosaic Idealize.ShloMosaic.TcCoe Idealize.ShloMosaic.Tactic Idealize.SL.Sem Cert.PrepIdeal Cert.PrepIdeal.Gen
open Idealize.ShloMosaic.ValueIdx Cert.Proof Cert.Proof.Prep

theorem hz2 : (![0, 0] : Fin 2 → Nat) = fun _ => 0 := funext fun a => by fin_cases a <;> rfl

/-- One row of what the call reads: the hidden projections, the cotangents of the three attentions, the tables of the
two rotations, the two norms' weights and the group matrix. -/
structure Ins where
  h : Fin 2304 → EReal
  a1 : Fin 256 → EReal
  a2 : Fin 256 → EReal
  a3 : Fin 256 → EReal
  b4 : Fin 512 → EReal
  b5 : Fin 128 → EReal
  b6 : Fin 128 → EReal
  c7 : Fin 256 → EReal
  c8 : Fin 256 → EReal
  c9 : Fin 256 → EReal
  ca : Fin 128 → EReal
  sa : Fin 128 → EReal
  sa' : Fin 128 → EReal
  cb : Fin 128 → EReal
  sb : Fin 128 → EReal
  sb' : Fin 128 → EReal
  wq : Fin 128 → EReal
  wk : Fin 128 → EReal
  gm : Fin 128 → Fin 128 → EReal

/-- 128 columns from column `o` on. -/
def seg {M : ℕ} (f : Fin M → EReal) (o : ℕ) (h : o + 128 ≤ M) (l : Fin 128) : EReal := f ⟨o + l.val, by omega⟩

/-- The rotated, scaled cotangent of queries' block `k`, and that of the keys. -/
def eq (I : Ins) (k : ℕ) (h : 128 * k + 128 ≤ 512) : Fin 128 → EReal :=
  rot 16 112 (fun l => seg I.b4 (128 * k) h l * sc) I.cb I.sb I.sb'
def ek (I : Ins) : Fin 128 → EReal := rot 16 112 I.b5 I.cb I.sb I.sb'

/-- Block `k` of a row of the first result. -/
def dh (I : Ins) (k : ℕ) (l : Fin 128) : EReal := match k with
  | 0 => rot 8 120 (fun l => seg I.a1 0 (by decide) l * sc) I.ca I.sa I.sa' l
  | 1 => rot 8 120 (fun l => seg I.a1 128 (by decide) l * sc) I.ca I.sa I.sa' l
  | 2 => rot 8 120 (seg I.a2 0 (by decide)) I.ca I.sa I.sa' l
  | 3 => rot 8 120 (seg I.a2 128 (by decide)) I.ca I.sa I.sa' l
  | 4 => seg I.a3 0 (by decide) l
  | 5 => seg I.a3 128 (by decide) l
  | 6 => gradRow (eq I 0 (by decide)) I.wq (seg I.h 768 (by decide)) I.gm l
  | 7 => gradRow (eq I 1 (by decide)) I.wq (seg I.h 896 (by decide)) I.gm l
  | 8 => gradRow (eq I 2 (by decide)) I.wq (seg I.h 1024 (by decide)) I.gm l
  | 9 => gradRow (eq I 3 (by decide)) I.wq (seg I.h 1152 (by decide)) I.gm l
  | 10 => gradRow (ek I) I.wk (seg I.h 1280 (by decide)) I.gm l
  | 11 => I.b6 l
  | 12 => seg I.c7 0 (by decide) l * sc
  | 13 => seg I.c7 128 (by decide) l * sc
  | 14 => seg I.c8 0 (by decide) l
  | 15 => seg I.c8 128 (by decide) l
  | 16 => seg I.c9 0 (by decide) l
  | 17 => seg I.c9 128 (by decide) l
  | _ => 0

/-- One row's share of the two norms' weight gradients. -/
def dn (I : Ins) (e x : Fin 128 → EReal) (l : Fin 128) : EReal := e l * (x l * rstdRow x I.gm l)
def dq (I : Ins) (k : ℕ) (l : Fin 128) : EReal := match k with
  | 0 => dn I (eq I 0 (by decide)) (seg I.h 768 (by decide)) l
  | 1 => dn I (eq I 1 (by decide)) (seg I.h 896 (by decide)) l
  | 2 => dn I (eq I 2 (by decide)) (seg I.h 1024 (by decide)) l
  | 3 => dn I (eq I 3 (by decide)) (seg I.h 1152 (by decide)) l
  | _ => 0
def dk (I : Ins) (l : Fin 128) : EReal := dn I (ek I) (seg I.h 1280 (by decide)) l

section Tile
variable (x0 : Vec Ideal S256x2304 .f32) (x1 : Vec Ideal S256x256 .bf16) (x2 : Vec Ideal S256x256 .bf16) (x3 : Vec Ideal S256x256 .bf16) (x4 : Vec Ideal S256x512 .bf16) (x5 : Vec Ideal S256x128 .bf16) (x6 : Vec Ideal S256x128 .bf16) (x7 : Vec Ideal S256x256 .bf16) (x8 : Vec Ideal S256x256 .bf16) (x9 : Vec Ideal S256x256 .bf16) (x10 : Vec Ideal S256x128 .f32) (x11 : Vec Ideal S256x128 .f32) (x12 : Vec Ideal S256x128 .f32) (x13 : Vec Ideal S256x128 .f32) (x14 : Vec Ideal S256x128 .f32) (x15 : Vec Ideal S256x128 .f32) (x16 : Vec Ideal S1x128 .f32) (x17 : Vec Ideal S1x128 .f32) (x18 : Vec Ideal S128x128 .f32)

/-- Row `r` of the tile's blocks. -/
def tileRow (r : Fin 256) : Ins := ⟨row x0 r, row x1 r, row x2 r, row x3 r, row x4 r, row x5 r, row x6 r, row x7 r, row x8 r, row x9 r,
  row x10 r, row x11 r, row x12 r, row x13 r, row x14 r, row x15 r, row x16 0, row x17 0, row x18⟩

theorem grad_cols (v : Vec Ideal S256x128 .bf16) (x : Vec Ideal S256x128 .f32) (w : Vec Ideal S1x128 .f32) (r : Fin 256) (l : Fin 128) :
    gradV (rotV 16#32 112#32 v x13 x14 x15) x w x18 x18 (ix2 r l)
      = gradRow (rot 16 112 (row v r) (row x13 r) (row x14 r) (row x15 r)) (row w 0) (row x r) (row x18) l := by
  rw [gradV_apply]
  exact congrArg (fun e => gradRow e (row w 0) (row x r) (row x18) l) (funext fun j => rotV_apply 16 112 16#32 112#32 rfl rfl v x13 x14 x15 r j)

theorem dn_cols (v : Vec Ideal S256x128 .bf16) (x : Vec Ideal S256x128 .f32) (acc : Vec Ideal S1x128 .f32) (u : Fin 1) (l : Fin 128) :
    dnV (rotV 16#32 112#32 v x13 x14 x15) x x18 acc (ix2 u l)
      = acc (ix2 u l) + ∑ r, dn (tileRow x0 x1 x2 x3 x4 x5 x6 x7 x8 x9 x10 x11 x12 x13 x14 x15 x16 x17 x18 r) (rot 16 112 (row v r) (row x13 r) (row x14 r) (row x15 r)) (row x r) l := by
  rw [dnV_apply]
  exact congrArg (fun s : EReal => acc (ix2 u l) + s) (Finset.sum_congr rfl fun r _ =>
    congrArg (fun s : EReal => s * (row x r l * rstdRow (row x r) (row x18) l)) (rotV_apply 16 112 16#32 112#32 rfl rfl v x13 x14 x15 r l))

section Blocks
variable (r : Fin 256) (l : Fin 128)

theorem s0 (h) : k0_pay4 (sub x1 0 h) x10 x11 x12 (ix2 r l) = dh (tileRow x0 x1 x2 x3 x4 x5 x6 x7 x8 x9 x10 x11 x12 x13 x14 x15 x16 x17 x18 r) 0 l :=
  (congrFun (pay4_eq _ _ _ _) _).trans (rotV_apply 8 120 8#32 120#32 rfl rfl _ x10 x11 x12 r l)
theorem s1 (h) : k0_pay16 (k0_pay15 (sub x1 128 h)) x10 x11 x12 (ix2 r l) = dh (tileRow x0 x1 x2 x3 x4 x5 x6 x7 x8 x9 x10 x11 x12 x13 x14 x15 x16 x17 x18 r) 1 l :=
  (congrFun (pay16_eq _ _ _ _) _).trans (rotV_apply 8 120 8#32 120#32 rfl rfl _ x10 x11 x12 r l)
theorem s2 (h) : k0_pay10 (k0_pay5 (sub x2 0 h)) (k0_pay6 x10) (k0_pay7 x11) (k0_pay8 x12) (k0_pay9 (sub x2 0 h)) (ix2 r l) = dh (tileRow x0 x1 x2 x3 x4 x5 x6 x7 x8 x9 x10 x11 x12 x13 x14 x15 x16 x17 x18 r) 2 l :=
  (congrFun (pay10_eq _ _ _ _) _).trans (rotV_apply 8 120 8#32 120#32 rfl rfl _ x10 x11 x12 r l)
theorem s3 (h) : k0_pay17 (sub x2 128 h) x10 x11 x12 (ix2 r l) = dh (tileRow x0 x1 x2 x3 x4 x5 x6 x7 x8 x9 x10 x11 x12 x13 x14 x15 x16 x17 x18 r) 3 l :=
  (congrFun (pay17_eq _ _ _ _) _).trans (rotV_apply 8 120 8#32 120#32 rfl rfl _ x10 x11 x12 r l)
theorem s6 (h h') : k0_pay29 (k0_pay22 (sub x4 0 h)) (k0_pay23 x15) (k0_pay24 (sub x4 0 h) x13) (k0_pay25 (sub x4 0 h) x14) (sub x0 768 h') x16 x18 x18 (ix2 r l) = dh (tileRow x0 x1 x2 x3 x4 x5 x6 x7 x8 x9 x10 x11 x12 x13 x14 x15 x16 x17 x18 r) 6 l :=
  (congrFun (pay29_eq _ _ _ _ _ _ _ _) _).trans (grad_cols x13 x14 x15 x18 _ _ _ r l)
theorem s7 (h h') : k0_pay36 (k0_pay31 (sub x4 128 h)) x13 x14 x15 (sub x0 896 h') x16 x18 x18 (ix2 r l) = dh (tileRow x0 x1 x2 x3 x4 x5 x6 x7 x8 x9 x10 x11 x12 x13 x14 x15 x16 x17 x18 r) 7 l :=
  (congrFun (pay36_eq _ _ _ _ _ _ _ _) _).trans (grad_cols x13 x14 x15 x18 _ _ _ r l)
theorem s8 (h h') : k0_pay42 (k0_pay38 (sub x4 256 h) x13 x14 x15) (k0_pay39 x16) (k0_pay40 (sub x0 1024 h') x18) (k0_pay41 (sub x0 1024 h') x18) x18 (ix2 r l) = dh (tileRow x0 x1 x2 x3 x4 x5 x6 x7 x8 x9 x10 x11 x12 x13 x14 x15 x16 x17 x18 r) 8 l :=
  (congrFun (pay42_eq _ _ _ _ _ _ _ _) _).trans (grad_cols x13 x14 x15 x18 _ _ _ r l)
theorem s9 (h h') : k0_pay47 (k0_pay44 (sub x4 384 h) x13 x14 x15) (sub x0 1152 h') x16 x18 x18 (ix2 r l) = dh (tileRow x0 x1 x2 x3 x4 x5 x6 x7 x8 x9 x10 x11 x12 x13 x14 x15 x16 x17 x18 r) 9 l :=
  (congrFun (pay47_eq _ _ _ _ _ _ _ _) _).trans (grad_cols x13 x14 x15 x18 _ _ _ r l)
theorem s10 (h') : k0_pay55 (k0_pay49 x5) (k0_pay50 x13) (k0_pay51 x14) x15 (sub x0 1280 h') x17 x18 x18 (ix2 r l) = dh (tileRow x0 x1 x2 x3 x4 x5 x6 x7 x8 x9 x10 x11 x12 x13 x14 x15 x16 x17 x18 r) 10 l :=
  (congrFun (pay55_eq _ _ _ _ _ _ _ _) _).trans (grad_cols x13 x14 x15 x18 _ _ _ r l)
theorem s4 (h) : k0_pay11 (sub x3 0 h) (ix2 r l) = dh (tileRow x0 x1 x2 x3 x4 x5 x6 x7 x8 x9 x10 x11 x12 x13 x14 x15 x16 x17 x18 r) 4 l := congrFun (copies _).1 (ix2 r l)
theorem s5 (h) : k0_pay18 (sub x3 128 h) (ix2 r l) = dh (tileRow x0 x1 x2 x3 x4 x5 x6 x7 x8 x9 x10 x11 x12 x13 x14 x15 x16 x17 x18 r) 5 l := congrFun (copies _).2.2.2.1 (ix2 r l)
theorem s14 (h) : k0_pay13 (sub x8 0 h) (ix2 r l) = dh (tileRow x0 x1 x2 x3 x4 x5 x6 x7 x8 x9 x10 x11 x12 x13 x14 x15 x16 x17 x18 r) 14 l := congrFun (copies _).2.1 (ix2 r l)
theorem s16 (h) : k0_pay14 (sub x9 0 h) (ix2 r l) = dh (tileRow x0 x1 x2 x3 x4 x5 x6 x7 x8 x9 x10 x11 x12 x13 x14 x15 x16 x17 x18 r) 16 l := congrFun (copies _).2.2.1 (ix2 r l)
theorem s15 (h) : k0_pay20 (sub x8 128 h) (ix2 r l) = dh (tileRow x0 x1 x2 x3 x4 x5 x6 x7 x8 x9 x10 x11 x12 x13 x14 x15 x16 x17 x18 r) 15 l := congrFun (copies _).2.2.2.2.1 (ix2 r l)
theorem s17 (h) : k0_pay21 (sub x9 128 h) (ix2 r l) = dh (tileRow x0 x1 x2 x3 x4 x5 x6 x7 x8 x9 x10 x11 x12 x13 x14 x15 x16 x17 x18 r) 17 l := congrFun (copies _).2.2.2.2.2.1 (ix2 r l)
theorem s11 : k0_pay1 x6 (ix2 r l) = dh (tileRow x0 x1 x2 x3 x4 x5 x6 x7 x8 x9 x10 x11 x12 x13 x14 x15 x16 x17 x18 r) 11 l := congrFun (copies _).2.2.2.2.2.2 (ix2 r l)
theorem s12 (h) : k0_pay12 (sub x7 0 h) (ix2 r l) = dh (tileRow x0 x1 x2 x3 x4 x5 x6 x7 x8 x9 x10 x11 x12 x13 x14 x15 x16 x17 x18 r) 12 l := congrFun (scales _).1 (ix2 r l)
theorem s13 (h) : k0_pay19 (sub x7 128 h) (ix2 r l) = dh (tileRow x0 x1 x2 x3 x4 x5 x6 x7 x8 x9 x10 x11 x12 x13 x14 x15 x16 x17 x18 r) 13 l := congrFun (scales _).2 (ix2 r l)

end Blocks

section Sums
variable (u : Fin 1) (l : Fin 128) (acc : Vec Ideal S1x128 .f32)

theorem t0 (h h') : k0_pay30 (k0_pay22 (sub x4 0 h)) (k0_pay23 x15) (k0_pay24 (sub x4 0 h) x13) (k0_pay25 (sub x4 0 h) x14) (sub x0 768 h') x18 acc (ix2 u l) = acc (ix2 u l) + ∑ r, dq (tileRow x0 x1 x2 x3 x4 x5 x6 x7 x8 x9 x10 x11 x12 x13 x14 x15 x16 x17 x18 r) 0 l :=
  (congrFun (pay30_eq _ _ _ _ _ _ _) _).trans (dn_cols x0 x1 x2 x3 x4 x5 x6 x7 x8 x9 x10 x11 x12 x13 x14 x15 x16 x17 x18 _ _ _ u l)
theorem t1 (h h') : k0_pay37 (k0_pay35 (k0_pay31 (sub x4 128 h)) x13 x14 x15 (sub x0 896 h') x18) acc (ix2 u l) = acc (ix2 u l) + ∑ r, dq (tileRow x0 x1 x2 x3 x4 x5 x6 x7 x8 x9 x10 x11 x12 x13 x14 x15 x16 x17 x18 r) 1 l :=
  (congrFun (pay37_eq _ _ _ _ _ _ _) _).trans (dn_cols x0 x1 x2 x3 x4 x5 x6 x7 x8 x9 x10 x11 x12 x13 x14 x15 x16 x17 x18 _ _ _ u l)
theorem t2 (h h') : k0_pay43 (k0_pay38 (sub x4 256 h) x13 x14 x15) (k0_pay41 (sub x0 1024 h') x18) acc (ix2 u l) = acc (ix2 u l) + ∑ r, dq (tileRow x0 x1 x2 x3 x4 x5 x6 x7 x8 x9 x10 x11 x12 x13 x14 x15 x16 x17 x18 r) 2 l :=
  (congrFun (pay43_eq _ _ _ _ _ _ _) _).trans (dn_cols x0 x1 x2 x3 x4 x5 x6 x7 x8 x9 x10 x11 x12 x13 x14 x15 x16 x17 x18 _ _ _ u l)
theorem t3 (h h') : k0_pay48 (k0_pay44 (sub x4 384 h) x13 x14 x15) (sub x0 1152 h') x18 acc (ix2 u l) = acc (ix2 u l) + ∑ r, dq (tileRow x0 x1 x2 x3 x4 x5 x6 x7 x8 x9 x10 x11 x12 x13 x14 x15 x16 x17 x18 r) 3 l :=
  (congrFun (pay48_eq _ _ _ _ _ _ _) _).trans (dn_cols x0 x1 x2 x3 x4 x5 x6 x7 x8 x9 x10 x11 x12 x13 x14 x15 x16 x17 x18 _ _ _ u l)
theorem t4 (h') : k0_pay56 (k0_pay49 x5) (k0_pay50 x13) (k0_pay51 x14) x15 (sub x0 1280 h') x18 acc (ix2 u l) = acc (ix2 u l) + ∑ r, dk (tileRow x0 x1 x2 x3 x4 x5 x6 x7 x8 x9 x10 x11 x12 x13 x14 x15 x16 x17 x18 r) l :=
  (congrFun (pay56_eq _ _ _ _ _ _ _) _).trans (dn_cols x0 x1 x2 x3 x4 x5 x6 x7 x8 x9 x10 x11 x12 x13 x14 x15 x16 x17 x18 _ _ _ u l)

end Sums

end Tile

section Frames
variable (c : Dev nD) (i : grid0.Coords) (arg1 : Memref sig .tc .vmem S256x2304 .f32) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x512 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S256x2304 .bf16) (harg20 : arg20.IsWhole) (arg21 : Memref sig .tc .vmem S1x512 .f32) (harg21 : arg21.IsWhole) (arg22 : Memref sig .tc .vmem S1x128 .f32) (harg22 : arg22.IsWhole)

theorem dh_A (hc0 : cond0_0 i)     (x0 : Vec Ideal S256x2304 .f32) (x1 : Vec Ideal S256x256 .bf16) (x2 : Vec Ideal S256x256 .bf16) (x3 : Vec Ideal S256x256 .bf16) (x4 : Vec Ideal S256x512 .bf16) (x5 : Vec Ideal S256x128 .bf16) (x6 : Vec Ideal S256x128 .bf16) (x7 : Vec Ideal S256x256 .bf16) (x8 : Vec Ideal S256x256 .bf16) (x9 : Vec Ideal S256x256 .bf16) (x10 : Vec Ideal S256x128 .f32) (x11 : Vec Ideal S256x128 .f32) (x12 : Vec Ideal S256x128 .f32) (x13 : Vec Ideal S256x128 .f32) (x14 : Vec Ideal S256x128 .f32) (x15 : Vec Ideal S256x128 .f32) (x16 : Vec Ideal S1x128 .f32) (x17 : Vec Ideal S1x128 .f32) (x18 : Vec Ideal S128x128 .f32) (r : Fin 256) (k : ℕ) (hk : k < 18) (l : Fin 128) :
    out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18 (ix2 r ⟨128 * k + l.val, by omega⟩) = dh (tileRow x0 x1 x2 x3 x4 x5 x6 x7 x8 x9 x10 x11 x12 x13 x14 x15 x16 x17 x18 r) k l := by
  unfold out0_A_19 kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S256x128) hz2, View.ld_unit_zero (S := S1x128) hz2,
    View.ld_unit_zero (S := S128x128) hz2, ld_sub (N := 256) (M := 256), ld_sub (N := 256) (M := 512), ld_sub (N := 256) (M := 2304), ld_sub (N := 1) (M := 512)]
  refine read_blocks (e := .bf16) (N := 256) (M := 2304) VO0_19 VO0_19.junk (fun k r l => dh (tileRow x0 x1 x2 x3 x4 x5 x6 x7 x8 x9 x10 x11 x12 x13 x14 x15 x16 x17 x18 r) k l) [11, 10, 9, 8, 7, 6, 17, 15, 13, 5, 3, 1, 16, 14, 12, 4, 2, 0] _
    (.cons (.mk _ 11 _ _ fun r l => ?_) <|
    .cons (.mk _ 10 _ _ fun r l => ?_) <|
    .cons (.mk _ 9 _ _ fun r l => ?_) <|
    .cons (.mk _ 8 _ _ fun r l => ?_) <|
    .cons (.mk _ 7 _ _ fun r l => ?_) <|
    .cons (.mk _ 6 _ _ fun r l => ?_) <|
    .cons (.mk _ 17 _ _ fun r l => ?_) <|
    .cons (.mk _ 15 _ _ fun r l => ?_) <|
    .cons (.mk _ 13 _ _ fun r l => ?_) <|
    .cons (.mk _ 5 _ _ fun r l => ?_) <|
    .cons (.mk _ 3 _ _ fun r l => ?_) <|
    .cons (.mk _ 1 _ _ fun r l => ?_) <|
    .cons (.mk _ 16 _ _ fun r l => ?_) <|
    .cons (.mk _ 14 _ _ fun r l => ?_) <|
    .cons (.mk _ 12 _ _ fun r l => ?_) <|
    .cons (.mk _ 4 _ _ fun r l => ?_) <|
    .cons (.mk _ 2 _ _ fun r l => ?_) <|
    .cons (.mk _ 0 _ _ fun r l => ?_) <| .nil) k (by interval_cases k <;> decide) r l (by omega)
  · exact s11 x0 x1 x2 x3 x4 x5 x6 x7 x8 x9 x10 x11 x12 x13 x14 x15 x16 x17 x18 r l
  · exact s10 x0 x1 x2 x3 x4 x5 x6 x7 x8 x9 x10 x11 x12 x13 x14 x15 x16 x17 x18 r l _
  · exact s9 x0 x1 x2 x3 x4 x5 x6 x7 x8 x9 x10 x11 x12 x13 x14 x15 x16 x17 x18 r l _ _
  · exact s8 x0 x1 x2 x3 x4 x5 x6 x7 x8 x9 x10 x11 x12 x13 x14 x15 x16 x17 x18 r l _ _
  · exact s7 x0 x1 x2 x3 x4 x5 x6 x7 x8 x9 x10 x11 x12 x13 x14 x15 x16 x17 x18 r l _ _
  · exact s6 x0 x1 x2 x3 x4 x5 x6 x7 x8 x9 x10 x11 x12 x13 x14 x15 x16 x17 x18 r l _ _
  · exact s17 x0 x1 x2 x3 x4 x5 x6 x7 x8 x9 x10 x11 x12 x13 x14 x15 x16 x17 x18 r l _
  · exact s15 x0 x1 x2 x3 x4 x5 x6 x7 x8 x9 x10 x11 x12 x13 x14 x15 x16 x17 x18 r l _
  · exact s13 x0 x1 x2 x3 x4 x5 x6 x7 x8 x9 x10 x11 x12 x13 x14 x15 x16 x17 x18 r l _
  · exact s5 x0 x1 x2 x3 x4 x5 x6 x7 x8 x9 x10 x11 x12 x13 x14 x15 x16 x17 x18 r l _
  · exact s3 x0 x1 x2 x3 x4 x5 x6 x7 x8 x9 x10 x11 x12 x13 x14 x15 x16 x17 x18 r l _
  · exact s1 x0 x1 x2 x3 x4 x5 x6 x7 x8 x9 x10 x11 x12 x13 x14 x15 x16 x17 x18 r l _
  · exact s16 x0 x1 x2 x3 x4 x5 x6 x7 x8 x9 x10 x11 x12 x13 x14 x15 x16 x17 x18 r l _
  · exact s14 x0 x1 x2 x3 x4 x5 x6 x7 x8 x9 x10 x11 x12 x13 x14 x15 x16 x17 x18 r l _
  · exact s12 x0 x1 x2 x3 x4 x5 x6 x7 x8 x9 x10 x11 x12 x13 x14 x15 x16 x17 x18 r l _
  · exact s4 x0 x1 x2 x3 x4 x5 x6 x7 x8 x9 x10 x11 x12 x13 x14 x15 x16 x17 x18 r l _
  · exact s2 x0 x1 x2 x3 x4 x5 x6 x7 x8 x9 x10 x11 x12 x13 x14 x15 x16 x17 x18 r l _
  · exact s0 x0 x1 x2 x3 x4 x5 x6 x7 x8 x9 x10 x11 x12 x13 x14 x15 x16 x17 x18 r l _

theorem dh_B (hc0 : ¬cond0_0 i)     (x0 : Vec Ideal S256x2304 .f32) (x1 : Vec Ideal S256x256 .bf16) (x2 : Vec Ideal S256x256 .bf16) (x3 : Vec Ideal S256x256 .bf16) (x4 : Vec Ideal S256x512 .bf16) (x5 : Vec Ideal S256x128 .bf16) (x6 : Vec Ideal S256x128 .bf16) (x7 : Vec Ideal S256x256 .bf16) (x8 : Vec Ideal S256x256 .bf16) (x9 : Vec Ideal S256x256 .bf16) (x10 : Vec Ideal S256x128 .f32) (x11 : Vec Ideal S256x128 .f32) (x12 : Vec Ideal S256x128 .f32) (x13 : Vec Ideal S256x128 .f32) (x14 : Vec Ideal S256x128 .f32) (x15 : Vec Ideal S256x128 .f32) (x16 : Vec Ideal S1x128 .f32) (x17 : Vec Ideal S1x128 .f32) (x18 : Vec Ideal S128x128 .f32) (xo20 : Vec Ideal S1x512 .f32) (xo21 : Vec Ideal S1x128 .f32) (r : Fin 256) (k : ℕ) (hk : k < 18) (l : Fin 128) :
    out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18 xo20 xo21 (ix2 r ⟨128 * k + l.val, by omega⟩) = dh (tileRow x0 x1 x2 x3 x4 x5 x6 x7 x8 x9 x10 x11 x12 x13 x14 x15 x16 x17 x18 r) k l := by
  unfold out0_B_19 kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S256x128) hz2, View.ld_unit_zero (S := S1x128) hz2,
    View.ld_unit_zero (S := S128x128) hz2, ld_sub (N := 256) (M := 256), ld_sub (N := 256) (M := 512), ld_sub (N := 256) (M := 2304), ld_sub (N := 1) (M := 512)]
  refine read_blocks (e := .bf16) (N := 256) (M := 2304) VO0_19 VO0_19.junk (fun k r l => dh (tileRow x0 x1 x2 x3 x4 x5 x6 x7 x8 x9 x10 x11 x12 x13 x14 x15 x16 x17 x18 r) k l) [11, 10, 9, 8, 7, 6, 17, 15, 13, 5, 3, 1, 16, 14, 12, 4, 2, 0] _
    (.cons (.mk _ 11 _ _ fun r l => ?_) <|
    .cons (.mk _ 10 _ _ fun r l => ?_) <|
    .cons (.mk _ 9 _ _ fun r l => ?_) <|
    .cons (.mk _ 8 _ _ fun r l => ?_) <|
    .cons (.mk _ 7 _ _ fun r l => ?_) <|
    .cons (.mk _ 6 _ _ fun r l => ?_) <|
    .cons (.mk _ 17 _ _ fun r l => ?_) <|
    .cons (.mk _ 15 _ _ fun r l => ?_) <|
    .cons (.mk _ 13 _ _ fun r l => ?_) <|
    .cons (.mk _ 5 _ _ fun r l => ?_) <|
    .cons (.mk _ 3 _ _ fun r l => ?_) <|
    .cons (.mk _ 1 _ _ fun r l => ?_) <|
    .cons (.mk _ 16 _ _ fun r l => ?_) <|
    .cons (.mk _ 14 _ _ fun r l => ?_) <|
    .cons (.mk _ 12 _ _ fun r l => ?_) <|
    .cons (.mk _ 4 _ _ fun r l => ?_) <|
    .cons (.mk _ 2 _ _ fun r l => ?_) <|
    .cons (.mk _ 0 _ _ fun r l => ?_) <| .nil) k (by interval_cases k <;> decide) r l (by omega)
  · exact s11 x0 x1 x2 x3 x4 x5 x6 x7 x8 x9 x10 x11 x12 x13 x14 x15 x16 x17 x18 r l
  · exact s10 x0 x1 x2 x3 x4 x5 x6 x7 x8 x9 x10 x11 x12 x13 x14 x15 x16 x17 x18 r l _
  · exact s9 x0 x1 x2 x3 x4 x5 x6 x7 x8 x9 x10 x11 x12 x13 x14 x15 x16 x17 x18 r l _ _
  · exact s8 x0 x1 x2 x3 x4 x5 x6 x7 x8 x9 x10 x11 x12 x13 x14 x15 x16 x17 x18 r l _ _
  · exact s7 x0 x1 x2 x3 x4 x5 x6 x7 x8 x9 x10 x11 x12 x13 x14 x15 x16 x17 x18 r l _ _
  · exact s6 x0 x1 x2 x3 x4 x5 x6 x7 x8 x9 x10 x11 x12 x13 x14 x15 x16 x17 x18 r l _ _
  · exact s17 x0 x1 x2 x3 x4 x5 x6 x7 x8 x9 x10 x11 x12 x13 x14 x15 x16 x17 x18 r l _
  · exact s15 x0 x1 x2 x3 x4 x5 x6 x7 x8 x9 x10 x11 x12 x13 x14 x15 x16 x17 x18 r l _
  · exact s13 x0 x1 x2 x3 x4 x5 x6 x7 x8 x9 x10 x11 x12 x13 x14 x15 x16 x17 x18 r l _
  · exact s5 x0 x1 x2 x3 x4 x5 x6 x7 x8 x9 x10 x11 x12 x13 x14 x15 x16 x17 x18 r l _
  · exact s3 x0 x1 x2 x3 x4 x5 x6 x7 x8 x9 x10 x11 x12 x13 x14 x15 x16 x17 x18 r l _
  · exact s1 x0 x1 x2 x3 x4 x5 x6 x7 x8 x9 x10 x11 x12 x13 x14 x15 x16 x17 x18 r l _
  · exact s16 x0 x1 x2 x3 x4 x5 x6 x7 x8 x9 x10 x11 x12 x13 x14 x15 x16 x17 x18 r l _
  · exact s14 x0 x1 x2 x3 x4 x5 x6 x7 x8 x9 x10 x11 x12 x13 x14 x15 x16 x17 x18 r l _
  · exact s12 x0 x1 x2 x3 x4 x5 x6 x7 x8 x9 x10 x11 x12 x13 x14 x15 x16 x17 x18 r l _
  · exact s4 x0 x1 x2 x3 x4 x5 x6 x7 x8 x9 x10 x11 x12 x13 x14 x15 x16 x17 x18 r l _
  · exact s2 x0 x1 x2 x3 x4 x5 x6 x7 x8 x9 x10 x11 x12 x13 x14 x15 x16 x17 x18 r l _
  · exact s0 x0 x1 x2 x3 x4 x5 x6 x7 x8 x9 x10 x11 x12 x13 x14 x15 x16 x17 x18 r l _

theorem dq_B (hc0 : ¬cond0_0 i)     (x0 : Vec Ideal S256x2304 .f32) (x1 : Vec Ideal S256x256 .bf16) (x2 : Vec Ideal S256x256 .bf16) (x3 : Vec Ideal S256x256 .bf16) (x4 : Vec Ideal S256x512 .bf16) (x5 : Vec Ideal S256x128 .bf16) (x6 : Vec Ideal S256x128 .bf16) (x7 : Vec Ideal S256x256 .bf16) (x8 : Vec Ideal S256x256 .bf16) (x9 : Vec Ideal S256x256 .bf16) (x10 : Vec Ideal S256x128 .f32) (x11 : Vec Ideal S256x128 .f32) (x12 : Vec Ideal S256x128 .f32) (x13 : Vec Ideal S256x128 .f32) (x14 : Vec Ideal S256x128 .f32) (x15 : Vec Ideal S256x128 .f32) (x16 : Vec Ideal S1x128 .f32) (x17 : Vec Ideal S1x128 .f32) (x18 : Vec Ideal S128x128 .f32) (xo20 : Vec Ideal S1x512 .f32) (xo21 : Vec Ideal S1x128 .f32) (u : Fin 1) (k : ℕ) (hk : k < 4) (l : Fin 128) :
    out0_B_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18 xo20 xo21 (ix2 u ⟨128 * k + l.val, by omega⟩) = xo20 (ix2 u ⟨128 * k + l.val, by omega⟩) + ∑ r, dq (tileRow x0 x1 x2 x3 x4 x5 x6 x7 x8 x9 x10 x11 x12 x13 x14 x15 x16 x17 x18 r) k l := by
  unfold out0_B_20 kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S256x128) hz2, View.ld_unit_zero (S := S1x128) hz2,
    View.ld_unit_zero (S := S128x128) hz2, ld_sub (N := 256) (M := 256), ld_sub (N := 256) (M := 512), ld_sub (N := 256) (M := 2304), ld_sub (N := 1) (M := 512)]
  refine (read_blocks (e := .f32) (N := 1) (M := 512) VO0_20 VO0_20.junk (fun k u l => if h : k < 4 then xo20 (ix2 u ⟨128 * k + l.val, by omega⟩) + ∑ r, dq (tileRow x0 x1 x2 x3 x4 x5 x6 x7 x8 x9 x10 x11 x12 x13 x14 x15 x16 x17 x18 r) k l else 0) [3, 2, 1, 0] _
    (.cons (.mk _ 3 _ _ fun u l => (t3 x0 x1 x2 x3 x4 x5 x6 x7 x8 x9 x10 x11 x12 x13 x14 x15 x16 x17 x18 u l _ _ _).trans (rfl)) <|
    .cons (.mk _ 2 _ _ fun u l => (t2 x0 x1 x2 x3 x4 x5 x6 x7 x8 x9 x10 x11 x12 x13 x14 x15 x16 x17 x18 u l _ _ _).trans (rfl)) <|
    .cons (.mk _ 1 _ _ fun u l => (t1 x0 x1 x2 x3 x4 x5 x6 x7 x8 x9 x10 x11 x12 x13 x14 x15 x16 x17 x18 u l _ _ _).trans (rfl)) <|
    .cons (.mk _ 0 _ _ fun u l => (t0 x0 x1 x2 x3 x4 x5 x6 x7 x8 x9 x10 x11 x12 x13 x14 x15 x16 x17 x18 u l _ _ _).trans (rfl)) <| .nil) k (by interval_cases k <;> decide) u l (by omega)).trans (dif_pos hk)

theorem dq_A (hc0 : cond0_0 i)     (x0 : Vec Ideal S256x2304 .f32) (x1 : Vec Ideal S256x256 .bf16) (x2 : Vec Ideal S256x256 .bf16) (x3 : Vec Ideal S256x256 .bf16) (x4 : Vec Ideal S256x512 .bf16) (x5 : Vec Ideal S256x128 .bf16) (x6 : Vec Ideal S256x128 .bf16) (x7 : Vec Ideal S256x256 .bf16) (x8 : Vec Ideal S256x256 .bf16) (x9 : Vec Ideal S256x256 .bf16) (x10 : Vec Ideal S256x128 .f32) (x11 : Vec Ideal S256x128 .f32) (x12 : Vec Ideal S256x128 .f32) (x13 : Vec Ideal S256x128 .f32) (x14 : Vec Ideal S256x128 .f32) (x15 : Vec Ideal S256x128 .f32) (x16 : Vec Ideal S1x128 .f32) (x17 : Vec Ideal S1x128 .f32) (x18 : Vec Ideal S128x128 .f32) (u : Fin 1) (k : ℕ) (hk : k < 4) (l : Fin 128) :
    out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18 (ix2 u ⟨128 * k + l.val, by omega⟩) = 0 + ∑ r, dq (tileRow x0 x1 x2 x3 x4 x5 x6 x7 x8 x9 x10 x11 x12 x13 x14 x15 x16 x17 x18 r) k l := by
  unfold out0_A_20 kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S256x128) hz2, View.ld_unit_zero (S := S1x128) hz2,
    View.ld_unit_zero (S := S128x128) hz2, ld_sub (N := 256) (M := 256), ld_sub (N := 256) (M := 512), ld_sub (N := 256) (M := 2304), ld_sub (N := 1) (M := 512)]
  have hz : ∀ i, (k0_pay2 (F := Ideal) i : EReal) = 0 := fun i => Ideal.ofBits_zero_f32
  exact read_blocks (e := .f32) (N := 1) (M := 512) VO0_20 VO0_20.junk (fun k u l => (0 + ∑ r, dq (tileRow x0 x1 x2 x3 x4 x5 x6 x7 x8 x9 x10 x11 x12 x13 x14 x15 x16 x17 x18 r) k l : EReal)) [3, 2, 1, 0] _
    (.cons (.mk _ 3 _ _ fun u l => (t3 x0 x1 x2 x3 x4 x5 x6 x7 x8 x9 x10 x11 x12 x13 x14 x15 x16 x17 x18 u l _ _ _).trans (congrArg (fun s : EReal => s + _) ((readCov_rest _ 3 _ _ (.newer 2 (by decide) _ _ <| .newer 1 (by decide) _ _ <| .newer 0 (by decide) _ _ <| .first _) _ u l).trans (hz _)))) <|
    .cons (.mk _ 2 _ _ fun u l => (t2 x0 x1 x2 x3 x4 x5 x6 x7 x8 x9 x10 x11 x12 x13 x14 x15 x16 x17 x18 u l _ _ _).trans (congrArg (fun s : EReal => s + _) ((readCov_rest _ 2 _ _ (.newer 1 (by decide) _ _ <| .newer 0 (by decide) _ _ <| .first _) _ u l).trans (hz _)))) <|
    .cons (.mk _ 1 _ _ fun u l => (t1 x0 x1 x2 x3 x4 x5 x6 x7 x8 x9 x10 x11 x12 x13 x14 x15 x16 x17 x18 u l _ _ _).trans (congrArg (fun s : EReal => s + _) ((readCov_rest _ 1 _ _ (.newer 0 (by decide) _ _ <| .first _) _ u l).trans (hz _)))) <|
    .cons (.mk _ 0 _ _ fun u l => (t0 x0 x1 x2 x3 x4 x5 x6 x7 x8 x9 x10 x11 x12 x13 x14 x15 x16 x17 x18 u l _ _ _).trans (congrArg (fun s : EReal => s + _) ((readCov_rest _ 0 _ _ (.first _) _ u l).trans (hz _)))) .nil)
    k (by interval_cases k <;> decide) u l (by omega)

theorem dk_B (hc0 : ¬cond0_0 i)     (x0 : Vec Ideal S256x2304 .f32) (x1 : Vec Ideal S256x256 .bf16) (x2 : Vec Ideal S256x256 .bf16) (x3 : Vec Ideal S256x256 .bf16) (x4 : Vec Ideal S256x512 .bf16) (x5 : Vec Ideal S256x128 .bf16) (x6 : Vec Ideal S256x128 .bf16) (x7 : Vec Ideal S256x256 .bf16) (x8 : Vec Ideal S256x256 .bf16) (x9 : Vec Ideal S256x256 .bf16) (x10 : Vec Ideal S256x128 .f32) (x11 : Vec Ideal S256x128 .f32) (x12 : Vec Ideal S256x128 .f32) (x13 : Vec Ideal S256x128 .f32) (x14 : Vec Ideal S256x128 .f32) (x15 : Vec Ideal S256x128 .f32) (x16 : Vec Ideal S1x128 .f32) (x17 : Vec Ideal S1x128 .f32) (x18 : Vec Ideal S128x128 .f32) (xo20 : Vec Ideal S1x512 .f32) (xo21 : Vec Ideal S1x128 .f32) (u : Fin 1) (l : Fin 128) :
    out0_B_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18 xo20 xo21 (ix2 u l) = xo21 (ix2 u l) + ∑ r, dk (tileRow x0 x1 x2 x3 x4 x5 x6 x7 x8 x9 x10 x11 x12 x13 x14 x15 x16 x17 x18 r) l := by
  unfold out0_B_21
  rw [View.read_writes_eq_canon _ _ _ (cover0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18 xo20 xo21)]
  unfold kernelRun0_B
  dsimp only
  sl_unfold_words
  rw [View.canon_unit_zero (S := S1x128) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S256x128) hz2, View.ld_unit_zero (S := S1x128) hz2,
    View.ld_unit_zero (S := S128x128) hz2, ld_sub (N := 256) (M := 256), ld_sub (N := 256) (M := 512), ld_sub (N := 256) (M := 2304), ld_sub (N := 1) (M := 512)]
  exact t4 x0 x1 x2 x3 x4 x5 x6 x7 x8 x9 x10 x11 x12 x13 x14 x15 x16 x17 x18 u l xo21 _

theorem dk_A (hc0 : cond0_0 i)     (x0 : Vec Ideal S256x2304 .f32) (x1 : Vec Ideal S256x256 .bf16) (x2 : Vec Ideal S256x256 .bf16) (x3 : Vec Ideal S256x256 .bf16) (x4 : Vec Ideal S256x512 .bf16) (x5 : Vec Ideal S256x128 .bf16) (x6 : Vec Ideal S256x128 .bf16) (x7 : Vec Ideal S256x256 .bf16) (x8 : Vec Ideal S256x256 .bf16) (x9 : Vec Ideal S256x256 .bf16) (x10 : Vec Ideal S256x128 .f32) (x11 : Vec Ideal S256x128 .f32) (x12 : Vec Ideal S256x128 .f32) (x13 : Vec Ideal S256x128 .f32) (x14 : Vec Ideal S256x128 .f32) (x15 : Vec Ideal S256x128 .f32) (x16 : Vec Ideal S1x128 .f32) (x17 : Vec Ideal S1x128 .f32) (x18 : Vec Ideal S128x128 .f32) (u : Fin 1) (l : Fin 128) :
    out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18 (ix2 u l) = 0 + ∑ r, dk (tileRow x0 x1 x2 x3 x4 x5 x6 x7 x8 x9 x10 x11 x12 x13 x14 x15 x16 x17 x18 r) l := by
  unfold out0_A_21
  rw [View.read_writes_eq_canon _ _ _ (cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18)]
  unfold kernelRun0_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S256x128) hz2, View.ld_unit_zero (S := S1x128) hz2,
    View.ld_unit_zero (S := S128x128) hz2, ld_sub (N := 256) (M := 256), ld_sub (N := 256) (M := 512), ld_sub (N := 256) (M := 2304), ld_sub (N := 1) (M := 512)]
  refine (t4 x0 x1 x2 x3 x4 x5 x6 x7 x8 x9 x10 x11 x12 x13 x14 x15 x16 x17 x18 u l _ _).trans (congrArg (· + ∑ r, dk (tileRow x0 x1 x2 x3 x4 x5 x6 x7 x8 x9 x10 x11 x12 x13 x14 x15 x16 x17 x18 r) l : EReal → EReal) ?_)
  exact Ideal.ofBits_zero_f32

end Frames

end Cert.PrepIdeal.Val

end
-- ==== Proof.Prep.Arrays.lean ====
module

public import proofs.«01_k».proof.Proof.Prep.Block
public import proofs.«01_k».proof.Proof.Sums

/-! The prep call over its whole grid of 32 blocks of 256 rows: the three arrays that it writes, as functions of the arrays
that it reads. The first result is written block by block; the two gradients of the norms' weights are summed over all blocks. -/

@[expose] public section

set_option maxRecDepth 16384

noncomputable section

namespace Cert.PrepIdeal.Val

open Idealize.ShloMosaic Idealize.ShloMosaic.TcCoe Idealize.ShloMosaic.Tactic Idealize.SL.Sem Cert.PrepIdeal.Gen Cert.PrepIdeal.Facts
open Idealize.ShloMosaic.ValueIdx Cert.Proof Cert.Proof.Prep
open Idealize.ShloMosaic.Pipeline (Dat)

/-- A row of the array, from a row of the block. -/
def grow (n : ℕ) (hn : n < 32) (r : Fin 256) : Fin 8192 := ⟨256 * n + r.val, by have := r.isLt; omega⟩

theorem ix_0 : ∀ t : Fin cfg0.N, At (win0_0.index t) t.val 0 := (by decide +kernel : ∀ t : Fin grid0.N, _)
theorem emb_0 (n : ℕ) (hn : n < 32) (r : Fin 256) (k : Fin 2304) : ((cfg0.win 0).blk ⟨n, hn⟩).view.emb (ix2 r k) = ix2 (grow n hn r) k :=
  ix2_rows (ix_0 ⟨n, hn⟩) rfl rfl rfl
theorem ix_1 : ∀ t : Fin cfg0.N, At (win0_1.index t) t.val 0 := (by decide +kernel : ∀ t : Fin grid0.N, _)
theorem emb_1 (n : ℕ) (hn : n < 32) (r : Fin 256) (k : Fin 256) : ((cfg0.win 1).blk ⟨n, hn⟩).view.emb (ix2 r k) = ix2 (grow n hn r) ⟨0 + k.val, by omega⟩ :=
  ix2_blk (B := 256) (W := 256) (r := r) (k := k) (ix_1 ⟨n, hn⟩) rfl rfl (by dsimp only [grow]; omega) (by dsimp only)
theorem ix_2 : ∀ t : Fin cfg0.N, At (win0_2.index t) t.val 1 := (by decide +kernel : ∀ t : Fin grid0.N, _)
theorem emb_2 (n : ℕ) (hn : n < 32) (r : Fin 256) (k : Fin 256) : ((cfg0.win 2).blk ⟨n, hn⟩).view.emb (ix2 r k) = ix2 (grow n hn r) ⟨256 + k.val, by omega⟩ :=
  ix2_blk (B := 256) (W := 256) (r := r) (k := k) (ix_2 ⟨n, hn⟩) rfl rfl (by dsimp only [grow]; omega) (by dsimp only)
theorem ix_3 : ∀ t : Fin cfg0.N, At (win0_3.index t) t.val 2 := (by decide +kernel : ∀ t : Fin grid0.N, _)
theorem emb_3 (n : ℕ) (hn : n < 32) (r : Fin 256) (k : Fin 256) : ((cfg0.win 3).blk ⟨n, hn⟩).view.emb (ix2 r k) = ix2 (grow n hn r) ⟨512 + k.val, by omega⟩ :=
  ix2_blk (B := 256) (W := 256) (r := r) (k := k) (ix_3 ⟨n, hn⟩) rfl rfl (by dsimp only [grow]; omega) (by dsimp only)
theorem ix_4 : ∀ t : Fin cfg0.N, At (win0_4.index t) t.val 0 := (by decide +kernel : ∀ t : Fin grid0.N, _)
theorem emb_4 (n : ℕ) (hn : n < 32) (r : Fin 256) (k : Fin 512) : ((cfg0.win 4).blk ⟨n, hn⟩).view.emb (ix2 r k) = ix2 (grow n hn r) k :=
  ix2_rows (ix_4 ⟨n, hn⟩) rfl rfl rfl
theorem ix_5 : ∀ t : Fin cfg0.N, At (win0_5.index t) t.val 0 := (by decide +kernel : ∀ t : Fin grid0.N, _)
theorem emb_5 (n : ℕ) (hn : n < 32) (r : Fin 256) (k : Fin 128) : ((cfg0.win 5).blk ⟨n, hn⟩).view.emb (ix2 r k) = ix2 (grow n hn r) k :=
  ix2_rows (ix_5 ⟨n, hn⟩) rfl rfl rfl
theorem ix_6 : ∀ t : Fin cfg0.N, At (win0_6.index t) t.val 0 := (by decide +kernel : ∀ t : Fin grid0.N, _)
theorem emb_6 (n : ℕ) (hn : n < 32) (r : Fin 256) (k : Fin 128) : ((cfg0.win 6).blk ⟨n, hn⟩).view.emb (ix2 r k) = ix2 (grow n hn r) k :=
  ix2_rows (ix_6 ⟨n, hn⟩) rfl rfl rfl
theorem ix_7 : ∀ t : Fin cfg0.N, At (win0_7.index t) t.val 0 := (by decide +kernel : ∀ t : Fin grid0.N, _)
theorem emb_7 (n : ℕ) (hn : n < 32) (r : Fin 256) (k : Fin 256) : ((cfg0.win 7).blk ⟨n, hn⟩).view.emb (ix2 r k) = ix2 (grow n hn r) k :=
  ix2_rows (ix_7 ⟨n, hn⟩) rfl rfl rfl
theorem ix_8 : ∀ t : Fin cfg0.N, At (win0_8.index t) t.val 0 := (by decide +kernel : ∀ t : Fin grid0.N, _)
theorem emb_8 (n : ℕ) (hn : n < 32) (r : Fin 256) (k : Fin 256) : ((cfg0.win 8).blk ⟨n, hn⟩).view.emb (ix2 r k) = ix2 (grow n hn r) k :=
  ix2_rows (ix_8 ⟨n, hn⟩) rfl rfl rfl
theorem ix_9 : ∀ t : Fin cfg0.N, At (win0_9.index t) t.val 0 := (by decide +kernel : ∀ t : Fin grid0.N, _)
theorem emb_9 (n : ℕ) (hn : n < 32) (r : Fin 256) (k : Fin 256) : ((cfg0.win 9).blk ⟨n, hn⟩).view.emb (ix2 r k) = ix2 (grow n hn r) k :=
  ix2_rows (ix_9 ⟨n, hn⟩) rfl rfl rfl
theorem ix_10 : ∀ t : Fin cfg0.N, At (win0_10.index t) t.val 0 := (by decide +kernel : ∀ t : Fin grid0.N, _)
theorem emb_10 (n : ℕ) (hn : n < 32) (r : Fin 256) (k : Fin 128) : ((cfg0.win 10).blk ⟨n, hn⟩).view.emb (ix2 r k) = ix2 (grow n hn r) k :=
  ix2_rows (ix_10 ⟨n, hn⟩) rfl rfl rfl
theorem ix_11 : ∀ t : Fin cfg0.N, At (win0_11.index t) t.val 0 := (by decide +kernel : ∀ t : Fin grid0.N, _)
theorem emb_11 (n : ℕ) (hn : n < 32) (r : Fin 256) (k : Fin 128) : ((cfg0.win 11).blk ⟨n, hn⟩).view.emb (ix2 r k) = ix2 (grow n hn r) k :=
  ix2_rows (ix_11 ⟨n, hn⟩) rfl rfl rfl
theorem ix_12 : ∀ t : Fin cfg0.N, At (win0_12.index t) t.val 0 := (by decide +kernel : ∀ t : Fin grid0.N, _)
theorem emb_12 (n : ℕ) (hn : n < 32) (r : Fin 256) (k : Fin 128) : ((cfg0.win 12).blk ⟨n, hn⟩).view.emb (ix2 r k) = ix2 (grow n hn r) k :=
  ix2_rows (ix_12 ⟨n, hn⟩) rfl rfl rfl
theorem ix_13 : ∀ t : Fin cfg0.N, At (win0_13.index t) t.val 0 := (by decide +kernel : ∀ t : Fin grid0.N, _)
theorem emb_13 (n : ℕ) (hn : n < 32) (r : Fin 256) (k : Fin 128) : ((cfg0.win 13).blk ⟨n, hn⟩).view.emb (ix2 r k) = ix2 (grow n hn r) k :=
  ix2_rows (ix_13 ⟨n, hn⟩) rfl rfl rfl
theorem ix_14 : ∀ t : Fin cfg0.N, At (win0_14.index t) t.val 0 := (by decide +kernel : ∀ t : Fin grid0.N, _)
theorem emb_14 (n : ℕ) (hn : n < 32) (r : Fin 256) (k : Fin 128) : ((cfg0.win 14).blk ⟨n, hn⟩).view.emb (ix2 r k) = ix2 (grow n hn r) k :=
  ix2_rows (ix_14 ⟨n, hn⟩) rfl rfl rfl
theorem ix_15 : ∀ t : Fin cfg0.N, At (win0_15.index t) t.val 0 := (by decide +kernel : ∀ t : Fin grid0.N, _)
theorem emb_15 (n : ℕ) (hn : n < 32) (r : Fin 256) (k : Fin 128) : ((cfg0.win 15).blk ⟨n, hn⟩).view.emb (ix2 r k) = ix2 (grow n hn r) k :=
  ix2_rows (ix_15 ⟨n, hn⟩) rfl rfl rfl
theorem ix_16 : ∀ t : Fin cfg0.N, At (win0_16.index t) 0 0 := (by decide +kernel : ∀ t : Fin grid0.N, _)
theorem emb_16 (n : ℕ) (hn : n < 32) (r : Fin 1) (k : Fin 128) : ((cfg0.win 16).blk ⟨n, hn⟩).view.emb (ix2 r k) = ix2 (r) k :=
  ix2_all (ix_16 ⟨n, hn⟩) rfl rfl
theorem ix_17 : ∀ t : Fin cfg0.N, At (win0_17.index t) 0 0 := (by decide +kernel : ∀ t : Fin grid0.N, _)
theorem emb_17 (n : ℕ) (hn : n < 32) (r : Fin 1) (k : Fin 128) : ((cfg0.win 17).blk ⟨n, hn⟩).view.emb (ix2 r k) = ix2 (r) k :=
  ix2_all (ix_17 ⟨n, hn⟩) rfl rfl
theorem ix_18 : ∀ t : Fin cfg0.N, At (win0_18.index t) 0 0 := (by decide +kernel : ∀ t : Fin grid0.N, _)
theorem emb_18 (n : ℕ) (hn : n < 32) (r : Fin 128) (k : Fin 128) : ((cfg0.win 18).blk ⟨n, hn⟩).view.emb (ix2 r k) = ix2 (r) k :=
  ix2_all (ix_18 ⟨n, hn⟩) rfl rfl
theorem ix_19 : ∀ t : Fin cfg0.N, At (win0_19.index t) t.val 0 := (by decide +kernel : ∀ t : Fin grid0.N, _)
theorem emb_19 (n : ℕ) (hn : n < 32) (r : Fin 256) (k : Fin 2304) : ((cfg0.win 19).blk ⟨n, hn⟩).view.emb (ix2 r k) = ix2 (grow n hn r) k :=
  ix2_rows (ix_19 ⟨n, hn⟩) rfl rfl rfl
theorem ix_20 : ∀ t : Fin cfg0.N, At (win0_20.index t) 0 0 := (by decide +kernel : ∀ t : Fin grid0.N, _)
theorem emb_20 (n : ℕ) (hn : n < 32) (r : Fin 1) (k : Fin 512) : ((cfg0.win 20).blk ⟨n, hn⟩).view.emb (ix2 r k) = ix2 (r) k :=
  ix2_all (ix_20 ⟨n, hn⟩) rfl rfl
theorem ix_21 : ∀ t : Fin cfg0.N, At (win0_21.index t) 0 0 := (by decide +kernel : ∀ t : Fin grid0.N, _)
theorem emb_21 (n : ℕ) (hn : n < 32) (r : Fin 1) (k : Fin 128) : ((cfg0.win 21).blk ⟨n, hn⟩).view.emb (ix2 r k) = ix2 (r) k :=
  ix2_all (ix_21 ⟨n, hn⟩) rfl rfl

variable (m : (ℓ : Loc nD τ sig) → Buf (Elt Ideal) ℓ) (ρ : Dev nD → PrngReg)

/-- The arrays that the call reads. -/
def in0 (c : Dev nD) : S8192x2304.Idx → EReal := V m c (Pipeline.arrRef spec0 0)
def in1 (c : Dev nD) : S8192x768.Idx → EReal := V m c (Pipeline.arrRef spec0 1)
def in2 (c : Dev nD) : S8192x768.Idx → EReal := V m c (Pipeline.arrRef spec0 2)
def in3 (c : Dev nD) : S8192x768.Idx → EReal := V m c (Pipeline.arrRef spec0 3)
def in4 (c : Dev nD) : S8192x512.Idx → EReal := V m c (Pipeline.arrRef spec0 4)
def in5 (c : Dev nD) : S8192x128.Idx → EReal := V m c (Pipeline.arrRef spec0 5)
def in6 (c : Dev nD) : S8192x128.Idx → EReal := V m c (Pipeline.arrRef spec0 6)
def in7 (c : Dev nD) : S8192x256.Idx → EReal := V m c (Pipeline.arrRef spec0 7)
def in8 (c : Dev nD) : S8192x256.Idx → EReal := V m c (Pipeline.arrRef spec0 8)
def in9 (c : Dev nD) : S8192x256.Idx → EReal := V m c (Pipeline.arrRef spec0 9)
def in10 (c : Dev nD) : S8192x128.Idx → EReal := V m c (Pipeline.arrRef spec0 10)
def in11 (c : Dev nD) : S8192x128.Idx → EReal := V m c (Pipeline.arrRef spec0 11)
def in12 (c : Dev nD) : S8192x128.Idx → EReal := V m c (Pipeline.arrRef spec0 12)
def in13 (c : Dev nD) : S8192x128.Idx → EReal := V m c (Pipeline.arrRef spec0 13)
def in14 (c : Dev nD) : S8192x128.Idx → EReal := V m c (Pipeline.arrRef spec0 14)
def in15 (c : Dev nD) : S8192x128.Idx → EReal := V m c (Pipeline.arrRef spec0 15)
def in16 (c : Dev nD) : S1x128.Idx → EReal := V m c (Pipeline.arrRef spec0 16)
def in17 (c : Dev nD) : S1x128.Idx → EReal := V m c (Pipeline.arrRef spec0 17)
def in18 (c : Dev nD) : S128x128.Idx → EReal := V m c (Pipeline.arrRef spec0 18)

/-- Row `R` of them. -/
def rowIns (c : Dev nD) (R : Fin 8192) : Ins :=
  ⟨fun k => in0 m c (ix2 R k), fun k => in1 m c (ix2 R ⟨0 + k.val, by omega⟩), fun k => in2 m c (ix2 R ⟨256 + k.val, by omega⟩), fun k => in3 m c (ix2 R ⟨512 + k.val, by omega⟩),
   fun k => in4 m c (ix2 R k), fun k => in5 m c (ix2 R k), fun k => in6 m c (ix2 R k), fun k => in7 m c (ix2 R k), fun k => in8 m c (ix2 R k), fun k => in9 m c (ix2 R k),
   fun k => in10 m c (ix2 R k), fun k => in11 m c (ix2 R k), fun k => in12 m c (ix2 R k), fun k => in13 m c (ix2 R k), fun k => in14 m c (ix2 R k), fun k => in15 m c (ix2 R k),
   fun k => in16 m c (ix2 0 k), fun k => in17 m c (ix2 0 k), fun j k => in18 m c (ix2 j k)⟩

theorem blk_0 (c : Dev nD) (n : ℕ) (hn : n < 32) (r : Fin 256) (k : Fin 2304) : iblk m c 0 ⟨n, hn⟩ (ix2 r k) = in0 m c (ix2 (grow n hn r) k) := congrArg (V m c (Pipeline.arrRef spec0 0)) (emb_0 n hn r k)
theorem blk_1 (c : Dev nD) (n : ℕ) (hn : n < 32) (r : Fin 256) (k : Fin 256) : iblk m c 1 ⟨n, hn⟩ (ix2 r k) = in1 m c (ix2 (grow n hn r) ⟨0 + k.val, by omega⟩) := congrArg (V m c (Pipeline.arrRef spec0 1)) (emb_1 n hn r k)
theorem blk_2 (c : Dev nD) (n : ℕ) (hn : n < 32) (r : Fin 256) (k : Fin 256) : iblk m c 2 ⟨n, hn⟩ (ix2 r k) = in2 m c (ix2 (grow n hn r) ⟨256 + k.val, by omega⟩) := congrArg (V m c (Pipeline.arrRef spec0 2)) (emb_2 n hn r k)
theorem blk_3 (c : Dev nD) (n : ℕ) (hn : n < 32) (r : Fin 256) (k : Fin 256) : iblk m c 3 ⟨n, hn⟩ (ix2 r k) = in3 m c (ix2 (grow n hn r) ⟨512 + k.val, by omega⟩) := congrArg (V m c (Pipeline.arrRef spec0 3)) (emb_3 n hn r k)
theorem blk_4 (c : Dev nD) (n : ℕ) (hn : n < 32) (r : Fin 256) (k : Fin 512) : iblk m c 4 ⟨n, hn⟩ (ix2 r k) = in4 m c (ix2 (grow n hn r) k) := congrArg (V m c (Pipeline.arrRef spec0 4)) (emb_4 n hn r k)
theorem blk_5 (c : Dev nD) (n : ℕ) (hn : n < 32) (r : Fin 256) (k : Fin 128) : iblk m c 5 ⟨n, hn⟩ (ix2 r k) = in5 m c (ix2 (grow n hn r) k) := congrArg (V m c (Pipeline.arrRef spec0 5)) (emb_5 n hn r k)
theorem blk_6 (c : Dev nD) (n : ℕ) (hn : n < 32) (r : Fin 256) (k : Fin 128) : iblk m c 6 ⟨n, hn⟩ (ix2 r k) = in6 m c (ix2 (grow n hn r) k) := congrArg (V m c (Pipeline.arrRef spec0 6)) (emb_6 n hn r k)
theorem blk_7 (c : Dev nD) (n : ℕ) (hn : n < 32) (r : Fin 256) (k : Fin 256) : iblk m c 7 ⟨n, hn⟩ (ix2 r k) = in7 m c (ix2 (grow n hn r) k) := congrArg (V m c (Pipeline.arrRef spec0 7)) (emb_7 n hn r k)
theorem blk_8 (c : Dev nD) (n : ℕ) (hn : n < 32) (r : Fin 256) (k : Fin 256) : iblk m c 8 ⟨n, hn⟩ (ix2 r k) = in8 m c (ix2 (grow n hn r) k) := congrArg (V m c (Pipeline.arrRef spec0 8)) (emb_8 n hn r k)
theorem blk_9 (c : Dev nD) (n : ℕ) (hn : n < 32) (r : Fin 256) (k : Fin 256) : iblk m c 9 ⟨n, hn⟩ (ix2 r k) = in9 m c (ix2 (grow n hn r) k) := congrArg (V m c (Pipeline.arrRef spec0 9)) (emb_9 n hn r k)
theorem blk_10 (c : Dev nD) (n : ℕ) (hn : n < 32) (r : Fin 256) (k : Fin 128) : iblk m c 10 ⟨n, hn⟩ (ix2 r k) = in10 m c (ix2 (grow n hn r) k) := congrArg (V m c (Pipeline.arrRef spec0 10)) (emb_10 n hn r k)
theorem blk_11 (c : Dev nD) (n : ℕ) (hn : n < 32) (r : Fin 256) (k : Fin 128) : iblk m c 11 ⟨n, hn⟩ (ix2 r k) = in11 m c (ix2 (grow n hn r) k) := congrArg (V m c (Pipeline.arrRef spec0 11)) (emb_11 n hn r k)
theorem blk_12 (c : Dev nD) (n : ℕ) (hn : n < 32) (r : Fin 256) (k : Fin 128) : iblk m c 12 ⟨n, hn⟩ (ix2 r k) = in12 m c (ix2 (grow n hn r) k) := congrArg (V m c (Pipeline.arrRef spec0 12)) (emb_12 n hn r k)
theorem blk_13 (c : Dev nD) (n : ℕ) (hn : n < 32) (r : Fin 256) (k : Fin 128) : iblk m c 13 ⟨n, hn⟩ (ix2 r k) = in13 m c (ix2 (grow n hn r) k) := congrArg (V m c (Pipeline.arrRef spec0 13)) (emb_13 n hn r k)
theorem blk_14 (c : Dev nD) (n : ℕ) (hn : n < 32) (r : Fin 256) (k : Fin 128) : iblk m c 14 ⟨n, hn⟩ (ix2 r k) = in14 m c (ix2 (grow n hn r) k) := congrArg (V m c (Pipeline.arrRef spec0 14)) (emb_14 n hn r k)
theorem blk_15 (c : Dev nD) (n : ℕ) (hn : n < 32) (r : Fin 256) (k : Fin 128) : iblk m c 15 ⟨n, hn⟩ (ix2 r k) = in15 m c (ix2 (grow n hn r) k) := congrArg (V m c (Pipeline.arrRef spec0 15)) (emb_15 n hn r k)
theorem blk_16 (c : Dev nD) (n : ℕ) (hn : n < 32) (r : Fin 1) (k : Fin 128) : iblk m c 16 ⟨n, hn⟩ (ix2 r k) = in16 m c (ix2 (r) k) := congrArg (V m c (Pipeline.arrRef spec0 16)) (emb_16 n hn r k)
theorem blk_17 (c : Dev nD) (n : ℕ) (hn : n < 32) (r : Fin 1) (k : Fin 128) : iblk m c 17 ⟨n, hn⟩ (ix2 r k) = in17 m c (ix2 (r) k) := congrArg (V m c (Pipeline.arrRef spec0 17)) (emb_17 n hn r k)
theorem blk_18 (c : Dev nD) (n : ℕ) (hn : n < 32) (r : Fin 128) (k : Fin 128) : iblk m c 18 ⟨n, hn⟩ (ix2 r k) = in18 m c (ix2 (r) k) := congrArg (V m c (Pipeline.arrRef spec0 18)) (emb_18 n hn r k)

/-- A row of the blocks is the array's. -/
theorem tile_row (c : Dev nD) (n : ℕ) (hn : n < 32) (r : Fin 256) :
    tileRow (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (iblk m c 10 ⟨n, hn⟩) (iblk m c 11 ⟨n, hn⟩) (iblk m c 12 ⟨n, hn⟩) (iblk m c 13 ⟨n, hn⟩) (iblk m c 14 ⟨n, hn⟩) (iblk m c 15 ⟨n, hn⟩) (iblk m c 16 ⟨n, hn⟩) (iblk m c 17 ⟨n, hn⟩) (iblk m c 18 ⟨n, hn⟩) r = rowIns m c (grow n hn r) := by
  unfold tileRow rowIns row
  rw [Ins.mk.injEq]
  exact ⟨funext fun k => blk_0 m c n hn r k, funext fun k => blk_1 m c n hn r k, funext fun k => blk_2 m c n hn r k, funext fun k => blk_3 m c n hn r k, funext fun k => blk_4 m c n hn r k, funext fun k => blk_5 m c n hn r k, funext fun k => blk_6 m c n hn r k, funext fun k => blk_7 m c n hn r k, funext fun k => blk_8 m c n hn r k, funext fun k => blk_9 m c n hn r k, funext fun k => blk_10 m c n hn r k, funext fun k => blk_11 m c n hn r k, funext fun k => blk_12 m c n hn r k, funext fun k => blk_13 m c n hn r k, funext fun k => blk_14 m c n hn r k, funext fun k => blk_15 m c n hn r k, funext fun k => blk_16 m c n hn 0 k, funext fun k => blk_17 m c n hn 0 k, funext fun j => funext fun k => blk_18 m c n hn j k⟩

/-! ### What the points leave -/

theorem dh_at (c : Dev nD) (n : ℕ) (hn : n < cfg0.N) (r : Fin 256) (k : ℕ) (hk : k < 18) (l : Fin 128) :
    (outsAt0 m c n hn).1 (ix2 r ⟨128 * k + l.val, by omega⟩) = dh (rowIns m c (grow n hn r)) k l := by
  rw [← tile_row m c n hn r]
  by_cases h : (⟨n, hn⟩ : Fin cfg0.N).val % 32 = 0
  · rw [outsAt0_A m c ⟨n, hn⟩ h]; dsimp only
    exact dh_A _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ r k hk l
  · rw [outsAt0_B m c ⟨n, hn⟩ h]; dsimp only
    exact dh_B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ r k hk l

theorem dq_at (c : Dev nD) : ∀ (n : ℕ) (hn : n < cfg0.N) (u : Fin 1) (k : ℕ) (hk : k < 4) (l : Fin 128),
    (outsAt0 m c n hn).2.1 (ix2 u ⟨128 * k + l.val, by omega⟩) = ∑ t : Fin (n + 1), ∑ r : Fin 256, dq (rowIns m c (grow t.val (Nat.lt_of_lt_of_le t.isLt hn) r)) k l
  | 0, hn, u, k, hk, l => by
    rw [outsAt0_A m c ⟨0, hn⟩ rfl]; dsimp only
    rw [Fin.sum_univ_one]
    refine (dq_A _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ u k hk l).trans ?_
    rw [zero_add]
    exact Finset.sum_congr rfl fun r _ => congrArg (dq · k l) (tile_row m c 0 hn r)
  | n + 1, hn, u, k, hk, l => by
    have hN : cfg0.N = 32 := N_0
    have hB : ¬(⟨n + 1, hn⟩ : Fin cfg0.N).val % 32 = 0 := by dsimp only; omega
    rw [outsAt0_B m c ⟨n + 1, hn⟩ hB]; dsimp only
    rw [Fin.sum_univ_castSucc (n := n + 1)]
    refine (dq_B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ u k hk l).trans ?_
    exact congrArg₂ (fun s t : EReal => s + t) (dq_at c n (Nat.lt_of_succ_lt hn) u k hk l) (Finset.sum_congr rfl fun r _ => congrArg (dq · k l) (tile_row m c (n + 1) hn r))

theorem dk_at (c : Dev nD) : ∀ (n : ℕ) (hn : n < cfg0.N) (u : Fin 1) (l : Fin 128),
    (outsAt0 m c n hn).2.2 (ix2 u l) = ∑ t : Fin (n + 1), ∑ r : Fin 256, dk (rowIns m c (grow t.val (Nat.lt_of_lt_of_le t.isLt hn) r)) l
  | 0, hn, u, l => by
    rw [outsAt0_A m c ⟨0, hn⟩ rfl]; dsimp only
    rw [Fin.sum_univ_one]
    refine (dk_A _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ u l).trans ?_
    rw [zero_add]
    exact Finset.sum_congr rfl fun r _ => congrArg (dk · l) (tile_row m c 0 hn r)
  | n + 1, hn, u, l => by
    have hN : cfg0.N = 32 := N_0
    have hB : ¬(⟨n + 1, hn⟩ : Fin cfg0.N).val % 32 = 0 := by dsimp only; omega
    rw [outsAt0_B m c ⟨n + 1, hn⟩ hB]; dsimp only
    rw [Fin.sum_univ_castSucc (n := n + 1)]
    refine (dk_B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ u l).trans ?_
    exact congrArg₂ (fun s t : EReal => s + t) (dk_at c n (Nat.lt_of_succ_lt hn) u l) (Finset.sum_congr rfl fun r _ => congrArg (dk · l) (tile_row m c (n + 1) hn r))

/-! ### The arrays -/

/-- Column `j` of the wide arrays, as a block of 128 and a place in it. -/
def blkOf (N : ℕ) (j : Fin N) : ℕ := j.val / 128
def lnOf (N : ℕ) (j : Fin N) : Fin 128 := ⟨j.val % 128, Nat.mod_lt _ (by decide)⟩
theorem col_blk (N : ℕ) (j : Fin N) (h : 128 * blkOf N j + (lnOf N j).val < N) : (⟨128 * blkOf N j + (lnOf N j).val, h⟩ : Fin N) = j :=
  Fin.ext (by show 128 * (j.val / 128) + j.val % 128 = j.val; omega)

def arr_dh (c : Dev nD) : Buf (Elt Ideal) ((c : Thread nD τ).loc main_v91_0) := fun i => (dh (rowIns m c (i 0)) (blkOf 2304 (i 1)) (lnOf 2304 (i 1)) : EReal)
def arr_dq (c : Dev nD) : Buf (Elt Ideal) ((c : Thread nD τ).loc main_v91_1) := fun i => (∑ R : Fin 8192, dq (rowIns m c R) (blkOf 512 (i 1)) (lnOf 512 (i 1)) : EReal)
def arr_dk (c : Dev nD) : Buf (Elt Ideal) ((c : Thread nD τ).loc main_v91_2) := fun i => (∑ R : Fin 8192, dk (rowIns m c R) (i 1) : EReal)

theorem final_dh (c : Dev nD) : (dats m 0 c).arrAt 19 cfg0.N = arr_dh m c := by
  refine (dats m 0 c).arrAt_eq_of_cover 19 (arr_dh m c) (fun t _ => ?_) fun i => ?_
  · show (cfg0.win 19).cut (grid0.coords t) ((dats m 0 c).after 19 t) = _
    rw [after0_19]
    funext y
    obtain ⟨r, j, rfl⟩ : ∃ (r : Fin 256) (j : Fin 2304), y = ix2 r j := ⟨y 0, y 1, eq_ix2 y⟩
    have hj : blkOf 2304 j < 18 := by unfold blkOf; omega
    refine Eq.trans ?_ (congrArg (arr_dh m c) (emb_19 t.val t.isLt r j)).symm
    exact (congrArg (fun q => (outsAt0 m c t.val t.isLt).1 (ix2 r q)) (col_blk 2304 j (by unfold blkOf lnOf; dsimp only; omega)).symm).trans (dh_at m c t.val t.isLt r (blkOf 2304 j) hj (lnOf 2304 j))
  · obtain ⟨t, h⟩ : ∃ t : Fin 32, t.val = (i 0).val / 256 := ⟨⟨(i 0).val / 256, by have : (i 0).val < 8192 := (i 0).isLt; omega⟩, rfl⟩
    obtain ⟨e0, e1⟩ := ix_19 t
    have h1 : (i 1).val < 2304 := (i 1).isLt
    refine ⟨t, flush0_19 t, ?_⟩
    show i ∈ ((View.whole (Pipeline.arrRef spec0 19)).slice (win0_19.rect t)).set
    rw [View.set_slice_whole, Rect.mem_set_unit]
    intro a
    match a with
    | ⟨0, _⟩ => show win0_19.index t (0 : Fin 2) * 256 ≤ (i 0 : ℕ) ∧ (i 0 : ℕ) < win0_19.index t (0 : Fin 2) * 256 + 256; omega
    | ⟨1, _⟩ => show win0_19.index t (1 : Fin 2) * 2304 ≤ (i 1 : ℕ) ∧ (i 1 : ℕ) < win0_19.index t (1 : Fin 2) * 2304 + 2304; omega

theorem final_dq (c : Dev nD) : (dats m 0 c).arrAt 20 cfg0.N = arr_dq m c := by
  have hN : cfg0.N = 32 := N_0
  refine (dats m 0 c).arrAt_eq_of_cover 20 (arr_dq m c) (fun t hf => ?_) fun i => ?_
  · show (cfg0.win 20).cut (grid0.coords t) ((dats m 0 c).after 20 t) = _
    rw [after0_20]
    funext y
    obtain ⟨u, j, rfl⟩ : ∃ (r : Fin 1) (j : Fin 512), y = ix2 r j := ⟨y 0, y 1, eq_ix2 y⟩
    have h31 : t.val = 31 := by have := (flush0_20 t).mp hf; have := t.isLt; omega
    refine Eq.trans ((congrArg (fun q => (outsAt0 m c t.val t.isLt).2.1 (ix2 u q)) (col_blk 512 j (by unfold blkOf lnOf; dsimp only; omega)).symm).trans (dq_at m c t.val t.isLt u (blkOf 512 j) (by unfold blkOf; omega) (lnOf 512 j))) (Eq.trans ?_ (congrArg (arr_dq m c) (emb_20 t.val t.isLt u j)).symm)
    obtain ⟨n, hn⟩ := t
    dsimp only at h31
    subst h31
    exact (sum_tiles 32 256 8192 rfl fun R => dq (rowIns m c R) (blkOf 512 j) (lnOf 512 j)).symm
  · let t : Fin cfg0.N := ⟨31, by rw [hN]; decide⟩
    refine ⟨t, (flush0_20 t).mpr rfl, ?_⟩
    obtain ⟨e0, e1⟩ := ix_20 t
    have h0 : (i 0 : ℕ) < 1 := (i 0).isLt
    have hk : (i 1 : ℕ) < 512 := (i 1).isLt
    show i ∈ ((View.whole (Pipeline.arrRef spec0 20)).slice (win0_20.rect t)).set
    rw [View.set_slice_whole, Rect.mem_set_unit]
    intro a
    match a with
    | ⟨0, _⟩ => show win0_20.index t (0 : Fin 2) * 1 ≤ (i 0 : ℕ) ∧ (i 0 : ℕ) < win0_20.index t (0 : Fin 2) * 1 + 1; omega
    | ⟨1, _⟩ => show win0_20.index t (1 : Fin 2) * 512 ≤ (i 1 : ℕ) ∧ (i 1 : ℕ) < win0_20.index t (1 : Fin 2) * 512 + 512; omega

theorem final_dk (c : Dev nD) : (dats m 0 c).arrAt 21 cfg0.N = arr_dk m c := by
  have hN : cfg0.N = 32 := N_0
  refine (dats m 0 c).arrAt_eq_of_cover 21 (arr_dk m c) (fun t hf => ?_) fun i => ?_
  · show (cfg0.win 21).cut (grid0.coords t) ((dats m 0 c).after 21 t) = _
    rw [after0_21]
    funext y
    obtain ⟨u, j, rfl⟩ : ∃ (r : Fin 1) (j : Fin 128), y = ix2 r j := ⟨y 0, y 1, eq_ix2 y⟩
    have h31 : t.val = 31 := by have := (flush0_21 t).mp hf; have := t.isLt; omega
    refine Eq.trans (dk_at m c t.val t.isLt u j) (Eq.trans ?_ (congrArg (arr_dk m c) (emb_21 t.val t.isLt u j)).symm)
    obtain ⟨n, hn⟩ := t
    dsimp only at h31
    subst h31
    exact (sum_tiles 32 256 8192 rfl fun R => dk (rowIns m c R) j).symm
  · let t : Fin cfg0.N := ⟨31, by rw [hN]; decide⟩
    refine ⟨t, (flush0_21 t).mpr rfl, ?_⟩
    obtain ⟨e0, e1⟩ := ix_21 t
    have h0 : (i 0 : ℕ) < 1 := (i 0).isLt
    have hk : (i 1 : ℕ) < 128 := (i 1).isLt
    show i ∈ ((View.whole (Pipeline.arrRef spec0 21)).slice (win0_21.rect t)).set
    rw [View.set_slice_whole, Rect.mem_set_unit]
    intro a
    match a with
    | ⟨0, _⟩ => show win0_21.index t (0 : Fin 2) * 1 ≤ (i 0 : ℕ) ∧ (i 0 : ℕ) < win0_21.index t (0 : Fin 2) * 1 + 1; omega
    | ⟨1, _⟩ => show win0_21.index t (1 : Fin 2) * 128 ≤ (i 1 : ℕ) ∧ (i 1 : ℕ) < win0_21.index t (1 : Fin 2) * 128 + 128; omega

end Cert.PrepIdeal.Val

end
-- ==== Proof.Prep.Rope.lean ====
module

public import proofs.«01_k».proof.Proof.Prep.Row
public import Idealize.ShloMosaic.Lib.IdealHost
public import Idealize.ShloMosaic.PureOps.Ideal.Laws

/-! The two rotary embeddings' derivatives as the differentiated host lines write them, on a row of one head, and their
equation with the form that reads three tables of 64 columns. Then the host's operations in these lines on arrays of any
number of heads. -/

@[expose] public section

noncomputable section

namespace Cert.Proof.Prep

open Idealize.ShloMosaic Idealize.ShloMosaic.ValueIdx Cert.Proof

/-- A row read at any number. -/
def ext {w : ℕ} (f : Fin w → EReal) (d : ℕ) : EReal := if h : d < w then f ⟨d, h⟩ else 0

theorem ext_of {w : ℕ} (f : Fin w → EReal) (d : ℕ) (h : d < w) : ext f d = f ⟨d, h⟩ := dif_pos h

/-- The derivative of a rotation of two halves of `w` columns. -/
def turn (w : ℕ) (cos sin g : ℕ → EReal) (d : ℕ) : EReal :=
  if d < w then g (w + d) * sin d + g d * cos d else g d * cos (d - w) + -g (d - w) * sin (d - w)
/-- That of the embedding of the first 16 columns. -/
def turnA (cos sin g : ℕ → EReal) (d : ℕ) : EReal := if d < 16 then turn 8 cos sin g d else g d
/-- That of the embedding by row (the first 32 columns) and column. -/
def turnB (cr sr cc sn g : ℕ → EReal) (d : ℕ) : EReal :=
  if d < 32 then turn 16 cr sr g d else turn 16 cc sn (fun k => g (32 + k)) (d - 32)

/-! ### The tables -/

def tabC8 (cos : ℕ → EReal) (d : Fin 64) : EReal := if d.val < 8 then cos d else if d.val < 16 then cos (d - 8) else 1
def tabS8 (sin : ℕ → EReal) (d : Fin 64) : EReal := if d.val < 8 then -sin d else 0
def tabT8 (sin : ℕ → EReal) (d : Fin 64) : EReal := if d.val < 8 then 0 else if d.val < 16 then sin (d - 8) else 0
def tabC16 (cr cc : ℕ → EReal) (d : Fin 64) : EReal :=
  if d.val < 16 then cr d else if d.val < 32 then cr (d - 16) else if d.val < 48 then cc (d - 32) else cc (d - 48)
def tabS16 (sr sn : ℕ → EReal) (d : Fin 64) : EReal :=
  if d.val < 16 then -sr d else if d.val < 32 then 0 else if d.val < 48 then -sn (d - 32) else 0
def tabT16 (sr sn : ℕ → EReal) (d : Fin 64) : EReal :=
  if d.val < 16 then 0 else if d.val < 32 then sr (d - 16) else if d.val < 48 then 0 else sn (d - 48)

theorem rotT_eq (k : ℕ) (g : Fin 64 → EReal) (c s1 s2 : Fin 64 → EReal) (d : Fin 64) :
    rotT k g c s1 s2 d = ext g d * c d + (if k ≤ d.val then ext g (d - k) * ext s1 (d - k) else 0)
      + (if d.val + k < 64 then ext g (d + k) * ext s2 (d + k) else 0) := by
  unfold rotT
  rw [ext_of g d d.isLt]
  refine congrArg₂ (· + ·) (congrArg₂ (· + ·) rfl ?_) ?_
  · refine if_congr Iff.rfl ?_ rfl
    rw [ext_of g _ (by omega), ext_of s1 _ (by omega)]
  · by_cases h : d.val + k < 64
    · rw [dif_pos h, if_pos h, ext_of g _ h, ext_of s2 _ h]
    · rw [dif_neg h, if_neg h]

theorem rotA (cos sin : ℕ → EReal) (g : Fin 64 → EReal) (d : Fin 64) :
    rotT 8 g (tabC8 cos) (tabS8 sin) (tabT8 sin) d = turnA cos sin (ext g) d := by
  rw [rotT_eq]
  have e1 : 8 ≤ d.val → ext (tabS8 sin) (d - 8) = if d.val < 16 then -sin (d - 8) else 0 := fun h => by
    rw [ext_of _ _ (by omega)]; exact if_congr (by show d.val - 8 < 8 ↔ _; omega) rfl rfl
  have e2 : d.val + 8 < 64 → ext (tabT8 sin) (d + 8) = if d.val < 8 then sin d else 0 := fun h => by
    rw [ext_of _ _ h]
    show (if d.val + 8 < 8 then _ else if d.val + 8 < 16 then sin (d.val + 8 - 8) else 0) = _
    rw [if_neg (by omega), Nat.add_sub_cancel]; exact if_congr (by omega) rfl rfl
  unfold turnA turn tabC8
  by_cases h1 : d.val < 8
  · rw [if_neg (by omega : ¬ 8 ≤ d.val), if_pos (by omega : d.val + 8 < 64), e2 (by omega), if_pos h1, if_pos h1, if_pos (by omega), if_pos h1, add_zero,
      add_comm, Nat.add_comm 8]
  by_cases h2 : d.val < 16
  · rw [if_pos (by omega : 8 ≤ d.val), e1 (by omega), if_pos h2, if_neg h1, if_pos h2, if_pos h2, if_neg h1]
    have : (if d.val + 8 < 64 then ext g (d.val + 8) * ext (tabT8 sin) (d.val + 8) else 0) = 0 := by
      rw [if_pos (by omega), e2 (by omega), if_neg h1, mul_zero]
    rw [this, add_zero, mul_neg, neg_mul]
  · rw [if_pos (by omega : 8 ≤ d.val), e1 (by omega), if_neg h2, if_neg h1, if_neg h2, if_neg h2, mul_zero, add_zero, mul_one]
    have : (if d.val + 8 < 64 then ext g (d.val + 8) * ext (tabT8 sin) (d.val + 8) else 0) = 0 := by
      by_cases h : d.val + 8 < 64
      · rw [if_pos h, e2 h, if_neg h1, mul_zero]
      · rw [if_neg h]
    rw [this, add_zero]

theorem rotB (cr sr cc sn : ℕ → EReal) (g : Fin 64 → EReal) (d : Fin 64) :
    rotT 16 g (tabC16 cr cc) (tabS16 sr sn) (tabT16 sr sn) d = turnB cr sr cc sn (ext g) d := by
  rw [rotT_eq]
  have e1 : 16 ≤ d.val → ext (tabS16 sr sn) (d - 16) = if d.val < 32 then -sr (d - 16) else if d.val < 48 then 0 else -sn (d - 48) := fun h => by
    rw [ext_of _ _ (by omega)]
    show (if d.val - 16 < 16 then -sr (d.val - 16) else if d.val - 16 < 32 then 0 else if d.val - 16 < 48 then -sn (d.val - 16 - 32) else 0) = _
    rw [if_pos (by omega : d.val - 16 < 48), Nat.sub_sub]
    exact if_congr (by omega) rfl (if_congr (by omega) rfl rfl)
  have e2 : d.val + 16 < 64 → ext (tabT16 sr sn) (d + 16) = if d.val < 16 then sr d else if d.val < 32 then 0 else sn (d - 32) := fun h => by
    rw [ext_of _ _ h]
    show (if d.val + 16 < 16 then 0 else if d.val + 16 < 32 then sr (d.val + 16 - 16) else if d.val + 16 < 48 then 0 else sn (d.val + 16 - 48)) = _
    rw [if_neg (by omega), Nat.add_sub_cancel, show d.val + 16 - 48 = d.val - 32 by omega]
    exact if_congr (by omega) rfl (if_congr (by omega) rfl rfl)
  unfold turnB turn tabC16
  by_cases h1 : d.val < 16
  · rw [if_neg (by omega : ¬ 16 ≤ d.val), if_pos (by omega : d.val + 16 < 64), e2 (by omega), if_pos h1, if_pos h1, if_pos (by omega : d.val < 32), if_pos h1, add_zero,
      add_comm, Nat.add_comm 16]
  by_cases h2 : d.val < 32
  · rw [if_pos (by omega : 16 ≤ d.val), e1 (by omega), if_pos h2, if_neg h1, if_pos h2, if_pos h2, if_neg h1, if_pos (by omega : d.val + 16 < 64), e2 (by omega),
      if_neg h1, if_pos h2, mul_zero, add_zero, mul_neg, neg_mul]
  by_cases h3 : d.val < 48
  · rw [if_pos (by omega : 16 ≤ d.val), e1 (by omega), if_neg h2, if_pos h3, if_neg h1, if_neg h2, if_pos h3, if_neg h2, if_pos (by omega : d.val - 32 < 16),
      if_pos (by omega : d.val + 16 < 64), e2 (by omega), if_neg h1, if_neg h2, mul_zero, add_zero, add_comm]
    dsimp only
    rw [show 32 + (16 + (d.val - 32)) = d.val + 16 by omega,
      show 32 + (d.val - 32) = d.val by omega]
  · rw [if_pos (by omega : 16 ≤ d.val), e1 (by omega), if_neg h2, if_neg h3, if_neg h1, if_neg h2, if_neg h3, if_neg h2, if_neg (by omega : ¬ d.val - 32 < 16),
      if_neg (by omega : ¬ d.val + 16 < 64), add_zero]
    dsimp only
    rw [show 32 + (d.val - 32) = d.val by omega, show 32 + (d.val - 32 - 16) = d.val - 16 by omega,
      show d.val - 32 - 16 = d.val - 48 by omega, mul_neg, neg_mul]

theorem zA1 (sin : ℕ → EReal) (d : Fin 64) (h : 64 ≤ d.val + 8) : tabS8 sin d = 0 := if_neg (by omega)
theorem zA2 (sin : ℕ → EReal) (d : Fin 64) (h : d.val < 8) : tabT8 sin d = 0 := if_pos h
theorem zB1 (sr sn : ℕ → EReal) (d : Fin 64) (h : 64 ≤ d.val + 16) : tabS16 sr sn d = 0 := by
  unfold tabS16; rw [if_neg (by omega), if_neg (by omega), if_neg (by omega)]
theorem zB2 (sr sn : ℕ → EReal) (d : Fin 64) (h : d.val < 16) : tabT16 sr sn d = 0 := if_pos h

/-- The derivative of a real row with real tables is real. -/
theorem turn_real (w : ℕ) (cos sin g : ℕ → EReal) (hc : ∀ d, ∃ r : ℝ, cos d = r) (hs : ∀ d, ∃ r : ℝ, sin d = r) (hg : ∀ d, ∃ r : ℝ, g d = r) (d : ℕ) :
    ∃ r : ℝ, turn w cos sin g d = r := by
  have mul : ∀ x y : EReal, (∃ r : ℝ, x = r) → (∃ r : ℝ, y = r) → ∃ r : ℝ, x * y = r := by
    rintro _ _ ⟨a, rfl⟩ ⟨b, rfl⟩; exact ⟨a * b, (EReal.coe_mul _ _).symm⟩
  have add : ∀ x y : EReal, (∃ r : ℝ, x = r) → (∃ r : ℝ, y = r) → ∃ r : ℝ, x + y = r := by
    rintro _ _ ⟨a, rfl⟩ ⟨b, rfl⟩; exact ⟨a + b, (EReal.coe_add _ _).symm⟩
  have neg : ∀ x : EReal, (∃ r : ℝ, x = r) → ∃ r : ℝ, -x = r := by
    rintro _ ⟨a, rfl⟩; exact ⟨-a, (EReal.coe_neg _).symm⟩
  unfold turn
  split_ifs
  · exact add _ _ (mul _ _ (hg _) (hs _)) (mul _ _ (hg _) (hc _))
  · exact add _ _ (mul _ _ (hg _) (hc _)) (mul _ _ (neg _ (hg _)) (hs _))
theorem turnB_real (cr sr cc sn g : ℕ → EReal) (h1 : ∀ d, ∃ r : ℝ, cr d = r) (h2 : ∀ d, ∃ r : ℝ, sr d = r) (h3 : ∀ d, ∃ r : ℝ, cc d = r) (h4 : ∀ d, ∃ r : ℝ, sn d = r)
    (hg : ∀ d, ∃ r : ℝ, g d = r) (d : ℕ) : ∃ r : ℝ, turnB cr sr cc sn g d = r := by
  unfold turnB
  split_ifs
  · exact turn_real _ _ _ _ h1 h2 hg _
  · exact turn_real _ _ _ _ h3 h4 (fun _ => hg _) _
theorem ext_real {w : ℕ} (f : Fin w → EReal) (hf : ∀ d, ∃ r : ℝ, f d = r) (d : ℕ) : ∃ r : ℝ, ext f d = r := by
  unfold ext
  split_ifs
  · exact hf _
  · exact ⟨0, rfl⟩

/-! ### The host's operations -/

/-- An index of three axes from its places. -/
theorem ix3_of {M n W : ℕ} {v : (⟨3, ![M, n, W]⟩ : Shape).Idx} {R : Fin M} {h : Fin n} {d : Fin W} (h0 : (v 0).val = R.val) (h1 : (v 1).val = h.val)
    (h2 : (v 2).val = d.val) : v = ix3 R h d := by
  funext a; apply Fin.ext
  match a with
  | ⟨0, _⟩ => exact h0
  | ⟨1, _⟩ => exact h1
  | ⟨2, _⟩ => exact h2

section Pads
variable {M n w o W : ℕ} (hW : W = o + w) {u : Shape} (hu : 0 < u.numel) (R : Fin M) (h : Fin n) (d : Fin W)
include hW

/-- The first `o` columns of one array before those of another: a sum of two arrays padded with zeros. -/
theorem pads_apply (a : (⟨3, ![M, n, w]⟩ : Shape).Idx → EReal) (b : (⟨3, ![M, n, o]⟩ : Shape).Idx → EReal) (z z' : u.Idx → EReal)
    (hz : ∀ i, z i = 0) (hz' : ∀ i, z' i = 0)
    (pa : Shape.Pads ⟨3, ![M, n, w]⟩ ![0, 0, o] ![0, 0, 0] ![0, 0, 0] ⟨3, ![M, n, W]⟩)
    (pb : Shape.Pads ⟨3, ![M, n, o]⟩ ![0, 0, 0] ![0, 0, w] ![0, 0, 0] ⟨3, ![M, n, W]⟩) :
    pad ⟨3, ![M, n, W]⟩ ![0, 0, o] ![0, 0, 0] ![0, 0, 0] a z pa hu (ix3 R h d) + pad ⟨3, ![M, n, W]⟩ ![0, 0, 0] ![0, 0, w] ![0, 0, 0] b z' pb hu (ix3 R h d)
      = if d.val < o then ext (fun k => b (ix3 R h k)) d else ext (fun k => a (ix3 R h k)) (d - o) := by
  by_cases hd : d.val < o
  · rw [if_pos hd, ext_of _ _ hd,
      pad_apply_of_not_inside _ _ _ a z pa hu (ix3 R h d) 2 (fun q => absurd (show o ≤ d.val from q.1) (by omega)), hz, zero_add]
    exact pad_apply_of_inside _ _ _ b z' pb hu (ix3 R h d) (ix3 R h ⟨d, hd⟩) fun x => by
      match x with
      | ⟨0, _⟩ => show R.val = 0 + R.val * (0 + 1); omega
      | ⟨1, _⟩ => show h.val = 0 + h.val * (0 + 1); omega
      | ⟨2, _⟩ => show d.val = 0 + d.val * (0 + 1); omega
  · rw [if_neg hd, ext_of _ _ (by omega : d.val - o < w),
      pad_apply_of_not_inside _ _ _ b z' pb hu (ix3 R h d) 2 (fun q => absurd (show (d.val - 0) / (0 + 1) < o from q.2.2) (by simpa using hd)), hz', add_zero]
    exact pad_apply_of_inside _ _ _ a z pa hu (ix3 R h d) (ix3 R h ⟨d.val - o, by omega⟩) fun x => by
      match x with
      | ⟨0, _⟩ => show R.val = 0 + R.val * (0 + 1); omega
      | ⟨1, _⟩ => show h.val = 0 + h.val * (0 + 1); omega
      | ⟨2, _⟩ => show d.val = o + (d.val - o) * (0 + 1); omega

end Pads

section Reduce
variable {M n W : ℕ} {u : Shape} (v : FVec Ideal (⟨3, ![M, n, W]⟩ : Shape) .f32) (z : u.Idx → Ideal .f32)

/-- A sum over the first two of three axes. -/
theorem reduce01 (h : (⟨3, ![M, n, W]⟩ : Shape).ReducesTo [0, 1] ⟨1, ![W]⟩) (hu : 0 < u.numel) (hz : ∀ i, z i = (0 : EReal)) (d : Fin W) :
    (Host.reduceAdd v z h hu (ix1 d) : EReal) = ∑ R, ∑ g, (v (ix3 R g d) : EReal) := by
  rw [hostReduceAdd_apply]
  unfold Ideal.hostReduceAdd
  rw [hz, zero_add, ← Finset.sum_product', Finset.univ_product_univ]
  have hdrop : ∀ i, (h.drop i 0).val = (i 2).val := fun i => rfl
  refine Finset.sum_bij' (fun i _ => ((i 0 : Fin M), (i 1 : Fin n))) (fun p _ => ix3 p.1 p.2 d) (fun _ _ => Finset.mem_univ _) ?_ ?_ ?_ ?_
  · intro p _
    refine Finset.mem_filter.2 ⟨Finset.mem_univ _, ?_⟩
    funext b; apply Fin.ext
    match b with
    | ⟨0, _⟩ => exact hdrop _
  · intro i hi
    exact (ix3_of rfl rfl ((hdrop i).symm.trans (congrArg (fun j : (⟨1, ![W]⟩ : Shape).Idx => (j 0).val) (Finset.mem_filter.1 hi).2))).symm
  · intro p _; rfl
  · intro i hi
    exact congrArg v (ix3_of rfl rfl ((hdrop i).symm.trans (congrArg (fun j : (⟨1, ![W]⟩ : Shape).Idx => (j 0).val) (Finset.mem_filter.1 hi).2)))

end Reduce

end Cert.Proof.Prep
end
-- ==== Proof.Prep.Group.lean ====
module

public import proofs.«01_k».proof.Defs

/-! The constant matrix that averages over a head of 64 columns: 1/64 where row and column lie in one head, else 0. -/

@[expose] public section

set_option maxRecDepth 16384

noncomputable section

namespace Cert.PrepIdeal.Val

theorem group : ∀ i : Fin 16384, Cert.PrepIdeal.lit0 i = if i.val / 128 / 64 = i.val % 128 / 64 then 0x3C800000#32 else 0x00000000#32 := by
  decide +kernel

end Cert.PrepIdeal.Val
end
-- ==== Proof.Prep.RopeHost.lean ====
module

public import proofs.«01_k».proof.Proof.Prep.Rope

/-! The differentiated host lines of the two rotary embeddings as functions of arrays of any number of heads, and what they
are on one head of one row. -/

@[expose] public section

noncomputable section

namespace Cert.Proof.Prep

open Idealize.ShloMosaic Idealize.ShloMosaic.ValueIdx Cert.Proof

/-- Arrays of rows, heads and columns, and the tables of rows and columns. -/
abbrev A3 (n w : ℕ) : Shape := ⟨3, ![8192, n, w]⟩
abbrev A2 (w : ℕ) : Shape := ⟨2, ![8192, w]⟩
abbrev A0 : Shape := ⟨0, ![]⟩

def zero0 : FVec Ideal A0 .f32 := constant A0 .f32 0x00000000#32
theorem zero0_apply (i : A0.Idx) : zero0 i = (0 : EReal) := Ideal.ofBits_zero_f32

/-- The facts about shapes that a rotation's lines use: slices, a table's broadcast and pads. -/
structure Fits (n w W : ℕ) : Prop where
  width : W = w + w
  lo : (A3 n W).Slices ![0, 0, 0] (A3 n w)
  hi : (A3 n W).Slices ![0, 0, w] (A3 n w)
  row : (A2 w).BroadcastsInDim (A3 1 w) ![0, 2]
  all : (A3 1 w).BroadcastsInDim (A3 n w) ![0, 1, 2]
  below : (A3 n w).Pads ![0, 0, w] ![0, 0, 0] ![0, 0, 0] (A3 n W)
  above : (A3 n w).Pads ![0, 0, 0] ![0, 0, w] ![0, 0, 0] (A3 n W)
  one : 0 < A0.numel

theorem slice_at {n w W : ℕ} (o : ℕ) (ho : o + w ≤ W) (X : (A3 n W).Idx → EReal) (h : (A3 n W).Slices ![0, 0, o] (A3 n w)) (R : Fin 8192) (g : Fin n) (k : Fin w) :
    extractStridedSlice (A3 n w) ![0, 0, o] X h (ix3 R g k) = X (ix3 R g ⟨o + k.val, by omega⟩) :=
  extractStridedSlice_apply ![0, 0, o] X h (ix3 R g k) (ix3 R g ⟨o + k.val, by omega⟩) (fun a => match a with
    | ⟨0, _⟩ => (Nat.zero_add _).symm | ⟨1, _⟩ => (Nat.zero_add _).symm | ⟨2, _⟩ => rfl)

section Turn
variable {n w W : ℕ} (f : Fits n w W) (X : FVec Ideal (A3 n W) .f32) (C S : FVec Ideal (A2 w) .f32)

/-- A table, at every head. -/
def heads : FVec Ideal (A3 n w) .f32 := broadcastInDim (A3 n w) ![0, 1, 2] f.all (broadcastInDim (A3 1 w) ![0, 2] f.row C)
theorem heads_apply (R : Fin 8192) (g : Fin n) (k : Fin w) : heads f C (ix3 R g k) = C (ix2 R k) := by
  unfold heads
  rw [broadcastInDim_apply _ _ _ (ix3 R g k) (ix3 R 0 k) (fun a => match a with
      | ⟨0, _⟩ => rfl | ⟨1, _⟩ => rfl
      | ⟨2, _⟩ => by show k.val = if w = 1 then 0 else k.val; split_ifs <;> omega)]
  exact broadcastInDim_apply _ _ _ (ix3 R 0 k) (ix2 R k) (fun a => match a with
      | ⟨0, _⟩ => rfl
      | ⟨1, _⟩ => by show k.val = if w = 1 then 0 else k.val; split_ifs <;> omega)

/-- The derivative of a rotation of two halves. -/
def hostTurn : FVec Ideal (A3 n W) .f32 :=
  addf (pad (A3 n W) ![0, 0, w] ![0, 0, 0] ![0, 0, 0]
      (addf (mulf (extractStridedSlice (A3 n w) ![0, 0, w] X f.hi) (heads f C)) (mulf (Host.negf (extractStridedSlice (A3 n w) ![0, 0, 0] X f.lo)) (heads f S))) zero0 f.below f.one)
    (pad (A3 n W) ![0, 0, 0] ![0, 0, w] ![0, 0, 0]
      (addf (mulf (extractStridedSlice (A3 n w) ![0, 0, w] X f.hi) (heads f S)) (mulf (extractStridedSlice (A3 n w) ![0, 0, 0] X f.lo) (heads f C))) zero0 f.above f.one)

theorem hostTurn_apply (R : Fin 8192) (g : Fin n) (d : Fin W) :
    hostTurn f X C S (ix3 R g d) = turn w (ext fun k => C (ix2 R k)) (ext fun k => S (ix2 R k)) (ext fun k => X (ix3 R g k)) d := by
  refine (pads_apply f.width f.one R g d _ _ _ _ zero0_apply zero0_apply f.below f.above).trans ?_
  have hlo : ∀ k : Fin w, extractStridedSlice (A3 n w) ![0, 0, 0] X f.lo (ix3 R g k) = ext (fun k => X (ix3 R g k)) k := fun k => by
    have := f.width
    rw [slice_at 0 (by omega), ext_of _ _ (by omega)]; exact congrArg (fun q => X (ix3 R g q)) (Fin.ext (Nat.zero_add _))
  have hhi : ∀ k : Fin w, extractStridedSlice (A3 n w) ![0, 0, w] X f.hi (ix3 R g k) = ext (fun k => X (ix3 R g k)) (w + k) := fun k => by
    have := f.width
    rw [slice_at w (by omega), ext_of _ _ (by omega)]
  have hC : ∀ k : Fin w, heads f C (ix3 R g k) = ext (fun k => C (ix2 R k)) k := fun k => by rw [heads_apply, ext_of _ _ k.isLt]
  have hS : ∀ k : Fin w, heads f S (ix3 R g k) = ext (fun k => S (ix2 R k)) k := fun k => by rw [heads_apply, ext_of _ _ k.isLt]
  unfold turn
  refine if_ctx_congr Iff.rfl (fun hd => ?_) (fun hd => ?_)
  · rw [ext_of _ _ hd]
    refine (congrArg₂ (fun s t : EReal => s + t) (congrArg₂ (fun s t : EReal => s * t) (hhi _) (hS _)) (congrArg₂ (fun s t : EReal => s * t) (hlo _) (hC _)))
  · have := f.width
    rw [ext_of _ _ (by omega)]
    refine (congrArg₂ (fun s t : EReal => s + t) (congrArg₂ (fun s t : EReal => s * t) (hhi _) (hC _))
      (congrArg₂ (fun s t : EReal => s * t) (congrArg (fun s : EReal => -s) (hlo _)) (hS _))).trans ?_
    dsimp only
    rw [show w + (d.val - w) = d.val by omega]

end Turn

/-- The facts about shapes that the two embeddings' lines use besides. -/
structure FitsA (n : ℕ) : Prop where
  inner : Fits n 8 16
  head : (A3 n 64).Slices ![0, 0, 0] (A3 n 16)
  rest : (A3 n 64).Slices ![0, 0, 16] (A3 n 48)
  below : (A3 n 48).Pads ![0, 0, 16] ![0, 0, 0] ![0, 0, 0] (A3 n 64)
  above : (A3 n 16).Pads ![0, 0, 0] ![0, 0, 48] ![0, 0, 0] (A3 n 64)
structure FitsB (n : ℕ) : Prop where
  inner : Fits n 16 32
  head : (A3 n 64).Slices ![0, 0, 0] (A3 n 32)
  rest : (A3 n 64).Slices ![0, 0, 32] (A3 n 32)
  below : (A3 n 32).Pads ![0, 0, 32] ![0, 0, 0] ![0, 0, 0] (A3 n 64)
  above : (A3 n 32).Pads ![0, 0, 0] ![0, 0, 32] ![0, 0, 0] (A3 n 64)

section Embeddings
variable {n : ℕ} (X : FVec Ideal (A3 n 64) .f32) (R : Fin 8192) (g : Fin n) (d : Fin 64)

def hostA (f : FitsA n) (C S : FVec Ideal (A2 8) .f32) : FVec Ideal (A3 n 64) .f32 :=
  addf (pad (A3 n 64) ![0, 0, 16] ![0, 0, 0] ![0, 0, 0] (extractStridedSlice (A3 n 48) ![0, 0, 16] X f.rest) zero0 f.below f.inner.one)
    (pad (A3 n 64) ![0, 0, 0] ![0, 0, 48] ![0, 0, 0] (hostTurn f.inner (extractStridedSlice (A3 n 16) ![0, 0, 0] X f.head) C S) zero0 f.above f.inner.one)
def hostB (f : FitsB n) (C S C' S' : FVec Ideal (A2 16) .f32) : FVec Ideal (A3 n 64) .f32 :=
  addf (pad (A3 n 64) ![0, 0, 32] ![0, 0, 0] ![0, 0, 0] (hostTurn f.inner (extractStridedSlice (A3 n 32) ![0, 0, 32] X f.rest) C' S') zero0 f.below f.inner.one)
    (pad (A3 n 64) ![0, 0, 0] ![0, 0, 32] ![0, 0, 0] (hostTurn f.inner (extractStridedSlice (A3 n 32) ![0, 0, 0] X f.head) C S) zero0 f.above f.inner.one)

/-- A rotation reads only the columns that it turns. -/
theorem turn_congr (w : ℕ) (c s a b : ℕ → EReal) (d : ℕ) (hd : d < w + w) (h : ∀ k < w + w, a k = b k) : turn w c s a d = turn w c s b d := by
  unfold turn
  refine if_ctx_congr Iff.rfl (fun q => ?_) (fun q => ?_)
  · rw [h _ (by omega), h _ (by omega)]
  · rw [h _ (by omega), h _ (by omega)]

theorem slice_row {w : ℕ} (o : ℕ) (ho : o + w ≤ 64) (h : (A3 n 64).Slices ![0, 0, o] (A3 n w)) (k : ℕ) (hk : k < w) :
    ext (fun q => extractStridedSlice (A3 n w) ![0, 0, o] X h (ix3 R g q)) k = ext (fun q => X (ix3 R g q)) (o + k) := by
  rw [ext_of _ _ hk, ext_of _ _ (by omega)]; exact slice_at o ho X h R g ⟨k, hk⟩

theorem hostA_apply (f : FitsA n) (C S : FVec Ideal (A2 8) .f32) :
    hostA X f C S (ix3 R g d) = turnA (ext fun k => C (ix2 R k)) (ext fun k => S (ix2 R k)) (ext fun k => X (ix3 R g k)) d := by
  refine (pads_apply (o := 16) (w := 48) rfl f.inner.one R g d _ _ _ _ zero0_apply zero0_apply f.below f.above).trans ?_
  unfold turnA
  refine if_ctx_congr Iff.rfl (fun hd => ?_) (fun hd => ?_)
  · rw [ext_of _ _ hd]
    refine (hostTurn_apply f.inner _ C S R g ⟨d.val, hd⟩).trans (turn_congr 8 _ _ _ _ _ hd fun k hk => ?_)
    rw [slice_row X R g 0 (by omega) f.head k hk, Nat.zero_add]
  · rw [slice_row X R g 16 (by omega) f.rest _ (by omega), show 16 + (d.val - 16) = d.val by omega]

theorem hostB_apply (f : FitsB n) (C S C' S' : FVec Ideal (A2 16) .f32) :
    hostB X f C S C' S' (ix3 R g d) = turnB (ext fun k => C (ix2 R k)) (ext fun k => S (ix2 R k)) (ext fun k => C' (ix2 R k)) (ext fun k => S' (ix2 R k))
      (ext fun k => X (ix3 R g k)) d := by
  refine (pads_apply (o := 32) (w := 32) rfl f.inner.one R g d _ _ _ _ zero0_apply zero0_apply f.below f.above).trans ?_
  unfold turnB
  refine if_ctx_congr Iff.rfl (fun hd => ?_) (fun hd => ?_)
  · rw [ext_of _ _ hd]
    refine (hostTurn_apply f.inner _ C S R g ⟨d.val, hd⟩).trans (turn_congr 16 _ _ _ _ _ hd fun k hk => ?_)
    rw [slice_row X R g 0 (by omega) f.head k hk, Nat.zero_add]
  · have hd' : d.val - 32 < 32 := by omega
    rw [ext_of _ _ hd']
    refine (hostTurn_apply f.inner _ C' S' R g ⟨d.val - 32, hd'⟩).trans (turn_congr 16 _ _ _ _ _ hd' fun k hk => ?_)
    exact slice_row X R g 32 (by omega) f.rest k hk

end Embeddings

end Cert.Proof.Prep
end
-- ==== Proof.Prep.Ref.lean ====
module

public import proofs.«01_k».proof.Proof.Prep.RopeHost
public import proofs.«01_k».proof.Proof.Gen.PrepRefIdeal.Read

/-! The reference's derivative of rotary embeddings and head norms, read at one row, head and column. -/

@[expose] public section

set_option maxRecDepth 16384

noncomputable section

namespace Cert.PrepRefIdeal.Val

open Idealize.ShloMosaic Idealize.ShloMosaic.TcCoe Idealize.SL.Sem Cert.PrepRefIdeal Cert.PrepRefIdeal.Gen
open Idealize.ShloMosaic.ValueIdx Cert.Proof Cert.Proof.Prep Cert.PrepRefIdeal.Read

/-- Row `R` of the cosines and sines: of the first embedding, by row and by column. -/
def cA (R : Fin 8192) : ℕ → EReal := ext fun k => val_main_v27 (F := Ideal) (ix2 R k)
def sA (R : Fin 8192) : ℕ → EReal := ext fun k => val_main_v29 (F := Ideal) (ix2 R k)
def cR (R : Fin 8192) : ℕ → EReal := ext fun k => val_main_v116 (F := Ideal) (ix2 R k)
def sR (R : Fin 8192) : ℕ → EReal := ext fun k => val_main_v118 (F := Ideal) (ix2 R k)
def cC (R : Fin 8192) : ℕ → EReal := ext fun k => val_main_v147 (F := Ideal) (ix2 R k)
def sC (R : Fin 8192) : ℕ → EReal := ext fun k => val_main_v149 (F := Ideal) (ix2 R k)

/-- Column `d` of head `h` from column `o` on. -/
def hcol {W : ℕ} (o n : ℕ) (hW : o + 64 * n ≤ W) (h : Fin n) (d : Fin 64) : Fin W := ⟨o + (64 * h.val + d.val), by omega⟩

/-- The scale. -/
def lit8 : EReal := Ideal.ofBits .f32 0x3E000000#32

variable (x0 : FVec Ideal S8192x2304 .f32) (x1 : FVec Ideal S8192x768 .f32) (x2 : FVec Ideal S8192x512 .f32) (x3 x4 : FVec Ideal S8192x128 .f32) (x5 x6 x7 : FVec Ideal S8192x256 .f32)
  (x8 x9 : FVec Ideal S64 .f32) (R : Fin 8192) (d : Fin 64)

theorem fit4 : FitsA 4 := ⟨⟨by decide, by decide, by decide, by decide, by decide, by decide, by decide, by decide⟩, by decide, by decide, by decide, by decide⟩
theorem fit8 : FitsB 8 := ⟨⟨by decide, by decide, by decide, by decide, by decide, by decide, by decide, by decide⟩, by decide, by decide, by decide, by decide⟩
theorem fit2 : FitsB 2 := ⟨⟨by decide, by decide, by decide, by decide, by decide, by decide, by decide, by decide⟩, by decide, by decide, by decide, by decide⟩

/-! ### The first embedding -/

section A
variable (h : Fin 4)

theorem v417_eq : val_main_v417 (F := Ideal) x1 = hostA (val_main_v396 (F := Ideal) x1) fit4 (val_main_v27 (F := Ideal)) (val_main_v29 (F := Ideal)) := rfl
theorem v392_eq : val_main_v392 (F := Ideal) x1 = hostA (val_main_v371 (F := Ideal) x1) fit4 (val_main_v63 (F := Ideal)) (val_main_v65 (F := Ideal)) := rfl
theorem v63_eq : val_main_v63 (F := Ideal) = val_main_v27 (F := Ideal) := rfl
theorem v65_eq : val_main_v65 (F := Ideal) = val_main_v29 (F := Ideal) := rfl

theorem v396_at : val_main_v396 (F := Ideal) x1 (ix3 R h d) = x1 (ix2 R (hcol 0 4 (by decide) h d)) * lit8 := by
  have e : val_main_v394 (F := Ideal) x1 (ix3 R h d) = x1 (ix2 R (hcol 0 4 (by decide) h d)) := by
    rw [val_main_v394_apply, val_main_v1_apply]
    exact congrArg x1 (ix2_of (by show ((R.val * 4 + h.val) * 64 + d.val) / 256 = R.val; omega)
      (by show ((R.val * 4 + h.val) * 64 + d.val) % 256 = 0 + (64 * h.val + d.val); omega))
  exact congrArg₂ (fun s t : EReal => s * t) e rfl
theorem v371_at : val_main_v371 (F := Ideal) x1 (ix3 R h d) = x1 (ix2 R (hcol 256 4 (by decide) h d)) := by
  rw [val_main_v371_apply, val_main_v2_apply]
  exact congrArg x1 (ix2_of (by show ((R.val * 4 + h.val) * 64 + d.val) / 256 = R.val; omega)
    (by show 256 + ((R.val * 4 + h.val) * 64 + d.val) % 256 = 256 + (64 * h.val + d.val); omega))

theorem v418_at : val_main_v418 (F := Ideal) x1 (ix2 R (hcol 0 4 (by decide) h d))
    = turnA (cA R) (sA R) (ext fun k => x1 (ix2 R (hcol 0 4 (by decide) h k)) * lit8) d := by
  rw [val_main_v418_apply]
  refine (congrArg (val_main_v417 (F := Ideal) x1) (ix3_of (R := R) (h := h) (d := d) (by show (R.val * 256 + (0 + (64 * h.val + d.val))) / 256 = R.val; omega)
    (by show (R.val * 256 + (0 + (64 * h.val + d.val))) / 64 % 4 = h.val; omega) (by show (R.val * 256 + (0 + (64 * h.val + d.val))) % 64 = d.val; omega))).trans ?_
  rw [v417_eq, hostA_apply]
  simp only [v396_at]; rfl
theorem v393_at : val_main_v393 (F := Ideal) x1 (ix2 R (hcol 0 4 (by decide) h d))
    = turnA (cA R) (sA R) (ext fun k => x1 (ix2 R (hcol 256 4 (by decide) h k))) d := by
  rw [val_main_v393_apply]
  refine (congrArg (val_main_v392 (F := Ideal) x1) (ix3_of (R := R) (h := h) (d := d) (by show (R.val * 256 + (0 + (64 * h.val + d.val))) / 256 = R.val; omega)
    (by show (R.val * 256 + (0 + (64 * h.val + d.val))) / 64 % 4 = h.val; omega) (by show (R.val * 256 + (0 + (64 * h.val + d.val))) % 64 = d.val; omega))).trans ?_
  rw [v392_eq, hostA_apply, v63_eq, v65_eq]
  simp only [v371_at]; rfl

end A

/-! ### Norm and second embedding of the queries -/

section Q
variable (h : Fin 8)

/-- A head of a row of `hq`, and of the derivative of the embedding. -/
def xq (k : Fin 64) : EReal := x0 (ix2 R (hcol 768 8 (by decide) h k))
def eqr (k : Fin 64) : EReal := turnB (cR R) (sR R) (cC R) (sC R) (ext fun q => x2 (ix2 R (hcol 0 8 (by decide) h q)) * lit8) k

theorem v351_eq : val_main_v351 (F := Ideal) x2 = hostB (val_main_v314 (F := Ideal) x2) fit8 (val_main_v116 (F := Ideal)) (val_main_v118 (F := Ideal))
    (val_main_v147 (F := Ideal)) (val_main_v149 (F := Ideal)) := rfl
theorem v314_at : val_main_v314 (F := Ideal) x2 (ix3 R h d) = x2 (ix2 R (hcol 0 8 (by decide) h d)) * lit8 := by
  have e : val_main_v312 (F := Ideal) x2 (ix3 R h d) = x2 (ix2 R (hcol 0 8 (by decide) h d)) := by
    rw [val_main_v312_apply]
    exact congrArg x2 (ix2_of (by show ((R.val * 8 + h.val) * 64 + d.val) / 512 = R.val; omega)
      (by show ((R.val * 8 + h.val) * 64 + d.val) % 512 = 0 + (64 * h.val + d.val); omega))
  exact congrArg₂ (fun s t : EReal => s * t) e rfl
theorem v351_at : val_main_v351 (F := Ideal) x2 (ix3 R h d) = eqr x2 R h d := by
  rw [v351_eq, hostB_apply]
  simp only [v314_at]; rfl

theorem v83_at : val_main_v83 (F := Ideal) x0 (ix3 R h d) = xq x0 R h d := by
  rw [val_main_v83_apply, val_main_v7_apply]
  exact congrArg x0 (ix2_of (by show ((R.val * 8 + h.val) * 64 + d.val) / 512 = R.val; omega)
    (by show 768 + ((R.val * 8 + h.val) * 64 + d.val) % 512 = 768 + (64 * h.val + d.val); omega))
theorem v92_at : val_main_v92 (F := Ideal) x0 (ix3 R h 0) = vare (xq x0 R h) := by
  have e : val_main_v88 (F := Ideal) x0 (ix3 R h 0) = ∑ k, xq x0 R h k * xq x0 R h k := by
    rw [val_main_v88_apply, val_main_v87_apply, show val_main_cst_5 (F := Ideal) (Shape.Idx.first (by decide)) = (0 : EReal) from Ideal.ofBits_zero_f32, zero_add]
    refine Finset.sum_congr rfl fun k _ => ?_
    refine (congrArg (val_main_v84 (F := Ideal) x0) (ix3_of (R := R) (h := h) (d := k) rfl rfl rfl)).trans ?_
    exact congrArg₂ (fun s t : EReal => s * t) (v83_at x0 R k h) (v83_at x0 R k h)
  exact congrArg (fun s : EReal => Ideal.div s (Ideal.ofBits .f32 0x42800000#32) + Ideal.ofBits .f32 0x358637BD#32) e
theorem v93_at : val_main_v93 (F := Ideal) x0 (ix3 R h 0) = Ideal.rsqrt (vare (xq x0 R h)) := congrArg Ideal.rsqrt (v92_at x0 R h)
theorem v96_at : val_main_v96 (F := Ideal) x0 (ix3 R h 0) = Ideal.ofBits .f32 0xBF000000#32 * Ideal.div (Ideal.rsqrt (vare (xq x0 R h))) (vare (xq x0 R h)) :=
  congrArg₂ (fun s t : EReal => Ideal.ofBits .f32 0xBF000000#32 * Ideal.div s t) (v93_at x0 R h) (v92_at x0 R h)
theorem v98_at : val_main_v98 (F := Ideal) x0 (ix3 R h d) = xq x0 R h d * Ideal.rsqrt (vare (xq x0 R h)) := by
  refine congrArg₂ (fun s t : EReal => s * t) (v83_at x0 R d h) ?_
  rw [val_main_v97_apply]
  exact (congrArg (val_main_v93 (F := Ideal) x0) (ix3_of rfl rfl rfl)).trans (v93_at x0 R h)
theorem v356_at : val_main_v356 (F := Ideal) x2 x8 (ix3 R h d) = eqr x2 R h d * x8 (ix1 d) := by
  refine congrArg₂ (fun s t : EReal => s * t) (v351_at x2 R d h) ?_
  rw [val_main_v355_apply, val_main_v99_apply]
  exact congrArg x8 (eq_ix1 _)
theorem v369_at : val_main_v369 (F := Ideal) x0 x2 x8 (ix3 R h d) = grad' (eqr x2 R h) (fun k => x8 (ix1 k)) (xq x0 R h) d := by
  have e1 : val_main_v361 (F := Ideal) x0 (ix3 R h d) = Ideal.rsqrt (vare (xq x0 R h)) := by
    rw [val_main_v361_apply]
    exact (congrArg (val_main_v93 (F := Ideal) x0) (ix3_of rfl rfl rfl)).trans (v93_at x0 R h)
  have e2 : val_main_v360 (F := Ideal) x0 x2 x8 (ix3 R h 0) = ∑ k, xq x0 R h k * (eqr x2 R h k * x8 (ix1 k)) := by
    rw [val_main_v360_apply, val_main_v359_apply, show val_main_cst_48 (F := Ideal) (Shape.Idx.first (by decide)) = (0 : EReal) from Ideal.ofBits_zero_f32, zero_add]
    refine Finset.sum_congr rfl fun k _ => ?_
    refine (congrArg (val_main_v358 (F := Ideal) x0 x2 x8) (ix3_of (R := R) (h := h) (d := k) (by show ((R.val * 8 + h.val) * 1 + 0) / 8 = R.val; omega)
      (by show ((R.val * 8 + h.val) * 1 + 0) % 8 = h.val; omega) rfl)).trans ?_
    exact congrArg₂ (fun s t : EReal => s * t) (v83_at x0 R k h) (v356_at x2 x8 R k h)
  have e3 : val_main_v367 (F := Ideal) x0 x2 x8 (ix3 R h d)
      = Ideal.div ((∑ k, xq x0 R h k * (eqr x2 R h k * x8 (ix1 k))) * (Ideal.ofBits .f32 0xBF000000#32 * Ideal.div (Ideal.rsqrt (vare (xq x0 R h))) (vare (xq x0 R h)))) (Ideal.ofBits .f32 0x42800000#32) := by
    rw [val_main_v367_apply, val_main_v366_apply, show val_main_cst_50 (F := Ideal) (Shape.Idx.first (by decide)) = (0 : EReal) from Ideal.ofBits_zero_f32, zero_add]
    rw [Fin.sum_univ_one]
    refine (congrArg (val_main_v365 (F := Ideal) x0 x2 x8) (ix3_of (R := R) (h := h) (d := 0) rfl rfl rfl)).trans ?_
    exact congrArg₂ (fun s t : EReal => Ideal.div (s * t) (Ideal.ofBits .f32 0x42800000#32)) e2 (v96_at x0 R h)
  exact congrArg₂ (fun s t : EReal => s + t) (congrArg₂ (fun s t : EReal => s * t) (v356_at x2 x8 R d h) e1)
    (congrArg₂ (fun s t : EReal => s * t) e3 (congrArg (fun t : EReal => Ideal.ofBits .f32 0x40000000#32 * t) (v83_at x0 R d h)))
theorem v370_at : val_main_v370 (F := Ideal) x0 x2 x8 (ix2 R (hcol 0 8 (by decide) h d)) = grad' (eqr x2 R h) (fun k => x8 (ix1 k)) (xq x0 R h) d := by
  rw [val_main_v370_apply]
  exact (congrArg (val_main_v369 (F := Ideal) x0 x2 x8) (ix3_of (R := R) (h := h) (d := d) (by show (R.val * 512 + (0 + (64 * h.val + d.val))) / 512 = R.val; omega)
    (by show (R.val * 512 + (0 + (64 * h.val + d.val))) / 64 % 8 = h.val; omega) (by show (R.val * 512 + (0 + (64 * h.val + d.val))) % 64 = d.val; omega))).trans
    (v369_at x0 x2 x8 R d h)
end Q

/-- The gradient of the queries' norm weight. -/
theorem v357_at : val_main_v357 (F := Ideal) x0 x2 (ix1 d) = ∑ R, ∑ h, xq x0 R h d * Ideal.rsqrt (vare (xq x0 R h)) * eqr x2 R h d := by
  refine (reduce01 (M := 1) (n := 1) (val_main_v354 (F := Ideal) x0 x2) _ _ _ (fun _ => Ideal.ofBits_zero_f32) d).trans ?_
  rw [Fin.sum_univ_one, Fin.sum_univ_one, val_main_v354_apply]
  refine (congrArg (val_main_v353 (F := Ideal) x0 x2) (eq_ix1 _)).trans ?_
  refine (reduce01 (val_main_v352 (F := Ideal) x0 x2) _ _ _ (fun _ => Ideal.ofBits_zero_f32) _).trans ?_
  refine Finset.sum_congr rfl fun R _ => Finset.sum_congr rfl fun h _ => ?_
  refine (congrArg (val_main_v352 (F := Ideal) x0 x2) (ix3_of (R := R) (h := h) (d := d) rfl rfl (by show (0 * 1 + 0) * 64 + d.val = d.val; omega))).trans ?_
  exact congrArg₂ (fun s t : EReal => s * t) (v98_at x0 R d h) (v351_at x2 R d h)

/-! ### Norm and second embedding of the keys -/

section K
variable (h : Fin 2)

/-- A head of a row of `hq`, and of the derivative of the embedding. -/
def xk (k : Fin 64) : EReal := x0 (ix2 R (hcol 1280 2 (by decide) h k))
def ekr (k : Fin 64) : EReal := turnB (cR R) (sR R) (cC R) (sC R) (ext fun q => x3 (ix2 R (hcol 0 2 (by decide) h q))) k

theorem v292_eq : val_main_v292 (F := Ideal) x3 = hostB (val_main_v255 (F := Ideal) x3) fit2 (val_main_v201 (F := Ideal)) (val_main_v203 (F := Ideal))
    (val_main_v232 (F := Ideal)) (val_main_v234 (F := Ideal)) := rfl
theorem v255_at : val_main_v255 (F := Ideal) x3 (ix3 R h d) = x3 (ix2 R (hcol 0 2 (by decide) h d)) := by
  rw [val_main_v255_apply]
  exact congrArg x3 (ix2_of (by show ((R.val * 2 + h.val) * 64 + d.val) / 128 = R.val; omega)
    (by show ((R.val * 2 + h.val) * 64 + d.val) % 128 = 0 + (64 * h.val + d.val); omega))
theorem v201_eq : val_main_v201 (F := Ideal) = val_main_v116 (F := Ideal) := rfl
theorem v203_eq : val_main_v203 (F := Ideal) = val_main_v118 (F := Ideal) := rfl
theorem v232_eq : val_main_v232 (F := Ideal) = val_main_v147 (F := Ideal) := rfl
theorem v234_eq : val_main_v234 (F := Ideal) = val_main_v149 (F := Ideal) := rfl
theorem v292_at : val_main_v292 (F := Ideal) x3 (ix3 R h d) = ekr x3 R h d := by
  rw [v292_eq, hostB_apply, v201_eq, v203_eq, v232_eq, v234_eq]
  simp only [v255_at]; rfl

theorem v168_at : val_main_v168 (F := Ideal) x0 (ix3 R h d) = xk x0 R h d := by
  rw [val_main_v168_apply, val_main_v8_apply]
  exact congrArg x0 (ix2_of (by show ((R.val * 2 + h.val) * 64 + d.val) / 128 = R.val; omega)
    (by show 1280 + ((R.val * 2 + h.val) * 64 + d.val) % 128 = 1280 + (64 * h.val + d.val); omega))
theorem v177_at : val_main_v177 (F := Ideal) x0 (ix3 R h 0) = vare (xk x0 R h) := by
  have e : val_main_v173 (F := Ideal) x0 (ix3 R h 0) = ∑ k, xk x0 R h k * xk x0 R h k := by
    rw [val_main_v173_apply, val_main_v172_apply, show val_main_cst_16 (F := Ideal) (Shape.Idx.first (by decide)) = (0 : EReal) from Ideal.ofBits_zero_f32, zero_add]
    refine Finset.sum_congr rfl fun k _ => ?_
    refine (congrArg (val_main_v169 (F := Ideal) x0) (ix3_of (R := R) (h := h) (d := k) rfl rfl rfl)).trans ?_
    exact congrArg₂ (fun s t : EReal => s * t) (v168_at x0 R k h) (v168_at x0 R k h)
  exact congrArg (fun s : EReal => Ideal.div s (Ideal.ofBits .f32 0x42800000#32) + Ideal.ofBits .f32 0x358637BD#32) e
theorem v178_at : val_main_v178 (F := Ideal) x0 (ix3 R h 0) = Ideal.rsqrt (vare (xk x0 R h)) := congrArg Ideal.rsqrt (v177_at x0 R h)
theorem v181_at : val_main_v181 (F := Ideal) x0 (ix3 R h 0) = Ideal.ofBits .f32 0xBF000000#32 * Ideal.div (Ideal.rsqrt (vare (xk x0 R h))) (vare (xk x0 R h)) :=
  congrArg₂ (fun s t : EReal => Ideal.ofBits .f32 0xBF000000#32 * Ideal.div s t) (v178_at x0 R h) (v177_at x0 R h)
theorem v183_at : val_main_v183 (F := Ideal) x0 (ix3 R h d) = xk x0 R h d * Ideal.rsqrt (vare (xk x0 R h)) := by
  refine congrArg₂ (fun s t : EReal => s * t) (v168_at x0 R d h) ?_
  rw [val_main_v182_apply]
  exact (congrArg (val_main_v178 (F := Ideal) x0) (ix3_of rfl rfl rfl)).trans (v178_at x0 R h)
theorem v297_at : val_main_v297 (F := Ideal) x3 x9 (ix3 R h d) = ekr x3 R h d * x9 (ix1 d) := by
  refine congrArg₂ (fun s t : EReal => s * t) (v292_at x3 R d h) ?_
  rw [val_main_v296_apply, val_main_v184_apply]
  exact congrArg x9 (eq_ix1 _)
theorem v310_at : val_main_v310 (F := Ideal) x0 x3 x9 (ix3 R h d) = grad' (ekr x3 R h) (fun k => x9 (ix1 k)) (xk x0 R h) d := by
  have e1 : val_main_v302 (F := Ideal) x0 (ix3 R h d) = Ideal.rsqrt (vare (xk x0 R h)) := by
    rw [val_main_v302_apply]
    exact (congrArg (val_main_v178 (F := Ideal) x0) (ix3_of rfl rfl rfl)).trans (v178_at x0 R h)
  have e2 : val_main_v301 (F := Ideal) x0 x3 x9 (ix3 R h 0) = ∑ k, xk x0 R h k * (ekr x3 R h k * x9 (ix1 k)) := by
    rw [val_main_v301_apply, val_main_v300_apply, show val_main_cst_36 (F := Ideal) (Shape.Idx.first (by decide)) = (0 : EReal) from Ideal.ofBits_zero_f32, zero_add]
    refine Finset.sum_congr rfl fun k _ => ?_
    refine (congrArg (val_main_v299 (F := Ideal) x0 x3 x9) (ix3_of (R := R) (h := h) (d := k) (by show ((R.val * 2 + h.val) * 1 + 0) / 2 = R.val; omega)
      (by show ((R.val * 2 + h.val) * 1 + 0) % 2 = h.val; omega) rfl)).trans ?_
    exact congrArg₂ (fun s t : EReal => s * t) (v168_at x0 R k h) (v297_at x3 x9 R k h)
  have e3 : val_main_v308 (F := Ideal) x0 x3 x9 (ix3 R h d)
      = Ideal.div ((∑ k, xk x0 R h k * (ekr x3 R h k * x9 (ix1 k))) * (Ideal.ofBits .f32 0xBF000000#32 * Ideal.div (Ideal.rsqrt (vare (xk x0 R h))) (vare (xk x0 R h)))) (Ideal.ofBits .f32 0x42800000#32) := by
    rw [val_main_v308_apply, val_main_v307_apply, show val_main_cst_38 (F := Ideal) (Shape.Idx.first (by decide)) = (0 : EReal) from Ideal.ofBits_zero_f32, zero_add]
    rw [Fin.sum_univ_one]
    refine (congrArg (val_main_v306 (F := Ideal) x0 x3 x9) (ix3_of (R := R) (h := h) (d := 0) rfl rfl rfl)).trans ?_
    exact congrArg₂ (fun s t : EReal => Ideal.div (s * t) (Ideal.ofBits .f32 0x42800000#32)) e2 (v181_at x0 R h)
  exact congrArg₂ (fun s t : EReal => s + t) (congrArg₂ (fun s t : EReal => s * t) (v297_at x3 x9 R d h) e1)
    (congrArg₂ (fun s t : EReal => s * t) e3 (congrArg (fun t : EReal => Ideal.ofBits .f32 0x40000000#32 * t) (v168_at x0 R d h)))
theorem v311_at : val_main_v311 (F := Ideal) x0 x3 x9 (ix2 R (hcol 0 2 (by decide) h d)) = grad' (ekr x3 R h) (fun k => x9 (ix1 k)) (xk x0 R h) d := by
  rw [val_main_v311_apply]
  exact (congrArg (val_main_v310 (F := Ideal) x0 x3 x9) (ix3_of (R := R) (h := h) (d := d) (by show (R.val * 128 + (0 + (64 * h.val + d.val))) / 128 = R.val; omega)
    (by show (R.val * 128 + (0 + (64 * h.val + d.val))) / 64 % 2 = h.val; omega) (by show (R.val * 128 + (0 + (64 * h.val + d.val))) % 64 = d.val; omega))).trans
    (v310_at x0 x3 x9 R d h)
end K

/-- The gradient of the keys' norm weight. -/
theorem v298_at : val_main_v298 (F := Ideal) x0 x3 (ix1 d) = ∑ R, ∑ h, xk x0 R h d * Ideal.rsqrt (vare (xk x0 R h)) * ekr x3 R h d := by
  refine (reduce01 (M := 1) (n := 1) (val_main_v295 (F := Ideal) x0 x3) _ _ _ (fun _ => Ideal.ofBits_zero_f32) d).trans ?_
  rw [Fin.sum_univ_one, Fin.sum_univ_one, val_main_v295_apply]
  refine (congrArg (val_main_v294 (F := Ideal) x0 x3) (eq_ix1 _)).trans ?_
  refine (reduce01 (val_main_v293 (F := Ideal) x0 x3) _ _ _ (fun _ => Ideal.ofBits_zero_f32) _).trans ?_
  refine Finset.sum_congr rfl fun R _ => Finset.sum_congr rfl fun h _ => ?_
  refine (congrArg (val_main_v293 (F := Ideal) x0 x3) (ix3_of (R := R) (h := h) (d := d) rfl rfl (by show (0 * 1 + 0) * 64 + d.val = d.val; omega))).trans ?_
  exact congrArg₂ (fun s t : EReal => s * t) (v183_at x0 R d h) (v292_at x3 R d h)

/-! ### The pieces of the first result -/

/-- Nine pieces side by side. -/
def cat9 (p0 p1 p2 : FVec Ideal S8192x256 .f32) (p3 : FVec Ideal S8192x512 .f32) (p4 p5 : FVec Ideal S8192x128 .f32) (p6 p7 p8 : FVec Ideal S8192x256 .f32) : FVec Ideal S8192x2304 .f32 :=
  concatenate S8192x2304 1 [⟨S8192x256, p0⟩, ⟨S8192x256, p1⟩, ⟨S8192x256, p2⟩, ⟨S8192x512, p3⟩, ⟨S8192x128, p4⟩, ⟨S8192x128, p5⟩, ⟨S8192x256, p6⟩, ⟨S8192x256, p7⟩, ⟨S8192x256, p8⟩]
    concatenates_S8192x256_S8192x256_S8192x256_S8192x512_S8192x128_S8192x128_S8192x256_S8192x256_S8192x256_S8192x2304_d1
theorem v420_eq : val_main_v420 (F := Ideal) x0 x1 x2 x3 x4 x5 x6 x7 x8 x9
    = cat9 (val_main_v418 (F := Ideal) x1) (val_main_v393 (F := Ideal) x1) (val_main_v3 (F := Ideal) x1) (val_main_v370 (F := Ideal) x0 x2 x8) (val_main_v311 (F := Ideal) x0 x3 x9) x4
      (val_main_v254 (F := Ideal) x5) x6 x7 := rfl

section Cat
variable (p0 p1 p2 : FVec Ideal S8192x256 .f32) (p3 : FVec Ideal S8192x512 .f32) (p4 p5 : FVec Ideal S8192x128 .f32) (p6 p7 p8 : FVec Ideal S8192x256 .f32)

/-- The list of the pieces. -/
def pieces : List ((s : Shape) × (s.Idx → EReal)) :=
  [⟨S8192x256, p0⟩, ⟨S8192x256, p1⟩, ⟨S8192x256, p2⟩, ⟨S8192x512, p3⟩, ⟨S8192x128, p4⟩, ⟨S8192x128, p5⟩, ⟨S8192x256, p6⟩, ⟨S8192x256, p7⟩, ⟨S8192x256, p8⟩]

/-- Piece `k`, of `w` columns after `o` others. -/
theorem cat9_at (k o w : ℕ) (hk : k < 9) (x : (⟨2, ![8192, w]⟩ : Shape).Idx → EReal) (hx : (pieces p0 p1 p2 p3 p4 p5 p6 p7 p8)[k]'hk = ⟨⟨2, ![8192, w]⟩, x⟩)
    (hp : (((((pieces p0 p1 p2 p3 p4 p5 p6 p7 p8).take k).map (·.1)).map fun s => if h : s.rank = S8192x2304.rank then s.size ((1 : Fin S8192x2304.rank).cast h.symm) else 0).sum = o))
    (R : Fin 8192) (j : Fin w) (h : o + j.val < 2304) :
    cat9 p0 p1 p2 p3 p4 p5 p6 p7 p8 (ix2 R ⟨o + j.val, h⟩) = x (ix2 R j) :=
  concatenate_apply_piece (t := S8192x2304) 1 (pieces p0 p1 p2 p3 p4 p5 p6 p7 p8) _ (ix2 R ⟨o + j.val, h⟩) k hk ⟨2, ![8192, w]⟩ x hx rfl o hp (ix2 R j)
    (fun x hx => match x with | ⟨0, _⟩ => rfl | ⟨1, _⟩ => absurd rfl hx) rfl

end Cat

/-! ### The tables are real -/

theorem cos_real (x : EReal) (h : ∃ r : ℝ, x = r) : ∃ r : ℝ, Ideal.cos x = r := by obtain ⟨r, rfl⟩ := h; exact ⟨Real.cos r, rfl⟩
theorem sin_real (x : EReal) (h : ∃ r : ℝ, x = r) : ∃ r : ℝ, Ideal.sin x = r := by obtain ⟨r, rfl⟩ := h; exact ⟨Real.sin r, rfl⟩
theorem lit_16 : Ideal.ofBits .f32 0x41800000#32 = ((16 : ℝ) : EReal) := by
  simp [Ideal.ofBits, Ideal.ieee]; rw [← EReal.coe_mul]; norm_num
theorem lit_base : ∃ r : ℝ, Ideal.ofBits .f32 0x461C4000#32 = (r : EReal) :=
  ⟨_, by simp [Ideal.ofBits, Ideal.ieee]; rw [← EReal.coe_mul]⟩
/-- A whole number times a power of the base is real. -/
theorem angle_real (a b : ℤ) : ∃ r : ℝ, ((a : ℝ) : EReal) * Ideal.pow (Ideal.ofBits .f32 0x461C4000#32) (Ideal.div (-((b : ℝ) : EReal)) (Ideal.ofBits .f32 0x41800000#32)) = r := by
  obtain ⟨e, he⟩ := lit_base
  rw [he, lit_16, ← EReal.coe_neg, ediv_coe _ _ (by norm_num)]
  exact ⟨a * Real.rpow e (-(b : ℝ) / 16), (EReal.coe_mul _ _).symm⟩

theorem v115_real (i : S8192x16.Idx) : ∃ r : ℝ, val_main_v115 (F := Ideal) i = (r : EReal) := angle_real _ _
theorem v146_real (i : S8192x16.Idx) : ∃ r : ℝ, val_main_v146 (F := Ideal) i = (r : EReal) := angle_real _ _
theorem eqr_real (h2 : ∀ i, ∃ r : ℝ, x2 i = (r : EReal)) (h : Fin 8) : ∃ r : ℝ, eqr x2 R h d = r := by
  have l8 : ∃ r : ℝ, lit8 = (r : EReal) := ⟨_, by unfold lit8; simp [Ideal.ofBits, Ideal.ieee]; rw [← EReal.coe_mul]⟩
  refine turnB_real _ _ _ _ _ (ext_real _ fun _ => cos_real _ (v115_real _)) (ext_real _ fun _ => sin_real _ (v115_real _)) (ext_real _ fun _ => cos_real _ (v146_real _))
    (ext_real _ fun _ => sin_real _ (v146_real _)) (ext_real _ fun q => ?_) _
  obtain ⟨a, ha⟩ := h2 (ix2 R (hcol 0 8 (by decide) h q)); obtain ⟨b, hb⟩ := l8
  exact ⟨a * b, by rw [ha, hb, EReal.coe_mul]⟩
theorem ekr_real (h3 : ∀ i, ∃ r : ℝ, x3 i = (r : EReal)) (h : Fin 2) : ∃ r : ℝ, ekr x3 R h d = r :=
  turnB_real _ _ _ _ _ (ext_real _ fun _ => cos_real _ (v115_real _)) (ext_real _ fun _ => sin_real _ (v115_real _)) (ext_real _ fun _ => cos_real _ (v146_real _))
    (ext_real _ fun _ => sin_real _ (v146_real _)) (ext_real _ fun _ => h3 _) _

end Cert.PrepRefIdeal.Val
end
-- ==== Proof.Prep.Host.lean ====
module

public import proofs.«01_k».proof.Proof.Prep.Arrays
public import proofs.«01_k».proof.Proof.Prep.Rope
public import proofs.«01_k».proof.Proof.Prep.Group
public import proofs.«01_k».proof.Proof.Prep.Ref

/-! What the host prepares for the prep call: the rotation tables, twice side by side for the two heads of a block, the
norms' weights likewise, and the matrix that averages over a head. -/

@[expose] public section

set_option maxRecDepth 16384

noncomputable section

namespace Cert.PrepIdeal.Val

open Idealize.ShloMosaic Idealize.ShloMosaic.TcCoe Idealize.ShloMosaic.Tactic Idealize.SL.Sem Cert.PrepIdeal Cert.PrepIdeal.Gen
open Idealize.ShloMosaic.ValueIdx Cert.Proof Cert.Proof.Prep Cert.PrepRefIdeal.Read Cert.PrepIdeal.Facts
open Cert.PrepRefIdeal.Val (cA sA cR sR cC sC)

/-! ### The lines as functions -/

/-- A row of 64, twice. -/
def twice (x : FVec Ideal S8192x64 .f32) : FVec Ideal S8192x128 .f32 :=
  shapeCast _ (broadcastInDim S1x8192x2x64 ![0, 1, 2, 3] bcast_S1x8192x1x64_S1x8192x2x64_0_1_2_3 (shapeCast S1x8192x1x64 x shapeCasts_S8192x64_S1x8192x1x64)) shapeCasts_S1x8192x2x64_S8192x128
/-- A weight of 64, twice. -/
def twice1 (x : FVec Ideal S64 .f32) : FVec Ideal S1x128 .f32 :=
  shapeCast _ (shapeCast S128 (broadcastInDim S2x64 ![0, 1] bcast_S1x64_S2x64_0_1 (shapeCast S1x64 x shapeCasts_S64_S1x64)) shapeCasts_S2x64_S128) shapeCasts_S128_S1x128

def cat8 (a b : FVec Ideal S8192x8 .f32) (z : FVec Ideal S8192x48 .f32) : FVec Ideal S8192x64 .f32 :=
  concatenate S8192x64 1 [⟨S8192x8, a⟩, ⟨S8192x8, b⟩, ⟨S8192x48, z⟩] concatenates_S8192x8_S8192x8_S8192x48_S8192x64_d1
def cat16 (a b d e : FVec Ideal S8192x16 .f32) : FVec Ideal S8192x64 .f32 :=
  concatenate S8192x64 1 [⟨S8192x16, a⟩, ⟨S8192x16, b⟩, ⟨S8192x16, d⟩, ⟨S8192x16, e⟩] concatenates_S8192x16_S8192x16_S8192x16_S8192x16_S8192x64_d1

/-- The constants of the tables. -/
def k48 (b : BitVec 32) : FVec Ideal S8192x48 .f32 := broadcastInDim S8192x48 ![] bcast_S_S8192x48 (constant S_ .f32 b)
def k8 : FVec Ideal S8192x8 .f32 := broadcastInDim S8192x8 ![] bcast_S_S8192x8 (constant S_ .f32 0x00000000#32)
def k16 : FVec Ideal S8192x16 .f32 := broadcastInDim S8192x16 ![] bcast_S_S8192x16 (constant S_ .f32 0x00000000#32)

theorem k48_apply (b : BitVec 32) (i : S8192x48.Idx) : k48 b i = Ideal.ofBits .f32 b := rfl
theorem k8_apply (i : S8192x8.Idx) : k8 i = (0 : EReal) := Ideal.ofBits_zero_f32
theorem k16_apply (i : S8192x16.Idx) : k16 i = (0 : EReal) := Ideal.ofBits_zero_f32

theorem twice_apply (x : FVec Ideal S8192x64 .f32) (R : Fin 8192) (b : Fin 2) (d : Fin 64) : twice x (ix2 R (lane b d)) = x (ix2 R d) := by
  unfold twice
  rw [shapeCast_apply _ _ (ix2 R (lane b d)) (ix4 (0 : Fin 1) R b d) (by
    rewrite [Shape.rowMajor_val_two, Shape.rowMajor_val_four]; show ((0 * 8192 + R.val) * 2 + b.val) * 64 + d.val = R.val * 128 + (64 * b.val + d.val); omega)]
  rw [broadcastInDim_apply _ _ _ (ix4 (0 : Fin 1) R b d) (ix4 (0 : Fin 1) R (0 : Fin 1) d) (fun a => match a with
    | ⟨0, _⟩ => rfl | ⟨1, _⟩ => rfl | ⟨2, _⟩ => rfl | ⟨3, _⟩ => rfl)]
  exact shapeCast_apply _ _ (ix4 (0 : Fin 1) R (0 : Fin 1) d) (ix2 R d) (by
    rewrite [Shape.rowMajor_val_two, Shape.rowMajor_val_four]; show R.val * 64 + d.val = ((0 * 8192 + R.val) * 1 + 0) * 64 + d.val; omega)

theorem twice1_apply (x : FVec Ideal S64 .f32) (b : Fin 2) (d : Fin 64) : twice1 x (ix2 0 (lane b d)) = x (ix1 d) := by
  unfold twice1
  rw [shapeCast_apply _ _ (ix2 0 (lane b d)) (ix1 (lane b d)) (by
    rewrite [Shape.rowMajor_val_two, Shape.rowMajor_val_one]; show (lane b d).val = 0 * 128 + (lane b d).val; omega)]
  rw [shapeCast_apply _ _ (ix1 (lane b d)) (ix2 b d) (by
    rewrite [Shape.rowMajor_val_two, Shape.rowMajor_val_one]; show b.val * 64 + d.val = 64 * b.val + d.val; omega)]
  rw [broadcastInDim_apply _ _ _ (ix2 b d) (ix2 0 d) (fun a => match a with | ⟨0, _⟩ => rfl | ⟨1, _⟩ => rfl)]
  exact shapeCast_apply _ _ (ix2 0 d) (ix1 d) (by
    rewrite [Shape.rowMajor_val_two, Shape.rowMajor_val_one]; show d.val = 0 * 64 + d.val; omega)

/-- Three pieces side by side. -/
theorem cat8_apply (a b : FVec Ideal S8192x8 .f32) (z : FVec Ideal S8192x48 .f32) (R : Fin 8192) (d : Fin 64) :
    cat8 a b z (ix2 R d) = if d.val < 8 then ext (fun k => a (ix2 R k)) d else if d.val < 16 then ext (fun k => b (ix2 R k)) (d - 8) else ext (fun k => z (ix2 R k)) (d - 16) := by
  unfold cat8
  split_ifs with h1 h2
  · rw [ext_of _ _ h1]
    exact concatenate_apply_piece (t := S8192x64) 1 [⟨S8192x8, a⟩, ⟨S8192x8, b⟩, ⟨S8192x48, z⟩] _ (ix2 R d) 0 (show 0 < 3 by decide) S8192x8 a rfl rfl 0 rfl (ix2 R ⟨d.val, h1⟩)
      (fun x hx => match x with | ⟨0, _⟩ => rfl | ⟨1, _⟩ => absurd rfl hx) (by show 0 + d.val = d.val; omega)
  · rw [ext_of _ _ (by omega)]
    exact concatenate_apply_piece (t := S8192x64) 1 [⟨S8192x8, a⟩, ⟨S8192x8, b⟩, ⟨S8192x48, z⟩] _ (ix2 R d) 1 (show 1 < 3 by decide) S8192x8 b rfl rfl 8 rfl (ix2 R ⟨d.val - 8, by omega⟩)
      (fun x hx => match x with | ⟨0, _⟩ => rfl | ⟨1, _⟩ => absurd rfl hx) (by show 8 + (d.val - 8) = d.val; omega)
  · rw [ext_of _ _ (by omega)]
    exact concatenate_apply_piece (t := S8192x64) 1 [⟨S8192x8, a⟩, ⟨S8192x8, b⟩, ⟨S8192x48, z⟩] _ (ix2 R d) 2 (show 2 < 3 by decide) S8192x48 z rfl rfl 16 rfl (ix2 R ⟨d.val - 16, by omega⟩)
      (fun x hx => match x with | ⟨0, _⟩ => rfl | ⟨1, _⟩ => absurd rfl hx) (by show 16 + (d.val - 16) = d.val; omega)

/-- Four pieces side by side. -/
theorem cat16_apply (a b e f : FVec Ideal S8192x16 .f32) (R : Fin 8192) (d : Fin 64) :
    cat16 a b e f (ix2 R d) = if d.val < 16 then ext (fun k => a (ix2 R k)) d else if d.val < 32 then ext (fun k => b (ix2 R k)) (d - 16)
      else if d.val < 48 then ext (fun k => e (ix2 R k)) (d - 32) else ext (fun k => f (ix2 R k)) (d - 48) := by
  unfold cat16
  have piece : ∀ (k : ℕ) (hk : k < 4) (x : FVec Ideal S8192x16 .f32) (hx : [(⟨S8192x16, a⟩ : (s : Shape) × (s.Idx → EReal)), ⟨S8192x16, b⟩, ⟨S8192x16, e⟩, ⟨S8192x16, f⟩][k] = ⟨S8192x16, x⟩)
      (hp : (((([(⟨S8192x16, a⟩ : (s : Shape) × (s.Idx → EReal)), ⟨S8192x16, b⟩, ⟨S8192x16, e⟩, ⟨S8192x16, f⟩].take k).map (·.1)).map fun s => if h : s.rank = S8192x64.rank then s.size ((1 : Fin S8192x64.rank).cast h.symm) else 0).sum = 16 * k))
      (h : 16 * k ≤ d.val) (h' : d.val - 16 * k < 16),
      concatenate S8192x64 1 [⟨S8192x16, a⟩, ⟨S8192x16, b⟩, ⟨S8192x16, e⟩, ⟨S8192x16, f⟩] concatenates_S8192x16_S8192x16_S8192x16_S8192x16_S8192x64_d1 (ix2 R d)
        = ext (fun k => x (ix2 R k)) (d - 16 * k) := fun k hk x hx hp h h' => by
    rw [ext_of _ _ h']
    exact concatenate_apply_piece (t := S8192x64) 1 [⟨S8192x16, a⟩, ⟨S8192x16, b⟩, ⟨S8192x16, e⟩, ⟨S8192x16, f⟩] _ (ix2 R d) k hk S8192x16 x hx rfl (16 * k) hp (ix2 R ⟨d.val - 16 * k, h'⟩)
      (fun x hx => match x with | ⟨0, _⟩ => rfl | ⟨1, _⟩ => absurd rfl hx) (by show 16 * k + (d.val - 16 * k) = d.val; omega)
  split_ifs with h1 h2 h3
  · exact piece 0 (by decide) a rfl rfl (by omega) (by omega)
  · exact piece 1 (by decide) b rfl rfl (by omega) (by omega)
  · exact piece 2 (by decide) e rfl rfl (by omega) (by omega)
  · exact piece 3 (by decide) f rfl rfl (by omega) (by omega)

/-! ### The arrays -/

variable (m : (ℓ : Loc nD τ sig) → Buf (Elt Ideal) ℓ) (c : Dev nD)

def X0 : FVec Ideal S8192x2304 .f32 := m ((c : Thread nD τ).loc main_arg0)
def X1 : FVec Ideal S8192x768 .f32 := m ((c : Thread nD τ).loc main_arg1)
def X2 : FVec Ideal S8192x512 .f32 := m ((c : Thread nD τ).loc main_arg2)
def X3 : FVec Ideal S8192x128 .f32 := m ((c : Thread nD τ).loc main_arg3)
def X4 : FVec Ideal S8192x128 .f32 := m ((c : Thread nD τ).loc main_arg4)
def X5 : FVec Ideal S8192x256 .f32 := m ((c : Thread nD τ).loc main_arg5)
def X6 : FVec Ideal S8192x256 .f32 := m ((c : Thread nD τ).loc main_arg6)
def X7 : FVec Ideal S8192x256 .f32 := m ((c : Thread nD τ).loc main_arg7)
def X8 : FVec Ideal S64 .f32 := m ((c : Thread nD τ).loc main_arg8)
def X9 : FVec Ideal S64 .f32 := m ((c : Thread nD τ).loc main_arg9)

theorem V_v60 : V m c main_v60 = twice (cat8 (val_main_v27 (F := Ideal)) (val_main_v27 (F := Ideal)) (k48 0x3F800000#32)) := by
  simp only [V, V0, List.flatten_cons, List.flatten_nil, List.append_nil, List.cons_append, List.nil_append]
  after_results_simp
  unfold twice cat8 k48 val_main_v27 val_main_v26 val_main_v25 val_main_v24 val_main_v23 val_main_v22 val_main_v21 val_main_v20 val_main_v19 val_main_v18 val_main_v17 val_main_v16 val_main_v15 val_main_v0 val_main_cst val_main_cst_0
  rfl
theorem V_v63 : V m c main_v63 = twice (cat8 (Host.negf (val_main_v29 (F := Ideal))) k8 (k48 0x00000000#32)) := by
  simp only [V, V0, List.flatten_cons, List.flatten_nil, List.append_nil, List.cons_append, List.nil_append]
  after_results_simp
  unfold twice cat8 k48 k8 val_main_v29 val_main_v26 val_main_v25 val_main_v24 val_main_v23 val_main_v22 val_main_v21 val_main_v20 val_main_v19 val_main_v18 val_main_v17 val_main_v16 val_main_v15 val_main_v0 val_main_cst val_main_cst_0
  rfl
theorem V_v66 : V m c main_v66 = twice (cat8 k8 (val_main_v29 (F := Ideal)) (k48 0x00000000#32)) := by
  simp only [V, V0, List.flatten_cons, List.flatten_nil, List.append_nil, List.cons_append, List.nil_append]
  after_results_simp
  unfold twice cat8 k48 k8 val_main_v29 val_main_v26 val_main_v25 val_main_v24 val_main_v23 val_main_v22 val_main_v21 val_main_v20 val_main_v19 val_main_v18 val_main_v17 val_main_v16 val_main_v15 val_main_v0 val_main_cst val_main_cst_0
  rfl
theorem V_v69 : V m c main_v69 = twice (cat16 (val_main_v116 (F := Ideal)) (val_main_v116 (F := Ideal)) (val_main_v147 (F := Ideal)) (val_main_v147 (F := Ideal))) := by
  simp only [V, V0, List.flatten_cons, List.flatten_nil, List.append_nil, List.cons_append, List.nil_append]
  after_results_simp
  unfold twice cat16 val_main_v147 val_main_v116
  rfl
theorem V_v72 : V m c main_v72 = twice (cat16 (Host.negf (val_main_v118 (F := Ideal))) k16 (Host.negf (val_main_v149 (F := Ideal))) k16) := by
  simp only [V, V0, List.flatten_cons, List.flatten_nil, List.append_nil, List.cons_append, List.nil_append]
  after_results_simp
  unfold twice cat16 k16 val_main_v118 val_main_v149
  rfl
theorem V_v75 : V m c main_v75 = twice (cat16 k16 (val_main_v118 (F := Ideal)) k16 (val_main_v149 (F := Ideal))) := by
  simp only [V, V0, List.flatten_cons, List.flatten_nil, List.append_nil, List.cons_append, List.nil_append]
  after_results_simp
  unfold twice cat16 k16 val_main_v118 val_main_v149
  rfl
theorem V_v79 : V m c main_v79 = twice1 (X8 m c) := by
  simp only [V, V0, List.flatten_cons, List.flatten_nil, List.append_nil, List.cons_append, List.nil_append]
  after_results_simp
  rfl
theorem V_v83 : V m c main_v83 = twice1 (X9 m c) := by
  simp only [V, V0, List.flatten_cons, List.flatten_nil, List.append_nil, List.cons_append, List.nil_append]
  after_results_simp
  rfl

theorem in0_eq : in0 m c = X0 m c := by
  show V m c main_arg0 = _
  simp only [V, V0, List.flatten_cons, List.flatten_nil, List.append_nil, List.cons_append, List.nil_append]
  after_results_simp
  rfl
theorem V_v84 : V m c main_v84 = truncf .bf16 (X1 m c) bitsLt_bf16_f32 := by
  simp only [V, V0, List.flatten_cons, List.flatten_nil, List.append_nil, List.cons_append, List.nil_append]
  after_results_simp
  rfl
theorem V_v85 : V m c main_v85 = truncf .bf16 (X2 m c) bitsLt_bf16_f32 := by
  simp only [V, V0, List.flatten_cons, List.flatten_nil, List.append_nil, List.cons_append, List.nil_append]
  after_results_simp
  rfl
theorem V_v86 : V m c main_v86 = truncf .bf16 (X3 m c) bitsLt_bf16_f32 := by
  simp only [V, V0, List.flatten_cons, List.flatten_nil, List.append_nil, List.cons_append, List.nil_append]
  after_results_simp
  rfl
theorem V_v87 : V m c main_v87 = truncf .bf16 (X4 m c) bitsLt_bf16_f32 := by
  simp only [V, V0, List.flatten_cons, List.flatten_nil, List.append_nil, List.cons_append, List.nil_append]
  after_results_simp
  rfl
theorem V_v88 : V m c main_v88 = truncf .bf16 (X5 m c) bitsLt_bf16_f32 := by
  simp only [V, V0, List.flatten_cons, List.flatten_nil, List.append_nil, List.cons_append, List.nil_append]
  after_results_simp
  rfl
theorem V_v89 : V m c main_v89 = truncf .bf16 (X6 m c) bitsLt_bf16_f32 := by
  simp only [V, V0, List.flatten_cons, List.flatten_nil, List.append_nil, List.cons_append, List.nil_append]
  after_results_simp
  rfl
theorem V_v90 : V m c main_v90 = truncf .bf16 (X7 m c) bitsLt_bf16_f32 := by
  simp only [V, V0, List.flatten_cons, List.flatten_nil, List.append_nil, List.cons_append, List.nil_append]
  after_results_simp
  rfl
theorem V_cst : V m c main_cst = fun i => Ideal.ofBits .f32 (Cert.PrepIdeal.lit0 (S128x128.rowMajor i)) := by
  simp only [V, V0, List.flatten_cons, List.flatten_nil, List.append_nil, List.cons_append, List.nil_append]
  after_results_simp
  rfl

theorem in1_eq : in1 m c = X1 m c := (V_v84 m c).trans rfl
theorem in2_eq : in2 m c = X1 m c := (V_v84 m c).trans rfl
theorem in3_eq : in3 m c = X1 m c := (V_v84 m c).trans rfl
theorem in4_eq : in4 m c = X2 m c := (V_v85 m c).trans rfl
theorem in5_eq : in5 m c = X3 m c := (V_v86 m c).trans rfl
theorem in6_eq : in6 m c = X4 m c := (V_v87 m c).trans rfl
theorem in7_eq : in7 m c = X5 m c := (V_v88 m c).trans rfl
theorem in8_eq : in8 m c = X6 m c := (V_v89 m c).trans rfl
theorem in9_eq : in9 m c = X7 m c := (V_v90 m c).trans rfl

/-! ### The tables of the arrays -/

variable (R : Fin 8192) (b : Fin 2) (d : Fin 64)

theorem ext_neg {w : ℕ} (f : Fin w → EReal) (d : ℕ) (h : d < w) : ext (fun k => -f k) d = -ext f d := by rw [ext_of _ _ h, ext_of _ _ h]
theorem ext_const {w : ℕ} (f : Fin w → EReal) (z : EReal) (hf : ∀ k, f k = z) (d : ℕ) (h : d < w) : ext f d = z := by rw [ext_of _ _ h, hf]

theorem in10_at : in10 m c (ix2 R (lane b d)) = tabC8 (cA R) d := by
  refine (congrFun (V_v60 m c) _).trans ((twice_apply _ _ _ _).trans ((cat8_apply _ _ _ _ _).trans ?_))
  unfold tabC8
  split_ifs with h1 h2
  · rfl
  · rfl
  · exact ext_const _ _ (fun k => (k48_apply _ _).trans Ideal.ofBits_one_f32) _ (by omega)
theorem in11_at : in11 m c (ix2 R (lane b d)) = tabS8 (sA R) d := by
  refine (congrFun (V_v63 m c) _).trans ((twice_apply _ _ _ _).trans ((cat8_apply _ _ _ _ _).trans ?_))
  unfold tabS8
  split_ifs with h1 h2
  · exact ext_neg _ _ h1
  · exact ext_const _ _ (fun k => k8_apply _) _ (by omega)
  · exact ext_const _ _ (fun k => (k48_apply _ _).trans Ideal.ofBits_zero_f32) _ (by omega)
theorem in12_at : in12 m c (ix2 R (lane b d)) = tabT8 (sA R) d := by
  refine (congrFun (V_v66 m c) _).trans ((twice_apply _ _ _ _).trans ((cat8_apply _ _ _ _ _).trans ?_))
  unfold tabT8
  split_ifs with h1 h2
  · exact ext_const _ _ (fun k => k8_apply _) _ (by omega)
  · rfl
  · exact ext_const _ _ (fun k => (k48_apply _ _).trans Ideal.ofBits_zero_f32) _ (by omega)
theorem in13_at : in13 m c (ix2 R (lane b d)) = tabC16 (cR R) (cC R) d :=
  (congrFun (V_v69 m c) _).trans ((twice_apply _ _ _ _).trans (cat16_apply _ _ _ _ _ _))
theorem in14_at : in14 m c (ix2 R (lane b d)) = tabS16 (sR R) (sC R) d := by
  refine (congrFun (V_v72 m c) _).trans ((twice_apply _ _ _ _).trans ((cat16_apply _ _ _ _ _ _).trans ?_))
  unfold tabS16
  split_ifs with h1 h2 h3
  · exact ext_neg _ _ h1
  · exact ext_const _ _ (fun k => k16_apply _) _ (by omega)
  · exact ext_neg _ _ (by omega)
  · exact ext_const _ _ (fun k => k16_apply _) _ (by omega)
theorem in15_at : in15 m c (ix2 R (lane b d)) = tabT16 (sR R) (sC R) d := by
  refine (congrFun (V_v75 m c) _).trans ((twice_apply _ _ _ _).trans ((cat16_apply _ _ _ _ _ _).trans ?_))
  unfold tabT16
  split_ifs with h1 h2 h3
  · exact ext_const _ _ (fun k => k16_apply _) _ (by omega)
  · rfl
  · exact ext_const _ _ (fun k => k16_apply _) _ (by omega)
  · rfl
theorem in16_at : in16 m c (ix2 0 (lane b d)) = X8 m c (ix1 d) := (congrFun (V_v79 m c) _).trans (twice1_apply _ _ _)
theorem in17_at : in17 m c (ix2 0 (lane b d)) = X9 m c (ix1 d) := (congrFun (V_v83 m c) _).trans (twice1_apply _ _ _)
theorem in18_at (l l' : Fin 128) : in18 m c (ix2 l l') = if l.val / 64 = l'.val / 64 then Ideal.ofBits .f32 0x3C800000#32 else 0 := by
  refine (congrFun (V_cst m c) _).trans ?_
  refine (congrArg (Ideal.ofBits .f32) (group (S128x128.rowMajor (ix2 l l')))).trans ?_
  rw [apply_ite (Ideal.ofBits .f32), Ideal.ofBits_zero_f32]
  have e : (S128x128.rowMajor (ix2 l l')).val = l.val * 128 + l'.val := Shape.rowMajor_val_two _
  refine if_congr ?_ rfl rfl
  rw [e, show (l.val * 128 + l'.val) / 128 = l.val by omega, show (l.val * 128 + l'.val) % 128 = l'.val by omega]

end Cert.PrepIdeal.Val
end
-- ==== Proof.Prep.Value.lean ====
module

public import proofs.«01_k».proof.Proof.Prep.Host

/-! The prep call's arrays read in the program's arguments, head by head, and their equation with the reference's. -/

@[expose] public section

set_option maxRecDepth 16384

noncomputable section

namespace Cert.PrepIdeal.Val

open Idealize.ShloMosaic Idealize.ShloMosaic.TcCoe Idealize.ShloMosaic.Tactic Idealize.SL.Sem Cert.PrepIdeal Cert.PrepIdeal.Gen
open Idealize.ShloMosaic.ValueIdx Cert.Proof Cert.Proof.Prep Cert.PrepRefIdeal.Read Cert.PrepIdeal.Facts
open Cert.PrepRefIdeal.Val (cA sA cR sR cC sC hcol lit8 xq eqr xk ekr)

theorem sc_eq : sc = lit8 := by
  have a : Ideal.ofBits .bf16 0x3E00#16 = ((1 / 8 : ℝ) : EReal) := by
    simp [Ideal.ofBits, Ideal.ieee]; rw [← EReal.coe_mul]; norm_num
  have b : Ideal.ofBits .f32 0x3E000000#32 = ((1 / 8 : ℝ) : EReal) := by
    simp [Ideal.ofBits, Ideal.ieee]; rw [← EReal.coe_mul]; norm_num
  exact a.trans b.symm

variable (m : (ℓ : Loc nD τ sig) → Buf (Elt Ideal) ℓ) (c : Dev nD)

/-! ### One row -/

section Row
variable (R : Fin 8192) (b : Fin 2) (d : Fin 64)

theorem ca_at (b : Fin 2) (d : Fin 64) : (rowIns m c R).ca (lane b d) = tabC8 (cA R) d := in10_at m c R b d
theorem sa_at (b : Fin 2) (d : Fin 64) : (rowIns m c R).sa (lane b d) = tabS8 (sA R) d := in11_at m c R b d
theorem sa'_at (b : Fin 2) (d : Fin 64) : (rowIns m c R).sa' (lane b d) = tabT8 (sA R) d := in12_at m c R b d
theorem cb_at (b : Fin 2) (d : Fin 64) : (rowIns m c R).cb (lane b d) = tabC16 (cR R) (cC R) d := in13_at m c R b d
theorem sb_at (b : Fin 2) (d : Fin 64) : (rowIns m c R).sb (lane b d) = tabS16 (sR R) (sC R) d := in14_at m c R b d
theorem sb'_at (b : Fin 2) (d : Fin 64) : (rowIns m c R).sb' (lane b d) = tabT16 (sR R) (sC R) d := in15_at m c R b d
theorem gm_at (l l' : Fin 128) : (rowIns m c R).gm l l' = if l.val / 64 = l'.val / 64 then Ideal.ofBits .f32 0x3C800000#32 else 0 := in18_at m c l l'

theorem rotA_at (g : Fin 128 → EReal) : rot 8 120 g (rowIns m c R).ca (rowIns m c R).sa (rowIns m c R).sa' (lane b d)
    = turnA (cA R) (sA R) (ext fun q => g (lane b q)) d := by
  have e := rot_lane 8 (by decide) (by decide) g (rowIns m c R).ca (rowIns m c R).sa (rowIns m c R).sa' (tabC8 (cA R)) (tabS8 (sA R)) (tabT8 (sA R))
    (ca_at m c R) (sa_at m c R) (sa'_at m c R) (zA1 _) (zA2 _) b d
  rw [rotA] at e
  exact e
theorem rotB_at (g : Fin 128 → EReal) : rot 16 112 g (rowIns m c R).cb (rowIns m c R).sb (rowIns m c R).sb' (lane b d)
    = turnB (cR R) (sR R) (cC R) (sC R) (ext fun q => g (lane b q)) d := by
  have e := rot_lane 16 (by decide) (by decide) g (rowIns m c R).cb (rowIns m c R).sb (rowIns m c R).sb' (tabC16 (cR R) (cC R)) (tabS16 (sR R) (sC R)) (tabT16 (sR R) (sC R))
    (cb_at m c R) (sb_at m c R) (sb'_at m c R) (zB1 _ _) (zB2 _ _) b d
  rw [rotB] at e
  exact e

theorem a1_at (o : ℕ) (ho : o + 128 ≤ 256) (l : Fin 128) (j : Fin 768) (hj : j.val = o + l.val) : seg (rowIns m c R).a1 o ho l = X1 m c (ix2 R j) :=
  (congrFun (in1_eq m c) _).trans (congrArg (fun q => X1 m c (ix2 R q)) (Fin.ext (by show 0 + (o + l.val) = j.val; omega)))
theorem a2_at (o : ℕ) (ho : o + 128 ≤ 256) (l : Fin 128) (j : Fin 768) (hj : j.val = 256 + (o + l.val)) : seg (rowIns m c R).a2 o ho l = X1 m c (ix2 R j) :=
  (congrFun (in2_eq m c) _).trans (congrArg (fun q => X1 m c (ix2 R q)) (Fin.ext hj.symm))
theorem a3_at (o : ℕ) (ho : o + 128 ≤ 256) (l : Fin 128) (j : Fin 768) (hj : j.val = 512 + (o + l.val)) : seg (rowIns m c R).a3 o ho l = X1 m c (ix2 R j) :=
  (congrFun (in3_eq m c) _).trans (congrArg (fun q => X1 m c (ix2 R q)) (Fin.ext hj.symm))
theorem b4_at (o : ℕ) (ho : o + 128 ≤ 512) (l : Fin 128) (j : Fin 512) (hj : j.val = o + l.val) : seg (rowIns m c R).b4 o ho l = X2 m c (ix2 R j) :=
  (congrFun (in4_eq m c) _).trans (congrArg (fun q => X2 m c (ix2 R q)) (Fin.ext hj.symm))
theorem b5_at (l j : Fin 128) (hj : j.val = l.val) : (rowIns m c R).b5 l = X3 m c (ix2 R j) :=
  (congrFun (in5_eq m c) _).trans (congrArg (fun q => X3 m c (ix2 R q)) (Fin.ext hj.symm))
theorem h_at (o : ℕ) (ho : o + 128 ≤ 2304) (l : Fin 128) (j : Fin 2304) (hj : j.val = o + l.val) : seg (rowIns m c R).h o ho l = X0 m c (ix2 R j) :=
  (congrFun (in0_eq m c) _).trans (congrArg (fun q => X0 m c (ix2 R q)) (Fin.ext hj.symm))

theorem eq_at (k : ℕ) (hk : 128 * k + 128 ≤ 512) (h : Fin 8) (hh : h.val = 2 * k + b.val) : eq (rowIns m c R) k hk (lane b d) = eqr (X2 m c) R h d := by
  refine (rotB_at m c R b d _).trans ?_
  refine congrArg (fun f => turnB (cR R) (sR R) (cC R) (sC R) (ext f) d) (funext fun q => ?_)
  rw [sc_eq, b4_at m c R (128 * k) hk (lane b q) (hcol 0 8 (by decide) h q) (by show 0 + (64 * h.val + q.val) = 128 * k + (64 * b.val + q.val); omega)]
theorem ek_at : ek (rowIns m c R) (lane b d) = ekr (X3 m c) R b d := by
  refine (rotB_at m c R b d _).trans ?_
  refine congrArg (fun f => turnB (cR R) (sR R) (cC R) (sC R) (ext f) d) (funext fun q => ?_)
  exact b5_at m c R (lane b q) (hcol 0 2 (by decide) b q) (by show 0 + (64 * b.val + q.val) = 64 * b.val + q.val; omega)
theorem xq_at (o k : ℕ) (ho : o + 128 ≤ 2304) (hk : o = 768 + 128 * k) (h : Fin 8) (hh : h.val = 2 * k + b.val) :
    seg (rowIns m c R).h o ho (lane b d) = xq (X0 m c) R h d :=
  h_at m c R o ho (lane b d) (hcol 768 8 (by decide) h d) (by show 768 + (64 * h.val + d.val) = o + (64 * b.val + d.val); omega)
theorem xk_at : seg (rowIns m c R).h 1280 (by decide) (lane b d) = xk (X0 m c) R b d :=
  h_at m c R 1280 (by decide) (lane b d) (hcol 1280 2 (by decide) b d) rfl

variable (h0 : ∀ i, ∃ r : ℝ, X0 m c i = (r : EReal)) (h2 : ∀ i, ∃ r : ℝ, X2 m c i = (r : EReal)) (h3 : ∀ i, ∃ r : ℝ, X3 m c i = (r : EReal))
  (h8 : ∀ i, ∃ r : ℝ, X8 m c i = (r : EReal)) (h9 : ∀ i, ∃ r : ℝ, X9 m c i = (r : EReal))
include h0

theorem gradq (h2 : ∀ i, ∃ r : ℝ, X2 m c i = (r : EReal)) (h8 : ∀ i, ∃ r : ℝ, X8 m c i = (r : EReal)) (o k : ℕ) (ho : o + 128 ≤ 2304) (hk : o = 768 + 128 * k)
    (hk' : 128 * k + 128 ≤ 512) (h : Fin 8) (hh : h.val = 2 * k + b.val) :
    gradRow (eq (rowIns m c R) k hk') (rowIns m c R).wq (seg (rowIns m c R).h o ho) (rowIns m c R).gm (lane b d)
      = grad' (eqr (X2 m c) R h) (fun k => X8 m c (ix1 k)) (xq (X0 m c) R h) d := by
  rw [gradRow_lane _ _ (gm_at m c R) b d]
  choose f0 e0 using h0
  choose f8 e8 using h8
  choose fe ee using fun d => Cert.PrepRefIdeal.Val.eqr_real (X2 m c) R d h2 h
  rw [grad_eq (xq (X0 m c) R h) (fun d => f0 (ix2 R (hcol 768 8 (by decide) h d))) (fun d => e0 _) (eqr (X2 m c) R h) _ fe (fun k => f8 (ix1 k)) ee (fun k => e8 _) d]
  have a : (fun d => eq (rowIns m c R) k hk' (lane b d)) = eqr (X2 m c) R h := funext fun q => eq_at m c R b q k hk' h hh
  have w : (fun d => (rowIns m c R).wq (lane b d)) = fun k => X8 m c (ix1 k) := funext fun q => in16_at m c b q
  have x : (fun d => seg (rowIns m c R).h o ho (lane b d)) = xq (X0 m c) R h := funext fun q => xq_at m c R b q o k ho hk h hh
  rw [a, w, x]
theorem gradk (h3 : ∀ i, ∃ r : ℝ, X3 m c i = (r : EReal)) (h9 : ∀ i, ∃ r : ℝ, X9 m c i = (r : EReal)) :
    gradRow (ek (rowIns m c R)) (rowIns m c R).wk (seg (rowIns m c R).h 1280 (by decide)) (rowIns m c R).gm (lane b d)
      = grad' (ekr (X3 m c) R b) (fun k => X9 m c (ix1 k)) (xk (X0 m c) R b) d := by
  rw [gradRow_lane _ _ (gm_at m c R) b d]
  choose f0 e0 using h0
  choose f9 e9 using h9
  choose fe ee using fun d => Cert.PrepRefIdeal.Val.ekr_real (X3 m c) R d h3 b
  rw [grad_eq (xk (X0 m c) R b) (fun d => f0 (ix2 R (hcol 1280 2 (by decide) b d))) (fun d => e0 _) (ekr (X3 m c) R b) _ fe (fun k => f9 (ix1 k)) ee (fun k => e9 _) d]
  have a : (fun d => ek (rowIns m c R) (lane b d)) = ekr (X3 m c) R b := funext fun q => ek_at m c R b q
  have w : (fun d => (rowIns m c R).wk (lane b d)) = fun k => X9 m c (ix1 k) := funext fun q => in17_at m c b q
  have x : (fun d => seg (rowIns m c R).h 1280 (by decide) (lane b d)) = xk (X0 m c) R b := funext fun q => xk_at m c R b q
  rw [a, w, x]

theorem dq_lane (k : ℕ) (hk : k < 4) (h : Fin 8) (hh : h.val = 2 * k + b.val) :
    dq (rowIns m c R) k (lane b d) = xq (X0 m c) R h d * Ideal.rsqrt (vare (xq (X0 m c) R h)) * eqr (X2 m c) R h d := by
  choose f0 e0 using h0
  have main : ∀ (o : ℕ) (ho : o + 128 ≤ 2304) (hk' : 128 * k + 128 ≤ 512) (hk : o = 768 + 128 * k),
      dn (rowIns m c R) (eq (rowIns m c R) k hk') (seg (rowIns m c R).h o ho) (lane b d)
        = xq (X0 m c) R h d * Ideal.rsqrt (vare (xq (X0 m c) R h)) * eqr (X2 m c) R h d := fun o ho hk' hk => by
    unfold dn
    have x : (fun d => seg (rowIns m c R).h o ho (lane b d)) = xq (X0 m c) R h := funext fun q => xq_at m c R b q o k ho hk h hh
    rw [rstdRow_lane _ _ (gm_at m c R) b d, eq_at m c R b d k hk' h hh, xq_at m c R b d o k ho hk h hh, x,
      rstd_eq (xq (X0 m c) R h) (fun d => f0 (ix2 R (hcol 768 8 (by decide) h d))) (fun d => e0 _), mul_comm]
  match k, hk with
  | 0, _ => exact main 768 _ _ rfl
  | 1, _ => exact main 896 _ _ rfl
  | 2, _ => exact main 1024 _ _ rfl
  | 3, _ => exact main 1152 _ _ rfl
theorem dk_lane : dk (rowIns m c R) (lane b d) = xk (X0 m c) R b d * Ideal.rsqrt (vare (xk (X0 m c) R b)) * ekr (X3 m c) R b d := by
  choose f0 e0 using h0
  unfold dk dn
  have x : (fun d => seg (rowIns m c R).h 1280 (by decide) (lane b d)) = xk (X0 m c) R b := funext fun q => xk_at m c R b q
  rw [rstdRow_lane _ _ (gm_at m c R) b d, ek_at m c R b d, xk_at m c R b d, x,
    rstd_eq (xk (X0 m c) R b) (fun d => f0 (ix2 R (hcol 1280 2 (by decide) b d))) (fun d => e0 _), mul_comm]

end Row

end Cert.PrepIdeal.Val
end
-- ==== Proof.Prep.Whole.lean ====
module

public import proofs.«01_k».proof.Proof.Prep.Value

/-! The whole prep call: its three results are the reference's, and its run. -/

@[expose] public section

set_option maxRecDepth 16384

noncomputable section

namespace Cert.PrepIdeal.Val

open Idealize.ShloMosaic Idealize.ShloMosaic.TcCoe Idealize.ShloMosaic.Tactic Idealize.SL.Sem Cert.PrepIdeal Cert.PrepIdeal.Gen
open Idealize.ShloMosaic.ValueIdx Cert.Proof Cert.Proof.Prep Cert.PrepRefIdeal.Read Cert.PrepIdeal.Facts
open Cert.PrepRefIdeal.Val (cA sA cR sR cC sC hcol lit8 xq eqr xk ekr cat9 cat9_at v420_eq)

variable (m : (ℓ : Loc nD τ sig) → Buf (Elt Ideal) ℓ) (ρ : Dev nD → PrngReg) (c : Dev nD)

/-- The reference's results at the program's arguments. -/
def Y0 : S8192x2304.Idx → EReal :=
  val_main_v420 (F := Ideal) (X0 m c) (X1 m c) (X2 m c) (X3 m c) (X4 m c) (X5 m c) (X6 m c) (X7 m c) (X8 m c) (X9 m c)
def Y1 : S64.Idx → EReal := val_main_v357 (F := Ideal) (X0 m c) (X2 m c)
def Y2 : S64.Idx → EReal := val_main_v298 (F := Ideal) (X0 m c) (X3 m c)

section First
variable (R : Fin 8192) (b : Fin 2) (d : Fin 64)

/-- The first result in one of its pieces. -/
theorem piece (k o w : ℕ) (hk : k < 9) (x : (⟨2, ![8192, w]⟩ : Shape).Idx → EReal)
    (hx : (Cert.PrepRefIdeal.Val.pieces (val_main_v418 (F := Ideal) (X1 m c)) (val_main_v393 (F := Ideal) (X1 m c)) (val_main_v3 (F := Ideal) (X1 m c))
      (val_main_v370 (F := Ideal) (X0 m c) (X2 m c) (X8 m c)) (val_main_v311 (F := Ideal) (X0 m c) (X3 m c) (X9 m c)) (X4 m c) (val_main_v254 (F := Ideal) (X5 m c)) (X6 m c) (X7 m c))[k]'hk
        = ⟨⟨2, ![8192, w]⟩, x⟩)
    (hp : (((((Cert.PrepRefIdeal.Val.pieces (val_main_v418 (F := Ideal) (X1 m c)) (val_main_v393 (F := Ideal) (X1 m c)) (val_main_v3 (F := Ideal) (X1 m c))
      (val_main_v370 (F := Ideal) (X0 m c) (X2 m c) (X8 m c)) (val_main_v311 (F := Ideal) (X0 m c) (X3 m c) (X9 m c)) (X4 m c) (val_main_v254 (F := Ideal) (X5 m c)) (X6 m c) (X7 m c)).take k).map (·.1)).map
        fun s => if h : s.rank = S8192x2304.rank then s.size ((1 : Fin S8192x2304.rank).cast h.symm) else 0).sum = o))
    (K : ℕ) (hK : K < 18) (j : Fin w) (hj : o + j.val = 128 * K + (64 * b.val + d.val)) :
    Y0 m c (ix2 R ⟨128 * K + (lane b d).val, by omega⟩) = x (ix2 R j) := by
  have h : o + j.val < 2304 := by omega
  unfold Y0
  rw [v420_eq]
  exact (congrArg (fun q => cat9 _ _ _ _ _ _ _ _ _ (ix2 R q)) (Fin.ext hj.symm : (⟨128 * K + (lane b d).val, by omega⟩ : Fin 2304) = ⟨o + j.val, h⟩)).trans
    (cat9_at _ _ _ _ _ _ _ _ _ k o w hk x hx hp R j h)

theorem blockA (K : ℕ) (hK : K < 2) : rot 8 120 (fun l => seg (rowIns m c R).a1 (128 * K) (by omega) l * sc) (rowIns m c R).ca (rowIns m c R).sa (rowIns m c R).sa' (lane b d)
    = Y0 m c (ix2 R ⟨128 * K + (lane b d).val, by omega⟩) := by
  let h : Fin 4 := ⟨2 * K + b.val, by omega⟩
  rw [piece m c R b d 0 0 256 (by decide) _ rfl rfl K (by omega) (hcol 0 4 (by decide) h d) (by show 0 + (0 + (64 * (2 * K + b.val) + d.val)) = _; omega),
    Cert.PrepRefIdeal.Val.v418_at, rotA_at]
  refine congrArg (fun f => turnA (cA R) (sA R) (ext f) d) (funext fun q => ?_)
  rw [sc_eq, a1_at m c R (128 * K) (by omega) (lane b q) (hcol 0 4 (by decide) h q) (by show 0 + (64 * (2 * K + b.val) + q.val) = 128 * K + (64 * b.val + q.val); omega)]
theorem blockK (K : ℕ) (hK : K < 2) : rot 8 120 (seg (rowIns m c R).a2 (128 * K) (by omega)) (rowIns m c R).ca (rowIns m c R).sa (rowIns m c R).sa' (lane b d)
    = Y0 m c (ix2 R ⟨128 * (2 + K) + (lane b d).val, by omega⟩) := by
  let h : Fin 4 := ⟨2 * K + b.val, by omega⟩
  rw [piece m c R b d 1 256 256 (by decide) _ rfl rfl (2 + K) (by omega) (hcol 0 4 (by decide) h d) (by show 256 + (0 + (64 * (2 * K + b.val) + d.val)) = _; omega),
    Cert.PrepRefIdeal.Val.v393_at, rotA_at]
  refine congrArg (fun f => turnA (cA R) (sA R) (ext f) d) (funext fun q => ?_)
  exact a2_at m c R (128 * K) (by omega) (lane b q) (hcol 256 4 (by decide) h q) (by show 256 + (64 * (2 * K + b.val) + q.val) = 256 + (128 * K + (64 * b.val + q.val)); omega)
theorem blockV (K : ℕ) (hK : K < 2) : seg (rowIns m c R).a3 (128 * K) (by omega) (lane b d) = Y0 m c (ix2 R ⟨128 * (4 + K) + (lane b d).val, by omega⟩) := by
  rw [piece m c R b d 2 512 256 (by decide) _ rfl rfl (4 + K) (by omega) ⟨128 * K + (lane b d).val, by omega⟩ (by show 512 + (128 * K + (64 * b.val + d.val)) = _; omega),
    val_main_v3_apply]
  exact (a3_at m c R (128 * K) (by omega) (lane b d) ⟨512 + (128 * K + (lane b d).val), by omega⟩ rfl).trans (congrArg (X1 m c) (ix2_of rfl rfl).symm)
theorem blockC7 (K : ℕ) (hK : K < 2) : seg (rowIns m c R).c7 (128 * K) (by omega) (lane b d) * sc = Y0 m c (ix2 R ⟨128 * (12 + K) + (lane b d).val, by omega⟩) := by
  rw [piece m c R b d 6 1536 256 (by decide) _ rfl rfl (12 + K) (by omega) ⟨128 * K + (lane b d).val, by omega⟩ (by show 1536 + (128 * K + (64 * b.val + d.val)) = _; omega), sc_eq]
  exact congrArg (fun s : EReal => s * lit8) (congrFun (in7_eq m c) _)
theorem blockC8 (K : ℕ) (hK : K < 2) : seg (rowIns m c R).c8 (128 * K) (by omega) (lane b d) = Y0 m c (ix2 R ⟨128 * (14 + K) + (lane b d).val, by omega⟩) := by
  rw [piece m c R b d 7 1792 256 (by decide) _ rfl rfl (14 + K) (by omega) ⟨128 * K + (lane b d).val, by omega⟩ (by show 1792 + (128 * K + (64 * b.val + d.val)) = _; omega)]
  exact congrFun (in8_eq m c) _
theorem blockC9 (K : ℕ) (hK : K < 2) : seg (rowIns m c R).c9 (128 * K) (by omega) (lane b d) = Y0 m c (ix2 R ⟨128 * (16 + K) + (lane b d).val, by omega⟩) := by
  rw [piece m c R b d 8 2048 256 (by decide) _ rfl rfl (16 + K) (by omega) ⟨128 * K + (lane b d).val, by omega⟩ (by show 2048 + (128 * K + (64 * b.val + d.val)) = _; omega)]
  exact congrFun (in9_eq m c) _
theorem blockB6 : (rowIns m c R).b6 (lane b d) = Y0 m c (ix2 R ⟨128 * 11 + (lane b d).val, by omega⟩) := by
  rw [piece m c R b d 5 1408 128 (by decide) _ rfl rfl 11 (by omega) (lane b d) (by show 1408 + (64 * b.val + d.val) = _; omega)]
  exact congrFun (in6_eq m c) _

variable (h0 : ∀ i, ∃ r : ℝ, X0 m c i = (r : EReal))
include h0

theorem blockQ (h2 : ∀ i, ∃ r : ℝ, X2 m c i = (r : EReal)) (h8 : ∀ i, ∃ r : ℝ, X8 m c i = (r : EReal)) (o K : ℕ) (hK : K < 4) (ho : o + 128 ≤ 2304) (hoK : o = 768 + 128 * K) :
    gradRow (eq (rowIns m c R) K (by omega)) (rowIns m c R).wq (seg (rowIns m c R).h o ho) (rowIns m c R).gm (lane b d)
      = Y0 m c (ix2 R ⟨128 * (6 + K) + (lane b d).val, by omega⟩) := by
  let h : Fin 8 := ⟨2 * K + b.val, by omega⟩
  rw [piece m c R b d 3 768 512 (by decide) _ rfl rfl (6 + K) (by omega) (hcol 0 8 (by decide) h d) (by show 768 + (0 + (64 * (2 * K + b.val) + d.val)) = _; omega),
    Cert.PrepRefIdeal.Val.v370_at]
  exact gradq m c R b d h0 h2 h8 o K ho hoK (by omega) h rfl
theorem blockKB (h3 : ∀ i, ∃ r : ℝ, X3 m c i = (r : EReal)) (h9 : ∀ i, ∃ r : ℝ, X9 m c i = (r : EReal)) :
    gradRow (ek (rowIns m c R)) (rowIns m c R).wk (seg (rowIns m c R).h 1280 (by decide)) (rowIns m c R).gm (lane b d)
      = Y0 m c (ix2 R ⟨128 * 10 + (lane b d).val, by omega⟩) := by
  rw [piece m c R b d 4 1280 128 (by decide) _ rfl rfl 10 (by omega) (hcol 0 2 (by decide) b d) (by show 1280 + (0 + (64 * b.val + d.val)) = _; omega),
    Cert.PrepRefIdeal.Val.v311_at]
  exact gradk m c R b d h0 h3 h9

/-- Every block of a row is the reference's. -/
theorem dh_block (h2 : ∀ i, ∃ r : ℝ, X2 m c i = (r : EReal)) (h3 : ∀ i, ∃ r : ℝ, X3 m c i = (r : EReal)) (h8 : ∀ i, ∃ r : ℝ, X8 m c i = (r : EReal))
    (h9 : ∀ i, ∃ r : ℝ, X9 m c i = (r : EReal)) : ∀ (K : ℕ) (hK : K < 18), dh (rowIns m c R) K (lane b d) = Y0 m c (ix2 R ⟨128 * K + (lane b d).val, by omega⟩)
  | 0, _ => blockA m c R b d 0 (by decide)
  | 1, _ => blockA m c R b d 1 (by decide)
  | 2, _ => blockK m c R b d 0 (by decide)
  | 3, _ => blockK m c R b d 1 (by decide)
  | 4, _ => blockV m c R b d 0 (by decide)
  | 5, _ => blockV m c R b d 1 (by decide)
  | 6, _ => blockQ m c R b d h0 h2 h8 768 0 (by decide) _ rfl
  | 7, _ => blockQ m c R b d h0 h2 h8 896 1 (by decide) _ rfl
  | 8, _ => blockQ m c R b d h0 h2 h8 1024 2 (by decide) _ rfl
  | 9, _ => blockQ m c R b d h0 h2 h8 1152 3 (by decide) _ rfl
  | 10, _ => blockKB m c R b d h0 h3 h9
  | 11, _ => blockB6 m c R b d
  | 12, _ => blockC7 m c R b d 0 (by decide)
  | 13, _ => blockC7 m c R b d 1 (by decide)
  | 14, _ => blockC8 m c R b d 0 (by decide)
  | 15, _ => blockC8 m c R b d 1 (by decide)
  | 16, _ => blockC9 m c R b d 0 (by decide)
  | 17, _ => blockC9 m c R b d 1 (by decide)
  | _ + 18, hK => absurd hK (by omega)

end First

section Whole
variable (h0 : ∀ i, ∃ r : ℝ, X0 m c i = (r : EReal))
include h0

theorem whole_dh (h2 : ∀ i, ∃ r : ℝ, X2 m c i = (r : EReal)) (h3 : ∀ i, ∃ r : ℝ, X3 m c i = (r : EReal)) (h8 : ∀ i, ∃ r : ℝ, X8 m c i = (r : EReal))
    (h9 : ∀ i, ∃ r : ℝ, X9 m c i = (r : EReal)) : (arr_dh m c : S8192x2304.Idx → EReal) = Y0 m c := by
  funext i
  obtain ⟨R, j, rfl⟩ : ∃ R j, i = ix2 R j := ⟨i 0, i 1, eq_ix2 i⟩
  have hK : blkOf 2304 j < 18 := by unfold blkOf; omega
  obtain ⟨b, d, hl⟩ := exists_lane (lnOf 2304 j)
  show dh (rowIns m c R) (blkOf 2304 j) (lnOf 2304 j) = _
  have e := col_blk 2304 j (by have := (lnOf 2304 j).isLt; omega)
  rw [hl, dh_block m c R b d h0 h2 h3 h8 h9 _ hK]
  refine congrArg (fun q => Y0 m c (ix2 R q)) (Eq.trans (Fin.ext ?_) e)
  show 128 * blkOf 2304 j + (lane b d).val = 128 * blkOf 2304 j + (lnOf 2304 j).val
  rw [hl]

/-- The heads' rows of the two norms' gradients, added up. -/
def addQ (x : FVec Ideal S1x512 .f32) : FVec Ideal S64 .f32 :=
  Host.reduceAdd (shapeCast S8x64 x shapeCasts_S1x512_S8x64) (constant S_ .f32 0x00000000#32) reducesTo_S8x64_S64_d0 h_S_
def addK (x : FVec Ideal S1x128 .f32) : FVec Ideal S64 .f32 :=
  Host.reduceAdd (shapeCast S2x64 x shapeCasts_S1x128_S2x64) (constant S_ .f32 0x00000000#32) reducesTo_S2x64_S64_d0 h_S_

theorem whole_dq : (addQ (arr_dq m c) : S64.Idx → EReal) = Y1 m c := by
  funext i
  obtain ⟨d, rfl⟩ : ∃ d, i = ix1 d := ⟨i 0, eq_ix1 i⟩
  unfold addQ Y1
  rw [hostReduceAdd_apply, Ideal.hostReduceAdd_single reducesTo_S8x64_S64_d0 (by decide) _ _ (ix1 d), Cert.PrepRefIdeal.Val.v357_at, Finset.sum_comm]
  refine (congrArg₂ (fun s t : EReal => s + t) (Ideal.ofBits_zero_f32) rfl).trans ((zero_add _).trans ?_)
  refine Finset.sum_congr rfl fun (h : Fin 8) _ => ?_
  let b : Fin 2 := ⟨h.val % 2, by omega⟩
  refine (shapeCast_apply _ _ _ (ix2 (0 : Fin 1) (⟨64 * h.val + d.val, by omega⟩ : Fin 512)) (by
    rewrite [Shape.rowMajor_val_two, Shape.rowMajor_val_two]; show 0 * 512 + (64 * h.val + d.val) = h.val * 64 + d.val; omega)).trans ?_
  refine Finset.sum_congr rfl fun R _ => ?_
  have ek : blkOf 512 (⟨64 * h.val + d.val, by omega⟩ : Fin 512) = h.val / 2 := by show (64 * h.val + d.val) / 128 = _; omega
  have el : lnOf 512 (⟨64 * h.val + d.val, by omega⟩ : Fin 512) = lane b d := Fin.ext (by show (64 * h.val + d.val) % 128 = 64 * (h.val % 2) + d.val; omega)
  refine (congrArg₂ (fun s t => dq (rowIns m c R) s t) ek el).trans ?_
  exact dq_lane m c R b d h0 (h.val / 2) (by omega) h (by show h.val = 2 * (h.val / 2) + h.val % 2; omega)

theorem whole_dk : (addK (arr_dk m c) : S64.Idx → EReal) = Y2 m c := by
  funext i
  obtain ⟨d, rfl⟩ : ∃ d, i = ix1 d := ⟨i 0, eq_ix1 i⟩
  unfold addK Y2
  rw [hostReduceAdd_apply, Ideal.hostReduceAdd_single reducesTo_S2x64_S64_d0 (by decide) _ _ (ix1 d), Cert.PrepRefIdeal.Val.v298_at, Finset.sum_comm]
  refine (congrArg₂ (fun s t : EReal => s + t) (Ideal.ofBits_zero_f32) rfl).trans ((zero_add _).trans ?_)
  refine Finset.sum_congr rfl fun (b : Fin 2) _ => ?_
  refine (shapeCast_apply _ _ _ (ix2 (0 : Fin 1) (lane b d)) (by
    rewrite [Shape.rowMajor_val_two, Shape.rowMajor_val_two]; show 0 * 128 + (64 * b.val + d.val) = b.val * 64 + d.val; omega)).trans ?_
  exact Finset.sum_congr rfl fun R _ => dk_lane m c R b d h0

end Whole

/-! ### The run -/

theorem tail_dq : Pipeline.afterTail₀ cfgs (dats m) 0 (V0 m) [hostOps1] c main_v93 = addQ (arr_dq m c) := by
  unfold Pipeline.afterTail₀
  have e : Pipeline.withArrays spec0 c (V0 m c) (fun w => (dats m 0 c).arrAt w cfg0.N) (Proc.devRef .tc main_v91_1) = arr_dq m c :=
    (Pipeline.Dat.withArrays_arrAt (dats m 0 c) sharedIn0 (V0 m c) (A_eq m c) 20).trans (final_dq m c)
  rw [← e]
  show StableHlo.after hostOps1 _ _ = _
  after_results
  rfl
theorem tail_dk : Pipeline.afterTail₀ cfgs (dats m) 0 (V0 m) [hostOps1] c main_v95 = addK (arr_dk m c) := by
  unfold Pipeline.afterTail₀
  have e : Pipeline.withArrays spec0 c (V0 m c) (fun w => (dats m 0 c).arrAt w cfg0.N) (Proc.devRef .tc main_v91_2) = arr_dk m c :=
    (Pipeline.Dat.withArrays_arrAt (dats m 0 c) sharedIn0 (V0 m c) (A_eq m c) 21).trans (final_dk m c)
  rw [← e]
  show StableHlo.after hostOps1 _ _ = _
  after_results
  rfl

/-- The run, read. -/
theorem run_val : θ_run defs (onTc (τ := τ) (main (F := Ideal))) ⟨m, fun _ => 0, ρ⟩ fun r => ∀ c : Dev nD,
      r.2.mem ((c : Thread nD τ).loc main_v91_0) = arr_dh m c
      ∧ r.2.mem ((c : Thread nD τ).loc main_v93) = addQ (arr_dq m c)
      ∧ r.2.mem ((c : Thread nD τ).loc main_v95) = addK (arr_dk m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨((h c).1 19).trans (final_dh m c),
      ((h c).2 main_v93 (Pipeline.mem_restRefs_of main_v93 (by decide) (by decide))).trans (tail_dq m c),
      ((h c).2 main_v95 (Pipeline.mem_restRefs_of main_v95 (by decide) (by decide))).trans (tail_dk m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.PrepIdeal.Val
end
-- ==== Proof.Prep.Claims.lean ====
/- The claims about the prep backward call: the reference's frame and the equality of the three results with the
   reference's over finite arguments. -/
module

public import proofs.«01_k».proof.Defs
public import proofs.«01_k».proof.Proof.Gen.Pre_prep_finite
public import proofs.«01_k».proof.Proof.Prep.Whole
public import Idealize.ShloMosaic.Adequacy
public import Idealize.ShloMosaic.Init

@[expose] public section

set_option maxRecDepth 16384

noncomputable section

namespace Cert.Proof.Prep

open Idealize.ShloMosaic Idealize.ShloMosaic.TcCoe Idealize.SL.Sem Cert.PrepIdeal.Val

theorem frame_ref : Cert.quiescent_PrepRefIdeal := fun m ρ _ =>
  (θ_run Cert.PrepRefIdeal.defs _ _).mono (fun r h => ⟨fun c => (h c).2.2.2,
      sem_eq_zero_of_no_sems (by decide) r.2⟩)
    (Cert.PrepRefIdeal.Value.run (F := Ideal) m ρ)

theorem algebraic : Cert.algebraic_PrepIdeal_PrepRefIdeal_pre_prep_finite := by
  intro m ρ m' ρ' hpre hagree
  have h0 : ∀ c i, ∃ r : ℝ, X0 m c i = (r : EReal) := fun c i => ⟨_, real_of_finite (X0 m c) _ _ (hpre c).1 i⟩
  have h2 : ∀ c i, ∃ r : ℝ, X2 m c i = (r : EReal) := fun c i => ⟨_, real_of_finite (X2 m c) _ _ (hpre c).2.1 i⟩
  have h3 : ∀ c i, ∃ r : ℝ, X3 m c i = (r : EReal) := fun c i => ⟨_, real_of_finite (X3 m c) _ _ (hpre c).2.2.1 i⟩
  have h8 : ∀ c i, ∃ r : ℝ, X8 m c i = (r : EReal) := fun c i => ⟨_, real_of_finite (X8 m c) _ _ (hpre c).2.2.2.1 i⟩
  have h9 : ∀ c i, ∃ r : ℝ, X9 m c i = (r : EReal) := fun c i => ⟨_, real_of_finite (X9 m c) _ _ (hpre c).2.2.2.2 i⟩
  refine ⟨fun c => arr_dh m c, fun c => addQ (arr_dq m c), fun c => addK (arr_dk m c), run_val m ρ, ?_⟩
  refine (θ_run Cert.PrepRefIdeal.defs _ _).mono (fun _ h c => ⟨(h c).1.trans ?_, (h c).2.1.trans ?_, (h c).2.2.1.trans ?_, (h c).2.2.2⟩)
    (Cert.PrepRefIdeal.Value.run (F := Ideal) m' ρ')
  · obtain ⟨e0, e1, e2, e3, e4, e5, e6, e7, e8, e9⟩ := hagree c
    rw [Cert.PrepRefIdeal.Read.val_main_v420_eq]
    exact (congr (congr (congr (congr (congr (congr (congr (congr (congr (congrArg (Cert.PrepRefIdeal.Read.val_main_v420 (F := Ideal)) e0) e1) e2) e3) e4) e5) e6) e7) e8) e9).trans
      (whole_dh m c (h0 c) (h2 c) (h3 c) (h8 c) (h9 c)).symm
  · obtain ⟨e0, e1, e2, e3, e4, e5, e6, e7, e8, e9⟩ := hagree c
    rw [Cert.PrepRefIdeal.Read.val_main_v357_eq]
    exact (congrArg₂ (Cert.PrepRefIdeal.Read.val_main_v357 (F := Ideal)) e0 e2).trans (whole_dq m c (h0 c)).symm
  · obtain ⟨e0, e1, e2, e3, e4, e5, e6, e7, e8, e9⟩ := hagree c
    rw [Cert.PrepRefIdeal.Read.val_main_v298_eq]
    exact (congrArg₂ (Cert.PrepRefIdeal.Read.val_main_v298 (F := Ideal)) e0 e3).trans (whole_dk m c (h0 c)).symm

end Cert.Proof.Prep
end
-- ==== Proof.Gate.Claims.lean ====
/- The claims about the forward gates: each block of 512 rows is the sum over the three branches of the gate, a sigmoid of
   logit plus bias, times the branch's output product. The reference's gates and products are those of the backward claim. -/
module

public import proofs.«01_k».proof.Proof.Merge.Value
public import proofs.«01_k».proof.Proof.Index
public import proofs.«01_k».proof.Defs
public import proofs.«01_k».proof.Proof.Gen.GateIdeal.Value
public import proofs.«01_k».proof.Proof.Gen.GateRefIdeal.Run
public import proofs.«01_k».proof.Proof.Gen.GateRefIdeal.Read
public import Idealize.ShloMosaic.Adequacy
public import Idealize.ShloMosaic.Init

@[expose] public section

set_option maxRecDepth 16384

noncomputable section

namespace Cert.Proof.Gate

open Idealize.ShloMosaic Idealize.ShloMosaic.TcCoe Idealize.ShloMosaic.Tactic Idealize.SL.Sem Idealize.ShloMosaic.ValueIdx
open Cert.GateIdeal Cert.GateIdeal.Gen Cert.GateIdeal.Facts Cert.GateIdeal.Value Cert.GateRefIdeal.Read
open Cert.MergeIdeal.Val (gate col ld_col ix2_ext hz2 group0 group1 group2 y_ref0 y_ref1 y_ref2)

section
variable {n : ℕ} (a : (⟨2, ![n, 256]⟩ : Shape).Idx → EReal) (b : (⟨2, ![n, 512]⟩ : Shape).Idx → EReal) (c : (⟨2, ![n, 256]⟩ : Shape).Idx → EReal)
  (h : (⟨2, ![n, 3072]⟩ : Shape).Idx → EReal) (g : S1x3072.Idx → EReal) (p : S256x1024.Idx → EReal) (q : S512x1024.Idx → EReal) (s : S256x1024.Idx → EReal)

/-- A row's gated sum of the three products. -/
def mix (r : Fin n) (j : Fin 1024) : EReal :=
  gate (h (ix2 r (col 0 j))) (g (ix2 0 (col 0 j))) * (∑ i : Fin 256, a (ix2 r i) * p (ix2 i j))
    + gate (h (ix2 r (col 1 j))) (g (ix2 0 (col 1 j))) * (∑ i : Fin 512, b (ix2 r i) * q (ix2 i j))
    + gate (h (ix2 r (col 2 j))) (g (ix2 0 (col 2 j))) * (∑ i : Fin 256, c (ix2 r i) * s (ix2 i j))
end

theorem gate_at (k : Fin 3) (h : S512x1024.Idx → EReal) (g : S1x1024.Idx → EReal) (H : S512x3072.Idx → EReal) (G : S1x3072.Idx → EReal) (r : Fin 512) (j : Fin 1024)
    (eh : h (ix2 r j) = H (ix2 r (col k j))) (eg : g (ix2 0 j) = G (ix2 0 (col k j))) :
    gate (h (ix2 r j)) (broadcastTo S512x1024 g broadcasts_S1x1024_S512x1024 (ix2 r j)) = gate (H (ix2 r (col k j))) (G (ix2 0 (col k j))) := by
  rw [broadcastTo_apply _ broadcasts_S1x1024_S512x1024 (ix2 r j) (ix2 0 j) (fun a => by match a with | ⟨0, _⟩ => rfl | ⟨1, _⟩ => rfl), eh, eg]

theorem block (a c : S512x256.Idx → EReal) (b : S512x512.Idx → EReal) (h : S512x3072.Idx → EReal) (g : S1x3072.Idx → EReal) (p s : S256x1024.Idx → EReal)
    (q : S512x1024.Idx → EReal) (r : Fin 512) (j : Fin 1024) : out0_8 (F := Ideal) a b c h g p q s (ix2 r j) = mix a b c h g p q s r j := by
  unfold out0_8
  rw [View.canon_unit_zero (S := S512x1024) hz2, View.ld_unit_zero (S := S512x256) hz2, View.ld_unit_zero (S := S512x256) hz2, View.ld_unit_zero (S := S256x1024) hz2,
    View.ld_unit_zero (S := S256x1024) hz2, View.ld_unit_zero (S := S512x512) hz2, View.ld_unit_zero (S := S512x1024) hz2]
  unfold k0_pay1 k0_pay2
  simp only [shapeCast_self]
  have e0 : ∀ x : EReal, Ideal.ofBits .f32 0x00000000#32 + x = x := fun x => by rw [Ideal.ofBits_zero_f32, zero_add]
  refine congrArg₂ (fun s t : EReal => s + t) (congrArg₂ (fun s t : EReal => s + t) (congrArg₂ (fun s t : EReal => s * t) ?_ ?_) (congrArg₂ (fun s t : EReal => s * t) ?_ ?_))
    (congrArg₂ (fun s t : EReal => s * t) ?_ ?_)
  · exact gate_at 0 _ _ h g r j (ld_col (e := .f32) 0 rfl h _ _) (ld_col (e := .f32) 0 rfl g _ _)
  · exact (Ideal.matmul_plain_apply none _ _ _ r j).trans (e0 _)
  · exact gate_at 1 _ _ h g r j (ld_col (e := .f32) 1 rfl h _ _) (ld_col (e := .f32) 1 rfl g _ _)
  · exact (Ideal.matmul_plain_apply none _ _ _ r j).trans (e0 _)
  · exact gate_at 2 _ _ h g r j (ld_col (e := .f32) 2 rfl h _ _) (ld_col (e := .f32) 2 rfl g _ _)
  · exact (Ideal.matmul_plain_apply none _ _ _ r j).trans (e0 _)

theorem ref_at (a c : S8192x256.Idx → EReal) (b : S8192x512.Idx → EReal) (h : S8192x3072.Idx → EReal) (g : S1x3072.Idx → EReal) (p s : S256x1024.Idx → EReal)
    (q : S512x1024.Idx → EReal) (r : Fin 8192) (j : Fin 1024) : val_main_v23 (F := Ideal) a b c h g p q s (ix2 r j) = mix a b c h g p q s r j :=
  congrArg₂ (fun s t : EReal => s + t) (congrArg₂ (fun s t : EReal => s + t) (congrArg₂ (fun s t : EReal => s * t) (group0 h g r j) (y_ref0 a p r j))
    (congrArg₂ (fun s t : EReal => s * t) (group1 h g r j) (y_ref1 b q r j))) (congrArg₂ (fun s t : EReal => s * t) (group2 h g r j) (y_ref2 c s r j))

variable (m : (ℓ : Loc nD τ sig) → Buf (Elt Ideal) ℓ) (c : Dev nD)

/-- The result. -/
def arr : S8192x1024.Idx → EReal := fun i => mix (n := 8192) (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (i 0) (i 1)

theorem at_row : ∀ t : Fin cfg0.N, win0_0.index t = ![t.val, 0] ∧ win0_1.index t = ![t.val, 0] ∧ win0_2.index t = ![t.val, 0] ∧ win0_3.index t = ![t.val, 0]
    ∧ win0_8.index t = ![t.val, 0] := (by decide +kernel : ∀ t : Fin grid0.N, _)
theorem at_zero : ∀ t : Fin cfg0.N, win0_4.index t = ![0, 0] ∧ win0_5.index t = ![0, 0] ∧ win0_6.index t = ![0, 0] ∧ win0_7.index t = ![0, 0] :=
  (by decide +kernel : ∀ t : Fin grid0.N, _)

/-- The array's row of a block's row. -/
def row (t : Fin cfg0.N) (r : Fin 512) : Fin 8192 := ⟨512 * t.val + r.val, by have := lt_of_lt_of_eq t.isLt N_0; omega⟩

theorem rows {W : ℕ} {f : Fin 2 → ℕ} {t : Fin cfg0.N} (h : f = ![t.val, 0]) {r : Fin 512} {k : Fin W} {v : (⟨2, ![8192, W]⟩ : Shape).Idx}
    (h0 : (v 0).val = f 0 * 512 + 1 * r.val) (h1 : (v 1).val = f 1 * W + 1 * k.val) : v = ix2 (row t r) k :=
  ix2_rows ⟨congrFun h 0, congrFun h 1⟩ h0 h1 rfl
theorem same {N W : ℕ} {f : Fin 2 → ℕ} (h : f = ![0, 0]) {r : Fin N} {k : Fin W} {v : (⟨2, ![N, W]⟩ : Shape).Idx}
    (h0 : (v 0).val = f 0 * N + 1 * r.val) (h1 : (v 1).val = f 1 * W + 1 * k.val) : v = ix2 r k :=
  ix2_all ⟨congrFun h 0, congrFun h 1⟩ h0 h1

theorem final : (dats m 0 c).arrAt 8 cfg0.N = arr m c := by
  refine (dats m 0 c).arrAt_eq_of_cover 8 (arr m c) (fun t _ => ?_) fun i => ?_
  · rw [flushed8]
    funext y
    obtain ⟨r, j, rfl⟩ : ∃ (r : Fin 512) (j : Fin 1024), y = ix2 r j := ⟨y 0, y 1, eq_ix2 y⟩
    obtain ⟨a0, a1, a2, a3, a8⟩ := at_row t
    obtain ⟨z4, z5, z6, z7⟩ := at_zero t
    have e : ((cfg0.win 8).blk t).view.emb (ix2 r j) = ix2 (row t r) j := rows a8 rfl rfl
    refine (block (iblk m c 0 t) (iblk m c 2 t) (iblk m c 1 t) (iblk m c 3 t) (iblk m c 4 t) (iblk m c 5 t) (iblk m c 7 t) (iblk m c 6 t) r j).trans
      (Eq.trans ?_ (congrArg (arr m c) e.symm))
    have v0 : V m c (Pipeline.arrRef spec0 0) = m ((c : Thread nD τ).loc main_arg0) := by show StableHlo.after hostOps0 _ _ = _; after_results; rfl
    have v1 : V m c (Pipeline.arrRef spec0 1) = m ((c : Thread nD τ).loc main_arg1) := by show StableHlo.after hostOps0 _ _ = _; after_results; rfl
    have v2 : V m c (Pipeline.arrRef spec0 2) = m ((c : Thread nD τ).loc main_arg2) := by show StableHlo.after hostOps0 _ _ = _; after_results; rfl
    have v5 : V m c (Pipeline.arrRef spec0 5) = m ((c : Thread nD τ).loc main_arg5) := by show StableHlo.after hostOps0 _ _ = _; after_results; rfl
    have v6 : V m c (Pipeline.arrRef spec0 6) = m ((c : Thread nD τ).loc main_arg6) := by show StableHlo.after hostOps0 _ _ = _; after_results; rfl
    have v7 : V m c (Pipeline.arrRef spec0 7) = m ((c : Thread nD τ).loc main_arg7) := by show StableHlo.after hostOps0 _ _ = _; after_results; rfl
    have b0 : ∀ k : Fin 256, iblk m c 0 t (ix2 r k) = m ((c : Thread nD τ).loc main_arg0) (ix2 (row t r) k) := fun k => (congrFun v0 _).trans (congrArg _ (rows a0 rfl rfl))
    have b1 : ∀ k : Fin 512, iblk m c 1 t (ix2 r k) = m ((c : Thread nD τ).loc main_arg1) (ix2 (row t r) k) := fun k => (congrFun v1 _).trans (congrArg _ (rows a1 rfl rfl))
    have b2 : ∀ k : Fin 256, iblk m c 2 t (ix2 r k) = m ((c : Thread nD τ).loc main_arg2) (ix2 (row t r) k) := fun k => (congrFun v2 _).trans (congrArg _ (rows a2 rfl rfl))
    have b3 : ∀ k : Fin 3072, iblk m c 3 t (ix2 r k) = m ((c : Thread nD τ).loc main_arg3) (ix2 (row t r) k) :=
      fun k => (congrFun (V_main_arg3 m c) _).trans (congrArg _ (rows a3 rfl rfl))
    have b4 : ∀ k : Fin 3072, iblk m c 4 t (ix2 0 k) = m ((c : Thread nD τ).loc main_arg4) (ix2 0 k) :=
      fun k => (congrFun (V_main_arg4 m c) _).trans (congrArg _ (same z4 rfl rfl))
    have b5 : ∀ i : Fin 256, iblk m c 5 t (ix2 i j) = m ((c : Thread nD τ).loc main_arg5) (ix2 i j) := fun i => (congrFun v5 _).trans (congrArg _ (same z5 rfl rfl))
    have b6 : ∀ i : Fin 512, iblk m c 6 t (ix2 i j) = m ((c : Thread nD τ).loc main_arg6) (ix2 i j) := fun i => (congrFun v6 _).trans (congrArg _ (same z6 rfl rfl))
    have b7 : ∀ i : Fin 256, iblk m c 7 t (ix2 i j) = m ((c : Thread nD τ).loc main_arg7) (ix2 i j) := fun i => (congrFun v7 _).trans (congrArg _ (same z7 rfl rfl))
    show mix (n := 512) _ _ _ _ _ _ _ _ r j = mix (n := 8192) _ _ _ _ _ _ _ _ (row t r) j
    unfold mix
    simp only [b0, b1, b2, b3, b4, b5, b6, b7]
  · have h0 : (i 0 : Nat) < 8192 := (i 0).isLt
    have h1 : (i 1 : Nat) < 1024 := (i 1).isLt
    let t : Fin cfg0.N := ⟨(i 0 : Nat) / 512, lt_of_lt_of_eq (by omega) N_0.symm⟩
    have et : t.val = (i 0 : Nat) / 512 := rfl
    refine ⟨t, flush0_8 t, ?_⟩
    show i ∈ ((View.whole main_v6).slice (win0_8.rect t)).set
    rw [View.set_slice_whole, Rect.mem_set_unit]
    have a8 := (at_row t).2.2.2.2
    exact cover_blk 512 1024 ⟨congrFun a8 0, congrFun a8 1⟩ rfl rfl rfl rfl rfl rfl (show t.val * 512 ≤ _ ∧ _ < t.val * 512 + 512 by omega)
      (show 0 * 1024 ≤ _ ∧ _ < 0 * 1024 + 1024 by omega)

theorem frame_ref : Cert.quiescent_GateRefIdeal := fun m ρ _ =>
  (θ_run Cert.GateRefIdeal.defs _ _).mono (fun r h => ⟨fun c => (h c).2, sem_eq_zero_of_no_sems (by decide) r.2⟩)
    (Cert.GateRefIdeal.Value.run (F := Ideal) m ρ)

theorem algebraic : Cert.algebraic_GateIdeal_GateRefIdeal := by
  intro m ρ m' ρ' _ hagree
  refine ⟨fun c => arr m c, (θ_run defs _ _).mono (fun _ h c => ⟨(h c).1.trans (final m c), (h c).2⟩) (run_blocks m ρ), ?_⟩
  refine (θ_run Cert.GateRefIdeal.defs _ _).mono (fun _ h c => ⟨(h c).1.trans ?_, (h c).2⟩) (Cert.GateRefIdeal.Value.run (F := Ideal) m' ρ')
  obtain ⟨e0, e1, e2, e3, e4, e5, e6, e7⟩ := hagree c
  rw [val_main_v23_eq]
  refine (congr (congr (congr (congr (congr (congr (congrArg₂ (val_main_v23 (F := Ideal)) e0 e1) e2) e3) e4) e5) e6) e7).trans (funext fun i => ?_)
  exact (congrArg _ (eq_ix2 i)).trans (ref_at _ _ _ _ _ _ _ _ (i 0) (i 1))

end Cert.Proof.Gate

end
-- ==== Proof.Delta.Claims.lean ====
/- The claims about the rows' sums of output times cotangent: point `h` of the grid leaves one head's sums over its 64 lanes,
   laid out in chunks of 512 positions, which is the reference's sum reshaped and transposed. -/
module

public import proofs.«01_k».proof.Defs
public import proofs.«01_k».proof.Proof.Gen.DeltaIdeal.Value
public import proofs.«01_k».proof.Proof.Gen.DeltaRefIdeal.Run
public import proofs.«01_k».proof.Proof.Gen.DeltaRefIdeal.Read
public import proofs.«01_k».proof.Proof.Sums
public import Idealize.ShloMosaic.Lib.ValueLayout
public import Idealize.ShloMosaic.Lib.Tactic
public import Idealize.ShloMosaic.Adequacy
public import Idealize.ShloMosaic.Init

@[expose] public section

set_option maxRecDepth 16384

noncomputable section

namespace Cert.Proof.Delta

open Idealize.ShloMosaic Idealize.ShloMosaic.TcCoe Idealize.ShloMosaic.Tactic Idealize.SL.Sem Idealize.ShloMosaic.ValueIdx
open Cert.DeltaIdeal Cert.DeltaIdeal.Gen Cert.DeltaIdeal.Facts Cert.DeltaIdeal.Value Cert.DeltaRefIdeal.Read

/-- The array's row of a chunk's position, and its column of a head's lane. -/
def pos (b : Fin 16) (y : Fin 512) : Fin 8192 := ⟨512 * b.val + y.val, by omega⟩
def lane (h : Fin 8) (d : Fin 64) : Fin 512 := ⟨64 * h.val + d.val, by omega⟩

/-- What the call reads of an argument: heads first, then chunks, lanes and positions. -/
def lay (x : S8192x512.Idx → EReal) : S8x16x64x512.Idx → EReal :=
  transpose S8x16x64x512 [2, 0, 3, 1] (shapeCast S16x512x8x64 (truncf (F := Ideal) (φ := .f32) .bf16 x bitsLt_bf16_f32) shapeCasts_S8192x512_S16x512x8x64)
    transposes_S16x512x8x64_S8x16x64x512_2_0_3_1
theorem lay_at (x : S8192x512.Idx → EReal) (h : Fin 8) (b : Fin 16) (d : Fin 64) (y : Fin 512) : lay x (ix4 h b d y) = x (ix2 (pos b y) (lane h d)) := by
  unfold lay
  rw [transpose_apply _ _ _ _ (ix4 b y h d) (fun a => by match a with | ⟨0, _⟩ => rfl | ⟨1, _⟩ => rfl | ⟨2, _⟩ => rfl | ⟨3, _⟩ => rfl)]
  exact shapeCast_apply _ _ _ (ix2 (pos b y) (lane h d)) (by
    rewrite [Shape.rowMajor_val_two, Shape.rowMajor_val_four]
    show (512 * b.val + y.val) * 512 + (64 * h.val + d.val) = ((b.val * 512 + y.val) * 8 + h.val) * 64 + d.val
    omega)

/-- A head's sums. -/
def dots (x y : S8192x512.Idx → EReal) : S8x16x1x512.Idx → EReal := fun i =>
  ∑ d : Fin 64, x (ix2 (pos (i 1) (i 3)) (lane (i 0) d)) * y (ix2 (pos (i 1) (i 3)) (lane (i 0) d))

theorem block (P Q : S1x16x64x512.Idx → EReal) (u v : Fin 1) (b : Fin 16) (y : Fin 512) :
    E2 (F := Ideal) P Q (ix4 u b v y) = ∑ d : Fin 64, P (ix4 0 b d y) * Q (ix4 0 b d y) := by
  refine (Ideal.multiReduction_add_single _ _ _ _ _ _).trans (Finset.sum_congr rfl fun d _ => ?_)
  refine congrArg₂ (fun s t : EReal => s * t) ?_ ?_ <;>
  exact shapeCast_apply _ _ _ (ix4 0 b d y) (by
    rewrite [Shape.rowMajor_val_four, Shape.rowMajor_val_three]
    show ((0 * 16 + b.val) * 64 + d.val) * 512 + y.val = (b.val * 64 + d.val) * 512 + y.val
    omega)

theorem ref_eq (x y : S8192x512.Idx → EReal) : val_main_v4 (F := Ideal) x y = dots x y := by
  funext i
  obtain ⟨h, b, u, p, rfl⟩ : ∃ (h : Fin 8) (b : Fin 16) (u : Fin 1) (p : Fin 512), i = ix4 h b u p := ⟨i 0, i 1, i 2, i 3, eq_ix4 i⟩
  unfold val_main_v4
  refine (shapeCast_apply _ _ _ (ix2 h (pos b p)) (by
    rewrite [Shape.rowMajor_val_two, Shape.rowMajor_val_four]
    show h.val * 8192 + (512 * b.val + p.val) = ((h.val * 16 + b.val) * 1 + u.val) * 512 + p.val
    omega)).trans ?_
  rw [val_main_v3_apply, val_main_v2_apply, val_main_cst_apply]
  refine (congrArg (· + _) Ideal.ofBits_zero_f32).trans ((zero_add _).trans (Finset.sum_congr rfl fun d _ => ?_))
  unfold val_main_v1
  exact shapeCast_apply _ _ _ (ix2 (pos b p) (lane h d)) (by
    rewrite [Shape.rowMajor_val_two, Shape.rowMajor_val_three]
    show (512 * b.val + p.val) * 512 + (64 * h.val + d.val) = ((512 * b.val + p.val) * 8 + h.val) * 64 + d.val
    omega)

variable (m : (ℓ : Loc nD τ sig) → Buf (Elt Ideal) ℓ) (c : Dev nD)

abbrev X0 : S8192x512.Idx → EReal := m ((c : Thread nD τ).loc main_arg0)
abbrev X1 : S8192x512.Idx → EReal := m ((c : Thread nD τ).loc main_arg1)

theorem V_0 : V m c (Pipeline.arrRef spec0 0) = lay (X0 m c) := by
  show StableHlo.after hostOps0 _ _ = _
  after_results
  rfl
theorem V_1 : V m c (Pipeline.arrRef spec0 1) = lay (X1 m c) := by
  show StableHlo.after hostOps0 _ _ = _
  after_results
  rfl

theorem ix_in : ∀ t : Fin cfg0.N, (∀ a : Fin 4, win0_0.index t a = if a = 0 then t.val else 0) ∧ (∀ a : Fin 4, win0_1.index t a = if a = 0 then t.val else 0)
    ∧ ∀ a : Fin 4, win0_2.index t a = if a = 0 then t.val else 0 := (by decide +kernel : ∀ t : Fin grid0.N, _)

/-- The head of a point of the grid. -/
def hd (t : Fin cfg0.N) : Fin 8 := ⟨t.val, lt_of_lt_of_eq t.isLt N_0⟩

theorem ib_0 (t : Fin cfg0.N) (b : Fin 16) (d : Fin 64) (y : Fin 512) : iblk m c 0 t (ix4 0 b d y) = X0 m c (ix2 (pos b y) (lane (hd t) d)) := by
  refine (congrFun (V_0 m c) (((cfg0.win 0).blk t).view.emb (ix4 0 b d y))).trans ((congrArg (lay (X0 m c)) (funext fun a => Fin.ext ?_)).trans (lay_at _ (hd t) b d y))
  have e := (ix_in t).1
  match a with
  | ⟨0, _⟩ => show win0_0.index t (0 : Fin 4) * 1 + 1 * 0 = t.val; rw [e, if_pos rfl]; omega
  | ⟨1, _⟩ => show win0_0.index t (1 : Fin 4) * 16 + 1 * b.val = b.val; rw [e, if_neg (by decide)]; omega
  | ⟨2, _⟩ => show win0_0.index t (2 : Fin 4) * 64 + 1 * d.val = d.val; rw [e, if_neg (by decide)]; omega
  | ⟨3, _⟩ => show win0_0.index t (3 : Fin 4) * 512 + 1 * y.val = y.val; rw [e, if_neg (by decide)]; omega
theorem ib_1 (t : Fin cfg0.N) (b : Fin 16) (d : Fin 64) (y : Fin 512) : iblk m c 1 t (ix4 0 b d y) = X1 m c (ix2 (pos b y) (lane (hd t) d)) := by
  refine (congrFun (V_1 m c) (((cfg0.win 1).blk t).view.emb (ix4 0 b d y))).trans ((congrArg (lay (X1 m c)) (funext fun a => Fin.ext ?_)).trans (lay_at _ (hd t) b d y))
  have e := (ix_in t).2.1
  match a with
  | ⟨0, _⟩ => show win0_1.index t (0 : Fin 4) * 1 + 1 * 0 = t.val; rw [e, if_pos rfl]; omega
  | ⟨1, _⟩ => show win0_1.index t (1 : Fin 4) * 16 + 1 * b.val = b.val; rw [e, if_neg (by decide)]; omega
  | ⟨2, _⟩ => show win0_1.index t (2 : Fin 4) * 64 + 1 * d.val = d.val; rw [e, if_neg (by decide)]; omega
  | ⟨3, _⟩ => show win0_1.index t (3 : Fin 4) * 512 + 1 * y.val = y.val; rw [e, if_neg (by decide)]; omega

theorem hz4 : (![0, 0, 0, 0] : Fin 4 → ℕ) = 0 := by decide

theorem final : (dats m 0 c).arrAt 2 cfg0.N = dots (X0 m c) (X1 m c) := by
  refine (dats m 0 c).arrAt_eq_of_cover 2 (dots (X0 m c) (X1 m c)) (fun t _ => ?_) fun i => ?_
  · rw [flushed2]
    have e := (ix_in t).2.2
    funext y
    obtain ⟨u, b, v, p, rfl⟩ : ∃ (u : Fin 1) (b : Fin 16) (v : Fin 1) (p : Fin 512), y = ix4 u b v p := ⟨y 0, y 1, y 2, y 3, eq_ix4 y⟩
    show out0_2 (iblk m c 0 t) (iblk m c 1 t) (ix4 u b v p) = dots (X0 m c) (X1 m c) (((cfg0.win 2).blk t).view.emb (ix4 u b v p))
    have e2 : ((cfg0.win 2).blk t).view.emb (ix4 u b v p) = ix4 (hd t) b 0 p := by
      funext a; apply Fin.ext
      match a with
      | ⟨0, _⟩ => show win0_2.index t (0 : Fin 4) * 1 + 1 * u.val = t.val; rw [e, if_pos rfl]; omega
      | ⟨1, _⟩ => show win0_2.index t (1 : Fin 4) * 16 + 1 * b.val = b.val; rw [e, if_neg (by decide)]; omega
      | ⟨2, _⟩ => show win0_2.index t (2 : Fin 4) * 1 + 1 * v.val = 0; rw [e, if_neg (by decide)]; omega
      | ⟨3, _⟩ => show win0_2.index t (3 : Fin 4) * 512 + 1 * p.val = p.val; rw [e, if_neg (by decide)]; omega
    rw [e2]
    unfold out0_2
    rw [View.ld_unit_zero (S := S1x16x64x512) hz4, View.ld_unit_zero (S := S1x16x64x512) hz4, canon2_eq, block]
    exact Finset.sum_congr rfl fun d _ => congrArg₂ (fun s t : EReal => s * t) (ib_0 m c t b d p) (ib_1 m c t b d p)
  · have h0 : (i 0 : Nat) < 8 := (i 0).isLt
    let t : Fin cfg0.N := ⟨(i 0 : Nat), lt_of_lt_of_eq h0 N_0.symm⟩
    have e := (ix_in t).2.2
    refine ⟨t, flush0_2 t, ?_⟩
    show i ∈ ((View.whole main_v6).slice (win0_2.rect t)).set
    rw [View.set_slice_whole, Rect.mem_set_unit]
    intro a
    have h1 : (i 1 : Nat) < 16 := (i 1).isLt
    have h2 : (i 2 : Nat) < 1 := (i 2).isLt
    have h3 : (i 3 : Nat) < 512 := (i 3).isLt
    match a with
    | ⟨0, _⟩ => show win0_2.index t (0 : Fin 4) * 1 ≤ (i 0 : Nat) ∧ (i 0 : Nat) < win0_2.index t (0 : Fin 4) * 1 + 1; rw [e, if_pos rfl]; show (i 0 : Nat) * 1 ≤ _ ∧ _ < (i 0 : Nat) * 1 + 1; omega
    | ⟨1, _⟩ => show win0_2.index t (1 : Fin 4) * 16 ≤ (i 1 : Nat) ∧ (i 1 : Nat) < win0_2.index t (1 : Fin 4) * 16 + 16; rw [e, if_neg (by decide)]; omega
    | ⟨2, _⟩ => show win0_2.index t (2 : Fin 4) * 1 ≤ (i 2 : Nat) ∧ (i 2 : Nat) < win0_2.index t (2 : Fin 4) * 1 + 1; rw [e, if_neg (by decide)]; omega
    | ⟨3, _⟩ => show win0_2.index t (3 : Fin 4) * 512 ≤ (i 3 : Nat) ∧ (i 3 : Nat) < win0_2.index t (3 : Fin 4) * 512 + 512; rw [e, if_neg (by decide)]; omega

theorem frame_ref : Cert.quiescent_DeltaRefIdeal := fun m ρ _ =>
  (θ_run Cert.DeltaRefIdeal.defs _ _).mono (fun r h => ⟨fun c => (h c).2, sem_eq_zero_of_no_sems (by decide) r.2⟩)
    (Cert.DeltaRefIdeal.Value.run (F := Ideal) m ρ)

theorem algebraic : Cert.algebraic_DeltaIdeal_DeltaRefIdeal := by
  intro m ρ m' ρ' _ hagree
  refine ⟨fun c => dots (X0 m c) (X1 m c), (θ_run defs _ _).mono (fun _ h c => ⟨(h c).1.trans (final m c), (h c).2⟩) (run_blocks m ρ), ?_⟩
  refine (θ_run Cert.DeltaRefIdeal.defs _ _).mono (fun _ h c => ⟨(h c).1.trans ?_, (h c).2⟩) (Cert.DeltaRefIdeal.Value.run (F := Ideal) m' ρ')
  obtain ⟨e0, e1⟩ := hagree c
  rw [val_main_v4_eq]
  exact (congrArg₂ (val_main_v4 (F := Ideal)) e0 e1).trans (ref_eq _ _)

end Cert.Proof.Delta

end
-- ==== Proof.Dims.Claims.lean ====
/- The claims about the dilated heads' row sums of output times cotangent: point `4 h + q` of the grid leaves head `h`'s sums
   over its 64 lanes at the 2048 positions of chunk `q`. -/
module

public import proofs.«01_k».proof.Defs
public import proofs.«01_k».proof.Proof.Gen.DimsIdeal.Value
public import proofs.«01_k».proof.Proof.Gen.DimsRefIdeal.Run
public import proofs.«01_k».proof.Proof.Gen.DimsRefIdeal.Read
public import proofs.«01_k».proof.Proof.Sums
public import Idealize.ShloMosaic.Lib.ValueLayout
public import Idealize.ShloMosaic.Lib.Tactic
public import Idealize.ShloMosaic.Adequacy
public import Idealize.ShloMosaic.Init

@[expose] public section

set_option maxRecDepth 16384

noncomputable section

namespace Cert.Proof.Dims

open Idealize.ShloMosaic Idealize.ShloMosaic.TcCoe Idealize.ShloMosaic.Tactic Idealize.SL.Sem Idealize.ShloMosaic.ValueIdx
open Cert.DimsIdeal Cert.DimsIdeal.Gen Cert.DimsIdeal.Facts Cert.DimsIdeal.Value Cert.DimsRefIdeal.Read

/-- The array's column of a head's lane. -/
def lane (h : Fin 4) (d : Fin 64) : Fin 256 := ⟨64 * h.val + d.val, by omega⟩

/-- What the call reads of an argument: heads, lanes, positions. -/
def lay (x : S8192x256.Idx → EReal) : S4x64x8192.Idx → EReal :=
  transpose S4x64x8192 [1, 2, 0] (shapeCast S8192x4x64 (truncf (F := Ideal) (φ := .f32) .bf16 x bitsLt_bf16_f32) shapeCasts_S8192x256_S8192x4x64)
    transposes_S8192x4x64_S4x64x8192_1_2_0
theorem lay_at (x : S8192x256.Idx → EReal) (h : Fin 4) (d : Fin 64) (p : Fin 8192) : lay x (ix3 h d p) = x (ix2 p (lane h d)) := by
  unfold lay
  rw [transpose_apply _ _ _ _ (ix3 p h d) (fun a => by match a with | ⟨0, _⟩ => rfl | ⟨1, _⟩ => rfl | ⟨2, _⟩ => rfl)]
  exact shapeCast_apply _ _ _ (ix2 p (lane h d)) (by
    rewrite [Shape.rowMajor_val_two, Shape.rowMajor_val_three]
    show p.val * 256 + (64 * h.val + d.val) = (p.val * 4 + h.val) * 64 + d.val
    omega)

/-- Every head's sums. -/
def dots (x y : S8192x256.Idx → EReal) : S4x1x8192.Idx → EReal := fun i =>
  ∑ d : Fin 64, x (ix2 (i 2) (lane (i 0) d)) * y (ix2 (i 2) (lane (i 0) d))

theorem block (P Q : S1x64x2048.Idx → EReal) (u v : Fin 1) (y : Fin 2048) :
    E2 (F := Ideal) P Q (ix3 u v y) = ∑ d : Fin 64, P (ix3 0 d y) * Q (ix3 0 d y) := by
  refine (Ideal.multiReduction_add_single _ _ _ _ _ _).trans (Finset.sum_congr rfl fun d _ => ?_)
  refine congrArg₂ (fun s t : EReal => s * t) ?_ ?_ <;>
  exact shapeCast_apply _ _ _ (ix3 0 d y) (by
    rewrite [Shape.rowMajor_val_three, Shape.rowMajor_val_two]
    show (0 * 64 + d.val) * 2048 + y.val = d.val * 2048 + y.val
    omega)

theorem ref_eq (x y : S8192x256.Idx → EReal) : val_main_v4 (F := Ideal) x y = dots x y := funext fun i => by
  rw [val_main_v4_apply, val_main_v3_apply, val_main_v2_apply, val_main_cst_apply]
  refine (congrArg (· + _) Ideal.ofBits_zero_f32).trans ((zero_add _).trans (Finset.sum_congr rfl fun d _ => ?_))
  unfold val_main_v1
  exact shapeCast_apply _ _ _ (ix2 (i 2) (lane (i 0) d)) (by
    rewrite [Shape.rowMajor_val_two, Shape.rowMajor_val_three]
    show (i 2).val * 256 + (64 * (i 0).val + d.val) = ((i 2).val * 4 + (i 0).val) * 64 + d.val
    omega)

variable (m : (ℓ : Loc nD τ sig) → Buf (Elt Ideal) ℓ) (c : Dev nD)

abbrev X0 : S8192x256.Idx → EReal := m ((c : Thread nD τ).loc main_arg0)
abbrev X1 : S8192x256.Idx → EReal := m ((c : Thread nD τ).loc main_arg1)

theorem V_in : V m c (Pipeline.arrRef spec0 0) = lay (X0 m c) ∧ V m c (Pipeline.arrRef spec0 1) = lay (X1 m c) := by
  constructor <;>
  · show StableHlo.after hostOps0 _ _ = _
    after_results
    rfl

/-- The block of each window at a point. -/
def at3 (t : ℕ) (a : Fin 3) : ℕ := if a = 0 then t / 4 else if a = 2 then t % 4 else 0
theorem ix_at : ∀ t : Fin cfg0.N, win0_0.index t = at3 t.val ∧ win0_1.index t = at3 t.val ∧ win0_2.index t = at3 t.val := (by decide +kernel : ∀ t : Fin grid0.N, _)

/-- A point's head, and the position of a place in its chunk. -/
def hd (t : Fin cfg0.N) : Fin 4 := ⟨t.val / 4, by have := lt_of_lt_of_eq t.isLt N_0; omega⟩
def pos (t : Fin cfg0.N) (y : Fin 2048) : Fin 8192 := ⟨2048 * (t.val % 4) + y.val, by omega⟩

theorem ib_0 (t : Fin cfg0.N) (d : Fin 64) (y : Fin 2048) : iblk m c 0 t (ix3 0 d y) = X0 m c (ix2 (pos t y) (lane (hd t) d)) := by
  refine (congrFun (V_in m c).1 (((cfg0.win 0).blk t).view.emb (ix3 0 d y))).trans ((congrArg (lay (X0 m c)) (funext fun a => Fin.ext ?_)).trans (lay_at _ (hd t) d (pos t y)))
  match a with
  | ⟨0, _⟩ => show win0_0.index t (0 : Fin 3) * 1 + 1 * 0 = t.val / 4; rw [(ix_at t).1]; show t.val / 4 * 1 + _ = _; omega
  | ⟨1, _⟩ => show win0_0.index t (1 : Fin 3) * 64 + 1 * d.val = d.val; rw [(ix_at t).1]; show 0 * 64 + _ = _; omega
  | ⟨2, _⟩ => show win0_0.index t (2 : Fin 3) * 2048 + 1 * y.val = 2048 * (t.val % 4) + y.val; rw [(ix_at t).1]; show t.val % 4 * 2048 + _ = _; omega
theorem ib_1 (t : Fin cfg0.N) (d : Fin 64) (y : Fin 2048) : iblk m c 1 t (ix3 0 d y) = X1 m c (ix2 (pos t y) (lane (hd t) d)) := by
  refine (congrFun (V_in m c).2 (((cfg0.win 1).blk t).view.emb (ix3 0 d y))).trans ((congrArg (lay (X1 m c)) (funext fun a => Fin.ext ?_)).trans (lay_at _ (hd t) d (pos t y)))
  match a with
  | ⟨0, _⟩ => show win0_1.index t (0 : Fin 3) * 1 + 1 * 0 = t.val / 4; rw [(ix_at t).2.1]; show t.val / 4 * 1 + _ = _; omega
  | ⟨1, _⟩ => show win0_1.index t (1 : Fin 3) * 64 + 1 * d.val = d.val; rw [(ix_at t).2.1]; show 0 * 64 + _ = _; omega
  | ⟨2, _⟩ => show win0_1.index t (2 : Fin 3) * 2048 + 1 * y.val = 2048 * (t.val % 4) + y.val; rw [(ix_at t).2.1]; show t.val % 4 * 2048 + _ = _; omega

theorem hz3 : (![0, 0, 0] : Fin 3 → ℕ) = 0 := by decide

theorem final : (dats m 0 c).arrAt 2 cfg0.N = dots (X0 m c) (X1 m c) := by
  refine (dats m 0 c).arrAt_eq_of_cover 2 (dots (X0 m c) (X1 m c)) (fun t _ => ?_) fun i => ?_
  · rw [flushed2]
    funext y
    obtain ⟨u, v, p, rfl⟩ : ∃ (u v : Fin 1) (p : Fin 2048), y = ix3 u v p := ⟨y 0, y 1, y 2, eq_ix3 y⟩
    show out0_2 (iblk m c 0 t) (iblk m c 1 t) (ix3 u v p) = dots (X0 m c) (X1 m c) (((cfg0.win 2).blk t).view.emb (ix3 u v p))
    have e2 : ((cfg0.win 2).blk t).view.emb (ix3 u v p) = ix3 (hd t) 0 (pos t p) := by
      funext a; apply Fin.ext
      match a with
      | ⟨0, _⟩ => show win0_2.index t (0 : Fin 3) * 1 + 1 * u.val = t.val / 4; rw [(ix_at t).2.2]; show t.val / 4 * 1 + _ = _; omega
      | ⟨1, _⟩ => show win0_2.index t (1 : Fin 3) * 1 + 1 * v.val = 0; rw [(ix_at t).2.2]; show 0 * 1 + _ = _; omega
      | ⟨2, _⟩ => show win0_2.index t (2 : Fin 3) * 2048 + 1 * p.val = 2048 * (t.val % 4) + p.val; rw [(ix_at t).2.2]; show t.val % 4 * 2048 + _ = _; omega
    rw [e2]
    unfold out0_2
    rw [View.ld_unit_zero (S := S1x64x2048) hz3, View.ld_unit_zero (S := S1x64x2048) hz3, canon2_eq, block]
    exact Finset.sum_congr rfl fun d _ => congrArg₂ (fun s t : EReal => s * t) (ib_0 m c t d p) (ib_1 m c t d p)
  · have h0 : (i 0 : Nat) < 4 := (i 0).isLt
    have h1 : (i 1 : Nat) < 1 := (i 1).isLt
    have h2 : (i 2 : Nat) < 8192 := (i 2).isLt
    let t : Fin cfg0.N := ⟨4 * (i 0 : Nat) + (i 2 : Nat) / 2048, lt_of_lt_of_eq (by omega) N_0.symm⟩
    have et : t.val = 4 * (i 0 : Nat) + (i 2 : Nat) / 2048 := rfl
    refine ⟨t, flush0_2 t, ?_⟩
    show i ∈ ((View.whole main_v6).slice (win0_2.rect t)).set
    rw [View.set_slice_whole, Rect.mem_set_unit]
    intro a
    match a with
    | ⟨0, _⟩ => show win0_2.index t (0 : Fin 3) * 1 ≤ (i 0 : Nat) ∧ (i 0 : Nat) < win0_2.index t (0 : Fin 3) * 1 + 1; rw [(ix_at t).2.2]; show t.val / 4 * 1 ≤ _ ∧ _ < t.val / 4 * 1 + 1; omega
    | ⟨1, _⟩ => show win0_2.index t (1 : Fin 3) * 1 ≤ (i 1 : Nat) ∧ (i 1 : Nat) < win0_2.index t (1 : Fin 3) * 1 + 1; rw [(ix_at t).2.2]; show 0 * 1 ≤ _ ∧ _ < 0 * 1 + 1; omega
    | ⟨2, _⟩ => show win0_2.index t (2 : Fin 3) * 2048 ≤ (i 2 : Nat) ∧ (i 2 : Nat) < win0_2.index t (2 : Fin 3) * 2048 + 2048; rw [(ix_at t).2.2]; show t.val % 4 * 2048 ≤ _ ∧ _ < t.val % 4 * 2048 + 2048; omega

theorem frame_ref : Cert.quiescent_DimsRefIdeal := fun m ρ _ =>
  (θ_run Cert.DimsRefIdeal.defs _ _).mono (fun r h => ⟨fun c => (h c).2, sem_eq_zero_of_no_sems (by decide) r.2⟩)
    (Cert.DimsRefIdeal.Value.run (F := Ideal) m ρ)

theorem algebraic : Cert.algebraic_DimsIdeal_DimsRefIdeal := by
  intro m ρ m' ρ' _ hagree
  refine ⟨fun c => dots (X0 m c) (X1 m c), (θ_run defs _ _).mono (fun _ h c => ⟨(h c).1.trans (final m c), (h c).2⟩) (run_blocks m ρ), ?_⟩
  refine (θ_run Cert.DimsRefIdeal.defs _ _).mono (fun _ h c => ⟨(h c).1.trans ?_, (h c).2⟩) (Cert.DimsRefIdeal.Value.run (F := Ideal) m' ρ')
  obtain ⟨e0, e1⟩ := hagree c
  rw [val_main_v4_eq]
  exact (congrArg₂ (val_main_v4 (F := Ideal)) e0 e1).trans (ref_eq _ _)

end Cert.Proof.Dims

end
-- ==== Proof.Step.Claims.lean ====
/- The claims about the optimiser's step: both programs apply the same operations to each weight, so their results agree
   element by element, whatever the arguments. -/
module

public import proofs.«01_k».proof.Defs
public import proofs.«01_k».proof.Proof.Gen.StepIdeal.Value
public import proofs.«01_k».proof.Proof.Gen.StepRefIdeal.Run
public import proofs.«01_k».proof.Proof.Gen.StepRefIdeal.Read
public import Idealize.ShloMosaic.Adequacy
public import Idealize.ShloMosaic.Init

@[expose] public section

set_option maxRecDepth 16384

noncomputable section

namespace Cert.Proof.Step

open Idealize.ShloMosaic Idealize.ShloMosaic.TcCoe Idealize.SL.Sem Cert.StepRefIdeal.Read Cert.StepIdeal.Value

variable (g w a v : Cert.StepIdeal.S4096x672.Idx → EReal)

theorem moment1 : val_main_v4 (F := Ideal) g a = G5 (F := Ideal) g a := funext fun i => by
  simp only [val_main_v4_apply, val_main_v1_apply, val_main_v3_apply, val_main_v0_apply, val_main_v2_apply, val_main_cst_apply, val_main_cst_0_apply]
theorem moment2 : val_main_v10 (F := Ideal) g v = G6 (F := Ideal) g v := funext fun i => by
  simp only [val_main_v10_apply, val_main_v6_apply, val_main_v9_apply, val_main_v5_apply, val_main_v8_apply, val_main_v7_apply, val_main_cst_1_apply, val_main_cst_2_apply]
theorem change : val_main_v23 (F := Ideal) g w a v = G4 (F := Ideal) w g a v := funext fun i => by
  simp only [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, moment1, moment2,
    val_main_cst_3_apply, val_main_cst_4_apply, val_main_cst_5_apply, val_main_cst_6_apply, val_main_cst_7_apply]
  rfl

theorem frame_ref : Cert.quiescent_StepRefIdeal := fun m ρ _ =>
  (θ_run Cert.StepRefIdeal.defs _ _).mono (fun r h => ⟨fun c => (h c).2.2.2, sem_eq_zero_of_no_sems (by decide) r.2⟩)
    (Cert.StepRefIdeal.Value.run (F := Ideal) m ρ)

theorem algebraic : Cert.algebraic_StepIdeal_StepRefIdeal := by
  intro m ρ m' ρ' _ hagree
  refine ⟨_, _, _, run (F := Ideal) m ρ, ?_⟩
  refine (θ_run Cert.StepRefIdeal.defs _ _).mono (fun _ h c => ⟨(h c).1.trans ?_, (h c).2.1.trans ?_, (h c).2.2.1.trans ?_, (h c).2.2.2⟩)
    (Cert.StepRefIdeal.Value.run (F := Ideal) m' ρ')
  all_goals obtain ⟨e0, e1, e2, e3⟩ := hagree c
  · rw [val_main_v23_eq, e0, e1, e2, e3]; exact change _ _ _ _
  · rw [val_main_v4_eq, e0, e2]; exact moment1 _ _
  · rw [val_main_v10_eq, e0, e3]; exact moment2 _ _

end Cert.Proof.Step
end
-- ==== Proof.Small.Claims.lean ====
/- The claims about the optimiser's step on the packed small weights: the eight devices' gradients added up one by one are the
   sum over the devices, and the step that follows applies the same operations in both programs, whatever the arguments. -/
module

public import proofs.«01_k».proof.Defs
public import proofs.«01_k».proof.Proof.Gen.SmallIdeal.Value
public import proofs.«01_k».proof.Proof.Gen.SmallRefIdeal.Run
public import proofs.«01_k».proof.Proof.Gen.SmallRefIdeal.Read
public import Idealize.ShloMosaic.Adequacy
public import Idealize.ShloMosaic.Init

@[expose] public section

set_option maxRecDepth 16384

noncomputable section

namespace Cert.Proof.Small

open Idealize.ShloMosaic Idealize.ShloMosaic.TcCoe Idealize.SL.Sem Cert.SmallRefIdeal.Read Cert.SmallIdeal.Value Cert.SmallIdeal.Gen

variable (p : Vec Ideal Cert.SmallIdeal.S8x288x128 .f32) (w a v : Vec Ideal Cert.SmallIdeal.S288x128 .f32)

theorem sum : val_main_v0 (F := Ideal) p = G4 (F := Ideal) p w a v := funext fun i => by
  have e : G4 (F := Ideal) p w a v i = _ := (congrFun (View.canon_unit_zero hz4 inb_S288x128_S288x128_0_0 _) i).symm.trans
    (canon4_eq _ _ _ _ _ _ _ _ i)
  rw [val_main_v0_apply, e, Fin.sum_univ_eight, val_main_cst_apply]
  have hz : (FloatOps.ofBits .f32 0x00000000#32 : Ideal .f32) = (0 : EReal) := by show Ideal.ofBits .f32 _ = _; simp [Ideal.ofBits, Ideal.ieee]
  refine (congrArg (· + _) hz).trans ((zero_add _).trans ?_)
  have hs (r : Rect Cert.SmallIdeal.S8x288x128) (x : r.shape.Idx) (k : Fin 8) (h : ∀ b, (r.idx x b).val = (idx_main_v0 i k b).val) :
      p (idx_main_v0 i k) = View.ld p r x := (congrArg p (funext fun b => Fin.ext (h b))).symm
  refine congrArg₂ (· + ·) (congrArg₂ (· + ·) (congrArg₂ (· + ·) (congrArg₂ (· + ·) (congrArg₂ (· + ·) (congrArg₂ (· + ·) (congrArg₂ (· + ·)
    ?_ ?_) ?_) ?_) ?_) ?_) ?_) ?_
  all_goals exact hs _ _ _ fun b => by fin_cases b <;> simp [LoadRect.idx, Rect.unit]

theorem moment1 : val_main_v5 (F := Ideal) p a = G6 (F := Ideal) p w a v := funext fun i => by
  simp only [val_main_v5_apply, val_main_v2_apply, val_main_v4_apply, val_main_v1_apply, val_main_v3_apply, val_main_cst_0_apply, val_main_cst_1_apply, sum p w a v]
  unfold G6 k0_pay1 k0_pay7 k0_pay5
  simp only [View.ld_unit_zero (S := Cert.SmallIdeal.S288x128) hz4]
  rfl
theorem moment2 : val_main_v11 (F := Ideal) p v = G7 (F := Ideal) p w a v := funext fun i => by
  simp only [val_main_v11_apply, val_main_v7_apply, val_main_v10_apply, val_main_v6_apply, val_main_v9_apply, val_main_v8_apply, val_main_cst_2_apply, val_main_cst_3_apply, sum p w a v]
  rfl
theorem change : val_main_v24 (F := Ideal) p w a v = G5 (F := Ideal) p w a v := funext fun i => by
  simp only [val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_v12_apply,
    moment1 p w a v, moment2 p w a v, val_main_cst_4_apply, val_main_cst_5_apply, val_main_cst_6_apply, val_main_cst_7_apply, val_main_cst_8_apply]
  rfl

theorem frame_ref : Cert.quiescent_SmallRefIdeal := fun m ρ _ =>
  (θ_run Cert.SmallRefIdeal.defs _ _).mono (fun r h => ⟨fun c => (h c).2.2.2.2, sem_eq_zero_of_no_sems (by decide) r.2⟩)
    (Cert.SmallRefIdeal.Value.run (F := Ideal) m ρ)

theorem algebraic : Cert.algebraic_SmallIdeal_SmallRefIdeal := by
  intro m ρ m' ρ' _ hagree
  refine ⟨_, _, _, _, run (F := Ideal) m ρ, (θ_run Cert.SmallRefIdeal.defs _ _).mono (fun _ h c => ?_)
    (Cert.SmallRefIdeal.Value.run (F := Ideal) m' ρ')⟩
  obtain ⟨h0, h1, h2, h3, hk⟩ := h c
  obtain ⟨e0, e1, e2, e3⟩ := hagree c
  refine ⟨h0.trans ?_, h1.trans ?_, h2.trans ?_, h3.trans ?_, hk⟩
  · rw [val_main_v0_eq, e0]; exact sum _ _ _ _
  · rw [val_main_v24_eq, e0, e1, e2, e3]; exact change _ _ _ _
  · rw [val_main_v5_eq, e0, e2]; exact moment1 _ _ _ _
  · rw [val_main_v11_eq, e0, e3]; exact moment2 _ _ _ _

end Cert.Proof.Small
end
-- ==== Proof.Dw.Claims.lean ====
/- The claims about the product that is a weight's gradient: a block of columns adds up, over eight blocks of rows, the
   products of the rows' entries; together that is the sum over all rows. -/
module

public import proofs.«01_k».proof.Proof.Sums
public import proofs.«01_k».proof.Proof.Index
public import proofs.«01_k».proof.Defs
public import proofs.«01_k».proof.Proof.Gen.DwIdeal.Value
public import proofs.«01_k».proof.Proof.Gen.DwRefIdeal.Run
public import proofs.«01_k».proof.Proof.Gen.DwRefIdeal.Read
public import Idealize.ShloMosaic.Adequacy
public import Idealize.ShloMosaic.Init
public import Idealize.ShloMosaic.Lib.MatmulPlain

@[expose] public section

set_option maxRecDepth 16384

noncomputable section

namespace Cert.Proof.Dw

open Idealize.ShloMosaic Idealize.ShloMosaic.TcCoe Idealize.ShloMosaic.Tactic Idealize.SL.Sem Idealize.ShloMosaic.ValueIdx
open Cert.DwIdeal Cert.DwIdeal.Gen Cert.DwIdeal.Facts Cert.DwIdeal.Value Cert.DwRefIdeal.Read

theorem hz : (![0, 0] : Fin 2 → Nat) = fun _ => 0 := funext fun a => by fin_cases a <;> rfl

section Blocks
variable {F : FTy → Type} [FloatOps F] (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole) (x y : Vec F S1024x1024 .bf16) (s : Vec F S1024x1024 .f32)

/-- What the first point of a block of columns carries on, -/
theorem first (h0 : cond0_0 i) (h1 : ¬cond0_1 i) (h2 : ¬cond0_2 i) : sout0_A_0 c i a3 h3 a4 h4 a5 h5 a6 h6 h0 h1 h2 x y = k0_pay2 x y := by
  unfold sout0_A_0
  rw [View.read_writes_eq_canon _ _ _ (scover0_A_0 c i a3 h3 a4 h4 a5 h5 a6 h6 h0 h1 h2 x y)]
  unfold kernelRun0_A
  dsimp only
  rw [View.canon_unit_zero hz]
  simp only [View.readAt_eq_ld, h3.read_unread, h4.read_unread, View.ld_unit_zero (S := S1024x1024) hz]

/-- what a later one does, -/
theorem later (h0 : ¬cond0_0 i) (h1 : cond0_1 i) (h2 : ¬cond0_2 i) : sout0_B_0 c i a3 h3 a4 h4 a5 h5 a6 h6 h0 h1 h2 x y s = k0_pay3 x y s := by
  unfold sout0_B_0
  rw [View.read_writes_eq_canon _ _ _ (scover0_B_0 c i a3 h3 a4 h4 a5 h5 a6 h6 h0 h1 h2 x y s)]
  unfold kernelRun0_B
  dsimp only
  rw [View.canon_unit_zero hz]
  simp only [View.readAt_eq_ld, h3.read_unread, h4.read_unread, h6.read_unread, View.ld_unit_zero (S := S1024x1024) hz]

/-- and what the last one writes. -/
theorem last (h0 : ¬cond0_0 i) (h1 : cond0_1 i) (h2 : cond0_2 i) : out0_C_2 c i a3 h3 a4 h4 a5 h5 a6 h6 h0 h1 h2 x y s = k0_pay3 x y s := by
  unfold out0_C_2
  rw [View.read_writes_eq_canon _ _ _ (cover0_C_2 c i a3 h3 a4 h4 a5 h5 a6 h6 h0 h1 h2 x y s)]
  unfold kernelRun0_C
  dsimp only
  sl_unfold_words
  rw [View.canon_unit_zero (S := S1024x1024) hz, View.readCov_unit_zero (S := S1024x1024) _ hz]
  simp only [View.readAt_eq_ld, h3.read_unread, h4.read_unread, h6.read_unread, View.ld_unit_zero (S := S1024x1024) hz]

end Blocks

/-- A block's product, -/
theorem prod (x y : Vec Ideal S1024x1024 .bf16) (r k : Fin 1024) : k0_pay2 (F := Ideal) x y (ix2 r k) = ∑ q : Fin 1024, x (ix2 q r) * y (ix2 q k) := by
  unfold k0_pay2 k0_pay1
  dsimp only
  rw [shapeCast_self, shapeCast_self, shapeCast_self]
  refine (Ideal.matmul_constant_zero_apply (φ₁ := .bf16) (φ₂ := .bf16) dot_S1024x1024_S1024x1024_S1024x1024_0_0_1_1_n_n none x y (ix2 r k)).trans ?_
  rw [← Equiv.sum_comp (contrEquiv1 dot_S1024x1024_S1024x1024_S1024x1024_0_0_1_1_n_n 1024 rfl rfl).symm]
  refine Finset.sum_congr rfl fun q _ => ?_
  have hq := contrEquiv1_symm_val dot_S1024x1024_S1024x1024_S1024x1024_0_0_1_1_n_n 1024 rfl rfl q
  refine congrArg₂ (fun s t : EReal => s * t) (congrArg x (ix2_of hq rfl)) (congrArg y (ix2_of hq rfl))

/-- and added to what was there. -/
theorem acc (x y : Vec Ideal S1024x1024 .bf16) (s : Vec Ideal S1024x1024 .f32) (r k : Fin 1024) :
    k0_pay3 (F := Ideal) x y s (ix2 r k) = (s (ix2 r k) + k0_pay2 (F := Ideal) x y (ix2 r k) : EReal) := by
  unfold k0_pay3 k0_pay2
  rw [shapeCast_self, shapeCast_self]
  rfl

variable (m : (ℓ : Loc nD τ sig) → Buf (Elt Ideal) ℓ) (c : Dev nD)

/-- One row's contribution, and the result. -/
def term (a : S8192x1024.Idx → EReal) (d : S8192x4096.Idx → EReal) (r : Fin 1024) (j : Fin 4096) (i : Fin 8192) : EReal := a (ix2 i r) * d (ix2 i j)
def arr : S1024x4096.Idx → EReal := fun i => ∑ q : Fin 8192, term (m ((c : Thread nD τ).loc main_arg0)) (m ((c : Thread nD τ).loc main_arg1)) (i 0) (i 1) q

theorem ix_0 : ∀ t : Fin cfg0.N, win0_0.index t (0 : Fin 2) = t.val % 8 ∧ win0_0.index t (1 : Fin 2) = 0 := (by decide +kernel : ∀ t : Fin grid0.N, _)
theorem ix_1 : ∀ t : Fin cfg0.N, win0_1.index t (0 : Fin 2) = t.val % 8 ∧ win0_1.index t (1 : Fin 2) = t.val / 8 := (by decide +kernel : ∀ t : Fin grid0.N, _)
theorem ix_2 : ∀ t : Fin cfg0.N, win0_2.index t (0 : Fin 2) = 0 ∧ win0_2.index t (1 : Fin 2) = t.val / 8 := (by decide +kernel : ∀ t : Fin grid0.N, _)

/-- A row of a block of rows, a column of a block of columns. -/
def row (s : ℕ) (hs : s < 8) (i : Fin 1024) : Fin 8192 := ⟨1024 * s + i.val, by omega⟩
def col (q : Fin 4) (k : Fin 1024) : Fin 4096 := ⟨1024 * q.val + k.val, by omega⟩

theorem lt (q : Fin 4) (s : ℕ) (hs : s < 8) : 8 * q.val + s < cfg0.N := lt_of_lt_of_eq (by omega) N_0.symm

/-- A point's product of blocks, out of the arrays. -/
theorem point (q : Fin 4) (s : ℕ) (hs : s < 8) (r k : Fin 1024) :
    k0_pay2 (F := Ideal) (iblk m c 0 ⟨8 * q.val + s, lt q s hs⟩) (iblk m c 1 ⟨8 * q.val + s, lt q s hs⟩) (ix2 r k)
      = (∑ i : Fin 1024, term (m ((c : Thread nD τ).loc main_arg0)) (m ((c : Thread nD τ).loc main_arg1)) r (col q k) (row s hs i) : EReal) := by
  have v0 : V m c (Pipeline.arrRef spec0 0) = m ((c : Thread nD τ).loc main_arg0) := by show StableHlo.after hostOps0 _ _ = _; after_results; rfl
  have v1 : V m c (Pipeline.arrRef spec0 1) = m ((c : Thread nD τ).loc main_arg1) := by show StableHlo.after hostOps0 _ _ = _; after_results; rfl
  refine (prod _ _ r k).trans (Finset.sum_congr rfl fun i _ => congrArg₂ (fun s t : EReal => s * t) ((congrFun v0 _).trans (congrArg _ ?_)) ((congrFun v1 _).trans (congrArg _ ?_)))
  · exact ix2_blk (B := 1024) (W := 1024) (r := i) (k := r) (ix_0 ⟨8 * q.val + s, lt q s hs⟩) rfl rfl (by dsimp only [row]; omega) (by omega)
  · exact ix2_blk (B := 1024) (W := 1024) (r := i) (k := k) (ix_1 ⟨8 * q.val + s, lt q s hs⟩) rfl rfl (by dsimp only [row]; omega) (by dsimp only [col]; omega)

/-- What is carried on after each point: the sum over the blocks of rows so far. -/
theorem carried (q : Fin 4) (r k : Fin 1024) : ∀ (s : ℕ) (hs : s < 7), (outsAt0 m c (8 * q.val + s) (lt q s (by omega))).2 (ix2 r k)
    = (∑ t : Fin (s + 1), ∑ i : Fin 1024, term (m ((c : Thread nD τ).loc main_arg0)) (m ((c : Thread nD τ).loc main_arg1)) r (col q k) (row t.val (by omega) i) : EReal)
  | 0, hs => by
    rw [outsAt0_A m c ⟨8 * q.val + 0, lt q 0 (by omega)⟩ (by dsimp only; omega) (by dsimp only; omega) (by dsimp only; omega)]
    dsimp only
    rw [first, point, Fin.sum_univ_one]
    rfl
  | s + 1, hs => by
    rw [outsAt0_B m c ⟨8 * q.val + (s + 1), lt q (s + 1) (by omega)⟩ (by dsimp only; omega) (by dsimp only; omega) (by dsimp only; omega)]
    dsimp only
    rw [later, acc, point, Fin.sum_univ_castSucc (n := s + 1)]
    exact congrArg (· + _) (carried q r k s (by omega))

/-- What the last point of a block of columns writes. -/
theorem written (q : Fin 4) (r k : Fin 1024) : (outsAt0 m c (8 * q.val + 7) (lt q 7 (by omega))).1 (ix2 r k) = arr m c (ix2 r (col q k)) := by
  rw [outsAt0_C m c ⟨8 * q.val + 7, lt q 7 (by omega)⟩ (by dsimp only; omega) (by dsimp only; omega) (by dsimp only; omega)]
  dsimp only
  rw [last, acc, point m c q 7 (by omega)]
  refine (congrArg (· + _) (carried m c q r k 6 (by omega))).trans ?_
  refine Eq.trans ?_ (sum_tiles 8 1024 8192 rfl _).symm
  rw [Fin.sum_univ_castSucc (n := 7)]
  rfl

theorem final : (dats m 0 c).arrAt 2 cfg0.N = arr m c := by
  refine (dats m 0 c).arrAt_eq_of_cover 2 (arr m c) (fun t hf => ?_) fun i => ?_
  · rw [flushed2]
    funext y
    obtain ⟨r, k, rfl⟩ : ∃ (r : Fin 1024) (k : Fin 1024), y = ix2 r k := ⟨y 0, y 1, eq_ix2 y⟩
    have h7 : t.val % 8 = 7 := (flush0_2 t).mp hf
    have ht : t.val < 32 := lt_of_lt_of_eq t.isLt N_0
    obtain ⟨n, hn⟩ := t
    obtain ⟨q, rfl⟩ : ∃ q : Fin 4, n = 8 * q.val + 7 := ⟨⟨n / 8, by dsimp only at ht; omega⟩, by dsimp only at h7 ⊢; omega⟩
    refine (written m c q r k).trans (congrArg (arr m c) ?_).symm
    exact ix2_blk (B := 1024) (W := 1024) (r := r) (k := k) (ix_2 ⟨8 * q.val + 7, lt q 7 (by omega)⟩) rfl rfl (by omega) (by dsimp only [col]; omega)
  · have h0 : (i 0 : Nat) < 1024 := (i 0).isLt
    have h1 : (i 1 : Nat) < 4096 := (i 1).isLt
    let t : Fin cfg0.N := ⟨8 * ((i 1 : Nat) / 1024) + 7, lt_of_lt_of_eq (by omega) N_0.symm⟩
    refine ⟨t, (flush0_2 t).mpr (by dsimp only [t]; omega), ?_⟩
    show i ∈ ((View.whole main_v2).slice (win0_2.rect t)).set
    rw [View.set_slice_whole, Rect.mem_set_unit]
    exact cover_blk 1024 1024 (ix_2 t) rfl rfl rfl rfl rfl rfl (by omega) (by dsimp only [t]; omega)

theorem frame_ref : Cert.quiescent_DwRefIdeal := fun m ρ _ =>
  (θ_run Cert.DwRefIdeal.defs _ _).mono (fun r h => ⟨fun c => (h c).2, sem_eq_zero_of_no_sems (by decide) r.2⟩)
    (Cert.DwRefIdeal.Value.run (F := Ideal) m ρ)

theorem ref_at (a : S8192x1024.Idx → EReal) (d : S8192x4096.Idx → EReal) (i : S1024x4096.Idx) :
    val_main_v3 (F := Ideal) a d i = ∑ q : Fin 8192, term a d (i 0) (i 1) q := by
  rw [val_main_v3_apply]
  refine Finset.sum_congr rfl fun q _ => congrArg₂ (fun s t : EReal => s * t) ?_ ?_
  · rw [val_main_v1_apply]; exact congrArg a (ix2_of rfl rfl)
  · exact congrArg d (ix2_of rfl rfl)

theorem algebraic : Cert.algebraic_DwIdeal_DwRefIdeal := by
  intro m ρ m' ρ' _ hagree
  refine ⟨fun c => arr m c, (θ_run defs _ _).mono (fun _ h c => ⟨(h c).1.trans (final m c), (h c).2⟩) (run_blocks m ρ), ?_⟩
  refine (θ_run Cert.DwRefIdeal.defs _ _).mono (fun _ h c => ⟨(h c).1.trans ?_, (h c).2⟩) (Cert.DwRefIdeal.Value.run (F := Ideal) m' ρ')
  obtain ⟨e0, e1⟩ := hagree c
  rw [val_main_v3_eq]
  exact (congrArg₂ (val_main_v3 (F := Ideal)) e0 e1).trans (funext fun i => ref_at _ _ i)

end Cert.Proof.Dw

end
-- ==== Proof.lean ====
module

public import proofs.«01_k».proof.Proof.Gen.AttnBwd.Frame
public import proofs.«01_k».proof.Proof.Gen.AttnFwd.Frame
public import proofs.«01_k».proof.Proof.Gen.AttnFwdIdeal.Frame
public import proofs.«01_k».proof.Proof.Gen.Pre_fwd_finite
public import proofs.«01_k».proof.Proof.Gen.AttnFwdRefIdeal.Run
public import proofs.«01_k».proof.Proof.Gen.AttnFwdRefIdeal.Read
public import proofs.«01_k».proof.Proof.Gen.AttnBwdIdeal.Frame
public import proofs.«01_k».proof.Proof.Gen.Pre_attn_finite
public import proofs.«01_k».proof.Proof.Gen.AttnBwdRefIdeal.Run
public import proofs.«01_k».proof.Proof.Gen.AttnBwdRefIdeal.Read
public import proofs.«01_k».proof.Proof.Gen.MergeIdeal.Value
public import proofs.«01_k».proof.Proof.Gen.Merge.Frame
public import proofs.«01_k».proof.Proof.Gen.MergeRefIdeal.Run
public import proofs.«01_k».proof.Proof.Gen.MergeRefIdeal.Read
public import proofs.«01_k».proof.Proof.Gen.ActIdeal.Frame
public import proofs.«01_k».proof.Proof.Gen.Act.Frame
public import proofs.«01_k».proof.Proof.Gen.ActRefIdeal.Run
public import proofs.«01_k».proof.Proof.Gen.ActRefIdeal.Read
public import proofs.«01_k».proof.Proof.Gen.NormIdeal.Frame
public import proofs.«01_k».proof.Proof.Gen.Norm.Frame
public import proofs.«01_k».proof.Proof.Gen.NormRefIdeal.Run
public import proofs.«01_k».proof.Proof.Gen.NormRefIdeal.Read
public import proofs.«01_k».proof.Proof.Gen.Pre_ln_finite
public import proofs.«01_k».proof.Proof.Gen.PrepIdeal.Frame
public import proofs.«01_k».proof.Proof.Gen.Prep.Frame
public import proofs.«01_k».proof.Proof.Gen.PrepRefIdeal.Run
public import proofs.«01_k».proof.Proof.Gen.PrepRefIdeal.Read
public import proofs.«01_k».proof.Proof.Gen.Pre_prep_finite
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Run
public import proofs.«01_k».proof.Proof.Gen.GateRefIdeal.Read
public import proofs.«01_k».proof.Proof.Gen.Delta.Frame
public import proofs.«01_k».proof.Proof.Gen.DeltaIdeal.Frame
public import proofs.«01_k».proof.Proof.Gen.DeltaIdeal.Value
public import proofs.«01_k».proof.Proof.Gen.DeltaRefIdeal.Run
public import proofs.«01_k».proof.Proof.Gen.DeltaRefIdeal.Read
public import proofs.«01_k».proof.Proof.Gen.Dims.Frame
public import proofs.«01_k».proof.Proof.Gen.DimsIdeal.Frame
public import proofs.«01_k».proof.Proof.Gen.DimsIdeal.Value
public import proofs.«01_k».proof.Proof.Gen.DimsRefIdeal.Run
public import proofs.«01_k».proof.Proof.Gen.DimsRefIdeal.Read
public import proofs.«01_k».proof.Proof.Gen.Step.Frame
public import proofs.«01_k».proof.Proof.Gen.StepIdeal.Frame
public import proofs.«01_k».proof.Proof.Gen.StepIdeal.Value
public import proofs.«01_k».proof.Proof.Gen.StepRefIdeal.Run
public import proofs.«01_k».proof.Proof.Gen.StepRefIdeal.Read
public import proofs.«01_k».proof.Proof.Gen.Small.Frame
public import proofs.«01_k».proof.Proof.Gen.SmallIdeal.Frame
public import proofs.«01_k».proof.Proof.Gen.SmallIdeal.Value
public import proofs.«01_k».proof.Proof.Gen.SmallRefIdeal.Run
public import proofs.«01_k».proof.Proof.Gen.SmallRefIdeal.Read
public import proofs.«01_k».proof.Proof.Gen.Dw.Frame
public import proofs.«01_k».proof.Proof.Gen.DwIdeal.Frame
public import proofs.«01_k».proof.Proof.Gen.DwIdeal.Value
public import proofs.«01_k».proof.Proof.Gen.DwRefIdeal.Run
public import proofs.«01_k».proof.Proof.Gen.DwRefIdeal.Read
public import proofs.«01_k».proof.Defs
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossRefIdeal
public import proofs.«01_k».proof.Proof.Loss.Claims
public import proofs.«01_k».proof.Proof.AttnBwd.Claims
public import proofs.«01_k».proof.Proof.Merge.Claims
public import proofs.«01_k».proof.Proof.Act.Claims
public import proofs.«01_k».proof.Proof.Norm.Claims
public import proofs.«01_k».proof.Proof.AttnFwd.Claims
public import proofs.«01_k».proof.Proof.Prep.Claims
public import proofs.«01_k».proof.Proof.Gate.Claims
public import proofs.«01_k».proof.Proof.Delta.Claims
public import proofs.«01_k».proof.Proof.Dims.Claims
public import proofs.«01_k».proof.Proof.Step.Claims
public import proofs.«01_k».proof.Proof.Small.Claims
public import proofs.«01_k».proof.Proof.Dw.Claims

@[expose] public section

noncomputable section

namespace Cert.Proof

open Idealize.ShloMosaic Idealize.SL.Sem Cert.Loss

theorem claim : Cert.Claim := ⟨Cert.Loss.Gen.facts, Cert.LossIdeal.Gen.facts, Cert.LossRefIdeal.Gen.facts,
  Cert.AttnBwd.Gen.facts, Cert.AttnBwdIdeal.Gen.facts, Cert.AttnBwdRefIdeal.Gen.facts,
  Cert.Merge.Gen.facts, Cert.MergeIdeal.Gen.facts, Cert.MergeRefIdeal.Gen.facts, Cert.Act.Gen.facts, Cert.ActIdeal.Gen.facts, Cert.ActRefIdeal.Gen.facts,
  Cert.Norm.Gen.facts, Cert.NormIdeal.Gen.facts, Cert.NormRefIdeal.Gen.facts,
  Cert.AttnFwd.Gen.facts, Cert.AttnFwdIdeal.Gen.facts, Cert.AttnFwdRefIdeal.Gen.facts,
  Cert.Prep.Gen.facts, Cert.PrepIdeal.Gen.facts, Cert.PrepRefIdeal.Gen.facts,
  Cert.Gate.Gen.facts, Cert.GateIdeal.Gen.facts, Cert.GateRefIdeal.Gen.facts,
  Cert.Delta.Gen.facts, Cert.DeltaIdeal.Gen.facts, Cert.DeltaRefIdeal.Gen.facts,
  Cert.Dims.Gen.facts, Cert.DimsIdeal.Gen.facts, Cert.DimsRefIdeal.Gen.facts,
  Cert.Step.Gen.facts, Cert.StepIdeal.Gen.facts, Cert.StepRefIdeal.Gen.facts,
  Cert.Small.Gen.facts, Cert.SmallIdeal.Gen.facts, Cert.SmallRefIdeal.Gen.facts,
  Cert.Dw.Gen.facts, Cert.DwIdeal.Gen.facts, Cert.DwRefIdeal.Gen.facts,
  Cert.Pre_attn_finite.Gen.facts, Cert.Pre_ln_finite.Gen.facts, Cert.Pre_fwd_finite.Gen.facts, Cert.Pre_prep_finite.Gen.facts,
  fun m ρ _ => Cert.Loss.Gen.frame m ρ, fun m ρ _ => Cert.LossIdeal.Gen.frame m ρ, Loss.frame_ref,
  fun m ρ _ => Cert.AttnBwd.Gen.frame m ρ, fun m ρ _ => Cert.AttnBwdIdeal.Gen.frame m ρ,
  fun m ρ _ => Cert.AttnBwdIdeal.Gen.frame m ρ, AttnBwd.frame_ref, fun m ρ _ => AttnBwd.frame_ref m ρ trivial,
  fun m ρ _ => Cert.Merge.Gen.frame m ρ, fun m ρ _ => Cert.MergeIdeal.Gen.frame m ρ, Merge.frame_ref,
  fun m ρ _ => Cert.Act.Gen.frame m ρ, fun m ρ _ => Cert.ActIdeal.Gen.frame m ρ, Act.frame_ref,
  fun m ρ _ => Cert.Norm.Gen.frame m ρ, fun m ρ _ => Cert.NormIdeal.Gen.frame m ρ, fun m ρ _ => Cert.NormIdeal.Gen.frame m ρ,
  Norm.frame_ref, fun m ρ _ => Norm.frame_ref m ρ trivial,
  fun m ρ _ => Cert.AttnFwd.Gen.frame m ρ, fun m ρ _ => Cert.AttnFwdIdeal.Gen.frame m ρ, fun m ρ _ => Cert.AttnFwdIdeal.Gen.frame m ρ,
  AttnFwd.frame_ref, fun m ρ _ => AttnFwd.frame_ref m ρ trivial,
  fun m ρ _ => Cert.Prep.Gen.frame m ρ, fun m ρ _ => Cert.PrepIdeal.Gen.frame m ρ, fun m ρ _ => Cert.PrepIdeal.Gen.frame m ρ,
  Prep.frame_ref, fun m ρ _ => Prep.frame_ref m ρ trivial,
  fun m ρ _ => Cert.Gate.Gen.frame m ρ, fun m ρ _ => Cert.GateIdeal.Gen.frame m ρ, Gate.frame_ref,
  fun m ρ _ => Cert.Delta.Gen.frame m ρ, fun m ρ _ => Cert.DeltaIdeal.Gen.frame m ρ, Delta.frame_ref,
  fun m ρ _ => Cert.Dims.Gen.frame m ρ, fun m ρ _ => Cert.DimsIdeal.Gen.frame m ρ, Dims.frame_ref,
  fun m ρ _ => Cert.Step.Gen.frame m ρ, fun m ρ _ => Cert.StepIdeal.Gen.frame m ρ, Step.frame_ref,
  fun m ρ _ => Cert.Small.Gen.frame m ρ, fun m ρ _ => Cert.SmallIdeal.Gen.frame m ρ, Small.frame_ref,
  fun m ρ _ => Cert.Dw.Gen.frame m ρ, fun m ρ _ => Cert.DwIdeal.Gen.frame m ρ, Dw.frame_ref,
  trivial, Loss.algebraic, trivial, AttnBwd.algebraic,
  trivial, Merge.algebraic, trivial, Act.algebraic,
  trivial, Norm.algebraic, trivial, AttnFwd.algebraic,
  trivial, Prep.algebraic, trivial, Gate.algebraic,
  trivial, Delta.algebraic, trivial, Dims.algebraic, trivial, Step.algebraic,
  trivial, Small.algebraic, trivial, Dw.algebraic⟩

end Cert.Proof

end
